-- ==== Defs.lean ====
def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_ReluKernel (m : (ℓ : Loc Cert.ReluKernel.nD Cert.ReluKernel.τ Cert.ReluKernel.sig) → Buf (Elt Bits) ℓ) : Prop :=
  True

def Pre_ReluKernelIdeal (m : (ℓ : Loc Cert.ReluKernelIdeal.nD Cert.ReluKernelIdeal.τ Cert.ReluKernelIdeal.sig) → Buf (Elt Ideal) ℓ) : Prop :=
  True

def Pre_ReluReferenceIdeal (m : (ℓ : Loc Cert.ReluReferenceIdeal.nD Cert.ReluReferenceIdeal.τ Cert.ReluReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_SbKernelIdeal_sb_finite [hPre_sb_finite : Cert.Pre_sb_finite.Facts] (m : (ℓ : Loc Cert.SbKernelIdeal.nD Cert.SbKernelIdeal.τ Cert.SbKernelIdeal.sig) → Buf (Elt Ideal) ℓ) : Prop :=
  ∀ c : Dev Cert.SbKernelIdeal.nD,
    (Cert.Pre_sb_finite.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1)) (m ((c.tc : Thread Cert.SbKernelIdeal.nD Cert.SbKernelIdeal.τ).loc Cert.SbKernelIdeal.main_arg2)) (m ((c.tc : Thread Cert.SbKernelIdeal.nD Cert.SbKernelIdeal.τ).loc Cert.SbKernelIdeal.main_arg3))) = (fun _ => 1#1)

def Pre_SbReferenceIdeal (m : (ℓ : Loc Cert.SbReferenceIdeal.nD Cert.SbReferenceIdeal.τ Cert.SbReferenceIdeal.sig) → Buf (Elt Ideal) ℓ) : Prop :=
  True

def Pre_SbReferenceIdeal_sb_finite [hPre_sb_finite : Cert.Pre_sb_finite.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_sb_finite.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1)) (m ((c.tc : Thread Cert.SbReferenceIdeal.nD Cert.SbReferenceIdeal.τ).loc Cert.SbReferenceIdeal.main_arg2)) (m ((c.tc : Thread Cert.SbReferenceIdeal.nD Cert.SbReferenceIdeal.τ).loc Cert.SbReferenceIdeal.main_arg3))) = (fun _ => 1#1)

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_PrepKernel (m : (ℓ : Loc Cert.PrepKernel.nD Cert.PrepKernel.τ Cert.PrepKernel.sig) → Buf (Elt Bits) ℓ) : Prop :=
  True

def Pre_PrepKernelIdeal (m : (ℓ : Loc Cert.PrepKernelIdeal.nD Cert.PrepKernelIdeal.τ Cert.PrepKernelIdeal.sig) → Buf (Elt Ideal) ℓ) : Prop :=
  True

def Pre_PrepKernelIdeal_prep_finite [hPre_prep_finite : Cert.Pre_prep_finite.Facts] (m : (ℓ : Loc Cert.PrepKernelIdeal.nD Cert.PrepKernelIdeal.τ Cert.PrepKernelIdeal.sig) → Buf (Elt Ideal) ℓ) : Prop :=
  ∀ c : Dev Cert.PrepKernelIdeal.nD,
    (Cert.Pre_prep_finite.fn (F := Ideal) (m ((c.tc : Thread Cert.PrepKernelIdeal.nD Cert.PrepKernelIdeal.τ).loc Cert.PrepKernelIdeal.main_arg0)) (m ((c.tc : Thread Cert.PrepKernelIdeal.nD Cert.PrepKernelIdeal.τ).loc Cert.PrepKernelIdeal.main_arg1)) (m ((c.tc : Thread Cert.PrepKernelIdeal.nD Cert.PrepKernelIdeal.τ).loc Cert.PrepKernelIdeal.main_arg2)) (m ((c.tc : Thread Cert.PrepKernelIdeal.nD Cert.PrepKernelIdeal.τ).loc Cert.PrepKernelIdeal.main_arg3)) (m ((c.tc : Thread Cert.PrepKernelIdeal.nD Cert.PrepKernelIdeal.τ).loc Cert.PrepKernelIdeal.main_arg4)) (m ((c.tc : Thread Cert.PrepKernelIdeal.nD Cert.PrepKernelIdeal.τ).loc Cert.PrepKernelIdeal.main_arg5)) (m ((c.tc : Thread Cert.PrepKernelIdeal.nD Cert.PrepKernelIdeal.τ).loc Cert.PrepKernelIdeal.main_arg6)) (m ((c.tc : Thread Cert.PrepKernelIdeal.nD Cert.PrepKernelIdeal.τ).loc Cert.PrepKernelIdeal.main_arg7))) = (fun _ => 1#1)

def Pre_PrepReferenceIdeal (m : (ℓ : Loc Cert.PrepReferenceIdeal.nD Cert.PrepReferenceIdeal.τ Cert.PrepReferenceIdeal.sig) → Buf (Elt Ideal) ℓ) : Prop :=
  True

def Pre_PrepReferenceIdeal_prep_finite [hPre_prep_finite : Cert.Pre_prep_finite.Facts] (m : (ℓ : Loc Cert.PrepReferenceIdeal.nD Cert.PrepReferenceIdeal.τ Cert.PrepReferenceIdeal.sig) → Buf (Elt Ideal) ℓ) : Prop :=
  ∀ c : Dev Cert.PrepReferenceIdeal.nD,
    (Cert.Pre_prep_finite.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6)) (m ((c.tc : Thread Cert.PrepReferenceIdeal.nD Cert.PrepReferenceIdeal.τ).loc Cert.PrepReferenceIdeal.main_arg7))) = (fun _ => 1#1)

def Pre_DwdKernel (m : (ℓ : Loc Cert.DwdKernel.nD Cert.DwdKernel.τ Cert.DwdKernel.sig) → Buf (Elt Bits) ℓ) : Prop :=
  True

def Pre_DwdKernelIdeal (m : (ℓ : Loc Cert.DwdKernelIdeal.nD Cert.DwdKernelIdeal.τ Cert.DwdKernelIdeal.sig) → Buf (Elt Ideal) ℓ) : Prop :=
  True

def Pre_DwdReferenceIdeal (m : (ℓ : Loc Cert.DwdReferenceIdeal.nD Cert.DwdReferenceIdeal.τ Cert.DwdReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_TurnKernel (m : (ℓ : Loc Cert.TurnKernel.nD Cert.TurnKernel.τ Cert.TurnKernel.sig) → Buf (Elt Bits) ℓ) : Prop :=
  True

def Pre_TurnKernelIdeal (m : (ℓ : Loc Cert.TurnKernelIdeal.nD Cert.TurnKernelIdeal.τ Cert.TurnKernelIdeal.sig) → Buf (Elt Ideal) ℓ) : Prop :=
  True

def Pre_TurnKernelIdeal_turn_finite [hPre_turn_finite : Cert.Pre_turn_finite.Facts] (m : (ℓ : Loc Cert.TurnKernelIdeal.nD Cert.TurnKernelIdeal.τ Cert.TurnKernelIdeal.sig) → Buf (Elt Ideal) ℓ) : Prop :=
  ∀ c : Dev Cert.TurnKernelIdeal.nD,
    (Cert.Pre_turn_finite.fn (F := Ideal) (m ((c.tc : Thread Cert.TurnKernelIdeal.nD Cert.TurnKernelIdeal.τ).loc Cert.TurnKernelIdeal.main_arg0)) (m ((c.tc : Thread Cert.TurnKernelIdeal.nD Cert.TurnKernelIdeal.τ).loc Cert.TurnKernelIdeal.main_arg1)) (m ((c.tc : Thread Cert.TurnKernelIdeal.nD Cert.TurnKernelIdeal.τ).loc Cert.TurnKernelIdeal.main_arg2)) (m ((c.tc : Thread Cert.TurnKernelIdeal.nD Cert.TurnKernelIdeal.τ).loc Cert.TurnKernelIdeal.main_arg3))) = (fun _ => 1#1)

def Pre_TurnReferenceIdeal (m : (ℓ : Loc Cert.TurnReferenceIdeal.nD Cert.TurnReferenceIdeal.τ Cert.TurnReferenceIdeal.sig) → Buf (Elt Ideal) ℓ) : Prop :=
  True

def Pre_TurnReferenceIdeal_turn_finite [hPre_turn_finite : Cert.Pre_turn_finite.Facts] (m : (ℓ : Loc Cert.TurnReferenceIdeal.nD Cert.TurnReferenceIdeal.τ Cert.TurnReferenceIdeal.sig) → Buf (Elt Ideal) ℓ) : Prop :=
  ∀ c : Dev Cert.TurnReferenceIdeal.nD,
    (Cert.Pre_turn_finite.fn (F := Ideal) (m ((c.tc : Thread Cert.TurnReferenceIdeal.nD Cert.TurnReferenceIdeal.τ).loc Cert.TurnReferenceIdeal.main_arg0)) (m ((c.tc : Thread Cert.TurnReferenceIdeal.nD Cert.TurnReferenceIdeal.τ).loc Cert.TurnReferenceIdeal.main_arg1)) (m ((c.tc : Thread Cert.TurnReferenceIdeal.nD Cert.TurnReferenceIdeal.τ).loc Cert.TurnReferenceIdeal.main_arg2)) (m ((c.tc : Thread Cert.TurnReferenceIdeal.nD Cert.TurnReferenceIdeal.τ).loc Cert.TurnReferenceIdeal.main_arg3))) = (fun _ => 1#1)

def Pre_SbfKernel (m : (ℓ : Loc Cert.SbfKernel.nD Cert.SbfKernel.τ Cert.SbfKernel.sig) → Buf (Elt Bits) ℓ) : Prop :=
  True

def Pre_SbfKernelIdeal (m : (ℓ : Loc Cert.SbfKernelIdeal.nD Cert.SbfKernelIdeal.τ Cert.SbfKernelIdeal.sig) → Buf (Elt Ideal) ℓ) : Prop :=
  True

def Pre_SbfKernelIdeal_sbf_finite [hPre_sbf_finite : Cert.Pre_sbf_finite.Facts] (m : (ℓ : Loc Cert.SbfKernelIdeal.nD Cert.SbfKernelIdeal.τ Cert.SbfKernelIdeal.sig) → Buf (Elt Ideal) ℓ) : Prop :=
  ∀ c : Dev Cert.SbfKernelIdeal.nD,
    (Cert.Pre_sbf_finite.fn (F := Ideal) (m ((c.tc : Thread Cert.SbfKernelIdeal.nD Cert.SbfKernelIdeal.τ).loc Cert.SbfKernelIdeal.main_arg0)) (m ((c.tc : Thread Cert.SbfKernelIdeal.nD Cert.SbfKernelIdeal.τ).loc Cert.SbfKernelIdeal.main_arg1)) (m ((c.tc : Thread Cert.SbfKernelIdeal.nD Cert.SbfKernelIdeal.τ).loc Cert.SbfKernelIdeal.main_arg2))) = (fun _ => 1#1)

def Pre_SbfReferenceIdeal (m : (ℓ : Loc Cert.SbfReferenceIdeal.nD Cert.SbfReferenceIdeal.τ Cert.SbfReferenceIdeal.sig) → Buf (Elt Ideal) ℓ) : Prop :=
  True

def Pre_SbfReferenceIdeal_sbf_finite [hPre_sbf_finite : Cert.Pre_sbf_finite.Facts] (m : (ℓ : Loc Cert.SbfReferenceIdeal.nD Cert.SbfReferenceIdeal.τ Cert.SbfReferenceIdeal.sig) → Buf (Elt Ideal) ℓ) : Prop :=
  ∀ c : Dev Cert.SbfReferenceIdeal.nD,
    (Cert.Pre_sbf_finite.fn (F := Ideal) (m ((c.tc : Thread Cert.SbfReferenceIdeal.nD Cert.SbfReferenceIdeal.τ).loc Cert.SbfReferenceIdeal.main_arg0)) (m ((c.tc : Thread Cert.SbfReferenceIdeal.nD Cert.SbfReferenceIdeal.τ).loc Cert.SbfReferenceIdeal.main_arg1)) (m ((c.tc : Thread Cert.SbfReferenceIdeal.nD Cert.SbfReferenceIdeal.τ).loc Cert.SbfReferenceIdeal.main_arg2))) = (fun _ => 1#1)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4)
      ∧ r.2.mem ((c.tc : Thread Cert.GateKernel.nD Cert.GateKernel.τ).loc Cert.GateKernel.main_arg5) = m ((c.tc : Thread Cert.GateKernel.nD Cert.GateKernel.τ).loc Cert.GateKernel.main_arg5)
      ∧ r.2.mem ((c.tc : Thread Cert.GateKernel.nD Cert.GateKernel.τ).loc Cert.GateKernel.main_arg6) = m ((c.tc : Thread Cert.GateKernel.nD Cert.GateKernel.τ).loc Cert.GateKernel.main_arg6))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
      ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5)
      ∧ r.2.mem ((c.tc : Thread Cert.GateKernelIdeal.nD Cert.GateKernelIdeal.τ).loc Cert.GateKernelIdeal.main_arg6) = m ((c.tc : Thread Cert.GateKernelIdeal.nD Cert.GateKernelIdeal.τ).loc Cert.GateKernelIdeal.main_arg6))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5)
      ∧ r.2.mem ((c.tc : Thread Cert.GateReferenceIdeal.nD Cert.GateReferenceIdeal.τ).loc Cert.GateReferenceIdeal.main_arg6) = m ((c.tc : Thread Cert.GateReferenceIdeal.nD Cert.GateReferenceIdeal.τ).loc Cert.GateReferenceIdeal.main_arg6))
      ∧ r.2.sem = fun _ => 0)

def quiescent_ReluKernel [hReluKernel : Cert.ReluKernel.Facts] : Prop :=
  ∀ (m : (ℓ : Loc Cert.ReluKernel.nD Cert.ReluKernel.τ Cert.ReluKernel.sig) → Buf (Elt Bits) ℓ) (g : Dev Cert.ReluKernel.nD → PrngReg), Pre_ReluKernel m →
    θ_run (Cert.ReluKernel.defs (F := Bits)) (onTc (τ := Cert.ReluKernel.τ) (Cert.ReluKernel.main (F := Bits))) ⟨m, fun _ => 0, g⟩ (fun r => (∀ c : Dev Cert.ReluKernel.nD,
      r.2.mem ((c.tc : Thread Cert.ReluKernel.nD Cert.ReluKernel.τ).loc Cert.ReluKernel.main_arg0) = m ((c.tc : Thread Cert.ReluKernel.nD Cert.ReluKernel.τ).loc Cert.ReluKernel.main_arg0)
      ∧ r.2.mem ((c.tc : Thread Cert.ReluKernel.nD Cert.ReluKernel.τ).loc Cert.ReluKernel.main_arg1) = m ((c.tc : Thread Cert.ReluKernel.nD Cert.ReluKernel.τ).loc Cert.ReluKernel.main_arg1)
      ∧ r.2.mem ((c.tc : Thread Cert.ReluKernel.nD Cert.ReluKernel.τ).loc Cert.ReluKernel.main_arg2) = m ((c.tc : Thread Cert.ReluKernel.nD Cert.ReluKernel.τ).loc Cert.ReluKernel.main_arg2)
      ∧ r.2.mem ((c.tc : Thread Cert.ReluKernel.nD Cert.ReluKernel.τ).loc Cert.ReluKernel.main_arg3) = m ((c.tc : Thread Cert.ReluKernel.nD Cert.ReluKernel.τ).loc Cert.ReluKernel.main_arg3))
      ∧ r.2.sem = fun _ => 0)

def quiescent_ReluKernelIdeal [hReluKernelIdeal : Cert.ReluKernelIdeal.Facts] : Prop :=
  ∀ (m : (ℓ : Loc Cert.ReluKernelIdeal.nD Cert.ReluKernelIdeal.τ Cert.ReluKernelIdeal.sig) → Buf (Elt Ideal) ℓ) (g : Dev Cert.ReluKernelIdeal.nD → PrngReg), Pre_ReluKernelIdeal m →
    θ_run (Cert.ReluKernelIdeal.defs (F := Ideal)) (onTc (τ := Cert.ReluKernelIdeal.τ) (Cert.ReluKernelIdeal.main (F := Ideal))) ⟨m, fun _ => 0, g⟩ (fun r => (∀ c : Dev Cert.ReluKernelIdeal.nD,
      r.2.mem ((c.tc : Thread Cert.ReluKernelIdeal.nD Cert.ReluKernelIdeal.τ).loc Cert.ReluKernelIdeal.main_arg0) = m ((c.tc : Thread Cert.ReluKernelIdeal.nD Cert.ReluKernelIdeal.τ).loc Cert.ReluKernelIdeal.main_arg0)
      ∧ r.2.mem ((c.tc : Thread Cert.ReluKernelIdeal.nD Cert.ReluKernelIdeal.τ).loc Cert.ReluKernelIdeal.main_arg1) = m ((c.tc : Thread Cert.ReluKernelIdeal.nD Cert.ReluKernelIdeal.τ).loc Cert.ReluKernelIdeal.main_arg1)
      ∧ r.2.mem ((c.tc : Thread Cert.ReluKernelIdeal.nD Cert.ReluKernelIdeal.τ).loc Cert.ReluKernelIdeal.main_arg2) = m ((c.tc : Thread Cert.ReluKernelIdeal.nD Cert.ReluKernelIdeal.τ).loc Cert.ReluKernelIdeal.main_arg2)
      ∧ r.2.mem ((c.tc : Thread Cert.ReluKernelIdeal.nD Cert.ReluKernelIdeal.τ).loc Cert.ReluKernelIdeal.main_arg3) = m ((c.tc : Thread Cert.ReluKernelIdeal.nD Cert.ReluKernelIdeal.τ).loc Cert.ReluKernelIdeal.main_arg3))
      ∧ r.2.sem = fun _ => 0)

def quiescent_ReluReferenceIdeal [hReluReferenceIdeal : Cert.ReluReferenceIdeal.Facts] : Prop :=
  ∀ (m : (ℓ : Loc Cert.ReluReferenceIdeal.nD Cert.ReluReferenceIdeal.τ Cert.ReluReferenceIdeal.sig) → Buf (Elt Ideal) ℓ) (g : Dev Cert.ReluReferenceIdeal.nD → PrngReg), Pre_ReluReferenceIdeal m →
    θ_run (Cert.ReluReferenceIdeal.defs (F := Ideal)) (onTc (τ := Cert.ReluReferenceIdeal.τ) (Cert.ReluReferenceIdeal.main (F := Ideal))) ⟨m, fun _ => 0, g⟩ (fun r => (∀ c : Dev Cert.ReluReferenceIdeal.nD,
      r.2.mem ((c.tc : Thread Cert.ReluReferenceIdeal.nD Cert.ReluReferenceIdeal.τ).loc Cert.ReluReferenceIdeal.main_arg0) = m ((c.tc : Thread Cert.ReluReferenceIdeal.nD Cert.ReluReferenceIdeal.τ).loc Cert.ReluReferenceIdeal.main_arg0)
      ∧ r.2.mem ((c.tc : Thread Cert.ReluReferenceIdeal.nD Cert.ReluReferenceIdeal.τ).loc Cert.ReluReferenceIdeal.main_arg1) = m ((c.tc : Thread Cert.ReluReferenceIdeal.nD Cert.ReluReferenceIdeal.τ).loc Cert.ReluReferenceIdeal.main_arg1)
      ∧ r.2.mem ((c.tc : Thread Cert.ReluReferenceIdeal.nD Cert.ReluReferenceIdeal.τ).loc Cert.ReluReferenceIdeal.main_arg2) = m ((c.tc : Thread Cert.ReluReferenceIdeal.nD Cert.ReluReferenceIdeal.τ).loc Cert.ReluReferenceIdeal.main_arg2)
      ∧ r.2.mem ((c.tc : Thread Cert.ReluReferenceIdeal.nD Cert.ReluReferenceIdeal.τ).loc Cert.ReluReferenceIdeal.main_arg3) = m ((c.tc : Thread Cert.ReluReferenceIdeal.nD Cert.ReluReferenceIdeal.τ).loc Cert.ReluReferenceIdeal.main_arg3))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0)
      ∧ r.2.mem ((c.tc : Thread Cert.SbKernel.nD Cert.SbKernel.τ).loc Cert.SbKernel.main_arg1) = m ((c.tc : Thread Cert.SbKernel.nD Cert.SbKernel.τ).loc Cert.SbKernel.main_arg1)
      ∧ r.2.mem ((c.tc : Thread Cert.SbKernel.nD Cert.SbKernel.τ).loc Cert.SbKernel.main_arg2) = m ((c.tc : Thread Cert.SbKernel.nD Cert.SbKernel.τ).loc Cert.SbKernel.main_arg2)
      ∧ r.2.mem ((c.tc : Thread Cert.SbKernel.nD Cert.SbKernel.τ).loc Cert.SbKernel.main_arg3) = m ((c.tc : Thread Cert.SbKernel.nD Cert.SbKernel.τ).loc Cert.SbKernel.main_arg3))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
      ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3))
      ∧ r.2.sem = fun _ => 0)

def quiescent_SbKernelIdeal_pre_sb_finite [hSbKernelIdeal : Cert.SbKernelIdeal.Facts] [hPre_sb_finite : Cert.Pre_sb_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal_sb_finite m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
      ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3))
      ∧ r.2.sem = fun _ => 0)

def quiescent_SbReferenceIdeal_pre_sb_finite [hSbReferenceIdeal : Cert.SbReferenceIdeal.Facts] [hPre_sb_finite : Cert.Pre_sb_finite.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal_sb_finite m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6)
      ∧ r.2.mem ((c.tc : Thread Cert.InKernel.nD Cert.InKernel.τ).loc Cert.InKernel.main_arg7) = m ((c.tc : Thread Cert.InKernel.nD Cert.InKernel.τ).loc Cert.InKernel.main_arg7)
      ∧ r.2.mem ((c.tc : Thread Cert.InKernel.nD Cert.InKernel.τ).loc Cert.InKernel.main_arg8) = m ((c.tc : Thread Cert.InKernel.nD Cert.InKernel.τ).loc Cert.InKernel.main_arg8)
      ∧ r.2.mem ((c.tc : Thread Cert.InKernel.nD Cert.InKernel.τ).loc Cert.InKernel.main_arg9) = m ((c.tc : Thread Cert.InKernel.nD Cert.InKernel.τ).loc Cert.InKernel.main_arg9)
      ∧ r.2.mem ((c.tc : Thread Cert.InKernel.nD Cert.InKernel.τ).loc Cert.InKernel.main_arg10) = m ((c.tc : Thread Cert.InKernel.nD Cert.InKernel.τ).loc Cert.InKernel.main_arg10))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
      ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
      ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
      ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9)
      ∧ r.2.mem ((c.tc : Thread Cert.InKernelIdeal.nD Cert.InKernelIdeal.τ).loc Cert.InKernelIdeal.main_arg10) = m ((c.tc : Thread Cert.InKernelIdeal.nD Cert.InKernelIdeal.τ).loc Cert.InKernelIdeal.main_arg10))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7)
      ∧ r.2.mem ((c.tc : Thread Cert.InReferenceIdeal.nD Cert.InReferenceIdeal.τ).loc Cert.InReferenceIdeal.main_arg8) = m ((c.tc : Thread Cert.InReferenceIdeal.nD Cert.InReferenceIdeal.τ).loc Cert.InReferenceIdeal.main_arg8)
      ∧ r.2.mem ((c.tc : Thread Cert.InReferenceIdeal.nD Cert.InReferenceIdeal.τ).loc Cert.InReferenceIdeal.main_arg9) = m ((c.tc : Thread Cert.InReferenceIdeal.nD Cert.InReferenceIdeal.τ).loc Cert.InReferenceIdeal.main_arg9)
      ∧ r.2.mem ((c.tc : Thread Cert.InReferenceIdeal.nD Cert.InReferenceIdeal.τ).loc Cert.InReferenceIdeal.main_arg10) = m ((c.tc : Thread Cert.InReferenceIdeal.nD Cert.InReferenceIdeal.τ).loc Cert.InReferenceIdeal.main_arg10))
      ∧ r.2.sem = fun _ => 0)

def quiescent_PrepKernel [hPrepKernel : Cert.PrepKernel.Facts] : Prop :=
  ∀ (m : (ℓ : Loc Cert.PrepKernel.nD Cert.PrepKernel.τ Cert.PrepKernel.sig) → Buf (Elt Bits) ℓ) (g : Dev Cert.PrepKernel.nD → PrngReg), Pre_PrepKernel m →
    θ_run (Cert.PrepKernel.defs (F := Bits)) (onTc (τ := Cert.PrepKernel.τ) (Cert.PrepKernel.main (F := Bits))) ⟨m, fun _ => 0, g⟩ (fun r => (∀ c : Dev Cert.PrepKernel.nD,
      r.2.mem ((c.tc : Thread Cert.PrepKernel.nD Cert.PrepKernel.τ).loc Cert.PrepKernel.main_arg0) = m ((c.tc : Thread Cert.PrepKernel.nD Cert.PrepKernel.τ).loc Cert.PrepKernel.main_arg0)
      ∧ r.2.mem ((c.tc : Thread Cert.PrepKernel.nD Cert.PrepKernel.τ).loc Cert.PrepKernel.main_arg1) = m ((c.tc : Thread Cert.PrepKernel.nD Cert.PrepKernel.τ).loc Cert.PrepKernel.main_arg1)
      ∧ r.2.mem ((c.tc : Thread Cert.PrepKernel.nD Cert.PrepKernel.τ).loc Cert.PrepKernel.main_arg2) = m ((c.tc : Thread Cert.PrepKernel.nD Cert.PrepKernel.τ).loc Cert.PrepKernel.main_arg2)
      ∧ r.2.mem ((c.tc : Thread Cert.PrepKernel.nD Cert.PrepKernel.τ).loc Cert.PrepKernel.main_arg3) = m ((c.tc : Thread Cert.PrepKernel.nD Cert.PrepKernel.τ).loc Cert.PrepKernel.main_arg3)
      ∧ r.2.mem ((c.tc : Thread Cert.PrepKernel.nD Cert.PrepKernel.τ).loc Cert.PrepKernel.main_arg4) = m ((c.tc : Thread Cert.PrepKernel.nD Cert.PrepKernel.τ).loc Cert.PrepKernel.main_arg4)
      ∧ r.2.mem ((c.tc : Thread Cert.PrepKernel.nD Cert.PrepKernel.τ).loc Cert.PrepKernel.main_arg5) = m ((c.tc : Thread Cert.PrepKernel.nD Cert.PrepKernel.τ).loc Cert.PrepKernel.main_arg5)
      ∧ r.2.mem ((c.tc : Thread Cert.PrepKernel.nD Cert.PrepKernel.τ).loc Cert.PrepKernel.main_arg6) = m ((c.tc : Thread Cert.PrepKernel.nD Cert.PrepKernel.τ).loc Cert.PrepKernel.main_arg6)
      ∧ r.2.mem ((c.tc : Thread Cert.PrepKernel.nD Cert.PrepKernel.τ).loc Cert.PrepKernel.main_arg7) = m ((c.tc : Thread Cert.PrepKernel.nD Cert.PrepKernel.τ).loc Cert.PrepKernel.main_arg7))
      ∧ r.2.sem = fun _ => 0)

def quiescent_PrepKernelIdeal [hPrepKernelIdeal : Cert.PrepKernelIdeal.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
      ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
      ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7))
      ∧ r.2.sem = fun _ => 0)

def quiescent_PrepKernelIdeal_pre_prep_finite [hPrepKernelIdeal : Cert.PrepKernelIdeal.Facts] [hPre_prep_finite : Cert.Pre_prep_finite.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg), Pre_PrepKernelIdeal_prep_finite m →
    θ_run (Cert.PrepKernelIdeal.defs (F := Ideal)) (onTc (τ := Cert.PrepKernelIdeal.τ) (Cert.PrepKernelIdeal.main (F := Ideal))) ⟨m, fun _ => 0, g⟩ (fun r => (∀ c : Dev Cert.PrepKernelIdeal.nD,
      r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
      ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
      ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
      ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
      ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
      ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
      ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
      ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7))
      ∧ r.2.sem = fun _ => 0)

def quiescent_PrepReferenceIdeal_pre_prep_finite [hPrepReferenceIdeal : Cert.PrepReferenceIdeal.Facts] [hPre_prep_finite : Cert.Pre_prep_finite.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal_prep_finite m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6)
      ∧ r.2.mem ((c.tc : Thread Cert.PrepReferenceIdeal.nD Cert.PrepReferenceIdeal.τ).loc Cert.PrepReferenceIdeal.main_arg7) = m ((c.tc : Thread Cert.PrepReferenceIdeal.nD Cert.PrepReferenceIdeal.τ).loc Cert.PrepReferenceIdeal.main_arg7))
      ∧ r.2.sem = fun _ => 0)

def quiescent_DwdKernel [hDwdKernel : Cert.DwdKernel.Facts] : Prop :=
  ∀ (m : (ℓ : Loc Cert.DwdKernel.nD Cert.DwdKernel.τ Cert.DwdKernel.sig) → Buf (Elt Bits) ℓ) (g : Dev Cert.DwdKernel.nD → PrngReg), Pre_DwdKernel m →
    θ_run (Cert.DwdKernel.defs (F := Bits)) (onTc (τ := Cert.DwdKernel.τ) (Cert.DwdKernel.main (F := Bits))) ⟨m, fun _ => 0, g⟩ (fun r => (∀ c : Dev Cert.DwdKernel.nD,
      r.2.mem ((c.tc : Thread Cert.DwdKernel.nD Cert.DwdKernel.τ).loc Cert.DwdKernel.main_arg0) = m ((c.tc : Thread Cert.DwdKernel.nD Cert.DwdKernel.τ).loc Cert.DwdKernel.main_arg0)
      ∧ r.2.mem ((c.tc : Thread Cert.DwdKernel.nD Cert.DwdKernel.τ).loc Cert.DwdKernel.main_arg1) = m ((c.tc : Thread Cert.DwdKernel.nD Cert.DwdKernel.τ).loc Cert.DwdKernel.main_arg1)
      ∧ r.2.mem ((c.tc : Thread Cert.DwdKernel.nD Cert.DwdKernel.τ).loc Cert.DwdKernel.main_arg2) = m ((c.tc : Thread Cert.DwdKernel.nD Cert.DwdKernel.τ).loc Cert.DwdKernel.main_arg2)
      ∧ r.2.mem ((c.tc : Thread Cert.DwdKernel.nD Cert.DwdKernel.τ).loc Cert.DwdKernel.main_arg3) = m ((c.tc : Thread Cert.DwdKernel.nD Cert.DwdKernel.τ).loc Cert.DwdKernel.main_arg3))
      ∧ r.2.sem = fun _ => 0)

def quiescent_DwdKernelIdeal [hDwdKernelIdeal : Cert.DwdKernelIdeal.Facts] : Prop :=
  ∀ (m : (ℓ : Loc Cert.DwdKernelIdeal.nD Cert.DwdKernelIdeal.τ Cert.DwdKernelIdeal.sig) → Buf (Elt Ideal) ℓ) (g : Dev Cert.DwdKernelIdeal.nD → PrngReg), Pre_DwdKernelIdeal m →
    θ_run (Cert.DwdKernelIdeal.defs (F := Ideal)) (onTc (τ := Cert.DwdKernelIdeal.τ) (Cert.DwdKernelIdeal.main (F := Ideal))) ⟨m, fun _ => 0, g⟩ (fun r => (∀ c : Dev Cert.DwdKernelIdeal.nD,
      r.2.mem ((c.tc : Thread Cert.DwdKernelIdeal.nD Cert.DwdKernelIdeal.τ).loc Cert.DwdKernelIdeal.main_arg0) = m ((c.tc : Thread Cert.DwdKernelIdeal.nD Cert.DwdKernelIdeal.τ).loc Cert.DwdKernelIdeal.main_arg0)
      ∧ r.2.mem ((c.tc : Thread Cert.DwdKernelIdeal.nD Cert.DwdKernelIdeal.τ).loc Cert.DwdKernelIdeal.main_arg1) = m ((c.tc : Thread Cert.DwdKernelIdeal.nD Cert.DwdKernelIdeal.τ).loc Cert.DwdKernelIdeal.main_arg1)
      ∧ r.2.mem ((c.tc : Thread Cert.DwdKernelIdeal.nD Cert.DwdKernelIdeal.τ).loc Cert.DwdKernelIdeal.main_arg2) = m ((c.tc : Thread Cert.DwdKernelIdeal.nD Cert.DwdKernelIdeal.τ).loc Cert.DwdKernelIdeal.main_arg2)
      ∧ r.2.mem ((c.tc : Thread Cert.DwdKernelIdeal.nD Cert.DwdKernelIdeal.τ).loc Cert.DwdKernelIdeal.main_arg3) = m ((c.tc : Thread Cert.DwdKernelIdeal.nD Cert.DwdKernelIdeal.τ).loc Cert.DwdKernelIdeal.main_arg3))
      ∧ r.2.sem = fun _ => 0)

def quiescent_DwdReferenceIdeal [hDwdReferenceIdeal : Cert.DwdReferenceIdeal.Facts] : Prop :=
  ∀ (m : (ℓ : Loc Cert.DwdReferenceIdeal.nD Cert.DwdReferenceIdeal.τ Cert.DwdReferenceIdeal.sig) → Buf (Elt Ideal) ℓ) (g : Dev Cert.DwdReferenceIdeal.nD → PrngReg), Pre_DwdReferenceIdeal m →
    θ_run (Cert.DwdReferenceIdeal.defs (F := Ideal)) (onTc (τ := Cert.DwdReferenceIdeal.τ) (Cert.DwdReferenceIdeal.main (F := Ideal))) ⟨m, fun _ => 0, g⟩ (fun r => (∀ c : Dev Cert.DwdReferenceIdeal.nD,
      r.2.mem ((c.tc : Thread Cert.DwdReferenceIdeal.nD Cert.DwdReferenceIdeal.τ).loc Cert.DwdReferenceIdeal.main_arg0) = m ((c.tc : Thread Cert.DwdReferenceIdeal.nD Cert.DwdReferenceIdeal.τ).loc Cert.DwdReferenceIdeal.main_arg0)
      ∧ r.2.mem ((c.tc : Thread Cert.DwdReferenceIdeal.nD Cert.DwdReferenceIdeal.τ).loc Cert.DwdReferenceIdeal.main_arg1) = m ((c.tc : Thread Cert.DwdReferenceIdeal.nD Cert.DwdReferenceIdeal.τ).loc Cert.DwdReferenceIdeal.main_arg1)
      ∧ r.2.mem ((c.tc : Thread Cert.DwdReferenceIdeal.nD Cert.DwdReferenceIdeal.τ).loc Cert.DwdReferenceIdeal.main_arg2) = m ((c.tc : Thread Cert.DwdReferenceIdeal.nD Cert.DwdReferenceIdeal.τ).loc Cert.DwdReferenceIdeal.main_arg2)
      ∧ r.2.mem ((c.tc : Thread Cert.DwdReferenceIdeal.nD Cert.DwdReferenceIdeal.τ).loc Cert.DwdReferenceIdeal.main_arg3) = m ((c.tc : Thread Cert.DwdReferenceIdeal.nD Cert.DwdReferenceIdeal.τ).loc Cert.DwdReferenceIdeal.main_arg3))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_TurnKernel [hTurnKernel : Cert.TurnKernel.Facts] : Prop :=
  ∀ (m : (ℓ : Loc Cert.TurnKernel.nD Cert.TurnKernel.τ Cert.TurnKernel.sig) → Buf (Elt Bits) ℓ) (g : Dev Cert.TurnKernel.nD → PrngReg), Pre_TurnKernel m →
    θ_run (Cert.TurnKernel.defs (F := Bits)) (onTc (τ := Cert.TurnKernel.τ) (Cert.TurnKernel.main (F := Bits))) ⟨m, fun _ => 0, g⟩ (fun r => (∀ c : Dev Cert.TurnKernel.nD,
      r.2.mem ((c.tc : Thread Cert.TurnKernel.nD Cert.TurnKernel.τ).loc Cert.TurnKernel.main_arg0) = m ((c.tc : Thread Cert.TurnKernel.nD Cert.TurnKernel.τ).loc Cert.TurnKernel.main_arg0)
      ∧ r.2.mem ((c.tc : Thread Cert.TurnKernel.nD Cert.TurnKernel.τ).loc Cert.TurnKernel.main_arg1) = m ((c.tc : Thread Cert.TurnKernel.nD Cert.TurnKernel.τ).loc Cert.TurnKernel.main_arg1)
      ∧ r.2.mem ((c.tc : Thread Cert.TurnKernel.nD Cert.TurnKernel.τ).loc Cert.TurnKernel.main_arg2) = m ((c.tc : Thread Cert.TurnKernel.nD Cert.TurnKernel.τ).loc Cert.TurnKernel.main_arg2)
      ∧ r.2.mem ((c.tc : Thread Cert.TurnKernel.nD Cert.TurnKernel.τ).loc Cert.TurnKernel.main_arg3) = m ((c.tc : Thread Cert.TurnKernel.nD Cert.TurnKernel.τ).loc Cert.TurnKernel.main_arg3))
      ∧ r.2.sem = fun _ => 0)

def quiescent_TurnKernelIdeal [hTurnKernelIdeal : Cert.TurnKernelIdeal.Facts] : Prop :=
  ∀ (m : (ℓ : Loc Cert.TurnKernelIdeal.nD Cert.TurnKernelIdeal.τ Cert.TurnKernelIdeal.sig) → Buf (Elt Ideal) ℓ) (g : Dev Cert.TurnKernelIdeal.nD → PrngReg), Pre_TurnKernelIdeal m →
    θ_run (Cert.TurnKernelIdeal.defs (F := Ideal)) (onTc (τ := Cert.TurnKernelIdeal.τ) (Cert.TurnKernelIdeal.main (F := Ideal))) ⟨m, fun _ => 0, g⟩ (fun r => (∀ c : Dev Cert.TurnKernelIdeal.nD,
      r.2.mem ((c.tc : Thread Cert.TurnKernelIdeal.nD Cert.TurnKernelIdeal.τ).loc Cert.TurnKernelIdeal.main_arg0) = m ((c.tc : Thread Cert.TurnKernelIdeal.nD Cert.TurnKernelIdeal.τ).loc Cert.TurnKernelIdeal.main_arg0)
      ∧ r.2.mem ((c.tc : Thread Cert.TurnKernelIdeal.nD Cert.TurnKernelIdeal.τ).loc Cert.TurnKernelIdeal.main_arg1) = m ((c.tc : Thread Cert.TurnKernelIdeal.nD Cert.TurnKernelIdeal.τ).loc Cert.TurnKernelIdeal.main_arg1)
      ∧ r.2.mem ((c.tc : Thread Cert.TurnKernelIdeal.nD Cert.TurnKernelIdeal.τ).loc Cert.TurnKernelIdeal.main_arg2) = m ((c.tc : Thread Cert.TurnKernelIdeal.nD Cert.TurnKernelIdeal.τ).loc Cert.TurnKernelIdeal.main_arg2)
      ∧ r.2.mem ((c.tc : Thread Cert.TurnKernelIdeal.nD Cert.TurnKernelIdeal.τ).loc Cert.TurnKernelIdeal.main_arg3) = m ((c.tc : Thread Cert.TurnKernelIdeal.nD Cert.TurnKernelIdeal.τ).loc Cert.TurnKernelIdeal.main_arg3))
      ∧ r.2.sem = fun _ => 0)

def quiescent_TurnKernelIdeal_pre_turn_finite [hTurnKernelIdeal : Cert.TurnKernelIdeal.Facts] [hPre_turn_finite : Cert.Pre_turn_finite.Facts] : Prop :=
  ∀ (m : (ℓ : Loc Cert.TurnKernelIdeal.nD Cert.TurnKernelIdeal.τ Cert.TurnKernelIdeal.sig) → Buf (Elt Ideal) ℓ) (g : Dev Cert.TurnKernelIdeal.nD → PrngReg), Pre_TurnKernelIdeal_turn_finite m →
    θ_run (Cert.TurnKernelIdeal.defs (F := Ideal)) (onTc (τ := Cert.TurnKernelIdeal.τ) (Cert.TurnKernelIdeal.main (F := Ideal))) ⟨m, fun _ => 0, g⟩ (fun r => (∀ c : Dev Cert.TurnKernelIdeal.nD,
      r.2.mem ((c.tc : Thread Cert.TurnKernelIdeal.nD Cert.TurnKernelIdeal.τ).loc Cert.TurnKernelIdeal.main_arg0) = m ((c.tc : Thread Cert.TurnKernelIdeal.nD Cert.TurnKernelIdeal.τ).loc Cert.TurnKernelIdeal.main_arg0)
      ∧ r.2.mem ((c.tc : Thread Cert.TurnKernelIdeal.nD Cert.TurnKernelIdeal.τ).loc Cert.TurnKernelIdeal.main_arg1) = m ((c.tc : Thread Cert.TurnKernelIdeal.nD Cert.TurnKernelIdeal.τ).loc Cert.TurnKernelIdeal.main_arg1)
      ∧ r.2.mem ((c.tc : Thread Cert.TurnKernelIdeal.nD Cert.TurnKernelIdeal.τ).loc Cert.TurnKernelIdeal.main_arg2) = m ((c.tc : Thread Cert.TurnKernelIdeal.nD Cert.TurnKernelIdeal.τ).loc Cert.TurnKernelIdeal.main_arg2)
      ∧ r.2.mem ((c.tc : Thread Cert.TurnKernelIdeal.nD Cert.TurnKernelIdeal.τ).loc Cert.TurnKernelIdeal.main_arg3) = m ((c.tc : Thread Cert.TurnKernelIdeal.nD Cert.TurnKernelIdeal.τ).loc Cert.TurnKernelIdeal.main_arg3))
      ∧ r.2.sem = fun _ => 0)

def quiescent_TurnReferenceIdeal [hTurnReferenceIdeal : Cert.TurnReferenceIdeal.Facts] : Prop :=
  ∀ (m : (ℓ : Loc Cert.TurnReferenceIdeal.nD Cert.TurnReferenceIdeal.τ Cert.TurnReferenceIdeal.sig) → Buf (Elt Ideal) ℓ) (g : Dev Cert.TurnReferenceIdeal.nD → PrngReg), Pre_TurnReferenceIdeal m →
    θ_run (Cert.TurnReferenceIdeal.defs (F := Ideal)) (onTc (τ := Cert.TurnReferenceIdeal.τ) (Cert.TurnReferenceIdeal.main (F := Ideal))) ⟨m, fun _ => 0, g⟩ (fun r => (∀ c : Dev Cert.TurnReferenceIdeal.nD,
      r.2.mem ((c.tc : Thread Cert.TurnReferenceIdeal.nD Cert.TurnReferenceIdeal.τ).loc Cert.TurnReferenceIdeal.main_arg0) = m ((c.tc : Thread Cert.TurnReferenceIdeal.nD Cert.TurnReferenceIdeal.τ).loc Cert.TurnReferenceIdeal.main_arg0)
      ∧ r.2.mem ((c.tc : Thread Cert.TurnReferenceIdeal.nD Cert.TurnReferenceIdeal.τ).loc Cert.TurnReferenceIdeal.main_arg1) = m ((c.tc : Thread Cert.TurnReferenceIdeal.nD Cert.TurnReferenceIdeal.τ).loc Cert.TurnReferenceIdeal.main_arg1)
      ∧ r.2.mem ((c.tc : Thread Cert.TurnReferenceIdeal.nD Cert.TurnReferenceIdeal.τ).loc Cert.TurnReferenceIdeal.main_arg2) = m ((c.tc : Thread Cert.TurnReferenceIdeal.nD Cert.TurnReferenceIdeal.τ).loc Cert.TurnReferenceIdeal.main_arg2)
      ∧ r.2.mem ((c.tc : Thread Cert.TurnReferenceIdeal.nD Cert.TurnReferenceIdeal.τ).loc Cert.TurnReferenceIdeal.main_arg3) = m ((c.tc : Thread Cert.TurnReferenceIdeal.nD Cert.TurnReferenceIdeal.τ).loc Cert.TurnReferenceIdeal.main_arg3))
      ∧ r.2.sem = fun _ => 0)

def quiescent_TurnReferenceIdeal_pre_turn_finite [hTurnReferenceIdeal : Cert.TurnReferenceIdeal.Facts] [hPre_turn_finite : Cert.Pre_turn_finite.Facts] : Prop :=
  ∀ (m : (ℓ : Loc Cert.TurnReferenceIdeal.nD Cert.TurnReferenceIdeal.τ Cert.TurnReferenceIdeal.sig) → Buf (Elt Ideal) ℓ) (g : Dev Cert.TurnReferenceIdeal.nD → PrngReg), Pre_TurnReferenceIdeal_turn_finite m →
    θ_run (Cert.TurnReferenceIdeal.defs (F := Ideal)) (onTc (τ := Cert.TurnReferenceIdeal.τ) (Cert.TurnReferenceIdeal.main (F := Ideal))) ⟨m, fun _ => 0, g⟩ (fun r => (∀ c : Dev Cert.TurnReferenceIdeal.nD,
      r.2.mem ((c.tc : Thread Cert.TurnReferenceIdeal.nD Cert.TurnReferenceIdeal.τ).loc Cert.TurnReferenceIdeal.main_arg0) = m ((c.tc : Thread Cert.TurnReferenceIdeal.nD Cert.TurnReferenceIdeal.τ).loc Cert.TurnReferenceIdeal.main_arg0)
      ∧ r.2.mem ((c.tc : Thread Cert.TurnReferenceIdeal.nD Cert.TurnReferenceIdeal.τ).loc Cert.TurnReferenceIdeal.main_arg1) = m ((c.tc : Thread Cert.TurnReferenceIdeal.nD Cert.TurnReferenceIdeal.τ).loc Cert.TurnReferenceIdeal.main_arg1)
      ∧ r.2.mem ((c.tc : Thread Cert.TurnReferenceIdeal.nD Cert.TurnReferenceIdeal.τ).loc Cert.TurnReferenceIdeal.main_arg2) = m ((c.tc : Thread Cert.TurnReferenceIdeal.nD Cert.TurnReferenceIdeal.τ).loc Cert.TurnReferenceIdeal.main_arg2)
      ∧ r.2.mem ((c.tc : Thread Cert.TurnReferenceIdeal.nD Cert.TurnReferenceIdeal.τ).loc Cert.TurnReferenceIdeal.main_arg3) = m ((c.tc : Thread Cert.TurnReferenceIdeal.nD Cert.TurnReferenceIdeal.τ).loc Cert.TurnReferenceIdeal.main_arg3))
      ∧ r.2.sem = fun _ => 0)

def quiescent_SbfKernel [hSbfKernel : Cert.SbfKernel.Facts] : Prop :=
  ∀ (m : (ℓ : Loc Cert.SbfKernel.nD Cert.SbfKernel.τ Cert.SbfKernel.sig) → Buf (Elt Bits) ℓ) (g : Dev Cert.SbfKernel.nD → PrngReg), Pre_SbfKernel m →
    θ_run (Cert.SbfKernel.defs (F := Bits)) (onTc (τ := Cert.SbfKernel.τ) (Cert.SbfKernel.main (F := Bits))) ⟨m, fun _ => 0, g⟩ (fun r => (∀ c : Dev Cert.SbfKernel.nD,
      r.2.mem ((c.tc : Thread Cert.SbfKernel.nD Cert.SbfKernel.τ).loc Cert.SbfKernel.main_arg0) = m ((c.tc : Thread Cert.SbfKernel.nD Cert.SbfKernel.τ).loc Cert.SbfKernel.main_arg0)
      ∧ r.2.mem ((c.tc : Thread Cert.SbfKernel.nD Cert.SbfKernel.τ).loc Cert.SbfKernel.main_arg1) = m ((c.tc : Thread Cert.SbfKernel.nD Cert.SbfKernel.τ).loc Cert.SbfKernel.main_arg1)
      ∧ r.2.mem ((c.tc : Thread Cert.SbfKernel.nD Cert.SbfKernel.τ).loc Cert.SbfKernel.main_arg2) = m ((c.tc : Thread Cert.SbfKernel.nD Cert.SbfKernel.τ).loc Cert.SbfKernel.main_arg2))
      ∧ r.2.sem = fun _ => 0)

def quiescent_SbfKernelIdeal [hSbfKernelIdeal : Cert.SbfKernelIdeal.Facts] : Prop :=
  ∀ (m : (ℓ : Loc Cert.SbfKernelIdeal.nD Cert.SbfKernelIdeal.τ Cert.SbfKernelIdeal.sig) → Buf (Elt Ideal) ℓ) (g : Dev Cert.SbfKernelIdeal.nD → PrngReg), Pre_SbfKernelIdeal m →
    θ_run (Cert.SbfKernelIdeal.defs (F := Ideal)) (onTc (τ := Cert.SbfKernelIdeal.τ) (Cert.SbfKernelIdeal.main (F := Ideal))) ⟨m, fun _ => 0, g⟩ (fun r => (∀ c : Dev Cert.SbfKernelIdeal.nD,
      r.2.mem ((c.tc : Thread Cert.SbfKernelIdeal.nD Cert.SbfKernelIdeal.τ).loc Cert.SbfKernelIdeal.main_arg0) = m ((c.tc : Thread Cert.SbfKernelIdeal.nD Cert.SbfKernelIdeal.τ).loc Cert.SbfKernelIdeal.main_arg0)
      ∧ r.2.mem ((c.tc : Thread Cert.SbfKernelIdeal.nD Cert.SbfKernelIdeal.τ).loc Cert.SbfKernelIdeal.main_arg1) = m ((c.tc : Thread Cert.SbfKernelIdeal.nD Cert.SbfKernelIdeal.τ).loc Cert.SbfKernelIdeal.main_arg1)
      ∧ r.2.mem ((c.tc : Thread Cert.SbfKernelIdeal.nD Cert.SbfKernelIdeal.τ).loc Cert.SbfKernelIdeal.main_arg2) = m ((c.tc : Thread Cert.SbfKernelIdeal.nD Cert.SbfKernelIdeal.τ).loc Cert.SbfKernelIdeal.main_arg2))
      ∧ r.2.sem = fun _ => 0)

def quiescent_SbfKernelIdeal_pre_sbf_finite [hSbfKernelIdeal : Cert.SbfKernelIdeal.Facts] [hPre_sbf_finite : Cert.Pre_sbf_finite.Facts] : Prop :=
  ∀ (m : (ℓ : Loc Cert.SbfKernelIdeal.nD Cert.SbfKernelIdeal.τ Cert.SbfKernelIdeal.sig) → Buf (Elt Ideal) ℓ) (g : Dev Cert.SbfKernelIdeal.nD → PrngReg), Pre_SbfKernelIdeal_sbf_finite m →
    θ_run (Cert.SbfKernelIdeal.defs (F := Ideal)) (onTc (τ := Cert.SbfKernelIdeal.τ) (Cert.SbfKernelIdeal.main (F := Ideal))) ⟨m, fun _ => 0, g⟩ (fun r => (∀ c : Dev Cert.SbfKernelIdeal.nD,
      r.2.mem ((c.tc : Thread Cert.SbfKernelIdeal.nD Cert.SbfKernelIdeal.τ).loc Cert.SbfKernelIdeal.main_arg0) = m ((c.tc : Thread Cert.SbfKernelIdeal.nD Cert.SbfKernelIdeal.τ).loc Cert.SbfKernelIdeal.main_arg0)
      ∧ r.2.mem ((c.tc : Thread Cert.SbfKernelIdeal.nD Cert.SbfKernelIdeal.τ).loc Cert.SbfKernelIdeal.main_arg1) = m ((c.tc : Thread Cert.SbfKernelIdeal.nD Cert.SbfKernelIdeal.τ).loc Cert.SbfKernelIdeal.main_arg1)
      ∧ r.2.mem ((c.tc : Thread Cert.SbfKernelIdeal.nD Cert.SbfKernelIdeal.τ).loc Cert.SbfKernelIdeal.main_arg2) = m ((c.tc : Thread Cert.SbfKernelIdeal.nD Cert.SbfKernelIdeal.τ).loc Cert.SbfKernelIdeal.main_arg2))
      ∧ r.2.sem = fun _ => 0)

def quiescent_SbfReferenceIdeal [hSbfReferenceIdeal : Cert.SbfReferenceIdeal.Facts] : Prop :=
  ∀ (m : (ℓ : Loc Cert.SbfReferenceIdeal.nD Cert.SbfReferenceIdeal.τ Cert.SbfReferenceIdeal.sig) → Buf (Elt Ideal) ℓ) (g : Dev Cert.SbfReferenceIdeal.nD → PrngReg), Pre_SbfReferenceIdeal m →
    θ_run (Cert.SbfReferenceIdeal.defs (F := Ideal)) (onTc (τ := Cert.SbfReferenceIdeal.τ) (Cert.SbfReferenceIdeal.main (F := Ideal))) ⟨m, fun _ => 0, g⟩ (fun r => (∀ c : Dev Cert.SbfReferenceIdeal.nD,
      r.2.mem ((c.tc : Thread Cert.SbfReferenceIdeal.nD Cert.SbfReferenceIdeal.τ).loc Cert.SbfReferenceIdeal.main_arg0) = m ((c.tc : Thread Cert.SbfReferenceIdeal.nD Cert.SbfReferenceIdeal.τ).loc Cert.SbfReferenceIdeal.main_arg0)
      ∧ r.2.mem ((c.tc : Thread Cert.SbfReferenceIdeal.nD Cert.SbfReferenceIdeal.τ).loc Cert.SbfReferenceIdeal.main_arg1) = m ((c.tc : Thread Cert.SbfReferenceIdeal.nD Cert.SbfReferenceIdeal.τ).loc Cert.SbfReferenceIdeal.main_arg1)
      ∧ r.2.mem ((c.tc : Thread Cert.SbfReferenceIdeal.nD Cert.SbfReferenceIdeal.τ).loc Cert.SbfReferenceIdeal.main_arg2) = m ((c.tc : Thread Cert.SbfReferenceIdeal.nD Cert.SbfReferenceIdeal.τ).loc Cert.SbfReferenceIdeal.main_arg2))
      ∧ r.2.sem = fun _ => 0)

def quiescent_SbfReferenceIdeal_pre_sbf_finite [hSbfReferenceIdeal : Cert.SbfReferenceIdeal.Facts] [hPre_sbf_finite : Cert.Pre_sbf_finite.Facts] : Prop :=
  ∀ (m : (ℓ : Loc Cert.SbfReferenceIdeal.nD Cert.SbfReferenceIdeal.τ Cert.SbfReferenceIdeal.sig) → Buf (Elt Ideal) ℓ) (g : Dev Cert.SbfReferenceIdeal.nD → PrngReg), Pre_SbfReferenceIdeal_sbf_finite m →
    θ_run (Cert.SbfReferenceIdeal.defs (F := Ideal)) (onTc (τ := Cert.SbfReferenceIdeal.τ) (Cert.SbfReferenceIdeal.main (F := Ideal))) ⟨m, fun _ => 0, g⟩ (fun r => (∀ c : Dev Cert.SbfReferenceIdeal.nD,
      r.2.mem ((c.tc : Thread Cert.SbfReferenceIdeal.nD Cert.SbfReferenceIdeal.τ).loc Cert.SbfReferenceIdeal.main_arg0) = m ((c.tc : Thread Cert.SbfReferenceIdeal.nD Cert.SbfReferenceIdeal.τ).loc Cert.SbfReferenceIdeal.main_arg0)
      ∧ r.2.mem ((c.tc : Thread Cert.SbfReferenceIdeal.nD Cert.SbfReferenceIdeal.τ).loc Cert.SbfReferenceIdeal.main_arg1) = m ((c.tc : Thread Cert.SbfReferenceIdeal.nD Cert.SbfReferenceIdeal.τ).loc Cert.SbfReferenceIdeal.main_arg1)
      ∧ r.2.mem ((c.tc : Thread Cert.SbfReferenceIdeal.nD Cert.SbfReferenceIdeal.τ).loc Cert.SbfReferenceIdeal.main_arg2) = m ((c.tc : Thread Cert.SbfReferenceIdeal.nD Cert.SbfReferenceIdeal.τ).loc Cert.SbfReferenceIdeal.main_arg2))
      ∧ r.2.sem = fun _ => 0)

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)
      ∧ m' ((c.tc : Thread Cert.GateReferenceIdeal.nD Cert.GateReferenceIdeal.τ).loc Cert.GateReferenceIdeal.main_arg5) = m ((c.tc : Thread Cert.GateKernelIdeal.nD Cert.GateKernelIdeal.τ).loc Cert.GateKernelIdeal.main_arg5)
      ∧ m' ((c.tc : Thread Cert.GateReferenceIdeal.nD Cert.GateReferenceIdeal.τ).loc Cert.GateReferenceIdeal.main_arg6) = m ((c.tc : Thread Cert.GateKernelIdeal.nD Cert.GateKernelIdeal.τ).loc Cert.GateKernelIdeal.main_arg6)) →
    ∃ (v0 : (c : Dev Cert.GateKernelIdeal.nD) → Buf (Elt Ideal) ((c.tc : Thread Cert.GateKernelIdeal.nD Cert.GateKernelIdeal.τ).loc Cert.GateKernelIdeal.main_v15_0)) (v1 : (c : Dev Cert.GateKernelIdeal.nD) → Buf (Elt Ideal) ((c.tc : Thread Cert.GateKernelIdeal.nD Cert.GateKernelIdeal.τ).loc Cert.GateKernelIdeal.main_v15_1)) (v2 : (c : Dev Cert.GateKernelIdeal.nD) → Buf (Elt Ideal) ((c.tc : Thread Cert.GateKernelIdeal.nD Cert.GateKernelIdeal.τ).loc Cert.GateKernelIdeal.main_v15_2)) (v3 : (c : Dev Cert.GateKernelIdeal.nD) → Buf (Elt Ideal) ((c.tc : Thread Cert.GateKernelIdeal.nD Cert.GateKernelIdeal.τ).loc Cert.GateKernelIdeal.main_v15_3)) (v4 : (c : Dev Cert.GateKernelIdeal.nD) → Buf (Elt Ideal) ((c.tc : Thread Cert.GateKernelIdeal.nD Cert.GateKernelIdeal.τ).loc Cert.GateKernelIdeal.main_v15_4)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v15_0) = v0 c
          ∧ r.2.mem ((c.tc : Thread Cert.GateKernelIdeal.nD Cert.GateKernelIdeal.τ).loc Cert.GateKernelIdeal.main_v15_1) = v1 c
          ∧ r.2.mem ((c.tc : Thread Cert.GateKernelIdeal.nD Cert.GateKernelIdeal.τ).loc Cert.GateKernelIdeal.main_v15_2) = v2 c
          ∧ r.2.mem ((c.tc : Thread Cert.GateKernelIdeal.nD Cert.GateKernelIdeal.τ).loc Cert.GateKernelIdeal.main_v15_3) = v3 c
          ∧ r.2.mem ((c.tc : Thread Cert.GateKernelIdeal.nD Cert.GateKernelIdeal.τ).loc Cert.GateKernelIdeal.main_v15_4) = v4 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
          ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5)
          ∧ r.2.mem ((c.tc : Thread Cert.GateKernelIdeal.nD Cert.GateKernelIdeal.τ).loc Cert.GateKernelIdeal.main_arg6) = m ((c.tc : Thread Cert.GateKernelIdeal.nD Cert.GateKernelIdeal.τ).loc Cert.GateKernelIdeal.main_arg6))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v34) = v0 c
          ∧ r.2.mem ((c.tc : Thread Cert.GateReferenceIdeal.nD Cert.GateReferenceIdeal.τ).loc Cert.GateReferenceIdeal.main_v35) = v1 c
          ∧ r.2.mem ((c.tc : Thread Cert.GateReferenceIdeal.nD Cert.GateReferenceIdeal.τ).loc Cert.GateReferenceIdeal.main_v36) = v2 c
          ∧ r.2.mem ((c.tc : Thread Cert.GateReferenceIdeal.nD Cert.GateReferenceIdeal.τ).loc Cert.GateReferenceIdeal.main_v37) = v3 c
          ∧ r.2.mem ((c.tc : Thread Cert.GateReferenceIdeal.nD Cert.GateReferenceIdeal.τ).loc Cert.GateReferenceIdeal.main_v38) = v4 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4)
          ∧ r.2.mem ((c.tc : Thread Cert.GateReferenceIdeal.nD Cert.GateReferenceIdeal.τ).loc Cert.GateReferenceIdeal.main_arg5) = m' ((c.tc : Thread Cert.GateReferenceIdeal.nD Cert.GateReferenceIdeal.τ).loc Cert.GateReferenceIdeal.main_arg5)
          ∧ r.2.mem ((c.tc : Thread Cert.GateReferenceIdeal.nD Cert.GateReferenceIdeal.τ).loc Cert.GateReferenceIdeal.main_arg6) = m' ((c.tc : Thread Cert.GateReferenceIdeal.nD Cert.GateReferenceIdeal.τ).loc Cert.GateReferenceIdeal.main_arg6))

def preserves_ReluKernel_ReluKernelIdeal : Prop :=
  True

def algebraic_ReluKernelIdeal_ReluReferenceIdeal [hReluKernelIdeal : Cert.ReluKernelIdeal.Facts] [hReluReferenceIdeal : Cert.ReluReferenceIdeal.Facts] : Prop :=
  ∀ (m : (ℓ : Loc Cert.ReluKernelIdeal.nD Cert.ReluKernelIdeal.τ Cert.ReluKernelIdeal.sig) → Buf (Elt Ideal) ℓ) (g : Dev Cert.ReluKernelIdeal.nD → PrngReg)
    (m' : (ℓ : Loc Cert.ReluReferenceIdeal.nD Cert.ReluReferenceIdeal.τ Cert.ReluReferenceIdeal.sig) → Buf (Elt Ideal) ℓ) (g' : Dev Cert.ReluReferenceIdeal.nD → PrngReg), Pre_ReluKernelIdeal m →
    (∀ c : Dev Cert.ReluKernelIdeal.nD,
      m' ((c.tc : Thread Cert.ReluReferenceIdeal.nD Cert.ReluReferenceIdeal.τ).loc Cert.ReluReferenceIdeal.main_arg0) = m ((c.tc : Thread Cert.ReluKernelIdeal.nD Cert.ReluKernelIdeal.τ).loc Cert.ReluKernelIdeal.main_arg0)
      ∧ m' ((c.tc : Thread Cert.ReluReferenceIdeal.nD Cert.ReluReferenceIdeal.τ).loc Cert.ReluReferenceIdeal.main_arg1) = m ((c.tc : Thread Cert.ReluKernelIdeal.nD Cert.ReluKernelIdeal.τ).loc Cert.ReluKernelIdeal.main_arg1)
      ∧ m' ((c.tc : Thread Cert.ReluReferenceIdeal.nD Cert.ReluReferenceIdeal.τ).loc Cert.ReluReferenceIdeal.main_arg2) = m ((c.tc : Thread Cert.ReluKernelIdeal.nD Cert.ReluKernelIdeal.τ).loc Cert.ReluKernelIdeal.main_arg2)
      ∧ m' ((c.tc : Thread Cert.ReluReferenceIdeal.nD Cert.ReluReferenceIdeal.τ).loc Cert.ReluReferenceIdeal.main_arg3) = m ((c.tc : Thread Cert.ReluKernelIdeal.nD Cert.ReluKernelIdeal.τ).loc Cert.ReluKernelIdeal.main_arg3)) →
    ∃ (v0 : (c : Dev Cert.ReluKernelIdeal.nD) → Buf (Elt Ideal) ((c.tc : Thread Cert.ReluKernelIdeal.nD Cert.ReluKernelIdeal.τ).loc Cert.ReluKernelIdeal.main_v4)),
      θ_run (Cert.ReluKernelIdeal.defs (F := Ideal)) (onTc (τ := Cert.ReluKernelIdeal.τ) (Cert.ReluKernelIdeal.main (F := Ideal))) ⟨m, fun _ => 0, g⟩ (fun r => ∀ c : Dev Cert.ReluKernelIdeal.nD,
          r.2.mem ((c.tc : Thread Cert.ReluKernelIdeal.nD Cert.ReluKernelIdeal.τ).loc Cert.ReluKernelIdeal.main_v4) = v0 c
          ∧ r.2.mem ((c.tc : Thread Cert.ReluKernelIdeal.nD Cert.ReluKernelIdeal.τ).loc Cert.ReluKernelIdeal.main_arg0) = m ((c.tc : Thread Cert.ReluKernelIdeal.nD Cert.ReluKernelIdeal.τ).loc Cert.ReluKernelIdeal.main_arg0)
          ∧ r.2.mem ((c.tc : Thread Cert.ReluKernelIdeal.nD Cert.ReluKernelIdeal.τ).loc Cert.ReluKernelIdeal.main_arg1) = m ((c.tc : Thread Cert.ReluKernelIdeal.nD Cert.ReluKernelIdeal.τ).loc Cert.ReluKernelIdeal.main_arg1)
          ∧ r.2.mem ((c.tc : Thread Cert.ReluKernelIdeal.nD Cert.ReluKernelIdeal.τ).loc Cert.ReluKernelIdeal.main_arg2) = m ((c.tc : Thread Cert.ReluKernelIdeal.nD Cert.ReluKernelIdeal.τ).loc Cert.ReluKernelIdeal.main_arg2)
          ∧ r.2.mem ((c.tc : Thread Cert.ReluKernelIdeal.nD Cert.ReluKernelIdeal.τ).loc Cert.ReluKernelIdeal.main_arg3) = m ((c.tc : Thread Cert.ReluKernelIdeal.nD Cert.ReluKernelIdeal.τ).loc Cert.ReluKernelIdeal.main_arg3))
      ∧ θ_run (Cert.ReluReferenceIdeal.defs (F := Ideal)) (onTc (τ := Cert.ReluReferenceIdeal.τ) (Cert.ReluReferenceIdeal.main (F := Ideal))) ⟨m', fun _ => 0, g'⟩ (fun r => ∀ c : Dev Cert.ReluReferenceIdeal.nD,
          r.2.mem ((c.tc : Thread Cert.ReluReferenceIdeal.nD Cert.ReluReferenceIdeal.τ).loc Cert.ReluReferenceIdeal.main_v13) = v0 c
          ∧ r.2.mem ((c.tc : Thread Cert.ReluReferenceIdeal.nD Cert.ReluReferenceIdeal.τ).loc Cert.ReluReferenceIdeal.main_arg0) = m' ((c.tc : Thread Cert.ReluReferenceIdeal.nD Cert.ReluReferenceIdeal.τ).loc Cert.ReluReferenceIdeal.main_arg0)
          ∧ r.2.mem ((c.tc : Thread Cert.ReluReferenceIdeal.nD Cert.ReluReferenceIdeal.τ).loc Cert.ReluReferenceIdeal.main_arg1) = m' ((c.tc : Thread Cert.ReluReferenceIdeal.nD Cert.ReluReferenceIdeal.τ).loc Cert.ReluReferenceIdeal.main_arg1)
          ∧ r.2.mem ((c.tc : Thread Cert.ReluReferenceIdeal.nD Cert.ReluReferenceIdeal.τ).loc Cert.ReluReferenceIdeal.main_arg2) = m' ((c.tc : Thread Cert.ReluReferenceIdeal.nD Cert.ReluReferenceIdeal.τ).loc Cert.ReluReferenceIdeal.main_arg2)
          ∧ r.2.mem ((c.tc : Thread Cert.ReluReferenceIdeal.nD Cert.ReluReferenceIdeal.τ).loc Cert.ReluReferenceIdeal.main_arg3) = m' ((c.tc : Thread Cert.ReluReferenceIdeal.nD Cert.ReluReferenceIdeal.τ).loc Cert.ReluReferenceIdeal.main_arg3))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)) (v2 : (c : Dev Cert.LossKernelIdeal.nD) → Buf (Elt Ideal) ((c.tc : Thread Cert.LossKernelIdeal.nD Cert.LossKernelIdeal.τ).loc Cert.LossKernelIdeal.main_v0_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_v0_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v14) = v0 c
          ∧ r.2.mem ((c.tc : Thread Cert.LossReferenceIdeal.nD Cert.LossReferenceIdeal.τ).loc Cert.LossReferenceIdeal.main_v15) = v1 c
          ∧ r.2.mem ((c.tc : Thread Cert.LossReferenceIdeal.nD Cert.LossReferenceIdeal.τ).loc Cert.LossReferenceIdeal.main_v16) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_SbKernel_SbKernelIdeal : Prop :=
  IdealRules.bf16_pack.Statement Cert.SbKernelIdeal.S256x128
  ∧ IdealRules.named_const.Statement Cert.SbKernelIdeal.κ "mask" .f32 0xF149F2CA#32 ⊥
  ∧ IdealRules.named_const.Statement Cert.SbKernelIdeal.κ "cutoff" .f32 0xC2B00000#32 ⊥

def algebraic_SbKernelIdeal_SbReferenceIdeal_pre_sb_finite [hSbKernelIdeal : Cert.SbKernelIdeal.Facts] [hSbReferenceIdeal : Cert.SbReferenceIdeal.Facts] [hPre_sb_finite : Cert.Pre_sb_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbKernelIdeal_sb_finite m →
    (∀ c : Dev Cert.SbKernelIdeal.nD,
      m' ((c.tc : Thread Cert.SbReferenceIdeal.nD Cert.SbReferenceIdeal.τ).loc Cert.SbReferenceIdeal.main_arg0) = m ((c.tc : Thread Cert.SbKernelIdeal.nD Cert.SbKernelIdeal.τ).loc Cert.SbKernelIdeal.main_arg0)
      ∧ m' ((c.tc : Thread Cert.SbReferenceIdeal.nD Cert.SbReferenceIdeal.τ).loc Cert.SbReferenceIdeal.main_arg1) = m ((c.tc : Thread Cert.SbKernelIdeal.nD Cert.SbKernelIdeal.τ).loc Cert.SbKernelIdeal.main_arg1)
      ∧ m' ((c.tc : Thread Cert.SbReferenceIdeal.nD Cert.SbReferenceIdeal.τ).loc Cert.SbReferenceIdeal.main_arg2) = m ((c.tc : Thread Cert.SbKernelIdeal.nD Cert.SbKernelIdeal.τ).loc Cert.SbKernelIdeal.main_arg2)
      ∧ m' ((c.tc : Thread Cert.SbReferenceIdeal.nD Cert.SbReferenceIdeal.τ).loc Cert.SbReferenceIdeal.main_arg3) = m ((c.tc : Thread Cert.SbKernelIdeal.nD Cert.SbKernelIdeal.τ).loc Cert.SbKernelIdeal.main_arg3)) →
    ∃ (v0 : (c : Dev Cert.SbKernelIdeal.nD) → Buf (Elt Ideal) ((c.tc : Thread Cert.SbKernelIdeal.nD Cert.SbKernelIdeal.τ).loc Cert.SbKernelIdeal.main_v38_0)) (v1 : (c : Dev Cert.SbKernelIdeal.nD) → Buf (Elt Ideal) ((c.tc : Thread Cert.SbKernelIdeal.nD Cert.SbKernelIdeal.τ).loc Cert.SbKernelIdeal.main_v38_1)) (v2 : (c : Dev Cert.SbKernelIdeal.nD) → Buf (Elt Ideal) ((c.tc : Thread Cert.SbKernelIdeal.nD Cert.SbKernelIdeal.τ).loc Cert.SbKernelIdeal.main_v38_2)),
      θ_run (Cert.SbKernelIdeal.defs (F := Ideal)) (onTc (τ := Cert.SbKernelIdeal.τ) (Cert.SbKernelIdeal.main (F := Ideal))) ⟨m, fun _ => 0, g⟩ (fun r => ∀ c : Dev Cert.SbKernelIdeal.nD,
          r.2.mem ((c.tc : Thread Cert.SbKernelIdeal.nD Cert.SbKernelIdeal.τ).loc Cert.SbKernelIdeal.main_v38_0) = v0 c
          ∧ r.2.mem ((c.tc : Thread Cert.SbKernelIdeal.nD Cert.SbKernelIdeal.τ).loc Cert.SbKernelIdeal.main_v38_1) = v1 c
          ∧ r.2.mem ((c.tc : Thread Cert.SbKernelIdeal.nD Cert.SbKernelIdeal.τ).loc Cert.SbKernelIdeal.main_v38_2) = v2 c
          ∧ r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
          ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
          ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
          ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v49) = v0 c
          ∧ r.2.mem ((c.tc : Thread Cert.SbReferenceIdeal.nD Cert.SbReferenceIdeal.τ).loc Cert.SbReferenceIdeal.main_v50) = v1 c
          ∧ r.2.mem ((c.tc : Thread Cert.SbReferenceIdeal.nD Cert.SbReferenceIdeal.τ).loc Cert.SbReferenceIdeal.main_v51) = v2 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1)
          ∧ r.2.mem ((c.tc : Thread Cert.SbReferenceIdeal.nD Cert.SbReferenceIdeal.τ).loc Cert.SbReferenceIdeal.main_arg2) = m' ((c.tc : Thread Cert.SbReferenceIdeal.nD Cert.SbReferenceIdeal.τ).loc Cert.SbReferenceIdeal.main_arg2)
          ∧ r.2.mem ((c.tc : Thread Cert.SbReferenceIdeal.nD Cert.SbReferenceIdeal.τ).loc Cert.SbReferenceIdeal.main_arg3) = m' ((c.tc : Thread Cert.SbReferenceIdeal.nD Cert.SbReferenceIdeal.τ).loc Cert.SbReferenceIdeal.main_arg3))

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)
      ∧ m' ((c.tc : Thread Cert.MlpReferenceIdeal.nD Cert.MlpReferenceIdeal.τ).loc Cert.MlpReferenceIdeal.main_arg4) = m ((c.tc : Thread Cert.MlpKernelIdeal.nD Cert.MlpKernelIdeal.τ).loc Cert.MlpKernelIdeal.main_arg4)) →
    ∃ (v0 : (c : Dev Cert.MlpKernelIdeal.nD) → Buf (Elt Ideal) ((c.tc : Thread Cert.MlpKernelIdeal.nD Cert.MlpKernelIdeal.τ).loc Cert.MlpKernelIdeal.main_v5_0)) (v1 : (c : Dev Cert.MlpKernelIdeal.nD) → Buf (Elt Ideal) ((c.tc : Thread Cert.MlpKernelIdeal.nD Cert.MlpKernelIdeal.τ).loc Cert.MlpKernelIdeal.main_v5_1)) (v2 : (c : Dev Cert.MlpKernelIdeal.nD) → Buf (Elt Ideal) ((c.tc : Thread Cert.MlpKernelIdeal.nD Cert.MlpKernelIdeal.τ).loc Cert.MlpKernelIdeal.main_v5_2)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v5_0) = v0 c
          ∧ r.2.mem ((c.tc : Thread Cert.MlpKernelIdeal.nD Cert.MlpKernelIdeal.τ).loc Cert.MlpKernelIdeal.main_v5_1) = v1 c
          ∧ r.2.mem ((c.tc : Thread Cert.MlpKernelIdeal.nD Cert.MlpKernelIdeal.τ).loc Cert.MlpKernelIdeal.main_v5_2) = v2 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v38) = v0 c
          ∧ r.2.mem ((c.tc : Thread Cert.MlpReferenceIdeal.nD Cert.MlpReferenceIdeal.τ).loc Cert.MlpReferenceIdeal.main_v39) = v1 c
          ∧ r.2.mem ((c.tc : Thread Cert.MlpReferenceIdeal.nD Cert.MlpReferenceIdeal.τ).loc Cert.MlpReferenceIdeal.main_v40) = v2 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)
      ∧ m' ((c.tc : Thread Cert.InReferenceIdeal.nD Cert.InReferenceIdeal.τ).loc Cert.InReferenceIdeal.main_arg7) = m ((c.tc : Thread Cert.InKernelIdeal.nD Cert.InKernelIdeal.τ).loc Cert.InKernelIdeal.main_arg7)
      ∧ m' ((c.tc : Thread Cert.InReferenceIdeal.nD Cert.InReferenceIdeal.τ).loc Cert.InReferenceIdeal.main_arg8) = m ((c.tc : Thread Cert.InKernelIdeal.nD Cert.InKernelIdeal.τ).loc Cert.InKernelIdeal.main_arg8)
      ∧ m' ((c.tc : Thread Cert.InReferenceIdeal.nD Cert.InReferenceIdeal.τ).loc Cert.InReferenceIdeal.main_arg9) = m ((c.tc : Thread Cert.InKernelIdeal.nD Cert.InKernelIdeal.τ).loc Cert.InKernelIdeal.main_arg9)
      ∧ m' ((c.tc : Thread Cert.InReferenceIdeal.nD Cert.InReferenceIdeal.τ).loc Cert.InReferenceIdeal.main_arg10) = m ((c.tc : Thread Cert.InKernelIdeal.nD Cert.InKernelIdeal.τ).loc Cert.InKernelIdeal.main_arg10)) →
    ∃ (v0 : (c : Dev Cert.InKernelIdeal.nD) → Buf (Elt Ideal) ((c.tc : Thread Cert.InKernelIdeal.nD Cert.InKernelIdeal.τ).loc Cert.InKernelIdeal.main_v10_0)) (v1 : (c : Dev Cert.InKernelIdeal.nD) → Buf (Elt Ideal) ((c.tc : Thread Cert.InKernelIdeal.nD Cert.InKernelIdeal.τ).loc Cert.InKernelIdeal.main_v10_1)) (v2 : (c : Dev Cert.InKernelIdeal.nD) → Buf (Elt Ideal) ((c.tc : Thread Cert.InKernelIdeal.nD Cert.InKernelIdeal.τ).loc Cert.InKernelIdeal.main_v10_2)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v10_0) = v0 c
          ∧ r.2.mem ((c.tc : Thread Cert.InKernelIdeal.nD Cert.InKernelIdeal.τ).loc Cert.InKernelIdeal.main_v10_1) = v1 c
          ∧ r.2.mem ((c.tc : Thread Cert.InKernelIdeal.nD Cert.InKernelIdeal.τ).loc Cert.InKernelIdeal.main_v10_2) = v2 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6)
          ∧ r.2.mem ((c.tc : Thread Cert.InKernelIdeal.nD Cert.InKernelIdeal.τ).loc Cert.InKernelIdeal.main_arg7) = m ((c.tc : Thread Cert.InKernelIdeal.nD Cert.InKernelIdeal.τ).loc Cert.InKernelIdeal.main_arg7)
          ∧ r.2.mem ((c.tc : Thread Cert.InKernelIdeal.nD Cert.InKernelIdeal.τ).loc Cert.InKernelIdeal.main_arg8) = m ((c.tc : Thread Cert.InKernelIdeal.nD Cert.InKernelIdeal.τ).loc Cert.InKernelIdeal.main_arg8)
          ∧ r.2.mem ((c.tc : Thread Cert.InKernelIdeal.nD Cert.InKernelIdeal.τ).loc Cert.InKernelIdeal.main_arg9) = m ((c.tc : Thread Cert.InKernelIdeal.nD Cert.InKernelIdeal.τ).loc Cert.InKernelIdeal.main_arg9)
          ∧ r.2.mem ((c.tc : Thread Cert.InKernelIdeal.nD Cert.InKernelIdeal.τ).loc Cert.InKernelIdeal.main_arg10) = m ((c.tc : Thread Cert.InKernelIdeal.nD Cert.InKernelIdeal.τ).loc Cert.InKernelIdeal.main_arg10))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v46) = v0 c
          ∧ r.2.mem ((c.tc : Thread Cert.InReferenceIdeal.nD Cert.InReferenceIdeal.τ).loc Cert.InReferenceIdeal.main_v47) = v1 c
          ∧ r.2.mem ((c.tc : Thread Cert.InReferenceIdeal.nD Cert.InReferenceIdeal.τ).loc Cert.InReferenceIdeal.main_v48) = v2 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7)
          ∧ r.2.mem ((c.tc : Thread Cert.InReferenceIdeal.nD Cert.InReferenceIdeal.τ).loc Cert.InReferenceIdeal.main_arg8) = m' ((c.tc : Thread Cert.InReferenceIdeal.nD Cert.InReferenceIdeal.τ).loc Cert.InReferenceIdeal.main_arg8)
          ∧ r.2.mem ((c.tc : Thread Cert.InReferenceIdeal.nD Cert.InReferenceIdeal.τ).loc Cert.InReferenceIdeal.main_arg9) = m' ((c.tc : Thread Cert.InReferenceIdeal.nD Cert.InReferenceIdeal.τ).loc Cert.InReferenceIdeal.main_arg9)
          ∧ r.2.mem ((c.tc : Thread Cert.InReferenceIdeal.nD Cert.InReferenceIdeal.τ).loc Cert.InReferenceIdeal.main_arg10) = m' ((c.tc : Thread Cert.InReferenceIdeal.nD Cert.InReferenceIdeal.τ).loc Cert.InReferenceIdeal.main_arg10))

def preserves_PrepKernel_PrepKernelIdeal : Prop :=
  IdealRules.bf16_pack.Statement Cert.PrepKernelIdeal.S512x128

def algebraic_PrepKernelIdeal_PrepReferenceIdeal_pre_prep_finite [hPrepKernelIdeal : Cert.PrepKernelIdeal.Facts] [hPrepReferenceIdeal : Cert.PrepReferenceIdeal.Facts] [hPre_prep_finite : Cert.Pre_prep_finite.Facts] : Prop :=
  ∀ (m : (ℓ : Loc Cert.PrepKernelIdeal.nD Cert.PrepKernelIdeal.τ Cert.PrepKernelIdeal.sig) → Buf (Elt Ideal) ℓ) (g : Dev Cert.PrepKernelIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepKernelIdeal_prep_finite m →
    (∀ c : Dev Cert.PrepKernelIdeal.nD,
      m' ((c.tc : Thread Cert.PrepReferenceIdeal.nD Cert.PrepReferenceIdeal.τ).loc Cert.PrepReferenceIdeal.main_arg0) = m ((c.tc : Thread Cert.PrepKernelIdeal.nD Cert.PrepKernelIdeal.τ).loc Cert.PrepKernelIdeal.main_arg0)
      ∧ m' ((c.tc : Thread Cert.PrepReferenceIdeal.nD Cert.PrepReferenceIdeal.τ).loc Cert.PrepReferenceIdeal.main_arg1) = m ((c.tc : Thread Cert.PrepKernelIdeal.nD Cert.PrepKernelIdeal.τ).loc Cert.PrepKernelIdeal.main_arg1)
      ∧ m' ((c.tc : Thread Cert.PrepReferenceIdeal.nD Cert.PrepReferenceIdeal.τ).loc Cert.PrepReferenceIdeal.main_arg2) = m ((c.tc : Thread Cert.PrepKernelIdeal.nD Cert.PrepKernelIdeal.τ).loc Cert.PrepKernelIdeal.main_arg2)
      ∧ m' ((c.tc : Thread Cert.PrepReferenceIdeal.nD Cert.PrepReferenceIdeal.τ).loc Cert.PrepReferenceIdeal.main_arg3) = m ((c.tc : Thread Cert.PrepKernelIdeal.nD Cert.PrepKernelIdeal.τ).loc Cert.PrepKernelIdeal.main_arg3)
      ∧ m' ((c.tc : Thread Cert.PrepReferenceIdeal.nD Cert.PrepReferenceIdeal.τ).loc Cert.PrepReferenceIdeal.main_arg4) = m ((c.tc : Thread Cert.PrepKernelIdeal.nD Cert.PrepKernelIdeal.τ).loc Cert.PrepKernelIdeal.main_arg4)
      ∧ m' ((c.tc : Thread Cert.PrepReferenceIdeal.nD Cert.PrepReferenceIdeal.τ).loc Cert.PrepReferenceIdeal.main_arg5) = m ((c.tc : Thread Cert.PrepKernelIdeal.nD Cert.PrepKernelIdeal.τ).loc Cert.PrepKernelIdeal.main_arg5)
      ∧ m' ((c.tc : Thread Cert.PrepReferenceIdeal.nD Cert.PrepReferenceIdeal.τ).loc Cert.PrepReferenceIdeal.main_arg6) = m ((c.tc : Thread Cert.PrepKernelIdeal.nD Cert.PrepKernelIdeal.τ).loc Cert.PrepKernelIdeal.main_arg6)
      ∧ m' ((c.tc : Thread Cert.PrepReferenceIdeal.nD Cert.PrepReferenceIdeal.τ).loc Cert.PrepReferenceIdeal.main_arg7) = m ((c.tc : Thread Cert.PrepKernelIdeal.nD Cert.PrepKernelIdeal.τ).loc Cert.PrepKernelIdeal.main_arg7)) →
    ∃ (v0 : (c : Dev Cert.PrepKernelIdeal.nD) → Buf (Elt Ideal) ((c.tc : Thread Cert.PrepKernelIdeal.nD Cert.PrepKernelIdeal.τ).loc Cert.PrepKernelIdeal.main_v50_0)) (v1 : (c : Dev Cert.PrepKernelIdeal.nD) → Buf (Elt Ideal) ((c.tc : Thread Cert.PrepKernelIdeal.nD Cert.PrepKernelIdeal.τ).loc Cert.PrepKernelIdeal.main_v50_1)) (v2 : (c : Dev Cert.PrepKernelIdeal.nD) → Buf (Elt Ideal) ((c.tc : Thread Cert.PrepKernelIdeal.nD Cert.PrepKernelIdeal.τ).loc Cert.PrepKernelIdeal.main_v50_2)) (v3 : (c : Dev Cert.PrepKernelIdeal.nD) → Buf (Elt Ideal) ((c.tc : Thread Cert.PrepKernelIdeal.nD Cert.PrepKernelIdeal.τ).loc Cert.PrepKernelIdeal.main_v50_3)) (v4 : (c : Dev Cert.PrepKernelIdeal.nD) → Buf (Elt Ideal) ((c.tc : Thread Cert.PrepKernelIdeal.nD Cert.PrepKernelIdeal.τ).loc Cert.PrepKernelIdeal.main_v50_4)),
      θ_run (Cert.PrepKernelIdeal.defs (F := Ideal)) (onTc (τ := Cert.PrepKernelIdeal.τ) (Cert.PrepKernelIdeal.main (F := Ideal))) ⟨m, fun _ => 0, g⟩ (fun r => ∀ c : Dev Cert.PrepKernelIdeal.nD,
          r.2.mem ((c.tc : Thread Cert.PrepKernelIdeal.nD Cert.PrepKernelIdeal.τ).loc Cert.PrepKernelIdeal.main_v50_0) = v0 c
          ∧ r.2.mem ((c.tc : Thread Cert.PrepKernelIdeal.nD Cert.PrepKernelIdeal.τ).loc Cert.PrepKernelIdeal.main_v50_1) = v1 c
          ∧ r.2.mem ((c.tc : Thread Cert.PrepKernelIdeal.nD Cert.PrepKernelIdeal.τ).loc Cert.PrepKernelIdeal.main_v50_2) = v2 c
          ∧ r.2.mem ((c.tc : Thread Cert.PrepKernelIdeal.nD Cert.PrepKernelIdeal.τ).loc Cert.PrepKernelIdeal.main_v50_3) = v3 c
          ∧ r.2.mem ((c.tc : Thread Cert.PrepKernelIdeal.nD Cert.PrepKernelIdeal.τ).loc Cert.PrepKernelIdeal.main_v50_4) = v4 c
          ∧ r.2.mem ((c.tc : Thread Cert.PrepKernelIdeal.nD Cert.PrepKernelIdeal.τ).loc Cert.PrepKernelIdeal.main_arg0) = m ((c.tc : Thread Cert.PrepKernelIdeal.nD Cert.PrepKernelIdeal.τ).loc Cert.PrepKernelIdeal.main_arg0)
          ∧ r.2.mem ((c.tc : Thread Cert.PrepKernelIdeal.nD Cert.PrepKernelIdeal.τ).loc Cert.PrepKernelIdeal.main_arg1) = m ((c.tc : Thread Cert.PrepKernelIdeal.nD Cert.PrepKernelIdeal.τ).loc Cert.PrepKernelIdeal.main_arg1)
          ∧ r.2.mem ((c.tc : Thread Cert.PrepKernelIdeal.nD Cert.PrepKernelIdeal.τ).loc Cert.PrepKernelIdeal.main_arg2) = m ((c.tc : Thread Cert.PrepKernelIdeal.nD Cert.PrepKernelIdeal.τ).loc Cert.PrepKernelIdeal.main_arg2)
          ∧ r.2.mem ((c.tc : Thread Cert.PrepKernelIdeal.nD Cert.PrepKernelIdeal.τ).loc Cert.PrepKernelIdeal.main_arg3) = m ((c.tc : Thread Cert.PrepKernelIdeal.nD Cert.PrepKernelIdeal.τ).loc Cert.PrepKernelIdeal.main_arg3)
          ∧ r.2.mem ((c.tc : Thread Cert.PrepKernelIdeal.nD Cert.PrepKernelIdeal.τ).loc Cert.PrepKernelIdeal.main_arg4) = m ((c.tc : Thread Cert.PrepKernelIdeal.nD Cert.PrepKernelIdeal.τ).loc Cert.PrepKernelIdeal.main_arg4)
          ∧ r.2.mem ((c.tc : Thread Cert.PrepKernelIdeal.nD Cert.PrepKernelIdeal.τ).loc Cert.PrepKernelIdeal.main_arg5) = m ((c.tc : Thread Cert.PrepKernelIdeal.nD Cert.PrepKernelIdeal.τ).loc Cert.PrepKernelIdeal.main_arg5)
          ∧ r.2.mem ((c.tc : Thread Cert.PrepKernelIdeal.nD Cert.PrepKernelIdeal.τ).loc Cert.PrepKernelIdeal.main_arg6) = m ((c.tc : Thread Cert.PrepKernelIdeal.nD Cert.PrepKernelIdeal.τ).loc Cert.PrepKernelIdeal.main_arg6)
          ∧ r.2.mem ((c.tc : Thread Cert.PrepKernelIdeal.nD Cert.PrepKernelIdeal.τ).loc Cert.PrepKernelIdeal.main_arg7) = m ((c.tc : Thread Cert.PrepKernelIdeal.nD Cert.PrepKernelIdeal.τ).loc Cert.PrepKernelIdeal.main_arg7))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v161) = v0 c
          ∧ r.2.mem ((c.tc : Thread Cert.PrepReferenceIdeal.nD Cert.PrepReferenceIdeal.τ).loc Cert.PrepReferenceIdeal.main_v162) = v1 c
          ∧ r.2.mem ((c.tc : Thread Cert.PrepReferenceIdeal.nD Cert.PrepReferenceIdeal.τ).loc Cert.PrepReferenceIdeal.main_v163) = v2 c
          ∧ r.2.mem ((c.tc : Thread Cert.PrepReferenceIdeal.nD Cert.PrepReferenceIdeal.τ).loc Cert.PrepReferenceIdeal.main_v164) = v3 c
          ∧ r.2.mem ((c.tc : Thread Cert.PrepReferenceIdeal.nD Cert.PrepReferenceIdeal.τ).loc Cert.PrepReferenceIdeal.main_v165) = v4 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6)
          ∧ r.2.mem ((c.tc : Thread Cert.PrepReferenceIdeal.nD Cert.PrepReferenceIdeal.τ).loc Cert.PrepReferenceIdeal.main_arg7) = m' ((c.tc : Thread Cert.PrepReferenceIdeal.nD Cert.PrepReferenceIdeal.τ).loc Cert.PrepReferenceIdeal.main_arg7))

def preserves_DwdKernel_DwdKernelIdeal : Prop :=
  True

def algebraic_DwdKernelIdeal_DwdReferenceIdeal [hDwdKernelIdeal : Cert.DwdKernelIdeal.Facts] [hDwdReferenceIdeal : Cert.DwdReferenceIdeal.Facts] : Prop :=
  ∀ (m : (ℓ : Loc Cert.DwdKernelIdeal.nD Cert.DwdKernelIdeal.τ Cert.DwdKernelIdeal.sig) → Buf (Elt Ideal) ℓ) (g : Dev Cert.DwdKernelIdeal.nD → PrngReg)
    (m' : (ℓ : Loc Cert.DwdReferenceIdeal.nD Cert.DwdReferenceIdeal.τ Cert.DwdReferenceIdeal.sig) → Buf (Elt Ideal) ℓ) (g' : Dev Cert.DwdReferenceIdeal.nD → PrngReg), Pre_DwdKernelIdeal m →
    (∀ c : Dev Cert.DwdKernelIdeal.nD,
      m' ((c.tc : Thread Cert.DwdReferenceIdeal.nD Cert.DwdReferenceIdeal.τ).loc Cert.DwdReferenceIdeal.main_arg0) = m ((c.tc : Thread Cert.DwdKernelIdeal.nD Cert.DwdKernelIdeal.τ).loc Cert.DwdKernelIdeal.main_arg0)
      ∧ m' ((c.tc : Thread Cert.DwdReferenceIdeal.nD Cert.DwdReferenceIdeal.τ).loc Cert.DwdReferenceIdeal.main_arg1) = m ((c.tc : Thread Cert.DwdKernelIdeal.nD Cert.DwdKernelIdeal.τ).loc Cert.DwdKernelIdeal.main_arg1)
      ∧ m' ((c.tc : Thread Cert.DwdReferenceIdeal.nD Cert.DwdReferenceIdeal.τ).loc Cert.DwdReferenceIdeal.main_arg2) = m ((c.tc : Thread Cert.DwdKernelIdeal.nD Cert.DwdKernelIdeal.τ).loc Cert.DwdKernelIdeal.main_arg2)
      ∧ m' ((c.tc : Thread Cert.DwdReferenceIdeal.nD Cert.DwdReferenceIdeal.τ).loc Cert.DwdReferenceIdeal.main_arg3) = m ((c.tc : Thread Cert.DwdKernelIdeal.nD Cert.DwdKernelIdeal.τ).loc Cert.DwdKernelIdeal.main_arg3)) →
    ∃ (v0 : (c : Dev Cert.DwdKernelIdeal.nD) → Buf (Elt Ideal) ((c.tc : Thread Cert.DwdKernelIdeal.nD Cert.DwdKernelIdeal.τ).loc Cert.DwdKernelIdeal.main_v3)),
      θ_run (Cert.DwdKernelIdeal.defs (F := Ideal)) (onTc (τ := Cert.DwdKernelIdeal.τ) (Cert.DwdKernelIdeal.main (F := Ideal))) ⟨m, fun _ => 0, g⟩ (fun r => ∀ c : Dev Cert.DwdKernelIdeal.nD,
          r.2.mem ((c.tc : Thread Cert.DwdKernelIdeal.nD Cert.DwdKernelIdeal.τ).loc Cert.DwdKernelIdeal.main_v3) = v0 c
          ∧ r.2.mem ((c.tc : Thread Cert.DwdKernelIdeal.nD Cert.DwdKernelIdeal.τ).loc Cert.DwdKernelIdeal.main_arg0) = m ((c.tc : Thread Cert.DwdKernelIdeal.nD Cert.DwdKernelIdeal.τ).loc Cert.DwdKernelIdeal.main_arg0)
          ∧ r.2.mem ((c.tc : Thread Cert.DwdKernelIdeal.nD Cert.DwdKernelIdeal.τ).loc Cert.DwdKernelIdeal.main_arg1) = m ((c.tc : Thread Cert.DwdKernelIdeal.nD Cert.DwdKernelIdeal.τ).loc Cert.DwdKernelIdeal.main_arg1)
          ∧ r.2.mem ((c.tc : Thread Cert.DwdKernelIdeal.nD Cert.DwdKernelIdeal.τ).loc Cert.DwdKernelIdeal.main_arg2) = m ((c.tc : Thread Cert.DwdKernelIdeal.nD Cert.DwdKernelIdeal.τ).loc Cert.DwdKernelIdeal.main_arg2)
          ∧ r.2.mem ((c.tc : Thread Cert.DwdKernelIdeal.nD Cert.DwdKernelIdeal.τ).loc Cert.DwdKernelIdeal.main_arg3) = m ((c.tc : Thread Cert.DwdKernelIdeal.nD Cert.DwdKernelIdeal.τ).loc Cert.DwdKernelIdeal.main_arg3))
      ∧ θ_run (Cert.DwdReferenceIdeal.defs (F := Ideal)) (onTc (τ := Cert.DwdReferenceIdeal.τ) (Cert.DwdReferenceIdeal.main (F := Ideal))) ⟨m', fun _ => 0, g'⟩ (fun r => ∀ c : Dev Cert.DwdReferenceIdeal.nD,
          r.2.mem ((c.tc : Thread Cert.DwdReferenceIdeal.nD Cert.DwdReferenceIdeal.τ).loc Cert.DwdReferenceIdeal.main_v7) = v0 c
          ∧ r.2.mem ((c.tc : Thread Cert.DwdReferenceIdeal.nD Cert.DwdReferenceIdeal.τ).loc Cert.DwdReferenceIdeal.main_arg0) = m' ((c.tc : Thread Cert.DwdReferenceIdeal.nD Cert.DwdReferenceIdeal.τ).loc Cert.DwdReferenceIdeal.main_arg0)
          ∧ r.2.mem ((c.tc : Thread Cert.DwdReferenceIdeal.nD Cert.DwdReferenceIdeal.τ).loc Cert.DwdReferenceIdeal.main_arg1) = m' ((c.tc : Thread Cert.DwdReferenceIdeal.nD Cert.DwdReferenceIdeal.τ).loc Cert.DwdReferenceIdeal.main_arg1)
          ∧ r.2.mem ((c.tc : Thread Cert.DwdReferenceIdeal.nD Cert.DwdReferenceIdeal.τ).loc Cert.DwdReferenceIdeal.main_arg2) = m' ((c.tc : Thread Cert.DwdReferenceIdeal.nD Cert.DwdReferenceIdeal.τ).loc Cert.DwdReferenceIdeal.main_arg2)
          ∧ r.2.mem ((c.tc : Thread Cert.DwdReferenceIdeal.nD Cert.DwdReferenceIdeal.τ).loc Cert.DwdReferenceIdeal.main_arg3) = m' ((c.tc : Thread Cert.DwdReferenceIdeal.nD Cert.DwdReferenceIdeal.τ).loc Cert.DwdReferenceIdeal.main_arg3))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v3)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v3) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v10_0)) (v1 : (c : Dev Cert.MergeKernelIdeal.nD) → Buf (Elt Ideal) ((c.tc : Thread Cert.MergeKernelIdeal.nD Cert.MergeKernelIdeal.τ).loc Cert.MergeKernelIdeal.main_v10_1)) (v2 : (c : Dev Cert.MergeKernelIdeal.nD) → Buf (Elt Ideal) ((c.tc : Thread Cert.MergeKernelIdeal.nD Cert.MergeKernelIdeal.τ).loc Cert.MergeKernelIdeal.main_v10_2)) (v3 : (c : Dev Cert.MergeKernelIdeal.nD) → Buf (Elt Ideal) ((c.tc : Thread Cert.MergeKernelIdeal.nD Cert.MergeKernelIdeal.τ).loc Cert.MergeKernelIdeal.main_v10_3)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v10_0) = v0 c
          ∧ r.2.mem ((c.tc : Thread Cert.MergeKernelIdeal.nD Cert.MergeKernelIdeal.τ).loc Cert.MergeKernelIdeal.main_v10_1) = v1 c
          ∧ r.2.mem ((c.tc : Thread Cert.MergeKernelIdeal.nD Cert.MergeKernelIdeal.τ).loc Cert.MergeKernelIdeal.main_v10_2) = v2 c
          ∧ r.2.mem ((c.tc : Thread Cert.MergeKernelIdeal.nD Cert.MergeKernelIdeal.τ).loc Cert.MergeKernelIdeal.main_v10_3) = v3 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v17) = v0 c
          ∧ r.2.mem ((c.tc : Thread Cert.MergeReferenceIdeal.nD Cert.MergeReferenceIdeal.τ).loc Cert.MergeReferenceIdeal.main_v18) = v1 c
          ∧ r.2.mem ((c.tc : Thread Cert.MergeReferenceIdeal.nD Cert.MergeReferenceIdeal.τ).loc Cert.MergeReferenceIdeal.main_v19) = v2 c
          ∧ r.2.mem ((c.tc : Thread Cert.MergeReferenceIdeal.nD Cert.MergeReferenceIdeal.τ).loc Cert.MergeReferenceIdeal.main_v20) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)) →
    ∃ (v0 : (c : Dev Cert.UpKernelIdeal.nD) → Buf (Elt Ideal) ((c.tc : Thread Cert.UpKernelIdeal.nD Cert.UpKernelIdeal.τ).loc Cert.UpKernelIdeal.main_v4_0)) (v1 : (c : Dev Cert.UpKernelIdeal.nD) → Buf (Elt Ideal) ((c.tc : Thread Cert.UpKernelIdeal.nD Cert.UpKernelIdeal.τ).loc Cert.UpKernelIdeal.main_v4_1)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v4_0) = v0 c
          ∧ r.2.mem ((c.tc : Thread Cert.UpKernelIdeal.nD Cert.UpKernelIdeal.τ).loc Cert.UpKernelIdeal.main_v4_1) = v1 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v13) = v0 c
          ∧ r.2.mem ((c.tc : Thread Cert.UpReferenceIdeal.nD Cert.UpReferenceIdeal.τ).loc Cert.UpReferenceIdeal.main_v15) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v3_0)) (v1 : (c : Dev Cert.ProjKernelIdeal.nD) → Buf (Elt Ideal) ((c.tc : Thread Cert.ProjKernelIdeal.nD Cert.ProjKernelIdeal.τ).loc Cert.ProjKernelIdeal.main_v3_1)) (v2 : (c : Dev Cert.ProjKernelIdeal.nD) → Buf (Elt Ideal) ((c.tc : Thread Cert.ProjKernelIdeal.nD Cert.ProjKernelIdeal.τ).loc Cert.ProjKernelIdeal.main_v3_2)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v3_0) = v0 c
          ∧ r.2.mem ((c.tc : Thread Cert.ProjKernelIdeal.nD Cert.ProjKernelIdeal.τ).loc Cert.ProjKernelIdeal.main_v3_1) = v1 c
          ∧ r.2.mem ((c.tc : Thread Cert.ProjKernelIdeal.nD Cert.ProjKernelIdeal.τ).loc Cert.ProjKernelIdeal.main_v3_2) = v2 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v21) = v0 c
          ∧ r.2.mem ((c.tc : Thread Cert.ProjReferenceIdeal.nD Cert.ProjReferenceIdeal.τ).loc Cert.ProjReferenceIdeal.main_v23) = v1 c
          ∧ r.2.mem ((c.tc : Thread Cert.ProjReferenceIdeal.nD Cert.ProjReferenceIdeal.τ).loc Cert.ProjReferenceIdeal.main_v24) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_TurnKernel_TurnKernelIdeal : Prop :=
  IdealRules.bf16_pack.Statement Cert.TurnKernelIdeal.S512x128

def algebraic_TurnKernelIdeal_TurnReferenceIdeal_pre_turn_finite [hTurnKernelIdeal : Cert.TurnKernelIdeal.Facts] [hTurnReferenceIdeal : Cert.TurnReferenceIdeal.Facts] [hPre_turn_finite : Cert.Pre_turn_finite.Facts] : Prop :=
  ∀ (m : (ℓ : Loc Cert.TurnKernelIdeal.nD Cert.TurnKernelIdeal.τ Cert.TurnKernelIdeal.sig) → Buf (Elt Ideal) ℓ) (g : Dev Cert.TurnKernelIdeal.nD → PrngReg)
    (m' : (ℓ : Loc Cert.TurnReferenceIdeal.nD Cert.TurnReferenceIdeal.τ Cert.TurnReferenceIdeal.sig) → Buf (Elt Ideal) ℓ) (g' : Dev Cert.TurnReferenceIdeal.nD → PrngReg), Pre_TurnKernelIdeal_turn_finite m →
    (∀ c : Dev Cert.TurnKernelIdeal.nD,
      m' ((c.tc : Thread Cert.TurnReferenceIdeal.nD Cert.TurnReferenceIdeal.τ).loc Cert.TurnReferenceIdeal.main_arg0) = m ((c.tc : Thread Cert.TurnKernelIdeal.nD Cert.TurnKernelIdeal.τ).loc Cert.TurnKernelIdeal.main_arg0)
      ∧ m' ((c.tc : Thread Cert.TurnReferenceIdeal.nD Cert.TurnReferenceIdeal.τ).loc Cert.TurnReferenceIdeal.main_arg1) = m ((c.tc : Thread Cert.TurnKernelIdeal.nD Cert.TurnKernelIdeal.τ).loc Cert.TurnKernelIdeal.main_arg1)
      ∧ m' ((c.tc : Thread Cert.TurnReferenceIdeal.nD Cert.TurnReferenceIdeal.τ).loc Cert.TurnReferenceIdeal.main_arg2) = m ((c.tc : Thread Cert.TurnKernelIdeal.nD Cert.TurnKernelIdeal.τ).loc Cert.TurnKernelIdeal.main_arg2)
      ∧ m' ((c.tc : Thread Cert.TurnReferenceIdeal.nD Cert.TurnReferenceIdeal.τ).loc Cert.TurnReferenceIdeal.main_arg3) = m ((c.tc : Thread Cert.TurnKernelIdeal.nD Cert.TurnKernelIdeal.τ).loc Cert.TurnKernelIdeal.main_arg3)) →
    ∃ (v0 : (c : Dev Cert.TurnKernelIdeal.nD) → Buf (Elt Ideal) ((c.tc : Thread Cert.TurnKernelIdeal.nD Cert.TurnKernelIdeal.τ).loc Cert.TurnKernelIdeal.main_v50_0)) (v1 : (c : Dev Cert.TurnKernelIdeal.nD) → Buf (Elt Ideal) ((c.tc : Thread Cert.TurnKernelIdeal.nD Cert.TurnKernelIdeal.τ).loc Cert.TurnKernelIdeal.main_v50_1)),
      θ_run (Cert.TurnKernelIdeal.defs (F := Ideal)) (onTc (τ := Cert.TurnKernelIdeal.τ) (Cert.TurnKernelIdeal.main (F := Ideal))) ⟨m, fun _ => 0, g⟩ (fun r => ∀ c : Dev Cert.TurnKernelIdeal.nD,
          r.2.mem ((c.tc : Thread Cert.TurnKernelIdeal.nD Cert.TurnKernelIdeal.τ).loc Cert.TurnKernelIdeal.main_v50_0) = v0 c
          ∧ r.2.mem ((c.tc : Thread Cert.TurnKernelIdeal.nD Cert.TurnKernelIdeal.τ).loc Cert.TurnKernelIdeal.main_v50_1) = v1 c
          ∧ r.2.mem ((c.tc : Thread Cert.TurnKernelIdeal.nD Cert.TurnKernelIdeal.τ).loc Cert.TurnKernelIdeal.main_arg0) = m ((c.tc : Thread Cert.TurnKernelIdeal.nD Cert.TurnKernelIdeal.τ).loc Cert.TurnKernelIdeal.main_arg0)
          ∧ r.2.mem ((c.tc : Thread Cert.TurnKernelIdeal.nD Cert.TurnKernelIdeal.τ).loc Cert.TurnKernelIdeal.main_arg1) = m ((c.tc : Thread Cert.TurnKernelIdeal.nD Cert.TurnKernelIdeal.τ).loc Cert.TurnKernelIdeal.main_arg1)
          ∧ r.2.mem ((c.tc : Thread Cert.TurnKernelIdeal.nD Cert.TurnKernelIdeal.τ).loc Cert.TurnKernelIdeal.main_arg2) = m ((c.tc : Thread Cert.TurnKernelIdeal.nD Cert.TurnKernelIdeal.τ).loc Cert.TurnKernelIdeal.main_arg2)
          ∧ r.2.mem ((c.tc : Thread Cert.TurnKernelIdeal.nD Cert.TurnKernelIdeal.τ).loc Cert.TurnKernelIdeal.main_arg3) = m ((c.tc : Thread Cert.TurnKernelIdeal.nD Cert.TurnKernelIdeal.τ).loc Cert.TurnKernelIdeal.main_arg3))
      ∧ θ_run (Cert.TurnReferenceIdeal.defs (F := Ideal)) (onTc (τ := Cert.TurnReferenceIdeal.τ) (Cert.TurnReferenceIdeal.main (F := Ideal))) ⟨m', fun _ => 0, g'⟩ (fun r => ∀ c : Dev Cert.TurnReferenceIdeal.nD,
          r.2.mem ((c.tc : Thread Cert.TurnReferenceIdeal.nD Cert.TurnReferenceIdeal.τ).loc Cert.TurnReferenceIdeal.main_v78) = v0 c
          ∧ r.2.mem ((c.tc : Thread Cert.TurnReferenceIdeal.nD Cert.TurnReferenceIdeal.τ).loc Cert.TurnReferenceIdeal.main_v80) = v1 c
          ∧ r.2.mem ((c.tc : Thread Cert.TurnReferenceIdeal.nD Cert.TurnReferenceIdeal.τ).loc Cert.TurnReferenceIdeal.main_arg0) = m' ((c.tc : Thread Cert.TurnReferenceIdeal.nD Cert.TurnReferenceIdeal.τ).loc Cert.TurnReferenceIdeal.main_arg0)
          ∧ r.2.mem ((c.tc : Thread Cert.TurnReferenceIdeal.nD Cert.TurnReferenceIdeal.τ).loc Cert.TurnReferenceIdeal.main_arg1) = m' ((c.tc : Thread Cert.TurnReferenceIdeal.nD Cert.TurnReferenceIdeal.τ).loc Cert.TurnReferenceIdeal.main_arg1)
          ∧ r.2.mem ((c.tc : Thread Cert.TurnReferenceIdeal.nD Cert.TurnReferenceIdeal.τ).loc Cert.TurnReferenceIdeal.main_arg2) = m' ((c.tc : Thread Cert.TurnReferenceIdeal.nD Cert.TurnReferenceIdeal.τ).loc Cert.TurnReferenceIdeal.main_arg2)
          ∧ r.2.mem ((c.tc : Thread Cert.TurnReferenceIdeal.nD Cert.TurnReferenceIdeal.τ).loc Cert.TurnReferenceIdeal.main_arg3) = m' ((c.tc : Thread Cert.TurnReferenceIdeal.nD Cert.TurnReferenceIdeal.τ).loc Cert.TurnReferenceIdeal.main_arg3))

def preserves_SbfKernel_SbfKernelIdeal : Prop :=
  IdealRules.bf16_pack.Statement Cert.SbfKernelIdeal.S256x128
  ∧ IdealRules.named_const.Statement Cert.SbfKernelIdeal.κ "mask" .f32 0xF149F2CA#32 ⊥
  ∧ IdealRules.named_const.Statement Cert.SbfKernelIdeal.κ "cutoff" .f32 0xC2B00000#32 ⊥

def algebraic_SbfKernelIdeal_SbfReferenceIdeal_pre_sbf_finite [hSbfKernelIdeal : Cert.SbfKernelIdeal.Facts] [hSbfReferenceIdeal : Cert.SbfReferenceIdeal.Facts] [hPre_sbf_finite : Cert.Pre_sbf_finite.Facts] : Prop :=
  ∀ (m : (ℓ : Loc Cert.SbfKernelIdeal.nD Cert.SbfKernelIdeal.τ Cert.SbfKernelIdeal.sig) → Buf (Elt Ideal) ℓ) (g : Dev Cert.SbfKernelIdeal.nD → PrngReg)
    (m' : (ℓ : Loc Cert.SbfReferenceIdeal.nD Cert.SbfReferenceIdeal.τ Cert.SbfReferenceIdeal.sig) → Buf (Elt Ideal) ℓ) (g' : Dev Cert.SbfReferenceIdeal.nD → PrngReg), Pre_SbfKernelIdeal_sbf_finite m →
    (∀ c : Dev Cert.SbfKernelIdeal.nD,
      m' ((c.tc : Thread Cert.SbfReferenceIdeal.nD Cert.SbfReferenceIdeal.τ).loc Cert.SbfReferenceIdeal.main_arg0) = m ((c.tc : Thread Cert.SbfKernelIdeal.nD Cert.SbfKernelIdeal.τ).loc Cert.SbfKernelIdeal.main_arg0)
      ∧ m' ((c.tc : Thread Cert.SbfReferenceIdeal.nD Cert.SbfReferenceIdeal.τ).loc Cert.SbfReferenceIdeal.main_arg1) = m ((c.tc : Thread Cert.SbfKernelIdeal.nD Cert.SbfKernelIdeal.τ).loc Cert.SbfKernelIdeal.main_arg1)
      ∧ m' ((c.tc : Thread Cert.SbfReferenceIdeal.nD Cert.SbfReferenceIdeal.τ).loc Cert.SbfReferenceIdeal.main_arg2) = m ((c.tc : Thread Cert.SbfKernelIdeal.nD Cert.SbfKernelIdeal.τ).loc Cert.SbfKernelIdeal.main_arg2)) →
    ∃ (v0 : (c : Dev Cert.SbfKernelIdeal.nD) → Buf (Elt Ideal) ((c.tc : Thread Cert.SbfKernelIdeal.nD Cert.SbfKernelIdeal.τ).loc Cert.SbfKernelIdeal.main_v12)),
      θ_run (Cert.SbfKernelIdeal.defs (F := Ideal)) (onTc (τ := Cert.SbfKernelIdeal.τ) (Cert.SbfKernelIdeal.main (F := Ideal))) ⟨m, fun _ => 0, g⟩ (fun r => ∀ c : Dev Cert.SbfKernelIdeal.nD,
          r.2.mem ((c.tc : Thread Cert.SbfKernelIdeal.nD Cert.SbfKernelIdeal.τ).loc Cert.SbfKernelIdeal.main_v12) = v0 c
          ∧ r.2.mem ((c.tc : Thread Cert.SbfKernelIdeal.nD Cert.SbfKernelIdeal.τ).loc Cert.SbfKernelIdeal.main_arg0) = m ((c.tc : Thread Cert.SbfKernelIdeal.nD Cert.SbfKernelIdeal.τ).loc Cert.SbfKernelIdeal.main_arg0)
          ∧ r.2.mem ((c.tc : Thread Cert.SbfKernelIdeal.nD Cert.SbfKernelIdeal.τ).loc Cert.SbfKernelIdeal.main_arg1) = m ((c.tc : Thread Cert.SbfKernelIdeal.nD Cert.SbfKernelIdeal.τ).loc Cert.SbfKernelIdeal.main_arg1)
          ∧ r.2.mem ((c.tc : Thread Cert.SbfKernelIdeal.nD Cert.SbfKernelIdeal.τ).loc Cert.SbfKernelIdeal.main_arg2) = m ((c.tc : Thread Cert.SbfKernelIdeal.nD Cert.SbfKernelIdeal.τ).loc Cert.SbfKernelIdeal.main_arg2))
      ∧ θ_run (Cert.SbfReferenceIdeal.defs (F := Ideal)) (onTc (τ := Cert.SbfReferenceIdeal.τ) (Cert.SbfReferenceIdeal.main (F := Ideal))) ⟨m', fun _ => 0, g'⟩ (fun r => ∀ c : Dev Cert.SbfReferenceIdeal.nD,
          r.2.mem ((c.tc : Thread Cert.SbfReferenceIdeal.nD Cert.SbfReferenceIdeal.τ).loc Cert.SbfReferenceIdeal.main_v24) = v0 c
          ∧ r.2.mem ((c.tc : Thread Cert.SbfReferenceIdeal.nD Cert.SbfReferenceIdeal.τ).loc Cert.SbfReferenceIdeal.main_arg0) = m' ((c.tc : Thread Cert.SbfReferenceIdeal.nD Cert.SbfReferenceIdeal.τ).loc Cert.SbfReferenceIdeal.main_arg0)
          ∧ r.2.mem ((c.tc : Thread Cert.SbfReferenceIdeal.nD Cert.SbfReferenceIdeal.τ).loc Cert.SbfReferenceIdeal.main_arg1) = m' ((c.tc : Thread Cert.SbfReferenceIdeal.nD Cert.SbfReferenceIdeal.τ).loc Cert.SbfReferenceIdeal.main_arg1)
          ∧ r.2.mem ((c.tc : Thread Cert.SbfReferenceIdeal.nD Cert.SbfReferenceIdeal.τ).loc Cert.SbfReferenceIdeal.main_arg2) = m' ((c.tc : Thread Cert.SbfReferenceIdeal.nD Cert.SbfReferenceIdeal.τ).loc Cert.SbfReferenceIdeal.main_arg2))

def Claim : Prop :=
  ∃ (hGateKernel : Cert.GateKernel.Facts) (hGateKernelIdeal : Cert.GateKernelIdeal.Facts) (hGateReferenceIdeal : Cert.GateReferenceIdeal.Facts) (hReluKernel : Cert.ReluKernel.Facts) (hReluKernelIdeal : Cert.ReluKernelIdeal.Facts) (hReluReferenceIdeal : Cert.ReluReferenceIdeal.Facts) (hLossKernel : Cert.LossKernel.Facts) (hLossKernelIdeal : Cert.LossKernelIdeal.Facts) (hLossReferenceIdeal : Cert.LossReferenceIdeal.Facts) (hSbKernel : Cert.SbKernel.Facts) (hSbKernelIdeal : Cert.SbKernelIdeal.Facts) (hSbReferenceIdeal : Cert.SbReferenceIdeal.Facts) (hMlpKernel : Cert.MlpKernel.Facts) (hMlpKernelIdeal : Cert.MlpKernelIdeal.Facts) (hMlpReferenceIdeal : Cert.MlpReferenceIdeal.Facts) (hInKernel : Cert.InKernel.Facts) (hInKernelIdeal : Cert.InKernelIdeal.Facts) (hInReferenceIdeal : Cert.InReferenceIdeal.Facts) (hPrepKernel : Cert.PrepKernel.Facts) (hPrepKernelIdeal : Cert.PrepKernelIdeal.Facts) (hPrepReferenceIdeal : Cert.PrepReferenceIdeal.Facts) (hDwdKernel : Cert.DwdKernel.Facts) (hDwdKernelIdeal : Cert.DwdKernelIdeal.Facts) (hDwdReferenceIdeal : Cert.DwdReferenceIdeal.Facts) (hDownKernel : Cert.DownKernel.Facts) (hDownKernelIdeal : Cert.DownKernelIdeal.Facts) (hDownReferenceIdeal : Cert.DownReferenceIdeal.Facts) (hMergeKernel : Cert.MergeKernel.Facts) (hMergeKernelIdeal : Cert.MergeKernelIdeal.Facts) (hMergeReferenceIdeal : Cert.MergeReferenceIdeal.Facts) (hUpKernel : Cert.UpKernel.Facts) (hUpKernelIdeal : Cert.UpKernelIdeal.Facts) (hUpReferenceIdeal : Cert.UpReferenceIdeal.Facts) (hProjKernel : Cert.ProjKernel.Facts) (hProjKernelIdeal : Cert.ProjKernelIdeal.Facts) (hProjReferenceIdeal : Cert.ProjReferenceIdeal.Facts) (hTurnKernel : Cert.TurnKernel.Facts) (hTurnKernelIdeal : Cert.TurnKernelIdeal.Facts) (hTurnReferenceIdeal : Cert.TurnReferenceIdeal.Facts) (hSbfKernel : Cert.SbfKernel.Facts) (hSbfKernelIdeal : Cert.SbfKernelIdeal.Facts) (hSbfReferenceIdeal : Cert.SbfReferenceIdeal.Facts) (hPre_sb_finite : Cert.Pre_sb_finite.Facts) (hPre_prep_finite : Cert.Pre_prep_finite.Facts) (hPre_turn_finite : Cert.Pre_turn_finite.Facts) (hPre_sbf_finite : Cert.Pre_sbf_finite.Facts),
    quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_ReluKernel (hReluKernel := hReluKernel)
    ∧ quiescent_ReluKernelIdeal (hReluKernelIdeal := hReluKernelIdeal)
    ∧ quiescent_ReluReferenceIdeal (hReluReferenceIdeal := hReluReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_SbKernel (hSbKernel := hSbKernel)
    ∧ quiescent_SbKernelIdeal (hSbKernelIdeal := hSbKernelIdeal)
    ∧ quiescent_SbKernelIdeal_pre_sb_finite (hSbKernelIdeal := hSbKernelIdeal) (hPre_sb_finite := hPre_sb_finite)
    ∧ quiescent_SbReferenceIdeal (hSbReferenceIdeal := hSbReferenceIdeal)
    ∧ quiescent_SbReferenceIdeal_pre_sb_finite (hSbReferenceIdeal := hSbReferenceIdeal) (hPre_sb_finite := hPre_sb_finite)
    ∧ quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_PrepKernel (hPrepKernel := hPrepKernel)
    ∧ quiescent_PrepKernelIdeal (hPrepKernelIdeal := hPrepKernelIdeal)
    ∧ quiescent_PrepKernelIdeal_pre_prep_finite (hPrepKernelIdeal := hPrepKernelIdeal) (hPre_prep_finite := hPre_prep_finite)
    ∧ quiescent_PrepReferenceIdeal (hPrepReferenceIdeal := hPrepReferenceIdeal)
    ∧ quiescent_PrepReferenceIdeal_pre_prep_finite (hPrepReferenceIdeal := hPrepReferenceIdeal) (hPre_prep_finite := hPre_prep_finite)
    ∧ quiescent_DwdKernel (hDwdKernel := hDwdKernel)
    ∧ quiescent_DwdKernelIdeal (hDwdKernelIdeal := hDwdKernelIdeal)
    ∧ quiescent_DwdReferenceIdeal (hDwdReferenceIdeal := hDwdReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_TurnKernel (hTurnKernel := hTurnKernel)
    ∧ quiescent_TurnKernelIdeal (hTurnKernelIdeal := hTurnKernelIdeal)
    ∧ quiescent_TurnKernelIdeal_pre_turn_finite (hTurnKernelIdeal := hTurnKernelIdeal) (hPre_turn_finite := hPre_turn_finite)
    ∧ quiescent_TurnReferenceIdeal (hTurnReferenceIdeal := hTurnReferenceIdeal)
    ∧ quiescent_TurnReferenceIdeal_pre_turn_finite (hTurnReferenceIdeal := hTurnReferenceIdeal) (hPre_turn_finite := hPre_turn_finite)
    ∧ quiescent_SbfKernel (hSbfKernel := hSbfKernel)
    ∧ quiescent_SbfKernelIdeal (hSbfKernelIdeal := hSbfKernelIdeal)
    ∧ quiescent_SbfKernelIdeal_pre_sbf_finite (hSbfKernelIdeal := hSbfKernelIdeal) (hPre_sbf_finite := hPre_sbf_finite)
    ∧ quiescent_SbfReferenceIdeal (hSbfReferenceIdeal := hSbfReferenceIdeal)
    ∧ quiescent_SbfReferenceIdeal_pre_sbf_finite (hSbfReferenceIdeal := hSbfReferenceIdeal) (hPre_sbf_finite := hPre_sbf_finite)
    ∧ preserves_GateKernel_GateKernelIdeal
    ∧ algebraic_GateKernelIdeal_GateReferenceIdeal (hGateKernelIdeal := hGateKernelIdeal) (hGateReferenceIdeal := hGateReferenceIdeal)
    ∧ preserves_ReluKernel_ReluKernelIdeal
    ∧ algebraic_ReluKernelIdeal_ReluReferenceIdeal (hReluKernelIdeal := hReluKernelIdeal) (hReluReferenceIdeal := hReluReferenceIdeal)
    ∧ preserves_LossKernel_LossKernelIdeal
    ∧ algebraic_LossKernelIdeal_LossReferenceIdeal (hLossKernelIdeal := hLossKernelIdeal) (hLossReferenceIdeal := hLossReferenceIdeal)
    ∧ preserves_SbKernel_SbKernelIdeal
    ∧ algebraic_SbKernelIdeal_SbReferenceIdeal_pre_sb_finite (hSbKernelIdeal := hSbKernelIdeal) (hSbReferenceIdeal := hSbReferenceIdeal) (hPre_sb_finite := hPre_sb_finite)
    ∧ preserves_MlpKernel_MlpKernelIdeal
    ∧ algebraic_MlpKernelIdeal_MlpReferenceIdeal (hMlpKernelIdeal := hMlpKernelIdeal) (hMlpReferenceIdeal := hMlpReferenceIdeal)
    ∧ preserves_InKernel_InKernelIdeal
    ∧ algebraic_InKernelIdeal_InReferenceIdeal (hInKernelIdeal := hInKernelIdeal) (hInReferenceIdeal := hInReferenceIdeal)
    ∧ preserves_PrepKernel_PrepKernelIdeal
    ∧ algebraic_PrepKernelIdeal_PrepReferenceIdeal_pre_prep_finite (hPrepKernelIdeal := hPrepKernelIdeal) (hPrepReferenceIdeal := hPrepReferenceIdeal) (hPre_prep_finite := hPre_prep_finite)
    ∧ preserves_DwdKernel_DwdKernelIdeal
    ∧ algebraic_DwdKernelIdeal_DwdReferenceIdeal (hDwdKernelIdeal := hDwdKernelIdeal) (hDwdReferenceIdeal := hDwdReferenceIdeal)
    ∧ preserves_DownKernel_DownKernelIdeal
    ∧ algebraic_DownKernelIdeal_DownReferenceIdeal (hDownKernelIdeal := hDownKernelIdeal) (hDownReferenceIdeal := hDownReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_UpKernel_UpKernelIdeal
    ∧ algebraic_UpKernelIdeal_UpReferenceIdeal (hUpKernelIdeal := hUpKernelIdeal) (hUpReferenceIdeal := hUpReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_TurnKernel_TurnKernelIdeal
    ∧ algebraic_TurnKernelIdeal_TurnReferenceIdeal_pre_turn_finite (hTurnKernelIdeal := hTurnKernelIdeal) (hTurnReferenceIdeal := hTurnReferenceIdeal) (hPre_turn_finite := hPre_turn_finite)
    ∧ preserves_SbfKernel_SbfKernelIdeal
    ∧ algebraic_SbfKernelIdeal_SbfReferenceIdeal_pre_sbf_finite (hSbfKernelIdeal := hSbfKernelIdeal) (hSbfReferenceIdeal := hSbfReferenceIdeal) (hPre_sbf_finite := hPre_sbf_finite)
-- ==== Pre_prep_finite.lean ====
abbrev S4096x512 : Shape := ⟨2, ![4096, 512]⟩
abbrev S4096x128 : Shape := ⟨2, ![4096, 128]⟩
abbrev S64 : Shape := ⟨1, ![64]⟩
abbrev S4096x64 : Shape := ⟨2, ![4096, 64]⟩
abbrev S4096x1408 : Shape := ⟨2, ![4096, 1408]⟩
abbrev S_ : Shape := ⟨0, ![]⟩

class Facts : Prop where
  bcast_S64_S4096x64_1 : S64.BroadcastsInDim S4096x64 (![1] : Fin 1 → Fin S4096x64.rank)
  concatenates_S4096x512_S4096x128_S4096x512_S4096x128_S4096x64_S4096x64_S4096x1408_d1 : Shape.Concatenates [S4096x512, S4096x128, S4096x512, S4096x128, S4096x64, S4096x64] S4096x1408 1
  bcast_S_S4096x1408 : S_.BroadcastsInDim S4096x1408 (![] : Fin 0 → Fin S4096x1408.rank)

variable [Facts]

def fn {F : FTy → Type} [FloatOps F] (main_arg0 : FVec F S4096x512 .f32) (main_arg1 : FVec F S4096x128 .f32) (main_arg2 : FVec F S4096x128 .f32) (main_arg3 : FVec F S64 .f32) (main_arg4 : FVec F S64 .f32) (main_arg5 : FVec F S4096x512 .f32) (main_arg6 : FVec F S4096x128 .f32) (main_arg7 : FVec F S4096x128 .f32) : IVec S4096x1408 1 :=
  let main_v0 : FVec F S4096x64 .f32 := broadcastInDim S4096x64 ![1] bcast_S64_S4096x64_1 main_arg3
  let main_v1 : FVec F S4096x64 .f32 := broadcastInDim S4096x64 ![1] bcast_S64_S4096x64_1 main_arg4
  let main_v2 : FVec F S4096x1408 .f32 := concatenate S4096x1408 1 [⟨S4096x512, main_arg0⟩, ⟨S4096x128, main_arg1⟩, ⟨S4096x512, main_arg5⟩, ⟨S4096x128, main_arg6⟩, ⟨S4096x64, main_v0⟩, ⟨S4096x64, main_v1⟩] concatenates_S4096x512_S4096x128_S4096x512_S4096x128_S4096x64_S4096x64_S4096x1408_d1
  let main_v3 : FVec F S4096x1408 .f32 := Host.absf main_v2
  let main_cst : FVec F S_ .f32 := constant S_ .f32 0x7F800000#32
  let main_v4 : FVec F S4096x1408 .f32 := broadcastInDim S4096x1408 ![] bcast_S_S4096x1408 main_cst
  let main_v5 : IVec S4096x1408 1 := cmpf .olt main_v3 main_v4
  main_v5
-- ==== Pre_sb_finite.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)

variable [Facts]

def fn {F : FTy → Type} [FloatOps F] (main_arg0 : FVec F S4096x512 .f32) (main_arg1 : FVec F S4096x512 .f32) (main_arg2 : FVec F S4096x512 .f32) (main_arg3 : FVec F S4096x512 .f32) : IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : IVec S4096x512 1 := andi main_v2 main_v5
  let main_v7 : FVec F S4096x512 .f32 := Host.absf main_arg2
  let main_cst_1 : FVec F S_ .f32 := constant S_ .f32 0x7F800000#32
  let main_v8 : FVec F S4096x512 .f32 := broadcastInDim S4096x512 ![] bcast_S_S4096x512 main_cst_1
  let main_v9 : IVec S4096x512 1 := cmpf .olt main_v7 main_v8
  let main_v10 : IVec S4096x512 1 := andi main_v6 main_v9
  let main_v11 : FVec F S4096x512 .f32 := Host.absf main_arg3
  let main_cst_2 : FVec F S_ .f32 := constant S_ .f32 0x7F800000#32
  let main_v12 : FVec F S4096x512 .f32 := broadcastInDim S4096x512 ![] bcast_S_S4096x512 main_cst_2
  let main_v13 : IVec S4096x512 1 := cmpf .olt main_v11 main_v12
  let main_v14 : IVec S4096x512 1 := andi main_v10 main_v13
  main_v14
-- ==== Pre_sbf_finite.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)

variable [Facts]

def fn {F : FTy → Type} [FloatOps F] (main_arg0 : FVec F S4096x512 .f32) (main_arg1 : FVec F S4096x512 .f32) (main_arg2 : FVec F S4096x512 .f32) : IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : IVec S4096x512 1 := andi main_v2 main_v5
  main_v6
-- ==== Pre_turn_finite.lean ====
abbrev S4096x512 : Shape := ⟨2, ![4096, 512]⟩
abbrev S4096x128 : Shape := ⟨2, ![4096, 128]⟩
abbrev S64 : Shape := ⟨1, ![64]⟩
abbrev S4096x640 : Shape := ⟨2, ![4096, 640]⟩
abbrev S_ : Shape := ⟨0, ![]⟩

class Facts : Prop where
  concatenates_S4096x512_S4096x128_S4096x640_d1 : Shape.Concatenates [S4096x512, S4096x128] S4096x640 1
  bcast_S_S4096x640 : S_.BroadcastsInDim S4096x640 (![] : Fin 0 → Fin S4096x640.rank)

variable [Facts]

def fn {F : FTy → Type} [FloatOps F] (main_arg0 : FVec F S4096x512 .f32) (main_arg1 : FVec F S4096x128 .f32) (main_arg2 : FVec F S64 .f32) (main_arg3 : FVec F S64 .f32) : IVec S4096x640 1 :=
  let main_v0 : FVec F S4096x640 .f32 := (fun a b => concatenate S4096x640 1 [⟨S4096x512, a⟩, ⟨S4096x128, b⟩] concatenates_S4096x512_S4096x128_S4096x640_d1) main_arg0 main_arg1
  let main_v1 : FVec F S4096x640 .f32 := Host.absf main_v0
  let main_cst : FVec F S_ .f32 := constant S_ .f32 0x7F800000#32
  let main_v2 : FVec F S4096x640 .f32 := broadcastInDim S4096x640 ![] bcast_S_S4096x640 main_cst
  let main_v3 : IVec S4096x640 1 := cmpf .olt main_v1 main_v2
  main_v3
-- ==== GateKernel.lean ====
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S4096x1024 : Shape := ⟨2, ![4096, 1024]⟩
abbrev S_ : Shape := ⟨0, ![]⟩
abbrev S512x2048 : Shape := ⟨2, ![512, 2048]⟩
abbrev S512x512 : Shape := ⟨2, ![512, 512]⟩

abbrev nBuf : Space → Nat
  | .hbm => 29
  | .vmem => 21
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S4096x1024, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .bf16⟩
  | .hbm, ⟨16, _⟩ => ⟨S4096x1024, .f32⟩
  | .hbm, ⟨17, _⟩ => ⟨S4096x1024, .bf16⟩
  | .hbm, ⟨18, _⟩ => ⟨S4096x1024, .f32⟩
  | .hbm, ⟨19, _⟩ => ⟨S4096x1024, .bf16⟩
  | .hbm, ⟨20, _⟩ => ⟨S4096x1024, .bf16⟩
  | .hbm, ⟨21, _⟩ => ⟨S1024x1024, .bf16⟩
  | .hbm, ⟨22, _⟩ => ⟨S512x1024, .bf16⟩
  | .hbm, ⟨23, _⟩ => ⟨S512x1024, .bf16⟩
  | .hbm, ⟨24, _⟩ => ⟨S4096x1024, .bf16⟩
  | .hbm, ⟨25, _⟩ => ⟨S4096x1024, .bf16⟩
  | .hbm, ⟨26, _⟩ => ⟨S4096x512, .bf16⟩
  | .hbm, ⟨27, _⟩ => ⟨S4096x512, .bf16⟩
  | .hbm, ⟨28, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x2048, .bf16⟩
  | .local _ .vmem, ⟨4, _⟩ => ⟨S512x2048, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x2048, .bf16⟩
  | .local _ .vmem, ⟨20, _⟩ => ⟨S512x2048, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GateReferenceIdeal.lean ====
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S4096x1024 : Shape := ⟨2, ![4096, 1024]⟩
abbrev S_ : Shape := ⟨0, ![]⟩
abbrev S4096x2x1024 : Shape := ⟨3, ![4096, 2, 1024]⟩
abbrev S4096x1x1024 : Shape := ⟨3, ![4096, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x2048, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2x1024, .f32⟩
  | .hbm, ⟨22, _⟩ => ⟨S4096x1x1024, .f32⟩
  | .hbm, ⟨23, _⟩ => ⟨S4096x1024, .f32⟩
  | .hbm, ⟨24, _⟩ => ⟨S4096x1024, .f32⟩
  | .hbm, ⟨25, _⟩ => ⟨S4096x1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1x1024, .f32⟩
  | .hbm, ⟨34, _⟩ => ⟨S_, .f32⟩
  | .hbm, ⟨35, _⟩ => ⟨S4096x2x1024, .f32⟩
  | .hbm, ⟨36, _⟩ => ⟨S4096x1024, .f32⟩
  | .hbm, ⟨37, _⟩ => ⟨S4096x1024, .f32⟩
  | .hbm, ⟨38, _⟩ => ⟨S4096x1x1024, .f32⟩
  | .hbm, ⟨39, _⟩ => ⟨S_, .f32⟩
  | .hbm, ⟨40, _⟩ => ⟨S4096x2x1024, .f32⟩
  | .hbm, ⟨41, _⟩ => ⟨S4096x2x1024, .f32⟩
  | .hbm, ⟨42, _⟩ => ⟨S4096x2048, .f32⟩
  | .hbm, ⟨43, _⟩ => ⟨S4096x2048, .f32⟩
  | .hbm, ⟨44, _⟩ => ⟨S4096x512, .f32⟩
  | .hbm, ⟨45, _⟩ => ⟨S4096x512, .f32⟩
  | .hbm, ⟨46, _⟩ => ⟨S4096x1024, .bf16⟩
  | .hbm, ⟨47, _⟩ => ⟨S4096x1024, .bf16⟩
  | .hbm, ⟨48, _⟩ => ⟨S4096x512, .bf16⟩
  | .hbm, ⟨49, _⟩ => ⟨S4096x512, .bf16⟩
  | .hbm, ⟨50, _⟩ => ⟨S4096x2048, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== ReluKernel.lean ====
abbrev S4096x1024 : Shape := ⟨2, ![4096, 1024]⟩
abbrev S1024x4096 : Shape := ⟨2, ![1024, 4096]⟩
abbrev S4096x4096 : Shape := ⟨2, ![4096, 4096]⟩
abbrev S512x1024 : Shape := ⟨2, ![512, 1024]⟩
abbrev S512x4096 : Shape := ⟨2, ![512, 4096]⟩

abbrev nBuf : Space → Nat
  | .hbm => 9
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S4096x4096, .bf16⟩
  | .hbm, ⟨6, _⟩ => ⟨S4096x1024, .bf16⟩
  | .hbm, ⟨7, _⟩ => ⟨S4096x1024, .bf16⟩
  | .hbm, ⟨8, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S512x4096, .bf16⟩
  | .local _ .vmem, ⟨6, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReluReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== LossKernel.lean ====
abbrev S4096x1024 : Shape := ⟨2, ![4096, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossReferenceIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== SbKernel.lean ====
abbrev S4096x512 : Shape := ⟨2, ![4096, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S256x128 : Shape := ⟨2, ![256, 128]⟩
abbrev S_ : Shape := ⟨0, ![]⟩
abbrev S4096x768 : Shape := ⟨2, ![4096, 768]⟩
abbrev S4096x2304 : Shape := ⟨2, ![4096, 2304]⟩
abbrev S4096x8x64 : Shape := ⟨3, ![4096, 8, 64]⟩
abbrev S8x4096x4096 : Shape := ⟨3, ![8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x64x4096 : Shape := ⟨3, ![8, 64, 4096]⟩
abbrev S4096x128 : Shape := ⟨2, ![4096, 128]⟩
abbrev S8192x128 : Shape := ⟨2, ![8192, 128]⟩
abbrev S256 : Shape := ⟨1, ![256]⟩
abbrev S256x1 : Shape := ⟨2, ![256, 1]⟩
abbrev S256x384 : Shape := ⟨2, ![256, 384]⟩
abbrev S384x128 : Shape := ⟨2, ![384, 128]⟩
abbrev S256x256 : Shape := ⟨2, ![256, 256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 85
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S128, .i32⟩
  | .hbm, ⟨5, _⟩ => ⟨S128x1, .i32⟩
  | .hbm, ⟨6, _⟩ => ⟨S128, .i32⟩
  | .hbm, ⟨7, _⟩ => ⟨S1x128, .i32⟩
  | .hbm, ⟨8, _⟩ => ⟨S128x128, .i32⟩
  | .hbm, ⟨9, _⟩ => ⟨S128x128, .i32⟩
  | .hbm, ⟨10, _⟩ => ⟨S128x128, .i1⟩
  | .hbm, ⟨11, _⟩ => ⟨S128x128, .bf16⟩
  | .hbm, ⟨12, _⟩ => ⟨S256x128, .bf16⟩
  | .hbm, ⟨13, _⟩ => ⟨S_, .f32⟩
  | .hbm, ⟨14, _⟩ => ⟨S4096x768, .f32⟩
  | .hbm, ⟨15, _⟩ => ⟨S4096x2304, .f32⟩
  | .hbm, ⟨16, _⟩ => ⟨S4096x2304, .bf16⟩
  | .hbm, ⟨17, _⟩ => ⟨S4096x8x64, .f32⟩
  | .hbm, ⟨18, _⟩ => ⟨S4096x8x64, .f32⟩
  | .hbm, ⟨19, _⟩ => ⟨S4096x8x64, .f32⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S8x4096x4096, .f32⟩
  | .hbm, ⟨24, _⟩ => ⟨S4096, .i32⟩
  | .hbm, ⟨25, _⟩ => ⟨S4096x1, .i32⟩
  | .hbm, ⟨26, _⟩ => ⟨S4096, .i32⟩
  | .hbm, ⟨27, _⟩ => ⟨S1x4096, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .i1⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S_, .f32⟩
  | .hbm, ⟨48, _⟩ => ⟨S8x4096x4096, .i1⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S_, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S_, .f32⟩
  | .hbm, ⟨57, _⟩ => ⟨S8x4096x4096, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .i1⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S8x4096x4096, .f32⟩
  | .hbm, ⟨69, _⟩ => ⟨S8x4096x4096, .f32⟩
  | .hbm, ⟨70, _⟩ => ⟨S8x4096x4096, .f32⟩
  | .hbm, ⟨71, _⟩ => ⟨S8x4096x4096, .f32⟩
  | .hbm, ⟨72, _⟩ => ⟨S8x4096x4096, .f32⟩
  | .hbm, ⟨73, _⟩ => ⟨S_, .f32⟩
  | .hbm, ⟨74, _⟩ => ⟨S_, .f32⟩
  | .hbm, ⟨75, _⟩ => ⟨S8x4096x4096, .i1⟩
  | .hbm, ⟨76, _⟩ => ⟨S8x4096x4096, .f32⟩
  | .hbm, ⟨77, _⟩ => ⟨S8x4096x4096, .f32⟩
  | .hbm, ⟨78, _⟩ => ⟨S8x64x4096, .f32⟩
  | .hbm, ⟨79, _⟩ => ⟨S4096x8x64, .f32⟩
  | .hbm, ⟨80, _⟩ => ⟨S4096x512, .f32⟩
  | .hbm, ⟨81, _⟩ => ⟨S4096x512, .bf16⟩
  | .hbm, ⟨82, _⟩ => ⟨S4096x512, .bf16⟩
  | .hbm, ⟨83, _⟩ => ⟨S4096x512, .bf16⟩
  | .hbm, ⟨84, _⟩ => ⟨S4096x512, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S4096x128, .f32⟩
  | .local _ .vmem, ⟨8, _⟩ => ⟨S4096x128, .f32⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S8192x128, .f32⟩
  | .local _ .vmem, ⟨21, _⟩ => ⟨S8192x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_v25 : Ref sig .tc := ⟨.hbm, 44, rfl⟩
abbrev main_v26 : Ref sig .tc := ⟨.hbm, 45, rfl⟩
abbrev main_cst_1 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_call2_cst : Ref sig .tc := ⟨.hbm, 51, rfl⟩
abbrev main_call2_v0 : Ref sig .tc := ⟨.hbm, 52, rfl⟩
abbrev main_v28 : Ref sig .tc := ⟨.hbm, 53, rfl⟩
abbrev main_v29 : Ref sig .tc := ⟨.hbm, 54, rfl⟩
abbrev main_call3_v0 : Ref sig .tc := ⟨.hbm, 55, rfl⟩
abbrev main_call3_call0_cst : Ref sig .tc := ⟨.hbm, 56, rfl⟩
abbrev main_call3_call0_v0 : Ref sig .tc := ⟨.hbm, 57, rfl⟩
abbrev main_call3_call0_v1 : Ref sig .tc := ⟨.hbm, 58, rfl⟩
abbrev main_call3_call0_v2 : Ref sig .tc := ⟨.hbm, 59, rfl⟩
abbrev main_call3_call0_v3 : Ref sig .tc := ⟨.hbm, 60, rfl⟩
abbrev main_call3_call0_v4 : Ref sig .tc := ⟨.hbm, 61, rfl⟩
abbrev main_call3_call0_v5 : Ref sig .tc := ⟨.hbm, 62, rfl⟩
abbrev main_call3_call0_v6 : Ref sig .tc := ⟨.hbm, 63, rfl⟩
abbrev main_call3_call0_v7 : Ref sig .tc := ⟨.hbm, 64, rfl⟩
abbrev main_call3_call0_v8 : Ref sig .tc := ⟨.hbm, 65, rfl⟩
abbrev main_call3_call0_v9 : Ref sig .tc := ⟨.hbm, 66, rfl⟩
abbrev main_call3_call0_v10 : Ref sig .tc := ⟨.hbm, 67, rfl⟩
abbrev main_call3_call0_v11 : Ref sig .tc := ⟨.hbm, 68, rfl⟩
abbrev main_call3_v1 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_2 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38_0 : Ref sig .tc := ⟨.hbm, 82, rfl⟩
abbrev main_v38_1 : Ref sig .tc := ⟨.hbm, 83, rfl⟩
abbrev main_v38_2 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [BitOps F]

abbrev grid0 : Pipeline.Grid := ⟨1, ![4], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32 : BitVec 32 := 128#32
  let v22 : BitVec 32 := Scalar.muli arg15 c128_i32
  v22
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c128_i32 : BitVec 32 := 128#32
  let v22 : BitVec 32 := Scalar.muli arg15 c128_i32
  let v23 : BitVec 32 := v22
  let v24 : Index := Scalar.indexCast v23
  let c0_24 : Index := 0#32
  ![v24.toNat, 0]
def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32 : BitVec 32 := 128#32
  let v22 : BitVec 32 := Scalar.muli arg15 c128_i32
  let v23 : BitVec 32 := v22
  let c128_i32_62 : BitVec 32 := 128#32
  let v164 : BitVec 32 := Scalar.addi v23 c128_i32_62
  let c384_i32 : BitVec 32 := 384#32
  let v165 : BitVec 32 := Scalar.subi v164 c384_i32
  let c0_i32_63 : BitVec 32 := 0#32
  let v166 : BitVec 32 := Scalar.maxsi v165 c0_i32_63
  v166
def k0_off2 (k0_t1 : Fin k0_t1_loop.trips) : Fin 2 → Nat :=
  let c0_i32 : BitVec 32 := 0#32
  let c1_i32 : BitVec 32 := 1#32
  let arg15 : BitVec 32 := Scf.iv c0_i32 c1_i32 k0_t1
  let c128_i32 : BitVec 32 := 128#32
  let v22 : BitVec 32 := Scalar.muli arg15 c128_i32
  let v23 : BitVec 32 := v22
  let c128_i32_62 : BitVec 32 := 128#32
  let v164 : BitVec 32 := Scalar.addi v23 c128_i32_62
  let c384_i32 : BitVec 32 := 384#32
  let v165 : BitVec 32 := Scalar.subi v164 c384_i32
  let c0_i32_63 : BitVec 32 := 0#32
  let v166 : BitVec 32 := Scalar.maxsi v165 c0_i32_63
  let v167 : BitVec 32 := v166
  let v181 : Index := Scalar.indexCast v167
  let c0_67 : Index := 0#32
  ![v181.toNat, 0]
def k0_mult3 (k0_t1 : Fin k0_t1_loop.trips) : BitVec 32 :=
  let c2_i32 : BitVec 32 := 2#32
  let c0_i32 : BitVec 32 := 0#32
  let c1_i32 : BitVec 32 := 1#32
  let arg15 : BitVec 32 := Scf.iv c0_i32 c1_i32 k0_t1
  let c128_i32 : BitVec 32 := 128#32
  let v22 : BitVec 32 := Scalar.muli arg15 c128_i32
  let v23 : BitVec 32 := v22
  let v372 : BitVec 32 := Scalar.muli c2_i32 v23
  v372
def k0_off3 (k0_t1 : Fin k0_t1_loop.trips) : Fin 2 → Nat :=
  let c2_i32 : BitVec 32 := 2#32
  let c0_i32 : BitVec 32 := 0#32
  let c1_i32 : BitVec 32 := 1#32
  let arg15 : BitVec 32 := Scf.iv c0_i32 c1_i32 k0_t1
  let c128_i32 : BitVec 32 := 128#32
  let v22 : BitVec 32 := Scalar.muli arg15 c128_i32
  let v23 : BitVec 32 := v22
  let v372 : BitVec 32 := Scalar.muli c2_i32 v23
  let v373 : BitVec 32 := v372
  let v374 : Index := Scalar.indexCast v373
  let c0_117 : Index := 0#32
  ![v374.toNat, 0]
def k0_mult4 (k0_t1 : Fin k0_t1_loop.trips) : BitVec 32 :=
  let c2_i32_118 : BitVec 32 := 2#32
  let c0_i32 : BitVec 32 := 0#32
  let c1_i32 : BitVec 32 := 1#32
  let arg15 : BitVec 32 := Scf.iv c0_i32 c1_i32 k0_t1
  let c128_i32 : BitVec 32 := 128#32
  let v22 : BitVec 32 := Scalar.muli arg15 c128_i32
  let v23 : BitVec 32 := v22
  let v380 : BitVec 32 := Scalar.muli c2_i32_118 v23
  v380
@[reducible] def k0_t2_loop : Scf.Loop 32 :=
  let c8_i32_5 : BitVec 32 := 8#32
  let c24_i32 : BitVec 32 := 24#32
  let v9 : BitVec 32 := Scalar.addi c8_i32_5 c24_i32
  let c1_i32_6 : BitVec 32 := 1#32
  ⟨c8_i32_5, v9, c1_i32_6⟩
def k0_mult5 (k0_t2 : Fin k0_t2_loop.trips) : BitVec 32 :=
  let c8_i32_5 : BitVec 32 := 8#32
  let c1_i32_6 : BitVec 32 := 1#32
  let arg15 : BitVec 32 := Scf.iv c8_i32_5 c1_i32_6 k0_t2
  let c128_i32 : BitVec 32 := 128#32
  let v22 : BitVec 32 := Scalar.muli arg15 c128_i32
  v22
def k0_off4 (k0_t2 : Fin k0_t2_loop.trips) : Fin 2 → Nat :=
  let c8_i32_5 : BitVec 32 := 8#32
  let c1_i32_6 : BitVec 32 := 1#32
  let arg15 : BitVec 32 := Scf.iv c8_i32_5 c1_i32_6 k0_t2
  let c128_i32 : BitVec 32 := 128#32
  let v22 : BitVec 32 := Scalar.muli arg15 c128_i32
  let v23 : BitVec 32 := v22
  let v24 : Index := Scalar.indexCast v23
  let c0_24 : Index := 0#32
  ![v24.toNat, 0]
def k0_mult6 (k0_t2 : Fin k0_t2_loop.trips) : BitVec 32 :=
  let c8_i32_5 : BitVec 32 := 8#32
  let c1_i32_6 : BitVec 32 := 1#32
  let arg15 : BitVec 32 := Scf.iv c8_i32_5 c1_i32_6 k0_t2
  let c128_i32 : BitVec 32 := 128#32
  let v22 : BitVec 32 := Scalar.muli arg15 c128_i32
  let v23 : BitVec 32 := v22
  let c128_i32_62 : BitVec 32 := 128#32
  let v164 : BitVec 32 := Scalar.addi v23 c128_i32_62
  let c384_i32 : BitVec 32 := 384#32
  let v165 : BitVec 32 := Scalar.subi v164 c384_i32
  let c0_i32_63 : BitVec 32 := 0#32
  let v166 : BitVec 32 := Scalar.maxsi v165 c0_i32_63
  v166
def k0_off5 (k0_t2 : Fin k0_t2_loop.trips) : Fin 2 → Nat :=
  let c8_i32_5 : BitVec 32 := 8#32
  let c1_i32_6 : BitVec 32 := 1#32
  let arg15 : BitVec 32 := Scf.iv c8_i32_5 c1_i32_6 k0_t2
  let c128_i32 : BitVec 32 := 128#32
  let v22 : BitVec 32 := Scalar.muli arg15 c128_i32
  let v23 : BitVec 32 := v22
  let c128_i32_62 : BitVec 32 := 128#32
  let v164 : BitVec 32 := Scalar.addi v23 c128_i32_62
  let c384_i32 : BitVec 32 := 384#32
  let v165 : BitVec 32 := Scalar.subi v164 c384_i32
  let c0_i32_63 : BitVec 32 := 0#32
  let v166 : BitVec 32 := Scalar.maxsi v165 c0_i32_63
  let v167 : BitVec 32 := v166
  let v177 : Index := Scalar.indexCast v167
  let c0_67 : Index := 0#32
  ![v177.toNat, 0]
def k0_mult7 (k0_t2 : Fin k0_t2_loop.trips) : BitVec 32 :=
  let c2_i32 : BitVec 32 := 2#32
  let c8_i32_5 : BitVec 32 := 8#32
  let c1_i32_6 : BitVec 32 := 1#32
  let arg15 : BitVec 32 := Scf.iv c8_i32_5 c1_i32_6 k0_t2
  let c128_i32 : BitVec 32 := 128#32
  let v22 : BitVec 32 := Scalar.muli arg15 c128_i32
  let v23 : BitVec 32 := v22
  let v377 : BitVec 32 := Scalar.muli c2_i32 v23
  v377
def k0_off6 (k0_t2 : Fin k0_t2_loop.trips) : Fin 2 → Nat :=
  let c2_i32 : BitVec 32 := 2#32
  let c8_i32_5 : BitVec 32 := 8#32
  let c1_i32_6 : BitVec 32 := 1#32
  let arg15 : BitVec 32 := Scf.iv c8_i32_5 c1_i32_6 k0_t2
  let c128_i32 : BitVec 32 := 128#32
  let v22 : BitVec 32 := Scalar.muli arg15 c128_i32
  let v23 : BitVec 32 := v22
  let v377 : BitVec 32 := Scalar.muli c2_i32 v23
  let v378 : BitVec 32 := v377
  let v379 : Index := Scalar.indexCast v378
  let c0_117 : Index := 0#32
  ![v379.toNat, 0]
def k0_mult8 (k0_t2 : Fin k0_t2_loop.trips) : BitVec 32 :=
  let c2_i32_118 : BitVec 32 := 2#32
  let c8_i32_5 : BitVec 32 := 8#32
  let c1_i32_6 : BitVec 32 := 1#32
  let arg15 : BitVec 32 := Scf.iv c8_i32_5 c1_i32_6 k0_t2
  let c128_i32 : BitVec 32 := 128#32
  let v22 : BitVec 32 := Scalar.muli arg15 c128_i32
  let v23 : BitVec 32 := v22
  let v385 : BitVec 32 := Scalar.muli c2_i32_118 v23
  v385
@[reducible] def k0_t3_loop : Scf.Loop 32 :=
  let c0_i32_8 : BitVec 32 := 0#32
  let c32_i32 : BitVec 32 := 32#32
  let v10 : BitVec 32 := Scalar.addi c0_i32_8 c32_i32
  let c1_i32_9 : BitVec 32 := 1#32
  ⟨c0_i32_8, v10, c1_i32_9⟩
def k0_mult9 (k0_t3 : Fin k0_t3_loop.trips) : BitVec 32 :=
  let c0_i32_8 : BitVec 32 := 0#32
  let c1_i32_9 : BitVec 32 := 1#32
  let arg15 : BitVec 32 := Scf.iv c0_i32_8 c1_i32_9 k0_t3
  let c128_i32 : BitVec 32 := 128#32
  let v22 : BitVec 32 := Scalar.muli arg15 c128_i32
  v22
def k0_mult10 (k0_t3 : Fin k0_t3_loop.trips) : BitVec 32 :=
  let c2_i32 : BitVec 32 := 2#32
  let c0_i32_8 : BitVec 32 := 0#32
  let c1_i32_9 : BitVec 32 := 1#32
  let arg15 : BitVec 32 := Scf.iv c0_i32_8 c1_i32_9 k0_t3
  let c128_i32 : BitVec 32 := 128#32
  let v22 : BitVec 32 := Scalar.muli arg15 c128_i32
  let v23 : BitVec 32 := v22
  let v24 : BitVec 32 := Scalar.muli c2_i32 v23
  v24
def k0_off7 (k0_t3 : Fin k0_t3_loop.trips) : Fin 2 → Nat :=
  let c2_i32 : BitVec 32 := 2#32
  let c0_i32_8 : BitVec 32 := 0#32
  let c1_i32_9 : BitVec 32 := 1#32
  let arg15 : BitVec 32 := Scf.iv c0_i32_8 c1_i32_9 k0_t3
  let c128_i32 : BitVec 32 := 128#32
  let v22 : BitVec 32 := Scalar.muli arg15 c128_i32
  let v23 : BitVec 32 := v22
  let v24 : BitVec 32 := Scalar.muli c2_i32 v23
  let v25 : BitVec 32 := v24
  let v26 : Index := Scalar.indexCast v25
  let c0_24 : Index := 0#32
  ![v26.toNat, 0]
def k0_off8 (k0_t3 : Fin k0_t3_loop.trips) : Fin 2 → Nat :=
  let c0_i32_8 : BitVec 32 := 0#32
  let c1_i32_9 : BitVec 32 := 1#32
  let arg15 : BitVec 32 := Scf.iv c0_i32_8 c1_i32_9 k0_t3
  let c128_i32 : BitVec 32 := 128#32
  let v22 : BitVec 32 := Scalar.muli arg15 c128_i32
  let v23 : BitVec 32 := v22
  let v28 : Index := Scalar.indexCast v23
  let c0_25 : Index := 0#32
  ![v28.toNat, 0]
def k0_mult11 (k0_t3 : Fin k0_t3_loop.trips) : BitVec 32 :=
  let c0_i32_8 : BitVec 32 := 0#32
  let c1_i32_9 : BitVec 32 := 1#32
  let arg15 : BitVec 32 := Scf.iv c0_i32_8 c1_i32_9 k0_t3
  let c128_i32 : BitVec 32 := 128#32
  let v22 : BitVec 32 := Scalar.muli arg15 c128_i32
  let v23 : BitVec 32 := v22
  let c128_i32_63 : BitVec 32 := 128#32
  let v169 : BitVec 32 := Scalar.addi v23 c128_i32_63
  let c384_i32 : BitVec 32 := 384#32
  let v170 : BitVec 32 := Scalar.subi v169 c384_i32
  let c0_i32_64 : BitVec 32 := 0#32
  let v171 : BitVec 32 := Scalar.maxsi v170 c0_i32_64
  v171
def k0_mult12 (k0_t3 : Fin k0_t3_loop.trips) : BitVec 32 :=
  let c2_i32_65 : BitVec 32 := 2#32
  let c0_i32_8 : BitVec 32 := 0#32
  let c1_i32_9 : BitVec 32 := 1#32
  let arg15 : BitVec 32 := Scf.iv c0_i32_8 c1_i32_9 k0_t3
  let c128_i32 : BitVec 32 := 128#32
  let v22 : BitVec 32 := Scalar.muli arg15 c128_i32
  let v23 : BitVec 32 := v22
  let v173 : BitVec 32 := Scalar.muli c2_i32_65 v23
  v173
def k0_mult13 (arg16 : BitVec 32) : BitVec 32 :=
  let c256_i32 : BitVec 32 := 256#32
  let v222 : BitVec 32 := Scalar.subi arg16 c256_i32
  let c0_i32_79 : BitVec 32 := 0#32
  let v223 : BitVec 32 := Scalar.maxsi v222 c0_i32_79
  v223

def k0_off9 (arg16 : BitVec 32) : Fin 2 → Nat :=
  let c256_i32 : BitVec 32 := 256#32
  let v222 : BitVec 32 := Scalar.subi arg16 c256_i32
  let c0_i32_79 : BitVec 32 := 0#32
  let v223 : BitVec 32 := Scalar.maxsi v222 c0_i32_79
  let v224 : BitVec 32 := v223
  let v229 : Index := Scalar.indexCast v224
  let c0_80 : Index := 0#32
  ![v229.toNat, 0]

def k0_chk1 (arg16 : BitVec 32) : Prop :=
  (128 ∣ (k0_mult13 arg16).toNat) ∧
  (∀ a, (k0_off9 arg16) a + S256x128.size a ≤ S4096x128.size a)
theorem k0_mult13_dvd : ∀ (arg16 : BitVec 32) (k0_hw1 : k0_chk1 arg16), 128 ∣ (k0_mult13 arg16).toNat := fun arg16 k0_hw1 => k0_hw1.1
theorem k0_off9_inb : ∀ (arg16 : BitVec 32) (k0_hw1 : k0_chk1 arg16), ∀ a, (k0_off9 arg16) a + S256x128.size a ≤ S4096x128.size a := fun arg16 k0_hw1 => k0_hw1.2

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SbKernelIdeal.lean ====
variable {F : FTy → Type} [FloatOps F] [Named F]
def κ : String → Option EReal := fun
  | "cutoff" => some ⊥
  | "mask" => some ⊥
  | _ => none
-- ==== SbReferenceIdeal.lean ====
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x64x4096 : Shape := ⟨3, ![8, 64, 4096]⟩
abbrev S8x4096x64 : Shape := ⟨3, ![8, 4096, 64]⟩

abbrev nBuf : Space → Nat
  | .hbm => 172
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x8x64, .f32⟩
  | 5 => ⟨S4096x8x64, .f32⟩
  | 6 => ⟨S4096x8x64, .f32⟩
  | 7 => ⟨S8x4096x4096, .f32⟩
  | 8 => ⟨S_, .f32⟩
  | 9 => ⟨S8x4096x4096, .f32⟩
  | 10 => ⟨S8x4096x4096, .f32⟩
  | 11 => ⟨S4096, .i32⟩
  | 12 => ⟨S4096x1, .i32⟩
  | 13 => ⟨S4096, .i32⟩
  | 14 => ⟨S1x4096, .i32⟩
  | 15 => ⟨S4096x4096, .i32⟩
  | 16 => ⟨S4096x4096, .i32⟩
  | 17 => ⟨S4096x4096, .i1⟩
  | 18 => ⟨S_, .f32⟩
  | 19 => ⟨S8x4096x4096, .f32⟩
  | 20 => ⟨S8x4096x4096, .f32⟩
  | 21 => ⟨S8x4096x4096, .f32⟩
  | 22 => ⟨S8x4096x4096, .f32⟩
  | 23 => ⟨S8x4096x4096, .i1⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S_, .f32⟩
  | 33 => ⟨S8x4096x4096, .f32⟩
  | 34 => ⟨S8x4096x4096, .i1⟩
  | 35 => ⟨S_, .f32⟩
  | 36 => ⟨S8x4096x4096, .f32⟩
  | 37 => ⟨S8x4096x4096, .f32⟩
  | 38 => ⟨S_, .f32⟩
  | 39 => ⟨S8x4096x4096, .f32⟩
  | 40 => ⟨S8x4096x4096, .i1⟩
  | 41 => ⟨S_, .f32⟩
  | 42 => ⟨S8x4096x4096, .f32⟩
  | 43 => ⟨S8x4096x4096, .f32⟩
  | 44 => ⟨S8x4096x4096, .f32⟩
  | 45 => ⟨S8x4096x4096, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S8x4096x4096, .f32⟩
  | 54 => ⟨S8x4096x4096, .i1⟩
  | 55 => ⟨S_, .f32⟩
  | 56 => ⟨S8x4096x4096, .f32⟩
  | 57 => ⟨S8x4096x4096, .f32⟩
  | 58 => ⟨S8x4096x4096, .f32⟩
  | 59 => ⟨S8x4096x4096, .f32⟩
  | 60 => ⟨S8x4096x4096, .f32⟩
  | 61 => ⟨S_, .f32⟩
  | 62 => ⟨S8x4096x4096, .f32⟩
  | 63 => ⟨S8x4096x4096, .f32⟩
  | 64 => ⟨S8x4096x4096, .f32⟩
  | 65 => ⟨S_, .f32⟩
  | 66 => ⟨S_, .f32⟩
  | 67 => ⟨S8x4096x4096, .i1⟩
  | 68 => ⟨S8x4096x4096, .f32⟩
  | 69 => ⟨S8x4096x4096, .f32⟩
  | 70 => ⟨S_, .f32⟩
  | 71 => ⟨S8x4096x4096, .f32⟩
  | 72 => ⟨S_, .f32⟩
  | 73 => ⟨S_, .f32⟩
  | 74 => ⟨S8x4096x4096, .f32⟩
  | 75 => ⟨S8x4096x4096, .f32⟩
  | 76 => ⟨S8x4096x4096, .f32⟩
  | 77 => ⟨S_, .f32⟩
  | 78 => ⟨S8x4096x4096, .f32⟩
  | 79 => ⟨S8x4096x4096, .f32⟩
  | 80 => ⟨S8x4096x4096, .f32⟩
  | 81 => ⟨S8x4096x4096, .f32⟩
  | 82 => ⟨S8x4096x4096, .i1⟩
  | 83 => ⟨S8x4096x4096, .f32⟩
  | 84 => ⟨S8x4096x4096, .f32⟩
  | 85 => ⟨S8x4096x4096, .f32⟩
  | 86 => ⟨S8x4096x4096, .f32⟩
  | 87 => ⟨S8x4096x4096, .f32⟩
  | 88 => ⟨S8x4096x4096, .f32⟩
  | 89 => ⟨S8x4096x4096, .f32⟩
  | 90 => ⟨S8x4096x4096, .f32⟩
  | 91 => ⟨S_, .f32⟩
  | 92 => ⟨S8x4096x4096, .f32⟩
  | 93 => ⟨S8x4096x4096, .i1⟩
  | 94 => ⟨S_, .f32⟩
  | 95 => ⟨S8x4096x4096, .f32⟩
  | 96 => ⟨S8x4096x4096, .f32⟩
  | 97 => ⟨S_, .f32⟩
  | 98 => ⟨S8x4096x4096, .f32⟩
  | 99 => ⟨S8x4096x4096, .i1⟩
  | 100 => ⟨S_, .f32⟩
  | 101 => ⟨S8x4096x4096, .f32⟩
  | 102 => ⟨S8x4096x4096, .f32⟩
  | 103 => ⟨S8x4096x4096, .f32⟩
  | 104 => ⟨S8x4096x4096, .f32⟩
  | 105 => ⟨S_, .f32⟩
  | 106 => ⟨S_, .f32⟩
  | 107 => ⟨S_, .i1⟩
  | 108 => ⟨S_, .f32⟩
  | 109 => ⟨S_, .f32⟩
  | 110 => ⟨S_, .f32⟩
  | 111 => ⟨S_, .f32⟩
  | 112 => ⟨S8x4096x4096, .f32⟩
  | 113 => ⟨S8x4096x4096, .i1⟩
  | 114 => ⟨S_, .f32⟩
  | 115 => ⟨S8x4096x4096, .f32⟩
  | 116 => ⟨S8x4096x4096, .f32⟩
  | 117 => ⟨S8x4096x4096, .f32⟩
  | 118 => ⟨S8x4096x4096, .f32⟩
  | 119 => ⟨S8x4096x4096, .f32⟩
  | 120 => ⟨S_, .f32⟩
  | 121 => ⟨S8x4096x4096, .f32⟩
  | 122 => ⟨S8x4096x4096, .f32⟩
  | 123 => ⟨S8x4096x4096, .f32⟩
  | 124 => ⟨S8x4096x4096, .f32⟩
  | 125 => ⟨S8x4096x4096, .f32⟩
  | 126 => ⟨S_, .f32⟩
  | 127 => ⟨S_, .f32⟩
  | _ => ⟨S4096x512, .f32⟩

abbrev hbmTy0_1 (i : Nat) : BufTy := match i % 128 with
  | 0 => ⟨S8x4096x4096, .i1⟩
  | 1 => ⟨S8x4096x4096, .f32⟩
  | 2 => ⟨S8x4096x4096, .f32⟩
  | 3 => ⟨S_, .f32⟩
  | 4 => ⟨S8x4096x4096, .f32⟩
  | 5 => ⟨S8x64x4096, .f32⟩
  | 6 => ⟨S4096x8x64, .f32⟩
  | 7 => ⟨S4096x512, .f32⟩
  | 8 => ⟨S4096x8x64, .f32⟩
  | 9 => ⟨S8x64x4096, .f32⟩
  | 10 => ⟨S8x4096x4096, .f32⟩
  | 11 => ⟨S8x64x4096, .f32⟩
  | 12 => ⟨S4096x8x64, .f32⟩
  | 13 => ⟨S_, .f32⟩
  | 14 => ⟨S8x4096x4096, .f32⟩
  | 15 => ⟨S8x4096x4096, .f32⟩
  | 16 => ⟨S8x4096x4096, .f32⟩
  | 17 => ⟨S8x4096x4096, .f32⟩
  | 18 => ⟨S8x4096x4096, .f32⟩
  | 19 => ⟨S8x4096x4096, .f32⟩
  | 20 => ⟨S8x4096x4096, .f32⟩
  | 21 => ⟨S_, .f32⟩
  | 22 => ⟨S_, .f32⟩
  | 23 => ⟨S8x4096x4096, .f32⟩
  | 24 => ⟨S8x4096x4096, .f32⟩
  | 25 => ⟨S_, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S_, .f32⟩
  | 32 => ⟨S8x4096x4096, .f32⟩
  | 33 => ⟨S8x4096x4096, .f32⟩
  | 34 => ⟨S8x4096x64, .f32⟩
  | 35 => ⟨S4096x8x64, .f32⟩
  | 36 => ⟨S8x4096x64, .f32⟩
  | 37 => ⟨S4096x8x64, .f32⟩
  | 38 => ⟨S4096x512, .f32⟩
  | 39 => ⟨S4096x512, .f32⟩
  | 40 => ⟨S4096x512, .f32⟩
  | 41 => ⟨S4096x512, .bf16⟩
  | 42 => ⟨S4096x512, .bf16⟩
  | 43 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v13_0 : Ref sig .tc := ⟨.hbm, 31, rfl⟩
abbrev main_call0_cst_0 : Ref sig .tc := ⟨.hbm, 32, rfl⟩
abbrev main_call0_v13 : Ref sig .tc := ⟨.hbm, 33, rfl⟩
abbrev main_call0_v14 : Ref sig .tc := ⟨.hbm, 34, rfl⟩
abbrev main_call0_cst_1 : Ref sig .tc := ⟨.hbm, 35, rfl⟩
abbrev main_call0_v15 : Ref sig .tc := ⟨.hbm, 36, rfl⟩
abbrev main_call0_v16 : Ref sig .tc := ⟨.hbm, 37, rfl⟩
abbrev main_call0_cst_2 : Ref sig .tc := ⟨.hbm, 38, rfl⟩
abbrev main_call0_v17 : Ref sig .tc := ⟨.hbm, 39, rfl⟩
abbrev main_call0_v18 : Ref sig .tc := ⟨.hbm, 40, rfl⟩
abbrev main_call0_cst_3 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_v13_1 : Ref sig .tc := ⟨.hbm, 45, rfl⟩
abbrev main_call0_cst_4 : Ref sig .tc := ⟨.hbm, 46, rfl⟩
abbrev main_call0_cst_5 : Ref sig .tc := ⟨.hbm, 47, rfl⟩
abbrev main_call0_v23 : Ref sig .tc := ⟨.hbm, 48, rfl⟩
abbrev main_call0_cst_6 : Ref sig .tc := ⟨.hbm, 49, rfl⟩
abbrev main_call0_cst_7 : Ref sig .tc := ⟨.hbm, 50, rfl⟩
abbrev main_call0_v24 : Ref sig .tc := ⟨.hbm, 51, rfl⟩
abbrev main_call0_cst_8 : Ref sig .tc := ⟨.hbm, 52, rfl⟩
abbrev main_call0_v25 : Ref sig .tc := ⟨.hbm, 53, rfl⟩
abbrev main_call0_v26 : Ref sig .tc := ⟨.hbm, 54, rfl⟩
abbrev main_call0_cst_9 : Ref sig .tc := ⟨.hbm, 55, rfl⟩
abbrev main_call0_v27 : Ref sig .tc := ⟨.hbm, 56, rfl⟩
abbrev main_call0_v28 : Ref sig .tc := ⟨.hbm, 57, rfl⟩
abbrev main_call0_v29 : Ref sig .tc := ⟨.hbm, 58, rfl⟩
abbrev main_call0_v30 : Ref sig .tc := ⟨.hbm, 59, rfl⟩
abbrev main_call0_v31 : Ref sig .tc := ⟨.hbm, 60, rfl⟩
abbrev main_call0_cst_10 : Ref sig .tc := ⟨.hbm, 61, rfl⟩
abbrev main_call0_v32 : Ref sig .tc := ⟨.hbm, 62, rfl⟩
abbrev main_v13_2 : Ref sig .tc := ⟨.hbm, 63, rfl⟩
abbrev main_v14 : Ref sig .tc := ⟨.hbm, 64, rfl⟩
abbrev main_cst_0 : Ref sig .tc := ⟨.hbm, 65, rfl⟩
abbrev main_call1_v0 : Ref sig .tc := ⟨.hbm, 66, rfl⟩
abbrev main_v15_1 : Ref sig .tc := ⟨.hbm, 67, rfl⟩
abbrev main_call1_v2 : Ref sig .tc := ⟨.hbm, 68, rfl⟩
abbrev main_v15_0 : Ref sig .tc := ⟨.hbm, 69, rfl⟩
abbrev main_call1_cst : Ref sig .tc := ⟨.hbm, 70, rfl⟩
abbrev main_v15_2 : Ref sig .tc := ⟨.hbm, 71, rfl⟩
abbrev main_call2_cst : Ref sig .tc := ⟨.hbm, 72, rfl⟩
abbrev main_call2_v0 : Ref sig .tc := ⟨.hbm, 73, rfl⟩
abbrev main_v16 : Ref sig .tc := ⟨.hbm, 74, rfl⟩
abbrev main_v17 : Ref sig .tc := ⟨.hbm, 75, rfl⟩
abbrev main_call3_v0 : Ref sig .tc := ⟨.hbm, 76, rfl⟩
abbrev main_call3_call0_cst : Ref sig .tc := ⟨.hbm, 77, rfl⟩
abbrev main_call3_call0_v0 : Ref sig .tc := ⟨.hbm, 78, rfl⟩
abbrev main_call3_call0_v1 : Ref sig .tc := ⟨.hbm, 79, rfl⟩
abbrev main_call3_call0_v2 : Ref sig .tc := ⟨.hbm, 80, rfl⟩
abbrev main_call3_call0_v3 : Ref sig .tc := ⟨.hbm, 81, rfl⟩
abbrev main_call3_call0_v4 : Ref sig .tc := ⟨.hbm, 82, rfl⟩
abbrev main_call3_call0_v5 : Ref sig .tc := ⟨.hbm, 83, rfl⟩
abbrev main_call3_call0_v6 : Ref sig .tc := ⟨.hbm, 84, rfl⟩
abbrev main_call3_call0_v7 : Ref sig .tc := ⟨.hbm, 85, rfl⟩
abbrev main_call3_call0_v8 : Ref sig .tc := ⟨.hbm, 86, rfl⟩
abbrev main_call3_call0_v9 : Ref sig .tc := ⟨.hbm, 87, rfl⟩
abbrev main_call3_call0_v10 : Ref sig .tc := ⟨.hbm, 88, rfl⟩
abbrev main_call3_call0_v11 : Ref sig .tc := ⟨.hbm, 89, rfl⟩
abbrev main_call3_v1_0 : Ref sig .tc := ⟨.hbm, 90, rfl⟩
abbrev main_call3_call0_cst_0 : Ref sig .tc := ⟨.hbm, 91, rfl⟩
abbrev main_call3_call0_v13 : Ref sig .tc := ⟨.hbm, 92, rfl⟩
abbrev main_call3_call0_v14 : Ref sig .tc := ⟨.hbm, 93, rfl⟩
abbrev main_call3_call0_cst_1 : Ref sig .tc := ⟨.hbm, 94, rfl⟩
abbrev main_call3_call0_v15 : Ref sig .tc := ⟨.hbm, 95, rfl⟩
abbrev main_call3_call0_v16 : Ref sig .tc := ⟨.hbm, 96, rfl⟩
abbrev main_call3_call0_cst_2 : Ref sig .tc := ⟨.hbm, 97, rfl⟩
abbrev main_call3_call0_v17 : Ref sig .tc := ⟨.hbm, 98, rfl⟩
abbrev main_call3_call0_v18 : Ref sig .tc := ⟨.hbm, 99, rfl⟩
abbrev main_call3_call0_cst_3 : Ref sig .tc := ⟨.hbm, 100, rfl⟩
abbrev main_call3_call0_v19 : Ref sig .tc := ⟨.hbm, 101, rfl⟩
abbrev main_call3_call0_v20 : Ref sig .tc := ⟨.hbm, 102, rfl⟩
abbrev main_call3_call0_v21 : Ref sig .tc := ⟨.hbm, 103, rfl⟩
abbrev main_v18_1 : Ref sig .tc := ⟨.hbm, 104, rfl⟩
abbrev main_call3_call0_cst_4 : Ref sig .tc := ⟨.hbm, 105, rfl⟩
abbrev main_call3_call0_cst_5 : Ref sig .tc := ⟨.hbm, 106, rfl⟩
abbrev main_call3_call0_v23 : Ref sig .tc := ⟨.hbm, 107, rfl⟩
abbrev main_call3_call0_cst_6 : Ref sig .tc := ⟨.hbm, 108, rfl⟩
abbrev main_call3_call0_cst_7 : Ref sig .tc := ⟨.hbm, 109, rfl⟩
abbrev main_call3_call0_v24 : Ref sig .tc := ⟨.hbm, 110, rfl⟩
abbrev main_call3_call0_cst_8 : Ref sig .tc := ⟨.hbm, 111, rfl⟩
abbrev main_call3_call0_v25 : Ref sig .tc := ⟨.hbm, 112, rfl⟩
abbrev main_call3_call0_v26 : Ref sig .tc := ⟨.hbm, 113, rfl⟩
abbrev main_call3_call0_cst_9 : Ref sig .tc := ⟨.hbm, 114, rfl⟩
abbrev main_call3_call0_v27 : Ref sig .tc := ⟨.hbm, 115, rfl⟩
abbrev main_call3_call0_v28 : Ref sig .tc := ⟨.hbm, 116, rfl⟩
abbrev main_call3_call0_v29 : Ref sig .tc := ⟨.hbm, 117, rfl⟩
abbrev main_call3_call0_v30 : Ref sig .tc := ⟨.hbm, 118, rfl⟩
abbrev main_call3_call0_v31 : Ref sig .tc := ⟨.hbm, 119, rfl⟩
abbrev main_call3_call0_cst_10 : Ref sig .tc := ⟨.hbm, 120, rfl⟩
abbrev main_call3_call0_v32 : Ref sig .tc := ⟨.hbm, 121, rfl⟩
abbrev main_v18_2 : Ref sig .tc := ⟨.hbm, 122, rfl⟩
abbrev main_v18_0 : Ref sig .tc := ⟨.hbm, 123, rfl⟩
abbrev main_v19 : Ref sig .tc := ⟨.hbm, 124, rfl⟩
abbrev main_v20 : Ref sig .tc := ⟨.hbm, 125, rfl⟩
abbrev main_cst_1 : Ref sig .tc := ⟨.hbm, 126, rfl⟩
abbrev main_call4_v0 : Ref sig .tc := ⟨.hbm, 127, rfl⟩
abbrev main_v21_1 : Ref sig .tc := ⟨.hbm, 128, rfl⟩
abbrev main_call4_v2 : Ref sig .tc := ⟨.hbm, 129, rfl⟩
abbrev main_v21_0 : Ref sig .tc := ⟨.hbm, 130, rfl⟩
abbrev main_call4_cst : Ref sig .tc := ⟨.hbm, 131, rfl⟩
abbrev main_v21_2 : Ref sig .tc := ⟨.hbm, 132, rfl⟩
abbrev main_v22 : Ref sig .tc := ⟨.hbm, 133, rfl⟩
abbrev main_v23 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_call5_cst : Ref sig .tc := ⟨.hbm, 141, rfl⟩
abbrev main_call5_v0 : Ref sig .tc := ⟨.hbm, 142, rfl⟩
abbrev main_v30 : Ref sig .tc := ⟨.hbm, 143, rfl⟩
abbrev main_v31 : Ref sig .tc := ⟨.hbm, 144, rfl⟩
abbrev main_call6_v0 : Ref sig .tc := ⟨.hbm, 145, rfl⟩
abbrev main_call6_v1 : Ref sig .tc := ⟨.hbm, 146, rfl⟩
abbrev main_v32 : Ref sig .tc := ⟨.hbm, 147, rfl⟩
abbrev main_v33 : Ref sig .tc := ⟨.hbm, 148, rfl⟩
abbrev main_call7_cst : Ref sig .tc := ⟨.hbm, 149, rfl⟩
abbrev main_call7_v0 : Ref sig .tc := ⟨.hbm, 150, rfl⟩
abbrev main_v34 : Ref sig .tc := ⟨.hbm, 151, rfl⟩
abbrev main_v35 : Ref sig .tc := ⟨.hbm, 152, rfl⟩
abbrev main_call8_cst : Ref sig .tc := ⟨.hbm, 153, rfl⟩
abbrev main_call8_v0 : Ref sig .tc := ⟨.hbm, 154, rfl⟩
abbrev main_v36 : Ref sig .tc := ⟨.hbm, 155, rfl⟩
abbrev main_v37 : Ref sig .tc := ⟨.hbm, 156, rfl⟩
abbrev main_v38 : Ref sig .tc := ⟨.hbm, 157, rfl⟩
abbrev main_v39 : Ref sig .tc := ⟨.hbm, 158, rfl⟩
abbrev main_cst_2 : Ref sig .tc := ⟨.hbm, 159, rfl⟩
abbrev main_v40 : Ref sig .tc := ⟨.hbm, 160, rfl⟩
abbrev main_v41 : Ref sig .tc := ⟨.hbm, 161, rfl⟩
abbrev main_v42 : Ref sig .tc := ⟨.hbm, 162, rfl⟩
abbrev main_v43 : Ref sig .tc := ⟨.hbm, 163, rfl⟩
abbrev main_v44 : Ref sig .tc := ⟨.hbm, 164, rfl⟩
abbrev main_v45 : Ref sig .tc := ⟨.hbm, 165, rfl⟩
abbrev main_v46 : Ref sig .tc := ⟨.hbm, 166, rfl⟩
abbrev main_v47 : Ref sig .tc := ⟨.hbm, 167, rfl⟩
abbrev main_v48 : Ref sig .tc := ⟨.hbm, 168, rfl⟩
abbrev main_v49 : Ref sig .tc := ⟨.hbm, 169, rfl⟩
abbrev main_v50 : Ref sig .tc := ⟨.hbm, 170, rfl⟩
abbrev main_v51 : Ref sig .tc := ⟨.hbm, 171, rfl⟩

abbrev nD : Nat := 1
abbrev τ : Topo := Topo.v7x

variable {F : FTy → Type} [FloatOps F]
-- ==== MlpKernel.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S1024x8x512 : Shape := ⟨3, ![1024, 8, 512]⟩
abbrev S8x1024x512 : Shape := ⟨3, ![8, 1024, 512]⟩
abbrev S1x1024 : Shape := ⟨2, ![1, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S1024x4096, .bf16⟩
  | .hbm, ⟨6, _⟩ => ⟨S1024x8x512, .bf16⟩
  | .hbm, ⟨7, _⟩ => ⟨S8x1024x512, .bf16⟩
  | .hbm, ⟨8, _⟩ => ⟨S4096x4096, .bf16⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpReferenceIdeal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== InKernel.lean ====
abbrev S4096x1024 : Shape := ⟨2, ![4096, 1024]⟩
abbrev S1024 : Shape := ⟨1, ![1024]⟩
abbrev S1024x4352 : Shape := ⟨2, ![1024, 4352]⟩
abbrev S4096x512 : Shape := ⟨2, ![4096, 512]⟩
abbrev S4096x128 : Shape := ⟨2, ![4096, 128]⟩
abbrev S4096x2048 : Shape := ⟨2, ![4096, 2048]⟩
abbrev S4352x1024 : Shape := ⟨2, ![4352, 1024]⟩
abbrev S1x1024 : Shape := ⟨2, ![1, 1024]⟩
abbrev S512x512 : Shape := ⟨2, ![512, 512]⟩
abbrev S512x128 : Shape := ⟨2, ![512, 128]⟩
abbrev S512x2048 : Shape := ⟨2, ![512, 2048]⟩
abbrev S512x1024 : Shape := ⟨2, ![512, 1024]⟩
abbrev S128x1024 : Shape := ⟨2, ![128, 1024]⟩
abbrev S2048x1024 : Shape := ⟨2, ![2048, 1024]⟩
abbrev S512 : Shape := ⟨1, ![512]⟩
abbrev S512x1 : Shape := ⟨2, ![512, 1]⟩

abbrev nBuf : Space → Nat
  | .hbm => 24
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x128, .f32⟩
  | .hbm, ⟨8, _⟩ => ⟨S4096x128, .f32⟩
  | .hbm, ⟨9, _⟩ => ⟨S4096x2048, .f32⟩
  | .hbm, ⟨10, _⟩ => ⟨S4096x1024, .f32⟩
  | .hbm, ⟨11, _⟩ => ⟨S4352x1024, .f32⟩
  | .hbm, ⟨12, _⟩ => ⟨S4352x1024, .bf16⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S4096x512, .bf16⟩
  | .hbm, ⟨17, _⟩ => ⟨S4096x128, .bf16⟩
  | .hbm, ⟨18, _⟩ => ⟨S4096x128, .bf16⟩
  | .hbm, ⟨19, _⟩ => ⟨S4096x2048, .bf16⟩
  | .hbm, ⟨20, _⟩ => ⟨S1x1024, .f32⟩
  | .hbm, ⟨21, _⟩ => ⟨S4096x1024, .f32⟩
  | .hbm, ⟨22, _⟩ => ⟨S4096x1024, .bf16⟩
  | .hbm, ⟨23, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x2048, .bf16⟩
  | .local _ .vmem, ⟨13, _⟩ => ⟨S512x2048, .bf16⟩
  | .local _ .vmem, ⟨14, _⟩ => ⟨S4352x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4352x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InReferenceIdeal.lean ====
abbrev S4096x1024 : Shape := ⟨2, ![4096, 1024]⟩
abbrev S1024 : Shape := ⟨1, ![1024]⟩
abbrev S1024x4352 : Shape := ⟨2, ![1024, 4352]⟩
abbrev S4096x512 : Shape := ⟨2, ![4096, 512]⟩
abbrev S4096x128 : Shape := ⟨2, ![4096, 128]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4352 : Shape := ⟨2, ![4096, 4352]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x128, .f32⟩
  | .hbm, ⟨8, _⟩ => ⟨S4096x128, .f32⟩
  | .hbm, ⟨9, _⟩ => ⟨S4096x2048, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x4352, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x128, .f32⟩
  | .hbm, ⟨37, _⟩ => ⟨S4096x128, .f32⟩
  | .hbm, ⟨38, _⟩ => ⟨S4096x2048, .f32⟩
  | .hbm, ⟨39, _⟩ => ⟨S4096x4352, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .bf16⟩
  | .hbm, ⟨68, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== PrepKernel.lean ====
abbrev S4096x512 : Shape := ⟨2, ![4096, 512]⟩
abbrev S4096x128 : Shape := ⟨2, ![4096, 128]⟩
abbrev S64 : Shape := ⟨1, ![64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x1536 : Shape := ⟨2, ![4096, 1536]⟩
abbrev S4096x2304 : Shape := ⟨2, ![4096, 2304]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S128 : Shape := ⟨1, ![128]⟩
abbrev S128x1 : Shape := ⟨2, ![128, 1]⟩
abbrev S128x128 : Shape := ⟨2, ![128, 128]⟩
abbrev S1x512 : Shape := ⟨2, ![1, 512]⟩
abbrev S512x512 : Shape := ⟨2, ![512, 512]⟩
abbrev S512x128 : Shape := ⟨2, ![512, 128]⟩

abbrev nBuf : Space → Nat
  | .hbm => 87
  | .vmem => 25
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S64, .f32⟩
  | .hbm, ⟨4, _⟩ => ⟨S64, .f32⟩
  | .hbm, ⟨5, _⟩ => ⟨S4096x512, .f32⟩
  | .hbm, ⟨6, _⟩ => ⟨S4096x128, .f32⟩
  | .hbm, ⟨7, _⟩ => ⟨S4096x128, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S4096, .f32⟩
  | .hbm, ⟨25, _⟩ => ⟨S4096x1, .f32⟩
  | .hbm, ⟨26, _⟩ => ⟨S1x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x64, .f32⟩
  | .hbm, ⟨33, _⟩ => ⟨S1x4096x1x64, .f32⟩
  | .hbm, ⟨34, _⟩ => ⟨S1x4096x2x64, .f32⟩
  | .hbm, ⟨35, _⟩ => ⟨S4096x128, .f32⟩
  | .hbm, ⟨36, _⟩ => ⟨S4096x32, .f32⟩
  | .hbm, ⟨37, _⟩ => ⟨S4096x64, .f32⟩
  | .hbm, ⟨38, _⟩ => ⟨S1x4096x1x64, .f32⟩
  | .hbm, ⟨39, _⟩ => ⟨S1x4096x2x64, .f32⟩
  | .hbm, ⟨40, _⟩ => ⟨S4096x128, .f32⟩
  | .hbm, ⟨41, _⟩ => ⟨S_, .f32⟩
  | .hbm, ⟨42, _⟩ => ⟨S4096x1536, .f32⟩
  | .hbm, ⟨43, _⟩ => ⟨S4096x2304, .f32⟩
  | .hbm, ⟨44, _⟩ => ⟨S4096x2304, .bf16⟩
  | .hbm, ⟨45, _⟩ => ⟨S1x64, .f32⟩
  | .hbm, ⟨46, _⟩ => ⟨S1x1x1x64, .f32⟩
  | .hbm, ⟨47, _⟩ => ⟨S1x1x2x64, .f32⟩
  | .hbm, ⟨48, _⟩ => ⟨S1x128, .f32⟩
  | .hbm, ⟨49, _⟩ => ⟨S1x64, .f32⟩
  | .hbm, ⟨50, _⟩ => ⟨S1x1x1x64, .f32⟩
  | .hbm, ⟨51, _⟩ => ⟨S1x1x2x64, .f32⟩
  | .hbm, ⟨52, _⟩ => ⟨S1x128, .f32⟩
  | .hbm, ⟨53, _⟩ => ⟨S128, .i32⟩
  | .hbm, ⟨54, _⟩ => ⟨S_, .i32⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S128, .i32⟩
  | .hbm, ⟨59, _⟩ => ⟨S_, .i32⟩
  | .hbm, ⟨60, _⟩ => ⟨S128, .i32⟩
  | .hbm, ⟨61, _⟩ => ⟨S128, .i1⟩
  | .hbm, ⟨62, _⟩ => ⟨S128, .i32⟩
  | .hbm, ⟨63, _⟩ => ⟨S128, .i32⟩
  | .hbm, ⟨64, _⟩ => ⟨S_, .i32⟩
  | .hbm, ⟨65, _⟩ => ⟨S128, .i32⟩
  | .hbm, ⟨66, _⟩ => ⟨S128, .i1⟩
  | .hbm, ⟨67, _⟩ => ⟨S128, .i1⟩
  | .hbm, ⟨68, _⟩ => ⟨S_, .i32⟩
  | .hbm, ⟨69, _⟩ => ⟨S128, .i32⟩
  | .hbm, ⟨70, _⟩ => ⟨S128, .i32⟩
  | .hbm, ⟨71, _⟩ => ⟨S128, .i32⟩
  | .hbm, ⟨72, _⟩ => ⟨S128x1, .i32⟩
  | .hbm, ⟨73, _⟩ => ⟨S1x128, .i32⟩
  | .hbm, ⟨74, _⟩ => ⟨S128x128, .i32⟩
  | .hbm, ⟨75, _⟩ => ⟨S128x128, .i32⟩
  | .hbm, ⟨76, _⟩ => ⟨S128x128, .i1⟩
  | .hbm, ⟨77, _⟩ => ⟨S128x128, .f32⟩
  | .hbm, ⟨78, _⟩ => ⟨S_, .f32⟩
  | .hbm, ⟨79, _⟩ => ⟨S128x128, .f32⟩
  | .hbm, ⟨80, _⟩ => ⟨S128x128, .f32⟩
  | .hbm, ⟨81, _⟩ => ⟨S128x128, .bf16⟩
  | .hbm, ⟨82, _⟩ => ⟨S4096x512, .bf16⟩
  | .hbm, ⟨83, _⟩ => ⟨S4096x128, .bf16⟩
  | .hbm, ⟨84, _⟩ => ⟨S4096x128, .bf16⟩
  | .hbm, ⟨85, _⟩ => ⟨S1x512, .f32⟩
  | .hbm, ⟨86, _⟩ => ⟨S1x128, .f32⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S512x512, .f32⟩
  | .local _ .vmem, ⟨12, _⟩ => ⟨S512x512, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x512, .bf16⟩
  | .local _ .vmem, ⟨18, _⟩ => ⟨S512x512, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S512x128, .bf16⟩
  | .local _ .vmem, ⟨23, _⟩ => ⟨S1x512, .f32⟩
  | .local _ .vmem, ⟨24, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_c : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_c_0 : Ref sig .tc := ⟨.hbm, 68, rfl⟩
abbrev main_call0_v12 : Ref sig .tc := ⟨.hbm, 69, rfl⟩
abbrev main_call0_v13 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_5 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50_0 : Ref sig .tc := ⟨.hbm, 82, rfl⟩
abbrev main_v50_1 : Ref sig .tc := ⟨.hbm, 83, rfl⟩
abbrev main_v50_2 : Ref sig .tc := ⟨.hbm, 84, rfl⟩
abbrev main_v50_3 : Ref sig .tc := ⟨.hbm, 85, rfl⟩
abbrev main_v50_4 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== PrepKernelIdeal.lean ====
variable {F : FTy → Type} [FloatOps F]
-- ==== PrepReferenceIdeal.lean ====
abbrev S4096x512 : Shape := ⟨2, ![4096, 512]⟩
abbrev S4096x128 : Shape := ⟨2, ![4096, 128]⟩
abbrev S64 : Shape := ⟨1, ![64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S8x64 : Shape := ⟨2, ![8, 64]⟩
abbrev S2x64 : Shape := ⟨2, ![2, 64]⟩
abbrev S1x4096x8x64 : Shape := ⟨4, ![1, 4096, 8, 64]⟩
abbrev S1x4096x8 : Shape := ⟨3, ![1, 4096, 8]⟩
abbrev S1x4096x8x1 : Shape := ⟨4, ![1, 4096, 8, 1]⟩
abbrev S1x1x8x64 : Shape := ⟨4, ![1, 1, 8, 64]⟩
abbrev S1x4096x1x32 : Shape := ⟨4, ![1, 4096, 1, 32]⟩
abbrev S1x4096x8x32 : Shape := ⟨4, ![1, 4096, 8, 32]⟩
abbrev S1x4096x2x64 : Shape := ⟨4, ![1, 4096, 2, 64]⟩
abbrev S1x4096x2 : Shape := ⟨3, ![1, 4096, 2]⟩
abbrev S1x4096x2x1 : Shape := ⟨4, ![1, 4096, 2, 1]⟩
abbrev S1x1x2x64 : Shape := ⟨4, ![1, 1, 2, 64]⟩
abbrev S1x4096x2x32 : Shape := ⟨4, ![1, 4096, 2, 32]⟩
abbrev S1x2x64 : Shape := ⟨3, ![1, 2, 64]⟩
abbrev S4096x2 : Shape := ⟨2, ![4096, 2]⟩
abbrev S1x8x64 : Shape := ⟨3, ![1, 8, 64]⟩
abbrev S4096x8 : Shape := ⟨2, ![4096, 8]⟩
abbrev S1x512 : Shape := ⟨2, ![1, 512]⟩
abbrev S1x128 : Shape := ⟨2, ![1, 128]⟩

abbrev nBuf : Space → Nat
  | .hbm => 197
  | .vmem => 0
  | .smem => 0
  | _ => 0

abbrev hbmTy0_0 (i : Nat) : BufTy := match i % 128 with
  | 0 => ⟨S4096x512, .f32⟩
  | 1 => ⟨S4096x128, .f32⟩
  | 2 => ⟨S4096x128, .f32⟩
  | 3 => ⟨S64, .f32⟩
  | 4 => ⟨S64, .f32⟩
  | 5 => ⟨S4096x512, .f32⟩
  | 6 => ⟨S4096x128, .f32⟩
  | 7 => ⟨S4096x128, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S4096, .f32⟩
  | 25 => ⟨S4096x1, .f32⟩
  | 26 => ⟨S1x32, .f32⟩
  | 27 => ⟨S4096x32, .f32⟩
  | 28 => ⟨S4096x32, .f32⟩
  | 29 => ⟨S4096x32, .f32⟩
  | 30 => ⟨S4096x32, .f32⟩
  | 31 => ⟨S4096x32, .f32⟩
  | 32 => ⟨S8x64, .f32⟩
  | 33 => ⟨S2x64, .f32⟩
  | 34 => ⟨S1x4096x8x64, .f32⟩
  | 35 => ⟨S1x4096x8x64, .f32⟩
  | 36 => ⟨S_, .f32⟩
  | 37 => ⟨S1x4096x8, .f32⟩
  | 38 => ⟨S1x4096x8x1, .f32⟩
  | 39 => ⟨S_, .f32⟩
  | 40 => ⟨S1x4096x8x1, .f32⟩
  | 41 => ⟨S1x4096x8x1, .f32⟩
  | 42 => ⟨S_, .f32⟩
  | 43 => ⟨S1x4096x8x1, .f32⟩
  | 44 => ⟨S1x4096x8x1, .f32⟩
  | 45 => ⟨S1x4096x8x1, .f32⟩
  | 46 => ⟨S1x4096x8x1, .f32⟩
  | 47 => ⟨S_, .f32⟩
  | 48 => ⟨S1x4096x8x1, .f32⟩
  | 49 => ⟨S1x4096x8x1, .f32⟩
  | 50 => ⟨S1x4096x8x64, .f32⟩
  | 51 => ⟨S1x4096x8x64, .f32⟩
  | 52 => ⟨S1x1x8x64, .f32⟩
  | 53 => ⟨S1x4096x8x64, .f32⟩
  | 54 => ⟨S1x4096x8x64, .f32⟩
  | 55 => ⟨S1x4096x1x32, .f32⟩
  | 56 => ⟨S1x4096x1x32, .f32⟩
  | 57 => ⟨S1x4096x8x32, .f32⟩
  | 58 => ⟨S1x4096x8x32, .f32⟩
  | 59 => ⟨S1x4096x8x32, .f32⟩
  | 60 => ⟨S1x4096x8x32, .f32⟩
  | 61 => ⟨S1x4096x8x32, .f32⟩
  | 62 => ⟨S1x4096x8x32, .f32⟩
  | 63 => ⟨S1x4096x8x32, .f32⟩
  | 64 => ⟨S1x4096x8x32, .f32⟩
  | 65 => ⟨S1x4096x8x32, .f32⟩
  | 66 => ⟨S1x4096x8x32, .f32⟩
  | 67 => ⟨S1x4096x8x32, .f32⟩
  | 68 => ⟨S1x4096x8x32, .f32⟩
  | 69 => ⟨S1x4096x8x64, .f32⟩
  | 70 => ⟨S1x4096x2x64, .f32⟩
  | 71 => ⟨S1x4096x2x64, .f32⟩
  | 72 => ⟨S_, .f32⟩
  | 73 => ⟨S1x4096x2, .f32⟩
  | 74 => ⟨S1x4096x2x1, .f32⟩
  | 75 => ⟨S_, .f32⟩
  | 76 => ⟨S1x4096x2x1, .f32⟩
  | 77 => ⟨S1x4096x2x1, .f32⟩
  | 78 => ⟨S_, .f32⟩
  | 79 => ⟨S1x4096x2x1, .f32⟩
  | 80 => ⟨S1x4096x2x1, .f32⟩
  | 81 => ⟨S1x4096x2x1, .f32⟩
  | 82 => ⟨S1x4096x2x1, .f32⟩
  | 83 => ⟨S_, .f32⟩
  | 84 => ⟨S1x4096x2x1, .f32⟩
  | 85 => ⟨S1x4096x2x1, .f32⟩
  | 86 => ⟨S1x4096x2x64, .f32⟩
  | 87 => ⟨S1x4096x2x64, .f32⟩
  | 88 => ⟨S1x1x2x64, .f32⟩
  | 89 => ⟨S1x4096x2x64, .f32⟩
  | 90 => ⟨S1x4096x2x64, .f32⟩
  | 91 => ⟨S1x4096x1x32, .f32⟩
  | 92 => ⟨S1x4096x1x32, .f32⟩
  | 93 => ⟨S1x4096x2x32, .f32⟩
  | 94 => ⟨S1x4096x2x32, .f32⟩
  | 95 => ⟨S1x4096x2x32, .f32⟩
  | 96 => ⟨S1x4096x2x32, .f32⟩
  | 97 => ⟨S1x4096x2x32, .f32⟩
  | 98 => ⟨S1x4096x2x32, .f32⟩
  | 99 => ⟨S1x4096x2x32, .f32⟩
  | 100 => ⟨S1x4096x2x32, .f32⟩
  | 101 => ⟨S1x4096x2x32, .f32⟩
  | 102 => ⟨S1x4096x2x32, .f32⟩
  | 103 => ⟨S1x4096x2x32, .f32⟩
  | 104 => ⟨S1x4096x2x32, .f32⟩
  | 105 => ⟨S1x4096x2x64, .f32⟩
  | 106 => ⟨S4096x512, .f32⟩
  | 107 => ⟨S4096x128, .f32⟩
  | 108 => ⟨S1x4096x2x64, .f32⟩
  | 109 => ⟨S1x4096x8x64, .f32⟩
  | 110 => ⟨S1x4096x2x32, .f32⟩
  | 111 => ⟨S1x4096x2x32, .f32⟩
  | 112 => ⟨S1x4096x2x32, .f32⟩
  | 113 => ⟨S1x4096x2x32, .f32⟩
  | 114 => ⟨S1x4096x2x32, .f32⟩
  | 115 => ⟨S1x4096x2x32, .f32⟩
  | 116 => ⟨S1x4096x2x32, .f32⟩
  | 117 => ⟨S1x4096x2x32, .f32⟩
  | 118 => ⟨S1x4096x2x32, .f32⟩
  | 119 => ⟨S1x4096x2x32, .f32⟩
  | 120 => ⟨S1x4096x2x32, .f32⟩
  | 121 => ⟨S1x4096x2x32, .f32⟩
  | 122 => ⟨S1x4096x2x32, .f32⟩
  | 123 => ⟨S1x4096x2x64, .f32⟩
  | 124 => ⟨S1x4096x2x64, .f32⟩
  | 125 => ⟨S_, .f32⟩
  | 126 => ⟨S1x2x64, .f32⟩
  | 127 => ⟨S1x1x2x64, .f32⟩
  | _ => ⟨S4096x512, .f32⟩

abbrev hbmTy0_1 (i : Nat) : BufTy := match i % 128 with
  | 0 => ⟨S1x4096x2x64, .f32⟩
  | 1 => ⟨S1x4096x2x64, .f32⟩
  | 2 => ⟨S_, .f32⟩
  | 3 => ⟨S2x64, .f32⟩
  | 4 => ⟨S1x4096x2x64, .f32⟩
  | 5 => ⟨S_, .f32⟩
  | 6 => ⟨S1x4096x2, .f32⟩
  | 7 => ⟨S1x4096x2x1, .f32⟩
  | 8 => ⟨S1x4096x2x64, .f32⟩
  | 9 => ⟨S1x4096x2x64, .f32⟩
  | 10 => ⟨S1x4096x2x1, .f32⟩
  | 11 => ⟨S_, .f32⟩
  | 12 => ⟨S1x4096x2x1, .f32⟩
  | 13 => ⟨S1x4096x2x1, .f32⟩
  | 14 => ⟨S_, .f32⟩
  | 15 => ⟨S4096x2, .f32⟩
  | 16 => ⟨S1x4096x2, .f32⟩
  | 17 => ⟨S1x4096x2x64, .f32⟩
  | 18 => ⟨S1x4096x2x64, .f32⟩
  | 19 => ⟨S1x4096x2x64, .f32⟩
  | 20 => ⟨S1x4096x2x64, .f32⟩
  | 21 => ⟨S1x4096x2x64, .f32⟩
  | 22 => ⟨S4096x128, .f32⟩
  | 23 => ⟨S1x4096x8x32, .f32⟩
  | 24 => ⟨S1x4096x8x32, .f32⟩
  | 25 => ⟨S1x4096x8x32, .f32⟩
  | 26 => ⟨S1x4096x8x32, .f32⟩
  | 27 => ⟨S1x4096x8x32, .f32⟩
  | 28 => ⟨S1x4096x8x32, .f32⟩
  | 29 => ⟨S1x4096x8x32, .f32⟩
  | 30 => ⟨S1x4096x8x32, .f32⟩
  | 31 => ⟨S1x4096x8x32, .f32⟩
  | 32 => ⟨S1x4096x8x32, .f32⟩
  | 33 => ⟨S1x4096x8x32, .f32⟩
  | 34 => ⟨S1x4096x8x32, .f32⟩
  | 35 => ⟨S1x4096x8x32, .f32⟩
  | 36 => ⟨S1x4096x8x64, .f32⟩
  | 37 => ⟨S1x4096x8x64, .f32⟩
  | 38 => ⟨S_, .f32⟩
  | 39 => ⟨S1x8x64, .f32⟩
  | 40 => ⟨S1x1x8x64, .f32⟩
  | 41 => ⟨S1x4096x8x64, .f32⟩
  | 42 => ⟨S1x4096x8x64, .f32⟩
  | 43 => ⟨S_, .f32⟩
  | 44 => ⟨S8x64, .f32⟩
  | 45 => ⟨S1x4096x8x64, .f32⟩
  | 46 => ⟨S_, .f32⟩
  | 47 => ⟨S1x4096x8, .f32⟩
  | 48 => ⟨S1x4096x8x1, .f32⟩
  | 49 => ⟨S1x4096x8x64, .f32⟩
  | 50 => ⟨S1x4096x8x64, .f32⟩
  | 51 => ⟨S1x4096x8x1, .f32⟩
  | 52 => ⟨S_, .f32⟩
  | 53 => ⟨S1x4096x8x1, .f32⟩
  | 54 => ⟨S1x4096x8x1, .f32⟩
  | 55 => ⟨S_, .f32⟩
  | 56 => ⟨S4096x8, .f32⟩
  | 57 => ⟨S1x4096x8, .f32⟩
  | 58 => ⟨S1x4096x8x64, .f32⟩
  | 59 => ⟨S1x4096x8x64, .f32⟩
  | 60 => ⟨S1x4096x8x64, .f32⟩
  | 61 => ⟨S1x4096x8x64, .f32⟩
  | 62 => ⟨S1x4096x8x64, .f32⟩
  | 63 => ⟨S4096x512, .f32⟩
  | 64 => ⟨S4096x512, .bf16⟩
  | 65 => ⟨S4096x128, .bf16⟩
  | 66 => ⟨S4096x128, .bf16⟩
  | 67 => ⟨S1x512, .f32⟩
  | 68 => ⟨S1x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_11 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_cst_12 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_13 : Ref sig .tc := ⟨.hbm, 130, rfl⟩
abbrev main_v108 : Ref sig .tc := ⟨.hbm, 131, rfl⟩
abbrev main_v109 : Ref sig .tc := ⟨.hbm, 132, rfl⟩
abbrev main_cst_14 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_cst_15 : Ref sig .tc := ⟨.hbm, 139, rfl⟩
abbrev main_v115 : Ref sig .tc := ⟨.hbm, 140, rfl⟩
abbrev main_v116 : Ref sig .tc := ⟨.hbm, 141, rfl⟩
abbrev main_cst_16 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_cst_17 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_cst_18 : Ref sig .tc := ⟨.hbm, 171, rfl⟩
abbrev main_v144 : Ref sig .tc := ⟨.hbm, 172, rfl⟩
abbrev main_v145 : Ref sig .tc := ⟨.hbm, 173, rfl⟩
abbrev main_cst_19 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_cst_20 : Ref sig .tc := ⟨.hbm, 180, rfl⟩
abbrev main_v151 : Ref sig .tc := ⟨.hbm, 181, rfl⟩
abbrev main_v152 : Ref sig .tc := ⟨.hbm, 182, rfl⟩
abbrev main_cst_21 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩

abbrev nD : Nat := 1
abbrev τ : Topo := Topo.v7x

variable {F : FTy → Type} [FloatOps F]
-- ==== DwdKernel.lean ====
abbrev S4096x1024 : Shape := ⟨2, ![4096, 1024]⟩
abbrev S1024x4096 : Shape := ⟨2, ![1024, 4096]⟩
abbrev S4096x4096 : Shape := ⟨2, ![4096, 4096]⟩
abbrev S8x512x1024 : Shape := ⟨3, ![8, 512, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S4096x4096, .bf16⟩
  | .hbm, ⟨6, _⟩ => ⟨S4096x1024, .bf16⟩
  | .hbm, ⟨7, _⟩ => ⟨S8x512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwdReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S8x512x1024 : Shape := ⟨3, ![8, 512, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S4096x1024, .f32⟩
  | .hbm, ⟨12, _⟩ => ⟨S8x512x1024, .f32⟩
  | .hbm, ⟨13, _⟩ => ⟨S8x512x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== DownKernel.lean ====
abbrev S4096x1024 : Shape := ⟨2, ![4096, 1024]⟩
abbrev S1024x4096 : Shape := ⟨2, ![1024, 4096]⟩
abbrev S4096x4096 : Shape := ⟨2, ![4096, 4096]⟩
abbrev S512x1024 : Shape := ⟨2, ![512, 1024]⟩
abbrev S512x4096 : Shape := ⟨2, ![512, 4096]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S4096x4096, .f32⟩
  | .hbm, ⟨5, _⟩ => ⟨S4096x4096, .bf16⟩
  | .hbm, ⟨6, _⟩ => ⟨S4096x1024, .bf16⟩
  | .hbm, ⟨7, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== MergeKernel.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S_ : Shape := ⟨0, ![]⟩
abbrev S512x512 : Shape := ⟨2, ![512, 512]⟩
abbrev S512x2048 : Shape := ⟨2, ![512, 2048]⟩

abbrev nBuf : Space → Nat
  | .hbm => 23
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .bf16⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S4096x1024, .f32⟩
  | .hbm, ⟨20, _⟩ => ⟨S4096x1024, .bf16⟩
  | .hbm, ⟨21, _⟩ => ⟨S4096x1024, .bf16⟩
  | .hbm, ⟨22, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeReferenceIdeal.lean ====
abbrev S4096x1024 : Shape := ⟨2, ![4096, 1024]⟩
abbrev S4096x512 : Shape := ⟨2, ![4096, 512]⟩
abbrev S4096x2048 : Shape := ⟨2, ![4096, 2048]⟩
abbrev S512x1024 : Shape := ⟨2, ![512, 1024]⟩
abbrev S1024x1024 : Shape := ⟨2, ![1024, 1024]⟩
abbrev S_ : Shape := ⟨0, ![]⟩
abbrev S4096x2x1024 : Shape := ⟨3, ![4096, 2, 1024]⟩
abbrev S4096x1x1024 : Shape := ⟨3, ![4096, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2x1024, .f32⟩
  | .hbm, ⟨18, _⟩ => ⟨S4096x1x1024, .f32⟩
  | .hbm, ⟨19, _⟩ => ⟨S4096x1024, .f32⟩
  | .hbm, ⟨20, _⟩ => ⟨S4096x1024, .f32⟩
  | .hbm, ⟨21, _⟩ => ⟨S4096x1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S4096x1024, .bf16⟩
  | .hbm, ⟨29, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== UpKernel.lean ====
abbrev S4096x1024 : Shape := ⟨2, ![4096, 1024]⟩
abbrev S1024 : Shape := ⟨1, ![1024]⟩
abbrev S1024x4096 : Shape := ⟨2, ![1024, 4096]⟩
abbrev S1024x8x512 : Shape := ⟨3, ![1024, 8, 512]⟩
abbrev S8x1024x512 : Shape := ⟨3, ![8, 1024, 512]⟩
abbrev S1x1024 : Shape := ⟨2, ![1, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S1024x8x512, .f32⟩
  | .hbm, ⟨4, _⟩ => ⟨S8x1024x512, .f32⟩
  | .hbm, ⟨5, _⟩ => ⟨S8x1024x512, .bf16⟩
  | .hbm, ⟨6, _⟩ => ⟨S1x1024, .f32⟩
  | .hbm, ⟨7, _⟩ => ⟨S4096x1024, .bf16⟩
  | .hbm, ⟨8, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpReferenceIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x4096, .f32⟩
  | .hbm, ⟨21, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== ProjKernel.lean ====
abbrev S4096x1024 : Shape := ⟨2, ![4096, 1024]⟩
abbrev S1024 : Shape := ⟨1, ![1024]⟩
abbrev S1024x4352 : Shape := ⟨2, ![1024, 4352]⟩
abbrev S1x1024 : Shape := ⟨2, ![1, 1024]⟩
abbrev S4352x1024 : Shape := ⟨2, ![4352, 1024]⟩
abbrev S4096x2304 : Shape := ⟨2, ![4096, 2304]⟩
abbrev S4096x2048 : Shape := ⟨2, ![4096, 2048]⟩
abbrev S512x1024 : Shape := ⟨2, ![512, 1024]⟩
abbrev S512x2304 : Shape := ⟨2, ![512, 2304]⟩
abbrev S512x2048 : Shape := ⟨2, ![512, 2048]⟩
abbrev S512 : Shape := ⟨1, ![512]⟩
abbrev S512x1 : Shape := ⟨2, ![512, 1]⟩
abbrev S512x4352 : Shape := ⟨2, ![512, 4352]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S1x1024, .f32⟩
  | .hbm, ⟨4, _⟩ => ⟨S4352x1024, .f32⟩
  | .hbm, ⟨5, _⟩ => ⟨S4352x1024, .bf16⟩
  | .hbm, ⟨6, _⟩ => ⟨S4096x1024, .bf16⟩
  | .hbm, ⟨7, _⟩ => ⟨S4096x2304, .bf16⟩
  | .hbm, ⟨8, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4352x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2304, .bf16⟩
  | .local _ .vmem, ⟨7, _⟩ => ⟨S512x2304, .bf16⟩
  | .local _ .vmem, ⟨8, _⟩ => ⟨S512x2048, .bf16⟩
  | .local _ .vmem, ⟨9, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjReferenceIdeal.lean ====
abbrev S4096x1024 : Shape := ⟨2, ![4096, 1024]⟩
abbrev S1024 : Shape := ⟨1, ![1024]⟩
abbrev S1024x4352 : Shape := ⟨2, ![1024, 4352]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4352 : Shape := ⟨2, ![4096, 4352]⟩
abbrev S4096x2048 : Shape := ⟨2, ![4096, 2048]⟩
abbrev S4096x2304 : Shape := ⟨2, ![4096, 2304]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4352, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x4352, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x1024, .bf16⟩
  | .hbm, ⟨30, _⟩ => ⟨S4096x2304, .f32⟩
  | .hbm, ⟨31, _⟩ => ⟨S4096x2304, .bf16⟩
  | .hbm, ⟨32, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== TurnKernel.lean ====
abbrev S4096x512 : Shape := ⟨2, ![4096, 512]⟩
abbrev S4096x128 : Shape := ⟨2, ![4096, 128]⟩
abbrev S64 : Shape := ⟨1, ![64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x1536 : Shape := ⟨2, ![4096, 1536]⟩
abbrev S4096x2176 : Shape := ⟨2, ![4096, 2176]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S128 : Shape := ⟨1, ![128]⟩
abbrev S128x1 : Shape := ⟨2, ![128, 1]⟩
abbrev S128x128 : Shape := ⟨2, ![128, 128]⟩
abbrev S512x512 : Shape := ⟨2, ![512, 512]⟩
abbrev S512x128 : Shape := ⟨2, ![512, 128]⟩

abbrev nBuf : Space → Nat
  | .hbm => 80
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S64, .f32⟩
  | .hbm, ⟨3, _⟩ => ⟨S64, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x64, .f32⟩
  | .hbm, ⟨29, _⟩ => ⟨S1x4096x1x64, .f32⟩
  | .hbm, ⟨30, _⟩ => ⟨S1x4096x2x64, .f32⟩
  | .hbm, ⟨31, _⟩ => ⟨S4096x128, .f32⟩
  | .hbm, ⟨32, _⟩ => ⟨S4096x32, .f32⟩
  | .hbm, ⟨33, _⟩ => ⟨S4096x64, .f32⟩
  | .hbm, ⟨34, _⟩ => ⟨S1x4096x1x64, .f32⟩
  | .hbm, ⟨35, _⟩ => ⟨S1x4096x2x64, .f32⟩
  | .hbm, ⟨36, _⟩ => ⟨S4096x128, .f32⟩
  | .hbm, ⟨37, _⟩ => ⟨S_, .f32⟩
  | .hbm, ⟨38, _⟩ => ⟨S4096x1536, .f32⟩
  | .hbm, ⟨39, _⟩ => ⟨S4096x2176, .f32⟩
  | .hbm, ⟨40, _⟩ => ⟨S4096x2176, .bf16⟩
  | .hbm, ⟨41, _⟩ => ⟨S1x64, .f32⟩
  | .hbm, ⟨42, _⟩ => ⟨S1x1x1x64, .f32⟩
  | .hbm, ⟨43, _⟩ => ⟨S1x1x2x64, .f32⟩
  | .hbm, ⟨44, _⟩ => ⟨S1x128, .f32⟩
  | .hbm, ⟨45, _⟩ => ⟨S1x64, .f32⟩
  | .hbm, ⟨46, _⟩ => ⟨S1x1x1x64, .f32⟩
  | .hbm, ⟨47, _⟩ => ⟨S1x1x2x64, .f32⟩
  | .hbm, ⟨48, _⟩ => ⟨S1x128, .f32⟩
  | .hbm, ⟨49, _⟩ => ⟨S128, .i32⟩
  | .hbm, ⟨50, _⟩ => ⟨S_, .i32⟩
  | .hbm, ⟨51, _⟩ => ⟨S_, .i32⟩
  | .hbm, ⟨52, _⟩ => ⟨S128, .i32⟩
  | .hbm, ⟨53, _⟩ => ⟨S128, .i32⟩
  | .hbm, ⟨54, _⟩ => ⟨S128, .i32⟩
  | .hbm, ⟨55, _⟩ => ⟨S_, .i32⟩
  | .hbm, ⟨56, _⟩ => ⟨S128, .i32⟩
  | .hbm, ⟨57, _⟩ => ⟨S128, .i1⟩
  | .hbm, ⟨58, _⟩ => ⟨S128, .i32⟩
  | .hbm, ⟨59, _⟩ => ⟨S128, .i32⟩
  | .hbm, ⟨60, _⟩ => ⟨S_, .i32⟩
  | .hbm, ⟨61, _⟩ => ⟨S128, .i32⟩
  | .hbm, ⟨62, _⟩ => ⟨S128, .i1⟩
  | .hbm, ⟨63, _⟩ => ⟨S128, .i1⟩
  | .hbm, ⟨64, _⟩ => ⟨S_, .i32⟩
  | .hbm, ⟨65, _⟩ => ⟨S128, .i32⟩
  | .hbm, ⟨66, _⟩ => ⟨S128, .i32⟩
  | .hbm, ⟨67, _⟩ => ⟨S128, .i32⟩
  | .hbm, ⟨68, _⟩ => ⟨S128x1, .i32⟩
  | .hbm, ⟨69, _⟩ => ⟨S1x128, .i32⟩
  | .hbm, ⟨70, _⟩ => ⟨S128x128, .i32⟩
  | .hbm, ⟨71, _⟩ => ⟨S128x128, .i32⟩
  | .hbm, ⟨72, _⟩ => ⟨S128x128, .i1⟩
  | .hbm, ⟨73, _⟩ => ⟨S128x128, .f32⟩
  | .hbm, ⟨74, _⟩ => ⟨S_, .f32⟩
  | .hbm, ⟨75, _⟩ => ⟨S128x128, .f32⟩
  | .hbm, ⟨76, _⟩ => ⟨S128x128, .f32⟩
  | .hbm, ⟨77, _⟩ => ⟨S128x128, .bf16⟩
  | .hbm, ⟨78, _⟩ => ⟨S4096x512, .bf16⟩
  | .hbm, ⟨79, _⟩ => ⟨S4096x128, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S512x512, .bf16⟩
  | .local _ .vmem, ⟨12, _⟩ => ⟨S512x512, .bf16⟩
  | .local _ .vmem, ⟨13, _⟩ => ⟨S512x128, .bf16⟩
  | .local _ .vmem, ⟨14, _⟩ => ⟨S512x128, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_c : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_0 : Ref sig .tc := ⟨.hbm, 64, rfl⟩
abbrev main_call0_v12 : Ref sig .tc := ⟨.hbm, 65, rfl⟩
abbrev main_call0_v13 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50_0 : Ref sig .tc := ⟨.hbm, 78, rfl⟩
abbrev main_v50_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== TurnKernelIdeal.lean ====
variable {F : FTy → Type} [FloatOps F]
-- ==== TurnReferenceIdeal.lean ====
abbrev S4096x512 : Shape := ⟨2, ![4096, 512]⟩
abbrev S4096x128 : Shape := ⟨2, ![4096, 128]⟩
abbrev S64 : Shape := ⟨1, ![64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x8x64 : Shape := ⟨4, ![1, 4096, 8, 64]⟩
abbrev S1x4096x8 : Shape := ⟨3, ![1, 4096, 8]⟩
abbrev S1x4096x8x1 : Shape := ⟨4, ![1, 4096, 8, 1]⟩
abbrev S1x1x1x64 : Shape := ⟨4, ![1, 1, 1, 64]⟩
abbrev S1x4096x1x32 : Shape := ⟨4, ![1, 4096, 1, 32]⟩
abbrev S1x4096x8x32 : Shape := ⟨4, ![1, 4096, 8, 32]⟩
abbrev S1x4096x2x64 : Shape := ⟨4, ![1, 4096, 2, 64]⟩
abbrev S1x4096x2 : Shape := ⟨3, ![1, 4096, 2]⟩
abbrev S1x4096x2x1 : Shape := ⟨4, ![1, 4096, 2, 1]⟩
abbrev S1x4096x2x32 : Shape := ⟨4, ![1, 4096, 2, 32]⟩

abbrev nBuf : Space → Nat
  | .hbm => 96
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S64, .f32⟩
  | .hbm, ⟨3, _⟩ => ⟨S64, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4096, .f32⟩
  | .hbm, ⟨21, _⟩ => ⟨S4096x1, .f32⟩
  | .hbm, ⟨22, _⟩ => ⟨S1x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S1x4096x8x64, .f32⟩
  | .hbm, ⟨29, _⟩ => ⟨S1x4096x8x64, .f32⟩
  | .hbm, ⟨30, _⟩ => ⟨S_, .f32⟩
  | .hbm, ⟨31, _⟩ => ⟨S1x4096x8, .f32⟩
  | .hbm, ⟨32, _⟩ => ⟨S1x4096x8x1, .f32⟩
  | .hbm, ⟨33, _⟩ => ⟨S_, .f32⟩
  | .hbm, ⟨34, _⟩ => ⟨S1x4096x8x1, .f32⟩
  | .hbm, ⟨35, _⟩ => ⟨S1x4096x8x1, .f32⟩
  | .hbm, ⟨36, _⟩ => ⟨S_, .f32⟩
  | .hbm, ⟨37, _⟩ => ⟨S1x4096x8x1, .f32⟩
  | .hbm, ⟨38, _⟩ => ⟨S1x4096x8x1, .f32⟩
  | .hbm, ⟨39, _⟩ => ⟨S1x4096x8x1, .f32⟩
  | .hbm, ⟨40, _⟩ => ⟨S1x4096x8x64, .f32⟩
  | .hbm, ⟨41, _⟩ => ⟨S1x4096x8x64, .f32⟩
  | .hbm, ⟨42, _⟩ => ⟨S1x1x1x64, .f32⟩
  | .hbm, ⟨43, _⟩ => ⟨S1x4096x8x64, .f32⟩
  | .hbm, ⟨44, _⟩ => ⟨S1x4096x8x64, .f32⟩
  | .hbm, ⟨45, _⟩ => ⟨S1x4096x1x32, .f32⟩
  | .hbm, ⟨46, _⟩ => ⟨S1x4096x1x32, .f32⟩
  | .hbm, ⟨47, _⟩ => ⟨S1x4096x8x32, .f32⟩
  | .hbm, ⟨48, _⟩ => ⟨S1x4096x8x32, .f32⟩
  | .hbm, ⟨49, _⟩ => ⟨S1x4096x8x32, .f32⟩
  | .hbm, ⟨50, _⟩ => ⟨S1x4096x8x32, .f32⟩
  | .hbm, ⟨51, _⟩ => ⟨S1x4096x8x32, .f32⟩
  | .hbm, ⟨52, _⟩ => ⟨S1x4096x8x32, .f32⟩
  | .hbm, ⟨53, _⟩ => ⟨S1x4096x8x32, .f32⟩
  | .hbm, ⟨54, _⟩ => ⟨S1x4096x8x32, .f32⟩
  | .hbm, ⟨55, _⟩ => ⟨S1x4096x8x32, .f32⟩
  | .hbm, ⟨56, _⟩ => ⟨S1x4096x8x32, .f32⟩
  | .hbm, ⟨57, _⟩ => ⟨S1x4096x8x32, .f32⟩
  | .hbm, ⟨58, _⟩ => ⟨S1x4096x8x32, .f32⟩
  | .hbm, ⟨59, _⟩ => ⟨S1x4096x8x64, .f32⟩
  | .hbm, ⟨60, _⟩ => ⟨S1x4096x2x64, .f32⟩
  | .hbm, ⟨61, _⟩ => ⟨S1x4096x2x64, .f32⟩
  | .hbm, ⟨62, _⟩ => ⟨S_, .f32⟩
  | .hbm, ⟨63, _⟩ => ⟨S1x4096x2, .f32⟩
  | .hbm, ⟨64, _⟩ => ⟨S1x4096x2x1, .f32⟩
  | .hbm, ⟨65, _⟩ => ⟨S_, .f32⟩
  | .hbm, ⟨66, _⟩ => ⟨S1x4096x2x1, .f32⟩
  | .hbm, ⟨67, _⟩ => ⟨S1x4096x2x1, .f32⟩
  | .hbm, ⟨68, _⟩ => ⟨S_, .f32⟩
  | .hbm, ⟨69, _⟩ => ⟨S1x4096x2x1, .f32⟩
  | .hbm, ⟨70, _⟩ => ⟨S1x4096x2x1, .f32⟩
  | .hbm, ⟨71, _⟩ => ⟨S1x4096x2x1, .f32⟩
  | .hbm, ⟨72, _⟩ => ⟨S1x4096x2x64, .f32⟩
  | .hbm, ⟨73, _⟩ => ⟨S1x4096x2x64, .f32⟩
  | .hbm, ⟨74, _⟩ => ⟨S1x1x1x64, .f32⟩
  | .hbm, ⟨75, _⟩ => ⟨S1x4096x2x64, .f32⟩
  | .hbm, ⟨76, _⟩ => ⟨S1x4096x2x64, .f32⟩
  | .hbm, ⟨77, _⟩ => ⟨S1x4096x1x32, .f32⟩
  | .hbm, ⟨78, _⟩ => ⟨S1x4096x1x32, .f32⟩
  | .hbm, ⟨79, _⟩ => ⟨S1x4096x2x32, .f32⟩
  | .hbm, ⟨80, _⟩ => ⟨S1x4096x2x32, .f32⟩
  | .hbm, ⟨81, _⟩ => ⟨S1x4096x2x32, .f32⟩
  | .hbm, ⟨82, _⟩ => ⟨S1x4096x2x32, .f32⟩
  | .hbm, ⟨83, _⟩ => ⟨S1x4096x2x32, .f32⟩
  | .hbm, ⟨84, _⟩ => ⟨S1x4096x2x32, .f32⟩
  | .hbm, ⟨85, _⟩ => ⟨S1x4096x2x32, .f32⟩
  | .hbm, ⟨86, _⟩ => ⟨S1x4096x2x32, .f32⟩
  | .hbm, ⟨87, _⟩ => ⟨S1x4096x2x32, .f32⟩
  | .hbm, ⟨88, _⟩ => ⟨S1x4096x2x32, .f32⟩
  | .hbm, ⟨89, _⟩ => ⟨S1x4096x2x32, .f32⟩
  | .hbm, ⟨90, _⟩ => ⟨S1x4096x2x32, .f32⟩
  | .hbm, ⟨91, _⟩ => ⟨S1x4096x2x64, .f32⟩
  | .hbm, ⟨92, _⟩ => ⟨S4096x512, .f32⟩
  | .hbm, ⟨93, _⟩ => ⟨S4096x512, .bf16⟩
  | .hbm, ⟨94, _⟩ => ⟨S4096x128, .f32⟩
  | .hbm, ⟨95, _⟩ => ⟨S4096x128, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩

abbrev nD : Nat := 1
abbrev τ : Topo := Topo.v7x

variable {F : FTy → Type} [FloatOps F]
-- ==== SbfKernel.lean ====
abbrev S4096x512 : Shape := ⟨2, ![4096, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S256x128 : Shape := ⟨2, ![256, 128]⟩
abbrev S_ : Shape := ⟨0, ![]⟩
abbrev S4096x768 : Shape := ⟨2, ![4096, 768]⟩
abbrev S4096x2304 : Shape := ⟨2, ![4096, 2304]⟩
abbrev S4096x128 : Shape := ⟨2, ![4096, 128]⟩
abbrev S8192x128 : Shape := ⟨2, ![8192, 128]⟩
abbrev S256x384 : Shape := ⟨2, ![256, 384]⟩
abbrev S256x1 : Shape := ⟨2, ![256, 1]⟩
abbrev S384x128 : Shape := ⟨2, ![384, 128]⟩
abbrev S256x256 : Shape := ⟨2, ![256, 256]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 17
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S128, .i32⟩
  | .hbm, ⟨4, _⟩ => ⟨S128x1, .i32⟩
  | .hbm, ⟨5, _⟩ => ⟨S128, .i32⟩
  | .hbm, ⟨6, _⟩ => ⟨S1x128, .i32⟩
  | .hbm, ⟨7, _⟩ => ⟨S128x128, .i32⟩
  | .hbm, ⟨8, _⟩ => ⟨S128x128, .i32⟩
  | .hbm, ⟨9, _⟩ => ⟨S128x128, .i1⟩
  | .hbm, ⟨10, _⟩ => ⟨S128x128, .bf16⟩
  | .hbm, ⟨11, _⟩ => ⟨S256x128, .bf16⟩
  | .hbm, ⟨12, _⟩ => ⟨S_, .f32⟩
  | .hbm, ⟨13, _⟩ => ⟨S4096x768, .f32⟩
  | .hbm, ⟨14, _⟩ => ⟨S4096x2304, .f32⟩
  | .hbm, ⟨15, _⟩ => ⟨S4096x2304, .bf16⟩
  | .hbm, ⟨16, _⟩ => ⟨S4096x512, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S4096x128, .f32⟩
  | .local _ .vmem, ⟨8, _⟩ => ⟨S4096x128, .f32⟩
  | .local _ .vmem, ⟨9, _⟩ => ⟨S8192x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![4], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v3 : BitVec 32 := Scalar.muli arg7 c128_i32
  v3
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v3 : BitVec 32 := Scalar.muli arg7 c128_i32
  let v4 : BitVec 32 := v3
  let c128_i32_7 : BitVec 32 := 128#32
  let v5 : BitVec 32 := Scalar.addi v4 c128_i32_7
  let c384_i32 : BitVec 32 := 384#32
  let v6 : BitVec 32 := Scalar.subi v5 c384_i32
  let c0_i32_8 : BitVec 32 := 0#32
  let v7 : BitVec 32 := Scalar.maxsi v6 c0_i32_8
  v7
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v3 : BitVec 32 := Scalar.muli arg7 c128_i32
  let v4 : BitVec 32 := v3
  let v9 : Index := Scalar.indexCast v4
  let c0 : Index := 0#32
  ![v9.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32 : BitVec 32 := 128#32
  let v3 : BitVec 32 := Scalar.muli arg7 c128_i32
  let v4 : BitVec 32 := v3
  let c128_i32_7 : BitVec 32 := 128#32
  let v5 : BitVec 32 := Scalar.addi v4 c128_i32_7
  let c384_i32 : BitVec 32 := 384#32
  let v6 : BitVec 32 := Scalar.subi v5 c384_i32
  let c0_i32_8 : BitVec 32 := 0#32
  let v7 : BitVec 32 := Scalar.maxsi v6 c0_i32_8
  let v8 : BitVec 32 := v7
  let v89 : Index := Scalar.indexCast v8
  let c0_28 : Index := 0#32
  ![v89.toNat, 0]
def k0_mult3 (k0_t1 : Fin k0_t1_loop.trips) : BitVec 32 :=
  let c2_i32 : BitVec 32 := 2#32
  let c0_i32 : BitVec 32 := 0#32
  let c1_i32 : BitVec 32 := 1#32
  let arg7 : BitVec 32 := Scf.iv c0_i32 c1_i32 k0_t1
  let c128_i32 : BitVec 32 := 128#32
  let v3 : BitVec 32 := Scalar.muli arg7 c128_i32
  let v4 : BitVec 32 := v3
  let v204 : BitVec 32 := Scalar.muli c2_i32 v4
  v204
def k0_off3 (k0_t1 : Fin k0_t1_loop.trips) : Fin 2 → Nat :=
  let c2_i32 : BitVec 32 := 2#32
  let c0_i32 : BitVec 32 := 0#32
  let c1_i32 : BitVec 32 := 1#32
  let arg7 : BitVec 32 := Scf.iv c0_i32 c1_i32 k0_t1
  let c128_i32 : BitVec 32 := 128#32
  let v3 : BitVec 32 := Scalar.muli arg7 c128_i32
  let v4 : BitVec 32 := v3
  let v204 : BitVec 32 := Scalar.muli c2_i32 v4
  let v205 : BitVec 32 := v204
  let v206 : Index := Scalar.indexCast v205
  let c0_59 : Index := 0#32
  ![v206.toNat, 0]
@[reducible] def k0_t2_loop : Scf.Loop 32 :=
  let c8_i32_1 : BitVec 32 := 8#32
  let c24_i32 : BitVec 32 := 24#32
  let v1 : BitVec 32 := Scalar.addi c8_i32_1 c24_i32
  let c1_i32_2 : BitVec 32 := 1#32
  ⟨c8_i32_1, v1, c1_i32_2⟩
def k0_mult4 (k0_t2 : Fin k0_t2_loop.trips) : BitVec 32 :=
  let c8_i32_1 : BitVec 32 := 8#32
  let c1_i32_2 : BitVec 32 := 1#32
  let arg7 : BitVec 32 := Scf.iv c8_i32_1 c1_i32_2 k0_t2
  let c128_i32 : BitVec 32 := 128#32
  let v3 : BitVec 32 := Scalar.muli arg7 c128_i32
  v3
def k0_mult5 (k0_t2 : Fin k0_t2_loop.trips) : BitVec 32 :=
  let c8_i32_1 : BitVec 32 := 8#32
  let c1_i32_2 : BitVec 32 := 1#32
  let arg7 : BitVec 32 := Scf.iv c8_i32_1 c1_i32_2 k0_t2
  let c128_i32 : BitVec 32 := 128#32
  let v3 : BitVec 32 := Scalar.muli arg7 c128_i32
  let v4 : BitVec 32 := v3
  let c128_i32_7 : BitVec 32 := 128#32
  let v5 : BitVec 32 := Scalar.addi v4 c128_i32_7
  let c384_i32 : BitVec 32 := 384#32
  let v6 : BitVec 32 := Scalar.subi v5 c384_i32
  let c0_i32_8 : BitVec 32 := 0#32
  let v7 : BitVec 32 := Scalar.maxsi v6 c0_i32_8
  v7
def k0_off4 (k0_t2 : Fin k0_t2_loop.trips) : Fin 2 → Nat :=
  let c8_i32_1 : BitVec 32 := 8#32
  let c1_i32_2 : BitVec 32 := 1#32
  let arg7 : BitVec 32 := Scf.iv c8_i32_1 c1_i32_2 k0_t2
  let c128_i32 : BitVec 32 := 128#32
  let v3 : BitVec 32 := Scalar.muli arg7 c128_i32
  let v4 : BitVec 32 := v3
  let v9 : Index := Scalar.indexCast v4
  let c0 : Index := 0#32
  ![v9.toNat, 0]
def k0_off5 (k0_t2 : Fin k0_t2_loop.trips) : Fin 2 → Nat :=
  let c8_i32_1 : BitVec 32 := 8#32
  let c1_i32_2 : BitVec 32 := 1#32
  let arg7 : BitVec 32 := Scf.iv c8_i32_1 c1_i32_2 k0_t2
  let c128_i32 : BitVec 32 := 128#32
  let v3 : BitVec 32 := Scalar.muli arg7 c128_i32
  let v4 : BitVec 32 := v3
  let c128_i32_7 : BitVec 32 := 128#32
  let v5 : BitVec 32 := Scalar.addi v4 c128_i32_7
  let c384_i32 : BitVec 32 := 384#32
  let v6 : BitVec 32 := Scalar.subi v5 c384_i32
  let c0_i32_8 : BitVec 32 := 0#32
  let v7 : BitVec 32 := Scalar.maxsi v6 c0_i32_8
  let v8 : BitVec 32 := v7
  let v85 : Index := Scalar.indexCast v8
  let c0_28 : Index := 0#32
  ![v85.toNat, 0]
def k0_mult6 (k0_t2 : Fin k0_t2_loop.trips) : BitVec 32 :=
  let c2_i32 : BitVec 32 := 2#32
  let c8_i32_1 : BitVec 32 := 8#32
  let c1_i32_2 : BitVec 32 := 1#32
  let arg7 : BitVec 32 := Scf.iv c8_i32_1 c1_i32_2 k0_t2
  let c128_i32 : BitVec 32 := 128#32
  let v3 : BitVec 32 := Scalar.muli arg7 c128_i32
  let v4 : BitVec 32 := v3
  let v206 : BitVec 32 := Scalar.muli c2_i32 v4
  v206
def k0_off6 (k0_t2 : Fin k0_t2_loop.trips) : Fin 2 → Nat :=
  let c2_i32 : BitVec 32 := 2#32
  let c8_i32_1 : BitVec 32 := 8#32
  let c1_i32_2 : BitVec 32 := 1#32
  let arg7 : BitVec 32 := Scf.iv c8_i32_1 c1_i32_2 k0_t2
  let c128_i32 : BitVec 32 := 128#32
  let v3 : BitVec 32 := Scalar.muli arg7 c128_i32
  let v4 : BitVec 32 := v3
  let v206 : BitVec 32 := Scalar.muli c2_i32 v4
  let v207 : BitVec 32 := v206
  let v208 : Index := Scalar.indexCast v207
  let c0_59 : Index := 0#32
  ![v208.toNat, 0]
@[reducible] def k0_t3_loop : Scf.Loop 32 :=
  let c0_i32_4 : BitVec 32 := 0#32
  let c32_i32 : BitVec 32 := 32#32
  let v2 : BitVec 32 := Scalar.addi c0_i32_4 c32_i32
  let c1_i32_5 : BitVec 32 := 1#32
  ⟨c0_i32_4, v2, c1_i32_5⟩
def k0_mult7 (k0_t3 : Fin k0_t3_loop.trips) : BitVec 32 :=
  let c0_i32_4 : BitVec 32 := 0#32
  let c1_i32_5 : BitVec 32 := 1#32
  let arg7 : BitVec 32 := Scf.iv c0_i32_4 c1_i32_5 k0_t3
  let c128_i32 : BitVec 32 := 128#32
  let v3 : BitVec 32 := Scalar.muli arg7 c128_i32
  v3
def k0_mult8 (k0_t3 : Fin k0_t3_loop.trips) : BitVec 32 :=
  let c2_i32 : BitVec 32 := 2#32
  let c0_i32_4 : BitVec 32 := 0#32
  let c1_i32_5 : BitVec 32 := 1#32
  let arg7 : BitVec 32 := Scf.iv c0_i32_4 c1_i32_5 k0_t3
  let c128_i32 : BitVec 32 := 128#32
  let v3 : BitVec 32 := Scalar.muli arg7 c128_i32
  let v4 : BitVec 32 := v3
  let v5 : BitVec 32 := Scalar.muli c2_i32 v4
  v5
def k0_off7 (k0_t3 : Fin k0_t3_loop.trips) : Fin 2 → Nat :=
  let c2_i32 : BitVec 32 := 2#32
  let c0_i32_4 : BitVec 32 := 0#32
  let c1_i32_5 : BitVec 32 := 1#32
  let arg7 : BitVec 32 := Scf.iv c0_i32_4 c1_i32_5 k0_t3
  let c128_i32 : BitVec 32 := 128#32
  let v3 : BitVec 32 := Scalar.muli arg7 c128_i32
  let v4 : BitVec 32 := v3
  let v5 : BitVec 32 := Scalar.muli c2_i32 v4
  let v6 : BitVec 32 := v5
  let v7 : Index := Scalar.indexCast v6
  let c0 : Index := 0#32
  ![v7.toNat, 0]
def k0_off8 (k0_t3 : Fin k0_t3_loop.trips) : Fin 2 → Nat :=
  let c0_i32_4 : BitVec 32 := 0#32
  let c1_i32_5 : BitVec 32 := 1#32
  let arg7 : BitVec 32 := Scf.iv c0_i32_4 c1_i32_5 k0_t3
  let c128_i32 : BitVec 32 := 128#32
  let v3 : BitVec 32 := Scalar.muli arg7 c128_i32
  let v4 : BitVec 32 := v3
  let v9 : Index := Scalar.indexCast v4
  let c0_7 : Index := 0#32
  ![v9.toNat, 0]
def k0_mult9 (k0_t3 : Fin k0_t3_loop.trips) : BitVec 32 :=
  let c0_i32_4 : BitVec 32 := 0#32
  let c1_i32_5 : BitVec 32 := 1#32
  let arg7 : BitVec 32 := Scf.iv c0_i32_4 c1_i32_5 k0_t3
  let c128_i32 : BitVec 32 := 128#32
  let v3 : BitVec 32 := Scalar.muli arg7 c128_i32
  let v4 : BitVec 32 := v3
  let c128_i32_24 : BitVec 32 := 128#32
  let v77 : BitVec 32 := Scalar.addi v4 c128_i32_24
  let c384_i32 : BitVec 32 := 384#32
  let v78 : BitVec 32 := Scalar.subi v77 c384_i32
  let c0_i32_25 : BitVec 32 := 0#32
  let v79 : BitVec 32 := Scalar.maxsi v78 c0_i32_25
  v79
def k0_mult10 (arg8 : BitVec 32) : BitVec 32 :=
  let c256_i32 : BitVec 32 := 256#32
  let v125 : BitVec 32 := Scalar.subi arg8 c256_i32
  let c0_i32_38 : BitVec 32 := 0#32
  let v126 : BitVec 32 := Scalar.maxsi v125 c0_i32_38
  v126

def k0_off9 (arg8 : BitVec 32) : Fin 2 → Nat :=
  let c256_i32 : BitVec 32 := 256#32
  let v125 : BitVec 32 := Scalar.subi arg8 c256_i32
  let c0_i32_38 : BitVec 32 := 0#32
  let v126 : BitVec 32 := Scalar.maxsi v125 c0_i32_38
  let v127 : BitVec 32 := v126
  let v132 : Index := Scalar.indexCast v127
  let c0_39 : Index := 0#32
  ![v132.toNat, 0]

def k0_chk1 (arg8 : BitVec 32) : Prop :=
  (128 ∣ (k0_mult10 arg8).toNat) ∧
  (∀ a, (k0_off9 arg8) a + S256x128.size a ≤ S4096x128.size a)
theorem k0_mult10_dvd : ∀ (arg8 : BitVec 32) (k0_hw1 : k0_chk1 arg8), 128 ∣ (k0_mult10 arg8).toNat := fun arg8 k0_hw1 => k0_hw1.1
theorem k0_off9_inb : ∀ (arg8 : BitVec 32) (k0_hw1 : k0_chk1 arg8), ∀ a, (k0_off9 arg8) a + S256x128.size a ≤ S4096x128.size a := fun arg8 k0_hw1 => k0_hw1.2

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SbfKernelIdeal.lean ====
variable {F : FTy → Type} [FloatOps F] [Named F]
def κ : String → Option EReal := fun
  | "cutoff" => some ⊥
  | "mask" => some ⊥
  | _ => none
-- ==== SbfReferenceIdeal.lean ====
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x64x4096 : Shape := ⟨3, ![8, 64, 4096]⟩

abbrev nBuf : Space → Nat
  | .hbm => 67
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x8x64, .f32⟩
  | .hbm, ⟨4, _⟩ => ⟨S4096x8x64, .f32⟩
  | .hbm, ⟨5, _⟩ => ⟨S4096x8x64, .f32⟩
  | .hbm, ⟨6, _⟩ => ⟨S8x4096x4096, .f32⟩
  | .hbm, ⟨7, _⟩ => ⟨S_, .f32⟩
  | .hbm, ⟨8, _⟩ => ⟨S8x4096x4096, .f32⟩
  | .hbm, ⟨9, _⟩ => ⟨S8x4096x4096, .f32⟩
  | .hbm, ⟨10, _⟩ => ⟨S4096, .i32⟩
  | .hbm, ⟨11, _⟩ => ⟨S4096x1, .i32⟩
  | .hbm, ⟨12, _⟩ => ⟨S4096, .i32⟩
  | .hbm, ⟨13, _⟩ => ⟨S1x4096, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S8x4096x4096, .i1⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S_, .f32⟩
  | .hbm, ⟨34, _⟩ => ⟨S8x4096x4096, .i1⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S_, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S8x4096x4096, .i1⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S_, .f32⟩
  | .hbm, ⟨61, _⟩ => ⟨S8x4096x4096, .i1⟩
  | .hbm, ⟨62, _⟩ => ⟨S8x4096x4096, .f32⟩
  | .hbm, ⟨63, _⟩ => ⟨S8x4096x4096, .f32⟩
  | .hbm, ⟨64, _⟩ => ⟨S8x64x4096, .f32⟩
  | .hbm, ⟨65, _⟩ => ⟨S4096x8x64, .f32⟩
  | .hbm, ⟨66, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_call2_cst : Ref sig .tc := ⟨.hbm, 37, rfl⟩
abbrev main_call2_v0 : Ref sig .tc := ⟨.hbm, 38, rfl⟩
abbrev main_v16 : Ref sig .tc := ⟨.hbm, 39, rfl⟩
abbrev main_v17 : Ref sig .tc := ⟨.hbm, 40, rfl⟩
abbrev main_call3_v0 : Ref sig .tc := ⟨.hbm, 41, rfl⟩
abbrev main_call3_call0_cst : Ref sig .tc := ⟨.hbm, 42, rfl⟩
abbrev main_call3_call0_v0 : Ref sig .tc := ⟨.hbm, 43, rfl⟩
abbrev main_call3_call0_v1 : Ref sig .tc := ⟨.hbm, 44, rfl⟩
abbrev main_call3_call0_v2 : Ref sig .tc := ⟨.hbm, 45, rfl⟩
abbrev main_call3_call0_v3 : Ref sig .tc := ⟨.hbm, 46, rfl⟩
abbrev main_call3_call0_v4 : Ref sig .tc := ⟨.hbm, 47, rfl⟩
abbrev main_call3_call0_v5 : Ref sig .tc := ⟨.hbm, 48, rfl⟩
abbrev main_call3_call0_v6 : Ref sig .tc := ⟨.hbm, 49, rfl⟩
abbrev main_call3_call0_v7 : Ref sig .tc := ⟨.hbm, 50, rfl⟩
abbrev main_call3_call0_v8 : Ref sig .tc := ⟨.hbm, 51, rfl⟩
abbrev main_call3_call0_v9 : Ref sig .tc := ⟨.hbm, 52, rfl⟩
abbrev main_call3_call0_v10 : Ref sig .tc := ⟨.hbm, 53, rfl⟩
abbrev main_call3_call0_v11 : Ref sig .tc := ⟨.hbm, 54, rfl⟩
abbrev main_call3_v1 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_1 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩

abbrev nD : Nat := 1
abbrev τ : Topo := Topo.v7x

variable {F : FTy → Type} [FloatOps F]
-- ==== Proof.Down.lean ====
module

public import proofs.«01_k».proof.Proof.Gen.DownKernelIdeal.Value
public import proofs.«01_k».proof.Proof.Gen.DownReferenceIdeal.Run
public import proofs.«01_k».proof.Defs
public import Idealize.ShloMosaic.Lib.Pipeline.ValueKit
public import Idealize.ShloMosaic.Lib.Claim

/-!
The MLP's second half forward: the residual plus the squared relu of `h2 · w_up` times `w_down`.
-/

@[expose] public section

set_option maxRecDepth 16384

noncomputable section

open Idealize.ShloMosaic Idealize.ShloMosaic.TcCoe Idealize.SL.Sem
open Idealize.ShloMosaic.Pipeline (Dat)
open scoped BigOperators

namespace Cert.DownKernelIdeal.Fwd

open Cert.DownKernelIdeal Cert.DownKernelIdeal.Gen

variable (m : (ℓ : Loc nD τ sig) → Buf (Elt Ideal) ℓ)

/-- The activations before relu. -/
def up (h : FVec Ideal Cert.DownReferenceIdeal.S4096x1024 .f32) (wu : FVec Ideal Cert.DownReferenceIdeal.S1024x4096 .f32) : FVec Ideal Cert.DownReferenceIdeal.S4096x4096 .f32 :=
  Host.dotGeneral Cert.DownReferenceIdeal.dot_S4096x1024_S1024x4096_S4096x4096_1_0_0_1_n_n none h wu

/-- The reference's result as a function of its arguments. -/
def mlp (x h : FVec Ideal Cert.DownReferenceIdeal.S4096x1024 .f32) (wu : FVec Ideal Cert.DownReferenceIdeal.S1024x4096 .f32) (wd : FVec Ideal Cert.DownReferenceIdeal.S4096x1024 .f32) :
    FVec Ideal Cert.DownReferenceIdeal.S4096x1024 .f32 :=
  let u := maximumf (up h wu)
    (broadcastInDim Cert.DownReferenceIdeal.S4096x4096 ![] Cert.DownReferenceIdeal.Gen.bcast_S_S4096x4096 (constant Cert.DownReferenceIdeal.S_ .f32 0x00000000#32))
  addf x (Host.dotGeneral Cert.DownReferenceIdeal.dot_S4096x4096_S4096x1024_S4096x1024_1_0_0_1_n_n none (mulf u u) wd)

/-- Every window's block index at every grid point. -/
theorem idx : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

/-- The arrays that the host prepares: the activations' product and the cast matrix. -/
theorem host_arrays (c : Dev nD) :
    V m c main_v1 = up (m ((c : Thread nD τ).loc main_arg1)) (m ((c : Thread nD τ).loc main_arg2))
    ∧ V m c main_v2 = m ((c : Thread nD τ).loc main_arg3) ∧ V m c main_arg0 = m ((c : Thread nD τ).loc main_arg0) := by
  refine ⟨?_, ?_, ?_⟩ <;> rfl

/-- The result array after the run. -/
theorem final_3 (c : Dev nD) : (dats m 0 c).arrAt 3 (cfgs 0).N
    = mlp (m ((c : Thread nD τ).loc main_arg0)) (m ((c : Thread nD τ).loc main_arg1))
        (m ((c : Thread nD τ).loc main_arg2)) (m ((c : Thread nD τ).loc main_arg3)) := by
  refine (dats m 0 c).arrAt_eq_of_covers 3 _ (by decide +kernel) fun t hf y => ?_
  blk_simp; rw [after0_3]; frame_out
  pointwise [k0_pay1, mlp]
  blk_point [iblk, host_arrays m c, idx t]
  all_goals pointwise [up]
  all_goals blk_point [idx t]

set_option maxHeartbeats 3200000 in
/-- The kernel's results are the reference's. -/
theorem value : Cert.algebraic_DownKernelIdeal_DownReferenceIdeal := by
  pair_intro
  · run_from Cert.DownKernelIdeal.Gen.run_main m g
  · run_from Cert.DownReferenceIdeal.Value.run m' g'
    · exact (final_3 m c).symm

end Cert.DownKernelIdeal.Fwd

end
-- ==== Proof.Merge.lean ====
module

public import proofs.«01_k».proof.Proof.Gen.MergeKernelIdeal.Frame
public import proofs.«01_k».proof.Proof.Gen.MergeReferenceIdeal.Run
public import proofs.«01_k».proof.Defs
public import Idealize.ShloMosaic.Lib.Pipeline.ValueKit
public import Idealize.ShloMosaic.Lib.Claim

/-!
The gated merge forward: the two branches' projections, their sum weighed by the sigmoid gates, and the output projection
added to the residual.
-/

@[expose] public section

set_option maxRecDepth 16384

noncomputable section

open Idealize.ShloMosaic Idealize.ShloMosaic.TcCoe Idealize.SL.Sem
open Idealize.ShloMosaic.Pipeline (Dat)
open scoped BigOperators

namespace Cert.MergeKernelIdeal.Fwd

open Cert.MergeKernelIdeal Cert.MergeKernelIdeal.Gen

variable (m : (ℓ : Loc nD τ sig) → Buf (Elt Ideal) ℓ)

/-- The gates: the sigmoid of the gate logits. -/
def gates (g : FVec Ideal Cert.MergeReferenceIdeal.S4096x2048 .f32) : FVec Ideal Cert.MergeReferenceIdeal.S4096x2048 .f32 :=
  let one := broadcastInDim Cert.MergeReferenceIdeal.S4096x2048 ![] Cert.MergeReferenceIdeal.Gen.bcast_S_S4096x2048 (constant Cert.MergeReferenceIdeal.S_ .f32 0x3F800000#32)
  Host.divf one (addf one (Host.exp (Host.negf g)))

/-- One branch's output times its projection. -/
def branch (o : FVec Ideal Cert.MergeReferenceIdeal.S4096x512 .f32) (w : FVec Ideal Cert.MergeReferenceIdeal.S512x1024 .f32) : FVec Ideal Cert.MergeReferenceIdeal.S4096x1024 .f32 :=
  Host.dotGeneral Cert.MergeReferenceIdeal.dot_S4096x512_S512x1024_S4096x1024_1_0_0_1_n_n none o w

/-- The merged branches. -/
def merged (g : FVec Ideal Cert.MergeReferenceIdeal.S4096x2048 .f32) (y0 y1 : FVec Ideal Cert.MergeReferenceIdeal.S4096x1024 .f32) : FVec Ideal Cert.MergeReferenceIdeal.S4096x1024 .f32 :=
  addf (mulf (shapeCast _ (extractStridedSlice Cert.MergeReferenceIdeal.S4096x1x1024 ![0, 0, 0] (shapeCast _ (gates g) Cert.MergeReferenceIdeal.Gen.shapeCasts_S4096x2048_S4096x2x1024)
      Cert.MergeReferenceIdeal.Gen.slices_S4096x2x1024_S4096x1x1024_0_0_0) Cert.MergeReferenceIdeal.Gen.shapeCasts_S4096x1x1024_S4096x1024) y0)
    (mulf (shapeCast _ (extractStridedSlice Cert.MergeReferenceIdeal.S4096x1x1024 ![0, 1, 0] (shapeCast _ (gates g) Cert.MergeReferenceIdeal.Gen.shapeCasts_S4096x2048_S4096x2x1024)
      Cert.MergeReferenceIdeal.Gen.slices_S4096x2x1024_S4096x1x1024_0_1_0) Cert.MergeReferenceIdeal.Gen.shapeCasts_S4096x1x1024_S4096x1024) y1)

/-- The residual plus the merged branches' output projection. -/
def mixed (x y : FVec Ideal Cert.MergeReferenceIdeal.S4096x1024 .f32) (w : FVec Ideal Cert.MergeReferenceIdeal.S1024x1024 .f32) : FVec Ideal Cert.MergeReferenceIdeal.S4096x1024 .f32 :=
  addf x (Host.dotGeneral Cert.MergeReferenceIdeal.dot_S4096x1024_S1024x1024_S4096x1024_1_0_0_1_n_n none y w)

/-- Every window's block index at every grid point: tiles of rows, or the whole weight. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] :=
  (by decide +kernel : ∀ t : Fin grid0.N, _)

/-- The arrays that the host prepares: the gates and the casts of the weights. -/
theorem host_arrays (c : Dev nD) :
    V m c main_v6 = gates (m ((c : Thread nD τ).loc main_arg3)) ∧ V m c main_v7 = m ((c : Thread nD τ).loc main_arg4)
    ∧ V m c main_v8 = m ((c : Thread nD τ).loc main_arg5) ∧ V m c main_v9 = m ((c : Thread nD τ).loc main_arg6)
    ∧ V m c main_arg0 = m ((c : Thread nD τ).loc main_arg0) ∧ V m c main_arg1 = m ((c : Thread nD τ).loc main_arg1)
    ∧ V m c main_arg2 = m ((c : Thread nD τ).loc main_arg2) := by
  refine ⟨?_, ?_, ?_, ?_, ?_, ?_, ?_⟩ <;> rfl

/-- The sum with the residual after the run. -/
theorem final_7 (c : Dev nD) : (dats m 0 c).arrAt 7 (cfgs 0).N
    = mixed (m ((c : Thread nD τ).loc main_arg0)) (merged (m ((c : Thread nD τ).loc main_arg3))
      (branch (m ((c : Thread nD τ).loc main_arg1)) (m ((c : Thread nD τ).loc main_arg4)))
      (branch (m ((c : Thread nD τ).loc main_arg2)) (m ((c : Thread nD τ).loc main_arg5))))
      (m ((c : Thread nD τ).loc main_arg6)) := by
  refine (dats m 0 c).arrAt_eq_of_covers 7 _ (by decide +kernel) fun t hf y => ?_
  blk_simp; rw [after0_7]; frame_out
  pointwise [k0_pay1, k0_pay2, k0_pay3, k0_pay4, k0_pay5, k0_pay6, mixed, merged, branch]
  blk_point [iblk, host_arrays m c, idx t]
  all_goals pointwise [gates]
  all_goals blk_point [idx t]

/-- The first branch's projection after the run. -/
theorem final_8 (c : Dev nD) : (dats m 0 c).arrAt 8 (cfgs 0).N
    = truncf .bf16 (branch (m ((c : Thread nD τ).loc main_arg1)) (m ((c : Thread nD τ).loc main_arg4))) Cert.MergeReferenceIdeal.Gen.bitsLt_bf16_f32 := by
  refine (dats m 0 c).arrAt_eq_of_covers 8 _ (by decide +kernel) fun t hf y => ?_
  blk_simp; rw [after0_8]; frame_out
  pointwise [k0_pay1, k0_pay2, k0_pay3, k0_pay4, k0_pay5, k0_pay6, mixed, merged, branch]
  blk_point [iblk, host_arrays m c, idx t]
  all_goals pointwise [gates]
  all_goals blk_point [idx t]

/-- The second branch's projection after the run. -/
theorem final_9 (c : Dev nD) : (dats m 0 c).arrAt 9 (cfgs 0).N
    = truncf .bf16 (branch (m ((c : Thread nD τ).loc main_arg2)) (m ((c : Thread nD τ).loc main_arg5))) Cert.MergeReferenceIdeal.Gen.bitsLt_bf16_f32 := by
  refine (dats m 0 c).arrAt_eq_of_covers 9 _ (by decide +kernel) fun t hf y => ?_
  blk_simp; rw [after0_9]; frame_out
  pointwise [k0_pay1, k0_pay2, k0_pay3, k0_pay4, k0_pay5, k0_pay6, mixed, merged, branch]
  blk_point [iblk, host_arrays m c, idx t]
  all_goals pointwise [gates]
  all_goals blk_point [idx t]

/-- The merged branches after the run. -/
theorem final_10 (c : Dev nD) : (dats m 0 c).arrAt 10 (cfgs 0).N
    = truncf .bf16 (merged (m ((c : Thread nD τ).loc main_arg3))
      (branch (m ((c : Thread nD τ).loc main_arg1)) (m ((c : Thread nD τ).loc main_arg4)))
      (branch (m ((c : Thread nD τ).loc main_arg2)) (m ((c : Thread nD τ).loc main_arg5)))) Cert.MergeReferenceIdeal.Gen.bitsLt_bf16_f32 := by
  refine (dats m 0 c).arrAt_eq_of_covers 10 _ (by decide +kernel) fun t hf y => ?_
  blk_simp; rw [after0_10]; frame_out
  pointwise [k0_pay1, k0_pay2, k0_pay3, k0_pay4, k0_pay5, k0_pay6, mixed, merged, branch]
  blk_point [iblk, host_arrays m c, idx t]
  all_goals pointwise [gates]
  all_goals blk_point [idx t]

set_option maxHeartbeats 3200000 in
/-- The kernel's results are the reference's. -/
theorem value : Cert.algebraic_MergeKernelIdeal_MergeReferenceIdeal := by
  pair_intro
  · run_from Cert.MergeKernelIdeal.Gen.run_main m g
  · run_from Cert.MergeReferenceIdeal.Value.run m' g'
    · exact (final_7 m c).symm
    · exact (final_8 m c).symm
    · exact (final_9 m c).symm
    · exact (final_10 m c).symm

end Cert.MergeKernelIdeal.Fwd

end
-- ==== Proof.NormMath.lean ====
module

public import Idealize.ShloMosaic.Lib.Pipeline.ValueKit

/-!
The arithmetic of the gradient of a row's root-mean-square norm, over the extended reals.
-/

@[expose] public section

noncomputable section

open Idealize.ShloMosaic
open scoped BigOperators

namespace Cert.NormMath

/-- The constants: the row length, minus a half, and the norm's small addend, which is a positive real. -/
theorem consts : Ideal.ofBits .f32 1149239296#32 = ((1024 : ℝ) : EReal) ∧ Ideal.ofBits .f32 3204448256#32 = ((-(1 / 2) : ℝ) : EReal)
    ∧ Ideal.ofBits .f32 0#32 = 0 := by
  refine ⟨?_, ?_, ?_⟩ <;> (simp [Ideal.ofBits, Ideal.ieee, -EReal.coe_mul, -EReal.coe_neg]; try norm_num)

/-- The norm's small addend is a positive real. -/
theorem addend : ∃ e : ℝ, 0 < e ∧ Ideal.ofBits .f32 897988541#32 = (e : EReal) := by
  refine ⟨_, ?_, by simp [Ideal.ofBits, Ideal.ieee, -EReal.coe_mul]; rfl⟩
  norm_num

/-- A square is not negative. -/
theorem square_nonneg (x : EReal) : 0 ≤ x * x := by
  rcases le_total 0 x with h | h
  · exact mul_nonneg h h
  · rw [← neg_mul_neg]
    exact mul_nonneg (EReal.neg_nonneg.mpr h) (EReal.neg_nonneg.mpr h)

/-- A row's mean square plus the addend is positive. -/
theorem mean_pos {n : ℕ} (x : Fin n → EReal) : 0 < Ideal.div (∑ k, x k * x k) (Ideal.ofBits .f32 1149239296#32) + Ideal.ofBits .f32 897988541#32 := by
  obtain ⟨e, he, h⟩ := addend
  rw [h, consts.1, Ideal.div_coe (by norm_num)]
  refine lt_of_lt_of_le (EReal.coe_pos.mpr he) (le_add_of_nonneg_left ?_)
  exact mul_nonneg (Finset.sum_nonneg fun k _ => square_nonneg _) (EReal.coe_nonneg.mpr (by norm_num))

/-- The reciprocal root over its argument is its cube. -/
theorem cube {u : EReal} (hu : 0 < u) : Ideal.div (Ideal.rsqrt u) u = Ideal.rsqrt u * Ideal.rsqrt u * Ideal.rsqrt u := by
  induction u with
  | bot => exact absurd hu (by simp)
  | top => simp [Ideal.div]
  | coe r =>
    have hr : 0 < r := EReal.coe_pos.mp hu
    rw [Ideal.div_coe hr.ne', Ideal.rsqrt_coe, if_neg hr.le.not_gt, if_neg hr.ne', ← EReal.coe_mul, ← EReal.coe_mul, ← EReal.coe_mul,
      ← mul_inv, Real.mul_self_sqrt hr.le, one_div, mul_comm]

/-- Half a number twice, negated. -/
theorem half_twice (k : EReal) : ((-(1 / 2) : ℝ) : EReal) * k + ((-(1 / 2) : ℝ) : EReal) * k = -k := by
  induction k with
  | bot => rw [EReal.coe_mul_bot_of_neg (by norm_num)]; rfl
  | top => rw [EReal.coe_mul_top_of_neg (by norm_num)]; rfl
  | coe r => rw [← EReal.coe_mul, ← EReal.coe_add, ← EReal.coe_neg]; congr 1; ring

/-- The gradient through the norm: the cube of the reciprocal root once is the derivative of the reciprocal root along the
    square's two factors. -/
theorem through {u : EReal} (hu : 0 < u) (B n x S : EReal) :
    (B + Ideal.rsqrt u * n) - x * (Ideal.rsqrt u * Ideal.rsqrt u * Ideal.rsqrt u * Ideal.div S (Ideal.ofBits .f32 1149239296#32))
      = ((B + n * Ideal.rsqrt u)
          + x * Ideal.div (S * (Ideal.ofBits .f32 3204448256#32 * Ideal.div (Ideal.rsqrt u) u)) (Ideal.ofBits .f32 1149239296#32))
        + Ideal.div (S * (Ideal.ofBits .f32 3204448256#32 * Ideal.div (Ideal.rsqrt u) u)) (Ideal.ofBits .f32 1149239296#32) * x := by
  rw [cube hu, consts.1, consts.2.1, Ideal.div_coe (by norm_num), Ideal.div_coe (by norm_num)]
  generalize Ideal.rsqrt u * Ideal.rsqrt u * Ideal.rsqrt u = q
  rw [mul_comm (Ideal.rsqrt u) n, add_assoc, mul_comm _ x]
  have e : x * (S * (((-(1 / 2) : ℝ) : EReal) * q) * ((1 / 1024 : ℝ) : EReal)) = ((-(1 / 2) : ℝ) : EReal) * (x * (q * (S * ((1 / 1024 : ℝ) : EReal)))) := by
    ac_rfl
  rw [e, half_twice, sub_eq_add_neg]

/-- One entry of the norm's gradient for its input, as differentiation gives it: the row `x`, the gradient `n` of the normed and
    scaled row, already times the gain, and what else the entry's gradient has. -/
def dIn (x n : Fin 1024 → EReal) (B : EReal) (j : Fin 1024) : EReal :=
  ((B + n j * Ideal.rsqrt (Ideal.div (∑ k, x k * x k) (Ideal.ofBits .f32 1149239296#32) + Ideal.ofBits .f32 897988541#32))
      + x j * Ideal.div ((∑ k, x k * n k) * (Ideal.ofBits .f32 3204448256#32
          * Ideal.div (Ideal.rsqrt (Ideal.div (∑ k, x k * x k) (Ideal.ofBits .f32 1149239296#32) + Ideal.ofBits .f32 897988541#32))
            (Ideal.div (∑ k, x k * x k) (Ideal.ofBits .f32 1149239296#32) + Ideal.ofBits .f32 897988541#32))) (Ideal.ofBits .f32 1149239296#32))
    + Ideal.div ((∑ k, x k * n k) * (Ideal.ofBits .f32 3204448256#32
          * Ideal.div (Ideal.rsqrt (Ideal.div (∑ k, x k * x k) (Ideal.ofBits .f32 1149239296#32) + Ideal.ofBits .f32 897988541#32))
            (Ideal.div (∑ k, x k * x k) (Ideal.ofBits .f32 1149239296#32) + Ideal.ofBits .f32 897988541#32))) (Ideal.ofBits .f32 1149239296#32) * x j

/-- The reciprocal root of a row's mean square. -/
def inv (x : Fin 1024 → EReal) : EReal :=
  Ideal.rsqrt (Ideal.div (∑ k, x k * x k) (Ideal.ofBits .f32 1149239296#32) + Ideal.ofBits .f32 897988541#32)

/-- The kernel's form of one entry of the norm's gradient. -/
theorem dIn_eq (x n : Fin 1024 → EReal) (B : EReal) (j : Fin 1024) :
    dIn x n B j = (B + inv x * n j) - x j * (inv x * inv x * inv x * Ideal.div (∑ k, n k * x k) (Ideal.ofBits .f32 1149239296#32)) := by
  rw [Finset.sum_congr rfl fun k _ => mul_comm (n k) (x k)]
  exact (through (mean_pos x) B (n j) (x j) _).symm

end Cert.NormMath

end
-- ==== Proof.NormRef.lean ====
module

public import proofs.«01_k».proof.Proof.NormMath
public import proofs.«01_k».proof.Proof.Gen.MlpReferenceIdeal.Run
public import Idealize.ShloMosaic.Lib.Pipeline.ValueKit

/-!
The gradient through a root-mean-square norm as the references compute it, on whole arrays, and its entries.
-/

@[expose] public section

set_option maxRecDepth 16384

noncomputable section

open Idealize.ShloMosaic Idealize.ShloMosaic.TcCoe
open scoped BigOperators

namespace Cert.NormRef

/-- The reference's mean square of every row plus the norm's addend. -/
def meanSq (x : FVec Ideal Cert.MlpReferenceIdeal.S4096x1024 .f32) : FVec Ideal Cert.MlpReferenceIdeal.S4096x1 .f32 :=
  addf (Host.divf (broadcastInDim Cert.MlpReferenceIdeal.S4096x1 ![0] Cert.MlpReferenceIdeal.Gen.bcast_S4096_S4096x1_0 (Host.reduceAdd (mulf x x)
      (constant Cert.MlpReferenceIdeal.S_ .f32 0x00000000#32) Cert.MlpReferenceIdeal.Gen.reducesTo_S4096x1024_S4096_d1 Cert.MlpReferenceIdeal.Gen.h_S_))
    (broadcastInDim Cert.MlpReferenceIdeal.S4096x1 ![] Cert.MlpReferenceIdeal.Gen.bcast_S_S4096x1 (constant Cert.MlpReferenceIdeal.S_ .f32 0x44800000#32)))
    (broadcastInDim Cert.MlpReferenceIdeal.S4096x1 ![] Cert.MlpReferenceIdeal.Gen.bcast_S_S4096x1 (constant Cert.MlpReferenceIdeal.S_ .f32 0x358637BD#32))

/-- The gain times the gradient of the normed rows. -/
def gained (g : FVec Ideal Cert.MlpReferenceIdeal.S1024 .f32) (dn : FVec Ideal Cert.MlpReferenceIdeal.S4096x1024 .f32) : FVec Ideal Cert.MlpReferenceIdeal.S4096x1024 .f32 :=
  mulf dn (broadcastInDim Cert.MlpReferenceIdeal.S4096x1024 ![0, 1] Cert.MlpReferenceIdeal.Gen.bcast_S1x1024_S4096x1024_0_1 (broadcastInDim Cert.MlpReferenceIdeal.S1x1024 ![1] Cert.MlpReferenceIdeal.Gen.bcast_S1024_S1x1024_1 g))

/-- The reference's slope of every row's mean. -/
def slope (x n : FVec Ideal Cert.MlpReferenceIdeal.S4096x1024 .f32) : FVec Ideal Cert.MlpReferenceIdeal.S4096x1024 .f32 :=
  broadcastInDim Cert.MlpReferenceIdeal.S4096x1024 ![0] Cert.MlpReferenceIdeal.Gen.bcast_S4096_S4096x1024_0 (Host.reduceAdd (Host.divf (mulf
      (shapeCast _ (Host.reduceAdd (mulf x n) (constant Cert.MlpReferenceIdeal.S_ .f32 0x00000000#32) Cert.MlpReferenceIdeal.Gen.reducesTo_S4096x1024_S4096_d1 Cert.MlpReferenceIdeal.Gen.h_S_) Cert.MlpReferenceIdeal.Gen.shapeCasts_S4096_S4096x1)
      (mulf (broadcastInDim Cert.MlpReferenceIdeal.S4096x1 ![] Cert.MlpReferenceIdeal.Gen.bcast_S_S4096x1 (constant Cert.MlpReferenceIdeal.S_ .f32 0xBF000000#32)) (Host.divf (Host.rsqrt (meanSq x)) (meanSq x))))
    (broadcastInDim Cert.MlpReferenceIdeal.S4096x1 ![] Cert.MlpReferenceIdeal.Gen.bcast_S_S4096x1 (constant Cert.MlpReferenceIdeal.S_ .f32 0x44800000#32)))
    (constant Cert.MlpReferenceIdeal.S_ .f32 0x00000000#32) Cert.MlpReferenceIdeal.Gen.reducesTo_S4096x1_S4096_d1 Cert.MlpReferenceIdeal.Gen.h_S_)

/-- The reference's gradient of the norm's input. -/
def gradIn (x n base : FVec Ideal Cert.MlpReferenceIdeal.S4096x1024 .f32) : FVec Ideal Cert.MlpReferenceIdeal.S4096x1024 .f32 :=
  addf (addf (addf base (mulf n (broadcastInDim Cert.MlpReferenceIdeal.S4096x1024 ![0, 1] Cert.MlpReferenceIdeal.Gen.bcast_S4096x1_S4096x1024_0_1 (Host.rsqrt (meanSq x))))) (mulf x (slope x n)))
    (mulf (slope x n) x)

/-- The reference's gradient of the gain. -/
def gradGain (x dn : FVec Ideal Cert.MlpReferenceIdeal.S4096x1024 .f32) : FVec Ideal Cert.MlpReferenceIdeal.S1x1024 .f32 :=
  shapeCast _ (Host.reduceAdd (shapeCast _ (Host.reduceAdd (mulf (mulf x (broadcastInDim Cert.MlpReferenceIdeal.S4096x1024 ![0, 1] Cert.MlpReferenceIdeal.Gen.bcast_S4096x1_S4096x1024_0_1 (Host.rsqrt (meanSq x)))) dn)
      (constant Cert.MlpReferenceIdeal.S_ .f32 0x00000000#32) Cert.MlpReferenceIdeal.Gen.reducesTo_S4096x1024_S1024_d0 Cert.MlpReferenceIdeal.Gen.h_S_) Cert.MlpReferenceIdeal.Gen.shapeCasts_S1024_S1x1024)
    (constant Cert.MlpReferenceIdeal.S_ .f32 0x00000000#32) Cert.MlpReferenceIdeal.Gen.reducesTo_S1x1024_S1024_d0 Cert.MlpReferenceIdeal.Gen.h_S_) Cert.MlpReferenceIdeal.Gen.shapeCasts_S1024_S1x1024

/-- An entry of the reference's gradient of the input. -/
theorem gradIn_at (x n base : FVec Ideal Cert.MlpReferenceIdeal.S4096x1024 .f32) (s : Fin 4096) (j : Fin 1024) :
    gradIn x n base (ix2 s j) = Cert.NormMath.dIn (fun k => x (ix2 s k)) (fun k => n (ix2 s k)) (base (ix2 s j)) j := by
  pointwise [gradIn, slope, meanSq, Cert.NormMath.dIn]
  simp only [Fin.sum_univ_one]

/-- An entry of the reference's gradient of the gain. -/
theorem gradGain_at (x dn : FVec Ideal Cert.MlpReferenceIdeal.S4096x1024 .f32) (j : Fin 1024) :
    gradGain x dn (ix2 0 j) = ∑ s : Fin 4096, x (ix2 s j) * Cert.NormMath.inv (fun k => x (ix2 s k)) * dn (ix2 s j) := by
  pointwise [gradGain, meanSq, Cert.NormMath.inv]
  simp only [Fin.sum_univ_one]

/-- An entry of the gained gradient. -/
theorem gained_at (g : FVec Ideal Cert.MlpReferenceIdeal.S1024 .f32) (dn : FVec Ideal Cert.MlpReferenceIdeal.S4096x1024 .f32) (s : Fin 4096) (j : Fin 1024) :
    gained g dn (ix2 s j) = dn (ix2 s j) * g (ix1 j) := by
  pointwise [gained]

end Cert.NormRef

end
-- ==== Proof.NormFwd.lean ====
module

public import proofs.«01_k».proof.Proof.NormRef

/-! The root-mean-square norm forward as the references compute it, on whole arrays, and its entries. -/

@[expose] public section

set_option maxRecDepth 16384

noncomputable section

open Idealize.ShloMosaic Idealize.ShloMosaic.TcCoe
open scoped BigOperators

namespace Cert.NormRef

/-- The rows, each over its root mean square, times the gain. -/
def normed (x : FVec Ideal Cert.MlpReferenceIdeal.S4096x1024 .f32) (g : FVec Ideal Cert.MlpReferenceIdeal.S1024 .f32) : FVec Ideal Cert.MlpReferenceIdeal.S4096x1024 .f32 :=
  mulf (mulf x (broadcastInDim Cert.MlpReferenceIdeal.S4096x1024 ![0, 1] Cert.MlpReferenceIdeal.Gen.bcast_S4096x1_S4096x1024_0_1 (Host.rsqrt (meanSq x))))
    (broadcastInDim Cert.MlpReferenceIdeal.S4096x1024 ![0, 1] Cert.MlpReferenceIdeal.Gen.bcast_S1x1024_S4096x1024_0_1 (broadcastInDim Cert.MlpReferenceIdeal.S1x1024 ![1] Cert.MlpReferenceIdeal.Gen.bcast_S1024_S1x1024_1 g))

/-- An entry of the normed rows. -/
theorem normed_at (x : FVec Ideal Cert.MlpReferenceIdeal.S4096x1024 .f32) (g : FVec Ideal Cert.MlpReferenceIdeal.S1024 .f32) (s : Fin 4096) (j : Fin 1024) :
    normed x g (ix2 s j) = x (ix2 s j) * Cert.NormMath.inv (fun k => x (ix2 s k)) * g (ix1 j) := by
  pointwise [normed, meanSq, Cert.NormMath.inv]

end Cert.NormRef

end
-- ==== Proof.Up.lean ====
module

public import proofs.«01_k».proof.Proof.Gen.UpKernelIdeal.Value
public import proofs.«01_k».proof.Proof.Gen.UpReferenceIdeal.Run
public import proofs.«01_k».proof.Defs
public import Idealize.ShloMosaic.Lib.Pipeline.ValueKit
public import Idealize.ShloMosaic.Lib.Claim

public import proofs.«01_k».proof.Proof.NormFwd

/-!
The norm in front of the MLP and the first half of the MLP forward: the normed rows, and their product with `w_up`.
-/

@[expose] public section

set_option maxRecDepth 16384

noncomputable section

open Idealize.ShloMosaic Idealize.ShloMosaic.TcCoe Idealize.SL.Sem
open Idealize.ShloMosaic.Pipeline (Dat)
open scoped BigOperators

namespace Cert.UpKernelIdeal.Fwd

open Cert.UpKernelIdeal Cert.UpKernelIdeal.Gen Cert.NormRef

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

/-- The arrays that the host prepares: the gain as a row, and the matrix in eight blocks of columns. -/
theorem host_arrays (c : Dev nD) :
    V m c main_v3 = (shapeCast S1x1024 (m ((c : Thread nD τ).loc main_arg1)) shapeCasts_S1024_S1x1024 : Vec Ideal S1x1024 .f32)
    ∧ V m c main_v2 = (transpose S8x1024x512 [1, 0, 2] (shapeCast S1024x8x512 (m ((c : Thread nD τ).loc main_arg2)) shapeCasts_S1024x4096_S1024x8x512)
      transposes_S1024x8x512_S8x1024x512_1_0_2 : Vec Ideal S8x1024x512 .f32) := by
  refine ⟨?_, ?_⟩ <;> rfl

/-- The product of the normed rows with the matrix. -/
def product (h : FVec Ideal Cert.UpReferenceIdeal.S4096x1024 .f32) (w : FVec Ideal Cert.UpReferenceIdeal.S1024x4096 .f32) :
    FVec Ideal Cert.UpReferenceIdeal.S4096x4096 .f32 :=
  Host.dotGeneral Cert.UpReferenceIdeal.dot_S4096x1024_S1024x4096_S4096x4096_1_0_0_1_n_n none h w

theorem points (t : Fin cfg0.N) : t.val < 8 := lt_of_lt_of_eq t.isLt N_0

/-- The row of the arrays that row `r` of the blocks at point `t` is. -/
def row (t : Fin cfg0.N) (r : Fin 512) : Fin 4096 := ⟨512 * t.val + r.val, by have := points t; omega⟩

theorem block_x (c : Dev nD) (t : Fin cfg0.N) (r : Fin 512) (k : Fin 1024) :
    iblk m c 0 t (ix2 r k) = m ((c : Thread nD τ).loc main_arg0) (ix2 (row t r) k) := by
  blk_point [iblk, V, idx t, row]

theorem block_g (c : Dev nD) (t : Fin cfg0.N) (k : Fin 1024) :
    iblk m c 1 t (ix2 0 k) = m ((c : Thread nD τ).loc main_arg1) (ix1 k) := by
  refine Eq.trans ?_ ((congrFun (host_arrays m c).1 (ix2 0 k)).trans ?_)
  · blk_point [iblk, idx t]
  · pointwise []

/-- An entry of the body's normed rows. -/
theorem pay1_at (X : Vec Ideal S512x1024 .f32) (G : Vec Ideal S1x1024 .f32) (r : Fin 512) (j : Fin 1024) :
    k0_pay1 X G (ix2 r j) = X (ix2 r j) * Cert.NormMath.inv (fun k => X (ix2 r k)) * G (ix2 0 j) := by
  pointwise [k0_pay1, Cert.NormMath.inv]

/-- The body's normed rows are the reference's. -/
theorem tile (c : Dev nD) (t : Fin cfg0.N) (r : Fin 512) (j : Fin 1024) : k0_pay1 (iblk m c 0 t) (iblk m c 1 t) (ix2 r j)
    = normed (m ((c : Thread nD τ).loc main_arg0)) (m ((c : Thread nD τ).loc main_arg1)) (ix2 (row t r) j) := by
  rw [pay1_at, normed_at, block_g]
  simp only [block_x]

/-- The normed rows after the run. -/
theorem final_3 (c : Dev nD) : (dats m 0 c).arrAt 3 (cfgs 0).N
    = truncf .bf16 (normed (m ((c : Thread nD τ).loc main_arg0)) (m ((c : Thread nD τ).loc main_arg1)))
      Cert.UpReferenceIdeal.Gen.bitsLt_bf16_f32 := by
  refine (dats m 0 c).arrAt_eq_of_covers 3 _ (by decide +kernel) fun t hf y => ?_
  obtain ⟨r, j, rfl⟩ : ∃ (r : Fin 512) (j : Fin 1024), y = ix2 r j := ⟨y 0, y 1, (ix2_eta y).symm⟩
  blk_simp; rw [after0_3]; frame_out
  refine (tile m c t r j).trans (congrArg _ ?_)
  blk_ext [idx t, row]

theorem block_w (c : Dev nD) (t : Fin cfg0.N) (a : Fin 8) (k : Fin 1024) (b : Fin 512) :
    iblk m c 2 t (ix3 a k b) = m ((c : Thread nD τ).loc main_arg2) (ix2 k ⟨512 * a.val + b.val, by omega⟩) := by
  refine Eq.trans ?_ ((congrFun (host_arrays m c).2 (ix3 a k b)).trans ?_)
  · blk_point [iblk, idx t]
  · pointwise []
    have e : (⟨a.val * 512 + b.val, by omega⟩ : Fin 4096) = ⟨512 * a.val + b.val, by omega⟩ := Fin.ext (by dsimp only; omega)
    exact congrArg (fun i => m ((c : Thread nD τ).loc main_arg2) (ix2 k i)) e

/-- One block of columns of the product. -/
theorem columns (c : Dev nD) (t : Fin cfg0.N) (a : Fin 8) (r b : Fin 512) :
    ∑ k : Fin 1024, k0_pay1 (iblk m c 0 t) (iblk m c 1 t) (ix2 r k) * iblk m c 2 t (ix3 a k b)
      = product (normed (m ((c : Thread nD τ).loc main_arg0)) (m ((c : Thread nD τ).loc main_arg1))) (m ((c : Thread nD τ).loc main_arg2))
          (ix2 (row t r) ⟨512 * a.val + b.val, by omega⟩) := by
  pointwise [product]
  exact Finset.sum_congr rfl fun k _ => congrArg₂ (· * ·) (tile m c t r k) (block_w m c t a k b)

/-- The whole tile of rows, read by its rectangle. -/
theorem whole_0 (x : Vec Ideal S512x1024 .bf16) : View.ld x r0_0 = x := View.ld_unit_zero (by funext a; fin_cases a <;> rfl) _ x

/-- The gains, read by their rectangle. -/
theorem whole_1 (x : Vec Ideal S1x1024 .f32) : View.ld x r0_1 = x := View.ld_unit_zero (by funext a; fin_cases a <;> rfl) _ x

/-- An entry of one block of columns is the entry of the product that it is stored for. -/
theorem piece (c : Dev nD) (t : Fin cfg0.N) (a : Fin 8) (x : S512x512.Idx) (y : S512x4096.Idx) (h0 : (y 0).val = (x 0).val)
    (h1 : (y 1).val = 512 * a.val + (x 1).val) (p : EReal)
    (hp : p = ∑ k : Fin 1024, k0_pay1 (iblk m c 0 t) (iblk m c 1 t) (ix2 (x 0) k) * iblk m c 2 t (ix3 a k (x 1))) :
    p = truncf .bf16 (product (normed (m ((c : Thread nD τ).loc main_arg0)) (m ((c : Thread nD τ).loc main_arg1)))
      (m ((c : Thread nD τ).loc main_arg2))) Cert.UpReferenceIdeal.Gen.bitsLt_bf16_f32
        (((View.whole main_v4_1).slice (win0_4.rect t)).emb y) := by
  refine hp.trans ((columns m c t a (x 0) (x 1)).trans (congrArg (product _ _) ?_))
  blk_ext [idx t, row, h0, h1]

set_option maxHeartbeats 1600000 in
/-- The activations after the run. -/
theorem final_4 (c : Dev nD) : (dats m 0 c).arrAt 4 (cfgs 0).N
    = truncf .bf16 (product (normed (m ((c : Thread nD τ).loc main_arg0)) (m ((c : Thread nD τ).loc main_arg1)))
      (m ((c : Thread nD τ).loc main_arg2))) Cert.UpReferenceIdeal.Gen.bitsLt_bf16_f32 := by
  refine (dats m 0 c).arrAt_eq_of_covers 4 _ (by decide +kernel) fun t hf y => ?_
  blk_simp; rw [after0_4]; frame_out
  canon_tiles x h
  · exact piece m c t 7 x y h0 h1 _ (by pointwise [k0_pay9]; rw [k0_pay10, whole_0, whole_1])
  · exact piece m c t 6 x y h0 h1 _ (by pointwise [k0_pay8]; rw [k0_pay10, whole_0, whole_1])
  · exact piece m c t 5 x y h0 h1 _ (by pointwise [k0_pay7]; rw [k0_pay10, whole_0, whole_1])
  · exact piece m c t 4 x y h0 h1 _ (by pointwise [k0_pay6]; rw [k0_pay10, whole_0, whole_1])
  · exact piece m c t 3 x y h0 h1 _ (by pointwise [k0_pay5]; rw [k0_pay10, whole_0, whole_1])
  · exact piece m c t 2 x y h0 h1 _ (by pointwise [k0_pay4])
  · exact piece m c t 1 x y h0 h1 _ (by pointwise [k0_pay3])
  · exact piece m c t 0 x y h0 (by omega) _ (by pointwise [k0_pay2])

set_option maxHeartbeats 3200000 in
/-- The kernel's results are the reference's. -/
theorem value : Cert.algebraic_UpKernelIdeal_UpReferenceIdeal := by
  pair_intro
  · run_from Cert.UpKernelIdeal.Gen.run_main m g
  · run_from Cert.UpReferenceIdeal.Value.run m' g'
    · exact (final_3 m c).symm
    · exact (final_4 m c).symm

end Cert.UpKernelIdeal.Fwd

end
-- ==== Proof.Proj.lean ====
module

public import proofs.«01_k».proof.Proof.Gen.ProjKernelIdeal.Value
public import proofs.«01_k».proof.Proof.Gen.ProjReferenceIdeal.Run
public import proofs.«01_k».proof.Defs
public import Idealize.ShloMosaic.Lib.Pipeline.ValueKit
public import Idealize.ShloMosaic.Lib.Claim

public import proofs.«01_k».proof.Proof.NormFwd

/-!
The mixer's norm and its input projection forward: the normed rows, the attentions' columns of their product with
`w_in`, and the sigmoid of the gates' columns.
-/

@[expose] public section

set_option maxRecDepth 16384

noncomputable section

open Idealize.ShloMosaic Idealize.ShloMosaic.TcCoe Idealize.SL.Sem
open Idealize.ShloMosaic.Pipeline (Dat)
open scoped BigOperators

namespace Cert.ProjKernelIdeal.Fwd

open Cert.ProjKernelIdeal Cert.ProjKernelIdeal.Gen Cert.NormRef

variable (m : (ℓ : Loc nD τ sig) → Buf (Elt Ideal) ℓ)

/-- Every window's block index at every grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

/-- The arrays that the host prepares: the gain as a row, and the matrix's transpose. -/
theorem host_arrays (c : Dev nD) :
    V m c main_v0 = (shapeCast S1x1024 (m ((c : Thread nD τ).loc main_arg1)) shapeCasts_S1024_S1x1024 : Vec Ideal S1x1024 .f32)
    ∧ V m c main_v2 = (transpose S4352x1024 [1, 0] (m ((c : Thread nD τ).loc main_arg2)) transposes_S1024x4352_S4352x1024_1_0
      : Vec Ideal S4352x1024 .f32) := by
  refine ⟨?_, ?_⟩ <;> rfl

/-- The product of the normed rows with the matrix. -/
def product (h : FVec Ideal Cert.ProjReferenceIdeal.S4096x1024 .f32) (w : FVec Ideal Cert.ProjReferenceIdeal.S1024x4352 .f32) : FVec Ideal Cert.ProjReferenceIdeal.S4096x4352 .f32 :=
  Host.dotGeneral Cert.ProjReferenceIdeal.dot_S4096x1024_S1024x4352_S4096x4352_1_0_0_1_n_n none h w

/-- The attentions' columns of the product. -/
def heads (p : FVec Ideal Cert.ProjReferenceIdeal.S4096x4352 .f32) : FVec Ideal Cert.ProjReferenceIdeal.S4096x2304 .bf16 :=
  truncf .bf16 (extractStridedSlice Cert.ProjReferenceIdeal.S4096x2304 ![0, 0] p Cert.ProjReferenceIdeal.Gen.slices_S4096x4352_S4096x2304_0_0) Cert.ProjReferenceIdeal.Gen.bitsLt_bf16_f32

/-- The sigmoid of the gates' columns. -/
def gates (p : FVec Ideal Cert.ProjReferenceIdeal.S4096x4352 .f32) : FVec Ideal Cert.ProjReferenceIdeal.S4096x2048 .bf16 :=
  let one := broadcastInDim Cert.ProjReferenceIdeal.S4096x2048 ![] Cert.ProjReferenceIdeal.Gen.bcast_S_S4096x2048 (constant Cert.ProjReferenceIdeal.S_ .f32 0x3F800000#32)
  truncf .bf16 (Host.divf one (addf one (Host.exp (Host.negf
    (extractStridedSlice Cert.ProjReferenceIdeal.S4096x2048 ![0, 2304] p Cert.ProjReferenceIdeal.Gen.slices_S4096x4352_S4096x2048_0_2304))))) Cert.ProjReferenceIdeal.Gen.bitsLt_bf16_f32

theorem points (t : Fin cfg0.N) : t.val < 8 := lt_of_lt_of_eq t.isLt N_0

/-- The row of the arrays that row `r` of the blocks at point `t` is. -/
def row (t : Fin cfg0.N) (r : Fin 512) : Fin 4096 := ⟨512 * t.val + r.val, by have := points t; omega⟩

theorem block_x (c : Dev nD) (t : Fin cfg0.N) (r : Fin 512) (k : Fin 1024) :
    iblk m c 0 t (ix2 r k) = m ((c : Thread nD τ).loc main_arg0) (ix2 (row t r) k) := by
  blk_point [iblk, V, idx t, row]

theorem block_g (c : Dev nD) (t : Fin cfg0.N) (k : Fin 1024) :
    iblk m c 1 t (ix2 0 k) = m ((c : Thread nD τ).loc main_arg1) (ix1 k) := by
  refine Eq.trans ?_ ((congrFun (host_arrays m c).1 (ix2 0 k)).trans ?_)
  · blk_point [iblk, idx t]
  · pointwise []

/-- An entry of the body's normed rows. -/
theorem pay1_at (X : Vec Ideal S512x1024 .f32) (G : Vec Ideal S1x1024 .f32) (r : Fin 512) (j : Fin 1024) :
    k0_pay1 X G (ix2 r j) = X (ix2 r j) * Cert.NormMath.inv (fun k => X (ix2 r k)) * G (ix2 0 j) := by
  pointwise [k0_pay1, Cert.NormMath.inv]

/-- The body's normed rows are the reference's. -/
theorem tile (c : Dev nD) (t : Fin cfg0.N) (r : Fin 512) (j : Fin 1024) : k0_pay1 (iblk m c 0 t) (iblk m c 1 t) (ix2 r j)
    = normed (m ((c : Thread nD τ).loc main_arg0)) (m ((c : Thread nD τ).loc main_arg1)) (ix2 (row t r) j) := by
  rw [pay1_at, normed_at, block_g]
  simp only [block_x]

/-- The normed rows after the run. -/
theorem final_3 (c : Dev nD) : (dats m 0 c).arrAt 3 (cfgs 0).N
    = truncf .bf16 (normed (m ((c : Thread nD τ).loc main_arg0)) (m ((c : Thread nD τ).loc main_arg1)))
      Cert.ProjReferenceIdeal.Gen.bitsLt_bf16_f32 := by
  refine (dats m 0 c).arrAt_eq_of_covers 3 _ (by decide +kernel) fun t hf y => ?_
  obtain ⟨r, j, rfl⟩ : ∃ (r : Fin 512) (j : Fin 1024), y = ix2 r j := ⟨y 0, y 1, (ix2_eta y).symm⟩
  blk_simp; rw [after0_3]; frame_out
  refine (tile m c t r j).trans (congrArg _ ?_)
  blk_ext [idx t, row]

theorem block_w (c : Dev nD) (t : Fin cfg0.N) (j : Fin 4352) (k : Fin 1024) :
    iblk m c 2 t (ix2 j k) = m ((c : Thread nD τ).loc main_arg2) (ix2 k j) := by
  refine Eq.trans ?_ ((congrFun (host_arrays m c).2 (ix2 j k)).trans ?_)
  · blk_point [iblk, idx t]
  · pointwise []

/-- The body's product is the reference's. -/
theorem columns (c : Dev nD) (t : Fin cfg0.N) (r : Fin 512) (j : Fin 4352) :
    k0_pay2 (iblk m c 0 t) (iblk m c 1 t) (iblk m c 2 t) (ix2 r j)
      = product (normed (m ((c : Thread nD τ).loc main_arg0)) (m ((c : Thread nD τ).loc main_arg1))) (m ((c : Thread nD τ).loc main_arg2))
          (ix2 (row t r) j) := by
  pointwise [k0_pay2, product]
  exact Finset.sum_congr rfl fun k _ => congrArg₂ (· * ·) (tile m c t r k) (block_w m c t j k)

/-- The attentions' columns after the run. -/
theorem final_4 (c : Dev nD) : (dats m 0 c).arrAt 4 (cfgs 0).N
    = heads (product (normed (m ((c : Thread nD τ).loc main_arg0)) (m ((c : Thread nD τ).loc main_arg1)))
      (m ((c : Thread nD τ).loc main_arg2))) := by
  refine (dats m 0 c).arrAt_eq_of_covers 4 _ (by decide +kernel) fun t hf y => ?_
  obtain ⟨r, j, rfl⟩ : ∃ (r : Fin 512) (j : Fin 2304), y = ix2 r j := ⟨y 0, y 1, (ix2_eta y).symm⟩
  blk_simp; rw [after0_4]; frame_out
  pointwise [k0_pay3, heads]
  refine (columns m c t r _).trans (congrArg _ ?_)
  blk_ext [idx t, row]

/-- The gates after the run. -/
theorem final_5 (c : Dev nD) : (dats m 0 c).arrAt 5 (cfgs 0).N
    = gates (product (normed (m ((c : Thread nD τ).loc main_arg0)) (m ((c : Thread nD τ).loc main_arg1)))
      (m ((c : Thread nD τ).loc main_arg2))) := by
  refine (dats m 0 c).arrAt_eq_of_covers 5 _ (by decide +kernel) fun t hf y => ?_
  obtain ⟨r, j, rfl⟩ : ∃ (r : Fin 512) (j : Fin 2048), y = ix2 r j := ⟨y 0, y 1, (ix2_eta y).symm⟩
  blk_simp; rw [after0_5]; frame_out
  pointwise [k0_pay4, gates]
  rw [zero_sub, columns]
  refine congrArg (fun i => Ideal.div 1 (1 + Ideal.exp (-product _ _ i))) ?_
  blk_ext [idx t, row]

set_option maxHeartbeats 3200000 in
/-- The kernel's results are the reference's. -/
theorem value : Cert.algebraic_ProjKernelIdeal_ProjReferenceIdeal := by
  pair_intro
  · run_from Cert.ProjKernelIdeal.Gen.run_main m g
  · run_from Cert.ProjReferenceIdeal.Value.run m' g'
    · exact (final_3 m c).symm
    · exact (final_4 m c).symm
    · exact (final_5 m c).symm

end Cert.ProjKernelIdeal.Fwd

end
-- ==== Proof.Mlp.lean ====
module

public import proofs.«01_k».proof.Proof.Gen.MlpKernelIdeal.Value
public import proofs.«01_k».proof.Proof.Gen.MlpReferenceIdeal.Run
public import Idealize.ShloMosaic.Lib.Pipeline.ValueKit
public import Idealize.ShloMosaic.Lib.Claim
public import proofs.«01_k».proof.Defs
public import proofs.«01_k».proof.Proof.NormRef

/-!
The gradient through the norm in front of the MLP: the gradient of the activations times the matrix, then the norm's gradient for the input and the gain.
-/

@[expose] public section

set_option maxRecDepth 16384

noncomputable section

open Idealize.ShloMosaic Idealize.ShloMosaic.TcCoe Idealize.SL.Sem
open Idealize.ShloMosaic.Pipeline (Dat)
open scoped BigOperators

namespace Cert.MlpKernelIdeal.Grad

open Cert.MlpKernelIdeal Cert.MlpKernelIdeal.Gen Cert.NormRef

variable (m : (ℓ : Loc nD τ sig) → Buf (Elt Ideal) ℓ)

/-- Every window's block index at every grid point. -/
theorem idx : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![t.val, 0] ∧ win0_7.index t = ![0, 0] :=
  (by decide +kernel : ∀ t : Fin grid0.N, _)

theorem points (t : Fin cfg0.N) : t.val < 8 := lt_of_lt_of_eq t.isLt N_0

/-- The row of the arrays that row `r` of the blocks at point `t` is. -/
def row (t : Fin cfg0.N) (r : Fin 512) : Fin 4096 := ⟨512 * t.val + r.val, by have := points t; omega⟩

/-- The gradient of the normed and scaled rows. -/
def dNormed (du : FVec Ideal Cert.MlpReferenceIdeal.S4096x4096 .f32) (w : FVec Ideal Cert.MlpReferenceIdeal.S1024x4096 .f32) :
    FVec Ideal Cert.MlpReferenceIdeal.S4096x1024 .f32 :=
  Host.dotGeneral Cert.MlpReferenceIdeal.dot_S4096x4096_S1024x4096_S4096x1024_1_1_0_0_n_n none du w

/-- The arrays that the call is given. -/
theorem host_arrays (c : Dev nD) : V m c main_v3 = (m ((c : Thread nD τ).loc main_arg3) : Vec Ideal S4096x4096 .f32)
    ∧ V m c main_v2 = (transpose S8x1024x512 [1, 0, 2] (shapeCast S1024x8x512 (m ((c : Thread nD τ).loc main_arg2)) shapeCasts_S1024x4096_S1024x8x512)
      transposes_S1024x8x512_S8x1024x512_1_0_2 : Vec Ideal S8x1024x512 .f32)
    ∧ V m c main_v4 = (shapeCast S1x1024 (m ((c : Thread nD τ).loc main_arg1)) shapeCasts_S1024_S1x1024 : Vec Ideal S1x1024 .f32) := by
  refine ⟨?_, ?_, ?_⟩ <;> rfl

theorem block_u (c : Dev nD) (t : Fin cfg0.N) (r : Fin 512) (i : Fin 4096) :
    iblk m c 0 t (ix2 r i) = m ((c : Thread nD τ).loc main_arg3) (ix2 (row t r) i) := by
  refine Eq.trans ?_ (congrFun (host_arrays m c).1 _)
  blk_point [iblk, idx t, row]

theorem block_w (c : Dev nD) (t : Fin cfg0.N) (a : Fin 8) (k : Fin 1024) (b : Fin 512) :
    iblk m c 1 t (ix3 a k b) = m ((c : Thread nD τ).loc main_arg2) (ix2 k ⟨512 * a.val + b.val, by omega⟩) := by
  refine Eq.trans ?_ ((congrFun (host_arrays m c).2.1 (ix3 a k b)).trans ?_)
  · blk_point [iblk, idx t]
  · pointwise []
    have e : (⟨a.val * 512 + b.val, by omega⟩ : Fin 4096) = ⟨512 * a.val + b.val, by omega⟩ := Fin.ext (by dsimp only; omega)
    exact congrArg (fun i => m ((c : Thread nD τ).loc main_arg2) (ix2 k i)) e

theorem block_x (c : Dev nD) (t : Fin cfg0.N) (r : Fin 512) (k : Fin 1024) :
    iblk m c 2 t (ix2 r k) = m ((c : Thread nD τ).loc main_arg0) (ix2 (row t r) k) := by
  blk_point [iblk, V, idx t, row]

theorem block_g (c : Dev nD) (t : Fin cfg0.N) (k : Fin 1024) :
    iblk m c 3 t (ix2 0 k) = m ((c : Thread nD τ).loc main_arg1) (ix1 k) := by
  refine Eq.trans ?_ ((congrFun (host_arrays m c).2.2 (ix2 0 k)).trans ?_)
  · blk_point [iblk, idx t]
  · pointwise []

theorem block_b (c : Dev nD) (t : Fin cfg0.N) (r : Fin 512) (k : Fin 1024) :
    iblk m c 4 t (ix2 r k) = m ((c : Thread nD τ).loc main_arg4) (ix2 (row t r) k) := by
  blk_point [iblk, V, idx t, row]

/-- What the body accumulates over the eight blocks of columns. -/
def acc (U : Vec Ideal S512x4096 .bf16) (W : Vec Ideal S8x1024x512 .bf16) : FVec Ideal S512x1024 .f32 :=
  k0_pay7
        (k0_pay5 (View.ld U (Rect.unit ![0, 0] ![512, 512] inb_S512x4096_S512x512_0_0))
          (View.ld W (Rect.unit ![0, 0, 0] ![1, 1024, 512] inb_S8x1024x512_S1x1024x512_0_0_0))
          (View.ld U (Rect.unit ![0, 512] ![512, 512] inb_S512x4096_S512x512_0_512))
          (View.ld W (Rect.unit ![1, 0, 0] ![1, 1024, 512] inb_S8x1024x512_S1x1024x512_1_0_0))
          (View.ld U (Rect.unit ![0, 1024] ![512, 512] inb_S512x4096_S512x512_0_1024))
          (View.ld W (Rect.unit ![2, 0, 0] ![1, 1024, 512] inb_S8x1024x512_S1x1024x512_2_0_0))
          (View.ld U (Rect.unit ![0, 1536] ![512, 512] inb_S512x4096_S512x512_0_1536))
          (View.ld W (Rect.unit ![3, 0, 0] ![1, 1024, 512] inb_S8x1024x512_S1x1024x512_3_0_0)))
        (k0_pay6 (View.ld U (Rect.unit ![0, 2048] ![512, 512] inb_S512x4096_S512x512_0_2048)))
        (View.ld W (Rect.unit ![4, 0, 0] ![1, 1024, 512] inb_S8x1024x512_S1x1024x512_4_0_0))
        (View.ld U (Rect.unit ![0, 2560] ![512, 512] inb_S512x4096_S512x512_0_2560))
        (View.ld W (Rect.unit ![5, 0, 0] ![1, 1024, 512] inb_S8x1024x512_S1x1024x512_5_0_0))
        (View.ld U (Rect.unit ![0, 3072] ![512, 512] inb_S512x4096_S512x512_0_3072))
        (View.ld W (Rect.unit ![6, 0, 0] ![1, 1024, 512] inb_S8x1024x512_S1x1024x512_6_0_0))
        (View.ld U (Rect.unit ![0, 3584] ![512, 512] inb_S512x4096_S512x512_0_3584))
        (View.ld W (Rect.unit ![7, 0, 0] ![1, 1024, 512] inb_S8x1024x512_S1x1024x512_7_0_0))

/-- A sum over all columns is the sum over the eight blocks, from the left. -/
theorem eighths (f : Fin 8 → Fin 512 → EReal) : ∑ b, f 0 b + ∑ b, f 1 b + ∑ b, f 2 b + ∑ b, f 3 b + ∑ b, f 4 b + ∑ b, f 5 b + ∑ b, f 6 b + ∑ b, f 7 b
    = ∑ i : Fin 4096, f ⟨i.val / 512, by omega⟩ ⟨i.val % 512, by omega⟩ := by
  rw [← Fin.sum_univ_eight (fun a => ∑ b, f a b)]
  refine Fin.sum_mul_add_congr (f := fun i : Fin 4096 => f ⟨i.val / 512, by omega⟩ ⟨i.val % 512, by omega⟩) fun a b hl => ?_
  exact congrArg₂ f (Fin.ext (show a.val = (a.val * 512 + b.val) / 512 by omega)) (Fin.ext (show b.val = (a.val * 512 + b.val) % 512 by omega))

/-- An entry of what the body accumulates. -/
theorem acc_at (U : Vec Ideal S512x4096 .bf16) (W : Vec Ideal S8x1024x512 .bf16) (r : Fin 512) (k : Fin 1024) :
    acc U W (ix2 r k) = ∑ i : Fin 4096, U (ix2 r i) * W (ix3 ⟨i.val / 512, by omega⟩ k ⟨i.val % 512, by omega⟩) := by
  pointwise [acc, k0_pay7, k0_pay6, k0_pay5]
  refine (eighths fun a b => U (ix2 r ⟨512 * a.val + b.val, by omega⟩) * W (ix3 a k b)).trans (Finset.sum_congr rfl fun i _ => ?_)
  congr 3
  exact Fin.ext (Nat.div_add_mod _ _)

/-- What is accumulated is the gradient of the normed and scaled rows. -/
theorem acc_blocks (c : Dev nD) (t : Fin cfg0.N) (r : Fin 512) (k : Fin 1024) :
    acc (iblk m c 0 t) (iblk m c 1 t) (ix2 r k) = dNormed (m ((c : Thread nD τ).loc main_arg3)) (m ((c : Thread nD τ).loc main_arg2)) (ix2 (row t r) k) := by
  rw [acc_at]
  pointwise [dNormed]
  refine Finset.sum_congr rfl fun i _ => ?_
  rw [block_u, block_w]
  congr 3
  exact Fin.ext (Nat.div_add_mod _ _)

/-- An entry of the body's gradient of the input. -/
theorem pay1_at (A X B : Vec Ideal S512x1024 .f32) (G : Vec Ideal S1x1024 .f32) (r : Fin 512) (j : Fin 1024) :
    k0_pay1 A X (k0_pay8 X) (k0_pay9 G) B (ix2 r j)
      = Cert.NormMath.dIn (fun k => X (ix2 r k)) (fun k => A (ix2 r k) * G (ix2 0 k)) (B (ix2 r j)) j := by
  rw [Cert.NormMath.dIn_eq]
  pointwise [k0_pay1, k0_pay8, k0_pay9, Cert.NormMath.inv]

/-- An entry of the gradient of the input at a grid point is the reference's. -/
theorem point_in (c : Dev nD) (t : Fin cfg0.N) (r : Fin 512) (j : Fin 1024) :
    k0_pay1 (acc (iblk m c 0 t) (iblk m c 1 t)) (iblk m c 2 t) (k0_pay8 (iblk m c 2 t)) (k0_pay9 (iblk m c 3 t)) (iblk m c 4 t) (ix2 r j)
      = gradIn (m ((c : Thread nD τ).loc main_arg0)) (gained (m ((c : Thread nD τ).loc main_arg1)) (dNormed (m ((c : Thread nD τ).loc main_arg3)) (m ((c : Thread nD τ).loc main_arg2)))) (m ((c : Thread nD τ).loc main_arg4))
        (ix2 (row t r) j) := by
  rw [pay1_at, gradIn_at]
  congr 1
  · exact funext fun k => block_x m c t r k
  · exact funext fun k => (congrArg₂ (· * ·) (acc_blocks m c t r k) (block_g m c t k)).trans (by pointwise [gained])
  · exact block_b m c t r j

/-- The gradient of the norm's input after the run. -/
theorem final_5 (c : Dev nD) : (dats m 0 c).arrAt 5 (cfgs 0).N
    = gradIn (m ((c : Thread nD τ).loc main_arg0)) (gained (m ((c : Thread nD τ).loc main_arg1)) (dNormed (m ((c : Thread nD τ).loc main_arg3)) (m ((c : Thread nD τ).loc main_arg2)))) (m ((c : Thread nD τ).loc main_arg4)) := by
  refine (dats m 0 c).arrAt_eq_of_covers 5 _ (by decide +kernel) fun t hf y => ?_
  obtain ⟨r, j, rfl⟩ : ∃ (r : Fin 512) (j : Fin 1024), y = ix2 r j := ⟨y 0, y 1, (ix2_eta y).symm⟩
  blk_simp; rw [after0_5]
  have e : (((View.whole main_v5_0).slice (win0_5.rect t)).emb (ix2 r j)) = ix2 (row t r) j := by blk_ext [idx t, row]
  by_cases h : t.val % 8 = 0
  · rw [outsAt0_A m c t h]; frame_out; rw [e]; exact point_in m c t r j
  · rw [outsAt0_B m c t h]; frame_out; rw [e]; exact point_in m c t r j

/-- Its copy in the short format after the run. -/
theorem final_6 (c : Dev nD) : (dats m 0 c).arrAt 6 (cfgs 0).N = truncf .bf16
    (gradIn (m ((c : Thread nD τ).loc main_arg0)) (gained (m ((c : Thread nD τ).loc main_arg1)) (dNormed (m ((c : Thread nD τ).loc main_arg3)) (m ((c : Thread nD τ).loc main_arg2)))) (m ((c : Thread nD τ).loc main_arg4)))
      Cert.MlpReferenceIdeal.Gen.bitsLt_bf16_f32 := by
  refine (dats m 0 c).arrAt_eq_of_covers 6 _ (by decide +kernel) fun t hf y => ?_
  obtain ⟨r, j, rfl⟩ : ∃ (r : Fin 512) (j : Fin 1024), y = ix2 r j := ⟨y 0, y 1, (ix2_eta y).symm⟩
  blk_simp; rw [after0_6]
  have e : (((View.whole main_v5_1).slice (win0_6.rect t)).emb (ix2 r j)) = ix2 (row t r) j := by blk_ext [idx t, row]
  by_cases h : t.val % 8 = 0
  · rw [outsAt0_A m c t h]; frame_out; rw [e]; exact point_in m c t r j
  · rw [outsAt0_B m c t h]; frame_out; rw [e]; exact point_in m c t r j

/-- The gain's gradient starts at zero. -/
theorem gain_zero (j : S1x1024.Idx) : k0_pay4 (F := Ideal) j = 0 := by pointwise! [k0_pay4]

/-- Each tile adds its part to the gain's gradient so far. -/
theorem gain_step (A X : Vec Ideal S512x1024 .f32) (a : Vec Ideal S1x1024 .f32) (j : S1x1024.Idx) :
    k0_pay3 A X (k0_pay8 X) a j = a j + k0_pay3 A X (k0_pay8 X) (fun _ => 0) j := by pointwise [k0_pay3]

/-- A tile's part of the gain's gradient. -/
theorem gain_at (A X : Vec Ideal S512x1024 .f32) (j : Fin 1024) : k0_pay3 A X (k0_pay8 X) (fun _ => 0) (ix2 0 j)
    = ∑ r : Fin 512, X (ix2 r j) * Cert.NormMath.inv (fun k => X (ix2 r k)) * A (ix2 r j) := by
  refine Eq.trans ?_ (Finset.sum_congr rfl fun r _ => mul_comm (A (ix2 r j)) _)
  pointwise [k0_pay3, k0_pay8, Cert.NormMath.inv]

/-- The gain's gradient after the run. -/
theorem final_7 (c : Dev nD) : (dats m 0 c).arrAt 7 (cfgs 0).N = gradGain (m ((c : Thread nD τ).loc main_arg0)) (dNormed (m ((c : Thread nD τ).loc main_arg3)) (m ((c : Thread nD τ).loc main_arg2))) := by
  refine (dats m 0 c).arrAt_eq_of_after_last 7 t0_7 (by decide +kernel) _ fun y => ?_
  obtain ⟨j, rfl⟩ : ∃ (j : Fin 1024), y = ix2 0 j := ⟨y 1, by rw [← Fin.eq_zero (y 0)]; exact (ix2_eta y).symm⟩
  blk_simp
  rw [after0_7, Pipeline.eq_sum_fin_of_reset_step_apply_last (fun n h => (outsAt0 m c n h).2.2) 8 (fun _ => 0) _
    (fun t h j => by rw [outsAt0_A m c t h]; frame_out; exact (gain_step (acc (iblk m c 0 t) (iblk m c 1 t)) (iblk m c 2 t) _ j).trans (by rw [gain_zero]))
    (fun t h j => by rw [outsAt0_B m c t h]; frame_out; exact gain_step (acc (iblk m c 0 t) (iblk m c 1 t)) (iblk m c 2 t) _ j)
    (le_of_eq N_0) t0_7 rfl (ix2 0 j), zero_add]
  refine Eq.trans ?_ (gradGain_at _ _ j).symm
  refine (Finset.sum_congr rfl fun s _ => gain_at _ _ j).trans ?_
  refine Fin.sum_mul_add_congr fun s k hl => ?_
  have e : (⟨s.val * 512 + k.val, hl⟩ : Fin 4096) = row s k := Fin.ext (show s.val * 512 + k.val = 512 * s.val + k.val by omega)
  rw [e, acc_blocks, block_x]
  simp only [block_x]

/-- The reference's results by their names. -/
theorem results (m' : (ℓ : Loc Cert.MlpReferenceIdeal.nD Cert.MlpReferenceIdeal.τ Cert.MlpReferenceIdeal.sig) → Buf (Elt Ideal) ℓ)
    (c : Dev Cert.MlpReferenceIdeal.nD) : Cert.MlpReferenceIdeal.Value.res_main_v38 m' c
      = gradIn (m' ((c.tc : Thread Cert.MlpReferenceIdeal.nD Cert.MlpReferenceIdeal.τ).loc Cert.MlpReferenceIdeal.main_arg0))
        (gained (m' ((c.tc : Thread Cert.MlpReferenceIdeal.nD Cert.MlpReferenceIdeal.τ).loc Cert.MlpReferenceIdeal.main_arg1))
          (dNormed (m' ((c.tc : Thread Cert.MlpReferenceIdeal.nD Cert.MlpReferenceIdeal.τ).loc Cert.MlpReferenceIdeal.main_arg3))
            (m' ((c.tc : Thread Cert.MlpReferenceIdeal.nD Cert.MlpReferenceIdeal.τ).loc Cert.MlpReferenceIdeal.main_arg2))))
        (m' ((c.tc : Thread Cert.MlpReferenceIdeal.nD Cert.MlpReferenceIdeal.τ).loc Cert.MlpReferenceIdeal.main_arg4)) :=
  rfl

/-- The kernel's results are the reference's. -/
theorem value : Cert.algebraic_MlpKernelIdeal_MlpReferenceIdeal := by
  pair_intro
  · run_from Cert.MlpKernelIdeal.Gen.run_main m g
  · run_from Cert.MlpReferenceIdeal.Value.run m' g'
    · obtain ⟨e0, e1, e2, e3, e4⟩ := hagree c
      rw [results, e0, e1, e2, e3, e4]
      exact (final_5 m c).symm
    · obtain ⟨e0, e1, e2, e3, e4⟩ := hagree c
      refine (congrArg (truncf .bf16 · Cert.MlpReferenceIdeal.Gen.bitsLt_bf16_f32) (results m' c)).trans ?_
      rw [e0, e1, e2, e3, e4]
      exact (final_6 m c).symm
    · exact (final_7 m c).symm

end Cert.MlpKernelIdeal.Grad

end
-- ==== Proof.In.lean ====
module

public import proofs.«01_k».proof.Proof.Gen.InKernelIdeal.Value
public import proofs.«01_k».proof.Proof.Gen.InReferenceIdeal.Run
public import Idealize.ShloMosaic.Lib.Pipeline.ValueKit
public import Idealize.ShloMosaic.Lib.Claim
public import proofs.«01_k».proof.Defs
public import proofs.«01_k».proof.Proof.NormRef

/-!
The gradient through the norm in front of the projections: the gradients of the seven projections times the matrix, then the norm's gradient for the input and the gain.
-/

@[expose] public section

set_option maxRecDepth 16384

noncomputable section

open Idealize.ShloMosaic Idealize.ShloMosaic.TcCoe Idealize.SL.Sem
open Idealize.ShloMosaic.Pipeline (Dat)
open scoped BigOperators

namespace Cert.InKernelIdeal.Grad

open Cert.InKernelIdeal Cert.InKernelIdeal.Gen Cert.NormRef

variable (m : (ℓ : Loc nD τ sig) → Buf (Elt Ideal) ℓ)

/-- Every window's block index at every grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![0, 0] ∧ win0_8.index t = ![t.val, 0]
    ∧ win0_9.index t = ![0, 0] ∧ win0_10.index t = ![t.val, 0] ∧ win0_11.index t = ![t.val, 0] ∧ win0_12.index t = ![t.val, 0] ∧ win0_13.index t = ![0, 0] :=
  (by decide +kernel : ∀ t : Fin grid0.N, _)

theorem points (t : Fin cfg0.N) : t.val < 8 := lt_of_lt_of_eq t.isLt N_0

/-- The row of the arrays that row `r` of the blocks at point `t` is. -/
def row (t : Fin cfg0.N) (r : Fin 512) : Fin 4096 := ⟨512 * t.val + r.val, by have := points t; omega⟩

/-- The gradients of the seven projections side by side. -/
def joined (p0 : FVec Ideal Cert.InReferenceIdeal.S4096x512 .f32) (p1 : FVec Ideal Cert.InReferenceIdeal.S4096x512 .f32) (p2 : FVec Ideal Cert.InReferenceIdeal.S4096x512 .f32) (p3 : FVec Ideal Cert.InReferenceIdeal.S4096x512 .f32) (p4 : FVec Ideal Cert.InReferenceIdeal.S4096x128 .f32) (p5 : FVec Ideal Cert.InReferenceIdeal.S4096x128 .f32) (p6 : FVec Ideal Cert.InReferenceIdeal.S4096x2048 .f32) :
    FVec Ideal Cert.InReferenceIdeal.S4096x4352 .f32 :=
  concatenate Cert.InReferenceIdeal.S4096x4352 1 [⟨Cert.InReferenceIdeal.S4096x512, p0⟩, ⟨Cert.InReferenceIdeal.S4096x512, p1⟩, ⟨Cert.InReferenceIdeal.S4096x512, p2⟩, ⟨Cert.InReferenceIdeal.S4096x512, p3⟩, ⟨Cert.InReferenceIdeal.S4096x128, p4⟩, ⟨Cert.InReferenceIdeal.S4096x128, p5⟩, ⟨Cert.InReferenceIdeal.S4096x2048, p6⟩]
    Cert.InReferenceIdeal.Gen.concatenates_S4096x512_S4096x512_S4096x512_S4096x512_S4096x128_S4096x128_S4096x2048_S4096x4352_d1

/-- The gradient of the normed and scaled rows. -/
def dNormed (d : FVec Ideal Cert.InReferenceIdeal.S4096x4352 .f32) (w : FVec Ideal Cert.InReferenceIdeal.S1024x4352 .f32) :
    FVec Ideal Cert.InReferenceIdeal.S4096x1024 .f32 :=
  Host.dotGeneral Cert.InReferenceIdeal.dot_S4096x4352_S1024x4352_S4096x1024_1_1_0_0_n_n none d w

/-- The gradient of the normed and scaled rows, of the call's arguments. -/
def dNormedOf (c : Dev nD) : FVec Ideal Cert.InReferenceIdeal.S4096x1024 .f32 :=
  dNormed (joined (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg2))

/-- The arrays that the call is given. -/
theorem host_arrays (c : Dev nD) : V m c main_v2 = (m ((c : Thread nD τ).loc main_arg3) : Vec Ideal S4096x512 .f32)
    ∧ V m c main_v3 = (m ((c : Thread nD τ).loc main_arg4) : Vec Ideal S4096x512 .f32)
    ∧ V m c main_v4 = (m ((c : Thread nD τ).loc main_arg5) : Vec Ideal S4096x512 .f32)
    ∧ V m c main_v5 = (m ((c : Thread nD τ).loc main_arg6) : Vec Ideal S4096x512 .f32)
    ∧ V m c main_v6 = (m ((c : Thread nD τ).loc main_arg7) : Vec Ideal S4096x128 .f32)
    ∧ V m c main_v7 = (m ((c : Thread nD τ).loc main_arg8) : Vec Ideal S4096x128 .f32)
    ∧ V m c main_v8 = (m ((c : Thread nD τ).loc main_arg9) : Vec Ideal S4096x2048 .f32)
    ∧ V m c main_v1 = (transpose S4352x1024 [1, 0] (m ((c : Thread nD τ).loc main_arg2)) transposes_S1024x4352_S4352x1024_1_0 : Vec Ideal S4352x1024 .f32)
    ∧ V m c main_v9 = (shapeCast S1x1024 (m ((c : Thread nD τ).loc main_arg1)) shapeCasts_S1024_S1x1024 : Vec Ideal S1x1024 .f32) := by
  refine ⟨?_, ?_, ?_, ?_, ?_, ?_, ?_, ?_, ?_⟩ <;> rfl

theorem block_0 (c : Dev nD) (t : Fin cfg0.N) (r : Fin 512) (i : Fin 512) :
    iblk m c 0 t (ix2 r i) = m ((c : Thread nD τ).loc main_arg3) (ix2 (row t r) i) := by
  refine Eq.trans ?_ (congrFun (host_arrays m c).1 _)
  blk_point [iblk, idx t, row]

theorem block_1 (c : Dev nD) (t : Fin cfg0.N) (r : Fin 512) (i : Fin 512) :
    iblk m c 1 t (ix2 r i) = m ((c : Thread nD τ).loc main_arg4) (ix2 (row t r) i) := by
  refine Eq.trans ?_ (congrFun (host_arrays m c).2.1 _)
  blk_point [iblk, idx t, row]

theorem block_2 (c : Dev nD) (t : Fin cfg0.N) (r : Fin 512) (i : Fin 512) :
    iblk m c 2 t (ix2 r i) = m ((c : Thread nD τ).loc main_arg5) (ix2 (row t r) i) := by
  refine Eq.trans ?_ (congrFun (host_arrays m c).2.2.1 _)
  blk_point [iblk, idx t, row]

theorem block_3 (c : Dev nD) (t : Fin cfg0.N) (r : Fin 512) (i : Fin 512) :
    iblk m c 3 t (ix2 r i) = m ((c : Thread nD τ).loc main_arg6) (ix2 (row t r) i) := by
  refine Eq.trans ?_ (congrFun (host_arrays m c).2.2.2.1 _)
  blk_point [iblk, idx t, row]

theorem block_4 (c : Dev nD) (t : Fin cfg0.N) (r : Fin 512) (i : Fin 128) :
    iblk m c 4 t (ix2 r i) = m ((c : Thread nD τ).loc main_arg7) (ix2 (row t r) i) := by
  refine Eq.trans ?_ (congrFun (host_arrays m c).2.2.2.2.1 _)
  blk_point [iblk, idx t, row]

theorem block_5 (c : Dev nD) (t : Fin cfg0.N) (r : Fin 512) (i : Fin 128) :
    iblk m c 5 t (ix2 r i) = m ((c : Thread nD τ).loc main_arg8) (ix2 (row t r) i) := by
  refine Eq.trans ?_ (congrFun (host_arrays m c).2.2.2.2.2.1 _)
  blk_point [iblk, idx t, row]

theorem block_6 (c : Dev nD) (t : Fin cfg0.N) (r : Fin 512) (i : Fin 2048) :
    iblk m c 6 t (ix2 r i) = m ((c : Thread nD τ).loc main_arg9) (ix2 (row t r) i) := by
  refine Eq.trans ?_ (congrFun (host_arrays m c).2.2.2.2.2.2.1 _)
  blk_point [iblk, idx t, row]

theorem block_w (c : Dev nD) (t : Fin cfg0.N) (i : Fin 4352) (k : Fin 1024) :
    iblk m c 7 t (ix2 i k) = m ((c : Thread nD τ).loc main_arg2) (ix2 k i) := by
  refine Eq.trans ?_ ((congrFun (host_arrays m c).2.2.2.2.2.2.2.1 (ix2 i k)).trans ?_)
  · blk_point [iblk, idx t]
  · pointwise []

theorem block_x (c : Dev nD) (t : Fin cfg0.N) (r : Fin 512) (k : Fin 1024) :
    iblk m c 8 t (ix2 r k) = m ((c : Thread nD τ).loc main_arg0) (ix2 (row t r) k) := by
  blk_point [iblk, V, idx t, row]

theorem block_g (c : Dev nD) (t : Fin cfg0.N) (k : Fin 1024) :
    iblk m c 9 t (ix2 0 k) = m ((c : Thread nD τ).loc main_arg1) (ix1 k) := by
  refine Eq.trans ?_ ((congrFun (host_arrays m c).2.2.2.2.2.2.2.2 (ix2 0 k)).trans ?_)
  · blk_point [iblk, idx t]
  · pointwise []

theorem block_b (c : Dev nD) (t : Fin cfg0.N) (r : Fin 512) (k : Fin 1024) :
    iblk m c 10 t (ix2 r k) = m ((c : Thread nD τ).loc main_arg10) (ix2 (row t r) k) := by
  blk_point [iblk, V, idx t, row]

/-- The first four products, of the attention's first three gradients and the windowed queries'. -/
def four (P0 P1 P2 P3 : Vec Ideal S512x512 .bf16) (W : Vec Ideal S4352x1024 .bf16) : FVec Ideal S512x1024 .f32 :=
  k0_pay5 P0 (View.ld W (Rect.unit ![0, 0] ![512, 1024] inb_S4352x1024_S512x1024_0_0))
    P1 (View.ld W (Rect.unit ![512, 0] ![512, 1024] inb_S4352x1024_S512x1024_512_0))
    P2 (View.ld W (Rect.unit ![1024, 0] ![512, 1024] inb_S4352x1024_S512x1024_1024_0))
    P3 (View.ld W (Rect.unit ![1536, 0] ![512, 1024] inb_S4352x1024_S512x1024_1536_0))

/-- What the body accumulates over the seven pieces. -/
def acc (P0 P1 P2 P3 : Vec Ideal S512x512 .bf16) (P4 P5 : Vec Ideal S512x128 .bf16) (P6 : Vec Ideal S512x2048 .bf16) (W : Vec Ideal S4352x1024 .bf16) :
    FVec Ideal S512x1024 .f32 :=
  k0_pay7 (four P0 P1 P2 P3 W) (k0_pay6 P4 (View.ld W (Rect.unit ![2048, 0] ![128, 1024] inb_S4352x1024_S128x1024_2048_0)))
    P5 (View.ld W (Rect.unit ![2176, 0] ![128, 1024] inb_S4352x1024_S128x1024_2176_0))
    P6 (View.ld W (Rect.unit ![2304, 0] ![2048, 1024] inb_S4352x1024_S2048x1024_2304_0))

/-- The accumulated sum at a grid point. -/
def accAt (c : Dev nD) (t : Fin cfg0.N) : FVec Ideal S512x1024 .f32 :=
  acc (iblk m c 0 t) (iblk m c 1 t) (iblk m c 2 t) (iblk m c 3 t) (iblk m c 4 t) (iblk m c 5 t) (iblk m c 6 t) (iblk m c 7 t)

/-- A sum over the first columns, cut in two. -/
theorem cut (n k : ℕ) (f : Fin 4352 → EReal) (h : n + k ≤ 4352) : ∑ i : Fin (n + k), f ⟨i.val, by omega⟩
    = (∑ i : Fin n, f ⟨i.val, by omega⟩) + ∑ i : Fin k, f ⟨n + i.val, by omega⟩ :=
  Fin.sum_univ_add _

/-- A sum over all columns is the sum over the seven pieces, from the left. -/
theorem pieces (f : Fin 4352 → EReal) : ∑ i, f i = ∑ i : Fin 512, f ⟨0 + i.val, by omega⟩ + ∑ i : Fin 512, f ⟨512 + i.val, by omega⟩ + ∑ i : Fin 512, f ⟨1024 + i.val, by omega⟩ + ∑ i : Fin 512, f ⟨1536 + i.val, by omega⟩ + ∑ i : Fin 128, f ⟨2048 + i.val, by omega⟩ + ∑ i : Fin 128, f ⟨2176 + i.val, by omega⟩ + ∑ i : Fin 2048, f ⟨2304 + i.val, by omega⟩ :=
  (cut 2304 2048 f (by omega)).trans (congrArg (· + _) ((cut 2176 128 f (by omega)).trans (congrArg (· + _) ((cut 2048 128 f (by omega)).trans
    (congrArg (· + _) ((cut 1536 512 f (by omega)).trans (congrArg (· + _) ((cut 1024 512 f (by omega)).trans (congrArg (· + _)
      ((cut 512 512 f (by omega)).trans (congrArg (· + _) (Finset.sum_congr rfl fun i _ => congrArg f (Fin.ext (Nat.zero_add _).symm)))))))))))))

theorem joined_0 (p0 : FVec Ideal Cert.InReferenceIdeal.S4096x512 .f32) (p1 : FVec Ideal Cert.InReferenceIdeal.S4096x512 .f32) (p2 : FVec Ideal Cert.InReferenceIdeal.S4096x512 .f32) (p3 : FVec Ideal Cert.InReferenceIdeal.S4096x512 .f32) (p4 : FVec Ideal Cert.InReferenceIdeal.S4096x128 .f32) (p5 : FVec Ideal Cert.InReferenceIdeal.S4096x128 .f32) (p6 : FVec Ideal Cert.InReferenceIdeal.S4096x2048 .f32) (s : Fin 4096) (i : Fin 512) :
    joined p0 p1 p2 p3 p4 p5 p6 (ix2 s ⟨0 + i.val, by omega⟩) = p0 (ix2 s i) := by
  pointwise [joined]

theorem joined_1 (p0 : FVec Ideal Cert.InReferenceIdeal.S4096x512 .f32) (p1 : FVec Ideal Cert.InReferenceIdeal.S4096x512 .f32) (p2 : FVec Ideal Cert.InReferenceIdeal.S4096x512 .f32) (p3 : FVec Ideal Cert.InReferenceIdeal.S4096x512 .f32) (p4 : FVec Ideal Cert.InReferenceIdeal.S4096x128 .f32) (p5 : FVec Ideal Cert.InReferenceIdeal.S4096x128 .f32) (p6 : FVec Ideal Cert.InReferenceIdeal.S4096x2048 .f32) (s : Fin 4096) (i : Fin 512) :
    joined p0 p1 p2 p3 p4 p5 p6 (ix2 s ⟨512 + i.val, by omega⟩) = p1 (ix2 s i) := by
  pointwise [joined]

theorem joined_2 (p0 : FVec Ideal Cert.InReferenceIdeal.S4096x512 .f32) (p1 : FVec Ideal Cert.InReferenceIdeal.S4096x512 .f32) (p2 : FVec Ideal Cert.InReferenceIdeal.S4096x512 .f32) (p3 : FVec Ideal Cert.InReferenceIdeal.S4096x512 .f32) (p4 : FVec Ideal Cert.InReferenceIdeal.S4096x128 .f32) (p5 : FVec Ideal Cert.InReferenceIdeal.S4096x128 .f32) (p6 : FVec Ideal Cert.InReferenceIdeal.S4096x2048 .f32) (s : Fin 4096) (i : Fin 512) :
    joined p0 p1 p2 p3 p4 p5 p6 (ix2 s ⟨1024 + i.val, by omega⟩) = p2 (ix2 s i) := by
  pointwise [joined]
  rw [dif_neg (by omega), dif_neg (by omega), dif_pos (by omega)]
  exact congrArg (fun q => p2 (ix2 s q)) (Fin.ext (by dsimp only; omega))

theorem joined_3 (p0 : FVec Ideal Cert.InReferenceIdeal.S4096x512 .f32) (p1 : FVec Ideal Cert.InReferenceIdeal.S4096x512 .f32) (p2 : FVec Ideal Cert.InReferenceIdeal.S4096x512 .f32) (p3 : FVec Ideal Cert.InReferenceIdeal.S4096x512 .f32) (p4 : FVec Ideal Cert.InReferenceIdeal.S4096x128 .f32) (p5 : FVec Ideal Cert.InReferenceIdeal.S4096x128 .f32) (p6 : FVec Ideal Cert.InReferenceIdeal.S4096x2048 .f32) (s : Fin 4096) (i : Fin 512) :
    joined p0 p1 p2 p3 p4 p5 p6 (ix2 s ⟨1536 + i.val, by omega⟩) = p3 (ix2 s i) := by
  pointwise [joined]
  rw [dif_neg (by omega), dif_neg (by omega), dif_neg (by omega), dif_pos (by omega)]
  exact congrArg (fun q => p3 (ix2 s q)) (Fin.ext (by dsimp only; omega))

theorem joined_4 (p0 : FVec Ideal Cert.InReferenceIdeal.S4096x512 .f32) (p1 : FVec Ideal Cert.InReferenceIdeal.S4096x512 .f32) (p2 : FVec Ideal Cert.InReferenceIdeal.S4096x512 .f32) (p3 : FVec Ideal Cert.InReferenceIdeal.S4096x512 .f32) (p4 : FVec Ideal Cert.InReferenceIdeal.S4096x128 .f32) (p5 : FVec Ideal Cert.InReferenceIdeal.S4096x128 .f32) (p6 : FVec Ideal Cert.InReferenceIdeal.S4096x2048 .f32) (s : Fin 4096) (i : Fin 128) :
    joined p0 p1 p2 p3 p4 p5 p6 (ix2 s ⟨2048 + i.val, by omega⟩) = p4 (ix2 s i) := by
  pointwise [joined]
  rw [dif_neg (by omega), dif_neg (by omega), dif_neg (by omega), dif_neg (by omega), dif_pos (by omega)]
  exact congrArg (fun q => p4 (ix2 s q)) (Fin.ext (by dsimp only; omega))

theorem joined_5 (p0 : FVec Ideal Cert.InReferenceIdeal.S4096x512 .f32) (p1 : FVec Ideal Cert.InReferenceIdeal.S4096x512 .f32) (p2 : FVec Ideal Cert.InReferenceIdeal.S4096x512 .f32) (p3 : FVec Ideal Cert.InReferenceIdeal.S4096x512 .f32) (p4 : FVec Ideal Cert.InReferenceIdeal.S4096x128 .f32) (p5 : FVec Ideal Cert.InReferenceIdeal.S4096x128 .f32) (p6 : FVec Ideal Cert.InReferenceIdeal.S4096x2048 .f32) (s : Fin 4096) (i : Fin 128) :
    joined p0 p1 p2 p3 p4 p5 p6 (ix2 s ⟨2176 + i.val, by omega⟩) = p5 (ix2 s i) := by
  pointwise [joined]
  rw [dif_neg (by omega), dif_neg (by omega), dif_neg (by omega), dif_neg (by omega), dif_neg (by omega), dif_pos (by omega)]
  exact congrArg (fun q => p5 (ix2 s q)) (Fin.ext (by dsimp only; omega))

theorem joined_6 (p0 : FVec Ideal Cert.InReferenceIdeal.S4096x512 .f32) (p1 : FVec Ideal Cert.InReferenceIdeal.S4096x512 .f32) (p2 : FVec Ideal Cert.InReferenceIdeal.S4096x512 .f32) (p3 : FVec Ideal Cert.InReferenceIdeal.S4096x512 .f32) (p4 : FVec Ideal Cert.InReferenceIdeal.S4096x128 .f32) (p5 : FVec Ideal Cert.InReferenceIdeal.S4096x128 .f32) (p6 : FVec Ideal Cert.InReferenceIdeal.S4096x2048 .f32) (s : Fin 4096) (i : Fin 2048) :
    joined p0 p1 p2 p3 p4 p5 p6 (ix2 s ⟨2304 + i.val, by omega⟩) = p6 (ix2 s i) := by
  pointwise [joined]
  rw [dif_neg (by omega), dif_neg (by omega), dif_neg (by omega), dif_neg (by omega), dif_neg (by omega), dif_neg (by omega)]
  exact congrArg (fun q => p6 (ix2 s q)) (Fin.ext (by dsimp only; omega))

/-- An entry of what the body accumulates. -/
theorem acc_at (P0 : Vec Ideal S512x512 .bf16) (P1 : Vec Ideal S512x512 .bf16) (P2 : Vec Ideal S512x512 .bf16) (P3 : Vec Ideal S512x512 .bf16) (P4 : Vec Ideal S512x128 .bf16) (P5 : Vec Ideal S512x128 .bf16) (P6 : Vec Ideal S512x2048 .bf16) (W : Vec Ideal S4352x1024 .bf16) (r : Fin 512) (k : Fin 1024) :
    acc P0 P1 P2 P3 P4 P5 P6 W (ix2 r k) = ∑ i : Fin 512, P0 (ix2 r i) * W (ix2 ⟨0 + i.val, by omega⟩ k) + ∑ i : Fin 512, P1 (ix2 r i) * W (ix2 ⟨512 + i.val, by omega⟩ k) + ∑ i : Fin 512, P2 (ix2 r i) * W (ix2 ⟨1024 + i.val, by omega⟩ k) + ∑ i : Fin 512, P3 (ix2 r i) * W (ix2 ⟨1536 + i.val, by omega⟩ k) + ∑ i : Fin 128, P4 (ix2 r i) * W (ix2 ⟨2048 + i.val, by omega⟩ k) + ∑ i : Fin 128, P5 (ix2 r i) * W (ix2 ⟨2176 + i.val, by omega⟩ k) + ∑ i : Fin 2048, P6 (ix2 r i) * W (ix2 ⟨2304 + i.val, by omega⟩ k) := by
  pointwise [acc, four, k0_pay7, k0_pay6, k0_pay5]

/-- What is accumulated is the gradient of the normed and scaled rows. -/
theorem acc_blocks (c : Dev nD) (t : Fin cfg0.N) (r : Fin 512) (k : Fin 1024) : accAt m c t (ix2 r k) = dNormedOf m c (ix2 (row t r) k) := by
  refine (acc_at _ _ _ _ _ _ _ _ r k).trans ?_
  pointwise [dNormedOf, dNormed]
  refine Eq.trans ?_ (pieces _).symm
  simp only [joined_0, joined_1, joined_2, joined_3, joined_4, joined_5, joined_6, block_0, block_1, block_2, block_3, block_4, block_5, block_6, block_w]
  simp only [Nat.zero_add]

/-- The body's gradient of the input, of its blocks. -/
def bodyIn (P0 : Vec Ideal S512x512 .bf16) (P1 : Vec Ideal S512x512 .bf16) (P2 : Vec Ideal S512x512 .bf16) (P3 : Vec Ideal S512x512 .bf16) (P4 : Vec Ideal S512x128 .bf16) (P5 : Vec Ideal S512x128 .bf16) (P6 : Vec Ideal S512x2048 .bf16) (W : Vec Ideal S4352x1024 .bf16) (X B : Vec Ideal S512x1024 .f32) (G : Vec Ideal S1x1024 .f32) : FVec Ideal S512x1024 .f32 :=
  k0_pay1 X (k0_pay10 (four P0 P1 P2 P3 W) (k0_pay6 P4 (View.ld W (Rect.unit ![2048, 0] ![128, 1024] inb_S4352x1024_S128x1024_2048_0)))
    P5 (View.ld W (Rect.unit ![2176, 0] ![128, 1024] inb_S4352x1024_S128x1024_2176_0))
    P6 (View.ld W (Rect.unit ![2304, 0] ![2048, 1024] inb_S4352x1024_S2048x1024_2304_0)) X G B)
   (k0_pay11 (four P0 P1 P2 P3 W) (k0_pay6 P4 (View.ld W (Rect.unit ![2048, 0] ![128, 1024] inb_S4352x1024_S128x1024_2048_0)))
    P5 (View.ld W (Rect.unit ![2176, 0] ![128, 1024] inb_S4352x1024_S128x1024_2176_0))
    P6 (View.ld W (Rect.unit ![2304, 0] ![2048, 1024] inb_S4352x1024_S2048x1024_2304_0)) X G)

/-- An entry of the body's gradient of the input. -/
theorem pay1_at (P0 : Vec Ideal S512x512 .bf16) (P1 : Vec Ideal S512x512 .bf16) (P2 : Vec Ideal S512x512 .bf16) (P3 : Vec Ideal S512x512 .bf16) (P4 : Vec Ideal S512x128 .bf16) (P5 : Vec Ideal S512x128 .bf16) (P6 : Vec Ideal S512x2048 .bf16) (W : Vec Ideal S4352x1024 .bf16) (X B : Vec Ideal S512x1024 .f32) (G : Vec Ideal S1x1024 .f32) (r : Fin 512) (j : Fin 1024) :
    bodyIn P0 P1 P2 P3 P4 P5 P6 W X B G (ix2 r j)
      = Cert.NormMath.dIn (fun k => X (ix2 r k)) (fun k => acc P0 P1 P2 P3 P4 P5 P6 W (ix2 r k) * G (ix2 0 k)) (B (ix2 r j)) j := by
  rw [Cert.NormMath.dIn_eq]
  unfold bodyIn acc
  generalize four P0 P1 P2 P3 W = A
  generalize k0_pay6 P4 _ = A'
  generalize View.ld W (Rect.unit ![2176, 0] ![128, 1024] inb_S4352x1024_S128x1024_2176_0) = W5
  generalize View.ld W (Rect.unit ![2304, 0] ![2048, 1024] inb_S4352x1024_S2048x1024_2304_0) = W6
  have e : ∀ k, k0_pay9 A A' P5 W5 P6 W6 G (ix2 r k) = k0_pay7 A A' P5 W5 P6 W6 (ix2 r k) * G (ix2 0 k) := fun k => by
    generalize hq : k0_pay7 A A' P5 W5 P6 W6 = q
    unfold k0_pay9
    rw [hq]
    pointwise []
  pointwise [k0_pay1, k0_pay10, k0_pay11, k0_pay8, Cert.NormMath.inv]
  simp only [e]

/-- An entry of the gradient of the input at a grid point is the reference's. -/
theorem point_in (c : Dev nD) (t : Fin cfg0.N) (r : Fin 512) (j : Fin 1024) :
    bodyIn (iblk m c 0 t) (iblk m c 1 t) (iblk m c 2 t) (iblk m c 3 t) (iblk m c 4 t) (iblk m c 5 t) (iblk m c 6 t) (iblk m c 7 t) (iblk m c 8 t) (iblk m c 10 t) (iblk m c 9 t) (ix2 r j) = gradIn (m ((c : Thread nD τ).loc main_arg0)) (gained (m ((c : Thread nD τ).loc main_arg1)) (dNormedOf m c)) (m ((c : Thread nD τ).loc main_arg10)) (ix2 (row t r) j) := by
  rw [pay1_at, gradIn_at]
  congr 1
  · exact funext fun k => block_x m c t r k
  · exact funext fun k => (congrArg₂ (· * ·) (acc_blocks m c t r k) (block_g m c t k)).trans (gained_at _ _ _ _).symm
  · exact block_b m c t r j

/-- The gradient of the norm's input after the run. -/
theorem final_11 (c : Dev nD) : (dats m 0 c).arrAt 11 (cfgs 0).N = gradIn (m ((c : Thread nD τ).loc main_arg0)) (gained (m ((c : Thread nD τ).loc main_arg1)) (dNormedOf m c)) (m ((c : Thread nD τ).loc main_arg10)) := by
  refine (dats m 0 c).arrAt_eq_of_covers 11 _ (by decide +kernel) fun t hf y => ?_
  obtain ⟨r, j, rfl⟩ : ∃ (r : Fin 512) (j : Fin 1024), y = ix2 r j := ⟨y 0, y 1, (ix2_eta y).symm⟩
  blk_simp; rw [after0_11]
  have e : (((View.whole main_v10_0).slice (win0_11.rect t)).emb (ix2 r j)) = ix2 (row t r) j := by blk_ext [idx t, row]
  by_cases h : t.val % 8 = 0
  · rw [outsAt0_A m c t h]; frame_out; rw [e]; exact point_in m c t r j
  · rw [outsAt0_B m c t h]; frame_out; rw [e]; exact point_in m c t r j

/-- Its copy in the short format after the run. -/
theorem final_12 (c : Dev nD) : (dats m 0 c).arrAt 12 (cfgs 0).N = truncf .bf16 (gradIn (m ((c : Thread nD τ).loc main_arg0)) (gained (m ((c : Thread nD τ).loc main_arg1)) (dNormedOf m c)) (m ((c : Thread nD τ).loc main_arg10))) Cert.InReferenceIdeal.Gen.bitsLt_bf16_f32 := by
  refine (dats m 0 c).arrAt_eq_of_covers 12 _ (by decide +kernel) fun t hf y => ?_
  obtain ⟨r, j, rfl⟩ : ∃ (r : Fin 512) (j : Fin 1024), y = ix2 r j := ⟨y 0, y 1, (ix2_eta y).symm⟩
  blk_simp; rw [after0_12]
  have e : (((View.whole main_v10_1).slice (win0_12.rect t)).emb (ix2 r j)) = ix2 (row t r) j := by blk_ext [idx t, row]
  by_cases h : t.val % 8 = 0
  · rw [outsAt0_A m c t h]; frame_out; rw [e]; exact point_in m c t r j
  · rw [outsAt0_B m c t h]; frame_out; rw [e]; exact point_in m c t r j

/-- The gain's gradient starts at zero. -/
theorem gain_zero (j : S1x1024.Idx) : k0_pay4 (F := Ideal) j = 0 := by pointwise! [k0_pay4]

/-- Each tile adds its part to the gain's gradient so far. -/
theorem gain_step (A X : Vec Ideal S512x1024 .f32) (a : Vec Ideal S1x1024 .f32) (j : S1x1024.Idx) :
    k0_pay3 A X (k0_pay8 X) a j = a j + k0_pay3 A X (k0_pay8 X) (fun _ => 0) j := by pointwise [k0_pay3]

/-- A tile's part of the gain's gradient. -/
theorem gain_at (A X : Vec Ideal S512x1024 .f32) (j : Fin 1024) : k0_pay3 A X (k0_pay8 X) (fun _ => 0) (ix2 0 j)
    = ∑ r : Fin 512, X (ix2 r j) * Cert.NormMath.inv (fun k => X (ix2 r k)) * A (ix2 r j) := by
  refine Eq.trans ?_ (Finset.sum_congr rfl fun r _ => mul_comm (A (ix2 r j)) _)
  pointwise [k0_pay3, k0_pay8, Cert.NormMath.inv]

/-- The gain's gradient after the run. -/
theorem final_13 (c : Dev nD) : (dats m 0 c).arrAt 13 (cfgs 0).N = gradGain (m ((c : Thread nD τ).loc main_arg0)) (dNormedOf m c) := by
  refine (dats m 0 c).arrAt_eq_of_after_last 13 t0_7 (by decide +kernel) _ fun y => ?_
  obtain ⟨j, rfl⟩ : ∃ (j : Fin 1024), y = ix2 0 j := ⟨y 1, by rw [← Fin.eq_zero (y 0)]; exact (ix2_eta y).symm⟩
  blk_simp
  rw [after0_13, Pipeline.eq_sum_fin_of_reset_step_apply_last (fun n h => (outsAt0 m c n h).2.2) 8 (fun _ => 0) _
    (fun t h j => by rw [outsAt0_A m c t h]; frame_out; exact (gain_step (accAt m c t) (iblk m c 8 t) _ j).trans (by rw [gain_zero]))
    (fun t h j => by rw [outsAt0_B m c t h]; frame_out; exact gain_step (accAt m c t) (iblk m c 8 t) _ j)
    (le_of_eq N_0) t0_7 rfl (ix2 0 j), zero_add]
  refine Eq.trans ?_ (gradGain_at _ _ j).symm
  refine (Finset.sum_congr rfl fun s _ => gain_at _ _ j).trans ?_
  refine Fin.sum_mul_add_congr fun s k hl => ?_
  have e : (⟨s.val * 512 + k.val, hl⟩ : Fin 4096) = row s k := Fin.ext (show s.val * 512 + k.val = 512 * s.val + k.val by omega)
  rw [e, acc_blocks, block_x]
  simp only [block_x]

/-- The reference's results by their names. -/
theorem results (m' : (ℓ : Loc Cert.InReferenceIdeal.nD Cert.InReferenceIdeal.τ Cert.InReferenceIdeal.sig) → Buf (Elt Ideal) ℓ) (c : Dev Cert.InReferenceIdeal.nD) : Cert.InReferenceIdeal.Value.res_main_v46 m' c
      = gradIn (m' ((c.tc : Thread Cert.InReferenceIdeal.nD Cert.InReferenceIdeal.τ).loc Cert.InReferenceIdeal.main_arg0)) (gained (m' ((c.tc : Thread Cert.InReferenceIdeal.nD Cert.InReferenceIdeal.τ).loc Cert.InReferenceIdeal.main_arg1))
          (dNormed (joined (m' ((c.tc : Thread Cert.InReferenceIdeal.nD Cert.InReferenceIdeal.τ).loc Cert.InReferenceIdeal.main_arg3)) (m' ((c.tc : Thread Cert.InReferenceIdeal.nD Cert.InReferenceIdeal.τ).loc Cert.InReferenceIdeal.main_arg4)) (m' ((c.tc : Thread Cert.InReferenceIdeal.nD Cert.InReferenceIdeal.τ).loc Cert.InReferenceIdeal.main_arg5)) (m' ((c.tc : Thread Cert.InReferenceIdeal.nD Cert.InReferenceIdeal.τ).loc Cert.InReferenceIdeal.main_arg6)) (m' ((c.tc : Thread Cert.InReferenceIdeal.nD Cert.InReferenceIdeal.τ).loc Cert.InReferenceIdeal.main_arg7)) (m' ((c.tc : Thread Cert.InReferenceIdeal.nD Cert.InReferenceIdeal.τ).loc Cert.InReferenceIdeal.main_arg8)) (m' ((c.tc : Thread Cert.InReferenceIdeal.nD Cert.InReferenceIdeal.τ).loc Cert.InReferenceIdeal.main_arg9)))
            (m' ((c.tc : Thread Cert.InReferenceIdeal.nD Cert.InReferenceIdeal.τ).loc Cert.InReferenceIdeal.main_arg2)))) (m' ((c.tc : Thread Cert.InReferenceIdeal.nD Cert.InReferenceIdeal.τ).loc Cert.InReferenceIdeal.main_arg10)) :=
  rfl

set_option maxHeartbeats 800000 in
/-- The kernel's results are the reference's. -/
theorem value : Cert.algebraic_InKernelIdeal_InReferenceIdeal := by
  pair_intro
  · run_from Cert.InKernelIdeal.Gen.run_main m g
  · run_from Cert.InReferenceIdeal.Value.run m' g'
    · obtain ⟨e0, e1, e2, e3, e4, e5, e6, e7, e8, e9, e10⟩ := hagree c
      rw [results, e0, e1, e2, e3, e4, e5, e6, e7, e8, e9, e10]
      exact (final_11 m c).symm
    · obtain ⟨e0, e1, e2, e3, e4, e5, e6, e7, e8, e9, e10⟩ := hagree c
      refine (congrArg (truncf .bf16 · Cert.InReferenceIdeal.Gen.bitsLt_bf16_f32) (results m' c)).trans ?_
      rw [e0, e1, e2, e3, e4, e5, e6, e7, e8, e9, e10]
      exact (final_12 m c).symm
    · obtain ⟨-, -, -, e3, e4, e5, e6, e7, e8, e9, -⟩ := hagree c
      refine Eq.trans ?_ (final_13 m c).symm
      show gradGain (m ((c : Thread nD τ).loc main_arg0)) (dNormed (joined (m' ((c.tc : Thread Cert.InReferenceIdeal.nD Cert.InReferenceIdeal.τ).loc Cert.InReferenceIdeal.main_arg3)) (m' ((c.tc : Thread Cert.InReferenceIdeal.nD Cert.InReferenceIdeal.τ).loc Cert.InReferenceIdeal.main_arg4)) (m' ((c.tc : Thread Cert.InReferenceIdeal.nD Cert.InReferenceIdeal.τ).loc Cert.InReferenceIdeal.main_arg5)) (m' ((c.tc : Thread Cert.InReferenceIdeal.nD Cert.InReferenceIdeal.τ).loc Cert.InReferenceIdeal.main_arg6)) (m' ((c.tc : Thread Cert.InReferenceIdeal.nD Cert.InReferenceIdeal.τ).loc Cert.InReferenceIdeal.main_arg7)) (m' ((c.tc : Thread Cert.InReferenceIdeal.nD Cert.InReferenceIdeal.τ).loc Cert.InReferenceIdeal.main_arg8)) (m' ((c.tc : Thread Cert.InReferenceIdeal.nD Cert.InReferenceIdeal.τ).loc Cert.InReferenceIdeal.main_arg9)))
        (m ((c : Thread nD τ).loc main_arg2))) = _
      rw [e3, e4, e5, e6, e7, e8, e9]
      rfl

end Cert.InKernelIdeal.Grad

end
-- ==== Proof.PrepMath.lean ====
module

public import Idealize.ShloMosaic.Lib.Pipeline.ValueKit
public import Idealize.ShloMosaic.Lib.Claim
public import proofs.«01_k».proof.Proof.NormMath

/-!
The gradient of one head's 64 entries through the rotation and the norm, as differentiation gives it and as the kernel computes it.
-/

@[expose] public section

noncomputable section

open Idealize.ShloMosaic
open scoped BigOperators

namespace Cert.PrepMath

/-- A host sum over a first and a last axis of one entry each is the entry. -/
theorem sum_outer {a b : Nat} (h : (⟨4, ![1, a, b, 1]⟩ : Shape).ReducesTo [0, 3] ⟨2, ![a, b]⟩) (v : (⟨4, ![1, a, b, 1]⟩ : Shape).Idx → EReal) (i : Fin a) (j : Fin b) :
    Ideal.hostReduceAdd h v 0 (ix2 i j) = v (ix4 0 i j 0) := by
  rw [Ideal.hostReduceAdd, zero_add, show Finset.univ.filter (fun k => h.drop k = ix2 i j) = {ix4 0 i j 0} from ?_, Finset.sum_singleton]
  ext k
  simp only [Finset.mem_filter, Finset.mem_univ, true_and, Finset.mem_singleton]
  constructor
  · intro e
    have h1 : k 1 = i := Fin.ext ((h.drop_apply_val k 0).symm.trans (congrArg Fin.val (congrFun e 0)))
    have h2 : k 2 = j := Fin.ext ((h.drop_apply_val k 1).symm.trans (congrArg Fin.val (congrFun e 1)))
    funext q
    match q with
    | ⟨0, _⟩ => exact Subsingleton.elim (α := Fin 1) _ _
    | ⟨1, _⟩ => exact h1
    | ⟨2, _⟩ => exact h2
    | ⟨3, _⟩ => exact Subsingleton.elim (α := Fin 1) _ _
  · rintro rfl
    funext q
    match q with
    | ⟨0, _⟩ => exact Fin.ext (h.drop_apply_val _ 0)
    | ⟨1, _⟩ => exact Fin.ext (h.drop_apply_val _ 1)

/-- A host sum over two first axes of one entry each is the entry. -/
theorem sum_first {a b : Nat} (h : (⟨4, ![1, 1, a, b]⟩ : Shape).ReducesTo [0, 1] ⟨2, ![a, b]⟩) (v : (⟨4, ![1, 1, a, b]⟩ : Shape).Idx → EReal) (i : Fin a) (j : Fin b) :
    Ideal.hostReduceAdd h v 0 (ix2 i j) = v (ix4 0 0 i j) := by
  rw [Ideal.hostReduceAdd, zero_add, show Finset.univ.filter (fun k => h.drop k = ix2 i j) = {ix4 0 0 i j} from ?_, Finset.sum_singleton]
  ext k
  simp only [Finset.mem_filter, Finset.mem_univ, true_and, Finset.mem_singleton]
  constructor
  · intro e
    have h1 : k 2 = i := Fin.ext ((h.drop_apply_val k 0).symm.trans (congrArg Fin.val (congrFun e 0)))
    have h2 : k 3 = j := Fin.ext ((h.drop_apply_val k 1).symm.trans (congrArg Fin.val (congrFun e 1)))
    funext q
    match q with
    | ⟨0, _⟩ => exact Subsingleton.elim (α := Fin 1) _ _
    | ⟨1, _⟩ => exact Subsingleton.elim (α := Fin 1) _ _
    | ⟨2, _⟩ => exact h1
    | ⟨3, _⟩ => exact h2
  · rintro rfl
    funext q
    match q with
    | ⟨0, _⟩ => exact Fin.ext (h.drop_apply_val _ 0)
    | ⟨1, _⟩ => exact Fin.ext (h.drop_apply_val _ 1)

/-- The gradient through the rotation: the two halves of the head's 64 entries, with the row's 32 cosines and sines. -/
def turn (co si : Fin 32 → EReal) (d : Fin 64 → EReal) (e : Fin 64) : EReal :=
  if h : e.val < 32 then d ⟨32 + e.val, by omega⟩ * si ⟨e.val, h⟩ + d e * co ⟨e.val, h⟩
  else d e * co ⟨e.val - 32, by omega⟩ + -d ⟨e.val - 32, by omega⟩ * si ⟨e.val - 32, by omega⟩

/-- A head's mean square plus the norm's addend. -/
def meanSq (x : Fin 64 → EReal) : EReal :=
  Ideal.div (∑ k, x k * x k) (Ideal.ofBits .f32 1115684864#32) + Ideal.ofBits .f32 897988541#32

/-- The slope of a head's mean square, over its entries. -/
def slope (x n : Fin 64 → EReal) : EReal :=
  Ideal.div ((∑ k, x k * n k) * (Ideal.ofBits .f32 3204448256#32 * Ideal.div (Ideal.rsqrt (meanSq x)) (meanSq x))) (Ideal.ofBits .f32 1115684864#32)

/-- The gradient of a head's entry through the norm, as differentiation gives it. -/
def grad (x n : Fin 64 → EReal) (e : Fin 64) : EReal :=
  (n e * Ideal.rsqrt (meanSq x) + x e * slope x n) + slope x n * x e

/-- The number of a head's entries. -/
theorem sixtyfour : Ideal.ofBits .f32 1115684864#32 = ((64 : ℝ) : EReal) := by
  simp [Ideal.ofBits, Ideal.ieee, -EReal.coe_mul, -EReal.coe_neg]; norm_num

/-- One over the number of a head's entries. -/
theorem share : Ideal.ofBits .f32 1015021568#32 = ((1 / 64 : ℝ) : EReal) := by
  simp [Ideal.ofBits, Ideal.ieee, -EReal.coe_mul, -EReal.coe_neg]; norm_num

theorem meanSq_pos (x : Fin 64 → EReal) : 0 < meanSq x := by
  obtain ⟨e, he, h⟩ := Cert.NormMath.addend
  rw [meanSq, h, sixtyfour, Ideal.div_coe (by norm_num)]
  refine lt_of_lt_of_le (EReal.coe_pos.mpr he) (le_add_of_nonneg_left ?_)
  exact mul_nonneg (Finset.sum_nonneg fun k _ => Cert.NormMath.square_nonneg _) (EReal.coe_nonneg.mpr (by norm_num))

/-- The kernel's form of the gradient through the norm. -/
theorem grad_eq (x n : Fin 64 → EReal) (e : Fin 64) :
    Ideal.rsqrt (meanSq x) * n e - x e * (Ideal.rsqrt (meanSq x) * Ideal.rsqrt (meanSq x) * Ideal.rsqrt (meanSq x)
      * Ideal.div (∑ k, n k * x k) (Ideal.ofBits .f32 1115684864#32)) = grad x n e := by
  rw [grad, slope, Cert.NormMath.cube (meanSq_pos x), Cert.NormMath.consts.2.1, sixtyfour, Ideal.div_coe (by norm_num), Ideal.div_coe (by norm_num),
    Finset.sum_congr rfl fun k _ => mul_comm (n k) (x k)]
  generalize Ideal.rsqrt (meanSq x) * Ideal.rsqrt (meanSq x) * Ideal.rsqrt (meanSq x) = q
  generalize ∑ k, x k * n k = S
  rw [mul_comm (Ideal.rsqrt (meanSq x)) (n e), add_assoc, mul_comm _ (x e)]
  have t : x e * (S * (((-(1 / 2) : ℝ) : EReal) * q) * ((1 / 64 : ℝ) : EReal)) = ((-(1 / 2) : ℝ) : EReal) * (x e * (q * (S * ((1 / 64 : ℝ) : EReal)))) := by
    ac_rfl
  rw [t, Cert.NormMath.half_twice, sub_eq_add_neg]

/-- Lane `64·b + e` of a tile of two heads. -/
def lane (b : Fin 2) (e : Fin 64) : Fin 128 := ⟨64 * b.val + e.val, by omega⟩

/-- Every lane is a head's entry. -/
theorem lane_split (l : Fin 128) : ∃ b e, l = lane b e :=
  ⟨⟨l.val / 64, by omega⟩, ⟨l.val % 64, Nat.mod_lt _ (by norm_num)⟩, Fin.ext (by simp only [lane]; omega)⟩

/-- The sum over a tile's lanes with the averaging matrix's column, of a finite row and of what the row less itself is: the mean over the
    head. -/
theorem averaged {v : Fin 128 → EReal} (hv : ∀ l, ∃ a : ℝ, v l = a) {A : Fin 128 → EReal} (b : Fin 2)
    (hA : ∀ l, A l = if l.val / 64 = b.val then ((1 / 64 : ℝ) : EReal) else 0) :
    ∑ l, v l * A l + ∑ l, (v l - v l) * A l = Ideal.div (∑ e : Fin 64, v (lane b e)) (Ideal.ofBits .f32 1115684864#32) := by
  choose a ha using hv
  have z : ∑ l, (v l - v l) * A l = 0 := Finset.sum_eq_zero fun l _ => by
    rw [ha, ← EReal.coe_sub, sub_self, EReal.coe_zero, zero_mul]
  rw [z, add_zero, sixtyfour, Ideal.div_coe (by norm_num)]
  have left : ∀ l, v l * A l = ((a l * if l.val / 64 = b.val then 1 / 64 else 0 : ℝ) : EReal) := fun l => by
    rw [ha, hA]; split <;> simp [EReal.coe_mul]
  rw [Finset.sum_congr rfl fun l _ => left l, Finset.sum_congr rfl fun e _ => ha (lane b e)]
  have up : ∀ {n : ℕ} (f : Fin n → ℝ), ∑ i, ((f i : ℝ) : EReal) = ((∑ i, f i : ℝ) : EReal) := fun f =>
    (map_sum (⟨⟨fun r : ℝ => (r : EReal), rfl⟩, EReal.coe_add⟩ : ℝ →+ EReal) f Finset.univ).symm
  rw [up, up, ← EReal.coe_mul]
  congr 1
  rw [Finset.sum_mul]
  simp only [mul_ite, mul_zero]
  rw [← Finset.sum_filter]
  refine (Finset.sum_bij (fun (e : Fin 64) _ => lane b e) (fun e _ => ?_) (fun e _ e' _ he => ?_) (fun l hl => ?_) fun e _ => rfl).symm
  · simp only [Finset.mem_filter, Finset.mem_univ, true_and, lane]; omega
  · have := congrArg Fin.val he; simp only [lane] at this; exact Fin.ext (by omega)
  · simp only [Finset.mem_filter, Finset.mem_univ, true_and] at hl
    exact ⟨⟨l.val % 64, Nat.mod_lt _ (by norm_num)⟩, Finset.mem_univ _, Fin.ext (by simp only [lane]; omega)⟩

/-- Every head's gradient through the rotation is a number where the arguments are. -/
theorem turn_real {co si : Fin 32 → EReal} {d : Fin 64 → EReal} (hc : ∀ k, ∃ a : ℝ, co k = a) (hs : ∀ k, ∃ a : ℝ, si k = a) (hd : ∀ e, ∃ a : ℝ, d e = a) (e : Fin 64) :
    ∃ a : ℝ, turn co si d e = a := by
  choose c hc using hc
  choose s hs using hs
  choose d' hd using hd
  unfold turn
  split <;> simp only [hc, hs, hd, ← EReal.coe_mul, ← EReal.coe_neg, ← EReal.coe_add] <;> exact ⟨_, rfl⟩

/-- The column of entry `e` of the head that column `j` lies in. -/
def headCol {W : ℕ} (hW : W % 64 = 0) (j : Fin W) (e : Fin 64) : Fin W := ⟨j.val / 64 * 64 + e.val, by omega⟩

/-- The gradient at row `s` and column `j`, back through the rotation. -/
def back {W : ℕ} (hW : W % 64 = 0) (co si : Fin 4096 → Fin 32 → EReal) (d : Fin 4096 → Fin W → EReal) (s : Fin 4096) (j : Fin W) : Fin 64 → EReal :=
  turn (co s) (si s) fun e => d s (headCol hW j e)

/-- The gradient of the input at row `s` and column `j`. -/
def headGrad {W : ℕ} (hW : W % 64 = 0) (co si : Fin 4096 → Fin 32 → EReal) (x d : Fin 4096 → Fin W → EReal) (g : Fin 64 → EReal) (s : Fin 4096) (j : Fin W) : EReal :=
  grad (fun e => x s (headCol hW j e)) (fun e => back hW co si d s j e * g e) ⟨j.val % 64, Nat.mod_lt _ (by norm_num)⟩

/-- What row `s` adds to the gradient of the gain, at column `j`. -/
def gainPart {W : ℕ} (hW : W % 64 = 0) (co si : Fin 4096 → Fin 32 → EReal) (x d : Fin 4096 → Fin W → EReal) (s : Fin 4096) (j : Fin W) : EReal :=
  x s j * Ideal.rsqrt (meanSq fun e => x s (headCol hW j e)) * back hW co si d s j ⟨j.val % 64, Nat.mod_lt _ (by norm_num)⟩

end Cert.PrepMath

end
-- ==== Proof.PrepRef.lean ====
module

public import proofs.«01_k».proof.Proof.Gen.PrepReferenceIdeal.Run
public import Idealize.ShloMosaic.Lib.Pipeline.ValueKit
public import Idealize.ShloMosaic.Lib.Claim
public import proofs.«01_k».proof.Proof.PrepMath

/-!
The reference's gradients of the queries and keys through the rotation and the norm of every head, read at an entry.
-/

@[expose] public section

set_option maxRecDepth 16384

noncomputable section

open Idealize.ShloMosaic Idealize.ShloMosaic.TcCoe Idealize.SL.Sem
open scoped BigOperators

namespace Cert.PrepReferenceIdeal.Value

open Cert.PrepReferenceIdeal Cert.PrepReferenceIdeal.Gen Idealize.ShloMosaic.StableHlo

variable (V0 : Valuation τ sig (Elt Ideal))

open Cert.PrepMath (turn meanSq sum_outer sum_first headCol headGrad back gainPart)

/-- The angles of the rotation. -/
def angles : FVec Ideal S4096x32 .f32 :=
  mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- The row's cosines. -/
def cosines (s : Fin 4096) (e : Fin 32) : EReal := res_main_v17 V0 (ix2 s e)
/-- The row's sines. -/
def sines (s : Fin 4096) (e : Fin 32) : EReal := res_main_v18 V0 (ix2 s e)

/-- The entry of an argument at a row and a column. -/
abbrev at2 {a b : Nat} (v : FVec Ideal ⟨2, ![a, b]⟩ .f32) (s : Fin a) (j : Fin b) : EReal := v (ix2 s j)

/-- Column `64·h + e` of the queries. -/
def qcol (h : Fin 8) (e : Fin 64) : Fin 512 := ⟨h.val * 64 + e.val, by omega⟩
/-- Column `64·h + e` of the keys. -/
def kcol (h : Fin 2) (e : Fin 64) : Fin 128 := ⟨h.val * 64 + e.val, by omega⟩

/-- A head's entries. -/
def qx (s : Fin 4096) (h : Fin 8) (e : Fin 64) : EReal := at2 (V0 (Proc.devRef .tc main_arg0) : FVec Ideal S4096x512 .f32) s (qcol h e)

/-- The gradient of a head's entries, back through the rotation. -/
def qy (s : Fin 4096) (h : Fin 8) (e : Fin 64) : EReal := turn (cosines V0 s) (sines V0 s) (fun e => at2 (V0 (Proc.devRef .tc main_arg5) : FVec Ideal S4096x512 .f32) s (qcol h e)) e

/-- That with the gains. -/
def qn (s : Fin 4096) (h : Fin 8) (e : Fin 64) : EReal := qy V0 s h e * (V0 (Proc.devRef .tc main_arg3) : FVec Ideal S64 .f32) (ix1 e)

theorem q_turned (s : Fin 4096) (h : Fin 8) (e : Fin 64) : res_main_v138 V0 (ix4 0 s h e) = qy V0 s h e := by
  pointwise [res_main_v138, res_main_v126, res_main_v125, res_main_v88, res_main_v38, res_main_v39, res_main_v17, res_main_v18, qy, turn, cosines, sines, qcol, at2]
  split
  · rfl
  · next c =>
    rw [show (⟨h.val * 64 + (32 + (e.val - 32)), by omega⟩ : Fin 512) = ⟨h.val * 64 + e.val, by omega⟩ from Fin.ext (by simp only []; omega)]

theorem q_meanSq (s : Fin 4096) (h : Fin 8) : res_main_v28 V0 (ix4 0 s h 0) = meanSq (qx V0 s h) := by
  pointwise [res_main_v28, res_main_v21, meanSq, qx, qcol, at2]

theorem q_gained (s : Fin 4096) (h : Fin 8) (e : Fin 64) : res_main_v143 V0 (ix4 0 s h e) = qn V0 s h e := by
  have ht := q_turned V0 s h e
  pointwise [res_main_v143, res_main_v35]
  rw [ht]
  rfl

theorem q_slope (s : Fin 4096) (h : Fin 8) (e : Fin 64) :
    res_main_v155 V0 (ix4 0 s h e) = Cert.PrepMath.slope (qx V0 s h) (qn V0 s h) := by
  have hm := q_meanSq V0 s h
  have hn := q_gained V0 s h
  pointwise [res_main_v155, res_main_v29, res_main_v21, sum_outer]
  rw [hm, Cert.PrepMath.slope]
  simp only [hn]
  rfl

/-- The gradient of the input, in the wide format. -/
def qOut : FVec Ideal S4096x512 .f32 :=
  shapeCast S4096x512 (addf (addf (mulf (res_main_v143 V0) (broadcastInDim S1x4096x8x64 ![0, 1, 2, 3] bcast_S1x4096x8x1_S1x4096x8x64_0_1_2_3 (res_main_v29 V0))) (mulf (res_main_v21 V0) (res_main_v155 V0))) (mulf (res_main_v155 V0) (res_main_v21 V0))) shapeCasts_S1x4096x8x64_S4096x512

/-- The gradient of the input at an entry. -/
theorem q_grad (s : Fin 4096) (h : Fin 8) (e : Fin 64) :
    qOut V0 (ix2 s (qcol h e))
      = Cert.PrepMath.grad (qx V0 s h) (qn V0 s h) e := by
  have hm := q_meanSq V0 s h
  have hn := q_gained V0 s h e
  have hs := q_slope V0 s h e
  pointwise [qOut, res_main_v29, res_main_v21, qcol]
  rw [hm, hn, hs, Cert.PrepMath.grad]
  simp only [qx, qcol, at2]

/-- The gradient of the gain, over the heads. -/
def qGainOut : FVec Ideal S1x512 .f32 :=
  shapeCast S1x512 (Host.reduceAdd (shapeCast S1x1x8x64 (Host.reduceAdd (mulf (res_main_v34 V0) (res_main_v138 V0)) (constant (F := Ideal) S_ .f32 0x00000000#32) reducesTo_S1x4096x8x64_S1x8x64_d1 h_S_) shapeCasts_S1x8x64_S1x1x8x64) (constant (F := Ideal) S_ .f32 0x00000000#32) reducesTo_S1x1x8x64_S8x64_d0_1 h_S_) shapeCasts_S8x64_S1x512

/-- The gradient of the gain at an entry. -/
theorem q_gain (h : Fin 8) (e : Fin 64) :
    qGainOut V0 (ix2 0 (qcol h e))
      = ∑ s : Fin 4096, qx V0 s h e * Ideal.rsqrt (meanSq (qx V0 s h)) * qy V0 s h e := by
  have hm := fun s => q_meanSq V0 s h
  have ht := fun s => q_turned V0 s h e
  pointwise [qGainOut, res_main_v34, res_main_v29, res_main_v21, qcol, sum_first]
  simp only [hm, ht]
  simp only [qx, qcol, at2]

/-- A head's entries. -/
def kx (s : Fin 4096) (h : Fin 2) (e : Fin 64) : EReal := at2 (V0 (Proc.devRef .tc main_arg1) : FVec Ideal S4096x128 .f32) s (kcol h e)

/-- The gradient of a head's entries, back through the rotation. -/
def ky (s : Fin 4096) (h : Fin 2) (e : Fin 64) : EReal := turn (cosines V0 s) (sines V0 s) (fun e => at2 (V0 (Proc.devRef .tc main_arg6) : FVec Ideal S4096x128 .f32) s (kcol h e)) e

/-- That with the gains. -/
def kn (s : Fin 4096) (h : Fin 2) (e : Fin 64) : EReal := ky V0 s h e * (V0 (Proc.devRef .tc main_arg4) : FVec Ideal S64 .f32) (ix1 e)

theorem k_turned (s : Fin 4096) (h : Fin 2) (e : Fin 64) : res_main_v102 V0 (ix4 0 s h e) = ky V0 s h e := by
  pointwise [res_main_v102, res_main_v90, res_main_v89, res_main_v87, res_main_v70, res_main_v71, res_main_v17, res_main_v18, ky, turn, cosines, sines, kcol, at2]
  split
  · rfl
  · next c =>
    rw [show (⟨h.val * 64 + (32 + (e.val - 32)), by omega⟩ : Fin 128) = ⟨h.val * 64 + e.val, by omega⟩ from Fin.ext (by simp only []; omega)]

theorem k_meanSq (s : Fin 4096) (h : Fin 2) : res_main_v60 V0 (ix4 0 s h 0) = meanSq (kx V0 s h) := by
  pointwise [res_main_v60, res_main_v53, meanSq, kx, kcol, at2]

theorem k_gained (s : Fin 4096) (h : Fin 2) (e : Fin 64) : res_main_v107 V0 (ix4 0 s h e) = kn V0 s h e := by
  have ht := k_turned V0 s h e
  pointwise [res_main_v107, res_main_v67]
  rw [ht]
  rfl

theorem k_slope (s : Fin 4096) (h : Fin 2) (e : Fin 64) :
    res_main_v119 V0 (ix4 0 s h e) = Cert.PrepMath.slope (kx V0 s h) (kn V0 s h) := by
  have hm := k_meanSq V0 s h
  have hn := k_gained V0 s h
  pointwise [res_main_v119, res_main_v61, res_main_v53, sum_outer]
  rw [hm, Cert.PrepMath.slope]
  simp only [hn]
  rfl

/-- The gradient of the input, in the wide format. -/
def kOut : FVec Ideal S4096x128 .f32 :=
  shapeCast S4096x128 (addf (addf (mulf (res_main_v107 V0) (broadcastInDim S1x4096x2x64 ![0, 1, 2, 3] bcast_S1x4096x2x1_S1x4096x2x64_0_1_2_3 (res_main_v61 V0))) (mulf (res_main_v53 V0) (res_main_v119 V0))) (mulf (res_main_v119 V0) (res_main_v53 V0))) shapeCasts_S1x4096x2x64_S4096x128

/-- The gradient of the input at an entry. -/
theorem k_grad (s : Fin 4096) (h : Fin 2) (e : Fin 64) :
    kOut V0 (ix2 s (kcol h e))
      = Cert.PrepMath.grad (kx V0 s h) (kn V0 s h) e := by
  have hm := k_meanSq V0 s h
  have hn := k_gained V0 s h e
  have hs := k_slope V0 s h e
  pointwise [kOut, res_main_v61, res_main_v53, kcol]
  rw [hm, hn, hs, Cert.PrepMath.grad]
  simp only [kx, kcol, at2]

/-- The gradient of the gain, over the heads. -/
def kGainOut : FVec Ideal S1x128 .f32 :=
  shapeCast S1x128 (Host.reduceAdd (shapeCast S1x1x2x64 (Host.reduceAdd (mulf (res_main_v66 V0) (res_main_v102 V0)) (constant (F := Ideal) S_ .f32 0x00000000#32) reducesTo_S1x4096x2x64_S1x2x64_d1 h_S_) shapeCasts_S1x2x64_S1x1x2x64) (constant (F := Ideal) S_ .f32 0x00000000#32) reducesTo_S1x1x2x64_S2x64_d0_1 h_S_) shapeCasts_S2x64_S1x128

/-- The gradient of the gain at an entry. -/
theorem k_gain (h : Fin 2) (e : Fin 64) :
    kGainOut V0 (ix2 0 (kcol h e))
      = ∑ s : Fin 4096, kx V0 s h e * Ideal.rsqrt (meanSq (kx V0 s h)) * ky V0 s h e := by
  have hm := fun s => k_meanSq V0 s h
  have ht := fun s => k_turned V0 s h e
  pointwise [kGainOut, res_main_v66, res_main_v61, res_main_v53, kcol, sum_first]
  simp only [hm, ht]
  simp only [kx, kcol, at2]

/-- The cosines of the angles. -/
def cosAt (s : Fin 4096) (e : Fin 32) : EReal := Ideal.cos (angles (ix2 s e))
/-- The sines of the angles. -/
def sinAt (s : Fin 4096) (e : Fin 32) : EReal := Ideal.sin (angles (ix2 s e))

theorem q_split (j : Fin 512) : ∃ h e, j = qcol h e :=
  ⟨⟨j.val / 64, by omega⟩, ⟨j.val % 64, Nat.mod_lt _ (by norm_num)⟩, Fin.ext (by simp only [qcol]; omega)⟩

theorem q_head (h : Fin 8) (e e' : Fin 64) : headCol (by norm_num) (qcol h e) e' = qcol h e' := Fin.ext (by simp only [headCol, qcol]; omega)

theorem q_entry (h : Fin 8) (e : Fin 64) : (⟨(qcol h e).val % 64, Nat.mod_lt _ (by norm_num)⟩ : Fin 64) = e := Fin.ext (by simp only [qcol]; omega)

/-- The result is the gradient at every row and column. -/
theorem q_result : qOut V0 = fun y => headGrad (W := 512) (by norm_num) cosAt sinAt (fun s j => (V0 (Proc.devRef .tc main_arg0) : FVec Ideal S4096x512 .f32) (ix2 s j)) (fun s j => (V0 (Proc.devRef .tc main_arg5) : FVec Ideal S4096x512 .f32) (ix2 s j))
    (fun e => (V0 (Proc.devRef .tc main_arg3) : FVec Ideal S64 .f32) (ix1 e)) (y 0) (y 1) := by
  funext y
  obtain ⟨s, j, rfl⟩ : ∃ (r : Fin 4096) (j : Fin 512), y = ix2 r j := ⟨y 0, y 1, (ix2_eta y).symm⟩
  obtain ⟨h, e, rfl⟩ := q_split j
  refine (q_grad V0 s h e).trans ?_
  show _ = headGrad _ _ _ _ _ _ s (qcol h e)
  unfold headGrad back
  simp only [q_head, q_entry]
  rfl

/-- The gain's result, lane by lane. -/
theorem q_gain_result : qGainOut V0 = fun y => ∑ s, gainPart (W := 512) (by norm_num) cosAt sinAt (fun s j => (V0 (Proc.devRef .tc main_arg0) : FVec Ideal S4096x512 .f32) (ix2 s j)) (fun s j => (V0 (Proc.devRef .tc main_arg5) : FVec Ideal S4096x512 .f32) (ix2 s j)) s (y 1) := by
  funext y
  obtain ⟨j, rfl⟩ : ∃ (j : Fin 512), y = ix2 0 j := ⟨y 1, by rw [← Fin.eq_zero (y 0)]; exact (ix2_eta y).symm⟩
  obtain ⟨h, e, rfl⟩ := q_split j
  refine (q_gain V0 h e).trans ?_
  show _ = ∑ s, gainPart _ _ _ _ _ s (qcol h e)
  unfold gainPart back
  simp only [q_head, q_entry]
  rfl

theorem k_split (j : Fin 128) : ∃ h e, j = kcol h e :=
  ⟨⟨j.val / 64, by omega⟩, ⟨j.val % 64, Nat.mod_lt _ (by norm_num)⟩, Fin.ext (by simp only [kcol]; omega)⟩

theorem k_head (h : Fin 2) (e e' : Fin 64) : headCol (by norm_num) (kcol h e) e' = kcol h e' := Fin.ext (by simp only [headCol, kcol]; omega)

theorem k_entry (h : Fin 2) (e : Fin 64) : (⟨(kcol h e).val % 64, Nat.mod_lt _ (by norm_num)⟩ : Fin 64) = e := Fin.ext (by simp only [kcol]; omega)

/-- The result is the gradient at every row and column. -/
theorem k_result : kOut V0 = fun y => headGrad (W := 128) (by norm_num) cosAt sinAt (fun s j => (V0 (Proc.devRef .tc main_arg1) : FVec Ideal S4096x128 .f32) (ix2 s j)) (fun s j => (V0 (Proc.devRef .tc main_arg6) : FVec Ideal S4096x128 .f32) (ix2 s j))
    (fun e => (V0 (Proc.devRef .tc main_arg4) : FVec Ideal S64 .f32) (ix1 e)) (y 0) (y 1) := by
  funext y
  obtain ⟨s, j, rfl⟩ : ∃ (r : Fin 4096) (j : Fin 128), y = ix2 r j := ⟨y 0, y 1, (ix2_eta y).symm⟩
  obtain ⟨h, e, rfl⟩ := k_split j
  refine (k_grad V0 s h e).trans ?_
  show _ = headGrad _ _ _ _ _ _ s (kcol h e)
  unfold headGrad back
  simp only [k_head, k_entry]
  rfl

/-- The gain's result, lane by lane. -/
theorem k_gain_result : kGainOut V0 = fun y => ∑ s, gainPart (W := 128) (by norm_num) cosAt sinAt (fun s j => (V0 (Proc.devRef .tc main_arg1) : FVec Ideal S4096x128 .f32) (ix2 s j)) (fun s j => (V0 (Proc.devRef .tc main_arg6) : FVec Ideal S4096x128 .f32) (ix2 s j)) s (y 1) := by
  funext y
  obtain ⟨j, rfl⟩ : ∃ (j : Fin 128), y = ix2 0 j := ⟨y 1, by rw [← Fin.eq_zero (y 0)]; exact (ix2_eta y).symm⟩
  obtain ⟨h, e, rfl⟩ := k_split j
  refine (k_gain V0 h e).trans ?_
  show _ = ∑ s, gainPart _ _ _ _ _ s (kcol h e)
  unfold gainPart back
  simp only [k_head, k_entry]
  rfl

end Cert.PrepReferenceIdeal.Value

end
-- ==== Proof.PrepTile.lean ====
module

public import proofs.«01_k».proof.Proof.Gen.PrepKernelIdeal.Value
public import proofs.«01_k».proof.Proof.Gen.PrepReferenceIdeal.Run
public import Idealize.ShloMosaic.Lib.Pipeline.ValueKit
public import Idealize.ShloMosaic.Lib.Claim
public import Idealize.ShloMosaic.Lib.KernelVsHost
public import proofs.«01_k».proof.Proof.PrepMath

/-!
One tile of two heads: what the kernel computes of its 512 rows of 128 lanes is, head by head, the gradient through the rotation and the norm.
-/

@[expose] public section

set_option maxRecDepth 16384

noncomputable section

open Idealize.ShloMosaic Idealize.ShloMosaic.TcCoe Idealize.SL.Sem
open Idealize.ShloMosaic.Pipeline (Dat)
open scoped BigOperators

namespace Cert.PrepKernelIdeal.Grad

open Cert.PrepKernelIdeal Cert.PrepKernelIdeal.Gen

variable (m : (ℓ : Loc nD τ sig) → Buf (Elt Ideal) ℓ)

open Cert.PrepMath (turn meanSq lane averaged grad grad_eq)

/-- The lanes of a head's first half. -/
theorem first_half : ∀ l : Fin 128, k0_pay10 (ix2 0 l) = if l.val % 64 < 32 then 1#1 else 0#1 := by decide +kernel

/-- The kernel's gradient through the rotation. -/
def tileY (cs sn d : Vec Ideal S512x128 .f32) : FVec Ideal S512x128 .f32 := k0_pay11 (k0_pay8 cs d) (k0_pay9 sn d) k0_pay10 96#32

theorem rolled (s : BitVec 32) (v : FVec Ideal S512x128 .f32) (r : Fin 512) (j k : Fin 128) (h : k.val = (j.val + 128 - s.toNat % 128) % 128) :
    dynamicRotate 1 s none v rotates_S512x128_d1 (ix2 r j) = v (ix2 r k) :=
  dynamicRotate_apply 1 s v rotates_S512x128_d1 (ix2 r j) (ix2 r k) fun b => by
    match b with
    | ⟨0, _⟩ => rfl
    | ⟨1, _⟩ => exact h

theorem tileY_at (cs sn d : Vec Ideal S512x128 .f32) (r : Fin 512) (l : Fin 128) : tileY cs sn d (ix2 r l)
    = d (ix2 r l) * cs (ix2 r l) + if l.val % 64 < 32 then d (ix2 r ⟨(l.val + 32) % 128, Nat.mod_lt _ (by norm_num)⟩) * sn (ix2 r ⟨(l.val + 32) % 128, Nat.mod_lt _ (by norm_num)⟩)
        else d (ix2 r ⟨(l.val + 96) % 128, Nat.mod_lt _ (by norm_num)⟩) * sn (ix2 r ⟨(l.val + 96) % 128, Nat.mod_lt _ (by norm_num)⟩) := by
  have h := first_half l
  have h1 := rolled 96#32 (k0_pay9 sn d) r l ⟨(l.val + 32) % 128, Nat.mod_lt _ (by norm_num)⟩ (by show (l.val + 32) % 128 = (l.val + 128 - 96) % 128; omega)
  have h2 := rolled 32#32 (k0_pay9 sn d) r l ⟨(l.val + 96) % 128, Nat.mod_lt _ (by norm_num)⟩ (by show (l.val + 96) % 128 = (l.val + 128 - 32) % 128; omega)
  unfold tileY k0_pay11
  generalize dynamicRotate 1 96#32 none (k0_pay9 sn d) rotates_S512x128_d1 = R1 at h1 ⊢
  generalize dynamicRotate 1 32#32 none (k0_pay9 sn d) rotates_S512x128_d1 = R2 at h2 ⊢
  generalize k0_pay10 = M at h ⊢
  pointwise [k0_pay8, k0_pay3]
  congr 1
  rw [h, h1, h2]
  split
  · refine (if_pos rfl).trans ?_; pointwise [k0_pay9, k0_pay4]
  · refine (if_neg (by decide)).trans ?_; pointwise [k0_pay9, k0_pay4]

/-- The averaging matrix: one over the number of a head's entries, within a head. -/
def Averages (A : FVec Ideal S128x128 .bf16) : Prop :=
  ∀ k l : Fin 128, A (ix2 k l) = if k.val / 64 = l.val / 64 then ((1 / 64 : ℝ) : EReal) else 0

theorem Averages.column {A : FVec Ideal S128x128 .bf16} (h : Averages A) (b : Fin 2) (e : Fin 64) (l : Fin 128) :
    A (ix2 l (lane b e)) = if l.val / 64 = b.val then ((1 / 64 : ℝ) : EReal) else 0 := by
  rw [h, show (lane b e).val / 64 = b.val by simp only [lane]; omega]

/-- One over the root of a head's mean square. -/
theorem root_at {A : FVec Ideal S128x128 .bf16} (hA : Averages A) (X : FVec Ideal S512x128 .f32) (r : Fin 512) (hX : ∀ l, ∃ a : ℝ, X (ix2 r l) = a)
    (b : Fin 2) (e : Fin 64) : k0_pay12 A X (ix2 r (lane b e)) = Ideal.rsqrt (meanSq fun e => X (ix2 r (lane b e))) := by
  have hq : ∀ l, ∃ a : ℝ, X (ix2 r l) * X (ix2 r l) = a := fun l => by
    obtain ⟨a, ha⟩ := hX l
    exact ⟨a * a, by rw [ha, EReal.coe_mul]⟩
  have h := averaged hq b (hA.column b e)
  pointwise [k0_pay12]
  rw [h, meanSq]

/-- A tile's gradient of its input is the gradient through the norm. -/
theorem dx_at {A : FVec Ideal S128x128 .bf16} (hA : Averages A) (X : FVec Ideal S512x128 .f32) (G : FVec Ideal S1x128 .f32) (cs sn d : Vec Ideal S512x128 .f32)
    (r : Fin 512) (hX : ∀ l, ∃ a : ℝ, X (ix2 r l) = a) (hY : ∀ l, ∃ a : ℝ, tileY cs sn d (ix2 r l) * G (ix2 0 l) = a) (b : Fin 2) (e : Fin 64) :
    k0_pay13 A X G (k0_pay8 cs d) (k0_pay9 sn d) k0_pay10 96#32 (ix2 r (lane b e))
      = grad (fun e => X (ix2 r (lane b e))) (fun e => tileY cs sn d (ix2 r (lane b e)) * G (ix2 0 (lane b e))) e := by
  have hR := root_at hA X r hX b e
  unfold tileY at hY ⊢
  unfold k0_pay13
  generalize k0_pay12 A X = R at hR ⊢
  generalize k0_pay11 (k0_pay8 cs d) (k0_pay9 sn d) k0_pay10 96#32 = Y at hY ⊢
  have hq : ∀ l, ∃ a : ℝ, Y (ix2 r l) * G (ix2 0 l) * X (ix2 r l) = a := fun l => by
    obtain ⟨a, ha⟩ := hX l
    obtain ⟨y, hy⟩ := hY l
    exact ⟨y * a, by rw [ha, hy, EReal.coe_mul]⟩
  have h := averaged hq b (hA.column b e)
  rw [← grad_eq]
  pointwise []
  rw [h, hR]

/-- What a tile adds to the gradient of the gains. -/
theorem dg_at {A : FVec Ideal S128x128 .bf16} (hA : Averages A) (X : FVec Ideal S512x128 .f32) (cs sn d : Vec Ideal S512x128 .f32) (P : Vec Ideal S1x128 .f32)
    (hX : ∀ r l, ∃ a : ℝ, X (ix2 r l) = a) (b : Fin 2) (e : Fin 64) :
    k0_pay14 A X (k0_pay8 cs d) (k0_pay9 sn d) k0_pay10 96#32 P (ix2 0 (lane b e))
      = P (ix2 0 (lane b e)) + ∑ r : Fin 512, X (ix2 r (lane b e)) * Ideal.rsqrt (meanSq fun e => X (ix2 r (lane b e))) * tileY cs sn d (ix2 r (lane b e)) := by
  have hR := fun r => root_at hA X r (hX r) b e
  unfold tileY
  unfold k0_pay14
  generalize k0_pay12 A X = R at hR ⊢
  generalize k0_pay11 (k0_pay8 cs d) (k0_pay9 sn d) k0_pay10 96#32 = Y
  pointwise []
  congr 1
  exact Finset.sum_congr rfl fun r _ => by rw [hR, mul_comm]

/-- The tables of cosines and sines, as the kernel is given them. -/
def Tables (co si : Fin 512 → Fin 32 → EReal) (cs sn : Vec Ideal S512x128 .f32) : Prop :=
  (∀ r b (e : Fin 64), cs (ix2 r (lane b e)) = co r ⟨e.val % 32, Nat.mod_lt _ (by norm_num)⟩)
    ∧ ∀ r b (e : Fin 64), sn (ix2 r (lane b e)) = if e.val < 32 then -si r ⟨e.val % 32, Nat.mod_lt _ (by norm_num)⟩ else si r ⟨e.val % 32, Nat.mod_lt _ (by norm_num)⟩

/-- The kernel's gradient through the rotation is the rotation's gradient of every head. -/
theorem tileY_turn {co si : Fin 512 → Fin 32 → EReal} {cs sn : Vec Ideal S512x128 .f32} (h : Tables co si cs sn) (d : Vec Ideal S512x128 .f32) (r : Fin 512)
    (b : Fin 2) (e : Fin 64) : tileY cs sn d (ix2 r (lane b e)) = turn (co r) (si r) (fun e => d (ix2 r (lane b e))) e := by
  rw [tileY_at, h.1]
  by_cases c : e.val < 32
  · have k : (⟨((lane b e).val + 32) % 128, Nat.mod_lt _ (by norm_num)⟩ : Fin 128) = lane b ⟨32 + e.val, by omega⟩ := Fin.ext (by simp only [lane]; omega)
    rw [if_pos (by simp only [lane]; omega), k, h.2, if_neg (by simp only []; omega), turn, dif_pos c, add_comm]
    have e1 : (⟨e.val % 32, Nat.mod_lt _ (by norm_num)⟩ : Fin 32) = ⟨e.val, c⟩ := Fin.ext (Nat.mod_eq_of_lt c)
    have e2 : (⟨(32 + e.val) % 32, Nat.mod_lt _ (by norm_num)⟩ : Fin 32) = ⟨e.val, c⟩ := Fin.ext (by simp only []; omega)
    rw [e1, e2]
  · have k : (⟨((lane b e).val + 96) % 128, Nat.mod_lt _ (by norm_num)⟩ : Fin 128) = lane b ⟨e.val - 32, by omega⟩ := Fin.ext (by simp only [lane]; omega)
    rw [if_neg (by simp only [lane]; omega), k, h.2, if_pos (by simp only []; omega), turn, dif_neg c]
    have e1 : (⟨e.val % 32, Nat.mod_lt _ (by norm_num)⟩ : Fin 32) = ⟨e.val - 32, by omega⟩ := Fin.ext (by simp only []; omega)
    have e2 : (⟨(e.val - 32) % 32, Nat.mod_lt _ (by norm_num)⟩ : Fin 32) = ⟨e.val - 32, by omega⟩ := Fin.ext (by simp only []; omega)
    rw [e1, e2, mul_neg, neg_mul]

/-- A tile's gradient of its input, of the blocks as they are read. -/
def tileDx (cs sn : Vec Ideal S512x128 .f32) (A : Vec Ideal S128x128 .bf16) (x : Vec Ideal S512x128 .bf16) (g : Vec Ideal S1x128 .f32) (d : Vec Ideal S512x128 .f32) :
    FVec Ideal S512x128 .bf16 :=
  k0_pay13 (k0_pay5 A) (k0_pay6 x) (k0_pay7 g) (k0_pay8 cs d) (k0_pay9 sn d) k0_pay10 96#32

/-- The gradient of the gains after a tile, of the blocks as they are read and what was there before. -/
def tileDg (cs sn : Vec Ideal S512x128 .f32) (A : Vec Ideal S128x128 .bf16) (x : Vec Ideal S512x128 .bf16) (d : Vec Ideal S512x128 .f32) (p : Vec Ideal S1x128 .f32) :
    FVec Ideal S1x128 .f32 :=
  k0_pay14 (k0_pay5 A) (k0_pay6 x) (k0_pay8 cs d) (k0_pay9 sn d) k0_pay10 96#32 p

section Same

variable (cs sn : Vec Ideal S512x128 .f32) (A : Vec Ideal S128x128 .bf16) (x : Vec Ideal S512x128 .bf16) (g : Vec Ideal S1x128 .f32) (d : Vec Ideal S512x128 .f32)
  (p : Vec Ideal S1x128 .f32)

theorem dx_second : k0_pay23 (k0_pay5 A) (k0_pay15 x) (k0_pay16 g) (k0_pay17 (k0_pay3 cs) (k0_pay4 sn) d) (k0_pay20 x) (k0_pay21 (k0_pay5 A) x)
    (constant S512x128 FTy.f32 0#32) = tileDx cs sn A x g d := rfl

theorem dg_second : k0_pay24 (k0_pay5 A) (k0_pay15 x) (k0_pay17 (k0_pay3 cs) (k0_pay4 sn) d) (k0_pay20 x) (k0_pay21 (k0_pay5 A) x)
    (constant S512x128 FTy.f32 0#32) p = tileDg cs sn A x d p := rfl

theorem dx_third : k0_pay38 (k0_pay5 A) (k0_pay25 x)
    (k0_pay32 (k0_pay5 A) (k0_pay25 x) (k0_pay26 g) (k0_pay27 (k0_pay3 cs) d) (k0_pay28 (k0_pay4 sn) d) (iota Kind.tc S1x128 32 [1] iota_S1x128_d1_w32))
    (k0_pay33 (k0_pay5 A) (k0_pay25 x))
    (k0_pay36 (k0_pay25 x) (k0_pay26 g) (k0_pay27 (k0_pay3 cs) d) (k0_pay28 (k0_pay4 sn) d) (iota Kind.tc S1x128 32 [1] iota_S1x128_d1_w32))
    (k0_pay37 (k0_pay25 x) (k0_pay26 g) (k0_pay27 (k0_pay3 cs) d) (k0_pay28 (k0_pay4 sn) d) (iota Kind.tc S1x128 32 [1] iota_S1x128_d1_w32))
      = tileDx cs sn A x g d := rfl

theorem dg_third : k0_pay39 (k0_pay25 x)
    (k0_pay29 (k0_pay27 (k0_pay3 cs) d) (k0_pay28 (k0_pay4 sn) d) (iota Kind.tc S1x128 32 [1] iota_S1x128_d1_w32))
    (k0_pay30 (k0_pay5 A) (k0_pay25 x)) p = tileDg cs sn A x d p := rfl

theorem dx_fourth : k0_pay51 (k0_pay5 A) (k0_pay40 x) (k0_pay41 g) (k0_pay42 (k0_pay3 cs) d) (k0_pay43 (k0_pay4 sn) d) 64#32 k0_pay44 k0_pay45 k0_pay46 k0_pay47
    = tileDx cs sn A x g d := rfl

theorem dg_fourth : k0_pay52 (k0_pay50 (k0_pay5 A) (k0_pay40 x) (k0_pay42 (k0_pay3 cs) d) (k0_pay43 (k0_pay4 sn) d) 64#32 k0_pay44 k0_pay45 k0_pay46 k0_pay47) p
    = tileDg cs sn A x d p := rfl

theorem dx_keys : k0_pay58 (k0_pay5 A) (k0_pay53 x) (k0_pay54 g) (k0_pay55 (k0_pay3 cs) (k0_pay4 sn) d) (k0_pay56 x) = tileDx cs sn A x g d := rfl

theorem dg_keys : k0_pay59 (k0_pay5 A) (k0_pay53 x) (k0_pay55 (k0_pay3 cs) (k0_pay4 sn) d) (k0_pay56 x) p = tileDg cs sn A x d p := rfl

end Same

end Cert.PrepKernelIdeal.Grad

end
-- ==== Proof.PrepHost.lean ====
module

public import proofs.«01_k».proof.Proof.Gen.PrepKernelIdeal.Value
public import proofs.«01_k».proof.Proof.Gen.PrepReferenceIdeal.Run
public import Idealize.ShloMosaic.Lib.Pipeline.ValueKit
public import Idealize.ShloMosaic.Lib.Claim
public import Idealize.ShloMosaic.Lib.Pipeline.ReadBack
public import proofs.«01_k».proof.Defs
public import proofs.«01_k».proof.Proof.PrepRef
public import proofs.«01_k».proof.Proof.PrepTile

/-!
The gradient of the windowed attention's queries, keys and values through the rotation and the norms.
-/

@[expose] public section

set_option maxRecDepth 16384

noncomputable section

open Idealize.ShloMosaic Idealize.ShloMosaic.TcCoe Idealize.SL.Sem
open Idealize.ShloMosaic.Pipeline (Dat)
open scoped BigOperators

namespace Cert.PrepKernelIdeal.Grad

open Cert.PrepKernelIdeal Cert.PrepKernelIdeal.Gen

variable (m : (ℓ : Loc nD τ sig) → Buf (Elt Ideal) ℓ)

open Cert.PrepMath (turn turn_real meanSq lane lane_split grad headCol headGrad back gainPart)
open Cert.PrepReferenceIdeal.Value (angles cosAt sinAt)

/-- Every window's block index at every grid point. -/
theorem idx : ∀ t : Fin cfg0.N, win0_0.index t = ![t.val, 3] ∧ win0_1.index t = ![t.val, 16] ∧ win0_2.index t = ![t.val, 0] ∧ win0_3.index t = ![t.val, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0] ∧ win0_13.index t = ![0, 0]
    ∧ win0_14.index t = ![0, 0] :=
  (by decide +kernel : ∀ t : Fin grid0.N, _)

theorem points (t : Fin cfg0.N) : t.val < 8 := lt_of_lt_of_eq t.isLt N_0

/-- The row of the arrays that row `r` of the blocks at point `t` is. -/
def row (t : Fin cfg0.N) (r : Fin 512) : Fin 4096 := ⟨512 * t.val + r.val, by have := points t; omega⟩

/-- The base of the angles. -/
theorem ten_thousand : Ideal.ofBits .f32 1176256512#32 = ((10000 : ℝ) : EReal) := by
  simp [Ideal.ofBits, Ideal.ieee, -EReal.coe_mul, -EReal.coe_neg]; norm_num

theorem two : Ideal.ofBits .f32 1073741824#32 = ((2 : ℝ) : EReal) := by
  simp [Ideal.ofBits, Ideal.ieee, -EReal.coe_mul, -EReal.coe_neg]; norm_num

/-- An entry of a head's half is its remainder. -/
theorem half_low {e : Fin 64} (h : e.val < 32) : (⟨e.val % 32, Nat.mod_lt _ (by norm_num)⟩ : Fin 32) = ⟨e.val, h⟩ := Fin.ext (Nat.mod_eq_of_lt h)

theorem half_high {e : Fin 64} (h : ¬e.val < 32) : (⟨e.val % 32, Nat.mod_lt _ (by norm_num)⟩ : Fin 32) = ⟨e.val - 32, by omega⟩ :=
  Fin.ext (by have := e.isLt; show e.val % 32 = e.val - 32; omega)

/-- The angles are numbers. -/
theorem angles_real (s : Fin 4096) (e : Fin 32) : ∃ a : ℝ, angles (ix2 s e) = a := by
  pointwise [angles]
  have k : ∀ b : BitVec 32, FloatOps.sitofp (F := Ideal) .f32 b = ((b.toInt : ℝ) : EReal) := fun b => rfl
  rw [k, k, ten_thousand, two, Cert.PrepMath.sixtyfour, ← EReal.coe_mul, Ideal.div_coe (by norm_num), ← EReal.coe_mul, Ideal.pow_coe_coe,
    Ideal.div_coe (y := Real.rpow _ _) (ne_of_gt (Real.rpow_pos_of_pos (by norm_num) _)), one_mul, ← EReal.coe_mul]
  exact ⟨_, rfl⟩

theorem cosAt_real (s : Fin 4096) (e : Fin 32) : ∃ a : ℝ, cosAt s e = a := by
  obtain ⟨a, ha⟩ := angles_real s e
  exact ⟨Real.cos a, by rw [cosAt, ha]; rfl⟩

theorem sinAt_real (s : Fin 4096) (e : Fin 32) : ∃ a : ℝ, sinAt s e = a := by
  obtain ⟨a, ha⟩ := angles_real s e
  exact ⟨Real.sin a, by rw [sinAt, ha]; rfl⟩

/-- The table of cosines. -/
theorem block_cos (c : Dev nD) (t : Fin cfg0.N) (r : Fin 512) (b : Fin 2) (e : Fin 64) :
    iblk m c 2 t (ix2 r (lane b e)) = cosAt (row t r) ⟨e.val % 32, Nat.mod_lt _ (by norm_num)⟩ := by
  have h : V m c main_v22 = (shapeCast S4096x128 (broadcastInDim S1x4096x2x64 ![0, 1, 2, 3] bcast_S1x4096x1x64_S1x4096x2x64_0_1_2_3
      (shapeCast S1x4096x1x64 (concatenate S4096x64 1 [⟨S4096x32, (Host.cos angles : FVec Ideal S4096x32 .f32)⟩, ⟨S4096x32, (Host.cos angles : FVec Ideal S4096x32 .f32)⟩] concatenates_S4096x32_S4096x32_S4096x64_d1)
        shapeCasts_S4096x64_S1x4096x1x64)) shapeCasts_S1x4096x2x64_S4096x128 : FVec Ideal S4096x128 .f32) := rfl
  refine Eq.trans (b := V m c main_v22 (ix2 (row t r) (lane b e))) ?_ ?_
  · blk_point [iblk, idx t, row]
  · rw [h]
    generalize row t r = s
    pointwise [lane, cosAt]
    by_cases k : e.val < 32
    · rw [dif_pos k, half_low k]
    · rw [dif_neg k, half_high k]

theorem block_sin (c : Dev nD) (t : Fin cfg0.N) (r : Fin 512) (b : Fin 2) (e : Fin 64) :
    iblk m c 3 t (ix2 r (lane b e)) = if e.val < 32 then -sinAt (row t r) ⟨e.val % 32, Nat.mod_lt _ (by norm_num)⟩ else sinAt (row t r) ⟨e.val % 32, Nat.mod_lt _ (by norm_num)⟩ := by
  have h : V m c main_v27 = (shapeCast S4096x128 (broadcastInDim S1x4096x2x64 ![0, 1, 2, 3] bcast_S1x4096x1x64_S1x4096x2x64_0_1_2_3
      (shapeCast S1x4096x1x64 (concatenate S4096x64 1 [⟨S4096x32, (Host.negf (Host.sin angles) : FVec Ideal S4096x32 .f32)⟩, ⟨S4096x32, (Host.sin angles : FVec Ideal S4096x32 .f32)⟩] concatenates_S4096x32_S4096x32_S4096x64_d1)
        shapeCasts_S4096x64_S1x4096x1x64)) shapeCasts_S1x4096x2x64_S4096x128 : FVec Ideal S4096x128 .f32) := rfl
  refine Eq.trans (b := V m c main_v27 (ix2 (row t r) (lane b e))) ?_ ?_
  · blk_point [iblk, idx t, row]
  · rw [h]
    generalize row t r = s
    pointwise [lane, sinAt]
    by_cases k : e.val < 32
    · rw [dif_pos k, if_pos k, half_low k]
    · rw [dif_neg k, if_neg k, half_high k]

/-- The gains, head by head. -/
theorem block_gq (c : Dev nD) (t : Fin cfg0.N) (b : Fin 2) (e : Fin 64) :
    iblk m c 4 t (ix2 0 (lane b e)) = m ((c : Thread nD τ).loc main_arg3) (ix1 e) := by
  have h : V m c main_v34 = (shapeCast S1x128 (broadcastInDim S1x1x2x64 ![0, 1, 2, 3] bcast_S1x1x1x64_S1x1x2x64_0_1_2_3
      (shapeCast S1x1x1x64 (shapeCast S1x64 (m ((c : Thread nD τ).loc main_arg3)) shapeCasts_S64_S1x64) shapeCasts_S1x64_S1x1x1x64)) shapeCasts_S1x1x2x64_S1x128 : FVec Ideal S1x128 .f32) := rfl
  refine Eq.trans (b := V m c main_v34 (ix2 0 (lane b e))) ?_ ?_
  · blk_point [iblk, idx t]
  · rw [h]
    pointwise [lane]

theorem block_gk (c : Dev nD) (t : Fin cfg0.N) (b : Fin 2) (e : Fin 64) :
    iblk m c 5 t (ix2 0 (lane b e)) = m ((c : Thread nD τ).loc main_arg4) (ix1 e) := by
  have h : V m c main_v38 = (shapeCast S1x128 (broadcastInDim S1x1x2x64 ![0, 1, 2, 3] bcast_S1x1x1x64_S1x1x2x64_0_1_2_3
      (shapeCast S1x1x1x64 (shapeCast S1x64 (m ((c : Thread nD τ).loc main_arg4)) shapeCasts_S64_S1x64) shapeCasts_S1x64_S1x1x1x64)) shapeCasts_S1x1x2x64_S1x128 : FVec Ideal S1x128 .f32) := rfl
  refine Eq.trans (b := V m c main_v38 (ix2 0 (lane b e))) ?_ ?_
  · blk_point [iblk, idx t]
  · rw [h]
    pointwise [lane]

/-- The heads that the lanes lie in, as the host computes them. -/
def headOf : IVec S128 32 :=
  have i : IVec S128 32 := iotaInDim S128 32 0
  have n : IVec S_ 32 := constantI S_ 32 64#32
  have q : IVec S128 32 := Host.divsi i (broadcastInDim S128 ![] bcast_S_S128 n)
  select (andi (cmpi .ne (signi i) (broadcastInDim S128 ![] bcast_S_S128 (signi n))) (cmpi .ne (Host.remsi i (broadcastInDim S128 ![] bcast_S_S128 n)) (broadcastInDim S128 ![] bcast_S_S128 (constantI S_ 32 0#32))))
    (subi q (broadcastInDim S128 ![] bcast_S_S128 (constantI S_ 32 1#32))) q

theorem headOf_at : ∀ l : Fin 128, headOf (ix1 l) = BitVec.ofNat 32 (l.val / 64) := by decide +kernel

/-- The averaging matrix. -/
theorem block_avg (c : Dev nD) (t : Fin cfg0.N) : Averages (k0_pay5 (iblk m c 6 t)) := by
  intro k l
  have h : V m c main_v49 = (truncf .bf16 (mulf (uitofp .f32 (cmpi .eq (broadcastInDim S128x128 ![0, 1] bcast_S128x1_S128x128_0_1 (broadcastInDim S128x1 ![0] bcast_S128_S128x1_0 headOf))
    (broadcastInDim S128x128 ![0, 1] bcast_S1x128_S128x128_0_1 (broadcastInDim S1x128 ![1] bcast_S128_S1x128_1 headOf)))) (broadcastInDim S128x128 ![] bcast_S_S128x128 (constant S_ .f32 0x3C800000#32))) bitsLt_bf16_f32 : FVec Ideal S128x128 .bf16) := rfl
  refine Eq.trans (b := V m c main_v49 (ix2 k l)) ?_ ?_
  · pointwise [k0_pay5]
    blk_point [iblk, idx t]
  · rw [h]
    have h1 := headOf_at k
    have h2 := headOf_at l
    generalize headOf = H at h1 h2 ⊢
    pointwise []
    rw [h1, h2, Cert.PrepMath.share]
    by_cases e : k.val / 64 = l.val / 64
    · rw [if_pos e, e]
      have z : IntOp.cmpi CmpIPredicate.eq (BitVec.ofNat 32 (l.val / 64)) (BitVec.ofNat 32 (l.val / 64)) = 1#1 := by simp [IntOp.cmpi]
      rw [z]
      show (((1 : ℕ) : ℝ) : EReal) * _ = _
      rw [Nat.cast_one, EReal.coe_one, one_mul]
    · rw [if_neg e]
      have z : IntOp.cmpi CmpIPredicate.eq (BitVec.ofNat 32 (k.val / 64)) (BitVec.ofNat 32 (l.val / 64)) = 0#1 := by
        have n : BitVec.ofNat 32 (k.val / 64) ≠ BitVec.ofNat 32 (l.val / 64) := fun q => e (by
          have := congrArg BitVec.toNat q
          simp only [BitVec.toNat_ofNat] at this
          omega)
        show BitVec.ofBool (BitVec.ofNat 32 (k.val / 64) == BitVec.ofNat 32 (l.val / 64)) = 0#1
        rw [beq_eq_false_iff_ne.mpr n]; rfl
      rw [z]
      show (((0 : ℕ) : ℝ) : EReal) * _ = _
      rw [Nat.cast_zero, EReal.coe_zero, zero_mul]

/-- The columns that the kernel reads of the joined array. -/
theorem joined_eq (c : Dev nD) : V m c main_v30 = (truncf .bf16 (concatenate S4096x2304 1 [⟨S4096x1536, (broadcastInDim S4096x1536 ![] bcast_S_S4096x1536 (constant S_ .f32 0x00000000#32) : FVec Ideal S4096x1536 .f32)⟩, ⟨S4096x512, (m ((c : Thread nD τ).loc main_arg0) : FVec Ideal S4096x512 .f32)⟩, ⟨S4096x128, (m ((c : Thread nD τ).loc main_arg1) : FVec Ideal S4096x128 .f32)⟩, ⟨S4096x128, (m ((c : Thread nD τ).loc main_arg2) : FVec Ideal S4096x128 .f32)⟩] concatenates_S4096x1536_S4096x512_S4096x128_S4096x128_S4096x2304_d1) bitsLt_bf16_f32 : FVec Ideal S4096x2304 .bf16) := rfl

theorem block_q (c : Dev nD) (t : Fin cfg0.N) (r : Fin 512) (j : Fin 512) :
    X0_0 m c t (ix2 r j) = m ((c : Thread nD τ).loc main_arg0) (ix2 (row t r) j) := by
  refine Eq.trans (b := V m c main_v30 (ix2 (row t r) ⟨1536 + j.val, by omega⟩)) ?_ ?_
  · unfold X0_0 Pipeline.Window.fill
    rw [dif_pos (moved0_0 t _)]
    blk_point [iblk, idx t, row]
  · rw [joined_eq]
    pointwise []

theorem block_k (c : Dev nD) (t : Fin cfg0.N) (r : Fin 512) (j : Fin 128) :
    iblk m c 1 t (ix2 r j) = m ((c : Thread nD τ).loc main_arg1) (ix2 (row t r) j) := by
  refine Eq.trans (b := V m c main_v30 (ix2 (row t r) ⟨2048 + j.val, by omega⟩)) ?_ ?_
  · blk_point [iblk, idx t, row]
  · rw [joined_eq]
    pointwise []
    rw [dif_neg (by omega), dif_neg (by omega), dif_pos (by omega)]
    exact congrArg _ (congrArg (ix2 _) (Fin.ext (by show 2048 + j.val - 1536 - 512 = j.val; omega)))

theorem block_dq (c : Dev nD) (t : Fin cfg0.N) (r : Fin 512) (j : Fin 512) :
    iblk m c 7 t (ix2 r j) = m ((c : Thread nD τ).loc main_arg5) (ix2 (row t r) j) := by
  blk_point [iblk, V, idx t, row]

theorem block_dk (c : Dev nD) (t : Fin cfg0.N) (r : Fin 512) (j : Fin 128) :
    iblk m c 8 t (ix2 r j) = m ((c : Thread nD τ).loc main_arg6) (ix2 (row t r) j) := by
  blk_point [iblk, V, idx t, row]

theorem block_dv (c : Dev nD) (t : Fin cfg0.N) (r : Fin 512) (j : Fin 128) :
    iblk m c 9 t (ix2 r j) = m ((c : Thread nD τ).loc main_arg7) (ix2 (row t r) j) := by
  blk_point [iblk, V, idx t, row]

end Cert.PrepKernelIdeal.Grad

end
-- ==== Proof.PrepHead.lean ====
module

public import proofs.«01_k».proof.Proof.Gen.PrepKernelIdeal.Value
public import proofs.«01_k».proof.Proof.Gen.PrepReferenceIdeal.Run
public import Idealize.ShloMosaic.Lib.Pipeline.ValueKit
public import Idealize.ShloMosaic.Lib.Claim
public import Idealize.ShloMosaic.Lib.Pipeline.ReadBack
public import proofs.«01_k».proof.Defs
public import proofs.«01_k».proof.Proof.PrepTile

/-!
The gradient of the windowed attention's queries, keys and values through the rotation and the norms.
-/

@[expose] public section

set_option maxRecDepth 16384

noncomputable section

open Idealize.ShloMosaic Idealize.ShloMosaic.TcCoe Idealize.SL.Sem
open Idealize.ShloMosaic.Pipeline (Dat)
open scoped BigOperators

namespace Cert.PrepKernelIdeal.Grad

open Cert.PrepKernelIdeal Cert.PrepKernelIdeal.Gen

open Cert.PrepMath (turn turn_real meanSq lane lane_split grad headCol headGrad back gainPart)

/-- Lane `l` of the tile at column `o`. -/
def col {W : ℕ} (o : ℕ) (hoW : o + 128 ≤ W) (l : Fin 128) : Fin W := ⟨o + l.val, by omega⟩

section Tile

variable {W : ℕ} (hW : W % 64 = 0) (o : ℕ) (ho : o % 64 = 0) (hoW : o + 128 ≤ W) {co si : Fin 4096 → Fin 32 → EReal} {xs ds : Fin 4096 → Fin W → EReal}
  {gs : Fin 64 → EReal} (rows : Fin 512 → Fin 4096) {cs sn : Vec Ideal S512x128 .f32} {A : Vec Ideal S128x128 .bf16} {x : Vec Ideal S512x128 .bf16}
  {g : Vec Ideal S1x128 .f32} {d : Vec Ideal S512x128 .f32} (p : Vec Ideal S1x128 .f32)
  (hA : Averages (k0_pay5 A)) (hT : Tables (fun r => co (rows r)) (fun r => si (rows r)) cs sn)
  (hx : ∀ r (l : Fin 128), x (ix2 r l) = xs (rows r) (col o hoW l)) (hd : ∀ r (l : Fin 128), d (ix2 r l) = ds (rows r) (col o hoW l))
  (hg : ∀ b e, g (ix2 0 (lane b e)) = gs e)
  (rx : ∀ s j, ∃ a : ℝ, xs s j = a) (rd : ∀ s j, ∃ a : ℝ, ds s j = a) (rg : ∀ e, ∃ a : ℝ, gs e = a)
  (rc : ∀ s e, ∃ a : ℝ, co s e = a) (rs : ∀ s e, ∃ a : ℝ, si s e = a)

/-- A block is read as it is. -/
theorem read_x (x : Vec Ideal S512x128 .bf16) (i : S512x128.Idx) : k0_pay6 x i = x i := by pointwise [k0_pay6]

theorem read_g (g : Vec Ideal S1x128 .f32) (i : S1x128.Idx) : k0_pay7 g i = g i := by pointwise [k0_pay7]

include ho hoW in
/-- The column of a head's entry. -/
theorem head_col (b : Fin 2) (e e' : Fin 64) : headCol hW (col o hoW (lane b e)) e' = col o hoW (lane b e') :=
  Fin.ext (by simp only [headCol, col, lane]; omega)

include ho in
theorem head_entry (b : Fin 2) (e : Fin 64) : (⟨(col o hoW (lane b e)).val % 64, Nat.mod_lt _ (by norm_num)⟩ : Fin 64) = e :=
  Fin.ext (by simp only [col, lane]; omega)

include hT hd ho hoW in
/-- The gradient through the rotation, at a tile's lane. -/
theorem tile_back (r : Fin 512) (b : Fin 2) (e e' : Fin 64) : tileY cs sn d (ix2 r (lane b e')) = back hW co si ds (rows r) (col o hoW (lane b e)) e' := by
  rw [tileY_turn hT, back]
  congr 1
  funext k
  rw [hd, head_col hW o ho hoW]

include hA hT hx hd hg rx rd rg rc rs ho hoW in
/-- A tile's gradient is the heads' gradient of the tile's columns. -/
theorem tile_dx (r : Fin 512) (l : Fin 128) : tileDx cs sn A x g d (ix2 r l) = headGrad hW co si xs ds gs (rows r) (col o hoW l) := by
  obtain ⟨b, e, rfl⟩ := lane_split l
  refine (dx_at hA (k0_pay6 x) (k0_pay7 g) cs sn d r (fun l => ?_) (fun l => ?_) b e).trans ?_
  · rw [read_x, hx]; exact rx _ _
  · obtain ⟨b, e, rfl⟩ := lane_split l
    obtain ⟨a, ha⟩ := turn_real (d := fun e => d (ix2 r (lane b e))) (rc (rows r)) (rs (rows r)) (fun k => by rw [hd]; exact rd _ _) e
    obtain ⟨a', ha'⟩ := rg e
    exact ⟨a * a', by rw [tileY_turn hT, ha, read_g, hg, ha', EReal.coe_mul]⟩
  · rw [headGrad, head_entry o ho hoW]
    congr 1
    · funext k; rw [read_x, hx, head_col hW o ho hoW]
    · funext k; rw [tile_back hW o ho hoW rows hT hd r b e k, read_g, hg]

include hA hT hx hd rx ho hoW in
/-- A tile's part of the gains' gradient. -/
theorem tile_dg (l : Fin 128) : tileDg cs sn A x d p (ix2 0 l) = p (ix2 0 l) + ∑ r, gainPart hW co si xs ds (rows r) (col o hoW l) := by
  obtain ⟨b, e, rfl⟩ := lane_split l
  refine (dg_at hA (k0_pay6 x) cs sn d p (fun r l => ?_) b e).trans (congrArg _ (Finset.sum_congr rfl fun r _ => ?_))
  · rw [read_x, hx]; exact rx _ _
  · rw [gainPart, head_entry o ho hoW, tile_back hW o ho hoW rows hT hd r b e e, read_x, hx]
    congr 3
    congr 1
    funext k
    rw [read_x, hx, head_col hW o ho hoW]

end Tile

end Cert.PrepKernelIdeal.Grad

end
-- ==== Proof.Prep.lean ====
module

public import proofs.«01_k».proof.Proof.Gen.PrepKernelIdeal.Value
public import proofs.«01_k».proof.Proof.Gen.PrepReferenceIdeal.Run
public import Idealize.ShloMosaic.Lib.Pipeline.ValueKit
public import Idealize.ShloMosaic.Lib.Claim
public import Idealize.ShloMosaic.Lib.Pipeline.ReadBack
public import proofs.«01_k».proof.Defs
public import proofs.«01_k».proof.Proof.PrepRef
public import proofs.«01_k».proof.Proof.PrepHost
public import proofs.«01_k».proof.Proof.PrepHead

/-!
The gradient of the windowed attention's queries, keys and values through the rotation and the norms.
-/

@[expose] public section

set_option maxRecDepth 16384

noncomputable section

open Idealize.ShloMosaic Idealize.ShloMosaic.TcCoe Idealize.SL.Sem
open Idealize.ShloMosaic.Pipeline (Dat)
open scoped BigOperators

namespace Cert.PrepKernelIdeal.Grad

open Cert.PrepKernelIdeal Cert.PrepKernelIdeal.Gen

variable (m : (ℓ : Loc nD τ sig) → Buf (Elt Ideal) ℓ)

open Cert.PrepMath (turn turn_real meanSq lane lane_split grad headCol headGrad back gainPart)
open Cert.PrepReferenceIdeal.Value (angles cosAt sinAt)

variable (c : Dev nD)

/-- The query, the gradients, the gains as functions of a row and a column. -/
def xq (s : Fin 4096) (j : Fin 512) : EReal := (m ((c : Thread nD τ).loc main_arg0) : FVec Ideal S4096x512 .f32) (ix2 s j)

def xk (s : Fin 4096) (j : Fin 128) : EReal := (m ((c : Thread nD τ).loc main_arg1) : FVec Ideal S4096x128 .f32) (ix2 s j)

def gq (e : Fin 64) : EReal := (m ((c : Thread nD τ).loc main_arg3) : FVec Ideal S64 .f32) (ix1 e)

def gk (e : Fin 64) : EReal := (m ((c : Thread nD τ).loc main_arg4) : FVec Ideal S64 .f32) (ix1 e)

def dyq (s : Fin 4096) (j : Fin 512) : EReal := (m ((c : Thread nD τ).loc main_arg5) : FVec Ideal S4096x512 .f32) (ix2 s j)

def dyk (s : Fin 4096) (j : Fin 128) : EReal := (m ((c : Thread nD τ).loc main_arg6) : FVec Ideal S4096x128 .f32) (ix2 s j)

/-- The arguments that the averages read are numbers. -/
structure Finite : Prop where
  q : ∀ s j, ∃ a : ℝ, xq m c s j = a
  k : ∀ s j, ∃ a : ℝ, xk m c s j = a
  g : ∀ e, ∃ a : ℝ, gq m c e = a
  h : ∀ e, ∃ a : ℝ, gk m c e = a
  d : ∀ s j, ∃ a : ℝ, dyq m c s j = a
  f : ∀ s j, ∃ a : ℝ, dyk m c s j = a

theorem w512 : 512 % 64 = 0 := by norm_num

theorem w128 : 128 % 64 = 0 := by norm_num

/-- The gradient of the query before its norm. -/
def dxq : Fin 4096 → Fin 512 → EReal := headGrad w512 cosAt sinAt (xq m c) (dyq m c) (gq m c)

def dxk : Fin 4096 → Fin 128 → EReal := headGrad w128 cosAt sinAt (xk m c) (dyk m c) (gk m c)

/-- What a row adds to the gradient of the query's gain. -/
def partq : Fin 4096 → Fin 512 → EReal := gainPart w512 cosAt sinAt (xq m c) (dyq m c)

def partk : Fin 4096 → Fin 128 → EReal := gainPart w128 cosAt sinAt (xk m c) (dyk m c)

variable {m c} (hf : Finite m c)

/-- The tables' blocks. -/
theorem tables (t : Fin cfg0.N) : Tables (fun r => cosAt (row t r)) (fun r => sinAt (row t r)) (iblk m c 2 t) (iblk m c 3 t) :=
  ⟨fun r b e => block_cos m c t r b e, fun r b e => block_sin m c t r b e⟩

section Query

variable (o : ℕ) (ho : o % 64 = 0) (hoW : o + 128 ≤ 512) (inb : ∀ a, (![0, o] : Fin 2 → ℕ) a + (![512, 128] : Fin 2 → ℕ) a ≤ S512x512.size a)
  (inb' : ∀ a, (![0, o] : Fin 2 → ℕ) a + (![1, 128] : Fin 2 → ℕ) a ≤ S1x512.size a)

include hoW in
theorem tile_q (t : Fin cfg0.N) (r : Fin 512) (l : Fin 128) : View.ld (X0_0 m c t) (Rect.unit (s := S512x512) ![0, o] ![512, 128] inb) (ix2 r l) = xq m c (row t r) (col o hoW l) := by
  rw [xq, ← block_q m c t r]
  exact View.ld_unit_apply_of _ _ _ inb _ _ (by intro a; fin_cases a <;> simp [ix2, col])

include hoW in
theorem tile_d (t : Fin cfg0.N) (r : Fin 512) (l : Fin 128) : View.ld (iblk m c 7 t) (Rect.unit (s := S512x512) ![0, o] ![512, 128] inb) (ix2 r l) = dyq m c (row t r) (col o hoW l) := by
  rw [dyq, ← block_dq m c t r]
  exact View.ld_unit_apply_of _ _ _ inb _ _ (by intro a; fin_cases a <;> simp [ix2, col])

include hf ho hoW in
/-- A query tile's gradient. -/
theorem query_dx (t : Fin cfg0.N) (r : Fin 512) (l : Fin 128) :
    tileDx (iblk m c 2 t) (iblk m c 3 t) (iblk m c 6 t) (View.ld (X0_0 m c t) (Rect.unit (s := S512x512) ![0, o] ![512, 128] inb)) (iblk m c 4 t)
      (View.ld (iblk m c 7 t) (Rect.unit (s := S512x512) ![0, o] ![512, 128] inb)) (ix2 r l) = dxq m c (row t r) (col o hoW l) :=
  tile_dx w512 o ho hoW (row t) (block_avg m c t) (tables t) (tile_q o hoW inb t) (tile_d o hoW inb t) (block_gq m c t) hf.q hf.d hf.g cosAt_real sinAt_real r l

include hf ho hoW in
theorem query_dg (t : Fin cfg0.N) (p : Vec Ideal S1x512 .f32) (l : Fin 128) :
    tileDg (iblk m c 2 t) (iblk m c 3 t) (iblk m c 6 t) (View.ld (X0_0 m c t) (Rect.unit (s := S512x512) ![0, o] ![512, 128] inb))
      (View.ld (iblk m c 7 t) (Rect.unit (s := S512x512) ![0, o] ![512, 128] inb)) (View.ld p (Rect.unit (s := S1x512) ![0, o] ![1, 128] inb')) (ix2 0 l)
      = p (ix2 0 (col o hoW l)) + ∑ r, partq m c (row t r) (col o hoW l) := by
  refine (tile_dg w512 o ho hoW (row t) _ (block_avg m c t) (tables t) (tile_q o hoW inb t) (tile_d o hoW inb t) hf.q l).trans (congrArg (· + _) ?_)
  exact View.ld_unit_apply_of _ _ _ inb' _ _ (by intro a; fin_cases a <;> simp [ix2, col])

end Query

include hf in
/-- The key tile's gradient. -/
theorem key_dx (t : Fin cfg0.N) (r : Fin 512) (j : Fin 128) :
    tileDx (iblk m c 2 t) (iblk m c 3 t) (iblk m c 6 t) (iblk m c 1 t) (iblk m c 5 t) (iblk m c 8 t) (ix2 r j) = dxk m c (row t r) j := by
  refine (tile_dx (xs := xk m c) (ds := dyk m c) (gs := gk m c) w128 0 rfl le_rfl (row t) (block_avg m c t) (tables t) (fun r l => (block_k m c t r l).trans ?_) (fun r l => (block_dk m c t r l).trans ?_) (block_gk m c t) hf.k hf.f hf.h cosAt_real sinAt_real r j).trans ?_
  · exact congrArg (xk m c _) (Fin.ext (by simp [col]))
  · exact congrArg (dyk m c _) (Fin.ext (by simp [col]))
  · exact congrArg (dxk m c _) (Fin.ext (by simp [col]))

include hf in
theorem key_dg (t : Fin cfg0.N) (p : Vec Ideal S1x128 .f32) (j : Fin 128) :
    tileDg (iblk m c 2 t) (iblk m c 3 t) (iblk m c 6 t) (iblk m c 1 t) (iblk m c 8 t) p (ix2 0 j) = p (ix2 0 j) + ∑ r, partk m c (row t r) j := by
  refine (tile_dg (xs := xk m c) (ds := dyk m c) w128 0 rfl le_rfl (row t) p (block_avg m c t) (tables t) (fun r l => (block_k m c t r l).trans ?_) (fun r l => (block_dk m c t r l).trans ?_) hf.k j).trans ?_
  · exact congrArg (xk m c _) (Fin.ext (by simp [col]))
  · exact congrArg (dyk m c _) (Fin.ext (by simp [col]))
  · exact congrArg (_ + ·) (Finset.sum_congr rfl fun r _ => congrArg (partk m c _) (Fin.ext (by simp [col])))

/-- A tile of the query's gradient, at an index of the block. -/
theorem tileAt_dx (o : ℕ) (ho : o % 64 = 0) (hoW : o + 128 ≤ 512) (inb : ∀ a, (![0, o] : Fin 2 → ℕ) a + (![512, 128] : Fin 2 → ℕ) a ≤ S512x512.size a) (hf : Finite m c) (t : Fin cfg0.N) (r : Fin 512) (j : Fin 512) :
    View.TileAt (Val := Elt Ideal) (S := S512x512) (e := .bf16) (ix2 r j) ![0, o] ![512, 128] (tileDx (iblk m c 2 t) (iblk m c 3 t) (iblk m c 6 t) (View.ld (X0_0 m c t) (Rect.unit (s := S512x512) ![0, o] ![512, 128] inb)) (iblk m c 4 t)
      (View.ld (iblk m c 7 t) (Rect.unit (s := S512x512) ![0, o] ![512, 128] inb))) (dxq m c (row t r) j) := fun x hx => by
  have h0 : (r : ℕ) = 0 + (x 0 : ℕ) := hx 0
  have h1 : (j : ℕ) = o + (x 1 : ℕ) := hx 1
  obtain ⟨r', l, rfl⟩ : ∃ (r' : Fin 512) (l : Fin 128), x = ix2 r' l := ⟨x 0, x 1, (ix2_eta x).symm⟩
  have e0 : r' = r := Fin.ext (by simpa [ix2] using h0.symm)
  have e1 : j = col o hoW l := Fin.ext h1
  rw [e0, e1]
  exact query_dx hf o ho hoW inb t r l

set_option maxHeartbeats 2000000 in
/-- The query's gradient after the run. -/
theorem final_10 (hf : Finite m c) : (dats m 0 c).arrAt 10 (cfgs 0).N = fun y => dxq m c (y 0) (y 1) := by
  refine (dats m 0 c).arrAt_eq_of_covers 10 _ (by decide +kernel) fun t hfl y => ?_
  obtain ⟨r, j, rfl⟩ : ∃ (r : Fin 512) (j : Fin 512), y = ix2 r j := ⟨y 0, y 1, (ix2_eta y).symm⟩
  blk_simp
  rw [after0_10]
  have e : (((View.whole main_v50_0).slice (win0_10.rect t)).emb (ix2 r j)) = ix2 (row t r) j := by blk_ext [idx t, row]
  have tail : ∀ L : List (View.Piece (Elt Ideal) S512x512 .bf16), (∃ p ∈ L, ix2 r j ∈ p.1.set) → View.AllAt L (ix2 r j) (dxq m c (row t r) j) → View.canon L (ix2 r j) = dxq m c (row t r) j :=
    fun L hc h => View.canon_eq_of_allAt L _ _ hc h
  by_cases h : t.val % 8 = 0
  · rw [outsAt0_A m c t h]
    frame_out
    rw [e, dx_second, dx_third, dx_fourth]
    refine tail _ (View.cover_of_tiled_head _ _ _ (by rfl) _) ?_
    exact View.allAt_cons_unit _ _ _ _ _ (tileAt_dx 384 rfl (by norm_num) _ hf t r j) (View.allAt_cons_unit _ _ _ _ _ (tileAt_dx 256 rfl (by norm_num) _ hf t r j)
      (View.allAt_cons_unit _ _ _ _ _ (tileAt_dx 128 rfl (by norm_num) _ hf t r j) (View.allAt_cons_unit _ _ _ _ _ (tileAt_dx 0 rfl (by norm_num) _ hf t r j) (View.allAt_nil _ _))))
  · rw [outsAt0_B m c t h]
    frame_out
    rw [e, dx_second, dx_third, dx_fourth]
    refine tail _ (View.cover_of_tiled_head _ _ _ (by rfl) _) ?_
    exact View.allAt_cons_unit _ _ _ _ _ (tileAt_dx 384 rfl (by norm_num) _ hf t r j) (View.allAt_cons_unit _ _ _ _ _ (tileAt_dx 256 rfl (by norm_num) _ hf t r j)
      (View.allAt_cons_unit _ _ _ _ _ (tileAt_dx 128 rfl (by norm_num) _ hf t r j) (View.allAt_cons_unit _ _ _ _ _ (tileAt_dx 0 rfl (by norm_num) _ hf t r j) (View.allAt_nil _ _))))

set_option maxHeartbeats 2000000 in
/-- The key's gradient after the run. -/
theorem final_11 (hf : Finite m c) : (dats m 0 c).arrAt 11 (cfgs 0).N = fun y => dxk m c (y 0) (y 1) := by
  refine (dats m 0 c).arrAt_eq_of_covers 11 _ (by decide +kernel) fun t hfl y => ?_
  obtain ⟨r, j, rfl⟩ : ∃ (r : Fin 512) (j : Fin 128), y = ix2 r j := ⟨y 0, y 1, (ix2_eta y).symm⟩
  blk_simp
  rw [after0_11]
  have e : (((View.whole main_v50_1).slice (win0_11.rect t)).emb (ix2 r j)) = ix2 (row t r) j := by blk_ext [idx t, row]
  by_cases h : t.val % 8 = 0
  · rw [outsAt0_A m c t h]; frame_out; rw [e, dx_keys]; exact key_dx hf t r j
  · rw [outsAt0_B m c t h]; frame_out; rw [e, dx_keys]; exact key_dx hf t r j

set_option maxHeartbeats 2000000 in
/-- The value's gradient after the run. -/
theorem final_12 : (dats m 0 c).arrAt 12 (cfgs 0).N = fun y => (m ((c : Thread nD τ).loc main_arg7) : FVec Ideal S4096x128 .f32) y := by
  refine (dats m 0 c).arrAt_eq_of_covers 12 _ (by decide +kernel) fun t hfl y => ?_
  obtain ⟨r, j, rfl⟩ : ∃ (r : Fin 512) (j : Fin 128), y = ix2 r j := ⟨y 0, y 1, (ix2_eta y).symm⟩
  blk_simp
  rw [after0_12]
  have e : (((View.whole main_v50_2).slice (win0_12.rect t)).emb (ix2 r j)) = ix2 (row t r) j := by blk_ext [idx t, row]
  by_cases h : t.val % 8 = 0
  · rw [outsAt0_A m c t h]; frame_out; rw [e]; exact block_dv m c t r j
  · rw [outsAt0_B m c t h]; frame_out; rw [e]; exact block_dv m c t r j

theorem zero_q (j : S1x512.Idx) : k0_pay1 (F := Ideal) j = 0 := by pointwise! [k0_pay1]

theorem zero_k (j : S1x128.Idx) : k0_pay2 (F := Ideal) j = 0 := by pointwise! [k0_pay2]

/-- A tile of the gradient of the query's gains, at an index. -/
theorem tileAt_dg (o : ℕ) (ho : o % 64 = 0) (hoW : o + 128 ≤ 512) (inb : ∀ a, (![0, o] : Fin 2 → ℕ) a + (![512, 128] : Fin 2 → ℕ) a ≤ S512x512.size a)
    (inb' : ∀ a, (![0, o] : Fin 2 → ℕ) a + (![1, 128] : Fin 2 → ℕ) a ≤ S1x512.size a) (hf : Finite m c) (t : Fin cfg0.N) (p : Vec Ideal S1x512 .f32) (q : Vec Ideal S1x128 .f32)
    (hq : q = View.ld p (Rect.unit (s := S1x512) ![0, o] ![1, 128] inb')) (j : Fin 512) :
    View.TileAt (Val := Elt Ideal) (S := S1x512) (e := .f32) (ix2 0 j) ![0, o] ![1, 128] (tileDg (iblk m c 2 t) (iblk m c 3 t) (iblk m c 6 t) (View.ld (X0_0 m c t) (Rect.unit (s := S512x512) ![0, o] ![512, 128] inb))
      (View.ld (iblk m c 7 t) (Rect.unit (s := S512x512) ![0, o] ![512, 128] inb)) q) (p (ix2 0 j) + ∑ r, partq m c (row t r) j) := fun x hx => by
  have h1 : (j : ℕ) = o + (x 1 : ℕ) := hx 1
  obtain ⟨l, rfl⟩ : ∃ (l : Fin 128), x = ix2 0 l := ⟨x 1, by rw [← Fin.eq_zero (x 0)]; exact (ix2_eta x).symm⟩
  have e1 : j = col o hoW l := Fin.ext h1
  rw [hq, e1]
  exact query_dg hf o ho hoW inb inb' t p l

/-- The same tile as a store: what it leaves at its lanes. -/
theorem piece_dg (o : ℕ) (ho : o % 64 = 0) (hoW : o + 128 ≤ 512) (inb : ∀ a, (![0, o] : Fin 2 → ℕ) a + (![512, 128] : Fin 2 → ℕ) a ≤ S512x512.size a)
    (inb' : ∀ a, (![0, o] : Fin 2 → ℕ) a + (![1, 128] : Fin 2 → ℕ) a ≤ S1x512.size a) (hf : Finite m c) (t : Fin cfg0.N) (q : Vec Ideal S1x128 .f32)
    (hq : q = View.ld (k0_pay1 : FVec Ideal S1x512 .f32) (Rect.unit (s := S1x512) ![0, o] ![1, 128] inb')) (x : (Rect.unit (s := S1x512) ![0, o] ![1, 128] inb').shape.Idx) :
    tileDg (iblk m c 2 t) (iblk m c 3 t) (iblk m c 6 t) (View.ld (X0_0 m c t) (Rect.unit (s := S512x512) ![0, o] ![512, 128] inb))
      (View.ld (iblk m c 7 t) (Rect.unit (s := S512x512) ![0, o] ![512, 128] inb)) q x
      = (fun y : S1x512.Idx => 0 + ∑ r, partq m c (row t r) (y 1)) ((Rect.unit (s := S1x512) ![0, o] ![1, 128] inb').emb x) := by
  have k := tileAt_dg o ho hoW inb inb' hf t _ q hq ((Rect.unit (s := S1x512) ![0, o] ![1, 128] inb').emb x 1) x (fun a => by
    refine Eq.trans (congrArg Fin.val (congrFun ?_ a)) (Rect.idx_unit_val ![0, o] ![1, 128] inb' x a)
    refine Eq.trans ?_ (ix2_eta _)
    exact congrArg (fun z => ix2 z _) (Fin.eq_zero _).symm)
  rw [k, zero_q]

/-- Four tiles stored over a zero fill. -/
theorem gains_reset (G : S1x512.Idx → EReal) (w3 w2 w1 w0 : Vec Ideal S1x128 .f32) (Z : Vec Ideal S1x512 .f32)
    (h3 : ∀ x, w3 x = G ((Rect.unit (s := S1x512) ![0, 384] ![1, 128] inb_S1x512_S1x128_0_384).emb x))
    (h2 : ∀ x, w2 x = G ((Rect.unit (s := S1x512) ![0, 256] ![1, 128] inb_S1x512_S1x128_0_256).emb x))
    (h1 : ∀ x, w1 x = G ((Rect.unit (s := S1x512) ![0, 128] ![1, 128] inb_S1x512_S1x128_0_128).emb x))
    (h0 : ∀ x, w0 x = G ((Rect.unit (s := S1x512) ![0, 0] ![1, 128] inb_S1x512_S1x128_0_0).emb x)) (j : Fin 512) :
    View.canon (Val := Elt Ideal) (s := S1x512) (e := .f32) [⟨Rect.unit ![0, 384] ![1, 128] inb_S1x512_S1x128_0_384, w3⟩, ⟨Rect.unit ![0, 256] ![1, 128] inb_S1x512_S1x128_0_256, w2⟩,
      ⟨Rect.unit ![0, 128] ![1, 128] inb_S1x512_S1x128_0_128, w1⟩, ⟨Rect.unit ![0, 0] ![1, 128] inb_S1x512_S1x128_0_0, w0⟩,
      ⟨Rect.unit ![0, 0] ![1, 512] inb_S1x512_S1x512_0_0, Z⟩] (ix2 0 j) = G (ix2 0 j) :=
  View.canon_append_of_piecesOf (Val := Elt Ideal) (s := S1x512) (e := .f32) G [⟨Rect.unit ![0, 0] ![1, 512] inb_S1x512_S1x512_0_0, Z⟩]
    [⟨Rect.unit ![0, 384] ![1, 128] inb_S1x512_S1x128_0_384, w3⟩, ⟨Rect.unit ![0, 256] ![1, 128] inb_S1x512_S1x128_0_256, w2⟩,
      ⟨Rect.unit ![0, 128] ![1, 128] inb_S1x512_S1x128_0_128, w1⟩, ⟨Rect.unit ![0, 0] ![1, 128] inb_S1x512_S1x128_0_0, w0⟩] ⟨h3, h2, h1, h0, trivial⟩ (ix2 0 j)
    (View.cover_of_tiled_head _ _ _ (by rfl) _)

set_option maxHeartbeats 2000000 in
/-- The gradient of the query's gains after the run. -/
theorem final_13 (hf : Finite m c) : (dats m 0 c).arrAt 13 (cfgs 0).N = fun y => ∑ s, partq m c s (y 1) := by
  refine (dats m 0 c).arrAt_eq_of_after_last 13 t0_7 (by decide +kernel) _ fun y => ?_
  obtain ⟨j, rfl⟩ : ∃ (j : Fin 512), y = ix2 0 j := ⟨y 1, by rw [← Fin.eq_zero (y 0)]; exact (ix2_eta y).symm⟩
  blk_simp
  rw [after0_13, Pipeline.eq_sum_fin_of_reset_step_apply_last (fun n h => (outsAt0 m c n h).2.2.2.1) 8 (fun _ => 0) (fun t y => ∑ r, partq m c (row t r) (y 1))
    (fun t h y => by
      obtain ⟨j, rfl⟩ : ∃ (j : Fin 512), y = ix2 0 j := ⟨y 1, by rw [← Fin.eq_zero (y 0)]; exact (ix2_eta y).symm⟩
      rw [outsAt0_A m c t h]
      frame_out
      rw [dg_second, dg_third, dg_fourth]
      refine gains_reset (fun y : S1x512.Idx => 0 + ∑ r, partq m c (row t r) (y 1)) _ _ _ _ _ (piece_dg 384 rfl (by norm_num) _ _ hf t _ ?_) (piece_dg 256 rfl (by norm_num) _ _ hf t _ ?_)
        (piece_dg 128 rfl (by norm_num) _ _ hf t _ ?_) (piece_dg 0 rfl (by norm_num) _ _ hf t _ ?_) j
      · rw [View.readCov_skip _ _ _ _ _ (by decide), View.readCov_skip _ _ _ _ _ (by decide), View.readCov_skip _ _ _ _ _ (by decide), View.readCov_fill _ _ _ _ _ (by decide)]
      · rw [View.readCov_skip _ _ _ _ _ (by decide), View.readCov_skip _ _ _ _ _ (by decide), View.readCov_fill _ _ _ _ _ (by decide)]
      · rw [View.readCov_skip _ _ _ _ _ (by decide), View.readCov_fill _ _ _ _ _ (by decide)]
      · rw [View.readCov_fill _ _ _ _ _ (by decide)])
    (fun t h y => by
      obtain ⟨j, rfl⟩ : ∃ (j : Fin 512), y = ix2 0 j := ⟨y 1, by rw [← Fin.eq_zero (y 0)]; exact (ix2_eta y).symm⟩
      rw [outsAt0_B m c t h]
      frame_out
      rw [dg_second, dg_third, dg_fourth]
      refine View.canon_eq_of_allAt _ _ _ (View.cover_of_tiled_head _ _ _ (by rfl) _) ?_
      exact View.allAt_cons_unit _ _ _ _ _ (tileAt_dg 384 rfl (by norm_num) _ _ hf t _ _ rfl j) (View.allAt_cons_unit _ _ _ _ _ (tileAt_dg 256 rfl (by norm_num) _ _ hf t _ _ rfl j)
        (View.allAt_cons_unit _ _ _ _ _ (tileAt_dg 128 rfl (by norm_num) _ _ hf t _ _ rfl j) (View.allAt_cons_unit _ _ _ _ _ (tileAt_dg 0 rfl (by norm_num) _ _ hf t _ _ rfl j) (View.allAt_nil _ _)))))
    (le_of_eq N_0) t0_7 rfl (ix2 0 j), zero_add]
  refine Fin.sum_mul_add_congr (f := fun s => partq m c s j) fun s k hl => ?_
  have e : (⟨s.val * 512 + k.val, hl⟩ : Fin 4096) = row s k := Fin.ext (show s.val * 512 + k.val = 512 * s.val + k.val by omega)
  rw [e]
  rfl

set_option maxHeartbeats 2000000 in
/-- The gradient of the key's gains after the run. -/
theorem final_14 (hf : Finite m c) : (dats m 0 c).arrAt 14 (cfgs 0).N = fun y => ∑ s, partk m c s (y 1) := by
  refine (dats m 0 c).arrAt_eq_of_after_last 14 t0_7 (by decide +kernel) _ fun y => ?_
  obtain ⟨j, rfl⟩ : ∃ (j : Fin 128), y = ix2 0 j := ⟨y 1, by rw [← Fin.eq_zero (y 0)]; exact (ix2_eta y).symm⟩
  blk_simp
  rw [after0_14, Pipeline.eq_sum_fin_of_reset_step_apply_last (fun n h => (outsAt0 m c n h).2.2.2.2) 8 (fun _ => 0) (fun t y => ∑ r, partk m c (row t r) (y 1))
    (fun t h y => by
      obtain ⟨j, rfl⟩ : ∃ (j : Fin 128), y = ix2 0 j := ⟨y 1, by rw [← Fin.eq_zero (y 0)]; exact (ix2_eta y).symm⟩
      rw [outsAt0_A m c t h]
      frame_out
      rw [dg_keys]
      exact (key_dg hf t _ j).trans (by rw [zero_k]; rfl))
    (fun t h y => by
      obtain ⟨j, rfl⟩ : ∃ (j : Fin 128), y = ix2 0 j := ⟨y 1, by rw [← Fin.eq_zero (y 0)]; exact (ix2_eta y).symm⟩
      rw [outsAt0_B m c t h]
      frame_out
      rw [dg_keys]
      exact key_dg hf t _ j)
    (le_of_eq N_0) t0_7 rfl (ix2 0 j), zero_add]
  refine Fin.sum_mul_add_congr (f := fun s => partk m c s j) fun s k hl => ?_
  have e : (⟨s.val * 512 + k.val, hl⟩ : Fin 4096) = row s k := Fin.ext (show s.val * 512 + k.val = 512 * s.val + k.val by omega)
  rw [e]
  rfl

end Cert.PrepKernelIdeal.Grad

end
-- ==== Proof.Ordinary.lean ====
/-
  Finiteness read off a comparison: a number whose absolute value compares below infinity is no infinity.
-/
module

public import Idealize.ShloMosaic.Lib.Claim
public import Idealize.ShloMosaic.Lib.Pipeline.ValueKit

@[expose] public section

set_option maxRecDepth 16000

noncomputable section

open Idealize.ShloMosaic

namespace Cert.Ordinary

/-- The word of infinity is the top. -/
theorem inf_f32 : Ideal.ofBits .f32 0x7F800000#32 = ⊤ := by simp [Ideal.ofBits, Ideal.ieee]

/-- A number whose absolute value lies below the top is no infinity. -/
theorem below_top {x : EReal} (h : max x (-x) < (⊤ : EReal)) : x ≠ ⊥ ∧ x ≠ ⊤ := by
  constructor <;> rintro rfl <;> simp at h

/-- An entry whose absolute value compares below infinity is no infinity. -/
theorem ordinary {S S0 : Shape} {d : Fin S0.rank → Fin S.rank} (hb : S0.BroadcastsInDim S d) {A : FVec Ideal S .f32} {i : S.Idx}
    (h : cmpf (F := Ideal) .olt (Host.absf A) (broadcastInDim S d hb (constant (F := Ideal) S0 .f32 0x7F800000#32)) i = 1#1) : A i ≠ ⊥ ∧ A i ≠ ⊤ := by
  refine below_top (lt_of_lt_of_eq (of_decide_eq_true ?_) inf_f32)
  revert h
  pointwise []
  exact fun h => by
    cases hd : decide (max (A i) (-A i) < Ideal.ofBits .f32 0x7F800000#32)
    · exact absurd (show BitVec.ofBool (decide (max (A i) (-A i) < Ideal.ofBits .f32 0x7F800000#32)) = 1#1 from h) (by rw [hd]; decide)
    · rfl

/-- An entry whose absolute value compares below infinity is a real number. -/
theorem number {S S0 : Shape} {d : Fin S0.rank → Fin S.rank} (hb : S0.BroadcastsInDim S d) {A : FVec Ideal S .f32} {i : S.Idx}
    (h : cmpf (F := Ideal) .olt (Host.absf A) (broadcastInDim S d hb (constant (F := Ideal) S0 .f32 0x7F800000#32)) i = 1#1) : ∃ a : ℝ, A i = a :=
  ⟨EReal.toReal (A i), (EReal.coe_toReal (ordinary hb h).2 (ordinary hb h).1).symm⟩

end Cert.Ordinary

end
-- ==== Proof.PrepValue.lean ====
module

public import proofs.«01_k».proof.Proof.Gen.PrepKernelIdeal.Value
public import proofs.«01_k».proof.Proof.Gen.PrepReferenceIdeal.Run
public import Idealize.ShloMosaic.Lib.Pipeline.ValueKit
public import Idealize.ShloMosaic.Lib.Claim
public import Idealize.ShloMosaic.Lib.Pipeline.ReadBack
public import proofs.«01_k».proof.Defs
public import proofs.«01_k».proof.Proof.PrepRef
public import proofs.«01_k».proof.Proof.PrepHost
public import proofs.«01_k».proof.Proof.PrepHead
public import proofs.«01_k».proof.Proof.Prep
public import proofs.«01_k».proof.Proof.Ordinary

/-!
The kernel's results are the reference's where the arguments that the averages read are finite.
-/

@[expose] public section

set_option maxRecDepth 16384

noncomputable section

open Idealize.ShloMosaic Idealize.ShloMosaic.TcCoe Idealize.SL.Sem
open Idealize.ShloMosaic.Pipeline (Dat)
open scoped BigOperators

namespace Cert.PrepKernelIdeal.Grad

open Cert.PrepKernelIdeal Cert.PrepKernelIdeal.Gen

variable (m : (ℓ : Loc nD τ sig) → Buf (Elt Ideal) ℓ)

open Cert.PrepMath (turn turn_real meanSq lane lane_split grad headCol headGrad back gainPart)
open Cert.PrepReferenceIdeal.Value (angles cosAt sinAt)
open Cert.PrepReferenceIdeal.Value (qOut kOut qGainOut kGainOut q_result k_result q_gain_result k_gain_result)

section Pre

variable [Cert.Pre_prep_finite.Facts]

open Cert.Pre_prep_finite (S4096x1408 S4096x64)
open Cert.Pre_prep_finite.Facts

/-- The entries that the precondition is stated of, side by side. -/
def entries (c : Dev nD) : FVec Ideal S4096x1408 .f32 :=
  concatenate S4096x1408 1 [⟨S4096x512, (m ((c : Thread nD τ).loc main_arg0) : FVec Ideal S4096x512 .f32)⟩, ⟨S4096x128, (m ((c : Thread nD τ).loc main_arg1) : FVec Ideal S4096x128 .f32)⟩,
    ⟨S4096x512, (m ((c : Thread nD τ).loc main_arg5) : FVec Ideal S4096x512 .f32)⟩, ⟨S4096x128, (m ((c : Thread nD τ).loc main_arg6) : FVec Ideal S4096x128 .f32)⟩,
    ⟨S4096x64, (broadcastInDim S4096x64 ![1] bcast_S64_S4096x64_1 (m ((c : Thread nD τ).loc main_arg3) : FVec Ideal S64 .f32) : FVec Ideal S4096x64 .f32)⟩,
    ⟨S4096x64, (broadcastInDim S4096x64 ![1] bcast_S64_S4096x64_1 (m ((c : Thread nD τ).loc main_arg4) : FVec Ideal S64 .f32) : FVec Ideal S4096x64 .f32)⟩]
    concatenates_S4096x512_S4096x128_S4096x512_S4096x128_S4096x64_S4096x64_S4096x1408_d1

theorem entries_q (c : Dev nD) (s : Fin 4096) (j : Fin 512) : entries m c (ix2 s ⟨j.val, by omega⟩) = xq m c s j := by
  pointwise [entries, xq]

theorem entries_k (c : Dev nD) (s : Fin 4096) (j : Fin 128) : entries m c (ix2 s ⟨512 + j.val, by omega⟩) = xk m c s j := by
  pointwise [entries, xk]

theorem entries_d (c : Dev nD) (s : Fin 4096) (j : Fin 512) : entries m c (ix2 s ⟨640 + j.val, by omega⟩) = dyq m c s j := by
  pointwise [entries, dyq]
  rw [dif_neg (by omega), dif_neg (by omega), dif_pos (by omega)]
  exact congrArg _ (congrArg (ix2 s) (Fin.ext (by show 640 + j.val - 512 - 128 = j.val; omega)))

theorem entries_f (c : Dev nD) (s : Fin 4096) (j : Fin 128) : entries m c (ix2 s ⟨1152 + j.val, by omega⟩) = dyk m c s j := by
  pointwise [entries, dyk]
  rw [dif_neg (by omega), dif_neg (by omega), dif_neg (by omega), dif_pos (by omega)]
  exact congrArg _ (congrArg (ix2 s) (Fin.ext (by show 1152 + j.val - 512 - 128 - 512 = j.val; omega)))

theorem entries_g (c : Dev nD) (e : Fin 64) : entries m c (ix2 0 ⟨1280 + e.val, by omega⟩) = gq m c e := by
  pointwise [entries, gq]
  rw [dif_neg (by omega), dif_neg (by omega), dif_neg (by omega), dif_neg (by omega), dif_pos (by omega)]
  exact congrArg _ (congrArg (ix1) (Fin.ext (by show 1280 + e.val - 512 - 128 - 512 - 128 = e.val; omega)))

theorem entries_h (c : Dev nD) (e : Fin 64) : entries m c (ix2 0 ⟨1344 + e.val, by omega⟩) = gk m c e := by
  pointwise [entries, gk]
  rw [dif_neg (by omega), dif_neg (by omega), dif_neg (by omega), dif_neg (by omega), dif_neg (by omega)]
  exact congrArg _ (congrArg (ix1) (Fin.ext (by show 1344 + e.val - 512 - 128 - 512 - 128 - 64 = e.val; omega)))

/-- The precondition is that they are numbers. -/
theorem finite (hp : Cert.Pre_PrepKernelIdeal_prep_finite m) (c : Dev nD) : Finite m c := by
  have key : ∀ i, ∃ a : ℝ, entries m c i = a := fun i => Cert.Ordinary.number bcast_S_S4096x1408 (congrFun (hp c) i)
  exact ⟨fun s j => entries_q m c s j ▸ key _, fun s j => entries_k m c s j ▸ key _, fun e => entries_g m c e ▸ key _, fun e => entries_h m c e ▸ key _,
    fun s j => entries_d m c s j ▸ key _, fun s j => entries_f m c s j ▸ key _⟩

end Pre

set_option maxHeartbeats 1000000 in
/-- The kernel's results are the reference's. -/
theorem value [Cert.Pre_prep_finite.Facts] : Cert.algebraic_PrepKernelIdeal_PrepReferenceIdeal_pre_prep_finite := by
  intro m g m' g' hp hagree
  have hf := fun c => finite m hp c
  refine ⟨fun c => (dats m 0 c).arrAt 10 (cfgs 0).N, fun c => (dats m 0 c).arrAt 11 (cfgs 0).N, fun c => (dats m 0 c).arrAt 12 (cfgs 0).N, fun c => (dats m 0 c).arrAt 13 (cfgs 0).N,
    fun c => (dats m 0 c).arrAt 14 (cfgs 0).N, ?_, ?_⟩
  · refine θ_run_mono (Idealize.ShloMosaic.θ_run_and (Cert.PrepKernelIdeal.Gen.run_main m g) (Cert.PrepKernelIdeal.Gen.unchanged m g)) fun r h c => ?_
    exact ⟨(h.1 c).1 10, (h.1 c).1 11, (h.1 c).1 12, (h.1 c).1 13, (h.1 c).1 14, h.2 c⟩
  · refine θ_run_mono (Cert.PrepReferenceIdeal.Value.run m' g') fun r h c => ?_
    obtain ⟨h0, h1, h2, h3, h4, h5⟩ := h c
    obtain ⟨e0, e1, e2, e3, e4, e5, e6, e7⟩ := hagree c
    have a0 : (StableHlo.launchContents m' c) (Proc.devRef .tc Cert.PrepReferenceIdeal.main_arg0) = m ((c : Thread nD τ).loc main_arg0) := e0
    have a1 : (StableHlo.launchContents m' c) (Proc.devRef .tc Cert.PrepReferenceIdeal.main_arg1) = m ((c : Thread nD τ).loc main_arg1) := e1
    have a3 : (StableHlo.launchContents m' c) (Proc.devRef .tc Cert.PrepReferenceIdeal.main_arg3) = m ((c : Thread nD τ).loc main_arg3) := e3
    have a4 : (StableHlo.launchContents m' c) (Proc.devRef .tc Cert.PrepReferenceIdeal.main_arg4) = m ((c : Thread nD τ).loc main_arg4) := e4
    have a5 : (StableHlo.launchContents m' c) (Proc.devRef .tc Cert.PrepReferenceIdeal.main_arg5) = m ((c : Thread nD τ).loc main_arg5) := e5
    have a6 : (StableHlo.launchContents m' c) (Proc.devRef .tc Cert.PrepReferenceIdeal.main_arg6) = m ((c : Thread nD τ).loc main_arg6) := e6
    have a7 : (StableHlo.launchContents m' c) (Proc.devRef .tc Cert.PrepReferenceIdeal.main_arg7) = m ((c : Thread nD τ).loc main_arg7) := e7
    refine ⟨h0.trans ?_, h1.trans ?_, h2.trans ?_, h3.trans ?_, h4.trans ?_, h5⟩
    · refine Eq.trans (b := qOut (StableHlo.launchContents m' c)) rfl ?_
      rw [q_result, a0, a3, a5]; exact (final_10 (hf c)).symm
    · refine Eq.trans (b := kOut (StableHlo.launchContents m' c)) rfl ?_
      rw [k_result, a1, a4, a6]; exact (final_11 (hf c)).symm
    · refine Eq.trans (b := (StableHlo.launchContents m' c) (Proc.devRef .tc Cert.PrepReferenceIdeal.main_arg7)) rfl ?_
      rw [a7]; exact final_12.symm
    · refine Eq.trans (b := qGainOut (StableHlo.launchContents m' c)) rfl ?_
      rw [q_gain_result, a0, a5]; exact (final_13 (hf c)).symm
    · refine Eq.trans (b := kGainOut (StableHlo.launchContents m' c)) rfl ?_
      rw [k_gain_result, a1, a6]; exact (final_14 (hf c)).symm

end Cert.PrepKernelIdeal.Grad

end
-- ==== Proof.Dwd.lean ====
module

public import proofs.«01_k».proof.Proof.Gen.DwdKernelIdeal.Value
public import proofs.«01_k».proof.Proof.Gen.DwdReferenceIdeal.Run
public import Idealize.ShloMosaic.Lib.Pipeline.ReadBack
public import Idealize.ShloMosaic.Lib.Pipeline.ValueKit
public import Idealize.ShloMosaic.Lib.Claim
public import proofs.«01_k».proof.Defs

/-!
The gradient of the second MLP matrix: the squared relu of the saved activations, transposed, times the gradient of the
output, accumulated over two halves of the rows.
-/

@[expose] public section

set_option maxRecDepth 16384

noncomputable section

open Idealize.ShloMosaic Idealize.ShloMosaic.TcCoe Idealize.SL.Sem
open Idealize.ShloMosaic.Pipeline (Dat)
open scoped BigOperators

namespace Cert.DwdKernelIdeal.Grad

open Cert.DwdKernelIdeal Cert.DwdKernelIdeal.Gen

variable (m : (ℓ : Loc nD τ sig) → Buf (Elt Ideal) ℓ)

/-- The squared relu of the activations. -/
def squared (u : FVec Ideal Cert.DwdReferenceIdeal.S4096x4096 .f32) : FVec Ideal Cert.DwdReferenceIdeal.S4096x4096 .f32 :=
  mulf (maximumf u (broadcastInDim Cert.DwdReferenceIdeal.S4096x4096 ![] Cert.DwdReferenceIdeal.Gen.bcast_S_S4096x4096 (constant Cert.DwdReferenceIdeal.S_ .f32 0x00000000#32)))
    (maximumf u (broadcastInDim Cert.DwdReferenceIdeal.S4096x4096 ![] Cert.DwdReferenceIdeal.Gen.bcast_S_S4096x4096 (constant Cert.DwdReferenceIdeal.S_ .f32 0x00000000#32)))

/-- The activations of the hidden layer. -/
def hidden (h : FVec Ideal Cert.DwdReferenceIdeal.S4096x1024 .f32) (w : FVec Ideal Cert.DwdReferenceIdeal.S1024x4096 .f32) : FVec Ideal Cert.DwdReferenceIdeal.S4096x4096 .f32 :=
  Host.dotGeneral Cert.DwdReferenceIdeal.dot_S4096x1024_S1024x4096_S4096x4096_1_0_0_1_n_n none h w

/-- The reference's gradient of the second matrix, in blocks of rows. -/
def grad (u : FVec Ideal Cert.DwdReferenceIdeal.S4096x4096 .f32) (dx : FVec Ideal Cert.DwdReferenceIdeal.S4096x1024 .f32) : FVec Ideal Cert.DwdReferenceIdeal.S8x512x1024 .bf16 :=
  truncf .bf16 (shapeCast _ (transpose Cert.DwdReferenceIdeal.S4096x1024 [1, 0]
    (Host.dotGeneral Cert.DwdReferenceIdeal.dot_S4096x1024_S4096x4096_S1024x4096_0_0_1_1_n_n none dx (squared u)) Cert.DwdReferenceIdeal.Gen.transposes_S1024x4096_S4096x1024_1_0)
      Cert.DwdReferenceIdeal.Gen.shapeCasts_S4096x1024_S8x512x1024) Cert.DwdReferenceIdeal.Gen.bitsLt_bf16_f32

/-- Every window's block index at every grid point. -/
theorem idx : ∀ t : Fin cfg0.N, win0_0.index t = ![t.val % 2, t.val / 2] ∧ win0_1.index t = ![t.val % 2, 0] ∧ win0_2.index t = ![t.val / 2, 0, 0] :=
  (by decide +kernel : ∀ t : Fin grid0.N, _)

/-- The arrays that the call is given: the activations and the gradient of the output, in the short format. -/
theorem host_arrays (c : Dev nD) : V m c main_v1 = (hidden (m ((c : Thread nD τ).loc main_arg0)) (m ((c : Thread nD τ).loc main_arg1)) : Vec Ideal S4096x4096 .f32)
    ∧ V m c main_v2 = (m ((c : Thread nD τ).loc main_arg3) : Vec Ideal S4096x1024 .f32) := by
  constructor <;> rfl

theorem points (t : Fin cfg0.N) : t.val < 16 := lt_of_lt_of_eq t.isLt N_0

/-- The block of activations at a grid point. -/
theorem block_u (c : Dev nD) (t : Fin cfg0.N) (x : Fin 2048) (q : Fin 512) : iblk m c 0 t (ix2 x q)
    = hidden (m ((c : Thread nD τ).loc main_arg0)) (m ((c : Thread nD τ).loc main_arg1))
      (ix2 ⟨2048 * (t.val % 2) + x.val, by omega⟩ ⟨512 * (t.val / 2) + q.val, by have := points t; omega⟩) := by
  refine Eq.trans ?_ (congrFun (host_arrays m c).1 _)
  blk_point [iblk, idx t]

/-- The block of the output's gradient at a grid point. -/
theorem block_d (c : Dev nD) (t : Fin cfg0.N) (x : Fin 2048) (q : Fin 1024) : iblk m c 1 t (ix2 x q)
    = m ((c : Thread nD τ).loc main_arg3) (ix2 ⟨2048 * (t.val % 2) + x.val, by omega⟩ q) := by
  refine Eq.trans ?_ (congrFun (host_arrays m c).2 _)
  blk_point [iblk, idx t]

/-- One term of the gradient depends on the numbers of its row and columns. -/
theorem term_congr {A : FVec Ideal Cert.DwdReferenceIdeal.S4096x4096 .f32} {D : FVec Ideal Cert.DwdReferenceIdeal.S4096x1024 .f32}
    {s s' q q' : Fin 4096} {j j' : Fin 1024} (hs : s.val = s'.val) (hq : q.val = q'.val) (hj : j.val = j'.val) :
    D (ix2 s j) * (max (A (ix2 s q)) 0 * max (A (ix2 s q)) 0) = D (ix2 s' j') * (max (A (ix2 s' q')) 0 * max (A (ix2 s' q')) 0) := by
  rw [Fin.ext hs, Fin.ext hq, Fin.ext hj]

/-- A sum over all rows is the sum over its two halves. -/
theorem halves (f : Fin 4096 → EReal) : ∑ s, f s = (∑ s : Fin 2048, f ⟨s.val, by omega⟩) + ∑ s : Fin 2048, f ⟨2048 + s.val, by omega⟩ :=
  Fin.sum_univ_add (a := 2048) (b := 2048) f

/-- Where an entry of a block of the gradient lies. -/
theorem placed (t : Fin cfg0.N) (y : ((cfg0.win 2).xblock (cfg0.grid.coords t)).Idx) : (((cfg0.win 2).blk t).view.emb y 0).val = t.val / 2
    ∧ (((cfg0.win 2).blk t).view.emb y 1).val = (y 1).val ∧ (((cfg0.win 2).blk t).view.emb y 2).val = (y 2).val := by
  blk_simp [idx t]
  exact ⟨trivial, trivial, trivial⟩

/-- The gradient after the run. -/
theorem final_2 (c : Dev nD) : (dats m 0 c).arrAt 2 (cfgs 0).N
    = grad (hidden (m ((c : Thread nD τ).loc main_arg0)) (m ((c : Thread nD τ).loc main_arg1))) (m ((c : Thread nD τ).loc main_arg3)) := by
  refine (dats m 0 c).arrAt_eq_of_covers 2 _ (by decide +kernel) fun t hf y => ?_
  have hm : t.val % 2 = 1 := (flush0_2 t).mp hf
  obtain ⟨e0, e1, e2⟩ := placed t y
  blk_simp
  rw [after0_2, outsAt0_B m c t (by omega) hm]
  frame_out
  have hA := outsAt0_A m c ⟨t.val - 1, by have : t.val < cfg0.N := t.isLt; omega⟩ (by dsimp only; omega) (by dsimp only; omega)
  rw [hA]
  frame_out
  refine (congrFun (congrArg (fun a => k0_pay3 (k0_pay2 (iblk m c 0 t) a (iblk m c 1 t))) (read_unread_whole cc0_scratch0 _ _)) y).trans ?_
  pointwise [k0_pay3, k0_pay2, k0_pay1, grad, squared]
  refine Eq.trans ?_ (halves _).symm
  refine congrArg₂ (· + ·) (Finset.sum_congr rfl fun x _ => ?_) (Finset.sum_congr rfl fun x _ => ?_)
  · refine (mul_comm _ _).trans ?_
    have hb : t.val - 1 < cfg0.N := by have : t.val < cfg0.N := t.isLt; omega
    rw [block_u m c ⟨t.val - 1, hb⟩ x (y 1), block_d m c ⟨t.val - 1, hb⟩ x (y 2)]
    exact term_congr (show 2048 * ((t.val - 1) % 2) + x.val = x.val by omega)
      (show 512 * ((t.val - 1) / 2) + (y 1).val = (((cfg0.win 2).blk t).view.emb y 0).val * 512 + (((cfg0.win 2).blk t).view.emb y 1).val by rw [e0, e1]; omega) e2.symm
  · refine (mul_comm _ _).trans ?_
    rw [block_u m c t x (y 1), block_d m c t x (y 2)]
    exact term_congr (show 2048 * (t.val % 2) + x.val = 2048 + x.val by omega)
      (show 512 * (t.val / 2) + (y 1).val = (((cfg0.win 2).blk t).view.emb y 0).val * 512 + (((cfg0.win 2).blk t).view.emb y 1).val by rw [e0, e1]; omega) e2.symm

/-- The kernel's gradient is the reference's. -/
theorem value : Cert.algebraic_DwdKernelIdeal_DwdReferenceIdeal := by
  pair_intro
  · run_from Cert.DwdKernelIdeal.Gen.run_main m g
  · run_from Cert.DwdReferenceIdeal.Value.run m' g'
    exact (final_2 m c).symm

end Cert.DwdKernelIdeal.Grad

end
-- ==== Proof.Gate.lean ====
module

public import proofs.«01_k».proof.Proof.Gen.GateKernelIdeal.Value
public import proofs.«01_k».proof.Proof.Gen.GateReferenceIdeal.Run
public import proofs.«01_k».proof.Defs
public import Idealize.ShloMosaic.Lib.Pipeline.ValueKit
public import Idealize.ShloMosaic.Lib.Claim

/-!
The gradient through the gated merge of the two attention branches: the output projection's transpose times each gate,
the gates' gradient through the sigmoid, and the branches' gradients through their projections.
-/

@[expose] public section

set_option maxRecDepth 16384

noncomputable section

open Idealize.ShloMosaic Idealize.ShloMosaic.TcCoe Idealize.SL.Sem
open Idealize.ShloMosaic.Pipeline (Dat)
open scoped BigOperators

namespace Cert.GateKernelIdeal.Grad

open Cert.GateKernelIdeal Cert.GateKernelIdeal.Gen

variable (m : (ℓ : Loc nD τ sig) → Buf (Elt Ideal) ℓ)

/-- The gates: the sigmoid of the gate logits. -/
def gates (g : FVec Ideal Cert.GateReferenceIdeal.S4096x2048 .f32) : FVec Ideal Cert.GateReferenceIdeal.S4096x2048 .f32 :=
  let one := broadcastInDim Cert.GateReferenceIdeal.S4096x2048 ![] Cert.GateReferenceIdeal.Gen.bcast_S_S4096x2048
    (constant Cert.GateReferenceIdeal.S_ .f32 0x3F800000#32)
  Host.divf one (addf one (Host.exp (Host.negf g)))

/-- One branch's output times its projection. -/
def branch (o : FVec Ideal Cert.GateReferenceIdeal.S4096x512 .f32) (w : FVec Ideal Cert.GateReferenceIdeal.S512x1024 .f32) :
    FVec Ideal Cert.GateReferenceIdeal.S4096x1024 .f32 :=
  Host.dotGeneral Cert.GateReferenceIdeal.dot_S4096x512_S512x1024_S4096x1024_1_0_0_1_n_n none o w

/-- The gradient of the merged output: the cotangent times the output projection's transpose. -/
def dmix (dx : FVec Ideal Cert.GateReferenceIdeal.S4096x1024 .f32) (w : FVec Ideal Cert.GateReferenceIdeal.S1024x1024 .f32) :
    FVec Ideal Cert.GateReferenceIdeal.S4096x1024 .f32 :=
  Host.dotGeneral Cert.GateReferenceIdeal.dot_S4096x1024_S1024x1024_S4096x1024_1_1_0_0_n_n none dx w

/-- The gate that multiplies the first branch, and the one that multiplies the second. -/
def gate0 (g : FVec Ideal Cert.GateReferenceIdeal.S4096x2048 .f32) : FVec Ideal Cert.GateReferenceIdeal.S4096x1024 .f32 :=
  shapeCast _ (extractStridedSlice Cert.GateReferenceIdeal.S4096x1x1024 ![0, 0, 0]
    (shapeCast _ g Cert.GateReferenceIdeal.Gen.shapeCasts_S4096x2048_S4096x2x1024)
    Cert.GateReferenceIdeal.Gen.slices_S4096x2x1024_S4096x1x1024_0_0_0) Cert.GateReferenceIdeal.Gen.shapeCasts_S4096x1x1024_S4096x1024

@[inherit_doc gate0]
def gate1 (g : FVec Ideal Cert.GateReferenceIdeal.S4096x2048 .f32) : FVec Ideal Cert.GateReferenceIdeal.S4096x1024 .f32 :=
  shapeCast _ (extractStridedSlice Cert.GateReferenceIdeal.S4096x1x1024 ![0, 1, 0]
    (shapeCast _ g Cert.GateReferenceIdeal.Gen.shapeCasts_S4096x2048_S4096x2x1024)
    Cert.GateReferenceIdeal.Gen.slices_S4096x2x1024_S4096x1x1024_0_1_0) Cert.GateReferenceIdeal.Gen.shapeCasts_S4096x1x1024_S4096x1024

/-- A branch output's gradient: gate times the merged output's gradient. -/
def dbranch (g d : FVec Ideal Cert.GateReferenceIdeal.S4096x1024 .f32) : FVec Ideal Cert.GateReferenceIdeal.S4096x1024 .bf16 :=
  truncf .bf16 (mulf g d) Cert.GateReferenceIdeal.Gen.bitsLt_bf16_f32

/-- An attention output's gradient: the branch's gradient times the branch projection's transpose. -/
def dattn (g d : FVec Ideal Cert.GateReferenceIdeal.S4096x1024 .f32) (w : FVec Ideal Cert.GateReferenceIdeal.S512x1024 .f32) :
    FVec Ideal Cert.GateReferenceIdeal.S4096x512 .bf16 :=
  truncf .bf16 (Host.dotGeneral Cert.GateReferenceIdeal.dot_S4096x1024_S512x1024_S4096x512_1_1_0_0_n_n none (mulf g d) w)
    Cert.GateReferenceIdeal.Gen.bitsLt_bf16_f32

/-- The gate logits' gradient: each gate's gradient `d · y` beside the other's, times the sigmoid's derivative. -/
def dlogits (g : FVec Ideal Cert.GateReferenceIdeal.S4096x2048 .f32) (d y0 y1 : FVec Ideal Cert.GateReferenceIdeal.S4096x1024 .f32) :
    FVec Ideal Cert.GateReferenceIdeal.S4096x2048 .bf16 :=
  truncf .bf16 (mulf (shapeCast _ (addf
      (pad Cert.GateReferenceIdeal.S4096x2x1024 ![0, 1, 0] ![0, 0, 0] ![0, 0, 0]
        (broadcastInDim Cert.GateReferenceIdeal.S4096x1x1024 ![0, 2] Cert.GateReferenceIdeal.Gen.bcast_S4096x1024_S4096x1x1024_0_2 (mulf d y1))
        (constant Cert.GateReferenceIdeal.S_ .f32 0x00000000#32) Cert.GateReferenceIdeal.Gen.pads_S4096x1x1024_S4096x2x1024_000_100_000
        Cert.GateReferenceIdeal.Gen.h_S_)
      (pad Cert.GateReferenceIdeal.S4096x2x1024 ![0, 0, 0] ![0, 1, 0] ![0, 0, 0]
        (broadcastInDim Cert.GateReferenceIdeal.S4096x1x1024 ![0, 2] Cert.GateReferenceIdeal.Gen.bcast_S4096x1024_S4096x1x1024_0_2 (mulf d y0))
        (constant Cert.GateReferenceIdeal.S_ .f32 0x00000000#32) Cert.GateReferenceIdeal.Gen.pads_S4096x1x1024_S4096x2x1024_000_010_000
        Cert.GateReferenceIdeal.Gen.h_S_)) Cert.GateReferenceIdeal.Gen.shapeCasts_S4096x2x1024_S4096x2048)
    (mulf g (subf (broadcastInDim Cert.GateReferenceIdeal.S4096x2048 ![] Cert.GateReferenceIdeal.Gen.bcast_S_S4096x2048
      (constant Cert.GateReferenceIdeal.S_ .f32 0x3F800000#32)) g))) Cert.GateReferenceIdeal.Gen.bitsLt_bf16_f32

/-- Every window's block index at every grid point: tiles of rows, or the whole weight. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![t.val, 0]
    ∧ win0_10.index t = ![t.val, 0] ∧ win0_11.index t = ![t.val, 0] :=
  (by decide +kernel : ∀ t : Fin grid0.N, _)

/-- The arrays that the host prepares for the kernel: the gates, the branches and the casts of the weights. -/
theorem host_arrays (c : Dev nD) :
    V m c main_v6 = gates (m ((c : Thread nD τ).loc main_arg2))
    ∧ V m c main_v8 = branch (m ((c : Thread nD τ).loc main_arg0)) (m ((c : Thread nD τ).loc main_arg3))
    ∧ V m c main_v10 = branch (m ((c : Thread nD τ).loc main_arg1)) (m ((c : Thread nD τ).loc main_arg4))
    ∧ V m c main_v11 = m ((c : Thread nD τ).loc main_arg6) ∧ V m c main_v12 = m ((c : Thread nD τ).loc main_arg5)
    ∧ V m c main_v13 = m ((c : Thread nD τ).loc main_arg3) ∧ V m c main_v14 = m ((c : Thread nD τ).loc main_arg4) := by
  entry_read
  exact ⟨rfl, rfl, rfl, rfl, rfl, rfl, rfl⟩

/-- The first branch's gradient after the run. -/
theorem final_7 (c : Dev nD) : (dats m 0 c).arrAt 7 (cfgs 0).N
    = dbranch (gate0 (gates (m ((c : Thread nD τ).loc main_arg2))))
        (dmix (m ((c : Thread nD τ).loc main_arg6)) (m ((c : Thread nD τ).loc main_arg5))) := by
  refine (dats m 0 c).arrAt_eq_of_covers 7 _ (by decide +kernel) fun t hf y => ?_
  blk_simp; rw [after0_7]; frame_out
  pointwise [k0_pay7, k0_pay5, k0_pay4, k0_pay3, dbranch, gate0, dmix]
  blk_point [iblk, host_arrays m c, idx t]
  pointwise [gates]
  blk_point [idx t]

/-- The second branch's gradient after the run. -/
theorem final_8 (c : Dev nD) : (dats m 0 c).arrAt 8 (cfgs 0).N
    = dbranch (gate1 (gates (m ((c : Thread nD τ).loc main_arg2))))
        (dmix (m ((c : Thread nD τ).loc main_arg6)) (m ((c : Thread nD τ).loc main_arg5))) := by
  refine (dats m 0 c).arrAt_eq_of_covers 8 _ (by decide +kernel) fun t hf y => ?_
  blk_simp; rw [after0_8]; frame_out
  pointwise [k0_pay8, k0_pay6, k0_pay4, k0_pay3, dbranch, gate1, dmix]
  blk_point [iblk, host_arrays m c, idx t]
  pointwise [gates]
  blk_point [idx t]

/-- The first attention's gradient after the run. -/
theorem final_9 (c : Dev nD) : (dats m 0 c).arrAt 9 (cfgs 0).N
    = dattn (gate0 (gates (m ((c : Thread nD τ).loc main_arg2))))
        (dmix (m ((c : Thread nD τ).loc main_arg6)) (m ((c : Thread nD τ).loc main_arg5)))
        (m ((c : Thread nD τ).loc main_arg3)) := by
  refine (dats m 0 c).arrAt_eq_of_covers 9 _ (by decide +kernel) fun t hf y => ?_
  blk_simp; rw [after0_9]; frame_out
  pointwise [k0_pay9, k0_pay7, k0_pay5, k0_pay4, k0_pay3, dattn, gate0, dmix]
  blk_point [iblk, host_arrays m c, idx t]
  pointwise [gates]
  blk_point [idx t]

/-- The second attention's gradient after the run. -/
theorem final_10 (c : Dev nD) : (dats m 0 c).arrAt 10 (cfgs 0).N
    = dattn (gate1 (gates (m ((c : Thread nD τ).loc main_arg2))))
        (dmix (m ((c : Thread nD τ).loc main_arg6)) (m ((c : Thread nD τ).loc main_arg5)))
        (m ((c : Thread nD τ).loc main_arg4)) := by
  refine (dats m 0 c).arrAt_eq_of_covers 10 _ (by decide +kernel) fun t hf y => ?_
  blk_simp; rw [after0_10]; frame_out
  pointwise [k0_pay10, k0_pay8, k0_pay6, k0_pay4, k0_pay3, dattn, gate1, dmix]
  blk_point [iblk, host_arrays m c, idx t]
  pointwise [gates]
  blk_point [idx t]

/-- In the first half of its columns the logits' gradient is the first branch's. -/
theorem dlogits_left (g : FVec Ideal S4096x2048 .f32) (d y0 y1 : FVec Ideal S4096x1024 .f32) (r : Fin 4096) (k : Fin 2048) (h : k.val < 1024) :
    dlogits g d y0 y1 (ix2 r k) = (d (ix2 r ⟨k.val, h⟩) * y0 (ix2 r ⟨k.val, h⟩)) * (g (ix2 r k) * (1 - g (ix2 r k))) := by
  have hd : k.val / 1024 = 0 := Nat.div_eq_of_lt h
  have hm : k.val % 1024 = k.val := Nat.mod_eq_of_lt h
  pointwise [dlogits]
  simp only [hd, hm]
  rw [dif_neg (show ¬((1 ≤ 0 ∧ 0 - 1 < 1) ∧ k.val < 1024) from fun h => absurd h.1.1 (by decide)),
    dif_pos (show 0 < 1 ∧ k.val < 1024 from ⟨by decide, h⟩), zero_add]

/-- In the second half of its columns it is the second branch's. -/
theorem dlogits_right (g : FVec Ideal S4096x2048 .f32) (d y0 y1 : FVec Ideal S4096x1024 .f32) (r : Fin 4096) (k : Fin 2048) (h : 1024 ≤ k.val) :
    dlogits g d y0 y1 (ix2 r k)
      = (d (ix2 r ⟨k.val - 1024, by omega⟩) * y1 (ix2 r ⟨k.val - 1024, by omega⟩)) * (g (ix2 r k) * (1 - g (ix2 r k))) := by
  have hd : k.val / 1024 = 1 := by omega
  have hm : k.val % 1024 = k.val - 1024 := by omega
  pointwise [dlogits]
  simp only [hd, hm]
  have h' : k.val - 1024 < 1024 := by omega
  simp only [le_refl, Nat.sub_self, Nat.lt_irrefl, zero_lt_one, h', and_self, false_and, dite_true, dite_false, add_zero]

set_option maxHeartbeats 1600000 in
/-- The gate logits' gradient after the run. -/
theorem final_11 (c : Dev nD) : (dats m 0 c).arrAt 11 (cfgs 0).N
    = dlogits (gates (m ((c : Thread nD τ).loc main_arg2)))
        (dmix (m ((c : Thread nD τ).loc main_arg6)) (m ((c : Thread nD τ).loc main_arg5)))
        (branch (m ((c : Thread nD τ).loc main_arg0)) (m ((c : Thread nD τ).loc main_arg3)))
        (branch (m ((c : Thread nD τ).loc main_arg1)) (m ((c : Thread nD τ).loc main_arg4))) := by
  refine (dats m 0 c).arrAt_eq_of_covers 11 _ (by decide +kernel) fun t hf y => ?_
  blk_simp; rw [after0_11]; frame_out
  canon_tiles x h
  · refine Eq.trans ?_ (Eq.symm ((congrArg _ (eq_ix2 _)).trans (dlogits_right _ _ _ _ _ _ (by blk_simp [idx t]; omega))))
    pointwise [k0_pay1, k0_pay11, k0_pay3, k0_pay6, k0_pay12, k0_pay4, dmix]
    blk_point [iblk, host_arrays m c, idx t]
    all_goals pointwise [gates, branch]
    all_goals blk_point [idx t]
  · refine Eq.trans ?_ (Eq.symm ((congrArg _ (eq_ix2 _)).trans (dlogits_left _ _ _ _ _ _ (by blk_simp [idx t]; omega))))
    open_payloads
    pointwise [dmix]
    blk_point [iblk, host_arrays m c, idx t]
    all_goals pointwise [gates, branch]
    all_goals blk_point [idx t]

end Cert.GateKernelIdeal.Grad
-- ==== Proof.GateValue.lean ====
module

public import proofs.«01_k».proof.Proof.Gen.GateReferenceIdeal.Run
public import proofs.«01_k».proof.Defs
public import proofs.«01_k».proof.Proof.Gate
public import Idealize.ShloMosaic.Lib.Claim

/-! The gated merge's gradient: the kernel's run and the reference's give the same five arrays. -/

@[expose] public section

set_option maxRecDepth 16384

open Idealize.ShloMosaic Idealize.ShloMosaic.TcCoe Idealize.SL.Sem

namespace Cert.GateKernelIdeal.Grad

open Cert.GateKernelIdeal Cert.GateKernelIdeal.Gen

set_option maxHeartbeats 3200000 in
/-- The kernel's results are the reference's. -/
theorem value : Cert.algebraic_GateKernelIdeal_GateReferenceIdeal := by
  pair_intro
  · run_from Cert.GateKernelIdeal.Gen.run_main m g
  · run_from Cert.GateReferenceIdeal.Value.run m' g'
    · exact (final_7 m c).symm
    · exact (final_8 m c).symm
    · exact (final_9 m c).symm
    · exact (final_10 m c).symm
    · exact (final_11 m c).symm

end Cert.GateKernelIdeal.Grad

end
-- ==== Proof.Relu.lean ====
module

public import proofs.«01_k».proof.Proof.Gen.ReluKernelIdeal.Value
public import proofs.«01_k».proof.Proof.Gen.ReluReferenceIdeal.Run
public import proofs.«01_k».proof.Defs
public import Idealize.ShloMosaic.Lib.Pipeline.ValueKit
public import Idealize.ShloMosaic.Lib.Claim

/-!
The gradient through the squared relu of the MLP: the kernel's tile of rows is the reference's
`(dx · w_downᵀ) · 2 relu(u)`, cut to zero where `u ≤ 0` by the reference and by relu itself in the kernel.
-/

@[expose] public section

set_option maxRecDepth 16384

noncomputable section

open Idealize.ShloMosaic Idealize.ShloMosaic.TcCoe Idealize.SL.Sem
open Idealize.ShloMosaic.Pipeline (Dat)
open scoped BigOperators

namespace Cert.ReluKernelIdeal.Grad

open Cert.ReluKernelIdeal Cert.ReluKernelIdeal.Gen

variable (m : (ℓ : Loc nD τ sig) → Buf (Elt Ideal) ℓ)

/-- The reference's gradient with respect to `u = h2 · w_up`, as a function of its four arguments. -/
def grad (h : FVec Ideal Cert.ReluReferenceIdeal.S4096x1024 .f32) (wu : FVec Ideal Cert.ReluReferenceIdeal.S1024x4096 .f32)
    (wd : FVec Ideal Cert.ReluReferenceIdeal.S4096x1024 .f32) (dx : FVec Ideal Cert.ReluReferenceIdeal.S4096x1024 .f32) :
    FVec Ideal Cert.ReluReferenceIdeal.S4096x4096 .bf16 :=
  let u := Host.dotGeneral Cert.ReluReferenceIdeal.dot_S4096x1024_S1024x4096_S4096x4096_1_0_0_1_n_n none h wu
  let zero := broadcastInDim Cert.ReluReferenceIdeal.S4096x4096 ![] Cert.ReluReferenceIdeal.Gen.bcast_S_S4096x4096
    (constant Cert.ReluReferenceIdeal.S_ .f32 0x00000000#32)
  truncf .bf16 (select (cmpf .ogt u zero)
    (mulf (Host.dotGeneral Cert.ReluReferenceIdeal.dot_S4096x1024_S4096x1024_S4096x4096_1_1_0_0_n_n none dx wd)
      (mulf (broadcastInDim Cert.ReluReferenceIdeal.S4096x4096 ![] Cert.ReluReferenceIdeal.Gen.bcast_S_S4096x4096
        (constant Cert.ReluReferenceIdeal.S_ .f32 0x40000000#32)) (maximumf u zero))) zero)
    Cert.ReluReferenceIdeal.Gen.bitsLt_bf16_f32

/-- Cutting `2 relu(u)` to zero where `u ≤ 0` changes nothing: relu is zero there. -/
theorem relu_cut (a b u : EReal) : (if 0 < u then a * (b * max u 0) else 0) = a * (b * max u 0) := by
  split
  · rfl
  · rename_i h
    rw [max_eq_right (not_lt.mp h), mul_zero, mul_zero]

/-- Every window's block index at every grid point. -/
theorem idx : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

/-- The saved `u` that the kernel reads is the product `h2 · w_up`. -/
theorem saved_u (c : Dev nD) (i : S4096x4096.Idx) :
    V m c main_v1 i = ∑ k : Fin 1024, (show FVec Ideal S4096x1024 .f32 from m ((c : Thread nD τ).loc main_arg0)) (ix2 (i 0) k)
      * (show FVec Ideal S1024x4096 .f32 from m ((c : Thread nD τ).loc main_arg1)) (ix2 k (i 1)) := by
  entry_read
  pointwise

/-- What the body stores at block index `y` of grid point `t` is the gradient at the array index `y` stands for. -/
theorem point (c : Dev nD) (t : Fin cfg0.N) (y) :
    k0_pay1 (iblk m c 0 t) (iblk m c 2 t) (iblk m c 1 t) y
      = grad (m ((c : Thread nD τ).loc main_arg0)) (m ((c : Thread nD τ).loc main_arg1))
          (m ((c : Thread nD τ).loc main_arg2)) (m ((c : Thread nD τ).loc main_arg3)) (((cfg0.win 3).blk t).view.emb y) := by
  pointwise [k0_pay1, grad]
  refine Eq.trans ?_ (relu_cut _ _ _).symm
  blk_point [iblk, V, idx t]
  rw [saved_u]
  blk_point [idx t]

/-- The result array after the run is the reference's gradient. -/
theorem final_3 (c : Dev nD) : (dats m 0 c).arrAt 3 (cfgs 0).N
    = grad (m ((c : Thread nD τ).loc main_arg0)) (m ((c : Thread nD τ).loc main_arg1))
        (m ((c : Thread nD τ).loc main_arg2)) (m ((c : Thread nD τ).loc main_arg3)) := by
  refine (dats m 0 c).arrAt_eq_of_covers 3 _ (by decide +kernel) fun t hf y => ?_
  blk_simp; rw [after0_3]; frame_out
  exact point m c t y

/-- The kernel's results are the reference's. -/
theorem value : Cert.algebraic_ReluKernelIdeal_ReluReferenceIdeal := by
  pair_intro
  · run_from Cert.ReluKernelIdeal.Gen.run_main m g
  · run_from Cert.ReluReferenceIdeal.Value.run m' g'
    exact (final_3 m c).symm

end Cert.ReluKernelIdeal.Grad

end
-- ==== Proof.Loss.lean ====
module

public import proofs.«01_k».proof.Proof.Gen.LossKernelIdeal.Value
public import proofs.«01_k».proof.Proof.Gen.LossReferenceIdeal.Run
public import proofs.«01_k».proof.Defs
public import Idealize.ShloMosaic.Lib.Pipeline.ValueKit
public import Idealize.ShloMosaic.Lib.Claim

/-!
The loss head: the loss's gradient with respect to the output, and the loss accumulated over the tiles of rows.
-/

@[expose] public section

set_option maxRecDepth 16384

noncomputable section

open Idealize.ShloMosaic Idealize.ShloMosaic.TcCoe Idealize.SL.Sem
open Idealize.ShloMosaic.Pipeline (Dat)
open scoped BigOperators

namespace Cert.LossKernelIdeal.Grad

open Cert.LossKernelIdeal Cert.LossKernelIdeal.Gen

variable (m : (ℓ : Loc nD τ sig) → Buf (Elt Ideal) ℓ)

/-- The reference's gradient: `2 (y - target)` times the half mean's factor. -/
def grad (y t : FVec Ideal Cert.LossReferenceIdeal.S4096x1024 .f32) : FVec Ideal Cert.LossReferenceIdeal.S4096x1024 .f32 :=
  mulf (broadcastInDim Cert.LossReferenceIdeal.S4096x1024 ![0] Cert.LossReferenceIdeal.Gen.bcast_S4096_S4096x1024_0
      (Host.divf (broadcastInDim Cert.LossReferenceIdeal.S4096 ![] Cert.LossReferenceIdeal.Gen.bcast_S_S4096
        (mulf (constant Cert.LossReferenceIdeal.S_ .f32 0x3F000000#32) (constant Cert.LossReferenceIdeal.S_ .f32 0x3F800000#32)))
        (broadcastInDim Cert.LossReferenceIdeal.S4096 ![] Cert.LossReferenceIdeal.Gen.bcast_S_S4096
          (constant Cert.LossReferenceIdeal.S_ .f32 0x44800000#32))))
    (mulf (broadcastInDim Cert.LossReferenceIdeal.S4096x1024 ![] Cert.LossReferenceIdeal.Gen.bcast_S_S4096x1024
      (constant Cert.LossReferenceIdeal.S_ .f32 0x40000000#32)) (subf y t))

/-- The reference's loss: half the sum over rows of the mean square error. -/
def loss (y t : FVec Ideal Cert.LossReferenceIdeal.S4096x1024 .f32) : FVec Ideal Cert.LossReferenceIdeal.S1x1 .f32 :=
  shapeCast _ (mulf (constant Cert.LossReferenceIdeal.S_ .f32 0x3F000000#32)
    (Host.reduceAdd (Host.divf (Host.reduceAdd (mulf (subf y t) (subf y t)) (constant Cert.LossReferenceIdeal.S_ .f32 0x00000000#32)
        Cert.LossReferenceIdeal.Gen.reducesTo_S4096x1024_S4096_d1 Cert.LossReferenceIdeal.Gen.h_S_)
      (broadcastInDim Cert.LossReferenceIdeal.S4096 ![] Cert.LossReferenceIdeal.Gen.bcast_S_S4096
        (constant Cert.LossReferenceIdeal.S_ .f32 0x44800000#32)))
      (constant Cert.LossReferenceIdeal.S_ .f32 0x00000000#32) Cert.LossReferenceIdeal.Gen.reducesTo_S4096_S_d0
      Cert.LossReferenceIdeal.Gen.h_S_)) Cert.LossReferenceIdeal.Gen.shapeCasts_S_S1x1

/-- Every window's block index at every grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0] :=
  (by decide +kernel : ∀ t : Fin grid0.N, _)

/-- The constants: a half, two, the row length and its reciprocals. -/
theorem consts : Ideal.ofBits .f32 1056964608#32 = ((1 / 2 : ℝ) : EReal) ∧ Ideal.ofBits .f32 1073741824#32 = ((2 : ℝ) : EReal)
    ∧ Ideal.ofBits .f32 1149239296#32 = ((1024 : ℝ) : EReal) ∧ Ideal.ofBits .f32 981467136#32 = ((1 / 1024 : ℝ) : EReal)
    ∧ Ideal.ofBits .f32 973078528#32 = ((1 / 2048 : ℝ) : EReal) := by
  refine ⟨?_, ?_, ?_, ?_, ?_⟩ <;> (simp [Ideal.ofBits, Ideal.ieee, -EReal.coe_mul]; norm_num)

/-- A nonnegative real factor distributes over any finite sum of extended reals. -/
theorem mul_sum_real {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- The kernel's factor `1/1024` on the error is the reference's product of its factors. -/
theorem grad_scale (e : EReal) :
    e * ((1 / 1024 : ℝ) : EReal) = Ideal.div ((1 / 2 : ℝ) : EReal) ((1024 : ℝ) : EReal) * (((2 : ℝ) : EReal) * e) := by
  rw [Ideal.div_coe (by norm_num), ← EReal.coe_mul, ← mul_assoc, ← EReal.coe_mul, mul_comm]
  norm_num

/-- Half the mean's factor `1/1024` is the kernel's factor `1/2048`. -/
theorem loss_scale (e : EReal) :
    ((1 / 2 : ℝ) : EReal) * (e * ((1 / 1024 : ℝ) : EReal)) = e * ((1 / 2048 : ℝ) : EReal) := by
  rw [mul_comm, mul_assoc, ← EReal.coe_mul]
  norm_num

/-- What the body computes at block index `y` of tile `t` is the gradient at the array index `j` that `y` stands for. -/
theorem pay3_grad (c : Dev nD) (t : Fin cfg0.N) (y) (j) (h : (j : S4096x1024.Idx) = (((cfg0.win 2).blk t).view.emb y)) :
    k0_pay3 (iblk m c 0 t) (iblk m c 1 t) y
      = grad (m ((c : Thread nD τ).loc main_arg0)) (m ((c : Thread nD τ).loc main_arg1)) j := by
  subst h
  pointwise [k0_pay2, k0_pay3, grad]
  simp only [consts]
  rw [← grad_scale]
  blk_point [iblk, V, idx t]

/-- The gradient after the run. -/
theorem final_2 (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp; rw [after0_2]
  by_cases h : t.val % 8 = 0
  · rw [outsAt0_A m c t h]; frame_out; exact pay3_grad m c t y _ rfl
  · rw [outsAt0_B m c t h]; frame_out; exact pay3_grad m c t y _ rfl

/-- The gradient's copy in the short format after the run. -/
theorem final_3 (c : Dev nD) : (dats m 0 c).arrAt 3 (cfgs 0).N
    = truncf .bf16 (grad (m ((c : Thread nD τ).loc main_arg0)) (m ((c : Thread nD τ).loc main_arg1)))
        Cert.LossReferenceIdeal.Gen.bitsLt_bf16_f32 := by
  refine (dats m 0 c).arrAt_eq_of_covers 3 _ (by decide +kernel) fun t hf y => ?_
  blk_simp; rw [after0_3]
  by_cases h : t.val % 8 = 0
  · rw [outsAt0_A m c t h]; frame_out; exact pay3_grad m c t y _ (by blk_ext [idx t])
  · rw [outsAt0_B m c t h]; frame_out; exact pay3_grad m c t y _ (by blk_ext [idx t])

/-- The loss starts at zero. -/
theorem hzero_4 (j : S1x1.Idx) : k0_pay1 (F := Ideal) j = 0 := by pointwise! [k0_pay1]

/-- Each tile adds its part to the loss so far. -/
theorem hpay_4 (v3 : Vec Ideal S512x1024 .f32) (v4 : Vec Ideal S512x1024 .f32) (v16 : Vec Ideal S1x1 .f32) (j : S1x1.Idx) :
    k0_pay5 v3 v4 v16 j = v16 j + k0_pay5 v3 v4 (fun _ => 0) j := by pointwise [k0_pay5]

/-- The loss after the run. -/
theorem final_4 (c : Dev nD) : (dats m 0 c).arrAt 4 (cfgs 0).N
    = loss (m ((c : Thread nD τ).loc main_arg0)) (m ((c : Thread nD τ).loc main_arg1)) := by
  refine (dats m 0 c).arrAt_eq_of_after_last 4 t0_7 (by decide +kernel) _ fun j => ?_
  blk_simp
  rw [after0_4, Pipeline.eq_sum_fin_of_reset_step_apply_last (fun n h => (outsAt0 m c n h).2.2) 8 (fun _ => 0) _
    (fun t h j => by rw [outsAt0_A m c t h]; frame_out; rw [hpay_4, hzero_4])
    (fun t h j => by rw [outsAt0_B m c t h]; frame_out; rw [hpay_4])
    (le_of_eq N_0) t0_7 rfl j, zero_add]
  pointwise [k0_pay5, k0_pay2, k0_pay3, k0_pay4, loss]
  simp only [consts, Ideal.div_coe (by norm_num : (1024 : ℝ) ≠ 0), mul_sum_real _ _ (by norm_num : (0 : ℝ) ≤ 1 / 2)]
  refine Fin.sum_mul_add_congr fun s k hl => ?_
  rw [loss_scale]
  blk_point [iblk, V, idx s]

/-- The kernel's results are the reference's. -/
theorem value : Cert.algebraic_LossKernelIdeal_LossReferenceIdeal := by
  pair_intro
  · run_from Cert.LossKernelIdeal.Gen.run_main m g
  · run_from Cert.LossReferenceIdeal.Value.run m' g'
    · exact (final_2 m c).symm
    · exact (final_3 m c).symm
    · exact (final_4 m c).symm

end Cert.LossKernelIdeal.Grad

end
-- ==== Proof.SbIdealLaunch.lean ====
/-
  The launch of the stick-breaking backward call (SbKernelIdeal): the layout of its windows, the host operations before the
  region, what the region finds in each array, and the frame claim read off a run of the pipeline. The body's loop that ends
  by a test of the data keeps these facts from being written with the program, so they stand here.
-/
module

public import proofs.«01_k».proof.Proof.Gen.SbKernelIdeal.Skeleton
public import proofs.«01_k».proof.Proof.Gen.SbKernelIdeal.Loops
public import Idealize.ShloMosaic.Lib.Pipeline.Kit
public import Idealize.ShloMosaic.Lib.Pipeline.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.SbKernelIdeal.Grad

open Cert.SbKernelIdeal Cert.SbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) (cfgs (F := F))) :=
  Pipeline.cellOf_injective_of_table (cfgs (F := F)) semTab (fun | 0 => rfl | ⟨_ + 1, h⟩ => absurd h (Nat.not_lt.2 (Nat.le_add_left _ _))) semsDistinct semsDisjoint

/-! ## custom_call 0 (pipeline 0 of @main) -/

/-- The layout the launch needs, the arrays' distinctness apart: custom_call 0 hands one array to several windows. -/
theorem winFacts₀0 : Pipeline.WinFacts₀ spec0 := by decide
/-- Every window on an array another window is on is an input window. -/
theorem sharedIn0 : Pipeline.SharedIn spec0 := by decide
/-- No window's block is empty. -/
theorem block_pos0 : ∀ w : Fin 9, 0 < (spec0 w).block.numel := by decide
/-- The windows' arrays and the staging memrefs are whole buffers. -/
theorem arr_whole0 : ∀ w : Fin 9, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | ⟨_ + 9, h⟩ => absurd h (Nat.not_lt.2 (Nat.le_add_left _ _))
theorem stage_whole0 : ∀ (w : Fin 9) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | ⟨_ + 9, h⟩ => absurd h (Nat.not_lt.2 (Nat.le_add_left _ _))
/-- The layout facts bundled, the input windows' sharing of arrays stated in place of their distinctness. -/
theorem launch₀0 : Pipeline.LaunchFacts₀ (nD := nD) (τ := τ) (cfgs (F := F)) 0 := ⟨cellOf_inj, winFacts₀0, sharedIn0, block_pos0, arr_whole0, stage_whole0⟩

/-- The grid has 4 points. -/
theorem N_0 : grid0.N = 4 := by decide

/-- The windows conjoined one by one. -/
theorem bigSep_W0 {M : Type} [URA M] (Φ : Fin 9 → sProp M) : bigSep Finset.univ Φ = iprop(Φ (0 : Fin 9) ∗ Φ (1 : Fin 9) ∗ Φ (2 : Fin 9) ∗ Φ (3 : Fin 9) ∗ Φ (4 : Fin 9) ∗ Φ (5 : Fin 9) ∗ Φ (6 : Fin 9) ∗ Φ (7 : Fin 9) ∗ Φ (8 : Fin 9)) :=
  bigSep_univ_eq_bigSepL [(0 : Fin 9), (1 : Fin 9), (2 : Fin 9), (3 : Fin 9), (4 : Fin 9), (5 : Fin 9), (6 : Fin 9), (7 : Fin 9), (8 : Fin 9)] (by decide) (by decide) Φ
/-- The core's scoped buffers that are no staging buffer of custom_call 0, each whole at some contents:
    `cc0_scratch0`, `cc0_scratch1`, `cc0_scratch2`, `cc0_scratch3`, `cc0_scratch4`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f) ∗ (∃ f : Buf Val ((c : Thread nD τ).loc cc0_scratch2), ((c : Thread nD τ).loc cc0_scratch2) ↦{fullShare} f) ∗ (∃ f : Buf Val ((c : Thread nD τ).loc cc0_scratch3), ((c : Thread nD τ).loc cc0_scratch3) ↦{fullShare} f) ∗ (∃ f : Buf Val ((c : Thread nD τ).loc cc0_scratch4), ((c : Thread nD τ).loc cc0_scratch4) ↦{fullShare} f)) :=
  Pipeline.scopedRest_eq_of_list spec0 c [cc0_scratch0, cc0_scratch1, cc0_scratch2, cc0_scratch3, cc0_scratch4] (by decide) (by decide)

/-! ## @main as segments and as a chain of items (Lib/Pipeline/Regions.lean `θ_run_regions_kit`, `Pipeline.chain`) -/

/-- 27 host operations of @main, in order. -/
abbrev hostOps0 : List (HloOp τ sig (Elt F)) :=
  [ StableHlo.nullary main_v0 (iotaInDim S128 32 0),
    StableHlo.unary main_v0 main_v1 (broadcastInDim S128x1 ![0] bcast_S128_S128x1_0 : (⟨S128, .i32⟩ : BufTy).Contents (Elt F) → (⟨S128x1, .i32⟩ : BufTy).Contents (Elt F)),
    StableHlo.nullary main_v2 (iotaInDim S128 32 0),
    StableHlo.unary main_v2 main_v3 (broadcastInDim S1x128 ![1] bcast_S128_S1x128_1 : (⟨S128, .i32⟩ : BufTy).Contents (Elt F) → (⟨S1x128, .i32⟩ : BufTy).Contents (Elt F)),
    StableHlo.unary main_v1 main_v4 (broadcastInDim S128x128 ![0, 1] bcast_S128x1_S128x128_0_1 : (⟨S128x1, .i32⟩ : BufTy).Contents (Elt F) → (⟨S128x128, .i32⟩ : BufTy).Contents (Elt F)),
    StableHlo.unary main_v3 main_v5 (broadcastInDim S128x128 ![0, 1] bcast_S1x128_S128x128_0_1 : (⟨S1x128, .i32⟩ : BufTy).Contents (Elt F) → (⟨S128x128, .i32⟩ : BufTy).Contents (Elt F)),
    StableHlo.binary main_v4 main_v5 main_v6 (cmpi .sgt : (⟨S128x128, .i32⟩ : BufTy).Contents (Elt F) → (⟨S128x128, .i32⟩ : BufTy).Contents (Elt F) → (⟨S128x128, .i1⟩ : BufTy).Contents (Elt F)),
    StableHlo.unary main_v6 main_v7 (uitofp .bf16 : (⟨S128x128, .i1⟩ : BufTy).Contents (Elt F) → (⟨S128x128, .bf16⟩ : BufTy).Contents (Elt F)),
    StableHlo.binary main_v7 main_v7 main_v8 ((fun a b => concatenate S256x128 0 [⟨S128x128, a⟩, ⟨S128x128, b⟩] concatenates_S128x128_S128x128_S256x128_d0) : (⟨S128x128, .bf16⟩ : BufTy).Contents (Elt F) → (⟨S128x128, .bf16⟩ : BufTy).Contents (Elt F) → (⟨S256x128, .bf16⟩ : BufTy).Contents (Elt F)),
    StableHlo.nullary main_cst (constant S_ .f32 0x00000000#32),
    StableHlo.unary main_cst main_v9 (broadcastInDim S4096x768 ![] bcast_S_S4096x768 : (⟨S_, .f32⟩ : BufTy).Contents (Elt F) → (⟨S4096x768, .f32⟩ : BufTy).Contents (Elt F)),
    StableHlo.nary ![main_arg0, main_arg1, main_arg2, main_v9] main_v10 (fun u => (concatenate S4096x2304 1 [⟨S4096x512, (u 0 : (⟨S4096x512, .f32⟩ : BufTy).Contents (Elt F))⟩, ⟨S4096x512, (u 1 : (⟨S4096x512, .f32⟩ : BufTy).Contents (Elt F))⟩, ⟨S4096x512, (u 2 : (⟨S4096x512, .f32⟩ : BufTy).Contents (Elt F))⟩, ⟨S4096x768, (u 3 : (⟨S4096x768, .f32⟩ : BufTy).Contents (Elt F))⟩] concatenates_S4096x512_S4096x512_S4096x512_S4096x768_S4096x2304_d1 : (⟨S4096x2304, .f32⟩ : BufTy).Contents (Elt F))),
    StableHlo.unary main_v10 main_v11 ((truncf .bf16 · bitsLt_bf16_f32) : (⟨S4096x2304, .f32⟩ : BufTy).Contents (Elt F) → (⟨S4096x2304, .bf16⟩ : BufTy).Contents (Elt F)),
    StableHlo.reshape main_arg0 main_v12 (rfl : (.f32 : EltTy) = .f32) shapeCasts_S4096x512_S4096x8x64,
    StableHlo.reshape main_arg1 main_v13 (rfl : (.f32 : EltTy) = .f32) shapeCasts_S4096x512_S4096x8x64,
    StableHlo.reshape main_arg2 main_v14 (rfl : (.f32 : EltTy) = .f32) shapeCasts_S4096x512_S4096x8x64,
    StableHlo.binary main_v12 main_v13 main_v15 ((fun l r => Host.dotGeneral dot_S4096x8x64_S4096x8x64_S8x4096x4096_2_2_0_0_1_1 none l r) : (⟨S4096x8x64, .f32⟩ : BufTy).Contents (Elt F) → (⟨S4096x8x64, .f32⟩ : BufTy).Contents (Elt F) → (⟨S8x4096x4096, .f32⟩ : BufTy).Contents (Elt F)),
    StableHlo.nullary main_cst_0 (constant S_ .f32 0x3E000000#32),
    StableHlo.unary main_cst_0 main_v16 (broadcastInDim S8x4096x4096 ![] bcast_S_S8x4096x4096 : (⟨S_, .f32⟩ : BufTy).Contents (Elt F) → (⟨S8x4096x4096, .f32⟩ : BufTy).Contents (Elt F)),
    StableHlo.binary main_v15 main_v16 main_v17 (mulf : (⟨S8x4096x4096, .f32⟩ : BufTy).Contents (Elt F) → (⟨S8x4096x4096, .f32⟩ : BufTy).Contents (Elt F) → (⟨S8x4096x4096, .f32⟩ : BufTy).Contents (Elt F)),
    StableHlo.nullary main_v18 (iotaInDim S4096 32 0),
    StableHlo.unary main_v18 main_v19 (broadcastInDim S4096x1 ![0] bcast_S4096_S4096x1_0 : (⟨S4096, .i32⟩ : BufTy).Contents (Elt F) → (⟨S4096x1, .i32⟩ : BufTy).Contents (Elt F)),
    StableHlo.nullary main_v20 (iotaInDim S4096 32 0),
    StableHlo.unary main_v20 main_v21 (broadcastInDim S1x4096 ![1] bcast_S4096_S1x4096_1 : (⟨S4096, .i32⟩ : BufTy).Contents (Elt F) → (⟨S1x4096, .i32⟩ : BufTy).Contents (Elt F)),
    StableHlo.unary main_v21 main_v22 (broadcastInDim S4096x4096 ![0, 1] bcast_S1x4096_S4096x4096_0_1 : (⟨S1x4096, .i32⟩ : BufTy).Contents (Elt F) → (⟨S4096x4096, .i32⟩ : BufTy).Contents (Elt F)),
    StableHlo.unary main_v19 main_v23 (broadcastInDim S4096x4096 ![0, 1] bcast_S4096x1_S4096x4096_0_1 : (⟨S4096x1, .i32⟩ : BufTy).Contents (Elt F) → (⟨S4096x4096, .i32⟩ : BufTy).Contents (Elt F)),
    StableHlo.binary main_v22 main_v23 main_v24 (cmpi .slt : (⟨S4096x4096, .i32⟩ : BufTy).Contents (Elt F) → (⟨S4096x4096, .i32⟩ : BufTy).Contents (Elt F) → (⟨S4096x4096, .i1⟩ : BufTy).Contents (Elt F)) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.nary_bufs_sub .., StableHlo.unary_bufs_sub .., StableHlo.reshape_bufs_sub .., StableHlo.reshape_bufs_sub .., StableHlo.reshape_bufs_sub .., StableHlo.binary_bufs_sub .., StableHlo.nullary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.unary_bufs_sub .., StableHlo.binary_bufs_sub ..⟩
/-- 14 host operations of @softplus (main_call0), in order. -/
abbrev hostOps0_1 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S8x4096x4096, .f32⟩) (broadcastInDim S8x4096x4096 ![] bcast_S_S8x4096x4096),
    StableHlo.TRef.binary (.of main_v17 : StableHlo.TRef sig ⟨S8x4096x4096, .f32⟩) (.of main_call0_v0 : StableHlo.TRef sig ⟨S8x4096x4096, .f32⟩) (.of main_call0_v1 : StableHlo.TRef sig ⟨S8x4096x4096, .f32⟩) maximumf,
    StableHlo.TRef.unary (.of main_call0_cst : StableHlo.TRef sig ⟨S_, .f32⟩) (.of main_call0_v2 : StableHlo.TRef sig ⟨S8x4096x4096, .f32⟩) (broadcastInDim S8x4096x4096 ![] bcast_S_S8x4096x4096),
    StableHlo.TRef.binary (.of main_v17 : StableHlo.TRef sig ⟨S8x4096x4096, .f32⟩) (.of main_call0_v2 : StableHlo.TRef sig ⟨S8x4096x4096, .f32⟩) (.of main_call0_v3 : StableHlo.TRef sig ⟨S8x4096x4096, .f32⟩) subf,
    StableHlo.TRef.binary (.of main_call0_v3 : StableHlo.TRef sig ⟨S8x4096x4096, .f32⟩) (.of main_call0_v3 : StableHlo.TRef sig ⟨S8x4096x4096, .f32⟩) (.of main_call0_v4 : StableHlo.TRef sig ⟨S8x4096x4096, .i1⟩) (cmpf .une),
    StableHlo.TRef.unary (.of main_call0_cst : StableHlo.TRef sig ⟨S_, .f32⟩) (.of main_call0_v5 : StableHlo.TRef sig ⟨S8x4096x4096, .f32⟩) (broadcastInDim S8x4096x4096 ![] bcast_S_S8x4096x4096),
    StableHlo.TRef.binary (.of main_v17 : StableHlo.TRef sig ⟨S8x4096x4096, .f32⟩) (.of main_call0_v5 : StableHlo.TRef sig ⟨S8x4096x4096, .f32⟩) (.of main_call0_v6 : StableHlo.TRef sig ⟨S8x4096x4096, .f32⟩) addf,
    StableHlo.TRef.unary (.of main_call0_v3 : StableHlo.TRef sig ⟨S8x4096x4096, .f32⟩) (.of main_call0_v7 : StableHlo.TRef sig ⟨S8x4096x4096, .f32⟩) Host.absf,
    StableHlo.TRef.unary (.of main_call0_v7 : StableHlo.TRef sig ⟨S8x4096x4096, .f32⟩) (.of main_call0_v8 : StableHlo.TRef sig ⟨S8x4096x4096, .f32⟩) Host.negf,
    StableHlo.TRef.unary (.of main_call0_v8 : StableHlo.TRef sig ⟨S8x4096x4096, .f32⟩) (.of main_call0_v9 : StableHlo.TRef sig ⟨S8x4096x4096, .f32⟩) Host.exp,
    StableHlo.TRef.unary (.of main_call0_v9 : StableHlo.TRef sig ⟨S8x4096x4096, .f32⟩) (.of main_call0_v10 : StableHlo.TRef sig ⟨S8x4096x4096, .f32⟩) Host.log1p,
    StableHlo.TRef.binary (.of main_call0_v1 : StableHlo.TRef sig ⟨S8x4096x4096, .f32⟩) (.of main_call0_v10 : StableHlo.TRef sig ⟨S8x4096x4096, .f32⟩) (.of main_call0_v11 : StableHlo.TRef sig ⟨S8x4096x4096, .f32⟩) addf,
    StableHlo.TRef.ternary (.of main_call0_v4 : StableHlo.TRef sig ⟨S8x4096x4096, .i1⟩) (.of main_call0_v6 : StableHlo.TRef sig ⟨S8x4096x4096, .f32⟩) (.of main_call0_v11 : StableHlo.TRef sig ⟨S8x4096x4096, .f32⟩) (.of main_v25 : StableHlo.TRef sig ⟨S8x4096x4096, .f32⟩) select ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub ..⟩
/-- 2 host operations of @main, in order. -/
abbrev hostOps0_2 : List (HloOp τ sig (Elt F)) :=
  [ StableHlo.unary main_v25 main_v26 (Host.negf : (⟨S8x4096x4096, .f32⟩ : BufTy).Contents (Elt F) → (⟨S8x4096x4096, .f32⟩ : BufTy).Contents (Elt F)),
    StableHlo.nullary main_cst_1 (constant S_ .f32 0x00000000#32) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.unary_bufs_sub .., StableHlo.nullary_bufs_sub ..⟩
/-- 4 host operations of @_where (main_call1), in order. -/
abbrev hostOps0_3 : List (HloOp τ sig (Elt F)) :=
  [ StableHlo.TRef.unary (.of main_cst_1 : StableHlo.TRef sig ⟨S_, .f32⟩) (.of main_call1_v0 : StableHlo.TRef sig ⟨S_, .f32⟩) id,
    StableHlo.TRef.unary (.of main_v24 : StableHlo.TRef sig ⟨S4096x4096, .i1⟩) (.of main_call1_v1 : StableHlo.TRef sig ⟨S8x4096x4096, .i1⟩) (broadcastInDim S8x4096x4096 ![1, 2] bcast_S4096x4096_S8x4096x4096_1_2),
    StableHlo.TRef.unary (.of main_call1_v0 : StableHlo.TRef sig ⟨S_, .f32⟩) (.of main_call1_v2 : StableHlo.TRef sig ⟨S8x4096x4096, .f32⟩) (broadcastInDim S8x4096x4096 ![] bcast_S_S8x4096x4096),
    StableHlo.TRef.ternary (.of main_call1_v1 : StableHlo.TRef sig ⟨S8x4096x4096, .i1⟩) (.of main_v26 : StableHlo.TRef sig ⟨S8x4096x4096, .f32⟩) (.of main_call1_v2 : StableHlo.TRef sig ⟨S8x4096x4096, .f32⟩) (.of main_v27 : StableHlo.TRef sig ⟨S8x4096x4096, .f32⟩) select ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 3 host operations of @cumsum (main_call2), in order. -/
abbrev hostOps0_4 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S_, .f32⟩) (broadcastInDim S_ ![] bcast_S_S_),
    StableHlo.TRef.binary (.of main_v27 : StableHlo.TRef sig ⟨S8x4096x4096, .f32⟩) (.of main_call2_v0 : StableHlo.TRef sig ⟨S_, .f32⟩) (.of main_v28 : StableHlo.TRef sig ⟨S8x4096x4096, .f32⟩) (fun x v => Host.reduceWindowAdd ![1, 1, 4096] ![1, 1, 1] ![0, 0, 0] ![0, 0, 4095] x v reduceWindows_S8x4096x4096_S8x4096x4096_w1s1p0_0_w1s1p0_0_w4096s1p0_4095 h_S_) ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.unary_bufs_sub .., StableHlo.binary_bufs_sub ..⟩
/-- 1 host operation of @main, in order. -/
abbrev hostOps0_5 : List (HloOp τ sig (Elt F)) :=
  [ StableHlo.binary main_v28 main_v27 main_v29 (subf : (⟨S8x4096x4096, .f32⟩ : BufTy).Contents (Elt F) → (⟨S8x4096x4096, .f32⟩ : BufTy).Contents (Elt F) → (⟨S8x4096x4096, .f32⟩ : BufTy).Contents (Elt F)) ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  StableHlo.binary_bufs_sub ..
/-- 16 host operations of @log_sigmoid (main_call3), in order. -/
abbrev hostOps0_6 : List (HloOp τ sig (Elt F)) :=
  [ StableHlo.TRef.unary (.of main_v17 : StableHlo.TRef sig ⟨S8x4096x4096, .f32⟩) (.of main_call3_v0 : StableHlo.TRef sig ⟨S8x4096x4096, .f32⟩) Host.negf,
    StableHlo.TRef.nullary (.of main_call3_call0_cst : StableHlo.TRef sig ⟨S_, .f32⟩) (constant S_ .f32 0x00000000#32),
    StableHlo.TRef.unary (.of main_call3_call0_cst : StableHlo.TRef sig ⟨S_, .f32⟩) (.of main_call3_call0_v0 : StableHlo.TRef sig ⟨S8x4096x4096, .f32⟩) (broadcastInDim S8x4096x4096 ![] bcast_S_S8x4096x4096),
    StableHlo.TRef.binary (.of main_call3_v0 : StableHlo.TRef sig ⟨S8x4096x4096, .f32⟩) (.of main_call3_call0_v0 : StableHlo.TRef sig ⟨S8x4096x4096, .f32⟩) (.of main_call3_call0_v1 : StableHlo.TRef sig ⟨S8x4096x4096, .f32⟩) maximumf,
    StableHlo.TRef.unary (.of main_call3_call0_cst : StableHlo.TRef sig ⟨S_, .f32⟩) (.of main_call3_call0_v2 : StableHlo.TRef sig ⟨S8x4096x4096, .f32⟩) (broadcastInDim S8x4096x4096 ![] bcast_S_S8x4096x4096),
    StableHlo.TRef.binary (.of main_call3_v0 : StableHlo.TRef sig ⟨S8x4096x4096, .f32⟩) (.of main_call3_call0_v2 : StableHlo.TRef sig ⟨S8x4096x4096, .f32⟩) (.of main_call3_call0_v3 : StableHlo.TRef sig ⟨S8x4096x4096, .f32⟩) subf,
    StableHlo.TRef.binary (.of main_call3_call0_v3 : StableHlo.TRef sig ⟨S8x4096x4096, .f32⟩) (.of main_call3_call0_v3 : StableHlo.TRef sig ⟨S8x4096x4096, .f32⟩) (.of main_call3_call0_v4 : StableHlo.TRef sig ⟨S8x4096x4096, .i1⟩) (cmpf .une),
    StableHlo.TRef.unary (.of main_call3_call0_cst : StableHlo.TRef sig ⟨S_, .f32⟩) (.of main_call3_call0_v5 : StableHlo.TRef sig ⟨S8x4096x4096, .f32⟩) (broadcastInDim S8x4096x4096 ![] bcast_S_S8x4096x4096),
    StableHlo.TRef.binary (.of main_call3_v0 : StableHlo.TRef sig ⟨S8x4096x4096, .f32⟩) (.of main_call3_call0_v5 : StableHlo.TRef sig ⟨S8x4096x4096, .f32⟩) (.of main_call3_call0_v6 : StableHlo.TRef sig ⟨S8x4096x4096, .f32⟩) addf,
    StableHlo.TRef.unary (.of main_call3_call0_v3 : StableHlo.TRef sig ⟨S8x4096x4096, .f32⟩) (.of main_call3_call0_v7 : StableHlo.TRef sig ⟨S8x4096x4096, .f32⟩) Host.absf,
    StableHlo.TRef.unary (.of main_call3_call0_v7 : StableHlo.TRef sig ⟨S8x4096x4096, .f32⟩) (.of main_call3_call0_v8 : StableHlo.TRef sig ⟨S8x4096x4096, .f32⟩) Host.negf,
    StableHlo.TRef.unary (.of main_call3_call0_v8 : StableHlo.TRef sig ⟨S8x4096x4096, .f32⟩) (.of main_call3_call0_v9 : StableHlo.TRef sig ⟨S8x4096x4096, .f32⟩) Host.exp,
    StableHlo.TRef.unary (.of main_call3_call0_v9 : StableHlo.TRef sig ⟨S8x4096x4096, .f32⟩) (.of main_call3_call0_v10 : StableHlo.TRef sig ⟨S8x4096x4096, .f32⟩) Host.log1p,
    StableHlo.TRef.binary (.of main_call3_call0_v1 : StableHlo.TRef sig ⟨S8x4096x4096, .f32⟩) (.of main_call3_call0_v10 : StableHlo.TRef sig ⟨S8x4096x4096, .f32⟩) (.of main_call3_call0_v11 : StableHlo.TRef sig ⟨S8x4096x4096, .f32⟩) addf,
    StableHlo.TRef.ternary (.of main_call3_call0_v4 : StableHlo.TRef sig ⟨S8x4096x4096, .i1⟩) (.of main_call3_call0_v6 : StableHlo.TRef sig ⟨S8x4096x4096, .f32⟩) (.of main_call3_call0_v11 : StableHlo.TRef sig ⟨S8x4096x4096, .f32⟩) (.of main_call3_v1 : StableHlo.TRef sig ⟨S8x4096x4096, .f32⟩) select,
    StableHlo.TRef.unary main_call3_call0.v12 (.of main_v30 : StableHlo.TRef sig ⟨S8x4096x4096, .f32⟩) Host.negf ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.unary_bufs_sub ..⟩
/-- 3 host operations of @main, in order. -/
abbrev hostOps0_7 : List (HloOp τ sig (Elt F)) :=
  [ StableHlo.binary main_v30 main_v29 main_v31 (addf : (⟨S8x4096x4096, .f32⟩ : BufTy).Contents (Elt F) → (⟨S8x4096x4096, .f32⟩ : BufTy).Contents (Elt F) → (⟨S8x4096x4096, .f32⟩ : BufTy).Contents (Elt F)),
    StableHlo.unary main_v31 main_v32 (Host.exp : (⟨S8x4096x4096, .f32⟩ : BufTy).Contents (Elt F) → (⟨S8x4096x4096, .f32⟩ : BufTy).Contents (Elt F)),
    StableHlo.nullary main_cst_2 (constant S_ .f32 0x00000000#32) ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  ⟨StableHlo.binary_bufs_sub .., StableHlo.unary_bufs_sub .., StableHlo.nullary_bufs_sub ..⟩
/-- 4 host operations of @_where (main_call4), in order. -/
abbrev hostOps0_8 : List (HloOp τ sig (Elt F)) :=
  [ StableHlo.TRef.unary (.of main_cst_2 : StableHlo.TRef sig ⟨S_, .f32⟩) (.of main_call4_v0 : StableHlo.TRef sig ⟨S_, .f32⟩) id,
    StableHlo.TRef.unary (.of main_v24 : StableHlo.TRef sig ⟨S4096x4096, .i1⟩) (.of main_call4_v1 : StableHlo.TRef sig ⟨S8x4096x4096, .i1⟩) (broadcastInDim S8x4096x4096 ![1, 2] bcast_S4096x4096_S8x4096x4096_1_2),
    StableHlo.TRef.unary (.of main_call4_v0 : StableHlo.TRef sig ⟨S_, .f32⟩) (.of main_call4_v2 : StableHlo.TRef sig ⟨S8x4096x4096, .f32⟩) (broadcastInDim S8x4096x4096 ![] bcast_S_S8x4096x4096),
    StableHlo.TRef.ternary (.of main_call4_v1 : StableHlo.TRef sig ⟨S8x4096x4096, .i1⟩) (.of main_v32 : StableHlo.TRef sig ⟨S8x4096x4096, .f32⟩) (.of main_call4_v2 : StableHlo.TRef sig ⟨S8x4096x4096, .f32⟩) (.of main_v33 : StableHlo.TRef sig ⟨S8x4096x4096, .f32⟩) select ]
/-- Each touches TensorCore references only (`HostSeg.ofOps` over `StableHlo.tcRefs`, or a subset by `sub_ucRefs`). -/
theorem hostOps0_8_sub : (hostOps0_8 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 4 host operations of @main, in order. -/
abbrev hostOps0_9 : List (HloOp τ sig (Elt F)) :=
  [ StableHlo.binary main_v14 main_v33 main_v34 ((fun l r => Host.dotGeneral dot_S4096x8x64_S8x4096x4096_S8x64x4096_0_2_2_1_1_0 none l r) : (⟨S4096x8x64, .f32⟩ : BufTy).Contents (Elt F) → (⟨S8x4096x4096, .f32⟩ : BufTy).Contents (Elt F) → (⟨S8x64x4096, .f32⟩ : BufTy).Contents (Elt F)),
    StableHlo.unary main_v34 main_v35 ((transpose S4096x8x64 [2, 0, 1] · transposes_S8x64x4096_S4096x8x64_2_0_1) : (⟨S8x64x4096, .f32⟩ : BufTy).Contents (Elt F) → (⟨S4096x8x64, .f32⟩ : BufTy).Contents (Elt F)),
    StableHlo.reshape main_v35 main_v36 (rfl : (.f32 : EltTy) = .f32) shapeCasts_S4096x8x64_S4096x512,
    StableHlo.unary main_arg3 main_v37 ((truncf .bf16 · bitsLt_bf16_f32) : (⟨S4096x512, .f32⟩ : BufTy).Contents (Elt F) → (⟨S4096x512, .bf16⟩ : BufTy).Contents (Elt F)) ]
/-- Each touches TensorCore references only (`HostSeg.ofOps` over `StableHlo.tcRefs`, or a subset by `sub_ucRefs`). -/
theorem hostOps0_9_sub : (hostOps0_9 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub ..⟩
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    Prog.lift (.customCall (Pipeline.entry 0) ()) ] : Prog (TpuEff nD τ sig (Elt F) (Pipeline.Sig (Λ₀ F) (Fin 1) fun p => (pcfgs (F := F) p).Adm) .tc) PUnit) := by
  rewrite [StableHlo.chain_seq_cons, Pipeline.chain_cons, StableHlo.chain_seq_cons, Pipeline.chain_cons, Pipeline.chain_cons, StableHlo.chain_seq_cons, Pipeline.chain_cons, StableHlo.chain_seq_cons, Pipeline.chain_cons, StableHlo.chain_seq_cons, Pipeline.chain_cons]
  chain_rfl

/-! ## custom_call 0 -/

/-- Window 0 (operand 0 (%11)) is fetched at every point. -/
theorem fetch0_0 : ∀ t : Fin (cfg0 (F := F)).N, ((cfg0 (F := F)).win 0).fetch t = true :=
  (by decide +kernel : ∀ t : Fin grid0.N, win0_0.fetch t = true)
/-- Window 1 (operand 1 (%11)) is fetched at every point. -/
theorem fetch0_1 : ∀ t : Fin (cfg0 (F := F)).N, ((cfg0 (F := F)).win 1).fetch t = true :=
  (by decide +kernel : ∀ t : Fin grid0.N, win0_1.fetch t = true)
/-- Window 2 (operand 2 (%11)) is fetched at every point. -/
theorem fetch0_2 : ∀ t : Fin (cfg0 (F := F)).N, ((cfg0 (F := F)).win 2).fetch t = true :=
  (by decide +kernel : ∀ t : Fin grid0.N, win0_2.fetch t = true)
/-- Window 3 (operand 3 (%8)) is fetched at the first point only. -/
theorem fetch0_3 : ∀ t : Fin (cfg0 (F := F)).N, ((cfg0 (F := F)).win 3).fetch t = true ↔ t.val % 4 = 0 :=
  (fun t => Pipeline.Window.fetch_const win0_3 rfl (fun _ _ => rfl) (n := 4) (by decide) t : ∀ t : Fin grid0.N, win0_3.fetch t = true ↔ t.val % 4 = 0)
/-- Window 4 (operand 4 (%36)) is fetched at every point. -/
theorem fetch0_4 : ∀ t : Fin (cfg0 (F := F)).N, ((cfg0 (F := F)).win 4).fetch t = true :=
  (fun t => (Pipeline.Window.fetch_reads win0_4 rfl 0 (by decide) (by decide) (Pipeline.Window.sep_of_coord cc0_transform_4 0 1 (fun _ => rfl) (by decide)) (P := 1) (by decide) t).mpr (Nat.mod_one _) : ∀ t : Fin grid0.N, win0_4.fetch t = true)
/-- Window 5 (operand 5 (%37)) is fetched at every point. -/
theorem fetch0_5 : ∀ t : Fin (cfg0 (F := F)).N, ((cfg0 (F := F)).win 5).fetch t = true :=
  (fun t => (Pipeline.Window.fetch_reads win0_5 rfl 0 (by decide) (by decide) (Pipeline.Window.sep_of_coord cc0_transform_5 0 1 (fun _ => rfl) (by decide)) (P := 1) (by decide) t).mpr (Nat.mod_one _) : ∀ t : Fin grid0.N, win0_5.fetch t = true)
/-- Window 6 (result 0 (%38#0)) is written back at every point. -/
theorem flush0_6 : ∀ t : Fin (cfg0 (F := F)).N, ((cfg0 (F := F)).win 6).flush t = true :=
  (fun t => (Pipeline.Window.flush_reads win0_6 rfl 0 (by decide) (by decide) (Pipeline.Window.sep_of_coord cc0_transform_6 0 1 (fun _ => rfl) (by decide)) (P := 1) (m := 0) (by decide) rfl t).mpr (Nat.mod_one _) : ∀ t : Fin grid0.N, win0_6.flush t = true)
/-- Window 7 (result 1 (%38#1)) is written back at every point. -/
theorem flush0_7 : ∀ t : Fin (cfg0 (F := F)).N, ((cfg0 (F := F)).win 7).flush t = true :=
  (fun t => (Pipeline.Window.flush_reads win0_7 rfl 0 (by decide) (by decide) (Pipeline.Window.sep_of_coord cc0_transform_7 0 1 (fun _ => rfl) (by decide)) (P := 1) (m := 0) (by decide) rfl t).mpr (Nat.mod_one _) : ∀ t : Fin grid0.N, win0_7.flush t = true)
/-- Window 8 (result 2 (%38#2)) is written back at every point. -/
theorem flush0_8 : ∀ t : Fin (cfg0 (F := F)).N, ((cfg0 (F := F)).win 8).flush t = true :=
  (fun t => (Pipeline.Window.flush_reads win0_8 rfl 0 (by decide) (by decide) (Pipeline.Window.sep_of_coord cc0_transform_8 0 1 (fun _ => rfl) (by decide)) (P := 1) (m := 0) (by decide) rfl t).mpr (Nat.mod_one _) : ∀ t : Fin grid0.N, win0_8.flush t = true)

/-- The current staging memref of each window at point `t`: which of its buffers it is on. -/
abbrev st0_0 (t : Fin (cfg0 (F := F)).N) := ((cfg0 (F := F)).win 0).stage ((cfg0 (F := F)).slots t 0)
abbrev st0_1 (t : Fin (cfg0 (F := F)).N) := ((cfg0 (F := F)).win 1).stage ((cfg0 (F := F)).slots t 1)
abbrev st0_2 (t : Fin (cfg0 (F := F)).N) := ((cfg0 (F := F)).win 2).stage ((cfg0 (F := F)).slots t 2)
abbrev st0_3 (t : Fin (cfg0 (F := F)).N) := ((cfg0 (F := F)).win 3).stage ((cfg0 (F := F)).slots t 3)
abbrev st0_4 (t : Fin (cfg0 (F := F)).N) := ((cfg0 (F := F)).win 4).stage ((cfg0 (F := F)).slots t 4)
abbrev st0_5 (t : Fin (cfg0 (F := F)).N) := ((cfg0 (F := F)).win 5).stage ((cfg0 (F := F)).slots t 5)
abbrev st0_6 (t : Fin (cfg0 (F := F)).N) := ((cfg0 (F := F)).win 6).stage ((cfg0 (F := F)).slots t 6)
abbrev st0_7 (t : Fin (cfg0 (F := F)).N) := ((cfg0 (F := F)).win 7).stage ((cfg0 (F := F)).slots t 7)
abbrev st0_8 (t : Fin (cfg0 (F := F)).N) := ((cfg0 (F := F)).win 8).stage ((cfg0 (F := F)).slots t 8)

/-- The kernel body at point `t`, on what the pipeline calls it with (`defs₀`'s row at the slots). -/
abbrev bodyAt0 (t : Fin (cfg0 (F := F)).N) : Prog (TpuEff nD τ sig (Elt F) (Λ₀ F) .tc) PUnit :=
  cc0_sb_bwd (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

variable (m : (ℓ : Loc nD τ sig) → Buf (Elt F) ℓ) (ρ : Dev nD → PrngReg)

/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main [hostOps0, hostOps0_1, hostOps0_2, hostOps0_3, hostOps0_4, hostOps0_5, hostOps0_6, hostOps0_7, hostOps0_8, hostOps0_9] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_SbKernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide : ∀ w : Fin 9, (spec0 w).arr.view.ref ≠ main_arg0))).trans (V_main_arg0 m c),
      ((h c).2 main_arg1 (Pipeline.mem_restRefs_of main_arg1 (by decide) (by decide : ∀ w : Fin 9, (spec0 w).arr.view.ref ≠ main_arg1))).trans (V_main_arg1 m c),
      ((h c).2 main_arg2 (Pipeline.mem_restRefs_of main_arg2 (by decide) (by decide : ∀ w : Fin 9, (spec0 w).arr.view.ref ≠ main_arg2))).trans (V_main_arg2 m c),
      ((h c).2 main_arg3 (Pipeline.mem_restRefs_of main_arg3 (by decide) (by decide : ∀ w : Fin 9, (spec0 w).arr.view.ref ≠ main_arg3))).trans (V_main_arg3 m c)⟩) h

/-! ## The kernel body on any staging memrefs: a subtype the run finds -/

/-- One staging buffer of output window 6, through which its contents are stated (`View.read_writes_of_cover`: the
    choice does not matter). -/
abbrev VO0_6 : View sig .tc .vmem S4096x128 .bf16 := (Memref.whole cc0_stg6_0 : Memref sig .tc .vmem S4096x128 .bf16).view
/-- One staging buffer of output window 7, through which its contents are stated (`View.read_writes_of_cover`: the
    choice does not matter). -/
abbrev VO0_7 : View sig .tc .vmem S4096x128 .bf16 := (Memref.whole cc0_stg7_0 : Memref sig .tc .vmem S4096x128 .bf16).view
/-- One staging buffer of output window 8, through which its contents are stated (`View.read_writes_of_cover`: the
    choice does not matter). -/
abbrev VO0_8 : View sig .tc .vmem S4096x128 .bf16 := (Memref.whole cc0_stg8_0 : Memref sig .tc .vmem S4096x128 .bf16).view
/-- Each window's current staging memref at point `t`, spelled as the pipeline passes it (`bodyAt0`), and its wholeness. -/
abbrev ms0_0 (t : Fin (cfg0 (F := F)).N) : Memref sig .tc .vmem S4096x128 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S4096x128 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S4096x128 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S256x128 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S4096x128 .f32 := win0_4.stage ((cfg0 (F := F)).slots t 4)
abbrev hs0_4 (t : Fin (cfg0 (F := F)).N) : (ms0_4 t).IsWhole := hstage0_4 (((cfg0 (F := F)).slots t 4).cast nbuf0_4)
abbrev ms0_5 (t : Fin (cfg0 (F := F)).N) : Memref sig .tc .vmem S4096x128 .bf16 := win0_5.stage ((cfg0 (F := F)).slots t 5)
abbrev hs0_5 (t : Fin (cfg0 (F := F)).N) : (ms0_5 t).IsWhole := hstage0_5 (((cfg0 (F := F)).slots t 5).cast nbuf0_5)
abbrev ms0_6 (t : Fin (cfg0 (F := F)).N) : Memref sig .tc .vmem S4096x128 .bf16 := win0_6.stage ((cfg0 (F := F)).slots t 6)
abbrev hs0_6 (t : Fin (cfg0 (F := F)).N) : (ms0_6 t).IsWhole := hstage0_6 (((cfg0 (F := F)).slots t 6).cast nbuf0_6)
abbrev ms0_7 (t : Fin (cfg0 (F := F)).N) : Memref sig .tc .vmem S4096x128 .bf16 := win0_7.stage ((cfg0 (F := F)).slots t 7)
abbrev hs0_7 (t : Fin (cfg0 (F := F)).N) : (ms0_7 t).IsWhole := hstage0_7 (((cfg0 (F := F)).slots t 7).cast nbuf0_7)
abbrev ms0_8 (t : Fin (cfg0 (F := F)).N) : Memref sig .tc .vmem S4096x128 .bf16 := win0_8.stage ((cfg0 (F := F)).slots t 8)
abbrev hs0_8 (t : Fin (cfg0 (F := F)).N) : (ms0_8 t).IsWhole := hstage0_8 (((cfg0 (F := F)).slots t 8).cast nbuf0_8)
/-- The scratch operands: whole scoped buffers of the kernel's own, passed beside the windows. -/
abbrev scM0_0 : Memref sig .tc .vmem S4096x128 .f32 := Memref.whole cc0_scratch0
abbrev scM0_1 : Memref sig .tc .vmem S4096x128 .f32 := Memref.whole cc0_scratch1
abbrev scM0_2 : Memref sig .tc .vmem S4096x128 .f32 := Memref.whole cc0_scratch2
abbrev scM0_3 : Memref sig .tc .vmem S8192x128 .f32 := Memref.whole cc0_scratch3
abbrev scM0_4 : Memref sig .tc .vmem S8192x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.SbKernelIdeal.Grad

end
-- ==== Proof.SbIdealWhile.lean ====
/-
  The stick-breaking backward call: the loop over older keys. One turn of it, run to its own call, and what the loop as a
  whole promises: a property of the carried values and the two gradients that every turn keeps holds when the loop ends.
-/
module

public import proofs.«01_k».proof.Proof.SbIdealLaunch
public import proofs.«01_k».proof.Proof.Gen.SbKernelIdeal.Loops
public import Idealize.ShloMosaic.Lib.Pipeline.Kit
public import Idealize.ShloMosaic.Lib.Pipeline.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.SbKernelIdeal.Grad

open Cert.SbKernelIdeal Cert.SbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the loop's function is called with, all in one record: the loop's function at that record. -/
abbrev turn (a : Cc0While1 F) : Prog (TpuEff nD τ sig (Elt F) (Λ₀ F) .tc) (BitVec 32 × FVec F S256x1 .f32 × FVec F S256x1 .f32 × FVec F S256x128 .f32 × F .f32) :=
  cc0_while1 a.i a.k0_t3 a.v168 a.arg2 a.harg2 a.v94 a.arg4 a.harg4 a.arg3 a.harg3 a.v159 a.v167 a.arg11 a.harg11 a.arg12 a.harg12 a.arg16 a.arg17 a.arg18 a.arg19 a.arg20

/-- The record with the five carried values replaced. -/
abbrev moved (a : Cc0While1 F) (s : BitVec 32 × FVec F S256x1 .f32 × FVec F S256x1 .f32 × FVec F S256x128 .f32 × F .f32) : Cc0While1 F :=
  { a with arg16 := s.1, arg17 := s.2.1, arg18 := s.2.2.1, arg19 := s.2.2.2.1, arg20 := s.2.2.2.2 }

/-- The loop's test: keys are left, and some row's decayed mass is above the threshold. -/
abbrev goes (a : Cc0While1 F) : BitVec 1 := Scalar.andi (Scalar.cmpi .sgt a.arg16 0#32) (Scalar.cmpf .ogt a.arg20 (Named.named κ "cutoff" 0xC2B00000#32))

/-- What one turn holds: the keys, the values and the triangle at their contents, the two gradients' buffers at theirs. -/
abbrev held (c : Dev nD) (a : Cc0While1 F) (X2 : BufTy.Contents (Elt F) a.arg2.view.ty) (X3 : BufTy.Contents (Elt F) a.arg3.view.ty)
    (X4 : BufTy.Contents (Elt F) a.arg4.view.ty) (f11 : BufTy.Contents (Elt F) a.arg11.view.ty) (f12 : BufTy.Contents (Elt F) a.arg12.view.ty) : sProp 𝕄 :=
  iprop((a.arg2.view.loc (c : Thread nD τ) ↦[a.arg2.view.set]{fullShare} X2) ∗ (a.arg3.view.loc (c : Thread nD τ) ↦[a.arg3.view.set]{fullShare} X3)
    ∗ (a.arg4.view.loc (c : Thread nD τ) ↦[a.arg4.view.set]{fullShare} X4)
    ∗ (a.arg11.view.loc (c : Thread nD τ) ↦[a.arg11.view.set]{fullShare} f11) ∗ (a.arg12.view.loc (c : Thread nD τ) ↦[a.arg12.view.set]{fullShare} f12))

/-- The contents a turn reads and writes, by the buffer. -/
abbrev In2 (a : Cc0While1 F) := BufTy.Contents (Elt F) a.arg2.view.ty
abbrev In3 (a : Cc0While1 F) := BufTy.Contents (Elt F) a.arg3.view.ty
abbrev In4 (a : Cc0While1 F) := BufTy.Contents (Elt F) a.arg4.view.ty
abbrev Out11 (a : Cc0While1 F) := BufTy.Contents (Elt F) a.arg11.view.ty
abbrev Out12 (a : Cc0While1 F) := BufTy.Contents (Elt F) a.arg12.view.ty
/-- The five values the loop carries: the key below which it looks next, the running logarithm, the running sum, the
    gradient so far, the largest running logarithm. -/
abbrev Carried (F : FTy → Type) := BitVec 32 × FVec F S256x1 .f32 × FVec F S256x1 .f32 × FVec F S256x128 .f32 × F .f32

set_option maxHeartbeats 4000000 in
/-- One turn whose test holds, up to its own call: the carried values it calls with and the pieces it stores, found by the
    run. -/
@[irreducible] def trip (a : Cc0While1 F) (X2 : In2 a) (X3 : In3 a) (X4 : In4 a) (hg : goes a = 1#1) (hk : k0_chk1 a.arg16) :
    Σ' (k : BitVec 32) (u : FVec F S256x1 .f32) (v : FVec F S256x1 .f32) (w : FVec F S256x128 .f32) (x : F .f32)
      (L11 : Out11 a → List (View.Piece (Elt F) S4096x128 .f32)),
      { L12 : Out12 a → List (View.Piece (Elt F) S4096x128 .f32) //
        ∀ (𝒱 : Variants) (c : Dev nD) (bd : Option 𝒱.V) (E : Set ℕ) (f11 : Out11 a) (f12 : Out12 a) (K),
          iprop(held c a X2 X3 X4 f11 f12
            ∗ (held c a X2 X3 X4 (a.arg11.view.writes (Elt F) f11 (L11 f11)) (a.arg12.view.writes (Elt F) f12 (L12 f12))
              -∗ wp frame (wpE (defs₀ (F := F)) 𝒱 (c : Thread nD τ) bd) E (.op (.call (1 : (Λ₀ F).Label) ⟨a.i, a.k0_t3, a.v168, a.arg2, a.harg2, a.v94, a.arg4, a.harg4, a.arg3, a.harg3, a.v159, a.v167, a.arg11, a.harg11, a.arg12, a.harg12, k, u, v, w, x⟩) .ret) K))
          ⊢ wp frame (wpE (defs₀ (F := F)) 𝒱 (c : Thread nD τ) bd) E (turn a) K } := by
  refine ⟨?_, ?_, ?_, ?_, ?_, ?_, ?_, fun 𝒱 c bd E f11 f12 K => ?run⟩
  case run =>
    unfold turn goes at *
    simp only [cc0_while1_eq_skeleton]; unfold cc0_while1_skel
    simp only [hg]
    iintro ⟨⟨H2, H3, H4, H11, H12⟩, Hk⟩
    sl_exec
    iapply Hk
    isplitl [H2]; · iexact H2
    isplitl [H3]; · iexact H3
    isplitl [H4]; · iexact H4
    isplitl [H11]; · iexact H11
    iexact H12

/-- The carried values after a turn. -/
abbrev next (a : Cc0While1 F) (X2 : In2 a) (X3 : In3 a) (X4 : In4 a) (hg : goes a = 1#1) (hk : k0_chk1 a.arg16) : Carried F :=
  ((trip a X2 X3 X4 hg hk).1, (trip a X2 X3 X4 hg hk).2.1, (trip a X2 X3 X4 hg hk).2.2.1, (trip a X2 X3 X4 hg hk).2.2.2.1,
    (trip a X2 X3 X4 hg hk).2.2.2.2.1)

theorem next_key (a : Cc0While1 F) (X2 : In2 a) (X3 : In3 a) (X4 : In4 a) (hg : goes a = 1#1) (hk : k0_chk1 a.arg16) :
    (next a X2 X3 X4 hg hk).1 = Scalar.maxsi (Scalar.subi a.arg16 256#32) 0#32 := by
  unfold next trip; rfl

/-- The key is a multiple of the 128 keys of a tile, `j` tiles. -/
def atTile (j : ℕ) (k : BitVec 32) : Prop := j ≤ 32 ∧ k = BitVec.ofNat 32 (128 * j)

/-- A turn looks two tiles further down, and stops at the first key. -/
theorem key_down : ∀ j, j ≤ 32 → Scalar.maxsi (Scalar.subi (BitVec.ofNat 32 (128 * j)) 256#32) 0#32 = BitVec.ofNat 32 (128 * (j - 2)) := by
  decide

/-- The rows a turn stores lie inside the buffers. -/
theorem key_chk : ∀ j, j ≤ 32 → k0_chk1 (BitVec.ofNat 32 (128 * j)) := by
  intro j hj
  have h := key_down j hj
  refine ⟨?_, ?_⟩
  · show 128 ∣ (Scalar.maxsi (Scalar.subi (BitVec.ofNat 32 (128 * j)) 256#32) 0#32).toNat
    rw [h, BitVec.toNat_ofNat, Nat.mod_eq_of_lt (by omega)]; exact Nat.dvd_mul_right _ _
  · intro b
    have e : k0_off9 (BitVec.ofNat 32 (128 * j)) = ![128 * (j - 2), 0] := by
      show ![(Scalar.indexCast (Scalar.maxsi (Scalar.subi (BitVec.ofNat 32 (128 * j)) 256#32) 0#32)).toNat, 0] = _
      rw [h]
      show ![(BitVec.ofNat 32 (128 * (j - 2))).toNat, 0] = _
      rw [BitVec.toNat_ofNat, Nat.mod_eq_of_lt (by omega)]
    rw [e]
    fin_cases b
    · show 128 * (j - 2) + 256 ≤ 4096; omega
    · show 0 + 128 ≤ 128; omega

/-- With keys left the test's first half is what the counter says: at key 0 the loop ends. -/
theorem key_zero (a : Cc0While1 F) (h : a.arg16 = 0#32) : ¬goes a = 1#1 := by
  unfold goes; rw [h]
  intro hc
  have : Scalar.cmpi .sgt (0#32) 0#32 = (0#1 : BitVec 1) := by decide
  rw [this] at hc
  revert hc
  generalize Scalar.cmpf .ogt a.arg20 _ = z
  revert z; decide

/-- The variants: how many turns may still be taken. -/
abbrev turns : Variants := Variants.nat

/-- The loop's promise: holding the buffers, it returns carried values and leaves the two gradients so that `P` holds of them
    and the test fails. -/
def spec (c : Dev nD) (a : Cc0While1 F) (X2 : In2 a) (X3 : In3 a) (X4 : In4 a) (P : Carried F → Out11 a → Out12 a → Prop) (f11 : Out11 a) (f12 : Out12 a) :
    sWPT 𝕄 (Carried F) := do
  sWPT.consume (held c a X2 X3 X4 f11 f12)
  let r ← sWPT.arbitrary
  sWPT.produce iprop(∃ g11 g12, held c a X2 X3 X4 g11 g12 ∗ ⌜P r g11 g12 ∧ ¬goes (moved a r) = 1#1⌝)
  pure r

theorem spec_apply (c : Dev nD) (a : Cc0While1 F) (X2 : In2 a) (X3 : In3 a) (X4 : In4 a) (P : Carried F → Out11 a → Out12 a → Prop) (f11 : Out11 a) (f12 : Out12 a)
    (K : Carried F → sProp 𝕄) :
    spec c a X2 X3 X4 P f11 f12 K = iprop(held c a X2 X3 X4 f11 f12 ∗ ∀ r : Carried F,
      ((∃ g11 g12, held c a X2 X3 X4 g11 g12 ∗ ⌜P r g11 g12 ∧ ¬goes (moved a r) = 1#1⌝) -∗ K r)) := rfl

/-- A property every turn keeps. -/
def Kept (a : Cc0While1 F) (X2 : In2 a) (X3 : In3 a) (X4 : In4 a) (P : Carried F → Out11 a → Out12 a → Prop) : Prop :=
  ∀ (s : Carried F) (f11 : Out11 a) (f12 : Out12 a) (hg : goes (moved a s) = 1#1) (hk : k0_chk1 s.1), P s f11 f12 →
    P (next (moved a s) X2 X3 X4 hg hk) (a.arg11.view.writes (Elt F) f11 ((trip (moved a s) X2 X3 X4 hg hk).2.2.2.2.2.1 f11))
      (a.arg12.view.writes (Elt F) f12 ((trip (moved a s) X2 X3 X4 hg hk).2.2.2.2.2.2.1 f12))

/-- The loop's function meets its promise, with as many turns as there are pairs of tiles below the key. -/
theorem spec_le (E : Set ℕ) (c : Dev nD) (a : Cc0While1 F) (X2 : In2 a) (X3 : In3 a) (X4 : In4 a) (P : Carried F → Out11 a → Out12 a → Prop)
    (hP : Kept a X2 X3 X4 P) :
    ∀ n j (s : Carried F), atTile j s.1 → j ≤ 2 * n → ∀ f11 f12, P s f11 f12 → ∀ K, spec c a X2 X3 X4 P f11 f12 K
      ⊢ wp frame (wpE (defs₀ (F := F)) turns (c : Thread nD τ) (some n)) E (defs₀ (F := F) .tc 1 (moved a s)) K := by
  intro n
  have hstop : ∀ (n : ℕ) (s : Carried F), ¬goes (moved a s) = 1#1 → ∀ f11 f12, P s f11 f12 → ∀ K, spec c a X2 X3 X4 P f11 f12 K
      ⊢ wp frame (wpE (defs₀ (F := F)) turns (c : Thread nD τ) (some n)) E (turn (moved a s)) K := by
    intro n s hg f11 f12 hs K
    rw [spec_apply]
    have hg' := hg
    unfold turn goes at *
    simp only [cc0_while1_eq_skeleton]; unfold cc0_while1_skel
    simp only [hg', ↓reduceIte, Prog.pure_eq_ret]
    iintro ⟨H, Hk⟩
    rw [wp_ret]; imodintro
    iapply Hk
    iexists f11, f12
    isplitl [H]; · iexact H
    ipureintro; exact ⟨hs, hg⟩
  induction n with
  | zero =>
    intro j s hj hn f11 f12 hs K
    obtain rfl : j = 0 := by omega
    exact hstop 0 s (key_zero _ hj.2) f11 f12 hs K
  | succ n ih =>
    intro j s hj hn f11 f12 hs K
    have hcall : ∀ (s' : Carried F), atTile (j - 2) s'.1 → ∀ g11 g12, P s' g11 g12 → iprop(held c a X2 X3 X4 g11 g12 ∗ ∀ r : Carried F,
        ((∃ g11 g12, held c a X2 X3 X4 g11 g12 ∗ ⌜P r g11 g12 ∧ ¬goes (moved a r) = 1#1⌝) -∗ K r))
        ⊢ wp frame (wpE (defs₀ (F := F)) turns (c : Thread nD τ) (some (n + 1))) E (.op (.call (1 : (Λ₀ F).Label) (moved a s')) .ret) K := by
      intro s' hs' g11 g12 hP'
      iintro ⟨H, Hk⟩
      iapply (wp_call_spec turns (c : Thread nD τ) (some (n + 1)) E (spec c a X2 X3 X4 P g11 g12) n
        (fun u hu => by cases hu; exact Nat.lt_succ_self n) (ih (j - 2) s' hs' (by omega) g11 g12 hP'))
      rw [spec_apply]
      isplitl [H]; · iexact H
      iintro %r H
      rw [wp_ret]; imodintro
      iapply Hk
      iexact H
    by_cases hg : goes (moved a s) = 1#1
    · have hk : k0_chk1 s.1 := by rw [hj.2]; exact key_chk j hj.1
      rw [spec_apply]
      have hnext : atTile (j - 2) (next (moved a s) X2 X3 X4 hg hk).1 := by
        refine ⟨by have := hj.1; omega, ?_⟩
        rw [next_key]; show Scalar.maxsi (Scalar.subi s.1 256#32) 0#32 = _
        rw [hj.2]; exact key_down j hj.1
      have hc := hcall (next (moved a s) X2 X3 X4 hg hk) hnext _ _ (hP s f11 f12 hg hk hs)
      refine BIBase.Entails.trans ?_ ((trip (moved a s) X2 X3 X4 hg hk).2.2.2.2.2.2.2 turns c (some (n + 1)) E f11 f12 K)
      iintro ⟨H, Hk⟩
      isplitl [H]; · iexact H
      iintro H
      iapply hc
      isplitl [H]; · iexact H
      iexact Hk
    · exact hstop (n + 1) s hg f11 f12 hs K

/-- The loop called from outside it, at a record that is `a` with the carried values `s`. -/
theorem call_loop (E : Set ℕ) (c : Dev nD) (a : Cc0While1 F) (X2 : In2 a) (X3 : In3 a) (X4 : In4 a) (P : Carried F → Out11 a → Out12 a → Prop)
    (hP : Kept a X2 X3 X4 P) (j : ℕ) (s : Carried F) (hj : atTile j s.1) (f11 : Out11 a) (f12 : Out12 a) (h0 : P s f11 f12)
    (b : Cc0While1 F) (hb : b = moved a s)
    {α : Type} (kont : Carried F → Prog (TpuEff nD τ sig (Elt F) (Λ₀ F) .tc) α) (Q : α → sProp 𝕄) :
    iprop(held c a X2 X3 X4 f11 f12 ∗ ∀ r : Carried F, ((∃ g11 g12, held c a X2 X3 X4 g11 g12 ∗ ⌜P r g11 g12 ∧ ¬goes (moved a r) = 1#1⌝)
          -∗ wp frame (wpE (defs₀ (F := F)) turns (c : Thread nD τ) none) E (kont r) Q))
      ⊢ wp frame (wpE (defs₀ (F := F)) turns (c : Thread nD τ) none) E (.op (.call (1 : (Λ₀ F).Label) b) kont) Q := by
  subst hb
  iintro ⟨H, Hk⟩
  iapply (wp_call_spec turns (c : Thread nD τ) none E (spec c a X2 X3 X4 P f11 f12) 16
    (fun u hu => by cases hu) (spec_le E c a X2 X3 X4 P hP 16 j s hj (by have := hj.1; omega) f11 f12 h0))
  rw [spec_apply]
  isplitl [H]; · iexact H
  iexact Hk

end Cert.SbKernelIdeal.Grad

end
-- ==== Proof.SbIdealRun.lean ====
/-
  The stick-breaking backward call: the body of one head, run from its first load to its last store.
-/
module

public import proofs.«01_k».proof.Proof.SbIdealWhile
public import proofs.«01_k».proof.Proof.Gen.SbKernelIdeal.Loops
public import Idealize.ShloMosaic.Lib.Pipeline.Kit
public import Idealize.ShloMosaic.Lib.Pipeline.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.SbKernelIdeal.Grad

open Cert.SbKernelIdeal Cert.SbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What a trip of the last loop holds: the six inputs, the two sums' buffers, and the three gradients'. -/
abbrev Trip3 (c : Dev nD) (arg1 : Memref sig .tc .vmem S4096x128 .bf16) (arg2 : Memref sig .tc .vmem S4096x128 .bf16) (arg3 : Memref sig .tc .vmem S4096x128 .bf16)
    (arg4 : Memref sig .tc .vmem S256x128 .bf16) (arg5 : Memref sig .tc .vmem S4096x128 .f32) (arg6 : Memref sig .tc .vmem S4096x128 .bf16)
    (arg10 arg11 arg12 : Memref sig .tc .vmem S4096x128 .f32) (arg13 arg14 : Memref sig .tc .vmem S8192x128 .f32)
    (X1 : BufTy.Contents (Elt F) arg1.view.ty) (X2 : BufTy.Contents (Elt F) arg2.view.ty) (X3 : BufTy.Contents (Elt F) arg3.view.ty)
    (X4 : BufTy.Contents (Elt F) arg4.view.ty) (X5 : BufTy.Contents (Elt F) arg5.view.ty) (X6 : BufTy.Contents (Elt F) arg6.view.ty)
    (X13 : BufTy.Contents (Elt F) arg13.view.ty) (X14 : BufTy.Contents (Elt F) arg14.view.ty)
    (f10 : BufTy.Contents (Elt F) arg10.view.ty) (f11 : BufTy.Contents (Elt F) arg11.view.ty) (f12 : BufTy.Contents (Elt F) arg12.view.ty) : sProp 𝕄 :=
  iprop((arg1.view.loc (c : Thread nD τ) ↦[arg1.view.set]{fullShare} X1) ∗ (arg2.view.loc (c : Thread nD τ) ↦[arg2.view.set]{fullShare} X2)
    ∗ (arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg6.view.loc (c : Thread nD τ) ↦[arg6.view.set]{fullShare} X6)
    ∗ (arg10.view.loc (c : Thread nD τ) ↦[arg10.view.set]{fullShare} f10) ∗ (arg11.view.loc (c : Thread nD τ) ↦[arg11.view.set]{fullShare} f11)
    ∗ (arg12.view.loc (c : Thread nD τ) ↦[arg12.view.set]{fullShare} f12) ∗ (arg13.view.loc (c : Thread nD τ) ↦[arg13.view.set]{fullShare} X13)
    ∗ (arg14.view.loc (c : Thread nD τ) ↦[arg14.view.set]{fullShare} X14))

section Last

variable (i : grid0.Coords) (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S256x128 .bf16) (harg4 : arg4.IsWhole)
  (arg5 : Memref sig .tc .vmem S4096x128 .f32) (harg5 : arg5.IsWhole) (arg6 : Memref sig .tc .vmem S4096x128 .bf16) (harg6 : arg6.IsWhole)
  (arg7 : Memref sig .tc .vmem S4096x128 .bf16) (harg7 : arg7.IsWhole) (arg8 : Memref sig .tc .vmem S4096x128 .bf16) (harg8 : arg8.IsWhole)
  (arg9 : Memref sig .tc .vmem S4096x128 .bf16) (harg9 : arg9.IsWhole) (arg10 : Memref sig .tc .vmem S4096x128 .f32) (harg10 : arg10.IsWhole)
  (arg11 : Memref sig .tc .vmem S4096x128 .f32) (harg11 : arg11.IsWhole) (arg12 : Memref sig .tc .vmem S4096x128 .f32) (harg12 : arg12.IsWhole)
  (arg13 : Memref sig .tc .vmem S8192x128 .f32) (harg13 : arg13.IsWhole) (arg14 : Memref sig .tc .vmem S8192x128 .f32) (harg14 : arg14.IsWhole)
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty) (X6 : BufTy.Contents (Elt F) arg6.view.ty)
  (X13 : BufTy.Contents (Elt F) arg13.view.ty) (X14 : BufTy.Contents (Elt F) arg14.view.ty)

/-- The body of the last loop, trip `k`. -/
abbrev body3 (k : Fin k0_t3_loop.trips) : Prog (TpuEff nD τ sig (Elt F) (Λ₀ F) .tc) PUnit :=
  k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 k PUnit.unit

/-- What trip `k` calls the loop over older keys with. -/
abbrev rec3 (k : Fin k0_t3_loop.trips) (p : IVec S256x256 32) (q : FVec F S256x128 .bf16) (g : FVec F S256x128 .bf16) (d : FVec F S256x1 .f32) (s : Carried F) : Cc0While1 F :=
  ⟨i, k, p, arg2, harg2, q, arg4, harg4, arg3, harg3, g, d, arg11, harg11, arg12, harg12, s.1, s.2.1, s.2.2.1, s.2.2.2.1, s.2.2.2.2⟩

/-- The call of the loop over older keys, from a trip of the last loop. -/
theorem call3 (c : Dev nD) (E : Set ℕ) (P : Carried F → BufTy.Contents (Elt F) arg11.view.ty → BufTy.Contents (Elt F) arg12.view.ty → Prop)
    (f11 : BufTy.Contents (Elt F) arg11.view.ty) (f12 : BufTy.Contents (Elt F) arg12.view.ty)
    {k : Fin k0_t3_loop.trips} {p : IVec S256x256 32} {q : FVec F S256x128 .bf16} {g : FVec F S256x128 .bf16} {d : FVec F S256x1 .f32}
    {n : BitVec 32} {u : FVec F S256x1 .f32} {v : FVec F S256x1 .f32} {w : FVec F S256x128 .f32} {x : F .f32}
    (hP : Kept (rec3 i arg2 harg2 arg3 harg3 arg4 harg4 arg11 harg11 arg12 harg12 k p q g d (n, u, v, w, x)) X2 X3 X4 P)
    {j : ℕ} (hj : atTile j n) (h0 : P (n, u, v, w, x) f11 f12)
    {α : Type} {kont : Carried F → Prog (TpuEff nD τ sig (Elt F) (Λ₀ F) .tc) α} {Q : α → sProp 𝕄} :
    iprop(((arg2.view.loc (c : Thread nD τ) ↦[arg2.view.set]{fullShare} X2) ∗ (arg3.view.loc (c : Thread nD τ) ↦[arg3.view.set]{fullShare} X3)
        ∗ (arg4.view.loc (c : Thread nD τ) ↦[arg4.view.set]{fullShare} X4)
        ∗ (arg11.view.loc (c : Thread nD τ) ↦[arg11.view.set]{fullShare} f11) ∗ (arg12.view.loc (c : Thread nD τ) ↦[arg12.view.set]{fullShare} f12))
      ∗ ∀ r : Carried F, ((∃ g11 g12, ((arg2.view.loc (c : Thread nD τ) ↦[arg2.view.set]{fullShare} X2) ∗ (arg3.view.loc (c : Thread nD τ) ↦[arg3.view.set]{fullShare} X3)
        ∗ (arg4.view.loc (c : Thread nD τ) ↦[arg4.view.set]{fullShare} X4)
        ∗ (arg11.view.loc (c : Thread nD τ) ↦[arg11.view.set]{fullShare} g11) ∗ (arg12.view.loc (c : Thread nD τ) ↦[arg12.view.set]{fullShare} g12))
        ∗ ⌜P r g11 g12 ∧ ¬goes (rec3 i arg2 harg2 arg3 harg3 arg4 harg4 arg11 harg11 arg12 harg12 k p q g d r) = 1#1⌝)
          -∗ wp frame (wpE (defs₀ (F := F)) turns (c : Thread nD τ) none) E (kont r) Q))
      ⊢ wp frame (wpE (defs₀ (F := F)) turns (c : Thread nD τ) none) E
          (.op (.call (1 : (Λ₀ F).Label) ⟨i, k, p, arg2, harg2, q, arg4, harg4, arg3, harg3, g, d, arg11, harg11, arg12, harg12, n, u, v, w, x⟩) kont) Q :=
  call_loop E c (rec3 i arg2 harg2 arg3 harg3 arg4 harg4 arg11 harg11 arg12 harg12 k p q g d (n, u, v, w, x)) X2 X3 X4 P hP j (n, u, v, w, x) hj f11 f12 h0
    _ rfl kont Q

set_option maxHeartbeats 4000000 in
/-- One trip of the last loop, for any property the loop over older keys keeps: what it calls that loop with and the piece it
    stores, found by the run. -/
@[irreducible] def trip3 (k : Fin k0_t3_loop.trips) :
    Σ' (p : IVec S256x256 32) (q : FVec F S256x128 .bf16) (g : FVec F S256x128 .bf16) (d : FVec F S256x1 .f32)
      (n : BitVec 32) (u : FVec F S256x1 .f32) (v : FVec F S256x1 .f32) (w : FVec F S256x128 .f32) (x : F .f32),
      { L10 : FVec F S256x128 .f32 → BufTy.Contents (Elt F) arg10.view.ty → List (View.Piece (Elt F) S4096x128 .f32) //
        ∀ (c : Dev nD) (E : Set ℕ) (P : Carried F → BufTy.Contents (Elt F) arg11.view.ty → BufTy.Contents (Elt F) arg12.view.ty → Prop)
          (f10 : BufTy.Contents (Elt F) arg10.view.ty) (f11 : BufTy.Contents (Elt F) arg11.view.ty) (f12 : BufTy.Contents (Elt F) arg12.view.ty),
          Kept (rec3 i arg2 harg2 arg3 harg3 arg4 harg4 arg11 harg11 arg12 harg12 k p q g d (n, u, v, w, x)) X2 X3 X4 P →
          (∃ j, atTile j n) → P (n, u, v, w, x) f11 f12 →
          Trip3 c arg1 arg2 arg3 arg4 arg5 arg6 arg10 arg11 arg12 arg13 arg14 X1 X2 X3 X4 X5 X6 X13 X14 f10 f11 f12
          ⊢ wp frame (wpE (defs₀ (F := F)) turns (c : Thread nD τ) none) E
              (body3 i arg1 harg1 arg2 harg2 arg3 harg3 arg4 harg4 arg5 harg5 arg6 harg6 arg7 harg7 arg8 harg8 arg9 harg9 arg10 harg10 arg11 harg11 arg12 harg12 arg13 harg13 arg14 harg14 k)
              (fun _ => iprop(∃ r1 r2 r3 r4 r5 g11 g12, Trip3 c arg1 arg2 arg3 arg4 arg5 arg6 arg10 arg11 arg12 arg13 arg14 X1 X2 X3 X4 X5 X6 X13 X14
                  (arg10.view.writes (Elt F) f10 (L10 r4 f10)) g11 g12
                ∗ ⌜P (r1, r2, r3, r4, r5) g11 g12 ∧ ¬goes (rec3 i arg2 harg2 arg3 harg3 arg4 harg4 arg11 harg11 arg12 harg12 k p q g d (r1, r2, r3, r4, r5)) = 1#1⌝)) } := by
  have hk : k.val < 32 := Nat.lt_of_lt_of_le k.isLt k0_t3_abs.2.1
  refine ⟨?_, ?_, ?_, ?_, ?_, ?_, ?_, ?_, ?_, ?_, fun c E P f10 f11 f12 hP hn h0 => ?run⟩
  case run =>
    unfold body3 k0_t3_body
    iintro ⟨H1, H2, H3, H4, H5, H6, H10, H11, H12, H13, H14⟩
    sl_exec
    obtain ⟨j, hj⟩ := hn
    iapply (call3 i arg2 harg2 arg3 harg3 arg4 harg4 arg11 harg11 arg12 harg12 X2 X3 X4 c E P f11 f12 hP hj h0)
    isplitl [H2 H3 H4 H11 H12]
    · isplitl [H2]; · iexact H2
      isplitl [H3]; · iexact H3
      isplitl [H4]; · iexact H4
      isplitl [H11]; · iexact H11
      iexact H12
    iintro %r ⟨%g11, %g12, ⟨H2, H3, H4, H11, H12⟩, %hr⟩
    obtain ⟨r1, r2, r3, r4, r5⟩ := r
    sl_exec
    rw [wp_ret]; imodintro
    iexists r1, r2, r3, r4, r5, g11, g12
    isplitl [H1 H2 H3 H4 H5 H6 H10 H11 H12 H13 H14]
    · isplitl [H1]; · iexact H1
      isplitl [H2]; · iexact H2
      isplitl [H3]; · iexact H3
      isplitl [H4]; · iexact H4
      isplitl [H5]; · iexact H5
      isplitl [H6]; · iexact H6
      isplitl [H10]; · iexact H10
      isplitl [H11]; · iexact H11
      isplitl [H12]; · iexact H12
      isplitl [H13]; · iexact H13
      iexact H14
    ipureintro; exact hr

/-- A property of the five scratch buffers that every trip of the first loop keeps. -/
def Kept1 (c : Dev nD) (J : ℕ → BufTy.Contents (Elt F) arg10.view.ty → BufTy.Contents (Elt F) arg11.view.ty → BufTy.Contents (Elt F) arg12.view.ty
    → BufTy.Contents (Elt F) arg13.view.ty → BufTy.Contents (Elt F) arg14.view.ty → Prop) : Prop :=
  ∀ (k : Fin k0_t1_loop.trips) f10 f11 f12 f13 f14, J k.val f10 f11 f12 f13 f14 →
    let T := trip_k0_t1 (F := F) turns c none i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 k
    J (k.val + 1) (arg10.view.writes (Elt F) f10 (T.1 f10 f11 f12 f13 f14)) (arg11.view.writes (Elt F) f11 (T.2.1 f10 f11 f12 f13 f14)) (arg12.view.writes (Elt F) f12 (T.2.2.1 f10 f11 f12 f13 f14))
      (arg13.view.writes (Elt F) f13 (T.2.2.2.1 f10 f11 f12 f13 f14)) (arg14.view.writes (Elt F) f14 (T.2.2.2.2.1 f10 f11 f12 f13 f14))

set_option warn.classDefReducibility false in
/-- The first loop by such a property. -/
def loop1 (c : Dev nD) (E : Set ℕ) (J) (hJ : Kept1 i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 c J) :
    LoopInv (M := MT nD τ sig Unit (Elt F) ℕ (UR sig nD τ) ℕ) Idealize.ShloMosaic.frame (wpE (defs₀ (F := F)) turns (c : Thread nD τ) none) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14) where
  inv n _ := iprop(∃ f13 f14 f10 f11 f12, Trip3 c arg1 arg2 arg3 arg4 arg5 arg6 arg10 arg11 arg12 arg13 arg14 X1 X2 X3 X4 X5 X6 f13 f14 f10 f11 f12
    ∗ ⌜J n f10 f11 f12 f13 f14⌝)
  step k acc := by
    iintro ⟨%f13, %f14, %f10, %f11, %f12, H, %h⟩
    iapply (wp_wand_r Idealize.ShloMosaic.frame (wpE (defs₀ (F := F)) turns (c : Thread nD τ) none) E)
    isplitl [H]
    · iapply ((trip_k0_t1 (F := F) turns c none i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 k).2.2.2.2.2 E f10 f11 f12 f13 f14)
      iexact H
    · iintro %_ H
      iexists _, _, _, _, _
      isplitl [H]; · iexact H
      ipureintro; exact hJ k f10 f11 f12 f13 f14 h

/-- A property of the five scratch buffers that every trip of the second loop keeps. -/
def Kept2 (c : Dev nD) (J : ℕ → BufTy.Contents (Elt F) arg10.view.ty → BufTy.Contents (Elt F) arg11.view.ty → BufTy.Contents (Elt F) arg12.view.ty
    → BufTy.Contents (Elt F) arg13.view.ty → BufTy.Contents (Elt F) arg14.view.ty → Prop) : Prop :=
  ∀ (k : Fin k0_t2_loop.trips) f10 f11 f12 f13 f14, J k.val f10 f11 f12 f13 f14 →
    let T := trip_k0_t2 (F := F) turns c none i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 k
    J (k.val + 1) (arg10.view.writes (Elt F) f10 (T.1 f10 f11 f12 f13 f14)) (arg11.view.writes (Elt F) f11 (T.2.1 f10 f11 f12 f13 f14)) (arg12.view.writes (Elt F) f12 (T.2.2.1 f10 f11 f12 f13 f14))
      (arg13.view.writes (Elt F) f13 (T.2.2.2.1 f10 f11 f12 f13 f14)) (arg14.view.writes (Elt F) f14 (T.2.2.2.2.1 f10 f11 f12 f13 f14))

set_option warn.classDefReducibility false in
/-- The second loop by such a property. -/
def loop2 (c : Dev nD) (E : Set ℕ) (J) (hJ : Kept2 i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 c J) :
    LoopInv (M := MT nD τ sig Unit (Elt F) ℕ (UR sig nD τ) ℕ) Idealize.ShloMosaic.frame (wpE (defs₀ (F := F)) turns (c : Thread nD τ) none) E
      k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14) where
  inv n _ := iprop(∃ f13 f14 f10 f11 f12, Trip3 c arg1 arg2 arg3 arg4 arg5 arg6 arg10 arg11 arg12 arg13 arg14 X1 X2 X3 X4 X5 X6 f13 f14 f10 f11 f12
    ∗ ⌜J n f10 f11 f12 f13 f14⌝)
  step k acc := by
    iintro ⟨%f13, %f14, %f10, %f11, %f12, H, %h⟩
    iapply (wp_wand_r Idealize.ShloMosaic.frame (wpE (defs₀ (F := F)) turns (c : Thread nD τ) none) E)
    isplitl [H]
    · iapply ((trip_k0_t2 (F := F) turns c none i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 k).2.2.2.2.2 E f10 f11 f12 f13 f14)
      iexact H
    · iintro %_ H
      iexists _, _, _, _, _
      isplitl [H]; · iexact H
      ipureintro; exact hJ k f10 f11 f12 f13 f14 h
variable (J : ℕ → BufTy.Contents (Elt F) arg10.view.ty → BufTy.Contents (Elt F) arg11.view.ty → BufTy.Contents (Elt F) arg12.view.ty
  → BufTy.Contents (Elt F) arg13.view.ty → BufTy.Contents (Elt F) arg14.view.ty → Prop)

/-- A property of the five scratch buffers that every trip of the last loop keeps. -/
def Kept3 : Prop :=
  ∀ (k : Fin k0_t3_loop.trips) f10 f11 f12 (X13 : BufTy.Contents (Elt F) arg13.view.ty) (X14 : BufTy.Contents (Elt F) arg14.view.ty), J k.val f10 f11 f12 X13 X14 →
    ∃ P : Carried F → BufTy.Contents (Elt F) arg11.view.ty → BufTy.Contents (Elt F) arg12.view.ty → Prop,
      let T := trip3 i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k
      Kept (rec3 i arg2 harg2 arg3 harg3 arg4 harg4 arg11 harg11 arg12 harg12 k T.1 T.2.1 T.2.2.1 T.2.2.2.1
        (T.2.2.2.2.1, T.2.2.2.2.2.1, T.2.2.2.2.2.2.1, T.2.2.2.2.2.2.2.1, T.2.2.2.2.2.2.2.2.1)) X2 X3 X4 P
      ∧ P (T.2.2.2.2.1, T.2.2.2.2.2.1, T.2.2.2.2.2.2.1, T.2.2.2.2.2.2.2.1, T.2.2.2.2.2.2.2.2.1) f11 f12
      ∧ ∀ r1 r2 r3 r4 r5 g11 g12, P (r1, r2, r3, r4, r5) g11 g12 →
        ¬goes (rec3 i arg2 harg2 arg3 harg3 arg4 harg4 arg11 harg11 arg12 harg12 k T.1 T.2.1 T.2.2.1 T.2.2.2.1 (r1, r2, r3, r4, r5)) = 1#1 →
          J (k.val + 1) (arg10.view.writes (Elt F) f10 (T.2.2.2.2.2.2.2.2.2.1 r4 f10)) g11 g12 X13 X14

theorem key3_all : ∀ k : Fin k0_t3_loop.trips, atTile (k.val - 2) (trip3.sl.v171 k) := by
  unfold trip3.sl.v171 atTile; decide

/-- The keys below which trip `k` starts to look: none before the fourth tile, then tile `k - 2`. -/
theorem key3 (k : Fin k0_t3_loop.trips) : ∃ j, atTile j (trip3 i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k).2.2.2.2.1 := by
  unfold trip3
  refine ⟨k.val - 2, ?_⟩
  exact key3_all k

set_option warn.classDefReducibility false in
/-- The last loop by such a property. -/
def loop3 (c : Dev nD) (E : Set ℕ) (hJ : Kept3 i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 J) :
    LoopInvTy_k0_t3 (F := F) Unit ℕ (UR sig nD τ) ℕ turns c none E i arg1 harg1 arg2 harg2 arg3 harg3 arg4 harg4 arg5 harg5 arg6 harg6 arg7 harg7 arg8 harg8 arg9 harg9 arg10 harg10 arg11 harg11 arg12 harg12 arg13 harg13 arg14 harg14 where
  inv n _ := iprop(∃ X13 X14 f10 f11 f12, Trip3 c arg1 arg2 arg3 arg4 arg5 arg6 arg10 arg11 arg12 arg13 arg14 X1 X2 X3 X4 X5 X6 X13 X14 f10 f11 f12
    ∗ ⌜J n f10 f11 f12 X13 X14⌝)
  step k acc := by
    iintro ⟨%X13, %X14, %f10, %f11, %f12, H, %h⟩
    obtain ⟨P, hP, h0, hend⟩ := hJ k f10 f11 f12 X13 X14 h
    iapply (wp_wand_r Idealize.ShloMosaic.frame (wpE (defs₀ (F := F)) turns (c : Thread nD τ) none) E)
    isplitl [H]
    · iapply ((trip3 i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k).2.2.2.2.2.2.2.2.2.2 c E P f10 f11 f12 hP
        (key3 i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k) h0)
      iexact H
    · iintro %_ ⟨%r1, %r2, %r3, %r4, %r5, %g11, %g12, H, %hr⟩
      iexists X13, X14, _, g11, g12
      isplitl [H]; · iexact H
      ipureintro; exact hend r1 r2 r3 r4 r5 g11 g12 hr.1 hr.2

/-- The whole body: the three loops in their order, for a property each of them keeps. -/
theorem body_run (c : Dev nD) (E : Set ℕ)
    (J : ℕ → BufTy.Contents (Elt F) arg10.view.ty → BufTy.Contents (Elt F) arg11.view.ty → BufTy.Contents (Elt F) arg12.view.ty
      → BufTy.Contents (Elt F) arg13.view.ty → BufTy.Contents (Elt F) arg14.view.ty → Prop)
    (hJ1 : Kept1 i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 c J)
    (hJ2 : Kept2 i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 c (fun n => J (Scf.trips k0_t1_loop.lb k0_t1_loop.ub k0_t1_loop.st + n)))
    (hJ3 : Kept3 i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 (fun n => J (Scf.trips k0_t1_loop.lb k0_t1_loop.ub k0_t1_loop.st + Scf.trips k0_t2_loop.lb k0_t2_loop.ub k0_t2_loop.st + n)))
    (h0 : ∀ f10 f13 f14, J 0 f10 (arg11.view.writes (Elt F) arg11.view.junk [⟨Rect.unit (s := S4096x128) ![0, 0] S4096x128.size inb_S4096x128_S4096x128_0_0, k0_pay123 (F := F)⟩])
      (arg12.view.writes (Elt F) arg12.view.junk [⟨Rect.unit (s := S4096x128) ![0, 0] S4096x128.size inb_S4096x128_S4096x128_0_0, k0_pay124 (F := F)⟩]) f13 f14)
    (G7 : BufTy.Contents (Elt F) arg7.view.ty) (G8 : BufTy.Contents (Elt F) arg8.view.ty) (G9 : BufTy.Contents (Elt F) arg9.view.ty)
    (G10 : BufTy.Contents (Elt F) arg10.view.ty) (G11 : BufTy.Contents (Elt F) arg11.view.ty) (G12 : BufTy.Contents (Elt F) arg12.view.ty)
    (G13 : BufTy.Contents (Elt F) arg13.view.ty) (G14 : BufTy.Contents (Elt F) arg14.view.ty) :
    iprop(Trip3 c arg1 arg2 arg3 arg4 arg5 arg6 arg10 arg11 arg12 arg13 arg14 X1 X2 X3 X4 X5 X6 G13 G14 G10 G11 G12 ∗ (arg7.view.loc (c : Thread nD τ) ↦[arg7.view.set]{fullShare} G7)
     ∗ (arg8.view.loc (c : Thread nD τ) ↦[arg8.view.set]{fullShare} G8) ∗ (arg9.view.loc (c : Thread nD τ) ↦[arg9.view.set]{fullShare} G9))
    ⊢ wp frame (wpE (defs₀ (F := F)) turns (c : Thread nD τ) none) E (cc0_sb_bwd i arg1 harg1 arg2 harg2 arg3 harg3 arg4 harg4 arg5 harg5 arg6 harg6 arg7 harg7 arg8 harg8 arg9 harg9 arg10 harg10 arg11 harg11 arg12 harg12 arg13 harg13 arg14 harg14)
      (fun _ => iprop(∃ g13 g14 g10 g11 g12, Trip3 c arg1 arg2 arg3 arg4 arg5 arg6 arg10 arg11 arg12 arg13 arg14 X1 X2 X3 X4 X5 X6 g13 g14 g10 g11 g12
        ∗ (arg7.view.loc (c : Thread nD τ) ↦[arg7.view.set]{fullShare} arg7.view.writes (Elt F) G7 [⟨Rect.unit (s := S4096x128) ![0, 0] S4096x128.size inb_S4096x128_S4096x128_0_0,
            k0_pay132 (View.readAt (Elt F) arg10.view (Rect.unit (s := S4096x128) ![0, 0] S4096x128.size inb_S4096x128_S4096x128_0_0).toLoadRect g10)⟩])
        ∗ (arg8.view.loc (c : Thread nD τ) ↦[arg8.view.set]{fullShare} arg8.view.writes (Elt F) G8 [⟨Rect.unit (s := S4096x128) ![0, 0] S4096x128.size inb_S4096x128_S4096x128_0_0,
            k0_pay133 (View.readAt (Elt F) arg11.view (Rect.unit (s := S4096x128) ![0, 0] S4096x128.size inb_S4096x128_S4096x128_0_0).toLoadRect g11)⟩])
        ∗ (arg9.view.loc (c : Thread nD τ) ↦[arg9.view.set]{fullShare} arg9.view.writes (Elt F) G9 [⟨Rect.unit (s := S4096x128) ![0, 0] S4096x128.size inb_S4096x128_S4096x128_0_0,
            k0_pay134 (View.readAt (Elt F) arg12.view (Rect.unit (s := S4096x128) ![0, 0] S4096x128.size inb_S4096x128_S4096x128_0_0).toLoadRect g12)⟩])
        ∗ ⌜J (Scf.trips k0_t1_loop.lb k0_t1_loop.ub k0_t1_loop.st + Scf.trips k0_t2_loop.lb k0_t2_loop.ub k0_t2_loop.st
            + Scf.trips k0_t3_loop.lb k0_t3_loop.ub k0_t3_loop.st) g10 g11 g12 g13 g14⌝)) := by
  simp only [cc0_sb_bwd_eq_skeleton]; unfold cc0_sb_bwd_skel
  simp only [k0_part19_eq_skeleton]
  iintro ⟨⟨H1, H2, H3, H4, H5, H6, H10, H11, H12, H13, H14⟩, H7, H8, H9⟩
  have h00 := h0 G10 G13 G14
  let L1 := loop1 i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 c E _ hJ1
  let L2 := loop2 i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 c E _ hJ2
  let L3 := loop3 i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 _ c E hJ3
  sl_exec
  rw [wp_ret]; imodintro
  iexists _, _, _, _, _
  isplitl [H1 H2 H3 H4 H5 H6 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H10]; · iexact H10
    isplitl [H11]; · iexact H11
    isplitl [H12]; · iexact H12
    isplitl [H13]; · iexact H13
    iexact H14
  isplitl [H7]; · iexact H7
  isplitl [H8]; · iexact H8
  isplitl [H9]; · iexact H9
  ipureintro; assumption

end Last

end Cert.SbKernelIdeal.Grad

end
-- ==== Proof.SbIdealFrame.lean ====
/-
  The stick-breaking backward call: the run of the whole launch, and its frame.
-/
module

public import proofs.«01_k».proof.Proof.SbIdealRun
public import proofs.«01_k».proof.Proof.Gen.SbKernelIdeal.Loops
public import Idealize.ShloMosaic.Lib.Pipeline.Kit
public import Idealize.ShloMosaic.Lib.Pipeline.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.SbKernelIdeal.Grad

open Cert.SbKernelIdeal Cert.SbKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The outputs' windows: what the frame says nothing of. -/
abbrev outWin (w : Fin (cfg0 (F := F)).W) : Bool := decide (6 ≤ w.val)

/-- The proof data of the pipeline: the arrays as the region finds them, each input left at its block, the outputs at `o`. -/
def dats (o : (c : Dev nD) → (t : Fin (cfg0 (F := F)).N) → Vec F S4096x128 .bf16 × Vec F S4096x128 .bf16 × Vec F S4096x128 .bf16)
    (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (o c t).1
    | ⟨7, _⟩ => (o c t).2.1
    | ⟨8, _⟩ => (o c t).2.2
  Φ _ := Pipeline.ΦA spec0 c
  q w := Pipeline.shareOf spec0 w
  owed _ := 0

section Data

variable (o : (c : Dev nD) → (t : Fin (cfg0 (F := F)).N) → Vec F S4096x128 .bf16 × Vec F S4096x128 .bf16 × Vec F S4096x128 .bf16)

theorem A_eq (c : Dev nD) (w : Fin (cfg0 (F := F)).W) : (dats m o 0 c).A w = V m c (Pipeline.arrRef spec0 w) := by
  dsimp only [dats]

theorem after0_0 (c : Dev nD) (t : Fin (cfg0 (F := F)).N) : (dats m o 0 c).after 0 t = iblk m c 0 t := rfl
theorem after0_1 (c : Dev nD) (t : Fin (cfg0 (F := F)).N) : (dats m o 0 c).after 1 t = iblk m c 1 t := rfl
theorem after0_2 (c : Dev nD) (t : Fin (cfg0 (F := F)).N) : (dats m o 0 c).after 2 t = iblk m c 2 t := rfl
theorem after0_3 (c : Dev nD) (t : Fin (cfg0 (F := F)).N) : (dats m o 0 c).after 3 t = iblk m c 3 t := rfl
theorem after0_4 (c : Dev nD) (t : Fin (cfg0 (F := F)).N) : (dats m o 0 c).after 4 t = iblk m c 4 t := rfl
theorem after0_5 (c : Dev nD) (t : Fin (cfg0 (F := F)).N) : (dats m o 0 c).after 5 t = iblk m c 5 t := rfl
theorem after0_6 (c : Dev nD) (t : Fin (cfg0 (F := F)).N) : (dats m o 0 c).after 6 t = (o c t).1 := rfl
theorem after0_7 (c : Dev nD) (t : Fin (cfg0 (F := F)).N) : (dats m o 0 c).after 7 t = (o c t).2.1 := rfl
theorem after0_8 (c : Dev nD) (t : Fin (cfg0 (F := F)).N) : (dats m o 0 c).after 8 t = (o c t).2.2 := rfl

/-- Each input's buffer holds its block at every point. -/
theorem before0_0 (c : Dev nD) (t : Fin (cfg0 (F := F)).N) (d) : (dats m o 0 c).before 0 t d = iblk m c 0 t :=
  before0_0_of m (dats m o 0 c) (A_eq m o c 0) (after0_0 m o c) t d
theorem before0_1 (c : Dev nD) (t : Fin (cfg0 (F := F)).N) (d) : (dats m o 0 c).before 1 t d = iblk m c 1 t :=
  before0_1_of m (dats m o 0 c) (A_eq m o c 1) (after0_1 m o c) t d
theorem before0_2 (c : Dev nD) (t : Fin (cfg0 (F := F)).N) (d) : (dats m o 0 c).before 2 t d = iblk m c 2 t :=
  before0_2_of m (dats m o 0 c) (A_eq m o c 2) (after0_2 m o c) t d
theorem before0_3 (c : Dev nD) (t : Fin (cfg0 (F := F)).N) (d) : (dats m o 0 c).before 3 t d = iblk m c 3 t :=
  before0_3_of m (dats m o 0 c) (A_eq m o c 3) (after0_3 m o c) t d
theorem before0_4 (c : Dev nD) (t : Fin (cfg0 (F := F)).N) (d) : (dats m o 0 c).before 4 t d = iblk m c 4 t :=
  before0_4_of m (dats m o 0 c) (A_eq m o c 4) (after0_4 m o c) t d
theorem before0_5 (c : Dev nD) (t : Fin (cfg0 (F := F)).N) (d) : (dats m o 0 c).before 5 t d = iblk m c 5 t :=
  before0_5_of m (dats m o 0 c) (A_eq m o c 5) (after0_5 m o c) t d

end Data

set_option maxHeartbeats 4000000 in
/-- The body of one head, at the blocks its inputs hold, for a property of the scratch buffers that the three loops keep: it
    ends with the inputs as they were, the outputs at the three sums the scratch buffers hold, and that property of them. -/
theorem body_at (c : Dev nD) (t : Fin (cfg0 (F := F)).N)
    (J : ℕ → FVec F S4096x128 .f32 → FVec F S4096x128 .f32 → FVec F S4096x128 .f32 → FVec F S8192x128 .f32 → FVec F S8192x128 .f32 → Prop)
    (x0 x1 x2 : Vec F S4096x128 .bf16) (x3 : Vec F S256x128 .bf16) (x4 : Vec F S4096x128 .f32) (x5 : Vec F S4096x128 .bf16)
    (hJ : ∀ X1 X2 X3 X4 X5 X6, (ms0_0 t).view.read (Elt F) X1 = x0 → (ms0_1 t).view.read (Elt F) X2 = x1 → (ms0_2 t).view.read (Elt F) X3 = x2
        → (ms0_3 t).view.read (Elt F) X4 = x3 → (ms0_4 t).view.read (Elt F) X5 = x4 → (ms0_5 t).view.read (Elt F) X6 = x5 →
      Kept1 (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) X1 X2 X3 X4 X5 X6 c J
      ∧ Kept2 (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) X1 X2 X3 X4 X5 X6 c (fun n => J (Scf.trips k0_t1_loop.lb k0_t1_loop.ub k0_t1_loop.st + n))
      ∧ Kept3 (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) X1 X2 X3 X4 X5 X6 (fun n => J (Scf.trips k0_t1_loop.lb k0_t1_loop.ub k0_t1_loop.st + Scf.trips k0_t2_loop.lb k0_t2_loop.ub k0_t2_loop.st + n)))
    (h0 : ∀ f10 f13 f14, J 0 f10 (scM0_1.view.writes (Elt F) scM0_1.view.junk [⟨Rect.unit (s := S4096x128) ![0, 0] S4096x128.size inb_S4096x128_S4096x128_0_0, k0_pay123 (F := F)⟩])
      (scM0_2.view.writes (Elt F) scM0_2.view.junk [⟨Rect.unit (s := S4096x128) ![0, 0] S4096x128.size inb_S4096x128_S4096x128_0_0, k0_pay124 (F := F)⟩]) f13 f14) :
    (iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))
      ∗ owns (c : Thread nD τ) (ms0_0 t) fullShare x0 ∗ owns (c : Thread nD τ) (ms0_1 t) fullShare x1 ∗ owns (c : Thread nD τ) (ms0_2 t) fullShare x2
      ∗ owns (c : Thread nD τ) (ms0_3 t) fullShare x3 ∗ owns (c : Thread nD τ) (ms0_4 t) fullShare x4 ∗ owns (c : Thread nD τ) (ms0_5 t) fullShare x5
      ∗ (∃ d, owns (c : Thread nD τ) (ms0_6 t) fullShare d) ∗ (∃ d, owns (c : Thread nD τ) (ms0_7 t) fullShare d) ∗ (∃ d, owns (c : Thread nD τ) (ms0_8 t) fullShare d)) : sProp 𝕄)
    ⊢ wp frame (wpE (defs₀ (F := F)) turns (c : Thread nD τ) none) Set.univ (bodyAt0 t) (fun _ =>
      iprop(iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r))
      ∗ owns (c : Thread nD τ) (ms0_0 t) fullShare x0 ∗ owns (c : Thread nD τ) (ms0_1 t) fullShare x1 ∗ owns (c : Thread nD τ) (ms0_2 t) fullShare x2
      ∗ owns (c : Thread nD τ) (ms0_3 t) fullShare x3 ∗ owns (c : Thread nD τ) (ms0_4 t) fullShare x4 ∗ owns (c : Thread nD τ) (ms0_5 t) fullShare x5
      ∗ ∃ g10 g11 g12 g13 g14 e6 e7 e8, owns (c : Thread nD τ) (ms0_6 t) fullShare ((ms0_6 t).view.read (Elt F) ((ms0_6 t).view.writes (Elt F) e6 [⟨Rect.unit (s := S4096x128) ![0, 0] S4096x128.size inb_S4096x128_S4096x128_0_0,
            k0_pay132 (View.readAt (Elt F) scM0_0.view (Rect.unit (s := S4096x128) ![0, 0] S4096x128.size inb_S4096x128_S4096x128_0_0).toLoadRect g10)⟩]))
        ∗ owns (c : Thread nD τ) (ms0_7 t) fullShare ((ms0_7 t).view.read (Elt F) ((ms0_7 t).view.writes (Elt F) e7 [⟨Rect.unit (s := S4096x128) ![0, 0] S4096x128.size inb_S4096x128_S4096x128_0_0,
            k0_pay133 (View.readAt (Elt F) scM0_1.view (Rect.unit (s := S4096x128) ![0, 0] S4096x128.size inb_S4096x128_S4096x128_0_0).toLoadRect g11)⟩]))
        ∗ owns (c : Thread nD τ) (ms0_8 t) fullShare ((ms0_8 t).view.read (Elt F) ((ms0_8 t).view.writes (Elt F) e8 [⟨Rect.unit (s := S4096x128) ![0, 0] S4096x128.size inb_S4096x128_S4096x128_0_0,
            k0_pay134 (View.readAt (Elt F) scM0_2.view (Rect.unit (s := S4096x128) ![0, 0] S4096x128.size inb_S4096x128_S4096x128_0_0).toLoadRect g12)⟩]))
        ∗ ⌜J (Scf.trips k0_t1_loop.lb k0_t1_loop.ub k0_t1_loop.st + Scf.trips k0_t2_loop.lb k0_t2_loop.ub k0_t2_loop.st
            + Scf.trips k0_t3_loop.lb k0_t3_loop.ub k0_t3_loop.st) g10 g11 g12 g13 g14⌝)) := by
  unfold owns
  iintro ⟨⟨⟨⟨%d10, %f10, -, H10⟩, ⟨%d11, %f11, -, H11⟩, ⟨%d12, %f12, -, H12⟩, ⟨%d13, %f13, -, H13⟩, ⟨%d14, %f14, -, H14⟩⟩, Hg⟩,
    ⟨%X1, %h1, H1⟩, ⟨%X2, %h2, H2⟩, ⟨%X3, %h3, H3⟩, ⟨%X4, %h4, H4⟩, ⟨%X5, %h5, H5⟩, ⟨%X6, %h6, H6⟩,
    ⟨%d7, %f7, -, H7⟩, ⟨%d8, %f8, -, H8⟩, ⟨%d9, %f9, -, H9⟩⟩
  obtain ⟨hJ1, hJ2, hJ3⟩ := hJ X1 X2 X3 X4 X5 X6 h1 h2 h3 h4 h5 h6
  iapply (wp_wand_r Idealize.ShloMosaic.frame (wpE (defs₀ (F := F)) turns (c : Thread nD τ) none) Set.univ)
  isplitl [H1 H2 H3 H4 H5 H6 H7 H8 H9 H10 H11 H12 H13 H14]
  · iapply (body_run (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) X1 X2 X3 X4 X5 X6 c Set.univ J hJ1 hJ2 hJ3 h0 f7 f8 f9 f10 f11 f12 f13 f14)
    isplitl [H1 H2 H3 H4 H5 H6 H10 H11 H12 H13 H14]
    · isplitl [H1]; · iexact H1
      isplitl [H2]; · iexact H2
      isplitl [H3]; · iexact H3
      isplitl [H4]; · iexact H4
      isplitl [H5]; · iexact H5
      isplitl [H6]; · iexact H6
      isplitl [H10]; · iexact H10
      isplitl [H11]; · iexact H11
      isplitl [H12]; · iexact H12
      isplitl [H13]; · iexact H13
      iexact H14
    isplitl [H7]; · iexact H7
    isplitl [H8]; · iexact H8
    iexact H9
  iintro %_ ⟨%g13, %g14, %g10, %g11, %g12, ⟨H1, H2, H3, H4, H5, H6, H10, H11, H12, H13, H14⟩, H7, H8, H9, %hend⟩
  isplitl [H10 H11 H12 H13 H14 Hg]
  · isplitl [H10 H11 H12 H13 H14]
    · isplitl [H10]; · iexists _, _; isplitr; swap; · iexact H10
                       ipureintro; rfl
      isplitl [H11]; · iexists _, _; isplitr; swap; · iexact H11
                       ipureintro; rfl
      isplitl [H12]; · iexists _, _; isplitr; swap; · iexact H12
                       ipureintro; rfl
      isplitl [H13]; · iexists _, _; isplitr; swap; · iexact H13
                       ipureintro; rfl
      iexists _, _; isplitr; swap; · iexact H14
      ipureintro; rfl
    iexact Hg
  isplitl [H1]; · iexists _; isplitr; · ipureintro; exact h1
                  iexact H1
  isplitl [H2]; · iexists _; isplitr; · ipureintro; exact h2
                  iexact H2
  isplitl [H3]; · iexists _; isplitr; · ipureintro; exact h3
                  iexact H3
  isplitl [H4]; · iexists _; isplitr; · ipureintro; exact h4
                  iexact H4
  isplitl [H5]; · iexists _; isplitr; · ipureintro; exact h5
                  iexact H5
  isplitl [H6]; · iexists _; isplitr; · ipureintro; exact h6
                  iexact H6
  iexists g10, g11, g12, g13, g14, f7, f8, f9
  isplitl [H7]; · iexists _; isplitr; swap; · iexact H7
                  ipureintro; rfl
  isplitl [H8]; · iexists _; isplitr; swap; · iexact H8
                  ipureintro; rfl
  isplitl [H9]; · iexists _; isplitr; swap; · iexact H9
                  ipureintro; rfl
  ipureintro; exact hend

/-- Every property the loops can keep: the one that says nothing. -/
theorem says_nothing (c : Dev nD) (t : Fin (cfg0 (F := F)).N) (X1 X2 X3 X4 X5 X6) :
    Kept1 (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) X1 X2 X3 X4 X5 X6 c (fun _ _ _ _ _ _ => True)
      ∧ Kept2 (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) X1 X2 X3 X4 X5 X6 c (fun _ _ _ _ _ _ => True)
      ∧ Kept3 (F := F) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) X1 X2 X3 X4 X5 X6 (fun _ _ _ _ _ _ => True) :=
  ⟨fun _ _ _ _ _ _ _ => trivial, fun _ _ _ _ _ _ _ => trivial,
    fun _ _ _ _ _ _ _ => ⟨fun _ _ _ => True, fun _ _ _ _ _ _ => trivial, trivial, fun _ _ _ _ _ _ _ _ _ => trivial⟩⟩

/-- The body table's row at a point's slots is the body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- Contents for the outputs that nothing reads. -/
def anyOut (c : Dev nD) (t : Fin (cfg0 (F := F)).N) : Vec F S4096x128 .bf16 × Vec F S4096x128 .bf16 × Vec F S4096x128 .bf16 :=
  (VO0_6.read (Elt F) VO0_6.junk, VO0_7.read (Elt F) VO0_7.junk, VO0_8.read (Elt F) VO0_8.junk)

set_option maxHeartbeats 1200000 in
/-- One point of the pipeline, its outputs handed over and taken back at some contents. -/
theorem point_frame (c : Dev nD) (t : Fin (cfg0 (F := F)).N) :
    iprop((dats m anyOut 0 c).Φ t.castSucc ∗ (dats m anyOut 0 c).owesAt () t.castSucc
    ∗ (∃ d, owns (c : Thread nD τ) (ms0_0 t) fullShare ((dats m anyOut 0 c).before 0 t d))
    ∗ (∃ d, owns (c : Thread nD τ) (ms0_1 t) fullShare ((dats m anyOut 0 c).before 1 t d))
    ∗ (∃ d, owns (c : Thread nD τ) (ms0_2 t) fullShare ((dats m anyOut 0 c).before 2 t d))
    ∗ (∃ d, owns (c : Thread nD τ) (ms0_3 t) fullShare ((dats m anyOut 0 c).before 3 t d))
    ∗ (∃ d, owns (c : Thread nD τ) (ms0_4 t) fullShare ((dats m anyOut 0 c).before 4 t d))
    ∗ (∃ d, owns (c : Thread nD τ) (ms0_5 t) fullShare ((dats m anyOut 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))
    ⊢ wp frame (wpE (defs₀ (F := F)) turns (c : Thread nD τ) none) Set.univ (bodyAt0 t) (fun _ =>
      iprop((dats m anyOut 0 c).Φ t.succ ∗ (dats m anyOut 0 c).owesAt () t.succ
    ∗ owns (c : Thread nD τ) (ms0_0 t) fullShare ((dats m anyOut 0 c).after 0 t)
    ∗ owns (c : Thread nD τ) (ms0_1 t) fullShare ((dats m anyOut 0 c).after 1 t)
    ∗ owns (c : Thread nD τ) (ms0_2 t) fullShare ((dats m anyOut 0 c).after 2 t)
    ∗ owns (c : Thread nD τ) (ms0_3 t) fullShare ((dats m anyOut 0 c).after 3 t)
    ∗ owns (c : Thread nD τ) (ms0_4 t) fullShare ((dats m anyOut 0 c).after 4 t)
    ∗ owns (c : Thread nD τ) (ms0_5 t) fullShare ((dats m anyOut 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d))) := by
  simp only [before0_0, before0_1, before0_2, before0_3, before0_4, before0_5]
  rw [show (dats m anyOut 0 c).Φ t.succ = (dats m anyOut 0 c).Φ t.castSucc from rfl,
    show (dats m anyOut 0 c).owesAt () t.succ = (dats m anyOut 0 c).owesAt () t.castSucc from rfl,
    after0_0, after0_1, after0_2, after0_3, after0_4, after0_5]
  rw [show (dats m anyOut 0 c).Φ t.castSucc = Pipeline.ΦA spec0 c from rfl, PhiA0_eq]
  iintro ⟨HS, Ho, ⟨%d0, H0⟩, ⟨%d1, H1⟩, ⟨%d2, H2⟩, ⟨%d3, H3⟩, ⟨%d4, H4⟩, ⟨%d5, H5⟩, H6, H7, H8⟩
  iapply (wp_wand_r Idealize.ShloMosaic.frame (wpE (defs₀ (F := F)) turns (c : Thread nD τ) none) Set.univ)
  isplitl [HS H0 H1 H2 H3 H4 H5 H6 H7 H8]
  · iapply (body_at c t (fun _ _ _ _ _ _ => True) (iblk m c 0 t) (iblk m c 1 t) (iblk m c 2 t) (iblk m c 3 t) (iblk m c 4 t) (iblk m c 5 t)
      (fun X1 X2 X3 X4 X5 X6 _ _ _ _ _ _ => says_nothing c t X1 X2 X3 X4 X5 X6) (fun _ _ _ => trivial))
    isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro %_ ⟨HS, H0, H1, H2, H3, H4, H5, %g10, %g11, %g12, %g13, %g14, %e6, %e7, %e8, H6, H7, H8, -⟩
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iexists _; iexact H8

/-- The pipeline's obligation, with the outputs left at some contents. -/
theorem body_frame (c : Dev nD) : Pipeline.BodyObligationLoose (dats (F := F) m anyOut 0 c) (defs₀ (F := F)) turns () Set.univ outWin := fun t => by
  rw [bigSep_W0, bigSep_W0, defs₀_row]
  exact triple_restated (point_frame m c t) rfl .rfl fun _ => .rfl

set_option backward.isDefEq.respectTransparency.types false in
/-- The launch: every run ends with the buffers outside the pipeline as the region found them and every counter at zero. -/
theorem run_frame : θ_run defs (onTc (τ := τ) (main (F := F))) (s₀ m ρ)
    (fun r => (∀ c : Dev nD, ∀ b ∈ Pipeline.restRefs sig spec0, r.2.mem ((c.tc : Thread nD τ).loc b) = V m c b) ∧ r.2.sem = fun _ => 0) :=
  Pipeline.θ_run_frame_forget_shared (cfgs (F := F)) (dats m anyOut) (0 : Fin 1) launch₀0 defs₀ turns outWin m ρ main
    (hbody := fun c => body_frame m c) (hq := fun _ _ _ => rfl)
    (howed := fun _ _ => rfl) (V := V m) (hmain := hmain m turns) (hA := A_eq m anyOut) (hΦ := fun _ _ => rfl)
    (Q' := _) (hQ' := fun _ h => ⟨fun c => (h.1 c).2, h.2⟩)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c main_arg0 (Pipeline.mem_restRefs_of main_arg0 (by decide) (by decide : ∀ w : Fin 9, (spec0 w).arr.view.ref ≠ main_arg0))).trans (V_main_arg0 m c),
      (h.1 c main_arg1 (Pipeline.mem_restRefs_of main_arg1 (by decide) (by decide : ∀ w : Fin 9, (spec0 w).arr.view.ref ≠ main_arg1))).trans (V_main_arg1 m c),
      (h.1 c main_arg2 (Pipeline.mem_restRefs_of main_arg2 (by decide) (by decide : ∀ w : Fin 9, (spec0 w).arr.view.ref ≠ main_arg2))).trans (V_main_arg2 m c),
      (h.1 c main_arg3 (Pipeline.mem_restRefs_of main_arg3 (by decide) (by decide : ∀ w : Fin 9, (spec0 w).arr.view.ref ≠ main_arg3))).trans (V_main_arg3 m c)⟩, h.2⟩) (run_frame m ρ)

end Cert.SbKernelIdeal.Grad

end
-- ==== Proof.SbMath.lean ====
/-
  The stick-breaking backward pass over real numbers: one row (a query of one head) against all keys, and the same row taken
  window by window from the newest keys down. Nothing here speaks of a program.
-/
module

public import Mathlib.Algebra.BigOperators.Fin
public import Mathlib.Algebra.BigOperators.Intervals
public import Mathlib.Analysis.SpecialFunctions.Log.Basic

@[expose] public section

noncomputable section

namespace Cert.SbMath

open scoped BigOperators

/-- Softplus. -/
def sp (x : ℝ) : ℝ := Real.log (1 + Real.exp x)

/-! ### Sums over a window of the keys -/

/-- A sum over all keys whose terms vanish outside a window is the sum over the window. -/
theorem sum_window {T k0 N : ℕ} (hN : k0 + N ≤ T) (f : ℕ → ℝ) (hf : ∀ s, ¬(k0 ≤ s ∧ s < k0 + N) → f s = 0) :
    ∑ s ∈ Finset.range T, f s = ∑ i : Fin N, f (k0 + i) := by
  have h := Finset.sum_Ico_eq_sum_range f k0 (k0 + N)
  rw [Nat.add_sub_cancel_left] at h
  rw [Fin.sum_univ_eq_sum_range (fun i => f (k0 + i)) N, ← h]
  symm
  apply Finset.sum_subset
  · intro s hs; simp only [Finset.mem_Ico, Finset.mem_range] at *; omega
  · intro s hs hn; simp only [Finset.mem_Ico, Finset.mem_range] at *; exact hf s hn

/-- The part of a sum at or above a key. -/
def above (T : ℕ) (f : ℕ → ℝ) (L : ℕ) : ℝ := ∑ s ∈ Finset.range T, if L ≤ s then f s else 0

/-- Nothing lies at or above the end. -/
theorem above_end (T : ℕ) (f : ℕ → ℝ) : above T f T = 0 :=
  Finset.sum_eq_zero fun s hs => if_neg (by have := Finset.mem_range.1 hs; omega)

/-- Everything lies at or above zero. -/
theorem above_zero (T : ℕ) (f : ℕ → ℝ) : above T f 0 = ∑ s ∈ Finset.range T, f s :=
  Finset.sum_congr rfl fun s _ => if_pos (Nat.zero_le s)

/-- A part above a lower key is the part above a higher key and the window between. -/
theorem above_step {T k0 N U b : ℕ} (hN : k0 + N ≤ T) (hb : k0 ≤ b) (hbU : b ≤ U) (f : ℕ → ℝ)
    (hf : ∀ s, k0 + N ≤ s → s < U → f s = 0) :
    above T f b = (∑ i : Fin N, if b ≤ k0 + (i : ℕ) ∧ k0 + (i : ℕ) < U then f (k0 + i) else 0) + above T f U := by
  rw [← sum_window hN (fun s => if b ≤ s ∧ s < U then f s else 0), above, above, ← Finset.sum_add_distrib]
  · refine Finset.sum_congr rfl fun s _ => ?_
    by_cases h1 : b ≤ s <;> by_cases h2 : U ≤ s <;> simp [h1, h2] <;> omega
  · intro s hs
    by_cases h : b ≤ s ∧ s < U
    · rw [if_pos h]; exact hf s (by omega) h.2
    · rw [if_neg h]

/-! ### One row -/

section Row
variable (T t : ℕ) (z g : ℕ → ℝ)

/-- The log of what a key leaves of the stick. -/
def lk (s : ℕ) : ℝ := if s < t then -sp (z s) else 0

/-- The weight of a key: its share of what the newer keys leave. -/
def ww (s : ℕ) : ℝ := if s < t then Real.exp (z s - sp (z s) + above T (lk t z) (s + 1)) else 0

/-- The weight times its gradient. -/
def ee (s : ℕ) : ℝ := ww T t z s * g s

/-- The gradient of the score. -/
def dz (s : ℕ) : ℝ := if s < t then ee T t z g s
  - Real.exp (z s - sp (z s)) * ((∑ s' ∈ Finset.range T, ee T t z g s') - above T (ee T t z g) (s + 1)) else 0

theorem lk_zero {s : ℕ} (h : t ≤ s) : lk t z s = 0 := if_neg (by omega)
theorem ww_zero {s : ℕ} (h : t ≤ s) : ww T t z s = 0 := if_neg (by omega)
theorem ee_zero {s : ℕ} (h : t ≤ s) : ee T t z g s = 0 := by rw [ee, ww_zero T t z h, zero_mul]
theorem dz_zero {s : ℕ} (h : t ≤ s) : dz T t z g s = 0 := if_neg (by omega)

/-! ### One row's window: `N` keys from `k0` on, of which those below `U` have not been seen -/

variable (k0 U N : ℕ) (zw gw : Fin N → ℝ) (keep : Fin N → Prop) [DecidablePred keep] (c ce dd : ℝ)

/-- The logs of the window's keys. -/
def lkW (i : Fin N) : ℝ := if keep i then -sp (zw i) else 0
/-- The sum over the window's later keys. -/
def tailW (f : Fin N → ℝ) (i : Fin N) : ℝ := ∑ j, if i < j then f j else 0
/-- The window's weights, from the sum of logs `c` over the keys above it. -/
def wwW (i : Fin N) : ℝ := if keep i then Real.exp (zw i - sp (zw i) + tailW N (lkW N zw keep) i + c) else 0
/-- The window's weights times their gradients. -/
def eeW (i : Fin N) : ℝ := wwW N zw keep c i * gw i
/-- The window's gradients of the scores, from the row's sum `dd` and the sum `ce` over the keys above. -/
def dzW (i : Fin N) : ℝ := if keep i then eeW N zw gw keep c i
  - Real.exp (zw i - sp (zw i)) * (dd - ce - tailW N (eeW N zw gw keep c) i) else 0

variable {T t z g k0 U N zw gw keep c ce dd}

/-- What a window has to do with its row. -/
structure Fits (T t : ℕ) (z g : ℕ → ℝ) (k0 U N : ℕ) (zw gw : Fin N → ℝ) (keep : Fin N → Prop) : Prop where
  inside : k0 + N ≤ T
  low : k0 ≤ U
  reach : ∀ s, k0 + N ≤ s → s < U → t ≤ s
  z_eq : ∀ i, zw i = z (k0 + i)
  g_eq : ∀ i, gw i = g (k0 + i)
  keep_iff : ∀ i, keep i ↔ k0 + (i : ℕ) < t ∧ k0 + (i : ℕ) < U

/-- The later keys of a window and the keys above it are all later keys. -/
theorem tail_eq (H : Fits T t z g k0 U N zw gw keep) (f : ℕ → ℝ) (fw : Fin N → ℝ) (hf : ∀ s, t ≤ s → f s = 0)
    (hw : ∀ i, fw i = if k0 + (i : ℕ) < U then f (k0 + i) else 0) (i : Fin N) (hi : keep i) :
    tailW N fw i + above T f U = above T f (k0 + i + 1) := by
  have hk := (H.keep_iff i).1 hi
  rw [above_step (b := k0 + i + 1) (U := U) H.inside (by omega) (by omega) f fun s h1 h2 => hf s (H.reach s h1 h2)]
  congr 1
  refine Finset.sum_congr rfl fun j _ => ?_
  rw [hw]
  by_cases h : i < j
  · have : (i : ℕ) < j := h
    by_cases h2 : k0 + (j : ℕ) < U
    · simp [h, h2]
    · simp [h, h2]
  · have : ¬(i : ℕ) < j := h
    rw [if_neg h, if_neg (by omega)]

/-- A window's sum and the sum above it. -/
theorem total_eq (H : Fits T t z g k0 U N zw gw keep) (f : ℕ → ℝ) (fw : Fin N → ℝ) (hf : ∀ s, t ≤ s → f s = 0)
    (hw : ∀ i, fw i = if k0 + (i : ℕ) < U then f (k0 + i) else 0) :
    above T f U + ∑ i, fw i = above T f k0 := by
  rw [above_step (b := k0) (U := U) H.inside (le_refl _) H.low f fun s h1 h2 => hf s (H.reach s h1 h2), add_comm]
  congr 1
  refine Finset.sum_congr rfl fun j _ => ?_
  rw [hw]
  by_cases h2 : k0 + (j : ℕ) < U <;> simp [h2]

theorem lkW_eq (H : Fits T t z g k0 U N zw gw keep) (i : Fin N) :
    lkW N zw keep i = if k0 + (i : ℕ) < U then lk t z (k0 + i) else 0 := by
  have := H.keep_iff i
  by_cases h : k0 + (i : ℕ) < U <;> by_cases h' : k0 + (i : ℕ) < t <;> simp [lkW, lk, this, h, h', H.z_eq]

theorem wwW_eq (H : Fits T t z g k0 U N zw gw keep) (hc : c = above T (lk t z) U) (i : Fin N) :
    wwW N zw keep c i = if k0 + (i : ℕ) < U then ww T t z (k0 + i) else 0 := by
  have hk := H.keep_iff i
  by_cases hi : keep i
  · rw [wwW, if_pos hi, if_pos (hk.1 hi).2, ww, if_pos (hk.1 hi).1, ← tail_eq H (lk t z) _ (fun s h => lk_zero t z h) (lkW_eq H) i hi,
      H.z_eq, hc, add_assoc]
  · rw [wwW, if_neg hi]
    by_cases h : k0 + (i : ℕ) < U
    · rw [if_pos h, ww_zero]; by_contra h'; exact hi (hk.2 ⟨by omega, h⟩)
    · rw [if_neg h]

theorem eeW_eq (H : Fits T t z g k0 U N zw gw keep) (hc : c = above T (lk t z) U) (i : Fin N) :
    eeW N zw gw keep c i = if k0 + (i : ℕ) < U then ee T t z g (k0 + i) else 0 := by
  rw [eeW, wwW_eq H hc, H.g_eq, ee]
  by_cases h : k0 + (i : ℕ) < U <;> simp [h]

theorem dzW_eq (H : Fits T t z g k0 U N zw gw keep) (hc : c = above T (lk t z) U) (hce : ce = above T (ee T t z g) U)
    (hdd : dd = ∑ s ∈ Finset.range T, ee T t z g s) (i : Fin N) :
    dzW N zw gw keep c ce dd i = if k0 + (i : ℕ) < U then dz T t z g (k0 + i) else 0 := by
  have hk := H.keep_iff i
  by_cases hi : keep i
  · rw [dzW, if_pos hi, if_pos (hk.1 hi).2, dz, if_pos (hk.1 hi).1, eeW_eq H hc, if_pos (hk.1 hi).2, H.z_eq, hdd, hce,
      ← tail_eq H (ee T t z g) _ (fun s h => ee_zero T t z g h) (eeW_eq H hc) i hi]
    ring
  · rw [dzW, if_neg hi]
    by_cases h : k0 + (i : ℕ) < U
    · rw [if_pos h, dz_zero]; by_contra h'; exact hi (hk.2 ⟨by omega, h⟩)
    · rw [if_neg h]

theorem c_step (H : Fits T t z g k0 U N zw gw keep) (hc : c = above T (lk t z) U) :
    c + ∑ i, lkW N zw keep i = above T (lk t z) k0 := by
  rw [hc]; exact total_eq H _ _ (fun s h => lk_zero t z h) (lkW_eq H)

theorem ce_step (H : Fits T t z g k0 U N zw gw keep) (hc : c = above T (lk t z) U) (hce : ce = above T (ee T t z g) U) :
    ce + ∑ i, eeW N zw gw keep c i = above T (ee T t z g) k0 := by
  rw [hce]; exact total_eq H _ _ (fun s h => ee_zero T t z g h) (eeW_eq H hc)

/-- The gradient of the query gathers a window. -/
theorem dq_step (H : Fits T t z g k0 U N zw gw keep) (hc : c = above T (lk t z) U) (hce : ce = above T (ee T t z g) U)
    (hdd : dd = ∑ s ∈ Finset.range T, ee T t z g s) (k : ℕ → ℝ) :
    above T (fun s => dz T t z g s * k s) U + ∑ i, dzW N zw gw keep c ce dd i * k (k0 + i)
      = above T (fun s => dz T t z g s * k s) k0 := by
  refine total_eq H (fun s => dz T t z g s * k s) _ (fun s h => by rw [dz_zero T t z g h, zero_mul]) fun i => ?_
  rw [dzW_eq H hc hce hdd]
  by_cases h : k0 + (i : ℕ) < U <;> simp [h]

end Row

end Cert.SbMath

end
-- ==== Proof.SbPayKit.lean ====
/-
  The stick-breaking backward pass: what the extended reals make of finite rows. Sums, softplus, and the suffix sums a window
  takes by groups of 128 keys, each group split once more into a rounded part and a remainder.
-/
module

public import proofs.«01_k».proof.Proof.SbMath
public import Idealize.ShloMosaic.Lib.Pointwise
public import Idealize.ShloMosaic.Lib.WordCmp

@[expose] public section

set_option maxRecDepth 16384

noncomputable section

open Idealize.ShloMosaic
open scoped BigOperators

namespace Cert.SbMath

/-- A finite sum of reals is real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem sub_self_coe (x : ℝ) : ((x : ℝ) : EReal) - x = 0 := by rw [← EReal.coe_sub, sub_self, EReal.coe_zero]

theorem zero_sub_coe (x : ℝ) : (0 : EReal) - x = ((-x : ℝ) : EReal) := by rw [← EReal.coe_zero, ← EReal.coe_sub, zero_sub]

theorem one_add_coe (x : ℝ) : (1 : EReal) + x = ((1 + x : ℝ) : EReal) := by rw [← EReal.coe_one, ← EReal.coe_add]

theorem max_coe (x y : ℝ) : max ((x : ℝ) : EReal) y = ((max x y : ℝ) : EReal) := (EReal.coe_strictMono.monotone.map_max).symm

/-- Softplus as the programs take it: the positive part, and a logarithm that never overflows. -/
theorem sp_eq (z : ℝ) : max z 0 + Real.log (1 + Real.exp (-(max z (-z)))) = sp z := by
  rw [sp]
  rcases le_total 0 z with h | h
  · rw [max_eq_left h, max_eq_left (by linarith)]
    have h1 : 1 + Real.exp z = Real.exp z * (1 + Real.exp (-z)) := by rw [mul_add, mul_one, ← Real.exp_add, add_neg_cancel, Real.exp_zero, add_comm]
    rw [h1, Real.log_mul (Real.exp_ne_zero _) (by positivity), Real.log_exp]
  · rw [max_eq_right h, max_eq_right (by linarith), neg_neg, zero_add]

theorem softplus_coe (z : ℝ) :
    max ((z : ℝ) : EReal) 0 + Ideal.log (1 + Ideal.exp (0 - max ((z : ℝ) : EReal) (-(z : EReal)))) = ((sp z : ℝ) : EReal) := by
  rw [← EReal.coe_zero, ← EReal.coe_neg, max_coe, max_coe, ← EReal.coe_sub, Ideal.exp_coe, one_add_coe, Ideal.log_coe, if_neg (not_le.2 (by positivity)),
    ← EReal.coe_add, zero_sub, sp_eq]

theorem eighth_bf16 : Ideal.ofBits .bf16 0x3E00#16 = ((1 / 8 : ℝ) : EReal) := by simp [Ideal.ofBits, Ideal.ieee, -EReal.coe_mul]; norm_num

theorem eighth_f32 : Ideal.ofBits .f32 0x3E000000#32 = ((1 / 8 : ℝ) : EReal) := by simp [Ideal.ofBits, Ideal.ieee, -EReal.coe_mul]; norm_num

theorem bot_f32 : Ideal.ofBits .f32 0xFF800000#32 = (⊥ : EReal) := by simp [Ideal.ofBits, Ideal.ieee]

/-! ### Suffix sums by groups of 128 -/

/-- A group's later keys: those below it in the triangle. -/
def tri (k s : ℕ) : ℝ := if s < k % 128 then 1 else 0

theorem sum_three (f : Fin 384 → ℝ) : ∑ j, f j = (∑ x : Fin 128, f ⟨x, by omega⟩) + (∑ x : Fin 128, f ⟨128 + x, by omega⟩)
    + ∑ x : Fin 128, f ⟨256 + x, by omega⟩ := by
  rw [show (∑ j, f j) = ∑ j : Fin (256 + 128), f j from rfl, Fin.sum_univ_add,
    show (∑ i : Fin 256, f (Fin.castAdd 128 i)) = ∑ i : Fin (128 + 128), f (Fin.castAdd 128 i) from rfl, Fin.sum_univ_add]
  rfl

theorem sum_two (f : Fin 256 → ℝ) : ∑ j, f j = (∑ x : Fin 128, f ⟨x, by omega⟩) + ∑ x : Fin 128, f ⟨128 + x, by omega⟩ := by
  rw [show (∑ j, f j) = ∑ j : Fin (128 + 128), f j from rfl, Fin.sum_univ_add]
  rfl

/-- A group's own later keys. -/
theorem own (f : Fin 128 → ℝ) (s : ℕ) : ∑ x : Fin 128, f x * tri x s = ∑ x : Fin 128, if s < x.val then f x else 0 :=
  Finset.sum_congr rfl fun x _ => by rw [tri, Nat.mod_eq_of_lt x.isLt]; split <;> simp

theorem tail_low (f : Fin 384 → ℝ) (s : Fin 384) (h : s.val < 128) :
    tailW 384 f s = (∑ x : Fin 128, f ⟨x, by omega⟩ * tri x s.val) + ((∑ x : Fin 128, f ⟨256 + x, by omega⟩) + ∑ x : Fin 128, f ⟨128 + x, by omega⟩) := by
  rw [tailW, sum_three, own (fun x => f ⟨x, by omega⟩), add_assoc, add_comm (∑ x : Fin 128, f ⟨256 + x, by omega⟩)]
  simp only [Fin.lt_def]
  congr 1; congr 1
  · exact Finset.sum_congr rfl fun x _ => if_pos (by omega)
  · exact Finset.sum_congr rfl fun x _ => if_pos (by omega)

theorem tail_mid (f : Fin 384 → ℝ) (s : Fin 384) (h : 128 ≤ s.val) (h' : s.val < 256) :
    tailW 384 f s = (∑ x : Fin 128, f ⟨128 + x, by omega⟩ * tri x (s.val - 128)) + ∑ x : Fin 128, f ⟨256 + x, by omega⟩ := by
  rw [tailW, sum_three, own (fun x => f ⟨128 + x, by omega⟩)]
  simp only [Fin.lt_def]
  rw [Finset.sum_eq_zero fun x _ => if_neg (by omega), zero_add]
  congr 1
  · exact Finset.sum_congr rfl fun x _ => if_congr (by omega) rfl rfl
  · exact Finset.sum_congr rfl fun x _ => if_pos (by omega)

theorem tail_high (f : Fin 384 → ℝ) (s : Fin 384) (h : 256 ≤ s.val) :
    tailW 384 f s = ∑ x : Fin 128, f ⟨256 + x, by omega⟩ * tri x (s.val - 256) := by
  rw [tailW, sum_three, own (fun x => f ⟨256 + x, by omega⟩)]
  simp only [Fin.lt_def]
  rw [Finset.sum_eq_zero fun x _ => if_neg (by omega), zero_add, Finset.sum_eq_zero fun x _ => if_neg (by omega), zero_add]
  exact Finset.sum_congr rfl fun x _ => if_congr (by omega) rfl rfl

theorem tail2_low (f : Fin 256 → ℝ) (s : Fin 256) (h : s.val < 128) :
    tailW 256 f s = (∑ x : Fin 128, f ⟨x, by omega⟩ * tri x s.val) + ∑ x : Fin 128, f ⟨128 + x, by omega⟩ := by
  rw [tailW, sum_two, own (fun x => f ⟨x, by omega⟩)]
  simp only [Fin.lt_def]
  congr 1
  exact Finset.sum_congr rfl fun x _ => if_pos (by omega)

theorem tail2_high (f : Fin 256 → ℝ) (s : Fin 256) (h : 128 ≤ s.val) :
    tailW 256 f s = ∑ x : Fin 128, f ⟨128 + x, by omega⟩ * tri x (s.val - 128) := by
  rw [tailW, sum_two, own (fun x => f ⟨128 + x, by omega⟩)]
  simp only [Fin.lt_def]
  rw [Finset.sum_eq_zero fun x _ => if_neg (by omega), zero_add]
  exact Finset.sum_congr rfl fun x _ => if_congr (by omega) rfl rfl

/-! ### Rows of a tile: two heads of 64 lanes, one under the other -/

/-- The rows of one tile, once for each of the two heads, with the other head's lanes left out. -/
def stk (Q : Fin 128 → Fin 128 → ℝ) (R : Fin 256) (d : Fin 128) : ℝ :=
  if d.val / 64 = R.val / 128 then Q ⟨R.val % 128, Nat.mod_lt _ (by norm_num)⟩ d else 0

end Cert.SbMath

end
-- ==== Proof.SbChain.lean ====
module

public import proofs.«01_k».proof.Proof.Gen.SbReferenceIdeal.Run
public import proofs.«01_k».proof.Proof.SbMath
public import proofs.«01_k».proof.Proof.SbPayKit
public import proofs.«01_k».proof.Defs
public import Idealize.ShloMosaic.Lib.Pipeline.ValueKit

/-!
The attention's lines and their gradients as whole arrays over heads, queries and keys: the scores, the softplus, the sums
of what the later keys keep, the weights, and the gradient of the scores.
-/

@[expose] public section

set_option maxRecDepth 16384

noncomputable section

open Idealize.ShloMosaic Idealize.ShloMosaic.TcCoe Idealize.SL.Sem
open scoped BigOperators

namespace Cert.SbReferenceIdeal.Chain

open Cert.SbReferenceIdeal Cert.SbReferenceIdeal.Gen

/-- An array over heads, queries and keys; one over rows and columns. -/
abbrev Pairs := FVec Ideal S8x4096x4096 .f32

@[inherit_doc Pairs]
abbrev Rows := FVec Ideal S4096x512 .f32

/-- One value everywhere. -/
def fill (b : BitVec 32) : Pairs := broadcastInDim S8x4096x4096 ![] bcast_S_S8x4096x4096 (constant S_ .f32 b)

/-- Zero everywhere, as `where` writes it. -/
def blank : Pairs := broadcastInDim S8x4096x4096 ![] bcast_S_S8x4096x4096 (id (constant S_ .f32 0x00000000#32))

/-- A row's columns by head. -/
def heads (x : Rows) : FVec Ideal S4096x8x64 .f32 := shapeCast _ x shapeCasts_S4096x512_S4096x8x64

/-- The scaled scores. -/
def scores (q k : Rows) : Pairs :=
  mulf (Host.dotGeneral dot_S4096x8x64_S4096x8x64_S8x4096x4096_2_2_0_0_1_1 none (heads q) (heads k)) (fill 0x3E000000#32)

/-- The pairs whose key comes before the query. -/
def strict : IVec S8x4096x4096 1 :=
  broadcastInDim S8x4096x4096 ![1, 2] bcast_S4096x4096_S8x4096x4096_1_2
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The softplus. -/
def softplus (z : Pairs) : Pairs :=
  select (cmpf .une (subf z (fill 0x00000000#32)) (subf z (fill 0x00000000#32))) (addf z (fill 0x00000000#32))
    (addf (maximumf z (fill 0x00000000#32)) (Host.log1p (Host.exp (Host.negf (Host.absf (subf z (fill 0x00000000#32)))))))

/-- What each earlier key keeps, as a logarithm. -/
def keeps (z : Pairs) : Pairs := select strict (Host.negf (softplus z)) blank

/-- From each key on, the sum over the keys. -/
def fromKey (x : Pairs) : Pairs :=
  Host.reduceWindowAdd ![1, 1, 4096] ![1, 1, 1] ![0, 0, 0] ![0, 0, 4095] x (broadcastInDim S_ ![] bcast_S_S_ (constant S_ .f32 0x00000000#32))
    reduceWindows_S8x4096x4096_S8x4096x4096_w1s1p0_0_w1s1p0_0_w4096s1p0_4095 h_S_

/-- Up to each key, the sum over the keys. -/
def toKey (x : Pairs) : Pairs :=
  Host.reduceWindowAdd ![1, 1, 4096] ![1, 1, 1] ![0, 0, 4095] ![0, 0, 0] x (broadcastInDim S_ ![] bcast_S_S_ (constant S_ .f32 0x00000000#32))
    reduceWindows_S8x4096x4096_S8x4096x4096_w1s1p0_0_w1s1p0_0_w4096s1p4095_0 h_S_

/-- The weights before the mask. -/
def open_ (z : Pairs) : Pairs :=
  Host.exp (addf (Host.negf (softplus (Host.negf z))) (subf (fromKey (keeps z)) (keeps z)))

/-- The weights. -/
def weights (z : Pairs) : Pairs := select strict (open_ z) blank

/-- The attention's output. -/
def attended (q k v : Rows) : Rows :=
  shapeCast _ (transpose S4096x8x64 [2, 0, 1] (Host.dotGeneral dot_S4096x8x64_S8x4096x4096_S8x64x4096_0_2_2_1_1_0 none (heads v) (weights (scores q k)))
    transposes_S8x64x4096_S4096x8x64_2_0_1) shapeCasts_S4096x8x64_S4096x512

/-- The cotangent by head, the rows last. -/
def turned (d : Rows) : FVec Ideal S8x64x4096 .f32 := transpose S8x64x4096 [1, 2, 0] (heads d) transposes_S4096x8x64_S8x64x4096_1_2_0

/-- The weights' gradient, times the weight: what each earlier key earns. -/
def earns (z : Pairs) (d v : Rows) : Pairs :=
  mulf (select strict (Host.dotGeneral dot_S8x64x4096_S4096x8x64_S8x4096x4096_1_2_2_0_0_1 none (turned d) (heads v)) (fill 0x00000000#32)) (open_ z)

/-- The exponential of a difference, the infinities set to zero. -/
def guarded (x y : Pairs) : Pairs :=
  Host.exp (subf (select (cmpf .oeq x (fill 0x7F800000#32)) (fill 0x00000000#32) x) (select (cmpf .oeq y (fill 0x7F800000#32)) (fill 0x00000000#32) y))

/-- The scores' gradient, scaled. -/
def dscores (z e : Pairs) : Pairs :=
  mulf (addf (Host.negf (mulf (Host.negf e) (guarded (Host.negf z) (softplus (Host.negf z)))))
    (mulf (Host.negf (select strict (addf (Host.negf e) (toKey e)) (fill 0x00000000#32))) (guarded z (softplus z)))) (fill 0x3E000000#32)

/-- The queries', the keys' and the values' gradients. -/
def dqs (q k v d : Rows) : FVec Ideal S4096x512 .bf16 :=
  truncf .bf16 (shapeCast _ (transpose S4096x8x64 [1, 0, 2] (Host.dotGeneral dot_S8x4096x4096_S4096x8x64_S8x4096x64_2_0_1_2_0_1 none
    (dscores (scores q k) (earns (scores q k) d v)) (heads k)) transposes_S8x4096x64_S4096x8x64_1_0_2) shapeCasts_S4096x8x64_S4096x512) bitsLt_bf16_f32

@[inherit_doc dqs]
def dks (q k v d : Rows) : FVec Ideal S4096x512 .bf16 :=
  truncf .bf16 (shapeCast _ (transpose S4096x8x64 [1, 0, 2] (Host.dotGeneral dot_S8x4096x4096_S4096x8x64_S8x4096x64_1_0_2_2_0_1 none
    (dscores (scores q k) (earns (scores q k) d v)) (heads q)) transposes_S8x4096x64_S4096x8x64_1_0_2) shapeCasts_S4096x8x64_S4096x512) bitsLt_bf16_f32

@[inherit_doc dqs]
def dvs (q k d : Rows) : FVec Ideal S4096x512 .bf16 :=
  truncf .bf16 (shapeCast _ (transpose S4096x8x64 [2, 0, 1] (Host.dotGeneral dot_S8x64x4096_S8x4096x4096_S8x64x4096_2_1_1_2_0_0 none
    (turned d) (weights (scores q k))) transposes_S8x64x4096_S4096x8x64_2_0_1) shapeCasts_S4096x8x64_S4096x512) bitsLt_bf16_f32

section Results

variable (m : (ℓ : Loc nD τ sig) → Buf (Elt Ideal) ℓ) (c : Dev nD)

/-- The reference's three results are these arrays. -/
theorem result_dq : Cert.SbReferenceIdeal.Value.res_main_v49 m c = dqs (m ((c.tc : Thread nD τ).loc main_arg0)) (m ((c.tc : Thread nD τ).loc main_arg1))
    (m ((c.tc : Thread nD τ).loc main_arg2)) (m ((c.tc : Thread nD τ).loc main_arg3)) := rfl

@[inherit_doc result_dq]
theorem result_dk : Cert.SbReferenceIdeal.Value.res_main_v50 m c = dks (m ((c.tc : Thread nD τ).loc main_arg0)) (m ((c.tc : Thread nD τ).loc main_arg1))
    (m ((c.tc : Thread nD τ).loc main_arg2)) (m ((c.tc : Thread nD τ).loc main_arg3)) := rfl

@[inherit_doc result_dq]
theorem result_dv : Cert.SbReferenceIdeal.Value.res_main_v51 m c = dvs (m ((c.tc : Thread nD τ).loc main_arg0)) (m ((c.tc : Thread nD τ).loc main_arg1))
    (m ((c.tc : Thread nD τ).loc main_arg3)) := rfl

end Results

end Cert.SbReferenceIdeal.Chain

end
-- ==== Proof.SbChainAt.lean ====
module

public import proofs.«01_k».proof.Proof.SbChain

/-!
The attention's arrays, element by element at real scores.
-/

@[expose] public section

set_option maxRecDepth 16384

noncomputable section

open Idealize.ShloMosaic Idealize.ShloMosaic.TcCoe Idealize.SL.Sem
open scoped BigOperators

namespace Cert.SbReferenceIdeal.Chain

open Cert.SbReferenceIdeal Cert.SbReferenceIdeal.Gen Cert.SbMath

/-- The array's elements are the real numbers `z`. -/
def Reals (Z : Pairs) (z : ℕ → ℕ → ℕ → ℝ) : Prop := ∀ h t s, Z (ix3 h t s) = ((z h.val t.val s.val : ℝ) : EReal)

variable {Z E : Pairs} {z e : ℕ → ℕ → ℕ → ℝ}

theorem same {x y : ℝ} (h : x = y) : ((x : ℝ) : EReal) = y := by rw [h]

theorem strict_at (h : Fin 8) (t s : Fin 4096) : strict (ix3 h t s) = if s.val < t.val then 1#1 else 0#1 := by
  pointwise [strict]
  by_cases hs : s.val < t.val
  · rw [if_pos hs, WordCmp.cmpi_slt_ofNat_eq_one_iff (by omega) (by omega)]; exact hs
  · rw [if_neg hs]
    exact (BitVec.eq_zero_or_eq_one _).resolve_right fun e => hs ((WordCmp.cmpi_slt_ofNat_eq_one_iff (by omega) (by omega)).1 e)

/-- A masked array: the reals before the query, zero after. -/
theorem masked_at (hZ : Reals Z z) {B : Pairs} (hB : ∀ i, B i = 0) : Reals (select strict Z B) (fun h t s => if s < t then z h t s else 0) := fun h t s => by
  pointwise []
  rw [strict_at, hB, hZ]
  by_cases hs : s.val < t.val
  · rw [if_pos hs, if_pos hs]; rfl
  · rw [if_neg hs, if_neg hs]; rfl

theorem blank_at (i : S8x4096x4096.Idx) : blank i = 0 := by pointwise [blank]; exact Ideal.ofBits_zero .f32

theorem fill_at (i : S8x4096x4096.Idx) : fill 0x00000000#32 i = 0 := by pointwise [fill]

theorem softplus_at (hZ : Reals Z z) : Reals (softplus Z) (fun h t s => sp (z h t s)) := fun h t s => by
  pointwise [softplus, fill]
  rw [hZ, if_neg (fun h => h rfl), ← softplus_coe, zero_sub]
  rfl

theorem neg_at (hZ : Reals Z z) : Reals (Host.negf Z) (fun h t s => -z h t s) := fun h t s => by
  pointwise []; rw [hZ, ← EReal.coe_neg]

theorem keeps_at (hZ : Reals Z z) : Reals (keeps Z) (fun h t s => lk t (z h t) s) := masked_at (neg_at (softplus_at hZ)) blank_at

theorem foldl_add {n : ℕ} (f : Fin n → EReal) (v : EReal) (l : List (Fin n)) : l.foldl (fun r i => r + f i) v = v + (l.map f).sum := by
  induction l generalizing v with
  | nil => simp
  | cons a l ih => rw [List.foldl_cons, ih, List.map_cons, List.sum_cons, add_assoc]

/-- A sum over windows along the last axis, `lo 2` places of them before the array. -/
theorem window_sum {a b k n : ℕ} (x : FVec Ideal (⟨3, ![a, b, k]⟩ : Shape) .f32) {lo hi : Fin 3 → ℕ}
    (hw : (⟨3, ![a, b, k]⟩ : Shape).ReduceWindows (![1, 1, n] : Fin 3 → ℕ) ![1, 1, 1] lo hi ⟨3, ![a, b, k]⟩) (h0 : lo 0 = 0) (h1 : lo 1 = 0)
    (v : (⟨0, ![]⟩ : Shape).Idx → Ideal .f32) (hu : 0 < (⟨0, ![]⟩ : Shape).numel) (hv : ∀ i, v i = (0 : EReal)) (X : ℕ → EReal) (i : Fin a) (j : Fin b) (l : Fin k)
    (hX : ∀ s : Fin k, x (ix3 i j s) = X s.val) :
    Host.reduceWindowAdd (![1, 1, n] : Fin 3 → ℕ) ![1, 1, 1] lo hi x v hw hu (ix3 i j l)
      = ∑ q ∈ Finset.range n, if lo 2 ≤ l.val + q ∧ l.val + q - lo 2 < k then X (l.val + q - lo 2) else 0 := by
  let G : (⟨3, ![1, 1, n]⟩ : Shape).Idx → EReal := fun p => if lo 2 ≤ l.val + (p 2).val ∧ l.val + (p 2).val - lo 2 < k then X (l.val + (p 2).val - lo 2) else 0
  show Host.reduceWindow (· + ·) (![1, 1, n] : Fin 3 → ℕ) ![1, 1, 1] lo hi x (fun _ : (⟨0, ![]⟩ : Shape).Idx => v (Shape.Idx.first hu)) hw (by decide) (ix3 i j l) = _
  unfold Host.reduceWindow
  dsimp only
  rw [hv, foldl_add, zero_add, ← Fin.sum_univ_def]
  refine (Finset.sum_congr rfl fun e _ => ?_).trans ((Equiv.sum_comp (Shape.rowMajor (⟨3, ![1, 1, n]⟩ : Shape)).symm G).trans ?_)
  · let p := (Shape.rowMajor (⟨3, ![1, 1, n]⟩ : Shape)).symm e
    change _ = G p
    have p0 : (p 0).val = 0 := Nat.lt_one_iff.1 (p 0).isLt
    have p1 : (p 1).val = 0 := Nat.lt_one_iff.1 (p 1).isLt
    by_cases h : lo 2 ≤ l.val + (p 2).val ∧ l.val + (p 2).val - lo 2 < k
    · rw [show G p = X (l.val + (p 2).val - lo 2) from if_pos h, dif_pos, ← hX ⟨l.val + (p 2).val - lo 2, h.2⟩]
      · refine congrArg x (funext fun e => ?_)
        match e with
        | ⟨0, _⟩ => exact Fin.ext (show i.val * 1 + (p 0).val - lo 0 = i.val by omega)
        | ⟨1, _⟩ => exact Fin.ext (show j.val * 1 + (p 1).val - lo 1 = j.val by omega)
        | ⟨2, _⟩ => exact Fin.ext (show l.val * 1 + (p 2).val - lo 2 = l.val + (p 2).val - lo 2 by omega)
      · intro e
        match e with
        | ⟨0, _⟩ => exact (show lo 0 ≤ i.val * 1 + (p 0).val ∧ i.val * 1 + (p 0).val - lo 0 < a by have := i.isLt; omega)
        | ⟨1, _⟩ => exact (show lo 1 ≤ j.val * 1 + (p 1).val ∧ j.val * 1 + (p 1).val - lo 1 < b by have := j.isLt; omega)
        | ⟨2, _⟩ => exact (show lo 2 ≤ l.val * 1 + (p 2).val ∧ l.val * 1 + (p 2).val - lo 2 < k by omega)
    · rw [show G p = 0 from if_neg h, dif_neg]
      intro hin
      have := hin 2
      exact h (show lo 2 ≤ l.val + (p 2).val ∧ l.val + (p 2).val - lo 2 < k by
        have h2 : lo 2 ≤ l.val * 1 + (p 2).val ∧ l.val * 1 + (p 2).val - lo 2 < k := this
        omega)
  · rw [sum_idx3, Fin.sum_univ_one, Fin.sum_univ_one, Finset.sum_range]
    rfl

theorem zero_init (i) : (broadcastInDim S_ ![] bcast_S_S_ (constant (F := Ideal) S_ .f32 0x00000000#32)) i = (0 : EReal) := by pointwise []

theorem above_shift (f : ℕ → ℝ) (s : ℕ) : (∑ q ∈ Finset.range 4096, if s + q < 4096 then f (s + q) else 0) = above 4096 f s := by
  rw [above, ← Finset.sum_filter, ← Finset.sum_filter]
  refine Finset.sum_nbij (fun q => s + q) (fun q h => ?_) (fun a _ b _ h => Nat.add_left_cancel h) (fun x h => ?_) fun _ _ => rfl
  · simp only [Finset.mem_filter, Finset.mem_range] at h ⊢; omega
  · simp only [Finset.coe_filter, Finset.mem_range, Set.mem_setOf_eq, Set.mem_image] at h ⊢
    exact ⟨x - s, by omega, by omega⟩

theorem coe_ite_sum (P : ℕ → Prop) [DecidablePred P] (f : ℕ → ℝ) :
    (∑ q ∈ Finset.range 4096, if P q then ((f q : ℝ) : EReal) else 0) = ((∑ q ∈ Finset.range 4096, if P q then f q else 0 : ℝ) : EReal) := by
  rw [← coe_sum]
  refine Finset.sum_congr rfl fun q _ => ?_
  split_ifs <;> simp

theorem below_shift (f : ℕ → ℝ) {s : ℕ} (hs : s < 4096) :
    (∑ q ∈ Finset.range 4096, if 4095 ≤ s + q ∧ s + q - 4095 < 4096 then f (s + q - 4095) else 0) = (∑ s' ∈ Finset.range 4096, f s') - above 4096 f (s + 1) := by
  rw [above, ← Finset.sum_sub_distrib, Finset.sum_congr rfl (fun (x : ℕ) _ => show f x - (if s + 1 ≤ x then f x else 0) = if x ≤ s then f x else 0 by
    by_cases h : x ≤ s
    · rw [if_pos h, if_neg (by omega), sub_zero]
    · rw [if_neg h, if_pos (by omega), sub_self]), ← Finset.sum_filter, ← Finset.sum_filter]
  refine Finset.sum_nbij (fun q => s + q - 4095) (fun q h => ?_) (fun a ha b hb h => ?_) (fun x h => ?_) fun _ _ => rfl
  · simp only [Finset.mem_filter, Finset.mem_range] at h ⊢; omega
  · simp only [Finset.coe_filter, Finset.mem_range, Set.mem_setOf_eq] at ha hb h; omega
  · simp only [Finset.coe_filter, Finset.mem_range, Set.mem_setOf_eq, Set.mem_image] at h ⊢
    exact ⟨x + 4095 - s, by omega, by omega⟩

theorem fromKey_at (hZ : Reals Z z) : Reals (fromKey Z) (fun h t s => above 4096 (z h t) s) := fun h t s => by
  unfold fromKey
  refine (window_sum Z reduceWindows_S8x4096x4096_S8x4096x4096_w1s1p0_0_w1s1p0_0_w4096s1p0_4095 rfl rfl _ _ (fun _ => zero_init _)
    (fun s => ((z h.val t.val s : ℝ) : EReal)) h t s (hZ h t)).trans ?_
  refine (coe_ite_sum (fun q => 0 ≤ s.val + q ∧ s.val + q - 0 < 4096) (fun q => z h.val t.val (s.val + q - 0))).trans (same ?_)
  exact (Finset.sum_congr rfl fun q _ => if_congr (by simp) rfl rfl).trans (above_shift _ _)

theorem toKey_at (hZ : Reals Z z) : Reals (toKey Z) (fun h t s => (∑ s' ∈ Finset.range 4096, z h t s') - above 4096 (z h t) (s + 1)) := fun h t s => by
  unfold toKey
  refine (window_sum Z reduceWindows_S8x4096x4096_S8x4096x4096_w1s1p0_0_w1s1p0_0_w4096s1p4095_0 rfl rfl _ _ (fun _ => zero_init _)
    (fun s => ((z h.val t.val s : ℝ) : EReal)) h t s (hZ h t)).trans ?_
  exact (coe_ite_sum (fun q => 4095 ≤ s.val + q ∧ s.val + q - 4095 < 4096) (fun q => z h.val t.val (s.val + q - 4095))).trans
    (same (below_shift _ s.isLt))

/-- A key's score and what it loses, from the negative score. -/
theorem sp_neg (x : ℝ) : sp (-x) = sp x - x := by
  rw [sp, sp, show 1 + Real.exp (-x) = (1 + Real.exp x) * Real.exp (-x) by rw [add_mul, one_mul, ← Real.exp_add, add_neg_cancel, Real.exp_zero, add_comm],
    Real.log_mul (by positivity) (Real.exp_ne_zero _), Real.log_exp]
  ring

/-- The two shares of a stick: what a key takes and what it leaves. -/
theorem shares (x : ℝ) : Real.exp (x - sp x) + Real.exp (-x - sp (-x)) = 1 := by
  have h : Real.exp (sp x) = 1 + Real.exp x := by rw [sp, Real.exp_log (by positivity)]
  rw [sp_neg, show -x - (sp x - x) = -sp x by ring, sub_eq_add_neg, Real.exp_add, Real.exp_neg, h]
  field_simp
  ring

theorem above_succ (f : ℕ → ℝ) {s : ℕ} (hs : s < 4096) : above 4096 f s - f s = above 4096 f (s + 1) := by
  rw [above, above, sub_eq_iff_eq_add, ← Finset.sum_ite_eq_of_mem (Finset.range 4096) s f (Finset.mem_range.2 hs), ← Finset.sum_add_distrib]
  refine Finset.sum_congr rfl fun x _ => ?_
  rcases lt_trichotomy x s with h | h | h
  · simp [show ¬ s ≤ x by omega, show ¬ s + 1 ≤ x by omega, show s ≠ x by omega]
  · subst h; simp
  · simp [show s ≤ x by omega, show s + 1 ≤ x by omega, show s ≠ x by omega]

theorem open_at (hZ : Reals Z z) : Reals (open_ Z) (fun h t s => Real.exp (z h t s - sp (z h t s) + above 4096 (lk t (z h t)) (s + 1))) := fun h t s => by
  pointwise [open_]
  rw [softplus_at (neg_at hZ), fromKey_at (keeps_at hZ), keeps_at hZ]
  dsimp only
  rw [← EReal.coe_neg, ← EReal.coe_sub, ← EReal.coe_add, Ideal.exp_coe, above_succ _ s.isLt, sp_neg, neg_sub]

theorem weights_at (hZ : Reals Z z) : Reals (weights Z) (fun h t s => ww 4096 t (z h t) s) := masked_at (open_at hZ) blank_at

theorem inf_f32 : Ideal.ofBits .f32 0x7F800000#32 = (⊤ : EReal) := by simp [Ideal.ofBits, Ideal.ieee]

theorem finite_ne {x : ℝ} : ((x : ℝ) : EReal) ≠ Ideal.ofBits .f32 0x7F800000#32 := by
  rw [inf_f32]; exact EReal.coe_ne_top x

theorem guarded_at {X Y : Pairs} {x y : ℕ → ℕ → ℕ → ℝ} (hX : Reals X x) (hY : Reals Y y) : Reals (guarded X Y) (fun h t s => Real.exp (x h t s - y h t s)) := fun h t s => by
  pointwise [guarded, fill]
  rw [hX, hY, if_neg finite_ne, if_neg finite_ne, ← EReal.coe_sub, Ideal.exp_coe]

theorem scale_at (i : S8x4096x4096.Idx) : fill 0x3E000000#32 i = ((1 / 8 : ℝ) : EReal) := by pointwise [fill]; exact eighth_f32

/-- The chain rule through the stick: what a key earns, less its share of everything the later keys earn. -/
theorem dscores_at (hZ : Reals Z z) (hE : Reals E e) (h0 : ∀ h t s, t ≤ s → e h t s = 0) : Reals (dscores Z E) (fun h t s =>
    (if s < t then e h t s - Real.exp (z h t s - sp (z h t s)) * ((∑ s' ∈ Finset.range 4096, e h t s') - above 4096 (e h t) (s + 1)) else 0) * (1 / 8)) := fun h t s => by
  have hm := masked_at (Z := addf (Host.negf E) (toKey E)) (z := fun h t s => -e h t s + ((∑ s' ∈ Finset.range 4096, e h t s') - above 4096 (e h t) (s + 1)))
    (fun h t s => by pointwise []; rw [hE, toKey_at hE, ← EReal.coe_neg, ← EReal.coe_add]) fill_at h t s
  show (-(-E (ix3 h t s) * guarded (Host.negf Z) (softplus (Host.negf Z)) (ix3 h t s))
    + -(select strict (addf (Host.negf E) (toKey E)) (fill 0#32) (ix3 h t s)) * guarded Z (softplus Z) (ix3 h t s)) * fill 0x3E000000#32 (ix3 h t s) = _
  rw [hm, hE, guarded_at (neg_at hZ) (softplus_at (neg_at hZ)), guarded_at hZ (softplus_at hZ), scale_at]
  simp only [← EReal.coe_neg, ← EReal.coe_mul, ← EReal.coe_add]
  refine same (congrArg (· * (1 / 8 : ℝ)) ?_)
  have hs := shares (z h.val t.val s.val)
  by_cases hst : s.val < t.val
  · rw [if_pos hst, if_pos hst]; linear_combination e h.val t.val s.val * hs
  · rw [if_neg hst, if_neg hst, h0 _ _ _ (by omega)]; ring

section Sums
variable {A B C D : Rows} {a b c d : ℕ → ℕ → ℝ}

/-- The array's elements are the real numbers `a`. -/
def RealRows (A : Rows) (a : ℕ → ℕ → ℝ) : Prop := ∀ t j, A (ix2 t j) = ((a t.val j.val : ℝ) : EReal)

/-- One head's product of two rows. -/
def headDot (a b : ℕ → ℕ → ℝ) (h t s : ℕ) : ℝ := ∑ x : Fin 64, a t (h * 64 + x) * b s (h * 64 + x)

/-- One head's scaled scores. -/
def score (a b : ℕ → ℕ → ℝ) (h t s : ℕ) : ℝ := headDot a b h t s * (1 / 8)

theorem headDot_coe (hA : RealRows A a) (hB : RealRows B b) (h : Fin 8) (t s : Fin 4096) :
    (∑ x : Fin 64, A (ix2 t ⟨h.val * 64 + x.val, by omega⟩) * B (ix2 s ⟨h.val * 64 + x.val, by omega⟩)) = ((headDot a b h t s : ℝ) : EReal) := by
  rw [headDot, ← coe_sum]
  exact Finset.sum_congr rfl fun x _ => by rw [hA, hB, ← EReal.coe_mul]

theorem scores_at (hA : RealRows A a) (hB : RealRows B b) : Reals (scores A B) (score a b) := fun h t s => by
  pointwise [scores, heads]
  rw [scale_at]
  exact (congrArg (· * ((1 / 8 : ℝ) : EReal)) (headDot_coe hA hB h t s)).trans (EReal.coe_mul _ _).symm

theorem earns_at (hZ : Reals Z z) (hD : RealRows D d) (hC : RealRows C c) : Reals (earns Z D C) (fun h t s => ee 4096 t (z h t) (headDot d c h t) s) := fun h t s => by
  have hm := masked_at (Z := Host.dotGeneral dot_S8x64x4096_S4096x8x64_S8x4096x4096_1_2_2_0_0_1 none (turned D) (heads C)) (z := headDot d c)
    (fun h t s => by pointwise [turned, heads]; exact headDot_coe hD hC h t s) fill_at h t s
  refine (congrArg₂ (fun x y : EReal => x * y) hm (open_at hZ h t s)).trans ?_
  rw [← EReal.coe_mul]
  refine same ?_
  show _ = ww 4096 t.val (z h.val t.val) s.val * headDot d c h t s
  rw [ww]
  by_cases hs : s.val < t.val
  · simp only [if_pos hs]; exact mul_comm _ _
  · simp only [if_neg hs, zero_mul]

theorem grads_at (hA : RealRows A a) (hB : RealRows B b) (hD : RealRows D d) (hC : RealRows C c) :
    Reals (dscores (scores A B) (earns (scores A B) D C)) (fun h t s => dz 4096 t (score a b h t) (headDot d c h t) s * (1 / 8)) :=
  dscores_at (scores_at hA hB) (earns_at (scores_at hA hB) hD hC) fun h t s hs => ee_zero 4096 t _ _ hs

theorem sum_coe_mul (f g : ℕ → ℝ) : (∑ x : Fin 4096, ((f x.val : ℝ) : EReal) * ((g x.val : ℝ) : EReal)) = ((∑ x ∈ Finset.range 4096, f x * g x : ℝ) : EReal) := by
  rw [Finset.sum_range, ← coe_sum]
  exact Finset.sum_congr rfl fun x _ => (EReal.coe_mul _ _).symm

theorem attended_at (hA : RealRows A a) (hB : RealRows B b) (hC : RealRows C c) :
    RealRows (attended A B C) (fun t j => ∑ s ∈ Finset.range 4096, ww 4096 t (score a b (j / 64) t) s * c s j) := fun t j => by
  pointwise [attended, heads]
  refine (Finset.sum_congr rfl fun x _ => ?_).trans (sum_coe_mul (fun s => ww 4096 t.val (score a b (j.val / 64) t.val) s) (fun s => c s j.val))
  rw [hC, weights_at (scores_at hA hB), mul_comm]

theorem dqs_at (hA : RealRows A a) (hB : RealRows B b) (hC : RealRows C c) (hD : RealRows D d) (t : Fin 4096) (j : Fin 512) :
    dqs A B C D (ix2 t j) = ((∑ s ∈ Finset.range 4096, (dz 4096 t (score a b (j / 64) t) (headDot d c (j / 64) t) s * (1 / 8)) * b s j : ℝ) : EReal) := by
  pointwise [dqs, heads]
  refine (Finset.sum_congr rfl fun x _ => ?_).trans (sum_coe_mul (fun s => dz 4096 t.val (score a b (j.val / 64) t.val) (headDot d c (j.val / 64) t.val) s * (1 / 8)) (fun s => b s j.val))
  rw [hB, grads_at hA hB hD hC]

theorem dks_at (hA : RealRows A a) (hB : RealRows B b) (hC : RealRows C c) (hD : RealRows D d) (s : Fin 4096) (j : Fin 512) :
    dks A B C D (ix2 s j) = ((∑ t ∈ Finset.range 4096, (dz 4096 t (score a b (j / 64) t) (headDot d c (j / 64) t) s * (1 / 8)) * a t j : ℝ) : EReal) := by
  pointwise [dks, heads]
  refine (Finset.sum_congr rfl fun x _ => ?_).trans (sum_coe_mul (fun t => dz 4096 t (score a b (j.val / 64) t) (headDot d c (j.val / 64) t) s.val * (1 / 8)) (fun t => a t j.val))
  rw [hA, grads_at hA hB hD hC]

theorem dvs_at (hA : RealRows A a) (hB : RealRows B b) (hD : RealRows D d) (s : Fin 4096) (j : Fin 512) :
    dvs A B D (ix2 s j) = ((∑ t ∈ Finset.range 4096, ww 4096 t (score a b (j / 64) t) s * d t j : ℝ) : EReal) := by
  pointwise [dvs, turned, heads]
  refine (Finset.sum_congr rfl fun x _ => ?_).trans (sum_coe_mul (fun t => ww 4096 t (score a b (j.val / 64) t) s.val) (fun t => d t j.val))
  rw [hD, weights_at (scores_at hA hB), mul_comm]

end Sums

end Cert.SbReferenceIdeal.Chain

end
-- ==== Proof.SbPay1.lean ====
/-
  The stick-breaking backward call, first loop: what each of a trip's payloads is, entry by entry, when what it loads is finite.
-/
module

public import proofs.«01_k».proof.Proof.Gen.SbKernelIdeal.Skeleton
public import proofs.«01_k».proof.Proof.SbPayKit

@[expose] public section

set_option maxRecDepth 16384

noncomputable section

open Idealize.ShloMosaic Idealize.ShloMosaic.TcCoe Idealize.SL.Sem
open scoped BigOperators

namespace Cert.SbKernelIdeal.Grad

open Cert.SbKernelIdeal Cert.SbKernelIdeal.Gen Cert.SbMath

/-- The head of a lane, as the body's floor division by 64 finds it. -/
theorem lane_head (d : Fin 128) :
    Scalar.select
      (IntOp.andi
        (IntOp.cmpi CmpIPredicate.ne
          (IntOp.subi (BitVec.setWidth 32 (IntOp.cmpi CmpIPredicate.sgt (BitVec.ofNat 32 d.val) 0#32))
            (BitVec.setWidth 32 (IntOp.cmpi CmpIPredicate.slt (BitVec.ofNat 32 d.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 d.val) 64#32) 0#32))
      (IntOp.subi (IntOp.divsi ArithUnit.vector (BitVec.ofNat 32 d.val) 64#32) 1#32)
      (IntOp.divsi ArithUnit.vector (BitVec.ofNat 32 d.val) 64#32) = BitVec.ofNat 32 (d.val / 64) := by
  revert d; decide

/-- A choice by a lane's head. -/
theorem by_head0 {α : Type} (d : Fin 128) (a b : α) :
    Scalar.select (IntOp.cmpi CmpIPredicate.eq (BitVec.ofNat 32 (d.val / 64)) 0#32) a b = if d.val / 64 = 0 then a else b := by
  rw [WordCmp.cmpi_eq_ofNat (by omega) (by omega), WordCmp.select_decide]

theorem by_head1 {α : Type} (d : Fin 128) (a b : α) :
    Scalar.select (IntOp.cmpi CmpIPredicate.eq (BitVec.ofNat 32 (d.val / 64)) 1#32) a b = if d.val / 64 = 1 then a else b := by
  rw [WordCmp.cmpi_eq_ofNat (by omega) (by omega), WordCmp.select_decide]

theorem select_true {α : Type} {c : BitVec 1} (a b : α) : Scalar.select c a b = if c = 1#1 then a else b := rfl

/-- The group sums of a row of 384, in the order the body takes them. -/
theorem groups {f : Fin 384 → ℝ} {u : Fin 384 → EReal} {T : Fin 256 → Fin 128 → EReal} (hu : ∀ s, u s = (f s : EReal))
    (hT : ∀ k s, T k s = ((tri k.val s.val : ℝ) : EReal)) (s : Fin 384) :
    (if h : s.val < 128 then
      ∑ x : Fin 128, u ⟨x.val, by omega⟩ * T ⟨x.val, by omega⟩ ⟨s.val, h⟩
        + ∑ x : Fin 128, (u ⟨x.val, by omega⟩ - u ⟨x.val, by omega⟩) * T ⟨128 + x.val, by omega⟩ ⟨s.val, h⟩
        + (∑ x : Fin 128, u ⟨256 + x.val, by omega⟩ + ∑ x : Fin 128, u ⟨128 + x.val, by omega⟩)
    else if h' : s.val - 128 < 128 then
      ∑ x : Fin 128, u ⟨128 + x.val, by omega⟩ * T ⟨x.val, by omega⟩ ⟨s.val - 128, h'⟩
        + ∑ x : Fin 128, (u ⟨128 + x.val, by omega⟩ - u ⟨128 + x.val, by omega⟩) * T ⟨128 + x.val, by omega⟩ ⟨s.val - 128, h'⟩
        + ∑ x : Fin 128, u ⟨256 + x.val, by omega⟩
    else
      ∑ x : Fin 128, u ⟨256 + x.val, by omega⟩ * T ⟨x.val, by omega⟩ ⟨s.val - 128 - 128, by omega⟩
        + ∑ x : Fin 128, (u ⟨256 + x.val, by omega⟩ - u ⟨256 + x.val, by omega⟩) * T ⟨128 + x.val, by omega⟩ ⟨s.val - 128 - 128, by omega⟩)
      = ((tailW 384 f s : ℝ) : EReal) := by
  simp only [hu, hT, sub_self_coe, zero_mul, Finset.sum_const_zero, add_zero, ← EReal.coe_mul, coe_sum, ← EReal.coe_add]
  split
  · rw [tail_low f s ‹_›]
  · split
    · rw [tail_mid f s (by omega) (by omega)]
    · rw [tail_high f s (by omega), show s.val - 128 - 128 = s.val - 256 by omega]

theorem total3 {f : Fin 384 → ℝ} {u : Fin 384 → EReal} (hu : ∀ s, u s = (f s : EReal)) :
    ∑ x : Fin 128, u ⟨256 + x.val, by omega⟩ + ∑ x : Fin 128, u ⟨128 + x.val, by omega⟩ + ∑ x : Fin 128, u ⟨x.val, by omega⟩
      = ((∑ s, f s : ℝ) : EReal) := by
  simp only [hu, coe_sum, ← EReal.coe_add]
  rw [sum_three f]; congr 1; ring

section Tile
variable {Q : Fin 128 → Fin 128 → ℝ} {R : Fin 256} {d : Fin 128} {s : Fin 384}

theorem head_if (u : Vec Ideal S128x128 .bf16) (hu : ∀ r d, u (ix2 r d) = (Q r d : EReal)) (R : Fin 256) (d : Fin 128) :
    (if h : R.val < 128 then (if d.val / 64 = 0 then u (ix2 ⟨R.val, h⟩ d) else 0) else if d.val / 64 = 1 then u (ix2 ⟨R.val - 128, by omega⟩ d) else 0)
      = ((stk Q R d : ℝ) : EReal) := by
  rw [stk]
  simp only [hu]
  by_cases h : R.val < 128
  · rw [dif_pos h, Nat.div_eq_of_lt h]
    split <;> simp [Nat.mod_eq_of_lt h]
  · have h1 : R.val / 128 = 1 := by omega
    have h2 : R.val % 128 = R.val - 128 := by omega
    rw [dif_neg h, h1]
    split <;> simp [h2]

/-- The tile's queries, over both heads. -/
theorem q_at1 (u : Vec Ideal S128x128 .bf16) (hu : ∀ r d, u (ix2 r d) = (Q r d : EReal)) (R : Fin 256) (d : Fin 128) :
    k0_pay14 (F := Ideal) (k0_pay8 u) k0_pay9 (k0_pay10 u) (iota .tc S1x128 32 [1] iota_S1x128_d1_w32) 64#32 k0_pay11 k0_pay12 k0_pay13 (ix2 R d)
      = ((stk Q R d * (1 / 8) : ℝ) : EReal) := by
  pointwise [k0_pay14, k0_pay10, k0_pay8, k0_pay9, k0_pay11, k0_pay12, k0_pay13]
  simp only [lane_head, by_head0, by_head1, eighth_bf16]
  rw [EReal.coe_mul]
  exact congrArg (· * ((1 / 8 : ℝ) : EReal)) (head_if u hu R d)

/-- The tile's output gradients, over both heads. -/
theorem do_at1 (u : Vec Ideal S128x128 .bf16) (hu : ∀ r d, u (ix2 r d) = (Q r d : EReal)) (R : Fin 256) (d : Fin 128) :
    k0_pay20 (F := Ideal) (k0_pay15 u) k0_pay16 k0_pay17 k0_pay18 k0_pay19 (ix2 R d) = ((stk Q R d : ℝ) : EReal) := by
  pointwise [k0_pay20, k0_pay15, k0_pay16, k0_pay17, k0_pay18, k0_pay19]
  simp only [lane_head, by_head0, by_head1]
  exact head_if u hu R d

/-- The row sums of output times output gradient. -/
theorem dd_at1 (u : Vec Ideal S128x128 .bf16) (hu : ∀ r d, u (ix2 r d) = (Q r d : EReal)) {O : Fin 128 → Fin 128 → ℝ} (o : Vec Ideal S128x128 .f32)
    (ho : ∀ r d, o (ix2 r d) = (O r d : EReal)) (R : Fin 256) :
    k0_pay22 (F := Ideal) (k0_pay21 (k0_pay15 u) k0_pay16 k0_pay17 k0_pay18 k0_pay19 o) (ix2 R 0)
      = ((∑ d, stk Q R d * O ⟨R.val % 128, Nat.mod_lt _ (by norm_num)⟩ d : ℝ) : EReal) := by
  pointwise [k0_pay22, k0_pay21]
  rw [← coe_sum]
  refine Finset.sum_congr rfl fun d _ => ?_
  rw [do_at1 u hu]
  simp only [ho]
  by_cases h : R.val < 128
  · rw [dif_pos h, EReal.coe_mul]; simp [Nat.mod_eq_of_lt h]
  · have h2 : R.val % 128 = R.val - 128 := by omega
    rw [dif_neg h, EReal.coe_mul]; simp [h2]

end Tile

section Window
variable {v90 v155 : FVec Ideal S256x128 .bf16} {v182 v254 : Vec Ideal S384x128 .bf16} {v200 : Vec Ideal S256x128 .bf16} {v23 : BitVec 32}
  {Z G : Fin 256 → Fin 384 → ℝ}

theorem log_beta1 (hz : ∀ R s, ∑ x, v90 (ix2 R x) * v182 (ix2 s x) = (Z R s : EReal)) (R : Fin 256) (s : Fin 384) :
    k0_pay28 (F := Ideal) v90 v182 (ix2 R s) = ((Z R s - sp (Z R s) : ℝ) : EReal) := by
  pointwise [k0_pay28, k0_pay27, k0_pay26, k0_pay25]
  rw [hz, Ideal.absf_def, softplus_coe, ← EReal.coe_sub]

/-- Whether a row looks at a key. -/
abbrev keep1 (v23 : BitVec 32) (R : Fin 256) (s : Fin 384) : Prop := k0_pay24 v23 (ix2 R s) = 1#1

theorem log_keep1 (hz : ∀ R s, ∑ x, v90 (ix2 R x) * v182 (ix2 s x) = (Z R s : EReal)) (R : Fin 256) (s : Fin 384) :
    k0_pay29 (F := Ideal) v23 v90 v182 (ix2 R s) = ((lkW 384 (Z R) (keep1 v23 R) s : ℝ) : EReal) := by
  pointwise [k0_pay29, k0_pay27, k0_pay26, k0_pay25]
  rw [hz, Ideal.absf_def, softplus_coe, zero_sub_coe, select_true, lkW]
  split <;> simp

theorem log_total1 (hz : ∀ R s, ∑ x, v90 (ix2 R x) * v182 (ix2 s x) = (Z R s : EReal)) (R : Fin 256) :
    k0_pay37 (F := Ideal) (k0_pay29 v23 v90 v182) (k0_pay31 v23 v90 v182) (ix2 R 0) = ((∑ s, lkW 384 (Z R) (keep1 v23 R) s : ℝ) : EReal) := by
  pointwise [k0_pay37, k0_pay36, k0_pay35, k0_pay34, k0_pay33, k0_pay31]
  exact total3 (u := fun s => k0_pay29 v23 v90 v182 (ix2 R s)) (fun s => log_keep1 hz R s)

variable (ht : ∀ k s, v200 (ix2 k s) = ((tri k.val s.val : ℝ) : EReal))

/-- The body's weights. -/
abbrev wBody1 (v23 : BitVec 32) (v90 : FVec Ideal S256x128 .bf16) (v182 : Vec Ideal S384x128 .bf16) (v200 : Vec Ideal S256x128 .bf16) : FVec Ideal S256x384 .bf16 :=
  k0_pay38 k0_pay23 (k0_pay24 v23) (k0_pay28 v90 v182) (k0_pay29 v23 v90 v182) (k0_pay30 v200) (k0_pay31 v23 v90 v182) (k0_pay32 v23 v90 v182)

/-- The body's weights times their gradients. -/
abbrev eBody1 (v155 : FVec Ideal S256x128 .bf16) (v23 : BitVec 32) (v90 : FVec Ideal S256x128 .bf16) (v182 v254 : Vec Ideal S384x128 .bf16)
    (v200 : Vec Ideal S256x128 .bf16) : FVec Ideal S256x384 .f32 :=
  k0_pay39 v155 k0_pay23 (k0_pay24 v23) (k0_pay28 v90 v182) (k0_pay29 v23 v90 v182) (k0_pay30 v200) (k0_pay31 v23 v90 v182) (k0_pay32 v23 v90 v182) v254

include ht in
theorem weight1 (hz : ∀ R s, ∑ x, v90 (ix2 R x) * v182 (ix2 s x) = (Z R s : EReal)) (R : Fin 256) (s : Fin 384) :
    wBody1 v23 v90 v182 v200 (ix2 R s) = ((wwW 384 (Z R) (keep1 v23 R) 0 s : ℝ) : EReal) := by
  pointwise [k0_pay38, k0_pay36, k0_pay35, k0_pay34, k0_pay33, k0_pay32, k0_pay31, k0_pay30, k0_pay23]
  rw [groups (fun s => log_keep1 hz R s) ht, log_beta1 hz, ← EReal.coe_add, Ideal.exp_coe, select_true, wwW, add_zero]
  split <;> rfl

include ht in
theorem weight_grad1 (hz : ∀ R s, ∑ x, v90 (ix2 R x) * v182 (ix2 s x) = (Z R s : EReal))
    (hg : ∀ R s, ∑ x, v155 (ix2 R x) * v254 (ix2 s x) = (G R s : EReal)) (R : Fin 256) (s : Fin 384) :
    eBody1 v155 v23 v90 v182 v254 v200 (ix2 R s) = ((eeW 384 (Z R) (G R) (keep1 v23 R) 0 s : ℝ) : EReal) := by
  pointwise [k0_pay39]
  have h := weight1 (v23 := v23) ht hz R s
  rw [wBody1] at h
  rw [hg, h, ← EReal.coe_mul, eeW]

include ht in
theorem grad_total1 (hz : ∀ R s, ∑ x, v90 (ix2 R x) * v182 (ix2 s x) = (Z R s : EReal))
    (hg : ∀ R s, ∑ x, v155 (ix2 R x) * v254 (ix2 s x) = (G R s : EReal)) (R : Fin 256) :
    k0_pay45 (eBody1 v155 v23 v90 v182 v254 v200) (ix2 R 0) = ((∑ s, eeW 384 (Z R) (G R) (keep1 v23 R) 0 s : ℝ) : EReal) := by
  pointwise [k0_pay45, k0_pay44, k0_pay43, k0_pay42, k0_pay41, k0_pay40]
  exact total3 (u := fun s => eBody1 v155 v23 v90 v182 v254 v200 (ix2 R s)) (fun s => weight_grad1 ht hz hg R s)

include ht in
theorem score_grad1 (hz : ∀ R s, ∑ x, v90 (ix2 R x) * v182 (ix2 s x) = (Z R s : EReal))
    (hg : ∀ R s, ∑ x, v155 (ix2 R x) * v254 (ix2 s x) = (G R s : EReal)) {v163 : FVec Ideal S256x1 .f32} {dd : Fin 256 → ℝ}
    (hd : ∀ R, v163 (ix2 R 0) = (dd R : EReal)) (R : Fin 256) (s : Fin 384) :
    k0_pay46 v163 k0_pay23 (k0_pay24 v23) (k0_pay28 v90 v182) (eBody1 v155 v23 v90 v182 v254 v200) v200 (ix2 R s)
      = ((dzW 384 (Z R) (G R) (keep1 v23 R) 0 0 (dd R) s : ℝ) : EReal) := by
  pointwise [k0_pay46, k0_pay44, k0_pay43, k0_pay42, k0_pay41, k0_pay40, k0_pay23]
  rw [groups (fun s => weight_grad1 ht hz hg R s) ht, weight_grad1 ht hz hg, log_beta1 hz, hd, ← EReal.coe_sub,
    Ideal.exp_coe, ← EReal.coe_mul, ← EReal.coe_sub, select_true, dzW, sub_zero]
  split <;> rfl

end Window

section Stores
variable {P : Fin 256 → Fin 384 → ℝ} {v : FVec Ideal S256x384 .bf16} (hv : ∀ R s, v (ix2 R s) = (P R s : EReal))

include hv in
/-- A window's share of a key's sum over the tile's rows. -/
theorem keys_at1 {A : Fin 256 → Fin 128 → ℝ} {q : FVec Ideal S256x128 .bf16} (hq : ∀ R d, q (ix2 R d) = (A R d : EReal))
    {B : Fin 384 → Fin 128 → ℝ} {old : Vec Ideal S384x128 .f32} (ho : ∀ s d, old (ix2 s d) = (B s d : EReal)) (s : Fin 384) (d : Fin 128) :
    k0_pay47 q v old (ix2 s d) = ((B s d + ∑ R, P R s * A R d : ℝ) : EReal) := by
  pointwise [k0_pay47]
  simp only [hv, hq, ho, ← EReal.coe_mul, coe_sum, ← EReal.coe_add]

include hv in
theorem values_at1 {A : Fin 256 → Fin 128 → ℝ} {q : FVec Ideal S256x128 .bf16} (hq : ∀ R d, q (ix2 R d) = (A R d : EReal))
    {B : Fin 384 → Fin 128 → ℝ} {old : Vec Ideal S384x128 .f32} (ho : ∀ s d, old (ix2 s d) = (B s d : EReal)) (s : Fin 384) (d : Fin 128) :
    k0_pay48 q v old (ix2 s d) = ((B s d + ∑ R, P R s * A R d : ℝ) : EReal) := by
  pointwise [k0_pay48]
  simp only [hv, hq, ho, ← EReal.coe_mul, coe_sum, ← EReal.coe_add]

include hv in
/-- The tile's share of the queries' gradient: each lane takes its own head's row. -/
theorem query_at1 {K : Fin 384 → Fin 128 → ℝ} {k : Vec Ideal S384x128 .bf16} (hk : ∀ s d, k (ix2 s d) = (K s d : EReal)) (r d : Fin 128) :
    k0_pay125 (F := Ideal) (k0_pay49 (k0_pay25 k) v) k0_pay52 k0_pay53 (ix2 r d)
      = ((∑ s, P ⟨128 * (d.val / 64) + r.val, by omega⟩ s * K s d : ℝ) : EReal) := by
  pointwise [k0_pay125, k0_pay52, k0_pay53, k0_pay49, k0_pay25]
  simp only [lane_head, hv, hk, ← EReal.coe_mul, coe_sum]
  rw [by_head0]
  have : d.val / 64 = 0 ∨ d.val / 64 = 1 := by omega
  rcases this with h | h <;> simp [h]

end Stores

/-- The log sum a trip keeps for the older keys, where there are any. -/
theorem keep_log1 {w : BitVec 32} (hw : Scalar.cmpi CmpIPredicate.sgt w 0#32 = 1#1) {v : FVec Ideal S256x1 .f32} {C : Fin 256 → ℝ}
    (hv : ∀ R, v (ix2 R 0) = (C R : EReal)) (R : Fin 256) (d : Fin 128) :
    k0_pay126 (F := Ideal) w (k0_pay50 k0_pay23 v) (ix2 R d) = (C R : EReal) := by
  pointwise [k0_pay126, k0_pay50, k0_pay23]
  rw [hw, select_true, if_pos rfl, hv]

theorem keep_sum1 {v : FVec Ideal S256x1 .f32} {C : Fin 256 → ℝ} (hv : ∀ R, v (ix2 R 0) = (C R : EReal)) (R : Fin 256) (d : Fin 128) :
    k0_pay127 (F := Ideal) (k0_pay51 k0_pay23 v) (ix2 R d) = (C R : EReal) := by
  pointwise [k0_pay127, k0_pay51, k0_pay23]
  rw [hv]

end Cert.SbKernelIdeal.Grad

end
-- ==== Proof.SbPay2.lean ====
/-
  The stick-breaking backward call, second loop: what each of a trip's payloads is, entry by entry, when what it loads is finite.
  Only the newest group of 128 keys is masked here.
-/
module

public import proofs.«01_k».proof.Proof.SbPay1

@[expose] public section

set_option maxRecDepth 16384

noncomputable section

open Idealize.ShloMosaic Idealize.ShloMosaic.TcCoe Idealize.SL.Sem
open scoped BigOperators

namespace Cert.SbKernelIdeal.Grad

open Cert.SbKernelIdeal Cert.SbKernelIdeal.Gen Cert.SbMath

section Tile
variable {Q : Fin 128 → Fin 128 → ℝ}

theorem q_at2 (u : Vec Ideal S128x128 .bf16) (hu : ∀ r d, u (ix2 r d) = (Q r d : EReal)) (R : Fin 256) (d : Fin 128) :
    k0_pay60 (F := Ideal) (k0_pay54 u) k0_pay55 (k0_pay56 u) (iota .tc S1x128 32 [1] iota_S1x128_d1_w32) 64#32 k0_pay57 k0_pay58 k0_pay59 (ix2 R d)
      = ((stk Q R d * (1 / 8) : ℝ) : EReal) := q_at1 u hu R d

theorem do_at2 (u : Vec Ideal S128x128 .bf16) (hu : ∀ r d, u (ix2 r d) = (Q r d : EReal)) (R : Fin 256) (d : Fin 128) :
    k0_pay66 (F := Ideal) (k0_pay61 u) k0_pay62 k0_pay63 k0_pay64 k0_pay65 (ix2 R d) = ((stk Q R d : ℝ) : EReal) := do_at1 u hu R d

theorem dd_at2 (u : Vec Ideal S128x128 .bf16) (hu : ∀ r d, u (ix2 r d) = (Q r d : EReal)) {O : Fin 128 → Fin 128 → ℝ} (o : Vec Ideal S128x128 .f32)
    (ho : ∀ r d, o (ix2 r d) = (O r d : EReal)) (R : Fin 256) :
    k0_pay68 (F := Ideal) (k0_pay67 (k0_pay61 u) k0_pay62 k0_pay63 k0_pay64 k0_pay65 o) (ix2 R 0)
      = ((∑ d, stk Q R d * O ⟨R.val % 128, Nat.mod_lt _ (by norm_num)⟩ d : ℝ) : EReal) := dd_at1 u hu o ho R

end Tile

theorem subi_ofNat {a b : ℕ} (h : b ≤ a) (ha : a < 2 ^ 32) : IntOp.subi (BitVec.ofNat 32 a) (BitVec.ofNat 32 b) = BitVec.ofNat 32 (a - b) := by
  apply BitVec.eq_of_toNat_eq
  show (BitVec.ofNat 32 a - BitVec.ofNat 32 b).toNat = _
  rw [BitVec.toNat_sub, BitVec.toNat_ofNat, BitVec.toNat_ofNat, BitVec.toNat_ofNat]
  omega

/-- Whether a row looks at a key of its window. -/
abbrev keep2 (R : Fin 256) (s : Fin 384) : Prop := s.val < 256 + R.val % 128

theorem mask2 (R : Fin 256) (x : Fin 128) : k0_pay70 (ix2 R x) = 1#1 ↔ x.val < R.val % 128 := by
  have hR := R.isLt
  have hx := x.isLt
  pointwise [k0_pay70]
  rw [WordCmp.cmpi_sge_ofNat (by omega) (by omega), WordCmp.select_decide]
  by_cases h : 128 ≤ R.val
  · rw [if_pos h, show IntOp.subi (BitVec.ofNat 32 R.val) 128#32 = BitVec.ofNat 32 (R.val - 128) from ?_, WordCmp.cmpi_slt_ofNat_eq_one_iff (by omega) (by omega)]
    · omega
    · exact subi_ofNat h (by omega)
  · rw [if_neg h, WordCmp.cmpi_slt_ofNat_eq_one_iff (by omega) (by omega)]
    omega

section Window
variable {v90 v155 : FVec Ideal S256x128 .bf16} {v182 v254 : Vec Ideal S384x128 .bf16} {v200 : Vec Ideal S256x128 .bf16}
  {Z G : Fin 256 → Fin 384 → ℝ}

/-- A row masked in its last group only is masked everywhere: the older groups' keys are all looked at. -/
theorem mask_last {α : Type} (R : Fin 256) (s : Fin 384) (a : Fin 384 → α) (b : α) :
    (if h : s.val < 256 then a ⟨s.val, s.isLt⟩ else Scalar.select (k0_pay70 (ix2 R ⟨s.val - 256, by omega⟩)) (a ⟨256 + (s.val - 256), by omega⟩) b)
      = if keep2 R s then a s else b := by
  by_cases h : s.val < 256
  · rw [dif_pos h, if_pos (by show s.val < _; omega)]
  · have hs : (⟨256 + (s.val - 256), by omega⟩ : Fin 384) = s := Fin.ext (by show 256 + (s.val - 256) = _; omega)
    rw [dif_neg h, select_true, hs]
    exact if_congr ((mask2 R _).trans (by show s.val - 256 < _ ↔ s.val < _; omega)) rfl rfl

theorem log_beta2 (hz : ∀ R s, ∑ x, v90 (ix2 R x) * v182 (ix2 s x) = (Z R s : EReal)) (R : Fin 256) (s : Fin 384) :
    k0_pay74 (F := Ideal) v90 v182 (ix2 R s) = ((Z R s - sp (Z R s) : ℝ) : EReal) := log_beta1 hz R s

theorem log_keep2 (hz : ∀ R s, ∑ x, v90 (ix2 R x) * v182 (ix2 s x) = (Z R s : EReal)) (R : Fin 256) (s : Fin 384) :
    k0_pay75 (F := Ideal) v90 v182 (ix2 R s) = ((lkW 384 (Z R) (keep2 R) s : ℝ) : EReal) := by
  pointwise [k0_pay75, k0_pay73, k0_pay72, k0_pay71]
  simp only [hz, Ideal.absf_def, softplus_coe, zero_sub_coe]
  rw [lkW]
  refine (mask_last R s (fun s => ((-sp (Z R s) : ℝ) : EReal)) 0).trans ?_
  split <;> rfl

theorem log_total2 (hz : ∀ R s, ∑ x, v90 (ix2 R x) * v182 (ix2 s x) = (Z R s : EReal)) (R : Fin 256) :
    k0_pay84 (F := Ideal) (k0_pay75 v90 v182) (k0_pay77 v90 v182) (ix2 R 0) = ((∑ s, lkW 384 (Z R) (keep2 R) s : ℝ) : EReal) := by
  pointwise [k0_pay84, k0_pay83, k0_pay82, k0_pay81, k0_pay80, k0_pay77]
  exact total3 (u := fun s => k0_pay75 v90 v182 (ix2 R s)) (fun s => log_keep2 hz R s)

variable (ht : ∀ k s, v200 (ix2 k s) = ((tri k.val s.val : ℝ) : EReal))

/-- The body's weights. -/
abbrev wBody2 (v90 : FVec Ideal S256x128 .bf16) (v182 : Vec Ideal S384x128 .bf16) (v200 : Vec Ideal S256x128 .bf16) : FVec Ideal S256x384 .bf16 :=
  k0_pay85 k0_pay69 k0_pay70 (k0_pay74 v90 v182) (k0_pay75 v90 v182) (k0_pay76 v200) (k0_pay77 v90 v182) (k0_pay78 v90 v182) (k0_pay79 v90 v182)

/-- The body's weights times their gradients. -/
abbrev eBody2 (v155 : FVec Ideal S256x128 .bf16) (v90 : FVec Ideal S256x128 .bf16) (v182 v254 : Vec Ideal S384x128 .bf16)
    (v200 : Vec Ideal S256x128 .bf16) : FVec Ideal S256x384 .f32 :=
  k0_pay86 v155 k0_pay69 k0_pay70 (k0_pay74 v90 v182) (k0_pay75 v90 v182) (k0_pay76 v200) (k0_pay77 v90 v182) (k0_pay78 v90 v182) (k0_pay79 v90 v182) v254

include ht in
theorem weight2 (hz : ∀ R s, ∑ x, v90 (ix2 R x) * v182 (ix2 s x) = (Z R s : EReal)) (R : Fin 256) (s : Fin 384) :
    wBody2 v90 v182 v200 (ix2 R s) = ((wwW 384 (Z R) (keep2 R) 0 s : ℝ) : EReal) := by
  pointwise [k0_pay85, k0_pay83, k0_pay82, k0_pay81, k0_pay80, k0_pay79, k0_pay78, k0_pay77, k0_pay76, k0_pay69]
  by_cases h : s.val < 256
  · rw [dif_pos h, groups (fun s => log_keep2 hz R s) ht, log_beta2 hz, ← EReal.coe_add, Ideal.exp_coe, wwW, if_pos (show s.val < _ by omega), add_zero]
  · have hs : 256 + (s.val - 256) = s.val := by omega
    rw [dif_neg h]
    simp only [hs, Fin.eta]
    rw [groups (fun s => log_keep2 hz R s) ht, log_beta2 hz, ← EReal.coe_add, Ideal.exp_coe, wwW, add_zero, select_true]
    exact (if_congr ((mask2 R _).trans (by show s.val - 256 < _ ↔ s.val < _; omega)) rfl rfl).trans (apply_ite _ _ _ _).symm

include ht in
theorem weight_grad2 (hz : ∀ R s, ∑ x, v90 (ix2 R x) * v182 (ix2 s x) = (Z R s : EReal))
    (hg : ∀ R s, ∑ x, v155 (ix2 R x) * v254 (ix2 s x) = (G R s : EReal)) (R : Fin 256) (s : Fin 384) :
    eBody2 v155 v90 v182 v254 v200 (ix2 R s) = ((eeW 384 (Z R) (G R) (keep2 R) 0 s : ℝ) : EReal) := by
  pointwise [k0_pay86]
  have h := weight2 ht hz R s
  rw [wBody2] at h
  rw [hg, h, ← EReal.coe_mul, eeW]

include ht in
theorem grad_total2 (hz : ∀ R s, ∑ x, v90 (ix2 R x) * v182 (ix2 s x) = (Z R s : EReal))
    (hg : ∀ R s, ∑ x, v155 (ix2 R x) * v254 (ix2 s x) = (G R s : EReal)) (R : Fin 256) :
    k0_pay92 (eBody2 v155 v90 v182 v254 v200) (ix2 R 0) = ((∑ s, eeW 384 (Z R) (G R) (keep2 R) 0 s : ℝ) : EReal) := by
  pointwise [k0_pay92, k0_pay91, k0_pay90, k0_pay89, k0_pay88, k0_pay87]
  exact total3 (u := fun s => eBody2 v155 v90 v182 v254 v200 (ix2 R s)) (fun s => weight_grad2 ht hz hg R s)

/-- The body's score gradients. -/
abbrev zBody2 (v163 : FVec Ideal S256x1 .f32) (v155 : FVec Ideal S256x128 .bf16) (v90 : FVec Ideal S256x128 .bf16) (v182 v254 : Vec Ideal S384x128 .bf16)
    (v200 : Vec Ideal S256x128 .bf16) : FVec Ideal S256x384 .bf16 :=
  k0_pay97 k0_pay70 (k0_pay94 v163 k0_pay69 (k0_pay74 v90 v182) (eBody2 v155 v90 v182 v254 v200) v200)
    (k0_pay95 v163 k0_pay69 (k0_pay74 v90 v182) (eBody2 v155 v90 v182 v254 v200) v200) k0_pay96

include ht in
theorem score_grad2 (hz : ∀ R s, ∑ x, v90 (ix2 R x) * v182 (ix2 s x) = (Z R s : EReal))
    (hg : ∀ R s, ∑ x, v155 (ix2 R x) * v254 (ix2 s x) = (G R s : EReal)) {v163 : FVec Ideal S256x1 .f32} {dd : Fin 256 → ℝ}
    (hd : ∀ R, v163 (ix2 R 0) = (dd R : EReal)) (R : Fin 256) (s : Fin 384) :
    zBody2 v163 v155 v90 v182 v254 v200 (ix2 R s) = ((dzW 384 (Z R) (G R) (keep2 R) 0 0 (dd R) s : ℝ) : EReal) := by
  have h93 : ∀ R s, k0_pay93 v163 k0_pay69 (k0_pay74 v90 v182) (eBody2 v155 v90 v182 v254 v200) v200 (ix2 R s)
      = ((eeW 384 (Z R) (G R) (keep2 R) 0 s - Real.exp (Z R s - sp (Z R s)) * (dd R - tailW 384 (eeW 384 (Z R) (G R) (keep2 R) 0) s) : ℝ) : EReal) := by
    intro R s
    pointwise [k0_pay93, k0_pay91, k0_pay90, k0_pay89, k0_pay88, k0_pay87, k0_pay69]
    rw [groups (fun s => weight_grad2 ht hz hg R s) ht, weight_grad2 ht hz hg, log_beta2 hz, hd, ← EReal.coe_sub,
      Ideal.exp_coe, ← EReal.coe_mul, ← EReal.coe_sub]
  pointwise [k0_pay97, k0_pay94, k0_pay95, k0_pay96]
  simp only [h93]
  rw [dzW, sub_zero]
  refine (mask_last R s (fun s => ((eeW 384 (Z R) (G R) (keep2 R) 0 s
    - Real.exp (Z R s - sp (Z R s)) * (dd R - tailW 384 (eeW 384 (Z R) (G R) (keep2 R) 0) s) : ℝ) : EReal)) 0).trans ?_
  split <;> rfl

end Window

section Stores
variable {P : Fin 256 → Fin 384 → ℝ} {v : FVec Ideal S256x384 .bf16} (hv : ∀ R s, v (ix2 R s) = (P R s : EReal))
variable {v311 : FVec Ideal S256x256 .f32} {v312 v313 : FVec Ideal S256x128 .f32} (hv2 : ∀ R s, k0_pay97 k0_pay70 v311 v312 v313 (ix2 R s) = (P R s : EReal))

include hv2 in
/-- A window's share of a key's sum over the tile's rows. -/
theorem keys_at2 {A : Fin 256 → Fin 128 → ℝ} {q : FVec Ideal S256x128 .bf16} (hq : ∀ R d, q (ix2 R d) = (A R d : EReal))
    {B : Fin 384 → Fin 128 → ℝ} {old : Vec Ideal S384x128 .f32} (ho : ∀ s d, old (ix2 s d) = (B s d : EReal)) (s : Fin 384) (d : Fin 128) :
    k0_pay98 q k0_pay70 v311 v312 v313 old (ix2 s d) = ((B s d + ∑ R, P R s * A R d : ℝ) : EReal) := by
  pointwise [k0_pay98]
  simp only [hv2, hq, ho, ← EReal.coe_mul, coe_sum, ← EReal.coe_add]

include hv in
theorem values_at2 {A : Fin 256 → Fin 128 → ℝ} {q : FVec Ideal S256x128 .bf16} (hq : ∀ R d, q (ix2 R d) = (A R d : EReal))
    {B : Fin 384 → Fin 128 → ℝ} {old : Vec Ideal S384x128 .f32} (ho : ∀ s d, old (ix2 s d) = (B s d : EReal)) (s : Fin 384) (d : Fin 128) :
    k0_pay99 q v old (ix2 s d) = ((B s d + ∑ R, P R s * A R d : ℝ) : EReal) := values_at1 hv hq ho s d

include hv2 in
/-- The tile's share of the queries' gradient: each lane takes its own head's row. -/
theorem query_at2 {K : Fin 384 → Fin 128 → ℝ} {k : Vec Ideal S384x128 .bf16} (hk : ∀ s d, k (ix2 s d) = (K s d : EReal)) (r d : Fin 128) :
    k0_pay128 (F := Ideal) (k0_pay100 k0_pay70 (k0_pay71 k) v311 v312 v313) k0_pay103 k0_pay104 1#32 (ix2 r d)
      = ((∑ s, P ⟨128 * (d.val / 64) + r.val, by omega⟩ s * K s d : ℝ) : EReal) := by
  pointwise [k0_pay128, k0_pay103, k0_pay104, k0_pay100, k0_pay71]
  simp only [lane_head, hv2, hk, ← EReal.coe_mul, coe_sum]
  rw [by_head0]
  have : d.val / 64 = 0 ∨ d.val / 64 = 1 := by omega
  rcases this with h | h <;> simp [h]

end Stores

theorem keep_log2 {w : BitVec 32} (hw : Scalar.cmpi CmpIPredicate.sgt w 0#32 = 1#1) {v : FVec Ideal S256x1 .f32} {C : Fin 256 → ℝ}
    (hv : ∀ R, v (ix2 R 0) = (C R : EReal)) (R : Fin 256) (d : Fin 128) :
    k0_pay129 (F := Ideal) w (k0_pay101 k0_pay69 v) (ix2 R d) = (C R : EReal) := keep_log1 hw hv R d

theorem keep_sum2 {v : FVec Ideal S256x1 .f32} {C : Fin 256 → ℝ} (hv : ∀ R, v (ix2 R 0) = (C R : EReal)) (R : Fin 256) (d : Fin 128) :
    k0_pay130 (F := Ideal) (k0_pay102 k0_pay69 v) (ix2 R d) = (C R : EReal) := keep_sum1 hv R d

end Cert.SbKernelIdeal.Grad

end
-- ==== Proof.SbPay3.lean ====
/-
  The stick-breaking backward call, third loop: what each of a trip's payloads is, entry by entry, when what it loads is finite.
  The inner loop's windows are 256 keys, and it carries the sum of logs and the sum of weighted gradients above the window.
-/
module

public import proofs.«01_k».proof.Proof.SbPay2

@[expose] public section

set_option maxRecDepth 16384

noncomputable section

open Idealize.ShloMosaic Idealize.ShloMosaic.TcCoe Idealize.SL.Sem
open scoped BigOperators

namespace Cert.SbKernelIdeal.Grad

open Cert.SbKernelIdeal Cert.SbKernelIdeal.Gen Cert.SbMath

section Tile
variable {Q : Fin 128 → Fin 128 → ℝ}

theorem q_at3 (u : Vec Ideal S128x128 .bf16) (hu : ∀ r d, u (ix2 r d) = (Q r d : EReal)) (R : Fin 256) (d : Fin 128) :
    k0_pay110 (F := Ideal) (k0_pay105 u) k0_pay106 (k0_pay107 u) (iota .tc S1x128 32 [1] iota_S1x128_d1_w32) 64#32 k0_pay108 k0_pay109 (ix2 R d)
      = ((stk Q R d * (1 / 8) : ℝ) : EReal) := q_at1 u hu R d

/-- The body's stacked output gradients. -/
abbrev doBody3 (u : Vec Ideal S128x128 .bf16) : FVec Ideal S256x128 .bf16 :=
  k0_pay115 (k0_pay111 u) k0_pay112 (iota .tc S1x128 32 [1] iota_S1x128_d1_w32) 64#32 k0_pay113 k0_pay114
    (Scalar.extui (Scalar.cmpi .sgt 64#32 0#32)) (Scalar.cmpi .slt 64#32 0#32)

theorem do_at3 (u : Vec Ideal S128x128 .bf16) (hu : ∀ r d, u (ix2 r d) = (Q r d : EReal)) (R : Fin 256) (d : Fin 128) :
    doBody3 u (ix2 R d) = ((stk Q R d : ℝ) : EReal) := do_at1 u hu R d

theorem dd_at3 (u : Vec Ideal S128x128 .bf16) (hu : ∀ r d, u (ix2 r d) = (Q r d : EReal)) {O : Fin 128 → Fin 128 → ℝ} (o : Vec Ideal S128x128 .f32)
    (ho : ∀ r d, o (ix2 r d) = (O r d : EReal)) (R : Fin 256) :
    k0_pay116 (F := Ideal) (doBody3 u) o (ix2 R 0)
      = ((∑ d, stk Q R d * O ⟨R.val % 128, Nat.mod_lt _ (by norm_num)⟩ d : ℝ) : EReal) := dd_at1 u hu o ho R

end Tile

/-- Whether a row looks at a key of its window: it does unless an earlier window has. -/
abbrev keep3 (U k0 : ℕ) (R s : Fin 256) : Prop := k0 + s.val < U

/-- The inner loop's column counter. -/
abbrev cols : IVec S256x256 32 := iota .tc S256x256 32 [1] iota_S256x256_d1_w32

theorem mask3 {j : ℕ} (hj : j ≤ 32) (R s : Fin 256) : k0_pay135 cols (BitVec.ofNat 32 (128 * j)) (ix2 R s) = 1#1 ↔ keep3 (128 * j) (128 * (j - 2)) R s := by
  have hs := s.isLt
  have hk : ∀ j, j ≤ 32 → Scalar.maxsi (Scalar.subi (BitVec.ofNat 32 (128 * j)) 256#32) 0#32 = BitVec.ofNat 32 (128 * (j - 2)) := by decide
  pointwise [k0_pay135]
  rw [hk j hj, WordCmp.addi_ofNat, WordCmp.cmpi_slt_ofNat_eq_one_iff (by omega) (by omega)]

/-- The first loop's mask: the keys before the row's own, from the window's first key on. -/
theorem mask1 {k : ℕ} (hk : k < 32) (R : Fin 256) (s : Fin 384) :
    keep1 (BitVec.ofNat 32 (128 * k)) R s ↔ 128 * (k - 2) + s.val < 128 * k + R.val % 128 := by
  have hs := s.isLt
  have hR := R.isLt
  have h : ∀ k, k < 32 → Scalar.maxsi (Scalar.subi (Scalar.addi (BitVec.ofNat 32 (128 * k)) 128#32) 384#32) 0#32 = BitVec.ofNat 32 (128 * (k - 2)) := by
    decide
  rw [keep1]
  pointwise [k0_pay24]
  rw [h k hk, WordCmp.cmpi_sge_ofNat (by omega) (by omega), WordCmp.select_decide]
  by_cases h : 128 ≤ R.val
  · rw [if_pos h, show IntOp.subi (BitVec.ofNat 32 R.val) 128#32 = BitVec.ofNat 32 (R.val - 128) from subi_ofNat h (by omega), WordCmp.addi_ofNat,
      WordCmp.addi_ofNat, WordCmp.cmpi_slt_ofNat_eq_one_iff (by omega) (by omega)]
    omega
  · rw [if_neg h, WordCmp.addi_ofNat, WordCmp.addi_ofNat, WordCmp.cmpi_slt_ofNat_eq_one_iff (by omega) (by omega)]
    omega

/-- The group sums of a row of 256, in the order the body takes them. -/
theorem groups2 {f : Fin 256 → ℝ} {u : Fin 256 → EReal} {T : Fin 256 → Fin 128 → EReal} (hu : ∀ s, u s = (f s : EReal))
    (hT : ∀ k s, T k s = ((tri k.val s.val : ℝ) : EReal)) (s : Fin 256) :
    (if h : s.val < 128 then
      ∑ x : Fin 128, u ⟨x.val, by omega⟩ * T ⟨x.val, by omega⟩ ⟨s.val, h⟩
        + ∑ x : Fin 128, (u ⟨x.val, by omega⟩ - u ⟨x.val, by omega⟩) * T ⟨128 + x.val, by omega⟩ ⟨s.val, h⟩
        + ∑ x : Fin 128, u ⟨128 + x.val, by omega⟩
    else
      ∑ x : Fin 128, u ⟨128 + x.val, by omega⟩ * T ⟨x.val, by omega⟩ ⟨s.val - 128, by omega⟩
        + ∑ x : Fin 128, (u ⟨128 + x.val, by omega⟩ - u ⟨128 + x.val, by omega⟩) * T ⟨128 + x.val, by omega⟩ ⟨s.val - 128, by omega⟩)
      = ((tailW 256 f s : ℝ) : EReal) := by
  simp only [hu, hT, sub_self_coe, zero_mul, Finset.sum_const_zero, add_zero, ← EReal.coe_mul, coe_sum, ← EReal.coe_add]
  split
  · rw [tail2_low f s ‹_›]
  · rw [tail2_high f s (by omega)]

theorem total2 {f : Fin 256 → ℝ} {u : Fin 256 → EReal} (hu : ∀ s, u s = (f s : EReal)) :
    ∑ x : Fin 128, u ⟨128 + x.val, by omega⟩ + ∑ x : Fin 128, u ⟨x.val, by omega⟩ = ((∑ s, f s : ℝ) : EReal) := by
  simp only [hu, coe_sum, ← EReal.coe_add]
  rw [sum_two f]; congr 1; ring

section Window
variable {v94 v159 : FVec Ideal S256x128 .bf16} {v230 v287 : Vec Ideal S256x128 .bf16} {v248 : Vec Ideal S256x128 .bf16} {w : BitVec 32}
  {Z G : Fin 256 → Fin 256 → ℝ} {c : FVec Ideal S256x1 .f32} {C : Fin 256 → ℝ}

/-- Whether a row looks at a key, as the body's mask says. -/
abbrev keepw (w : BitVec 32) (R s : Fin 256) : Prop := k0_pay135 cols w (ix2 R s) = 1#1

theorem log_beta3 (hz : ∀ R s, ∑ x, v94 (ix2 R x) * v230 (ix2 s x) = (Z R s : EReal)) (R s : Fin 256) :
    k0_pay139 (F := Ideal) v94 v230 (ix2 R s) = ((Z R s - sp (Z R s) : ℝ) : EReal) := by
  pointwise [k0_pay139, k0_pay138, k0_pay137, k0_pay136]
  rw [hz, Ideal.absf_def, softplus_coe, ← EReal.coe_sub]

theorem log_keep3 (hz : ∀ R s, ∑ x, v94 (ix2 R x) * v230 (ix2 s x) = (Z R s : EReal)) (R s : Fin 256) :
    k0_pay140 (F := Ideal) cols v94 w v230 (ix2 R s) = ((lkW 256 (Z R) (keepw w R) s : ℝ) : EReal) := by
  pointwise [k0_pay140, k0_pay138, k0_pay137, k0_pay136]
  rw [hz, Ideal.absf_def, softplus_coe, zero_sub_coe, select_true, lkW]
  split <;> simp

theorem log_total3 (hz : ∀ R s, ∑ x, v94 (ix2 R x) * v230 (ix2 s x) = (Z R s : EReal)) (R : Fin 256) :
    k0_pay149 (F := Ideal) (k0_pay144 cols v94 w v230) (k0_pay145 cols v94 w v230) (ix2 R 0) = ((∑ s, lkW 256 (Z R) (keepw w R) s : ℝ) : EReal) := by
  pointwise [k0_pay149, k0_pay145, k0_pay144, k0_pay142]
  exact total2 (u := fun s => k0_pay140 cols v94 w v230 (ix2 R s)) (fun s => log_keep3 hz R s)

variable (ht : ∀ k s, v248 (ix2 k s) = ((tri k.val s.val : ℝ) : EReal)) (hc : ∀ R, c (ix2 R 0) = (C R : EReal))

/-- The body's weights. -/
abbrev wBody3 (c : FVec Ideal S256x1 .f32) (w : BitVec 32) (v94 : FVec Ideal S256x128 .bf16) (v230 : Vec Ideal S256x128 .bf16) (v248 : Vec Ideal S256x128 .bf16) :
    FVec Ideal S256x256 .bf16 :=
  k0_pay150 c (k0_pay135 cols w) (k0_pay139 v94 v230) (k0_pay141 v248) (k0_pay143 cols v94 w v230 v248) (k0_pay144 cols v94 w v230)
    (k0_pay147 cols v94 w v230) (k0_pay148 cols v94 w v230)

/-- The body's weights times their gradients. -/
abbrev eBody3 (v159 : FVec Ideal S256x128 .bf16) (c : FVec Ideal S256x1 .f32) (w : BitVec 32) (v94 : FVec Ideal S256x128 .bf16)
    (v230 v287 : Vec Ideal S256x128 .bf16) (v248 : Vec Ideal S256x128 .bf16) : FVec Ideal S256x256 .f32 :=
  k0_pay151 v159 c (k0_pay135 cols w) (k0_pay139 v94 v230) (k0_pay141 v248) (k0_pay143 cols v94 w v230 v248) (k0_pay144 cols v94 w v230)
    (k0_pay147 cols v94 w v230) (k0_pay148 cols v94 w v230) v287

include ht hc in
theorem weight3 (hz : ∀ R s, ∑ x, v94 (ix2 R x) * v230 (ix2 s x) = (Z R s : EReal)) (R s : Fin 256) :
    wBody3 c w v94 v230 v248 (ix2 R s) = ((wwW 256 (Z R) (keepw w R) (C R) s : ℝ) : EReal) := by
  pointwise [k0_pay150, k0_pay148, k0_pay147, k0_pay146, k0_pay145, k0_pay144, k0_pay143, k0_pay142, k0_pay141]
  rw [groups2 (fun s => log_keep3 hz R s) ht, log_beta3 hz, hc, ← EReal.coe_add, ← EReal.coe_add, Ideal.exp_coe, select_true, wwW]
  split <;> rfl

include ht hc in
theorem weight_grad3 (hz : ∀ R s, ∑ x, v94 (ix2 R x) * v230 (ix2 s x) = (Z R s : EReal))
    (hg : ∀ R s, ∑ x, v159 (ix2 R x) * v287 (ix2 s x) = (G R s : EReal)) (R s : Fin 256) :
    eBody3 v159 c w v94 v230 v287 v248 (ix2 R s) = ((eeW 256 (Z R) (G R) (keepw w R) (C R) s : ℝ) : EReal) := by
  pointwise [k0_pay151]
  have h := weight3 (w := w) ht hc hz R s
  rw [wBody3] at h
  rw [hg, h, ← EReal.coe_mul, eeW]

/-- The body's total of a window. -/
abbrev eTot3 (v159 : FVec Ideal S256x128 .bf16) (c : FVec Ideal S256x1 .f32) (w : BitVec 32) (v94 : FVec Ideal S256x128 .bf16)
    (v230 v287 : Vec Ideal S256x128 .bf16) (v248 : Vec Ideal S256x128 .bf16) : FVec Ideal S256x1 .f32 :=
  k0_pay155 v159 c (k0_pay135 cols w) (k0_pay139 v94 v230) (k0_pay141 v248) (k0_pay143 cols v94 w v230 v248) (k0_pay144 cols v94 w v230)
    (k0_pay147 cols v94 w v230) (k0_pay148 cols v94 w v230) v287

include ht hc in
theorem grad_total3 (hz : ∀ R s, ∑ x, v94 (ix2 R x) * v230 (ix2 s x) = (Z R s : EReal))
    (hg : ∀ R s, ∑ x, v159 (ix2 R x) * v287 (ix2 s x) = (G R s : EReal)) (R : Fin 256) :
    eTot3 v159 c w v94 v230 v287 v248 (ix2 R 0) = ((∑ s, eeW 256 (Z R) (G R) (keepw w R) (C R) s : ℝ) : EReal) := by
  pointwise [k0_pay155, k0_pay154, k0_pay153, k0_pay152]
  exact total2 (u := fun s => eBody3 v159 c w v94 v230 v287 v248 (ix2 R s)) (fun s => weight_grad3 ht hc hz hg R s)

/-- The body's later weighted gradients. -/
abbrev eTail3 (v159 : FVec Ideal S256x128 .bf16) (c : FVec Ideal S256x1 .f32) (w : BitVec 32) (v94 : FVec Ideal S256x128 .bf16)
    (v230 v287 : Vec Ideal S256x128 .bf16) (v248 : Vec Ideal S256x128 .bf16) : FVec Ideal S256x256 .f32 :=
  k0_pay156 v159 c (k0_pay135 cols w) (k0_pay139 v94 v230) (k0_pay141 v248) (k0_pay143 cols v94 w v230 v248) (k0_pay144 cols v94 w v230)
    (k0_pay147 cols v94 w v230) (k0_pay148 cols v94 w v230) v287 v248

include ht hc in
theorem score_grad3 (hz : ∀ R s, ∑ x, v94 (ix2 R x) * v230 (ix2 s x) = (Z R s : EReal))
    (hg : ∀ R s, ∑ x, v159 (ix2 R x) * v287 (ix2 s x) = (G R s : EReal)) {v167 ce : FVec Ideal S256x1 .f32} {dd CE : Fin 256 → ℝ}
    (hd : ∀ R, v167 (ix2 R 0) = (dd R : EReal)) (hce : ∀ R, ce (ix2 R 0) = (CE R : EReal)) (R s : Fin 256) :
    k0_pay1 v167 ce (k0_pay135 cols w) (k0_pay139 v94 v230) (eBody3 v159 c w v94 v230 v287 v248) (eTail3 v159 c w v94 v230 v287 v248) (ix2 R s)
      = ((dzW 256 (Z R) (G R) (keepw w R) (C R) (CE R) (dd R) s : ℝ) : EReal) := by
  have ht3 : eTail3 v159 c w v94 v230 v287 v248 (ix2 R s) = ((tailW 256 (eeW 256 (Z R) (G R) (keepw w R) (C R)) s : ℝ) : EReal) := by
    pointwise [k0_pay156, k0_pay154, k0_pay153, k0_pay152]
    exact groups2 (u := fun s => eBody3 v159 c w v94 v230 v287 v248 (ix2 R s)) (fun s => weight_grad3 ht hc hz hg R s) ht s
  pointwise [k0_pay1]
  rw [eTail3] at ht3
  have h := weight_grad3 (w := w) ht hc hz hg R s
  rw [eBody3] at h
  rw [log_beta3 hz, hd, hce]
  simp only [ht3, h]
  rw [← EReal.coe_sub, ← EReal.coe_sub, Ideal.exp_coe, ← EReal.coe_mul, ← EReal.coe_sub, select_true, dzW]
  split <;> rfl

end Window

section Stores
variable {P : Fin 256 → Fin 256 → ℝ}

theorem keys_at3 {v167 ce : FVec Ideal S256x1 .f32} {v228 : IVec S256x256 1} {v243 v290 v320 : FVec Ideal S256x256 .f32}
    (hv : ∀ R s, k0_pay1 v167 ce v228 v243 v290 v320 (ix2 R s) = (P R s : EReal))
    {A : Fin 256 → Fin 128 → ℝ} {q : FVec Ideal S256x128 .bf16} (hq : ∀ R d, q (ix2 R d) = (A R d : EReal))
    {B : Fin 256 → Fin 128 → ℝ} {old : Vec Ideal S256x128 .f32} (ho : ∀ s d, old (ix2 s d) = (B s d : EReal)) (s : Fin 256) (d : Fin 128) :
    k0_pay2 q v167 ce v228 v243 v290 v320 old (ix2 s d) = ((B s d + ∑ R, P R s * A R d : ℝ) : EReal) := by
  pointwise [k0_pay2]
  simp only [hv, hq, ho, ← EReal.coe_mul, coe_sum, ← EReal.coe_add]

theorem values_at3 {v : FVec Ideal S256x256 .bf16} (hv : ∀ R s, v (ix2 R s) = (P R s : EReal))
    {A : Fin 256 → Fin 128 → ℝ} {q : FVec Ideal S256x128 .bf16} (hq : ∀ R d, q (ix2 R d) = (A R d : EReal))
    {B : Fin 256 → Fin 128 → ℝ} {old : Vec Ideal S256x128 .f32} (ho : ∀ s d, old (ix2 s d) = (B s d : EReal)) (s : Fin 256) (d : Fin 128) :
    k0_pay3 q v old (ix2 s d) = ((B s d + ∑ R, P R s * A R d : ℝ) : EReal) := by
  pointwise [k0_pay3]
  simp only [hv, hq, ho, ← EReal.coe_mul, coe_sum, ← EReal.coe_add]

theorem gather_at3 {v167 ce : FVec Ideal S256x1 .f32} {v228 : IVec S256x256 1} {v243 v290 v320 : FVec Ideal S256x256 .f32}
    (hv : ∀ R s, k0_pay1 v167 ce v228 v243 v290 v320 (ix2 R s) = (P R s : EReal))
    {K : Fin 256 → Fin 128 → ℝ} {k : Vec Ideal S256x128 .bf16} (hk : ∀ s d, k (ix2 s d) = (K s d : EReal))
    {W : Fin 256 → Fin 128 → ℝ} {acc : FVec Ideal S256x128 .f32} (ha : ∀ R d, acc (ix2 R d) = (W R d : EReal)) (R : Fin 256) (d : Fin 128) :
    k0_pay6 v167 ce acc v228 (k0_pay136 k) v243 v290 v320 (ix2 R d) = ((W R d + ∑ s, P R s * K s d : ℝ) : EReal) := by
  pointwise [k0_pay6, k0_pay136]
  simp only [hv, hk, ha, ← EReal.coe_mul, coe_sum, ← EReal.coe_add]

/-- The older keys' share of the queries' gradient is added, each lane taking its own head's row. -/
theorem query_at3 {W : Fin 256 → Fin 128 → ℝ} {acc : FVec Ideal S256x128 .f32} (ha : ∀ R d, acc (ix2 R d) = (W R d : EReal))
    {B : Fin 128 → Fin 128 → ℝ} {old : Vec Ideal S128x128 .f32} (ho : ∀ r d, old (ix2 r d) = (B r d : EReal)) (r d : Fin 128) :
    k0_pay131 (F := Ideal) acc old k0_pay119 k0_pay120 k0_pay121 k0_pay122 (ix2 r d)
      = ((B r d + W ⟨128 * (d.val / 64) + r.val, by omega⟩ d : ℝ) : EReal) := by
  pointwise [k0_pay131, k0_pay119, k0_pay120, k0_pay121, k0_pay122]
  simp only [lane_head, ha, ho]
  rw [by_head0, EReal.coe_add]
  have : d.val / 64 = 0 ∨ d.val / 64 = 1 := by omega
  rcases this with h | h <;> simp [h]

theorem zero_at3 (R : Fin 256) (d : Fin 128) : k0_pay117 (F := Ideal) (ix2 R d) = ((0 : ℝ) : EReal) := by
  pointwise [k0_pay117]
  exact EReal.coe_zero.symm

/-- The sums carried on. -/
theorem carry_log3 {c v : FVec Ideal S256x1 .f32} {C V : Fin 256 → ℝ} (hc : ∀ R, c (ix2 R 0) = (C R : EReal)) (hv : ∀ R, v (ix2 R 0) = (V R : EReal))
    (R : Fin 256) : k0_pay4 (F := Ideal) c v (ix2 R 0) = ((C R + V R : ℝ) : EReal) := by
  pointwise [k0_pay4]; rw [hc, hv, EReal.coe_add]

theorem carry_sum3 {c v : FVec Ideal S256x1 .f32} {C V : Fin 256 → ℝ} (hc : ∀ R, c (ix2 R 0) = (C R : EReal)) (hv : ∀ R, v (ix2 R 0) = (V R : EReal))
    (R : Fin 256) : k0_pay5 (F := Ideal) c v (ix2 R 0) = ((C R + V R : ℝ) : EReal) := by
  pointwise [k0_pay5]; rw [hc, hv, EReal.coe_add]

end Stores

section Greatest

theorem fold_top {ι : Type} (s : Finset ι) (f : ι → EReal) (b : EReal) (x : ι) (hx : x ∈ s) (h : b < f x) : b < Finset.fold max b f s := by
  classical
  induction s using Finset.induction_on with
  | empty => simp at hx
  | insert a s ha ih =>
    rw [Finset.fold_insert ha]
    rcases Finset.mem_insert.1 hx with rfl | hx
    · exact lt_max_of_lt_left h
    · exact lt_max_of_lt_right (ih hx)

/-- The largest running log of a tile is above −∞: the loop's second test never stops it. -/
theorem start_top {c : Vec Ideal S256x1 .f32} {C : Fin 256 → ℝ} (hc : ∀ R, c (ix2 R 0) = (C R : EReal)) : (⊥ : EReal) < k0_pay118 (F := Ideal) c := by
  pointwise [k0_pay118]
  rw [bot_f32]
  exact fold_top _ _ _ (0, 0) (Finset.mem_univ _) (by rw [hc]; exact EReal.bot_lt_coe _)

theorem turn_top {c v : FVec Ideal S256x1 .f32} {C V : Fin 256 → ℝ} (hc : ∀ R, c (ix2 R 0) = (C R : EReal)) (hv : ∀ R, v (ix2 R 0) = (V R : EReal)) :
    (⊥ : EReal) < k0_pay7 (F := Ideal) c v := by
  pointwise [k0_pay7, k0_pay4]
  rw [bot_f32]
  exact fold_top _ _ _ (0, 0) (Finset.mem_univ _) (by rw [hc, hv, ← EReal.coe_add]; exact EReal.bot_lt_coe _)

end Greatest

end Cert.SbKernelIdeal.Grad

end
-- ==== Proof.SbTrips.lean ====
/-
  The stick-breaking backward call: what a trip of the first and of the second loop stores, as its payloads applied to what it loads.
-/
module

public import proofs.«01_k».proof.Proof.SbIdealRun
public import proofs.«01_k».proof.Proof.SbPay3

@[expose] public section

set_option maxRecDepth 65536

noncomputable section

open Idealize.ShloMosaic Idealize.ShloMosaic.TcCoe Idealize.SL.Sem
open Idealize.ShloMosaic.Rounds Idealize.ShloMosaic.Pipeline

namespace Cert.SbKernelIdeal.Grad

open Cert.SbKernelIdeal Cert.SbKernelIdeal.Gen

section Trips
variable (i : grid0.Coords) (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S256x128 .bf16) (harg4 : arg4.IsWhole)
  (arg5 : Memref sig .tc .vmem S4096x128 .f32) (harg5 : arg5.IsWhole) (arg6 : Memref sig .tc .vmem S4096x128 .bf16) (harg6 : arg6.IsWhole)
  (arg7 : Memref sig .tc .vmem S4096x128 .bf16) (harg7 : arg7.IsWhole) (arg8 : Memref sig .tc .vmem S4096x128 .bf16) (harg8 : arg8.IsWhole)
  (arg9 : Memref sig .tc .vmem S4096x128 .bf16) (harg9 : arg9.IsWhole) (arg10 : Memref sig .tc .vmem S4096x128 .f32) (harg10 : arg10.IsWhole)
  (arg11 : Memref sig .tc .vmem S4096x128 .f32) (harg11 : arg11.IsWhole) (arg12 : Memref sig .tc .vmem S4096x128 .f32) (harg12 : arg12.IsWhole)
  (arg13 : Memref sig .tc .vmem S8192x128 .f32) (harg13 : arg13.IsWhole) (arg14 : Memref sig .tc .vmem S8192x128 .f32) (harg14 : arg14.IsWhole)
  (X1 : BufTy.Contents (Elt Ideal) arg1.view.ty) (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty) (X6 : BufTy.Contents (Elt Ideal) arg6.view.ty)

section Loop1
variable (k : Fin k0_t1_loop.trips)

/-- The tile's queries, output gradients and outputs; the window's keys and values; the triangle. -/
abbrev tq1 : Vec Ideal S128x128 .bf16 := View.readAt (Elt Ideal) arg1.view (Rect.unit (s := S4096x128) (k0_off1 k) S128x128.size (k0_off1_inb k)).toLoadRect X1
abbrev tg1 : Vec Ideal S128x128 .bf16 := View.readAt (Elt Ideal) arg6.view (Rect.unit (s := S4096x128) (k0_off1 k) S128x128.size (k0_off1_inb k)).toLoadRect X6
abbrev to1 : Vec Ideal S128x128 .f32 := View.readAt (Elt Ideal) arg5.view (Rect.unit (s := S4096x128) (k0_off1 k) S128x128.size (k0_off1_inb k)).toLoadRect X5
abbrev wk1 : Vec Ideal S384x128 .bf16 := View.readAt (Elt Ideal) arg2.view (Rect.unit (s := S4096x128) (k0_off2 k) S384x128.size (k0_off2_inb k)).toLoadRect X2
abbrev wv1 : Vec Ideal S384x128 .bf16 := View.readAt (Elt Ideal) arg3.view (Rect.unit (s := S4096x128) (k0_off2 k) S384x128.size (k0_off2_inb k)).toLoadRect X3
abbrev tt : Vec Ideal S256x128 .bf16 := View.readAt (Elt Ideal) arg4.view (Rect.unit (s := S256x128) ![0, 0] S256x128.size inb_S256x128_S256x128_0_0).toLoadRect X4

/-- The tile stacked over both heads, the row sums of output times output gradient. -/
abbrev sq1 : FVec Ideal S256x128 .bf16 := k0_pay14 (k0_pay8 (tq1 arg1 X1 k)) k0_pay9 (k0_pay10 (tq1 arg1 X1 k)) (iota .tc S1x128 32 [1] iota_S1x128_d1_w32) 64#32 k0_pay11 k0_pay12 k0_pay13
abbrev sg1 : FVec Ideal S256x128 .bf16 := k0_pay20 (k0_pay15 (tg1 arg6 X6 k)) k0_pay16 k0_pay17 k0_pay18 k0_pay19
abbrev sd1 : FVec Ideal S256x1 .f32 := k0_pay22 (k0_pay21 (k0_pay15 (tg1 arg6 X6 k)) k0_pay16 k0_pay17 k0_pay18 k0_pay19 (to1 arg5 X5 k))

/-- The tile's first row and the window's first key, as words. -/
abbrev row1 : BitVec 32 := Scalar.muli (Scf.iv 0#32 1#32 k) 128#32
abbrev key1 : BitVec 32 := Scalar.maxsi (Scalar.subi (Scalar.addi (row1 k) 128#32) 384#32) 0#32

/-- The window's weights, weighted gradients, and gradients of the scores. -/
abbrev sw1 : FVec Ideal S256x384 .bf16 := wBody1 (row1 k) (sq1 arg1 X1 k) (wk1 arg2 X2 k) (tt arg4 X4)
abbrev se1 : FVec Ideal S256x384 .f32 := eBody1 (sg1 arg6 X6 k) (row1 k) (sq1 arg1 X1 k) (wk1 arg2 X2 k) (wv1 arg3 X3 k) (tt arg4 X4)
abbrev sz1 : FVec Ideal S256x384 .bf16 := k0_pay46 (sd1 arg5 arg6 X5 X6 k) k0_pay23 (k0_pay24 (row1 k)) (k0_pay28 (sq1 arg1 X1 k) (wk1 arg2 X2 k))
  (se1 arg1 arg2 arg3 arg4 arg6 X1 X2 X3 X4 X6 k) (tt arg4 X4)

variable (c : Dev nD) (f10 : BufTy.Contents (Elt Ideal) arg10.view.ty) (f11 : BufTy.Contents (Elt Ideal) arg11.view.ty) (f12 : BufTy.Contents (Elt Ideal) arg12.view.ty)
  (f13 : BufTy.Contents (Elt Ideal) arg13.view.ty) (f14 : BufTy.Contents (Elt Ideal) arg14.view.ty)

theorem stored1_10 : (trip_k0_t1 (F := Ideal) turns c none i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 k).1 f10 f11 f12 f13 f14
    = [⟨Rect.unit (s := S4096x128) (k0_off1 k) S128x128.size (k0_off1_inb k), k0_pay125 (k0_pay49 (k0_pay25 (wk1 arg2 X2 k)) (sz1 arg1 arg2 arg3 arg4 arg5 arg6 X1 X2 X3 X4 X5 X6 k)) k0_pay52 k0_pay53⟩] := by
  unfold trip_k0_t1; rfl

theorem stored1_11 : (trip_k0_t1 (F := Ideal) turns c none i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 k).2.1 f10 f11 f12 f13 f14
    = [⟨Rect.unit (s := S4096x128) (k0_off2 k) S384x128.size (k0_off2_inb k), k0_pay47 (sq1 arg1 X1 k) (sz1 arg1 arg2 arg3 arg4 arg5 arg6 X1 X2 X3 X4 X5 X6 k) (View.readAt (Elt Ideal) arg11.view (Rect.unit (s := S4096x128) (k0_off2 k) S384x128.size (k0_off2_inb k)).toLoadRect f11)⟩] := by
  unfold trip_k0_t1; rfl

theorem stored1_12 : (trip_k0_t1 (F := Ideal) turns c none i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 k).2.2.1 f10 f11 f12 f13 f14
    = [⟨Rect.unit (s := S4096x128) (k0_off2 k) S384x128.size (k0_off2_inb k), k0_pay48 (sg1 arg6 X6 k) (sw1 arg1 arg2 arg4 X1 X2 X4 k) (View.readAt (Elt Ideal) arg12.view (Rect.unit (s := S4096x128) (k0_off2 k) S384x128.size (k0_off2_inb k)).toLoadRect f12)⟩] := by
  unfold trip_k0_t1; rfl

theorem stored1_13 : (trip_k0_t1 (F := Ideal) turns c none i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 k).2.2.2.1 f10 f11 f12 f13 f14
    = [⟨Rect.unit (s := S8192x128) (k0_off3 k) S256x128.size (k0_off3_inb k), k0_pay126 (key1 k) (k0_pay50 k0_pay23 (k0_pay37 (k0_pay29 (row1 k) (sq1 arg1 X1 k) (wk1 arg2 X2 k)) (k0_pay31 (row1 k) (sq1 arg1 X1 k) (wk1 arg2 X2 k))))⟩] := by
  unfold trip_k0_t1; rfl

theorem stored1_14 : (trip_k0_t1 (F := Ideal) turns c none i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 k).2.2.2.2.1 f10 f11 f12 f13 f14
    = [⟨Rect.unit (s := S8192x128) (k0_off3 k) S256x128.size (k0_off3_inb k), k0_pay127 (k0_pay51 k0_pay23 (k0_pay45 (se1 arg1 arg2 arg3 arg4 arg6 X1 X2 X3 X4 X6 k)))⟩] := by
  unfold trip_k0_t1; rfl

end Loop1

section Loop2
variable (k : Fin k0_t2_loop.trips)

/-- The tile's queries, output gradients and outputs; the window's keys and values; the triangle. -/
abbrev tq2 : Vec Ideal S128x128 .bf16 := View.readAt (Elt Ideal) arg1.view (Rect.unit (s := S4096x128) (k0_off4 k) S128x128.size (k0_off4_inb k)).toLoadRect X1
abbrev tg2 : Vec Ideal S128x128 .bf16 := View.readAt (Elt Ideal) arg6.view (Rect.unit (s := S4096x128) (k0_off4 k) S128x128.size (k0_off4_inb k)).toLoadRect X6
abbrev to2 : Vec Ideal S128x128 .f32 := View.readAt (Elt Ideal) arg5.view (Rect.unit (s := S4096x128) (k0_off4 k) S128x128.size (k0_off4_inb k)).toLoadRect X5
abbrev wk2 : Vec Ideal S384x128 .bf16 := View.readAt (Elt Ideal) arg2.view (Rect.unit (s := S4096x128) (k0_off5 k) S384x128.size (k0_off5_inb k)).toLoadRect X2
abbrev wv2 : Vec Ideal S384x128 .bf16 := View.readAt (Elt Ideal) arg3.view (Rect.unit (s := S4096x128) (k0_off5 k) S384x128.size (k0_off5_inb k)).toLoadRect X3

/-- The tile stacked over both heads, the row sums of output times output gradient. -/
abbrev sq2 : FVec Ideal S256x128 .bf16 := k0_pay60 (k0_pay54 (tq2 arg1 X1 k)) k0_pay55 (k0_pay56 (tq2 arg1 X1 k)) (iota .tc S1x128 32 [1] iota_S1x128_d1_w32) 64#32 k0_pay57 k0_pay58 k0_pay59
abbrev sg2 : FVec Ideal S256x128 .bf16 := k0_pay66 (k0_pay61 (tg2 arg6 X6 k)) k0_pay62 k0_pay63 k0_pay64 k0_pay65
abbrev sd2 : FVec Ideal S256x1 .f32 := k0_pay68 (k0_pay67 (k0_pay61 (tg2 arg6 X6 k)) k0_pay62 k0_pay63 k0_pay64 k0_pay65 (to2 arg5 X5 k))

/-- The window's first key, as a word. -/
abbrev key2 : BitVec 32 := Scalar.maxsi (Scalar.subi (Scalar.addi (Scalar.muli (Scf.iv 8#32 1#32 k) 128#32) 128#32) 384#32) 0#32

/-- The window's weights, weighted gradients, and gradients of the scores. -/
abbrev sw2 : FVec Ideal S256x384 .bf16 := wBody2 (sq2 arg1 X1 k) (wk2 arg2 X2 k) (tt arg4 X4)
abbrev se2 : FVec Ideal S256x384 .f32 := eBody2 (sg2 arg6 X6 k) (sq2 arg1 X1 k) (wk2 arg2 X2 k) (wv2 arg3 X3 k) (tt arg4 X4)
abbrev sa2 : FVec Ideal S256x256 .f32 := k0_pay94 (sd2 arg5 arg6 X5 X6 k) k0_pay69 (k0_pay74 (sq2 arg1 X1 k) (wk2 arg2 X2 k))
  (se2 arg1 arg2 arg3 arg4 arg6 X1 X2 X3 X4 X6 k) (tt arg4 X4)
abbrev sb2 : FVec Ideal S256x128 .f32 := k0_pay95 (sd2 arg5 arg6 X5 X6 k) k0_pay69 (k0_pay74 (sq2 arg1 X1 k) (wk2 arg2 X2 k))
  (se2 arg1 arg2 arg3 arg4 arg6 X1 X2 X3 X4 X6 k) (tt arg4 X4)

variable (c : Dev nD) (f10 : BufTy.Contents (Elt Ideal) arg10.view.ty) (f11 : BufTy.Contents (Elt Ideal) arg11.view.ty) (f12 : BufTy.Contents (Elt Ideal) arg12.view.ty)
  (f13 : BufTy.Contents (Elt Ideal) arg13.view.ty) (f14 : BufTy.Contents (Elt Ideal) arg14.view.ty)

theorem stored2_10 : (trip_k0_t2 (F := Ideal) turns c none i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 k).1 f10 f11 f12 f13 f14
    = [⟨Rect.unit (s := S4096x128) (k0_off4 k) S128x128.size (k0_off4_inb k), k0_pay128 (k0_pay100 k0_pay70 (k0_pay71 (wk2 arg2 X2 k)) (sa2 arg1 arg2 arg3 arg4 arg5 arg6 X1 X2 X3 X4 X5 X6 k) (sb2 arg1 arg2 arg3 arg4 arg5 arg6 X1 X2 X3 X4 X5 X6 k) k0_pay96) k0_pay103 k0_pay104 1#32⟩] := by
  unfold trip_k0_t2; rfl

theorem stored2_11 : (trip_k0_t2 (F := Ideal) turns c none i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 k).2.1 f10 f11 f12 f13 f14
    = [⟨Rect.unit (s := S4096x128) (k0_off5 k) S384x128.size (k0_off5_inb k), k0_pay98 (sq2 arg1 X1 k) k0_pay70 (sa2 arg1 arg2 arg3 arg4 arg5 arg6 X1 X2 X3 X4 X5 X6 k) (sb2 arg1 arg2 arg3 arg4 arg5 arg6 X1 X2 X3 X4 X5 X6 k) k0_pay96 (View.readAt (Elt Ideal) arg11.view (Rect.unit (s := S4096x128) (k0_off5 k) S384x128.size (k0_off5_inb k)).toLoadRect f11)⟩] := by
  unfold trip_k0_t2; rfl

theorem stored2_12 : (trip_k0_t2 (F := Ideal) turns c none i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 k).2.2.1 f10 f11 f12 f13 f14
    = [⟨Rect.unit (s := S4096x128) (k0_off5 k) S384x128.size (k0_off5_inb k), k0_pay99 (sg2 arg6 X6 k) (sw2 arg1 arg2 arg4 X1 X2 X4 k) (View.readAt (Elt Ideal) arg12.view (Rect.unit (s := S4096x128) (k0_off5 k) S384x128.size (k0_off5_inb k)).toLoadRect f12)⟩] := by
  unfold trip_k0_t2; rfl

theorem stored2_13 : (trip_k0_t2 (F := Ideal) turns c none i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 k).2.2.2.1 f10 f11 f12 f13 f14
    = [⟨Rect.unit (s := S8192x128) (k0_off6 k) S256x128.size (k0_off6_inb k), k0_pay129 (key2 k) (k0_pay101 k0_pay69 (k0_pay84 (k0_pay75 (sq2 arg1 X1 k) (wk2 arg2 X2 k)) (k0_pay77 (sq2 arg1 X1 k) (wk2 arg2 X2 k))))⟩] := by
  unfold trip_k0_t2; rfl

theorem stored2_14 : (trip_k0_t2 (F := Ideal) turns c none i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 k).2.2.2.2.1 f10 f11 f12 f13 f14
    = [⟨Rect.unit (s := S8192x128) (k0_off6 k) S256x128.size (k0_off6_inb k), k0_pay130 (k0_pay102 k0_pay69 (k0_pay92 (se2 arg1 arg2 arg3 arg4 arg6 X1 X2 X3 X4 X6 k)))⟩] := by
  unfold trip_k0_t2; rfl

end Loop2

section Loop3
variable (X13 : BufTy.Contents (Elt Ideal) arg13.view.ty) (X14 : BufTy.Contents (Elt Ideal) arg14.view.ty) (k : Fin k0_t3_loop.trips)

/-- The tile's queries, output gradients and outputs; its sums of logs and of weighted gradients so far. -/
abbrev tq3 : Vec Ideal S128x128 .bf16 := View.readAt (Elt Ideal) arg1.view (Rect.unit (s := S4096x128) (k0_off8 k) S128x128.size (k0_off8_inb k)).toLoadRect X1
abbrev tg3 : Vec Ideal S128x128 .bf16 := View.readAt (Elt Ideal) arg6.view (Rect.unit (s := S4096x128) (k0_off8 k) S128x128.size (k0_off8_inb k)).toLoadRect X6
abbrev to3 : Vec Ideal S128x128 .f32 := View.readAt (Elt Ideal) arg5.view (Rect.unit (s := S4096x128) (k0_off8 k) S128x128.size (k0_off8_inb k)).toLoadRect X5
abbrev tc3 : Vec Ideal S256x1 .f32 := View.readAt (Elt Ideal) arg13.view (Rect.unit (s := S8192x128) (k0_off7 k) S256x1.size (k0_off7_inb k)).toLoadRect X13
abbrev te3 : Vec Ideal S256x1 .f32 := View.readAt (Elt Ideal) arg14.view (Rect.unit (s := S8192x128) (k0_off7 k) S256x1.size (k0_off7_inb k)).toLoadRect X14

/-- The tile stacked over both heads, the row sums of output times output gradient. -/
abbrev sq3 : FVec Ideal S256x128 .bf16 := k0_pay110 (k0_pay105 (tq3 arg1 X1 k)) k0_pay106 (k0_pay107 (tq3 arg1 X1 k)) (iota .tc S1x128 32 [1] iota_S1x128_d1_w32) 64#32 k0_pay108 k0_pay109
abbrev sg3 : FVec Ideal S256x128 .bf16 := doBody3 (tg3 arg6 X6 k)
abbrev sd3 : FVec Ideal S256x1 .f32 := k0_pay116 (sg3 arg6 X6 k) (to3 arg5 X5 k)

/-- The first key not yet looked at. -/
abbrev from3 : BitVec 32 := Scalar.maxsi (Scalar.subi (Scalar.addi (Scalar.muli (Scf.iv 0#32 1#32 k) 128#32) 128#32) 384#32) 0#32

theorem start3_cols : (trip3 (F := Ideal) i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k).1 = cols := by unfold trip3; rfl
theorem start3_q : (trip3 (F := Ideal) i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k).2.1 = sq3 arg1 X1 k := by unfold trip3; rfl
theorem start3_g : (trip3 (F := Ideal) i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k).2.2.1 = sg3 arg6 X6 k := by unfold trip3; rfl
theorem start3_d : (trip3 (F := Ideal) i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k).2.2.2.1 = sd3 arg5 arg6 X5 X6 k := by unfold trip3; rfl
theorem start3_key : (trip3 (F := Ideal) i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k).2.2.2.2.1 = from3 k := by unfold trip3; rfl
theorem start3_log : (trip3 (F := Ideal) i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k).2.2.2.2.2.1 = tc3 arg13 X13 k := by unfold trip3; rfl
theorem start3_sum : (trip3 (F := Ideal) i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k).2.2.2.2.2.2.1 = te3 arg14 X14 k := by unfold trip3; rfl
theorem start3_acc : (trip3 (F := Ideal) i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k).2.2.2.2.2.2.2.1 = k0_pay117 := by unfold trip3; rfl
theorem start3_top : (trip3 (F := Ideal) i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k).2.2.2.2.2.2.2.2.1 = k0_pay118 (tc3 arg13 X13 k) := by unfold trip3; rfl
theorem stored3_10 (r : FVec Ideal S256x128 .f32) (f10 : BufTy.Contents (Elt Ideal) arg10.view.ty) : (trip3 (F := Ideal) i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k).2.2.2.2.2.2.2.2.2.1 r f10
    = [⟨Rect.unit (s := S4096x128) (k0_off8 k) S128x128.size (k0_off8_inb k), k0_pay131 r
        (View.readAt (Elt Ideal) arg10.view (Rect.unit (s := S4096x128) (k0_off8 k) S128x128.size (k0_off8_inb k)).toLoadRect f10)
        k0_pay119 k0_pay120 k0_pay121 k0_pay122⟩] := by unfold trip3; rfl

end Loop3

end Trips

section Turn
variable (a : Cc0While1 Ideal) (hp : a.v168 = cols) (X2 : In2 a) (X3 : In3 a) (X4 : In4 a) (hg : goes a = 1#1) (hk : k0_chk1 a.arg16)

/-- The window's keys and values, the triangle. -/
abbrev uk : Vec Ideal S256x128 .bf16 := View.readAt (Elt Ideal) a.arg2.view (Rect.unit (s := S4096x128) (k0_off9 a.arg16) S256x128.size (k0_off9_inb a.arg16 hk)).toLoadRect X2
abbrev uv : Vec Ideal S256x128 .bf16 := View.readAt (Elt Ideal) a.arg3.view (Rect.unit (s := S4096x128) (k0_off9 a.arg16) S256x128.size (k0_off9_inb a.arg16 hk)).toLoadRect X3
abbrev ut : Vec Ideal S256x128 .bf16 := View.readAt (Elt Ideal) a.arg4.view (Rect.unit (s := S256x128) ![0, 0] S256x128.size inb_S256x128_S256x128_0_0).toLoadRect X4

/-- The window's weighted gradients and their later sums. -/
abbrev ue : FVec Ideal S256x256 .f32 := eBody3 a.v159 a.arg17 a.arg16 a.v94 (uk a X2 hk) (uv a X3 hk) (ut a X4)
abbrev uz : FVec Ideal S256x256 .f32 := eTail3 a.v159 a.arg17 a.arg16 a.v94 (uk a X2 hk) (uv a X3 hk) (ut a X4)
/-- The window's sum of logs. -/
abbrev ul : FVec Ideal S256x1 .f32 := k0_pay149 (k0_pay144 cols a.v94 a.arg16 (uk a X2 hk)) (k0_pay145 cols a.v94 a.arg16 (uk a X2 hk))

include hp in
theorem turn_log : (trip a X2 X3 X4 hg hk).2.1 = k0_pay4 a.arg17 (ul a X2 hk) := by
  obtain ⟨_, _, _, _, _, _, _, _, _, _, _, _, _, _, _, _, _, _, _, _, _⟩ := a
  cases hp; unfold trip; rfl

include hp in
theorem turn_sum : (trip a X2 X3 X4 hg hk).2.2.1
    = k0_pay5 a.arg18 (eTot3 a.v159 a.arg17 a.arg16 a.v94 (uk a X2 hk) (uv a X3 hk) (ut a X4)) := by
  obtain ⟨_, _, _, _, _, _, _, _, _, _, _, _, _, _, _, _, _, _, _, _, _⟩ := a
  cases hp; unfold trip; rfl

include hp in
theorem turn_acc : (trip a X2 X3 X4 hg hk).2.2.2.1
    = k0_pay6 a.v167 a.arg18 a.arg19 (k0_pay135 cols a.arg16) (k0_pay136 (uk a X2 hk)) (k0_pay139 a.v94 (uk a X2 hk)) (ue a X2 X3 X4 hk) (uz a X2 X3 X4 hk) := by
  obtain ⟨_, _, _, _, _, _, _, _, _, _, _, _, _, _, _, _, _, _, _, _, _⟩ := a
  cases hp; unfold trip; rfl

include hp in
theorem turn_greatest : (trip a X2 X3 X4 hg hk).2.2.2.2.1 = k0_pay7 a.arg17 (ul a X2 hk) := by
  obtain ⟨_, _, _, _, _, _, _, _, _, _, _, _, _, _, _, _, _, _, _, _, _⟩ := a
  cases hp; unfold trip; rfl

include hp in
theorem turn_11 (f11 : Out11 a) : (trip a X2 X3 X4 hg hk).2.2.2.2.2.1 f11
    = [⟨Rect.unit (s := S4096x128) (k0_off9 a.arg16) S256x128.size (k0_off9_inb a.arg16 hk),
        k0_pay2 a.v94 a.v167 a.arg18 (k0_pay135 cols a.arg16) (k0_pay139 a.v94 (uk a X2 hk)) (ue a X2 X3 X4 hk) (uz a X2 X3 X4 hk)
          (View.readAt (Elt Ideal) a.arg11.view (Rect.unit (s := S4096x128) (k0_off9 a.arg16) S256x128.size (k0_off9_inb a.arg16 hk)).toLoadRect f11)⟩] := by
  obtain ⟨_, _, _, _, _, _, _, _, _, _, _, _, _, _, _, _, _, _, _, _, _⟩ := a
  cases hp; unfold trip; rfl

include hp in
theorem turn_12 (f12 : Out12 a) : (trip a X2 X3 X4 hg hk).2.2.2.2.2.2.1 f12
    = [⟨Rect.unit (s := S4096x128) (k0_off9 a.arg16) S256x128.size (k0_off9_inb a.arg16 hk),
        k0_pay3 a.v159 (wBody3 a.arg17 a.arg16 a.v94 (uk a X2 hk) (ut a X4))
          (View.readAt (Elt Ideal) a.arg12.view (Rect.unit (s := S4096x128) (k0_off9 a.arg16) S256x128.size (k0_off9_inb a.arg16 hk)).toLoadRect f12)⟩] := by
  obtain ⟨_, _, _, _, _, _, _, _, _, _, _, _, _, _, _, _, _, _, _, _, _⟩ := a
  cases hp; unfold trip; rfl

end Turn

end Cert.SbKernelIdeal.Grad

end
-- ==== Proof.SbTile.lean ====
/-
  The stick-breaking backward pass over real numbers, tile by tile: a tile is 128 queries of two heads, whose 64 lanes each lie
  side by side; its window is a run of keys. What each of the three gradients gathers from a window.
-/
module

public import proofs.«01_k».proof.Proof.SbPayKit

@[expose] public section

noncomputable section

namespace Cert.SbMath

open scoped BigOperators

/-! ### Sums gathered over all tiles, each tile from its own bound up -/

/-- What key `s` has gathered when tile `m` has looked at the keys from `L m` up. -/
def gathered (f : ℕ → Fin 128 → ℕ → ℝ) (L : ℕ → ℕ) (s : ℕ) : ℝ := ∑ m ∈ Finset.range 32, ∑ r, if L m ≤ s then f m r s else 0

/-- One tile's window more. -/
theorem gathered_step (f : ℕ → Fin 128 → ℕ → ℝ) (L : ℕ → ℕ) {m k0 N U : ℕ} (hm : m < 32) (hU : L m = U) (hk : k0 ≤ U)
    (hf : ∀ r s, k0 + N ≤ s → s < U → f m r s = 0) (s : ℕ) :
    gathered f (Function.update L m k0) s
      = gathered f L s + if k0 ≤ s ∧ s < k0 + N then ∑ r, (if s < U then f m r s else 0) else 0 := by
  have h : ∀ n ∈ Finset.range 32, (∑ r, if Function.update L m k0 n ≤ s then f n r s else 0)
      = (∑ r, if L n ≤ s then f n r s else 0)
        + if n = m then (if k0 ≤ s ∧ s < k0 + N then ∑ r, (if s < U then f m r s else 0) else 0) else 0 := by
    intro n _
    by_cases hn : n = m
    · subst hn
      rw [Function.update_self, if_pos rfl, hU]
      by_cases hs : k0 ≤ s ∧ s < k0 + N
      · rw [if_pos hs, ← Finset.sum_add_distrib]
        refine Finset.sum_congr rfl fun r _ => ?_
        rw [if_pos hs.1]
        by_cases h2 : U ≤ s
        · rw [if_pos h2, if_neg (by omega), add_zero]
        · rw [if_neg h2, if_pos (by omega), zero_add]
      · rw [if_neg hs, add_zero]
        refine Finset.sum_congr rfl fun r _ => ?_
        by_cases h2 : U ≤ s
        · rw [if_pos h2, if_pos (by omega)]
        · rw [if_neg h2]
          by_cases h3 : k0 ≤ s
          · rw [if_pos h3, hf r s (by omega) (by omega)]
          · rw [if_neg h3]
    · rw [Function.update_of_ne hn, if_neg hn, add_zero]
  rw [gathered, gathered, Finset.sum_congr rfl h, Finset.sum_add_distrib, Finset.sum_ite_eq' (Finset.range 32) m,
    if_pos (Finset.mem_range.2 hm)]

/-- Before any tile has looked, nothing is gathered. -/
theorem gathered_none (f : ℕ → Fin 128 → ℕ → ℝ) (L : ℕ → ℕ) (s : ℕ) (h : ∀ m, m < 32 → s < L m) : gathered f L s = 0 :=
  Finset.sum_eq_zero fun m hm => Finset.sum_eq_zero fun r _ => if_neg (by have := h m (Finset.mem_range.1 hm); omega)

/-- When every tile has looked at every key, all of it is. -/
theorem gathered_all (f : ℕ → ℕ → ℝ) (L : ℕ → ℕ) (s : ℕ) (h : ∀ m, m < 32 → L m = 0) :
    gathered (fun m r s => f (128 * m + r) s) L s = ∑ t ∈ Finset.range 4096, f t s := by
  rw [gathered, show (4096 : ℕ) = 32 * 128 from rfl, ← Fin.sum_univ_eq_sum_range (fun t => f t s) (32 * 128),
    ← Fin.sum_univ_eq_sum_range (fun m => ∑ r : Fin 128, if L m ≤ s then f (128 * m + r) s else 0) 32,
    ← (finProdFinEquiv (m := 32) (n := 128)).sum_comp, Fintype.sum_prod_type]
  refine Finset.sum_congr rfl fun m _ => Finset.sum_congr rfl fun r _ => ?_
  rw [if_pos (by rw [h m m.isLt]; omega)]
  congr 1
  show 128 * m.val + r.val = r.val + 128 * m.val
  omega

/-- A sum over the stacked rows takes, in each lane, the rows of the lane's own head. -/
theorem sum_stk (P : Fin 256 → ℝ) (A : Fin 128 → Fin 128 → ℝ) (d : Fin 128) :
    ∑ R, P R * stk A R d = ∑ r : Fin 128, P ⟨128 * (d.val / 64) + r.val, by omega⟩ * A r d := by
  rw [sum_two]
  have hd : d.val / 64 = 0 ∨ d.val / 64 = 1 := by omega
  have e1 : ∀ r : Fin 128, r.val / 128 = 0 := fun r => by omega
  have e2 : ∀ r : Fin 128, (128 + r.val) / 128 = 1 := fun r => by omega
  have e3 : ∀ r : Fin 128, (128 + r.val) % 128 = r.val := fun r => by omega
  have e4 : ∀ r : Fin 128, r.val % 128 = r.val := fun r => by omega
  rcases hd with h | h
  · simp [stk, h, e1, e2, e4]
  · simp [stk, h, e1, e2, e3]

/-! ### The two heads' scores, and what follows from them -/

section Heads
variable (Q K V D O : ℕ → Fin 128 → ℝ)

/-- One head's lanes of two rows, multiplied. -/
def along (A B : ℕ → Fin 128 → ℝ) (h t s : ℕ) : ℝ := ∑ d : Fin 128, (if d.val / 64 = h then A t d else 0) * B s d

/-- A query's scores. -/
def zr (h t s : ℕ) : ℝ := ∑ d : Fin 128, ((if d.val / 64 = h then Q t d else 0) * (1 / 8)) * K s d

/-- A query's log keeps, weights, weighted gradients and score gradients. -/
def lt (h t : ℕ) : ℕ → ℝ := lk t (zr Q K h t)
def wt (h t : ℕ) : ℕ → ℝ := ww 4096 t (zr Q K h t)
def et (h t : ℕ) : ℕ → ℝ := ee 4096 t (zr Q K h t) (along D V h t)
def zt (h t : ℕ) : ℕ → ℝ := dz 4096 t (zr Q K h t) (along D V h t)

/-- What a query of head `h` gathers, in lane `d`, from the keys from `L` up. -/
def dqA (h t : ℕ) (d : Fin 128) (L : ℕ) : ℝ := above 4096 (fun s => zt Q K V D h t s * K s d) L

/-- A tile's shares of the keys' and of the values' gradients. -/
def dkF (d : Fin 128) (m : ℕ) (r : Fin 128) (s : ℕ) : ℝ := zt Q K V D (d.val / 64) (128 * m + r) s * (Q (128 * m + r) d * (1 / 8))
def dvF (d : Fin 128) (m : ℕ) (r : Fin 128) (s : ℕ) : ℝ := wt Q K (d.val / 64) (128 * m + r) s * D (128 * m + r) d

/-- Output times output gradient is the sum of the weighted gradients. -/
theorem out_sum (hO : ∀ t, t < 4096 → ∀ d : Fin 128, O t d = ∑ s ∈ Finset.range 4096, wt Q K (d.val / 64) t s * V s d) (h t : ℕ) (ht : t < 4096) :
    ∑ d : Fin 128, (if d.val / 64 = h then D t d else 0) * O t d = ∑ s ∈ Finset.range 4096, et Q K V D h t s := by
  have h1 : ∀ d : Fin 128, (if d.val / 64 = h then D t d else 0) * O t d
      = ∑ s ∈ Finset.range 4096, wt Q K h t s * ((if d.val / 64 = h then D t d else 0) * V s d) := by
    intro d
    by_cases hd : d.val / 64 = h
    · rw [if_pos hd, hO t ht d, Finset.mul_sum, hd]
      exact Finset.sum_congr rfl fun s _ => by ring
    · rw [if_neg hd]; simp
  simp only [h1]
  rw [Finset.sum_comm]
  refine Finset.sum_congr rfl fun s _ => ?_
  rw [← Finset.mul_sum]; rfl

variable {Q K V D O}

/-- A tile's row, stacked. -/
def rowOf (m : ℕ) (R : Fin 256) : ℕ := 128 * m + R.val % 128

theorem rowOf_lt {m : ℕ} (hm : m < 32) (R : Fin 256) : rowOf m R < 4096 := by unfold rowOf; omega

/-- The scores of a tile's rows in a window. -/
def zW (Q K : ℕ → Fin 128 → ℝ) (m k0 N : ℕ) (R : Fin 256) (i : Fin N) : ℝ := zr Q K (R.val / 128) (rowOf m R) (k0 + i)
def gW (V D : ℕ → Fin 128 → ℝ) (m k0 N : ℕ) (R : Fin 256) (i : Fin N) : ℝ := along D V (R.val / 128) (rowOf m R) (k0 + i)

theorem fits {m k0 N U : ℕ} {keep : Fin N → Prop} (hin : k0 + N ≤ 4096) (hlow : k0 ≤ U) (R : Fin 256)
    (hreach : ∀ s, k0 + N ≤ s → s < U → rowOf m R ≤ s)
    (hkeep : ∀ i, keep i ↔ k0 + (i : ℕ) < rowOf m R ∧ k0 + (i : ℕ) < U) :
    Fits 4096 (rowOf m R) (zr Q K (R.val / 128) (rowOf m R)) (along D V (R.val / 128) (rowOf m R)) k0 U N
      (zW Q K m k0 N R) (gW V D m k0 N R) keep :=
  ⟨hin, hlow, hreach, fun _ => rfl, fun _ => rfl, hkeep⟩

/-- A window's product with the stacked queries, or output gradients, is the tile's share of the window's keys. -/
theorem share {F : Fin 128 → ℕ → Fin 128 → ℕ → ℝ} {f : ℕ → ℕ → ℕ → ℝ} {A : ℕ → Fin 128 → ℝ}
    (hF : ∀ d m r s, F d m r s = f (d.val / 64) (128 * m + r) s * A (128 * m + r) d) {N : ℕ} (m k0 U : ℕ) (P : Fin 256 → Fin N → ℝ)
    (hP : ∀ R i, P R i = if k0 + (i : ℕ) < U then f (R.val / 128) (rowOf m R) (k0 + i) else 0) (i : Fin N) (d : Fin 128) :
    ∑ R, P R i * stk (fun r => A (128 * m + r)) R d = ∑ r, if k0 + (i : ℕ) < U then F d m r (k0 + i) else 0 := by
  rw [sum_stk]
  refine Finset.sum_congr rfl fun r _ => ?_
  have e1 : (128 * (d.val / 64) + r.val) / 128 = d.val / 64 := by omega
  have e2 : rowOf m ⟨128 * (d.val / 64) + r.val, by omega⟩ = 128 * m + r.val := by
    show 128 * m + (128 * (d.val / 64) + r.val) % 128 = _
    omega
  rw [hP, hF, e2]
  show (if _ then f ((128 * (d.val / 64) + r.val) / 128) _ _ else 0) * _ = _
  rw [e1]
  split <;> simp

end Heads

/-! ### How far the tiles have looked -/

/-- After `n` steps: a tile starts by its own keys and the two tiles before, and in a second round looks at all older keys. -/
def bound (n m : ℕ) : ℕ := if m + 32 < n then 0 else if m < n ∧ m < 32 then 128 * (m - 2) else 4096

theorem bound_start (m : ℕ) : bound 0 m = 4096 := by unfold bound; simp

theorem bound_own {k : ℕ} (hk : k < 32) : bound k k = 4096 := by unfold bound; split <;> [omega; split] <;> omega

theorem bound_first {k : ℕ} (hk : k < 32) : bound (k + 1) = Function.update (bound k) k (128 * (k - 2)) := by
  funext m
  by_cases h : m = k
  · subst h; rw [Function.update_self]; unfold bound; rw [if_neg (by omega), if_pos (by omega)]
  · rw [Function.update_of_ne h]; unfold bound
    rw [if_neg (show ¬m + 32 < k + 1 by omega), if_neg (show ¬m + 32 < k by omega)]
    exact if_congr (by omega) rfl rfl

theorem bound_rest {m : ℕ} (hm : m < 32) : bound (32 + m) m = 128 * (m - 2) := by
  unfold bound; rw [if_neg (by omega), if_pos (by omega)]

theorem bound_second {k : ℕ} (hk : k < 32) : bound (32 + k + 1) = Function.update (bound (32 + k)) k 0 := by
  funext m
  by_cases h : m = k
  · subst h; rw [Function.update_self]; unfold bound; rw [if_pos (by omega)]
  · rw [Function.update_of_ne h]; unfold bound
    by_cases h1 : m + 32 < 32 + k
    · rw [if_pos (show m + 32 < 32 + k + 1 by omega), if_pos h1]
    · rw [if_neg (show ¬m + 32 < 32 + k + 1 by omega), if_neg h1]
      exact if_congr (by omega) rfl rfl

theorem bound_end {m : ℕ} (hm : m < 32) : bound 64 m = 0 := by unfold bound; rw [if_pos (by omega)]

end Cert.SbMath

end
-- ==== Proof.SbReads.lean ====
/-
  What a buffer of rows holds, carried through stores of whole rows and read back by loads of whole rows.
-/
module

public import Idealize.ShloMosaic.Lib.WritesUnit
public import Idealize.ShloMosaic.Lib.Pointwise

@[expose] public section

noncomputable section

open Idealize.ShloMosaic Idealize.ShloMosaic.TcCoe

namespace Cert.SbMath

variable {sig : RefSig} {κ : Kind} {sp : Space} {e : EltTy} {Val : EltTy → Type} {H W N : ℕ}

/-- Row `t`, lane `d` of the buffer reads `A t d`, on the rows `P` speaks of. -/
def Holds (v : View sig κ sp (⟨2, ![H, W]⟩ : Shape) e) (f : v.ty.Contents Val) (A : ℕ → Fin W → Val e) (P : ℕ → Prop) : Prop :=
  ∀ (t : Fin H) (d : Fin W), P t.val → v.read Val f (ix2 t d) = A t.val d

variable {v : View sig κ sp (⟨2, ![H, W]⟩ : Shape) e} {f : v.ty.Contents Val} {A A' : ℕ → Fin W → Val e} {P P' : ℕ → Prop}

theorem Holds.mono (h : Holds v f A P) (hP : ∀ t, t < H → P' t → P t) (hA : ∀ t d, t < H → P' t → A t d = A' t d) : Holds v f A' P' :=
  fun t d ht => (h t d (hP t t.isLt ht)).trans (hA t d t.isLt ht)

/-- A load of `N` rows from row `o` on. -/
theorem Holds.load (h : Holds v f A P) {off : Fin 2 → ℕ} {o : ℕ} (hoff : off = ![o, 0]) (inb : ∀ a : Fin 2, off a + ![N, W] a ≤ ![H, W] a)
    (r : Fin N) (d : Fin W) (hP : P (o + r.val)) :
    v.readAt Val (Rect.unit (s := (⟨2, ![H, W]⟩ : Shape)) off ![N, W] inb).toLoadRect f (ix2 r d) = A (o + r.val) d := by
  subst hoff
  have hin := inb 0
  have hb : o + r.val < H := by have := r.isLt; change o + N ≤ H at hin; omega
  rw [← h ⟨o + r.val, hb⟩ d hP]
  refine congrArg (v.read Val f) (funext fun a => Fin.ext ?_)
  match a with
  | ⟨0, _⟩ => show o + 1 * r.val = o + r.val; omega
  | ⟨1, _⟩ => show 0 + 1 * d.val = d.val; omega

/-- A load of the first lane of `N` rows. -/
theorem Holds.loadFirst {W : ℕ} {v : View sig κ sp (⟨2, ![H, W]⟩ : Shape) e} {f : v.ty.Contents Val} {A : ℕ → Fin W → Val e} (h : Holds v f A P)
    {off : Fin 2 → ℕ} {o : ℕ} (hoff : off = ![o, 0]) (inb : ∀ a : Fin 2, off a + ![N, 1] a ≤ ![H, W] a) (hW : 0 < W)
    (r : Fin N) (hP : P (o + r.val)) :
    v.readAt Val (Rect.unit (s := (⟨2, ![H, W]⟩ : Shape)) off ![N, 1] inb).toLoadRect f (ix2 r (0 : Fin 1)) = A (o + r.val) ⟨0, hW⟩ := by
  subst hoff
  have hin := inb 0
  have hb : o + r.val < H := by have := r.isLt; change o + N ≤ H at hin; omega
  rw [← h ⟨o + r.val, hb⟩ ⟨0, hW⟩ hP]
  refine congrArg (v.read Val f) (funext fun a => Fin.ext ?_)
  match a with
  | ⟨0, _⟩ => show o + 1 * r.val = o + r.val; omega
  | ⟨1, _⟩ => show 0 + 1 * 0 = 0; omega

/-- A store of `N` rows from row `o` on. -/
theorem Holds.store (h : Holds v f A P) {off : Fin 2 → ℕ} {o : ℕ} (hoff : off = ![o, 0]) (inb : ∀ a : Fin 2, off a + ![N, W] a ≤ ![H, W] a)
    (w : (Rect.unit (s := (⟨2, ![H, W]⟩ : Shape)) off ![N, W] inb).shape.Idx → Val e)
    (hw : ∀ (r : Fin N) (d : Fin W), P' (o + r.val) → w (ix2 r d) = A' (o + r.val) d)
    (hout : ∀ t d, t < H → ¬(o ≤ t ∧ t < o + N) → P' t → P t ∧ A t d = A' t d) :
    Holds v (v.writes Val f [⟨Rect.unit (s := (⟨2, ![H, W]⟩ : Shape)) off ![N, W] inb, w⟩]) A' P' := by
  intro t d ht
  by_cases hin : o ≤ t.val ∧ t.val < o + N
  · obtain ⟨r, hr⟩ : ∃ r : Fin N, t.val = o + r.val := ⟨⟨t.val - o, by omega⟩, by show t.val = o + (t.val - o); omega⟩
    rw [View.read_writes_cons_rows_of_mem v f inb w [] (ix2 t d) (ix2 r d) hoff hr rfl, hw r d (hr ▸ ht), ← hr]
  · obtain ⟨hP, hA⟩ := hout t d t.isLt hin ht
    rw [View.read_writes_cons_rows_of_not_mem (W := N) v f inb w [] (ix2 t d) hoff rfl
      (by show t.val < o ∨ o + N ≤ t.val; omega), View.writes_nil, h t d hP, hA]

end Cert.SbMath

end
-- ==== Proof.SbKeep.lean ====
/-
  The stick-breaking backward call: what the five scratch buffers hold after each tile of the first two loops, over real numbers.
-/
module

public import proofs.«01_k».proof.Proof.SbTrips
public import proofs.«01_k».proof.Proof.SbTile
public import proofs.«01_k».proof.Proof.SbReads

@[expose] public section

set_option maxRecDepth 65536

noncomputable section

open Idealize.ShloMosaic Idealize.ShloMosaic.TcCoe Idealize.SL.Sem
open Idealize.ShloMosaic.Rounds Idealize.ShloMosaic.Pipeline
open Cert.SbMath

namespace Cert.SbKernelIdeal.Grad

open Cert.SbKernelIdeal Cert.SbKernelIdeal.Gen

/-- Real numbers as the buffers' values. -/
abbrev up {W : ℕ} (A : ℕ → Fin W → ℝ) : ℕ → Fin W → EReal := fun t d => ((A t d : ℝ) : EReal)

/-- A row of the two sums' buffers: the tile `x / 256`, its stacked row `x % 256`. -/
def logSum (Q K : ℕ → Fin 128 → ℝ) (x : ℕ) : ℝ := above 4096 (lt Q K (x % 256 / 128) (128 * (x / 256) + x % 128)) (128 * (x / 256 - 2))
def gradSum (Q K V D : ℕ → Fin 128 → ℝ) (x : ℕ) : ℝ := above 4096 (et Q K V D (x % 256 / 128) (128 * (x / 256) + x % 128)) (128 * (x / 256 - 2))

theorem logSum_at (Q K : ℕ → Fin 128 → ℝ) (m : ℕ) (R : Fin 256) :
    logSum Q K (256 * m + R.val) = above 4096 (lt Q K (R.val / 128) (rowOf m R)) (128 * (m - 2)) := by
  have h1 : (256 * m + R.val) % 256 = R.val := by omega
  have h2 : (256 * m + R.val) / 256 = m := by omega
  have h3 : (256 * m + R.val) % 128 = R.val % 128 := by omega
  rw [logSum, h1, h2, h3]; rfl

theorem gradSum_at (Q K V D : ℕ → Fin 128 → ℝ) (m : ℕ) (R : Fin 256) :
    gradSum Q K V D (256 * m + R.val) = above 4096 (et Q K V D (R.val / 128) (rowOf m R)) (128 * (m - 2)) := by
  have h1 : (256 * m + R.val) % 256 = R.val := by omega
  have h2 : (256 * m + R.val) / 256 = m := by omega
  have h3 : (256 * m + R.val) % 128 = R.val % 128 := by omega
  rw [gradSum, h1, h2, h3]; rfl

/-- Equal numbers are equal values. -/
theorem same {x y : ℝ} (h : x = y) : (x : EReal) = (y : EReal) := by rw [h]

section Scores
variable {Q K V D O : ℕ → Fin 128 → ℝ} {m k0 N : ℕ} {q g : FVec Ideal S256x128 .bf16} {k v : Vec Ideal (⟨2, ![N, 128]⟩ : Shape) .bf16}

/-- A tile's stacked queries times a window's keys are the scores. -/
theorem score_sum (hq : ∀ R d, q (ix2 R d) = ((stk (fun r => Q (128 * m + r)) R d * (1 / 8) : ℝ) : EReal))
    (hk : ∀ s d, k (ix2 s d) = ((K (k0 + s.val) d : ℝ) : EReal)) (R : Fin 256) (s : Fin N) :
    ∑ x, q (ix2 R x) * k (ix2 s x) = ((zW Q K m k0 N R s : ℝ) : EReal) := by
  simp only [hq, hk, ← EReal.coe_mul, coe_sum]
  rfl

theorem grad_sum (hg : ∀ R d, g (ix2 R d) = ((stk (fun r => D (128 * m + r)) R d : ℝ) : EReal))
    (hv : ∀ s d, v (ix2 s d) = ((V (k0 + s.val) d : ℝ) : EReal)) (R : Fin 256) (s : Fin N) :
    ∑ x, g (ix2 R x) * v (ix2 s x) = ((gW V D m k0 N R s : ℝ) : EReal) := by
  simp only [hg, hv, ← EReal.coe_mul, coe_sum]
  rfl

/-- What a row's weighted gradients sum to. -/
def ddR (Q K V D : ℕ → Fin 128 → ℝ) (m : ℕ) (R : Fin 256) : ℝ := ∑ s ∈ Finset.range 4096, et Q K V D (R.val / 128) (rowOf m R) s

theorem dd_sum (hO : ∀ t, t < 4096 → ∀ d : Fin 128, O t d = ∑ s ∈ Finset.range 4096, wt Q K (d.val / 64) t s * V s d) (hm : m < 32) (R : Fin 256) :
    ∑ d, stk (fun r => D (128 * m + r)) R d * O (128 * m + R.val % 128) d = ddR Q K V D m R :=
  out_sum Q K V D O hO (R.val / 128) (rowOf m R) (rowOf_lt hm R)

end Scores

section Invariant
variable (arg10 arg11 arg12 : Memref sig .tc .vmem S4096x128 .f32) (arg13 arg14 : Memref sig .tc .vmem S8192x128 .f32) (Q K V D : ℕ → Fin 128 → ℝ)

/-- What the buffers hold after `n` tiles: the queries' gradient as far as each tile has looked, the keys' and the values'
    gradients gathered so far, and, for the tiles with older keys to come, the sums over the keys looked at. -/
def J (n : ℕ) (f10 : BufTy.Contents (Elt Ideal) arg10.view.ty) (f11 : BufTy.Contents (Elt Ideal) arg11.view.ty) (f12 : BufTy.Contents (Elt Ideal) arg12.view.ty)
    (f13 : BufTy.Contents (Elt Ideal) arg13.view.ty) (f14 : BufTy.Contents (Elt Ideal) arg14.view.ty) : Prop :=
  Holds arg10.view f10 (up fun t d => dqA Q K V D (d.val / 64) t d (bound n (t / 128))) (fun t => t / 128 < n)
  ∧ Holds arg11.view f11 (up fun s d => gathered (dkF Q K V D d) (bound n) s) (fun _ => True)
  ∧ Holds arg12.view f12 (up fun s d => gathered (dvF Q K D d) (bound n) s) (fun _ => True)
  ∧ Holds arg13.view f13 (up fun x _ => logSum Q K x) (fun x => 3 ≤ x / 256 ∧ x / 256 < n)
  ∧ Holds arg14.view f14 (up fun x _ => gradSum Q K V D x) (fun x => 3 ≤ x / 256 ∧ x / 256 < n)

variable {arg10 arg11 arg12 arg13 arg14 Q K V D}
variable {f10 : BufTy.Contents (Elt Ideal) arg10.view.ty} {f11 : BufTy.Contents (Elt Ideal) arg11.view.ty} {f12 : BufTy.Contents (Elt Ideal) arg12.view.ty}
    {f13 : BufTy.Contents (Elt Ideal) arg13.view.ty} {f14 : BufTy.Contents (Elt Ideal) arg14.view.ty}

/-- A window's sums over the stacked rows, added to what its keys had. -/
theorem gathered_window (F : Fin 128 → ℕ → Fin 128 → ℕ → ℝ) (f : ℕ → ℕ → ℕ → ℝ) (A : ℕ → Fin 128 → ℝ)
    (hF : ∀ d m r s, F d m r s = f (d.val / 64) (128 * m + r) s * A (128 * m + r) d) {N : ℕ} {m k0 U : ℕ} {L : ℕ → ℕ} (hm : m < 32) (hU : L m = U)
    (hk : k0 ≤ U) (hf : ∀ h t s, t < 128 * m + 128 → k0 + N ≤ s → s < U → f h t s = 0) {P : Fin 256 → Fin N → ℝ}
    (hP : ∀ R i, P R i = if k0 + (i : ℕ) < U then f (R.val / 128) (rowOf m R) (k0 + i) else 0) (i : Fin N) (d : Fin 128) :
    gathered (F d) L (k0 + i) + ∑ R, P R i * stk (fun r => A (128 * m + r)) R d = gathered (F d) (Function.update L m k0) (k0 + i) := by
  rw [gathered_step (F d) L hm hU hk (fun r s h1 h2 => by rw [hF, hf _ _ s (by omega) h1 h2, zero_mul]) (k0 + i), share hF m k0 U P hP i d,
    if_pos ⟨by omega, by omega⟩]

theorem gathered_outside (F : Fin 128 → ℕ → Fin 128 → ℕ → ℝ) (f : ℕ → ℕ → ℕ → ℝ) (A : ℕ → Fin 128 → ℝ)
    (hF : ∀ d m r s, F d m r s = f (d.val / 64) (128 * m + r) s * A (128 * m + r) d) {N : ℕ} {m k0 U : ℕ} {L : ℕ → ℕ} (hm : m < 32) (hU : L m = U)
    (hk : k0 ≤ U) (hf : ∀ h t s, t < 128 * m + 128 → k0 + N ≤ s → s < U → f h t s = 0) (s : ℕ) (hs : ¬(k0 ≤ s ∧ s < k0 + N)) (d : Fin 128) :
    gathered (F d) L s = gathered (F d) (Function.update L m k0) s := by
  rw [gathered_step (F d) L hm hU hk (fun r s h1 h2 => by rw [hF, hf _ _ s (by omega) h1 h2, zero_mul]) s, if_neg hs, add_zero]

theorem dkF_eq (d : Fin 128) (m : ℕ) (r : Fin 128) (s : ℕ) :
    dkF Q K V D d m r s = (fun h t s => zt Q K V D h t s * (1 / 8)) (d.val / 64) (128 * m + r) s * Q (128 * m + r) d := by
  show zt Q K V D _ _ s * (_ * (1 / 8)) = zt Q K V D _ _ s * (1 / 8) * _; ring

theorem dvF_eq (d : Fin 128) (m : ℕ) (r : Fin 128) (s : ℕ) :
    dvF Q K D d m r s = (fun h t s => wt Q K h t s) (d.val / 64) (128 * m + r) s * D (128 * m + r) d := rfl

theorem zt_late {h t s : ℕ} (hs : t ≤ s) : zt Q K V D h t s = 0 := dz_zero _ _ _ _ hs
theorem wt_late {h t s : ℕ} (hs : t ≤ s) : wt Q K h t s = 0 := ww_zero _ _ _ hs

set_option maxHeartbeats 1600000 in
/-- A tile's first step, from its stored values: its own keys and the two tiles before. -/
theorem first_step {m : ℕ} (hm : m < 32) (h : J arg10 arg11 arg12 arg13 arg14 Q K V D m f10 f11 f12 f13 f14)
    {off1 off2 off3 : Fin 2 → ℕ} (e1 : off1 = ![128 * m, 0]) (e2 : off2 = ![128 * (m - 2), 0]) (e3 : off3 = ![256 * m, 0])
    (i1 : ∀ a : Fin 2, off1 a + S128x128.size a ≤ S4096x128.size a) (i2 : ∀ a : Fin 2, off2 a + S384x128.size a ≤ S4096x128.size a)
    (i3 : ∀ a : Fin 2, off3 a + S256x128.size a ≤ S8192x128.size a)
    {keep : Fin 256 → Fin 384 → Prop} [∀ R, DecidablePred (keep R)] (hkeep : ∀ R s, keep R s ↔ 128 * (m - 2) + s.val < rowOf m R)
    {p10 : FVec Ideal S128x128 .f32} {p11 p12 : FVec Ideal S384x128 .f32} {p13 p14 : FVec Ideal S256x128 .f32}
    (h10 : ∀ r d, p10 (ix2 r d) = ((∑ s, dzW 384 (zW Q K m (128 * (m - 2)) 384 ⟨128 * (d.val / 64) + r.val, by omega⟩)
      (gW V D m (128 * (m - 2)) 384 ⟨128 * (d.val / 64) + r.val, by omega⟩) (keep ⟨128 * (d.val / 64) + r.val, by omega⟩) 0 0
      (ddR Q K V D m ⟨128 * (d.val / 64) + r.val, by omega⟩) s * K (128 * (m - 2) + s.val) d : ℝ) : EReal))
    (h11 : ∀ s d, p11 (ix2 s d) = ((gathered (dkF Q K V D d) (bound m) (128 * (m - 2) + s.val) + ∑ R, dzW 384 (zW Q K m (128 * (m - 2)) 384 R)
      (gW V D m (128 * (m - 2)) 384 R) (keep R) 0 0 (ddR Q K V D m R) s * (stk (fun r => Q (128 * m + r)) R d * (1 / 8)) : ℝ) : EReal))
    (h12 : ∀ s d, p12 (ix2 s d) = ((gathered (dvF Q K D d) (bound m) (128 * (m - 2) + s.val) + ∑ R, wwW 384 (zW Q K m (128 * (m - 2)) 384 R)
      (keep R) 0 s * stk (fun r => D (128 * m + r)) R d : ℝ) : EReal))
    (h13 : 3 ≤ m → ∀ R d, p13 (ix2 R d) = ((∑ s, lkW 384 (zW Q K m (128 * (m - 2)) 384 R) (keep R) s : ℝ) : EReal))
    (h14 : ∀ R d, p14 (ix2 R d) = ((∑ s, eeW 384 (zW Q K m (128 * (m - 2)) 384 R) (gW V D m (128 * (m - 2)) 384 R) (keep R) 0 s : ℝ) : EReal)) :
    J arg10 arg11 arg12 arg13 arg14 Q K V D (m + 1)
      (arg10.view.writes (Elt Ideal) f10 [⟨Rect.unit (s := S4096x128) off1 S128x128.size i1, p10⟩])
      (arg11.view.writes (Elt Ideal) f11 [⟨Rect.unit (s := S4096x128) off2 S384x128.size i2, p11⟩])
      (arg12.view.writes (Elt Ideal) f12 [⟨Rect.unit (s := S4096x128) off2 S384x128.size i2, p12⟩])
      (arg13.view.writes (Elt Ideal) f13 [⟨Rect.unit (s := S8192x128) off3 S256x128.size i3, p13⟩])
      (arg14.view.writes (Elt Ideal) f14 [⟨Rect.unit (s := S8192x128) off3 S256x128.size i3, p14⟩]) := by
  obtain ⟨g10, g11, g12, g13, g14⟩ := h
  have H : ∀ R, Fits 4096 (rowOf m R) (zr Q K (R.val / 128) (rowOf m R)) (along D V (R.val / 128) (rowOf m R)) (128 * (m - 2)) 4096 384
      (zW Q K m (128 * (m - 2)) 384 R) (gW V D m (128 * (m - 2)) 384 R) (keep R) := fun R =>
    fits (by omega) (by omega) R (fun s h1 h2 => by unfold rowOf; omega) (fun i => by
      have := rowOf_lt hm R; rw [hkeep]; exact ⟨fun h => ⟨h, by omega⟩, fun h => h.1⟩)
  have hc : ∀ R : Fin 256, (0 : ℝ) = above 4096 (lk (rowOf m R) (zr Q K (R.val / 128) (rowOf m R))) 4096 := fun R => (above_end _ _).symm
  have hce : ∀ R : Fin 256, (0 : ℝ) = above 4096 (ee 4096 (rowOf m R) (zr Q K (R.val / 128) (rowOf m R)) (along D V (R.val / 128) (rowOf m R))) 4096 :=
    fun R => (above_end _ _).symm
  have hf : ∀ t s : ℕ, t < 128 * m + 128 → 128 * (m - 2) + 384 ≤ s → s < 4096 → t ≤ s := fun t s h1 h2 _ => by omega
  rw [J, bound_first hm]
  refine ⟨?_, ?_, ?_, ?_, ?_⟩
  · refine g10.store e1 i1 p10 (fun r d _ => ?_) fun t d ht hn hP => ?_
    · have hR : ∀ r' : ℕ, r' < 128 → (128 * (d.val / 64) + r') / 128 = d.val / 64 := fun r' h => by omega
      have hR2 : rowOf m ⟨128 * (d.val / 64) + r.val, by omega⟩ = 128 * m + r.val := by
        show 128 * m + (128 * (d.val / 64) + r.val) % 128 = _; omega
      have h2 := dq_step (H ⟨128 * (d.val / 64) + r.val, by omega⟩) (hc _) (hce _) (dd := ddR Q K V D m ⟨128 * (d.val / 64) + r.val, by omega⟩) rfl (fun s => K s d)
      rw [above_end, zero_add] at h2
      have hm2 : (128 * m + r.val) / 128 = m := by omega
      rw [h10]
      refine same (h2.trans ?_)
      show above 4096 (fun s => dz 4096 _ (zr Q K ((128 * (d.val / 64) + r.val) / 128) _) (along D V ((128 * (d.val / 64) + r.val) / 128) _) s * K s d) _
        = dqA Q K V D _ _ d (Function.update (bound m) m (128 * (m - 2)) ((128 * m + r.val) / 128))
      rw [hm2, Function.update_self, hR r.val r.isLt, hR2]; rfl
    · have hne : t / 128 ≠ m := by omega
      refine ⟨by have : t / 128 < m + 1 := hP; omega, ?_⟩
      show up _ t d = up _ t d
      simp only [up, Function.update_of_ne hne]
  · refine g11.store e2 i2 p11 (fun s d _ => ?_) fun s d hs hn _ => ⟨trivial, ?_⟩
    · rw [h11]
      refine same (Eq.trans ?_ (gathered_window (dkF Q K V D) (fun h t s => zt Q K V D h t s * (1 / 8)) Q dkF_eq (P := fun R i => dzW 384 (zW Q K m (128 * (m - 2)) 384 R)
        (gW V D m (128 * (m - 2)) 384 R) (keep R) 0 0 (ddR Q K V D m R) i * (1 / 8)) hm (bound_own hm) (by omega)
        (fun h t s h1 h2 h3 => by show zt Q K V D h t s * (1 / 8) = 0; rw [zt_late (hf t s h1 h2 h3), zero_mul]) (fun R i => ?_) s d))
      · congr 1
        exact Finset.sum_congr rfl fun R _ => by ring
      · show dzW 384 _ _ _ 0 0 _ i * (1 / 8) = _
        rw [dzW_eq (H R) (hc R) (hce R) (dd := ddR Q K V D m R) rfl i, ite_mul, zero_mul]; rfl
    · exact same (gathered_outside (dkF Q K V D) (fun h t s => zt Q K V D h t s * (1 / 8)) Q dkF_eq hm (bound_own hm) (by omega)
        (fun h t s h1 h2 h3 => by show zt Q K V D h t s * (1 / 8) = 0; rw [zt_late (hf t s h1 h2 h3), zero_mul]) s hn d)
  · refine g12.store e2 i2 p12 (fun s d _ => ?_) fun s d hs hn _ => ⟨trivial, ?_⟩
    · rw [h12]
      exact same (gathered_window (dvF Q K D) (fun h t s => wt Q K h t s) D dvF_eq hm (bound_own hm) (by omega)
        (fun h t s h1 h2 h3 => wt_late (hf t s h1 h2 h3)) (fun R i => wwW_eq (H R) (hc R) i) s d)
    · exact same (gathered_outside (dvF Q K D) (fun h t s => wt Q K h t s) D dvF_eq hm (bound_own hm) (by omega)
        (fun h t s h1 h2 h3 => wt_late (hf t s h1 h2 h3)) s hn d)
  · refine g13.store e3 i3 p13 (fun R d hP => ?_) fun t d ht hn hP => ⟨by omega, rfl⟩
    rw [h13 (by have := hP.1; omega)]
    refine same (Eq.trans ?_ (logSum_at Q K m R).symm)
    have := c_step (H R) (hc R)
    rw [zero_add] at this; exact this
  · refine g14.store e3 i3 p14 (fun R d hP => ?_) fun t d ht hn hP => ⟨by omega, rfl⟩
    rw [h14]
    refine same (Eq.trans ?_ (gradSum_at Q K V D m R).symm)
    have := ce_step (H R) (hc R) (hce R)
    rw [zero_add] at this; exact this

end Invariant

end Cert.SbKernelIdeal.Grad

end
-- ==== Proof.SbKept.lean ====
/-
  The stick-breaking backward call: the first two loops keep what the scratch buffers hold.
-/
module

public import proofs.«01_k».proof.Proof.SbKeep

@[expose] public section

set_option maxRecDepth 65536

noncomputable section

open Idealize.ShloMosaic Idealize.ShloMosaic.TcCoe Idealize.SL.Sem
open Idealize.ShloMosaic.Rounds Idealize.ShloMosaic.Pipeline
open Cert.SbMath

namespace Cert.SbKernelIdeal.Grad

open Cert.SbKernelIdeal Cert.SbKernelIdeal.Gen

/-! ### Rows and keys, as numbers -/

theorem trips1 : k0_t1_loop.trips = 8 := by decide
theorem trips2 : k0_t2_loop.trips = 24 := by decide
theorem off2_at : ∀ k : Fin k0_t1_loop.trips, k0_off2 k = ![128 * (k.val - 2), 0] := by decide +kernel
theorem row1_at : ∀ k : Fin k0_t1_loop.trips, row1 k = BitVec.ofNat 32 (128 * k.val) := by decide +kernel
theorem key1_pos : ∀ k : Fin k0_t1_loop.trips, 3 ≤ k.val → Scalar.cmpi .sgt (key1 k) 0#32 = 1#1 := by decide +kernel
theorem key2_pos : ∀ k : Fin k0_t2_loop.trips, Scalar.cmpi .sgt (key2 k) 0#32 = 1#1 := by decide +kernel
theorem off4_at (k : Fin k0_t2_loop.trips) : k0_off4 k = ![128 * (8 + k.val), 0] := by rw [k0_off4_eq]; congr 1; omega
theorem off5_at (k : Fin k0_t2_loop.trips) : k0_off5 k = ![128 * (8 + k.val - 2), 0] := by rw [k0_off5_eq]; congr 1; omega
theorem off6_at (k : Fin k0_t2_loop.trips) : k0_off6 k = ![256 * (8 + k.val), 0] := by rw [k0_off6_eq]; congr 1; omega

/-- The triangle. -/
theorem tri_at (arg4 : Memref sig .tc .vmem S256x128 .bf16) (X4 : BufTy.Contents (Elt Ideal) arg4.view.ty)
    (h4 : Holds arg4.view X4 (up fun k (s : Fin 128) => tri k s.val) (fun _ => True)) (k : Fin 256) (s : Fin 128) :
    tt arg4 X4 (ix2 k s) = ((tri k.val s.val : ℝ) : EReal) := by
  refine (h4.load rfl _ k s trivial).trans ?_
  rw [Nat.zero_add]

section Kept
variable (i : grid0.Coords) (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S256x128 .bf16) (harg4 : arg4.IsWhole)
  (arg5 : Memref sig .tc .vmem S4096x128 .f32) (harg5 : arg5.IsWhole) (arg6 : Memref sig .tc .vmem S4096x128 .bf16) (harg6 : arg6.IsWhole)
  (arg7 : Memref sig .tc .vmem S4096x128 .bf16) (harg7 : arg7.IsWhole) (arg8 : Memref sig .tc .vmem S4096x128 .bf16) (harg8 : arg8.IsWhole)
  (arg9 : Memref sig .tc .vmem S4096x128 .bf16) (harg9 : arg9.IsWhole) (arg10 : Memref sig .tc .vmem S4096x128 .f32) (harg10 : arg10.IsWhole)
  (arg11 : Memref sig .tc .vmem S4096x128 .f32) (harg11 : arg11.IsWhole) (arg12 : Memref sig .tc .vmem S4096x128 .f32) (harg12 : arg12.IsWhole)
  (arg13 : Memref sig .tc .vmem S8192x128 .f32) (harg13 : arg13.IsWhole) (arg14 : Memref sig .tc .vmem S8192x128 .f32) (harg14 : arg14.IsWhole)
  (X1 : BufTy.Contents (Elt Ideal) arg1.view.ty) (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty) (X6 : BufTy.Contents (Elt Ideal) arg6.view.ty)
variable {Q K V D O : ℕ → Fin 128 → ℝ} (h1 : Holds arg1.view X1 (up Q) (fun _ => True)) (h2 : Holds arg2.view X2 (up K) (fun _ => True))
  (h3 : Holds arg3.view X3 (up V) (fun _ => True)) (h4 : Holds arg4.view X4 (up fun k (s : Fin 128) => tri k s.val) (fun _ => True))
  (h5 : Holds arg5.view X5 (up O) (fun _ => True)) (h6 : Holds arg6.view X6 (up D) (fun _ => True))
  (hO : ∀ t, t < 4096 → ∀ d : Fin 128, O t d = ∑ s ∈ Finset.range 4096, wt Q K (d.val / 64) t s * V s d)

include h1 h2 h3 h4 h5 h6 hO

/-- Every trip of the first loop is a tile's first step. -/
theorem kept1 (c : Dev nD) : Kept1 i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 c
    (J arg10 arg11 arg12 arg13 arg14 Q K V D) := by
  intro k f10 f11 f12 f13 f14 h
  have hm : k.val < 32 := by have := Nat.lt_of_lt_of_le k.isLt trips1.le; omega
  dsimp only
  rw [stored1_10, stored1_11, stored1_12, stored1_13, stored1_14]
  have hq := q_at1 (Q := fun r d => Q (128 * k.val + r.val) d) (tq1 arg1 X1 k) (fun r d => h1.load (k0_off1_eq k) _ r d trivial)
  have hg := do_at1 (Q := fun r d => D (128 * k.val + r.val) d) (tg1 arg6 X6 k) (fun r d => h6.load (k0_off1_eq k) _ r d trivial)
  have hk : ∀ s d, wk1 arg2 X2 k (ix2 s d) = ((K (128 * (k.val - 2) + s.val) d : ℝ) : EReal) := fun s d => h2.load (off2_at k) _ s d trivial
  have hv : ∀ s d, wv1 arg3 X3 k (ix2 s d) = ((V (128 * (k.val - 2) + s.val) d : ℝ) : EReal) := fun s d => h3.load (off2_at k) _ s d trivial
  have ht := tri_at arg4 X4 h4
  have hz := score_sum (m := k.val) hq hk
  have hw := grad_sum (m := k.val) hg hv
  have hd : ∀ R, sd1 arg5 arg6 X5 X6 k (ix2 R 0) = ((ddR Q K V D k.val R : ℝ) : EReal) := fun R => by
    rw [← dd_sum hO hm R]
    exact dd_at1 (tg1 arg6 X6 k) (fun r d => h6.load (k0_off1_eq k) _ r d trivial) (O := fun r d => O (128 * k.val + r.val) d) (to1 arg5 X5 k)
      (fun r d => h5.load (k0_off1_eq k) _ r d trivial) R
  have hs := score_grad1 (v23 := row1 k) ht hz hw hd
  refine first_step hm h (k0_off1_eq k) (off2_at k) (k0_off3_eq k) _ _ _ (keep := keep1 (row1 k))
    (fun R s => by rw [row1_at k]; exact mask1 hm R s) (query_at1 hs hk)
    (keys_at1 hs hq fun s d => h.2.1.load (off2_at k) _ s d trivial)
    (values_at1 (weight1 (v23 := row1 k) ht hz) hg fun s d => h.2.2.1.load (off2_at k) _ s d trivial)
    (fun h3 => keep_log1 (key1_pos k h3) (log_total1 (v23 := row1 k) hz)) (keep_sum1 (grad_total1 (v23 := row1 k) ht hz hw))

/-- Every trip of the second loop is a tile's first step. -/
theorem kept2 (c : Dev nD) : Kept2 i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 c
    (fun n => J arg10 arg11 arg12 arg13 arg14 Q K V D (8 + n)) := by
  intro k f10 f11 f12 f13 f14 h
  have hm : (8 + k.val) < 32 := by have := Nat.lt_of_lt_of_le k.isLt trips2.le; omega
  dsimp only
  rw [stored2_10, stored2_11, stored2_12, stored2_13, stored2_14]
  have hq := q_at2 (Q := fun r d => Q (128 * (8 + k.val) + r.val) d) (tq2 arg1 X1 k) (fun r d => h1.load (off4_at k) _ r d trivial)
  have hg := do_at2 (Q := fun r d => D (128 * (8 + k.val) + r.val) d) (tg2 arg6 X6 k) (fun r d => h6.load (off4_at k) _ r d trivial)
  have hk : ∀ s d, wk2 arg2 X2 k (ix2 s d) = ((K (128 * ((8 + k.val) - 2) + s.val) d : ℝ) : EReal) := fun s d => h2.load (off5_at k) _ s d trivial
  have hv : ∀ s d, wv2 arg3 X3 k (ix2 s d) = ((V (128 * ((8 + k.val) - 2) + s.val) d : ℝ) : EReal) := fun s d => h3.load (off5_at k) _ s d trivial
  have ht := tri_at arg4 X4 h4
  have hz := score_sum (m := (8 + k.val)) hq hk
  have hw := grad_sum (m := (8 + k.val)) hg hv
  have hd : ∀ R, sd2 arg5 arg6 X5 X6 k (ix2 R 0) = ((ddR Q K V D (8 + k.val) R : ℝ) : EReal) := fun R => by
    rw [← dd_sum hO hm R]
    exact dd_at2 (tg2 arg6 X6 k) (fun r d => h6.load (off4_at k) _ r d trivial) (O := fun r d => O (128 * (8 + k.val) + r.val) d) (to2 arg5 X5 k)
      (fun r d => h5.load (off4_at k) _ r d trivial) R
  have hs := score_grad2 ht hz hw hd
  refine first_step hm h (off4_at k) (off5_at k) (off6_at k) _ _ _ (keep := keep2)
    (fun R s => by show s.val < 256 + R.val % 128 ↔ 128 * (8 + k.val - 2) + s.val < 128 * (8 + k.val) + R.val % 128; omega) (query_at2 hs hk)
    (keys_at2 hs hq fun s d => h.2.1.load (off5_at k) _ s d trivial)
    (values_at2 (weight2 ht hz) hg fun s d => h.2.2.1.load (off5_at k) _ s d trivial)
    (fun h3 => keep_log2 (key2_pos k ) (log_total2 hz)) (keep_sum2 (grad_total2 ht hz hw))

end Kept

end Cert.SbKernelIdeal.Grad

end
-- ==== Proof.SbOlder.lean ====
/-
  The stick-breaking backward call: the loop over a tile's older keys.
-/
module

public import proofs.«01_k».proof.Proof.SbKept

@[expose] public section

set_option maxRecDepth 65536

noncomputable section

open Idealize.ShloMosaic Idealize.ShloMosaic.TcCoe Idealize.SL.Sem
open Idealize.ShloMosaic.Rounds Idealize.ShloMosaic.Pipeline
open Cert.SbMath

namespace Cert.SbKernelIdeal.Grad

open Cert.SbKernelIdeal Cert.SbKernelIdeal.Gen

theorem off9_at {j : ℕ} (hj : j ≤ 32) : k0_off9 (BitVec.ofNat 32 (128 * j)) = ![128 * (j - 2), 0] := by
  show ![(Scalar.indexCast (Scalar.maxsi (Scalar.subi (BitVec.ofNat 32 (128 * j)) 256#32) 0#32)).toNat, 0] = _
  rw [key_down j hj]
  show ![(BitVec.ofNat 32 (128 * (j - 2))).toNat, 0] = _
  rw [BitVec.toNat_ofNat, Nat.mod_eq_of_lt (by omega)]

/-- The threshold of the loop's test is named −∞. -/
theorem cutoff_bot : (Named.named κ "cutoff" 0xC2B00000#32 : Ideal .f32) = (⊥ : EReal) := rfl

/-- The test fails only when no keys are left. -/
theorem goes_of {a : Cc0While1 Ideal} {j : ℕ} (hj : 0 < j) (hj2 : j ≤ 32) (hk : a.arg16 = BitVec.ofNat 32 (128 * j)) (ht : (⊥ : EReal) < a.arg20) :
    goes a = 1#1 := by
  have h1 : ∀ j, j ≤ 32 → 0 < j → Scalar.cmpi .sgt (BitVec.ofNat 32 (128 * j)) 0#32 = 1#1 := by decide
  have h2 : Scalar.cmpf .ogt a.arg20 (Named.named κ "cutoff" 0xC2B00000#32 : Ideal .f32) = 1#1 := by
    show BitVec.ofBool (decide ((⊥ : EReal) < a.arg20)) = 1#1
    rw [decide_eq_true ht]; rfl
  unfold goes
  rw [hk, h1 j hj2 hj, h2]; rfl

section Turns
variable (a : Cc0While1 Ideal) (m : ℕ) (Q K V D : ℕ → Fin 128 → ℝ)

/-- What the loop over tile `m`'s older keys carries when it has come down to tile `j`. -/
def Down (s : Carried Ideal) (g11 : Out11 a) (g12 : Out12 a) : Prop :=
  ∃ j, j ≤ m - 2 ∧ s.1 = BitVec.ofNat 32 (128 * j)
    ∧ (∀ (R : Fin 256) (d : Fin 128), s.2.2.2.1 (ix2 R d)
      = ((dqA Q K V D (R.val / 128) (rowOf m R) d (128 * j) - dqA Q K V D (R.val / 128) (rowOf m R) d (128 * (m - 2)) : ℝ) : EReal))
    ∧ Holds a.arg11.view g11 (up fun s d => gathered (dkF Q K V D d) (Function.update (bound (32 + m)) m (128 * j)) s) (fun _ => True)
    ∧ Holds a.arg12.view g12 (up fun s d => gathered (dvF Q K D d) (Function.update (bound (32 + m)) m (128 * j)) s) (fun _ => True)
    ∧ (0 < j → (∀ R : Fin 256, s.2.1 (ix2 R 0) = ((above 4096 (lt Q K (R.val / 128) (rowOf m R)) (128 * j) : ℝ) : EReal))
      ∧ (∀ R : Fin 256, s.2.2.1 (ix2 R 0) = ((above 4096 (et Q K V D (R.val / 128) (rowOf m R)) (128 * j) : ℝ) : EReal))
      ∧ (⊥ : EReal) < s.2.2.2.2)

variable {a m Q K V D}

set_option maxHeartbeats 1600000 in
/-- Every turn comes two tiles further down. -/
theorem down_kept (hm : m < 32) {X2 : In2 a} {X3 : In3 a} {X4 : In4 a} (hp : a.v168 = cols)
    (hq : ∀ R d, a.v94 (ix2 R d) = ((stk (fun r => Q (128 * m + r)) R d * (1 / 8) : ℝ) : EReal))
    (hgr : ∀ R d, a.v159 (ix2 R d) = ((stk (fun r => D (128 * m + r)) R d : ℝ) : EReal))
    (hd : ∀ R, a.v167 (ix2 R 0) = ((ddR Q K V D m R : ℝ) : EReal))
    (h2 : Holds a.arg2.view X2 (up K) (fun _ => True)) (h3 : Holds a.arg3.view X3 (up V) (fun _ => True))
    (h4 : Holds a.arg4.view X4 (up fun k (s : Fin 128) => tri k s.val) (fun _ => True)) :
    Kept a X2 X3 X4 (Down a m Q K V D) := by
  rintro ⟨w, c, ce, acc, top⟩ f11 f12 hg hk ⟨j, hj, hw, hacc, h11, h12, hrest⟩
  have hj0 : 0 < j := by
    rcases Nat.eq_zero_or_pos j with h | h
    · subst h; exact absurd hg (key_zero _ hw)
    · exact h
  obtain ⟨hc, hce, -⟩ := hrest hj0
  have hj32 : j ≤ 32 := by omega
  have hoff : k0_off9 w = ![128 * (j - 2), 0] := by
    have : w = BitVec.ofNat 32 (128 * j) := hw
    rw [this]; exact off9_at hj32
  have hmask : ∀ (R s : Fin 256), keepw w R s ↔ 128 * (j - 2) + s.val < rowOf m R ∧ 128 * (j - 2) + s.val < 128 * j := fun R s => by
    have h : w = BitVec.ofNat 32 (128 * j) := hw
    rw [keepw, h, mask3 hj32]; unfold rowOf; show 128 * (j - 2) + s.val < 128 * j ↔ _; omega
  have hu : ∀ s d, uk (moved a (w, c, ce, acc, top)) X2 hk (ix2 s d) = ((K (128 * (j - 2) + s.val) d : ℝ) : EReal) := fun s d => h2.load hoff _ s d trivial
  have hv : ∀ s d, uv (moved a (w, c, ce, acc, top)) X3 hk (ix2 s d) = ((V (128 * (j - 2) + s.val) d : ℝ) : EReal) := fun s d => h3.load hoff _ s d trivial
  have ht : ∀ k s, ut (moved a (w, c, ce, acc, top)) X4 (ix2 k s) = ((tri k.val s.val : ℝ) : EReal) := tri_at a.arg4 X4 h4
  have hz := score_sum (m := m) hq hu
  have hgw := grad_sum (m := m) hgr hv
  have hs := score_grad3 (w := w) ht hc hz hgw hd hce
  have H : ∀ R, Fits 4096 (rowOf m R) (zr Q K (R.val / 128) (rowOf m R)) (along D V (R.val / 128) (rowOf m R)) (128 * (j - 2)) (128 * j) 256
      (zW Q K m (128 * (j - 2)) 256 R) (gW V D m (128 * (j - 2)) 256 R) (keepw w R) := fun R =>
    fits (by omega) (by omega) R (fun s h1 h2 => by omega) (hmask R)
  have hU : Function.update (bound (32 + m)) m (128 * j) m = 128 * j := Function.update_self ..
  have hup : Function.update (bound (32 + m)) m (128 * (j - 2)) = Function.update (Function.update (bound (32 + m)) m (128 * j)) m (128 * (j - 2)) :=
    (Function.update_idem ..).symm
  have hz0 : ∀ h t s : ℕ, t < 128 * m + 128 → 128 * (j - 2) + 256 ≤ s → s < 128 * j → zt Q K V D h t s * (1 / 8) = 0 := fun h t s h1 h2 h3 => by omega
  have hw0 : ∀ h t s : ℕ, t < 128 * m + 128 → 128 * (j - 2) + 256 ≤ s → s < 128 * j → wt Q K h t s = 0 := fun h t s h1 h2 h3 => by omega
  refine ⟨j - 2, by omega, ?_, ?_, ?_, ?_, fun _ => ⟨?_, ?_, ?_⟩⟩
  · rw [next_key]
    have : w = BitVec.ofNat 32 (128 * j) := hw
    show Scalar.maxsi (Scalar.subi w 256#32) 0#32 = _
    rw [this]; exact key_down j hj32
  · intro R d
    show (trip (moved a (w, c, ce, acc, top)) X2 X3 X4 hg hk).2.2.2.1 (ix2 R d) = _
    rw [turn_acc (moved a (w, c, ce, acc, top)) hp]
    refine (gather_at3 hs hu hacc R d).trans (same ?_)
    have h := dq_step (H R) rfl rfl (dd := ddR Q K V D m R) rfl (fun s => K s d)
    have h' : dqA Q K V D (R.val / 128) (rowOf m R) d (128 * j) + _ = dqA Q K V D (R.val / 128) (rowOf m R) d (128 * (j - 2)) := h
    rw [← h']
    show _ - _ + _ = _ + _ - _
    rw [add_sub_right_comm]; rfl
  · rw [turn_11 (moved a (w, c, ce, acc, top)) hp, hup]
    refine h11.store hoff _ _ (fun s d _ => ?_) fun s d _ hn _ => ⟨trivial, ?_⟩
    · refine (keys_at3 hs hq (fun s d => h11.load hoff _ s d trivial) s d).trans (same ?_)
      refine Eq.trans ?_ (gathered_window (dkF Q K V D) (fun h t s => zt Q K V D h t s * (1 / 8)) Q dkF_eq
        (P := fun R i => dzW 256 (zW Q K m (128 * (j - 2)) 256 R) (gW V D m (128 * (j - 2)) 256 R) (keepw w R)
          (above 4096 (lt Q K (R.val / 128) (rowOf m R)) (128 * j)) (above 4096 (et Q K V D (R.val / 128) (rowOf m R)) (128 * j)) (ddR Q K V D m R) i * (1 / 8))
        hm hU (by omega) hz0 (fun R i => ?_) s d)
      · congr 1
        exact Finset.sum_congr rfl fun R _ => by ring
      · show dzW 256 _ _ _ _ _ _ i * (1 / 8) = _
        rw [dzW_eq (H R) (c := above 4096 (lt Q K (R.val / 128) (rowOf m R)) (128 * j)) (ce := above 4096 (et Q K V D (R.val / 128) (rowOf m R)) (128 * j)) rfl rfl (dd := ddR Q K V D m R) rfl i, ite_mul, zero_mul]; rfl
    · exact same (gathered_outside (dkF Q K V D) (fun h t s => zt Q K V D h t s * (1 / 8)) Q dkF_eq hm hU (by omega) hz0 s hn d)
  · rw [turn_12 (moved a (w, c, ce, acc, top)) hp, hup]
    refine h12.store hoff _ _ (fun s d _ => ?_) fun s d _ hn _ => ⟨trivial, ?_⟩
    · refine (values_at3 (weight3 (w := w) ht hc hz) hgr (fun s d => h12.load hoff _ s d trivial) s d).trans (same ?_)
      exact gathered_window (dvF Q K D) (fun h t s => wt Q K h t s) D dvF_eq hm hU (by omega) hw0 (fun R i => wwW_eq (H R) rfl i) s d
    · exact same (gathered_outside (dvF Q K D) (fun h t s => wt Q K h t s) D dvF_eq hm hU (by omega) hw0 s hn d)
  · intro R
    show (trip (moved a (w, c, ce, acc, top)) X2 X3 X4 hg hk).2.1 (ix2 R 0) = _
    rw [turn_log (moved a (w, c, ce, acc, top)) hp]
    exact (carry_log3 hc (log_total3 (w := w) hz) R).trans (same (c_step (H R) rfl))
  · intro R
    show (trip (moved a (w, c, ce, acc, top)) X2 X3 X4 hg hk).2.2.1 (ix2 R 0) = _
    rw [turn_sum (moved a (w, c, ce, acc, top)) hp]
    exact (carry_sum3 hce (grad_total3 (w := w) ht hc hz hgw) R).trans (same (ce_step (H R) rfl rfl))
  · show (⊥ : EReal) < (trip (moved a (w, c, ce, acc, top)) X2 X3 X4 hg hk).2.2.2.2.1
    rw [turn_greatest (moved a (w, c, ce, acc, top)) hp]
    exact turn_top hc (log_total3 (w := w) hz)

end Turns

end Cert.SbKernelIdeal.Grad

end
-- ==== Proof.SbLast.lean ====
/-
  The stick-breaking backward call: the last loop, which takes each tile through all its older keys.
-/
module

public import proofs.«01_k».proof.Proof.SbOlder

@[expose] public section

set_option maxRecDepth 65536

noncomputable section

open Idealize.ShloMosaic Idealize.ShloMosaic.TcCoe Idealize.SL.Sem
open Idealize.ShloMosaic.Rounds Idealize.ShloMosaic.Pipeline
open Cert.SbMath

namespace Cert.SbKernelIdeal.Grad

open Cert.SbKernelIdeal Cert.SbKernelIdeal.Gen

theorem trips3 : k0_t3_loop.trips = 32 := by decide
theorem from3_at : ∀ k : Fin k0_t3_loop.trips, from3 k = BitVec.ofNat 32 (128 * (k.val - 2)) := by decide +kernel

section Kept
variable (i : grid0.Coords) (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S256x128 .bf16) (harg4 : arg4.IsWhole)
  (arg5 : Memref sig .tc .vmem S4096x128 .f32) (harg5 : arg5.IsWhole) (arg6 : Memref sig .tc .vmem S4096x128 .bf16) (harg6 : arg6.IsWhole)
  (arg7 : Memref sig .tc .vmem S4096x128 .bf16) (harg7 : arg7.IsWhole) (arg8 : Memref sig .tc .vmem S4096x128 .bf16) (harg8 : arg8.IsWhole)
  (arg9 : Memref sig .tc .vmem S4096x128 .bf16) (harg9 : arg9.IsWhole) (arg10 : Memref sig .tc .vmem S4096x128 .f32) (harg10 : arg10.IsWhole)
  (arg11 : Memref sig .tc .vmem S4096x128 .f32) (harg11 : arg11.IsWhole) (arg12 : Memref sig .tc .vmem S4096x128 .f32) (harg12 : arg12.IsWhole)
  (arg13 : Memref sig .tc .vmem S8192x128 .f32) (harg13 : arg13.IsWhole) (arg14 : Memref sig .tc .vmem S8192x128 .f32) (harg14 : arg14.IsWhole)
  (X1 : BufTy.Contents (Elt Ideal) arg1.view.ty) (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty) (X6 : BufTy.Contents (Elt Ideal) arg6.view.ty)
variable {Q K V D O : ℕ → Fin 128 → ℝ} (h1 : Holds arg1.view X1 (up Q) (fun _ => True)) (h2 : Holds arg2.view X2 (up K) (fun _ => True))
  (h3 : Holds arg3.view X3 (up V) (fun _ => True)) (h4 : Holds arg4.view X4 (up fun k (s : Fin 128) => tri k s.val) (fun _ => True))
  (h5 : Holds arg5.view X5 (up O) (fun _ => True)) (h6 : Holds arg6.view X6 (up D) (fun _ => True))
  (hO : ∀ t, t < 4096 → ∀ d : Fin 128, O t d = ∑ s ∈ Finset.range 4096, wt Q K (d.val / 64) t s * V s d)

include h1 h2 h3 h4 h5 h6 hO

/-- A trip of the last loop, from what it calls the loop over older keys with and the piece it stores. -/
theorem last_step (k : Fin k0_t3_loop.trips) {p : IVec S256x256 32} {q g : FVec Ideal S256x128 .bf16} {dd : FVec Ideal S256x1 .f32} {n : BitVec 32}
    {u v : FVec Ideal S256x1 .f32} {w : FVec Ideal S256x128 .f32} {x : Ideal .f32}
    {L : FVec Ideal S256x128 .f32 → BufTy.Contents (Elt Ideal) arg10.view.ty → List (View.Piece (Elt Ideal) S4096x128 .f32)}
    {f10 : BufTy.Contents (Elt Ideal) arg10.view.ty} {f11 : BufTy.Contents (Elt Ideal) arg11.view.ty} {f12 : BufTy.Contents (Elt Ideal) arg12.view.ty}
    {X13 : BufTy.Contents (Elt Ideal) arg13.view.ty} {X14 : BufTy.Contents (Elt Ideal) arg14.view.ty}
    (ep : p = cols) (eq : q = sq3 arg1 X1 k) (eg : g = sg3 arg6 X6 k) (ed : dd = sd3 arg5 arg6 X5 X6 k) (en : n = from3 k)
    (eu : u = tc3 arg13 X13 k) (ev : v = te3 arg14 X14 k) (ew : w = k0_pay117) (ex : x = k0_pay118 (tc3 arg13 X13 k))
    (eL : ∀ r, L r f10 = [⟨Rect.unit (s := S4096x128) (k0_off8 k) S128x128.size (k0_off8_inb k), k0_pay131 r
        (View.readAt (Elt Ideal) arg10.view (Rect.unit (s := S4096x128) (k0_off8 k) S128x128.size (k0_off8_inb k)).toLoadRect f10)
        k0_pay119 k0_pay120 k0_pay121 k0_pay122⟩])
    (h : J arg10 arg11 arg12 arg13 arg14 Q K V D (32 + k.val) f10 f11 f12 X13 X14) :
    ∃ P : Carried Ideal → BufTy.Contents (Elt Ideal) arg11.view.ty → BufTy.Contents (Elt Ideal) arg12.view.ty → Prop,
      Kept (rec3 i arg2 harg2 arg3 harg3 arg4 harg4 arg11 harg11 arg12 harg12 k p q g dd (n, u, v, w, x)) X2 X3 X4 P
      ∧ P (n, u, v, w, x) f11 f12
      ∧ ∀ r1 r2 r3 r4 r5 g11 g12, P (r1, r2, r3, r4, r5) g11 g12 →
        ¬goes (rec3 i arg2 harg2 arg3 harg3 arg4 harg4 arg11 harg11 arg12 harg12 k p q g dd (r1, r2, r3, r4, r5)) = 1#1 →
          J arg10 arg11 arg12 arg13 arg14 Q K V D (32 + (k.val + 1)) (arg10.view.writes (Elt Ideal) f10 (L r4 f10)) g11 g12 X13 X14 := by
  have hm : k.val < 32 := Nat.lt_of_lt_of_le k.isLt trips3.le
  obtain ⟨g10, g11, g12, g13, g14⟩ := h
  have hq := q_at3 (Q := fun r d => Q (128 * k.val + r.val) d) (tq3 arg1 X1 k) (fun r d => h1.load (k0_off8_eq k) _ r d trivial)
  have hg := do_at3 (Q := fun r d => D (128 * k.val + r.val) d) (tg3 arg6 X6 k) (fun r d => h6.load (k0_off8_eq k) _ r d trivial)
  have hd : ∀ R, sd3 arg5 arg6 X5 X6 k (ix2 R 0) = ((ddR Q K V D k.val R : ℝ) : EReal) := fun R => by
    rw [← dd_sum hO hm R]
    exact dd_at3 (tg3 arg6 X6 k) (fun r d => h6.load (k0_off8_eq k) _ r d trivial) (O := fun r d => O (128 * k.val + r.val) d) (to3 arg5 X5 k)
      (fun r d => h5.load (k0_off8_eq k) _ r d trivial) R
  have hL : Function.update (bound (32 + k.val)) k.val (128 * (k.val - 2)) = bound (32 + k.val) := by
    rw [← bound_rest hm, Function.update_eq_self]
  have hlog : 0 < k.val - 2 → ∀ R : Fin 256, tc3 arg13 X13 k (ix2 R 0)
      = ((above 4096 (lt Q K (R.val / 128) (rowOf k.val R)) (128 * (k.val - 2)) : ℝ) : EReal) := fun h R => by
    rw [← logSum_at]
    exact g13.loadFirst (k0_off7_eq k) _ (by norm_num) R ⟨by omega, by omega⟩
  have hsum : 0 < k.val - 2 → ∀ R : Fin 256, te3 arg14 X14 k (ix2 R 0)
      = ((above 4096 (et Q K V D (R.val / 128) (rowOf k.val R)) (128 * (k.val - 2)) : ℝ) : EReal) := fun h R => by
    rw [← gradSum_at]
    exact g14.loadFirst (k0_off7_eq k) _ (by norm_num) R ⟨by omega, by omega⟩
  subst ep eq eg ed en eu ev ew ex
  refine ⟨Down (rec3 i arg2 harg2 arg3 harg3 arg4 harg4 arg11 harg11 arg12 harg12 k cols (sq3 arg1 X1 k) (sg3 arg6 X6 k) (sd3 arg5 arg6 X5 X6 k)
      (from3 k, tc3 arg13 X13 k, te3 arg14 X14 k, k0_pay117, k0_pay118 (tc3 arg13 X13 k))) k.val Q K V D, ?_, ?_, ?_⟩
  · exact down_kept hm rfl hq hg hd h2 h3 h4
  · refine ⟨k.val - 2, le_refl _, from3_at k, fun R d => ?_, ?_, ?_, fun h => ⟨hlog h, hsum h, start_top (hlog h)⟩⟩
    · rw [sub_self]; exact zero_at3 R d
    · rw [hL]; exact g11
    · rw [hL]; exact g12
  · rintro r1 r2 r3 r4 r5 e11 e12 ⟨j, hj, hkey, hacc, h11, h12, hrest⟩ hstop
    have hj0 : j = 0 := by
      rcases Nat.eq_zero_or_pos j with h | h
      · exact h
      · exact absurd (goes_of (j := j) h (by omega) hkey (hrest h).2.2) hstop
    subst hj0
    rw [J, ← Nat.add_assoc, bound_second hm]
    refine ⟨?_, h11, h12, g13.mono (fun t ht hP => ⟨hP.1, by omega⟩) fun _ _ _ _ => rfl, g14.mono (fun t ht hP => ⟨hP.1, by omega⟩) fun _ _ _ _ => rfl⟩
    rw [eL]
    refine g10.store (k0_off8_eq k) _ _ (fun r d _ => ?_) fun t d ht hn hP => ?_
    · refine (query_at3 hacc (fun r d => g10.load (k0_off8_eq k) _ r d (by show (128 * k.val + r.val) / 128 < 32 + k.val; omega)) r d).trans (same ?_)
      have hR : (128 * (d.val / 64) + r.val) / 128 = d.val / 64 := by omega
      have hR2 : rowOf k.val ⟨128 * (d.val / 64) + r.val, by omega⟩ = 128 * k.val + r.val := by
        show 128 * k.val + (128 * (d.val / 64) + r.val) % 128 = _; omega
      have hm2 : (128 * k.val + r.val) / 128 = k.val := by omega
      show dqA Q K V D _ _ d (bound (32 + k.val) ((128 * k.val + r.val) / 128)) + (dqA Q K V D ((128 * (d.val / 64) + r.val) / 128) _ d (128 * 0)
          - dqA Q K V D ((128 * (d.val / 64) + r.val) / 128) _ d _) = dqA Q K V D _ _ d (Function.update (bound (32 + k.val)) k.val 0 ((128 * k.val + r.val) / 128))
      rw [hm2, Function.update_self, bound_rest hm, hR, hR2, Nat.mul_zero]
      ring
    · have hne : t / 128 ≠ k.val := by omega
      refine ⟨by show t / 128 < 32 + k.val; omega, ?_⟩
      show up _ t d = up _ t d
      simp only [up, Function.update_of_ne hne]

/-- Every trip of the last loop takes its tile through all older keys. -/
theorem kept3 : Kept3 i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 (fun n => J arg10 arg11 arg12 arg13 arg14 Q K V D (32 + n)) :=
  fun k f10 f11 f12 X13 X14 h => last_step i arg1 arg2 harg2 arg3 harg3 arg4 harg4 arg5 arg6 arg10 arg11 harg11 arg12 harg12 arg13 arg14 X1 X2 X3 X4 X5 X6 h1 h2 h3 h4 h5 h6 hO k
    (start3_cols i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k) (start3_q i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k) (start3_g i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k)
    (start3_d i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k) (start3_key i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k) (start3_log i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k)
    (start3_sum i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k) (start3_acc i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k) (start3_top i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k)
    (fun r => stored3_10 i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X13 X14 k r f10) h

end Kept

end Cert.SbKernelIdeal.Grad

end
-- ==== Proof.SbPoint.lean ====
/-
  The stick-breaking backward call: what one point of the grid, a pair of heads, writes to the three results, when the pair's
  blocks of the arrays are real numbers.
-/
module

public import proofs.«01_k».proof.Proof.SbLast
public import proofs.«01_k».proof.Proof.SbIdealFrame
public import Idealize.ShloMosaic.Lib.VecWindow

@[expose] public section

set_option maxRecDepth 65536

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SbMath

namespace Cert.SbMath

/-- The queries' gradient. -/
def dqOut (Q K V D : ℕ → Fin 128 → ℝ) (t : ℕ) (d : Fin 128) : ℝ := (∑ s ∈ Finset.range 4096, zt Q K V D (d.val / 64) t s * K s d) * (1 / 8)
/-- The keys' gradient. -/
def dkOut (Q K V D : ℕ → Fin 128 → ℝ) (s : ℕ) (d : Fin 128) : ℝ := ∑ t ∈ Finset.range 4096, zt Q K V D (d.val / 64) t s * (Q t d * (1 / 8))
/-- The values' gradient. -/
def dvOut (Q K D : ℕ → Fin 128 → ℝ) (s : ℕ) (d : Fin 128) : ℝ := ∑ t ∈ Finset.range 4096, wt Q K (d.val / 64) t s * D t d

theorem dqA_zero (Q K V D : ℕ → Fin 128 → ℝ) (h t : ℕ) (d : Fin 128) : dqA Q K V D h t d 0 = ∑ s ∈ Finset.range 4096, zt Q K V D h t s * K s d := above_zero _ _

end Cert.SbMath

namespace Cert.SbKernelIdeal.Grad

open Cert.SbKernelIdeal Cert.SbKernelIdeal.Gen

local notation "𝕄" => MT nD τ sig Unit (Elt Ideal) ℕ (UR sig nD τ) ℕ

/-- The two heads of a pair: columns `128 p` to `128 p + 127`. -/
def cut (A : ℕ → ℕ → ℝ) (p : ℕ) : ℕ → Fin 128 → ℝ := fun t d => A t (128 * p + d.val)

/-- What the point of pair `p` writes. -/
def outs (q k v g : Dev nD → ℕ → ℕ → ℝ) (c : Dev nD) (p : Fin (cfg0 (F := Ideal)).N) : Vec Ideal S4096x128 .bf16 × Vec Ideal S4096x128 .bf16 × Vec Ideal S4096x128 .bf16 :=
  (fun x => ((dqOut (cut (q c) p) (cut (k c) p) (cut (v c) p) (cut (g c) p) (x 0).val (x 1) : ℝ) : EReal),
   fun x => ((dkOut (cut (q c) p) (cut (k c) p) (cut (v c) p) (cut (g c) p) (x 0).val (x 1) : ℝ) : EReal),
   fun x => ((dvOut (cut (q c) p) (cut (k c) p) (cut (g c) p) (x 0).val (x 1) : ℝ) : EReal))

variable (m : (ℓ : Loc nD τ sig) → Buf (Elt Ideal) ℓ)

/-- The blocks that a pair of heads is called with are these real numbers, the triangle of ones among them, and the saved
    output is the weighted sum of the values. -/
structure Found (q k v g o : Dev nD → ℕ → ℕ → ℝ) (c : Dev nD) (p : Fin (cfg0 (F := Ideal)).N) : Prop where
  hq : ∀ r d, iblk m c 0 p (ix2 r d) = up (cut (q c) p) r.val d
  hk : ∀ r d, iblk m c 1 p (ix2 r d) = up (cut (k c) p) r.val d
  hv : ∀ r d, iblk m c 2 p (ix2 r d) = up (cut (v c) p) r.val d
  ht : ∀ (r : Fin 256) (d : Fin 128), iblk m c 3 p (ix2 r d) = ((tri r.val d.val : ℝ) : EReal)
  ho : ∀ r d, iblk m c 4 p (ix2 r d) = up (cut (o c) p) r.val d
  hg : ∀ r d, iblk m c 5 p (ix2 r d) = up (cut (g c) p) r.val d
  sum : ∀ t, t < 4096 → ∀ d : Fin 128, cut (o c) p t d = ∑ s ∈ Finset.range 4096, wt (cut (q c) p) (cut (k c) p) (d.val / 64) t s * cut (v c) p s d

theorem holds_of {W H : ℕ} {e : EltTy} {κ : Kind} {sp : Space} {v : View sig κ sp (⟨2, ![H, W]⟩ : Shape) e} {X : v.ty.Contents (Elt Ideal)}
    {x : (⟨2, ![H, W]⟩ : Shape).Idx → Elt Ideal e} {A : ℕ → Fin W → Elt Ideal e} (h : v.read (Elt Ideal) X = x) (hx : ∀ r d, x (ix2 r d) = A r.val d) :
    Holds v X A (fun _ => True) := fun r d _ => by rw [h]; exact hx r d

/-- Before the first tile: nothing gathered. -/
theorem J_start (Q K V D : ℕ → Fin 128 → ℝ) (f10 f13 f14) :
    J scM0_0 scM0_1 scM0_2 scM0_3 scM0_4 Q K V D 0 f10
      (scM0_1.view.writes (Elt Ideal) scM0_1.view.junk [⟨Rect.unit (s := S4096x128) ![0, 0] S4096x128.size inb_S4096x128_S4096x128_0_0, k0_pay123 (F := Ideal)⟩])
      (scM0_2.view.writes (Elt Ideal) scM0_2.view.junk [⟨Rect.unit (s := S4096x128) ![0, 0] S4096x128.size inb_S4096x128_S4096x128_0_0, k0_pay124 (F := Ideal)⟩]) f13 f14 := by
  refine ⟨fun t d h => absurd h (Nat.not_lt_zero _), fun s d _ => ?_, fun s d _ => ?_, fun t d h => absurd h.2 (Nat.not_lt_zero _),
    fun t d h => absurd h.2 (Nat.not_lt_zero _)⟩
  · rw [View.read_writes_full, up, gathered_none _ _ _ fun m _ => by rw [bound_start]; exact s.isLt]
    pointwise [k0_pay123]; rfl
  · rw [View.read_writes_full, up, gathered_none _ _ _ fun m _ => by rw [bound_start]; exact s.isLt]
    pointwise [k0_pay124]; rfl

variable {m} {q k v g o : Dev nD → ℕ → ℕ → ℝ} {c : Dev nD} {p : Fin (cfg0 (F := Ideal)).N}

section End
variable {Q K V D : ℕ → Fin 128 → ℝ} {g10 : BufTy.Contents (Elt Ideal) scM0_0.view.ty} {g11 : BufTy.Contents (Elt Ideal) scM0_1.view.ty} {g12 : BufTy.Contents (Elt Ideal) scM0_2.view.ty}
  {g13 : BufTy.Contents (Elt Ideal) scM0_3.view.ty} {g14 : BufTy.Contents (Elt Ideal) scM0_4.view.ty}

/-- The kernel's scale, at a real. -/
theorem eighth_of (a : ℝ) : (a : EReal) * Ideal.ofBits .f32 0x3E000000#32 = ((a * (1 / 8) : ℝ) : EReal) := by
  rw [eighth_f32, ← EReal.coe_mul]

/-- After the last tile the scratch buffers hold the three sums whole. -/
theorem J_end (h : J scM0_0 scM0_1 scM0_2 scM0_3 scM0_4 Q K V D 64 g10 g11 g12 g13 g14) :
    (∀ x, k0_pay132 (scM0_0.view.read (Elt Ideal) g10) x = ((dqOut Q K V D (x 0).val (x 1) : ℝ) : EReal))
    ∧ (∀ x, k0_pay133 (scM0_1.view.read (Elt Ideal) g11) x = ((dkOut Q K V D (x 0).val (x 1) : ℝ) : EReal))
    ∧ (∀ x, k0_pay134 (scM0_2.view.read (Elt Ideal) g12) x = ((dvOut Q K D (x 0).val (x 1) : ℝ) : EReal)) := by
  obtain ⟨h10, h11, h12, -, -⟩ := h
  refine ⟨fun x => ?_, fun x => ?_, fun x => ?_⟩
  · have hb : (x 0).val < 4096 := (x 0).isLt
    have hx := h10 (x 0) (x 1) (by show (x 0).val / 128 < 64; omega)
    rw [← eq_ix2 x] at hx
    pointwise [k0_pay132]
    rw [hx]
    exact (eighth_of _).trans (same (congrArg (· * (1 / 8)) ((congrArg _ (bound_end (by omega))).trans (dqA_zero Q K V D _ _ _))))
  · have hb : (x 0).val < 4096 := (x 0).isLt
    have hx := h11 (x 0) (x 1) trivial
    rw [← eq_ix2 x] at hx
    pointwise [k0_pay133]
    rw [hx]
    exact same (gathered_all (fun t s => zt Q K V D ((x 1).val / 64) t s * (Q t (x 1) * (1 / 8))) _ _ fun m hm => bound_end hm)
  · have hx := h12 (x 0) (x 1) trivial
    rw [← eq_ix2 x] at hx
    pointwise [k0_pay134]
    rw [hx]
    exact same (gathered_all (fun t s => wt Q K ((x 1).val / 64) t s * D t (x 1)) _ _ fun m hm => bound_end hm)

end End

/-- The three loops keep what the buffers hold, at a pair's blocks. -/
theorem kept_at (hin : Found m q k v g o c p) : ∀ X1 X2 X3 X4 X5 X6, (ms0_0 p).view.read (Elt Ideal) X1 = iblk m c 0 p → (ms0_1 p).view.read (Elt Ideal) X2 = iblk m c 1 p
        → (ms0_2 p).view.read (Elt Ideal) X3 = iblk m c 2 p → (ms0_3 p).view.read (Elt Ideal) X4 = iblk m c 3 p
        → (ms0_4 p).view.read (Elt Ideal) X5 = iblk m c 4 p → (ms0_5 p).view.read (Elt Ideal) X6 = iblk m c 5 p →
      Kept1 (F := Ideal) (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) scM0_0 (Memref.isWhole_whole _) scM0_1 (Memref.isWhole_whole _) scM0_2 (Memref.isWhole_whole _) scM0_3 (Memref.isWhole_whole _) scM0_4 (Memref.isWhole_whole _) X1 X2 X3 X4 X5 X6 c (J scM0_0 scM0_1 scM0_2 scM0_3 scM0_4 (cut (q c) p) (cut (k c) p) (cut (v c) p) (cut (g c) p))
      ∧ Kept2 (F := Ideal) (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) scM0_0 (Memref.isWhole_whole _) scM0_1 (Memref.isWhole_whole _) scM0_2 (Memref.isWhole_whole _) scM0_3 (Memref.isWhole_whole _) scM0_4 (Memref.isWhole_whole _) X1 X2 X3 X4 X5 X6 c (fun n => J scM0_0 scM0_1 scM0_2 scM0_3 scM0_4 (cut (q c) p) (cut (k c) p) (cut (v c) p) (cut (g c) p) (Scf.trips k0_t1_loop.lb k0_t1_loop.ub k0_t1_loop.st + n))
      ∧ Kept3 (F := Ideal) (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) scM0_0 (Memref.isWhole_whole _) scM0_1 (Memref.isWhole_whole _) scM0_2 (Memref.isWhole_whole _) scM0_3 (Memref.isWhole_whole _) scM0_4 (Memref.isWhole_whole _) X1 X2 X3 X4 X5 X6 (fun n => J scM0_0 scM0_1 scM0_2 scM0_3 scM0_4 (cut (q c) p) (cut (k c) p) (cut (v c) p) (cut (g c) p) (Scf.trips k0_t1_loop.lb k0_t1_loop.ub k0_t1_loop.st + Scf.trips k0_t2_loop.lb k0_t2_loop.ub k0_t2_loop.st + n)) := by
  intro X1 X2 X3 X4 X5 X6 e1 e2 e3 e4 e5 e6
  have h1 := holds_of (A := up (cut (q c) p)) e1 hin.hq
  have h2 := holds_of (A := up (cut (k c) p)) e2 hin.hk
  have h3 := holds_of (A := up (cut (v c) p)) e3 hin.hv
  have h4 := holds_of (A := up fun r (s : Fin 128) => tri r s.val) e4 hin.ht
  have h5 := holds_of (A := up (cut (o c) p)) e5 hin.ho
  have h6 := holds_of (A := up (cut (g c) p)) e6 hin.hg
  exact ⟨kept1 (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) scM0_0 (Memref.isWhole_whole _) scM0_1 (Memref.isWhole_whole _) scM0_2 (Memref.isWhole_whole _) scM0_3 (Memref.isWhole_whole _) scM0_4 (Memref.isWhole_whole _) X1 X2 X3 X4 X5 X6 h1 h2 h3 h4 h5 h6 hin.sum c, kept2 (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) scM0_0 (Memref.isWhole_whole _) scM0_1 (Memref.isWhole_whole _) scM0_2 (Memref.isWhole_whole _) scM0_3 (Memref.isWhole_whole _) scM0_4 (Memref.isWhole_whole _) X1 X2 X3 X4 X5 X6 h1 h2 h3 h4 h5 h6 hin.sum c, kept3 (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) (ms0_7 p) (hs0_7 p) (ms0_8 p) (hs0_8 p) scM0_0 (Memref.isWhole_whole _) scM0_1 (Memref.isWhole_whole _) scM0_2 (Memref.isWhole_whole _) scM0_3 (Memref.isWhole_whole _) scM0_4 (Memref.isWhole_whole _) X1 X2 X3 X4 X5 X6 h1 h2 h3 h4 h5 h6 hin.sum⟩

set_option maxHeartbeats 1200000 in
/-- One point of the pipeline: from the pair's blocks to the pair's gradients. -/
theorem point_value (hin : Found m q k v g o c p) :
    iprop((dats m (outs q k v g) 0 c).Φ p.castSucc ∗ (dats m (outs q k v g) 0 c).owesAt () p.castSucc
    ∗ (∃ d, owns (c : Thread nD τ) (ms0_0 p) fullShare ((dats m (outs q k v g) 0 c).before 0 p d))
    ∗ (∃ d, owns (c : Thread nD τ) (ms0_1 p) fullShare ((dats m (outs q k v g) 0 c).before 1 p d))
    ∗ (∃ d, owns (c : Thread nD τ) (ms0_2 p) fullShare ((dats m (outs q k v g) 0 c).before 2 p d))
    ∗ (∃ d, owns (c : Thread nD τ) (ms0_3 p) fullShare ((dats m (outs q k v g) 0 c).before 3 p d))
    ∗ (∃ d, owns (c : Thread nD τ) (ms0_4 p) fullShare ((dats m (outs q k v g) 0 c).before 4 p d))
    ∗ (∃ d, owns (c : Thread nD τ) (ms0_5 p) fullShare ((dats m (outs q k v g) 0 c).before 5 p d))
    ∗ (∃ d, owns (c : Thread nD τ) (ms0_6 p) fullShare ((dats m (outs q k v g) 0 c).before 6 p d))
    ∗ (∃ d, owns (c : Thread nD τ) (ms0_7 p) fullShare ((dats m (outs q k v g) 0 c).before 7 p d))
    ∗ (∃ d, owns (c : Thread nD τ) (ms0_8 p) fullShare ((dats m (outs q k v g) 0 c).before 8 p d)))
    ⊢ wp Idealize.ShloMosaic.frame (wpE (defs₀ (F := Ideal)) turns (c : Thread nD τ) none) Set.univ (bodyAt0 p) (fun _ =>
      iprop((dats m (outs q k v g) 0 c).Φ p.succ ∗ (dats m (outs q k v g) 0 c).owesAt () p.succ
    ∗ owns (c : Thread nD τ) (ms0_0 p) fullShare ((dats m (outs q k v g) 0 c).after 0 p)
    ∗ owns (c : Thread nD τ) (ms0_1 p) fullShare ((dats m (outs q k v g) 0 c).after 1 p)
    ∗ owns (c : Thread nD τ) (ms0_2 p) fullShare ((dats m (outs q k v g) 0 c).after 2 p)
    ∗ owns (c : Thread nD τ) (ms0_3 p) fullShare ((dats m (outs q k v g) 0 c).after 3 p)
    ∗ owns (c : Thread nD τ) (ms0_4 p) fullShare ((dats m (outs q k v g) 0 c).after 4 p)
    ∗ owns (c : Thread nD τ) (ms0_5 p) fullShare ((dats m (outs q k v g) 0 c).after 5 p)
    ∗ owns (c : Thread nD τ) (ms0_6 p) fullShare ((dats m (outs q k v g) 0 c).after 6 p)
    ∗ owns (c : Thread nD τ) (ms0_7 p) fullShare ((dats m (outs q k v g) 0 c).after 7 p)
    ∗ owns (c : Thread nD τ) (ms0_8 p) fullShare ((dats m (outs q k v g) 0 c).after 8 p))) := by
  simp only [before0_0, before0_1, before0_2, before0_3, before0_4, before0_5]
  rw [show (dats m (outs q k v g) 0 c).Φ p.succ = (dats m (outs q k v g) 0 c).Φ p.castSucc from rfl,
    show (dats m (outs q k v g) 0 c).owesAt () p.succ = (dats m (outs q k v g) 0 c).owesAt () p.castSucc from rfl,
    after0_0, after0_1, after0_2, after0_3, after0_4, after0_5, after0_6, after0_7, after0_8]
  rw [show (dats m (outs q k v g) 0 c).Φ p.castSucc = Pipeline.ΦA spec0 c from rfl, PhiA0_eq]
  iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_r Idealize.ShloMosaic.frame (wpE (defs₀ (F := Ideal)) turns (c : Thread nD τ) none) Set.univ)
  isplitl [HS H0 H1 H2 H3 H4 H5 H6 H7 H8]
  · iapply (body_at c p (J scM0_0 scM0_1 scM0_2 scM0_3 scM0_4 (cut (q c) p) (cut (k c) p) (cut (v c) p) (cut (g c) p))
      (iblk m c 0 p) (iblk m c 1 p) (iblk m c 2 p) (iblk m c 3 p) (iblk m c 4 p) (iblk m c 5 p)
      (kept_at hin) (J_start _ _ _ _))
    isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8
  iintro %_ ⟨HS, H0, H1, H2, H3, H4, H5, %g10, %g11, %g12, %g13, %g14, %e6, %e7, %e8, H6, H7, H8, %hend⟩
  obtain ⟨r6, r7, r8⟩ := J_end hend
  rw [View.read_writes_full, View.readAt_full, funext r6, View.read_writes_full, View.readAt_full, funext r7,
    View.read_writes_full, View.readAt_full, funext r8]
  isplitl [HS]; · iexact HS
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's obligation. -/
theorem body_value (hin : ∀ p, Found m q k v g o c p) : Pipeline.BodyObligation (dats m (outs q k v g) 0 c) (defs₀ (F := Ideal)) turns () Set.univ := fun t => by
  rw [bigSep_W0, bigSep_W0, defs₀_row]
  exact triple_restated (point_value (hin t)) rfl .rfl fun _ => .rfl

set_option backward.isDefEq.respectTransparency.types false in
/-- The launch: every run ends with each result's array as the points wrote it, the other buffers as the region found them. -/
theorem run_value (ρ : Dev nD → PrngReg) (hin : ∀ c p, Found m q k v g o c p) :
    θ_run defs (onTc (τ := τ) (main (F := Ideal))) (s₀ m ρ)
      (fun r => Pipeline.FramePost (cfgs (F := Ideal)) (dats m (outs q k v g)) 0 (V m) r ∧ r.2.sem = fun _ => 0) :=
  Pipeline.θ_run_frame_shared (cfgs (F := Ideal)) (dats m (outs q k v g)) (0 : Fin 1) launch₀0 defs₀ turns m ρ main
    (hbody := fun c => Pipeline.BodyObligation.loose _ (body_value (hin c))) (hq := fun _ _ _ => rfl)
    (howed := fun _ _ => rfl) (V := V m) (hmain := hmain m turns) (hA := A_eq m (outs q k v g)) (hΦ := fun _ _ => rfl)
    (Q' := _) (hQ' := fun _ h => h)

end Cert.SbKernelIdeal.Grad

end
-- ==== Proof.SbHost.lean ====
module

public import proofs.«01_k».proof.Proof.SbChainAt
public import proofs.«01_k».proof.Proof.SbPoint
public import Idealize.ShloMosaic.Lib.Pipeline.ValueKit

/-!
What the host prepares for the launch: the rows of the three projections side by side, the triangle, the attention's
output and the cotangent; and each grid point's blocks of them.
-/

@[expose] public section

set_option maxRecDepth 16384

noncomputable section

open Idealize.ShloMosaic Idealize.ShloMosaic.TcCoe Idealize.SL.Sem
open Idealize.ShloMosaic.Pipeline (Dat)
open scoped BigOperators

namespace Cert.SbKernelIdeal.Grad

open Cert.SbKernelIdeal Cert.SbKernelIdeal.Gen Cert.SbMath
open Cert.SbReferenceIdeal.Chain (Rows RealRows attended)

variable (m : (ℓ : Loc nD τ sig) → Buf (Elt Ideal) ℓ)

/-- The projections' rows side by side, with zeros for the lanes that the launch leaves unread. -/
def joined (q k v : Rows) : FVec Ideal S4096x2304 .bf16 :=
  truncf .bf16 (concatenate S4096x2304 1 [⟨S4096x512, q⟩, ⟨S4096x512, k⟩, ⟨S4096x512, v⟩,
    ⟨S4096x768, broadcastInDim S4096x768 ![] bcast_S_S4096x768 (constant (F := Ideal) S_ .f32 0x00000000#32)⟩]
    concatenates_S4096x512_S4096x512_S4096x512_S4096x768_S4096x2304_d1) bitsLt_bf16_f32

/-- The triangle below the diagonal. -/
def corner : FVec Ideal S128x128 .bf16 :=
  uitofp .bf16 (cmpi .sgt (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0))))

/-- The triangle twice, one above the other. -/
def corners : FVec Ideal S256x128 .bf16 :=
  concatenate S256x128 0 [⟨S128x128, corner⟩, ⟨S128x128, corner⟩] concatenates_S128x128_S128x128_S256x128_d0

theorem host_joined (c : Dev nD) :
    V m c main_v11 = joined (m ((c : Thread nD τ).loc main_arg0)) (m ((c : Thread nD τ).loc main_arg1)) (m ((c : Thread nD τ).loc main_arg2)) := rfl
theorem host_corners (c : Dev nD) :
    V m c main_v8 = corners := rfl
theorem host_do (c : Dev nD) :
    V m c main_v37 = m ((c : Thread nD τ).loc main_arg3) := rfl

theorem host_out (c : Dev nD) :
    V m c main_v36 = attended (m ((c : Thread nD τ).loc main_arg0)) (m ((c : Thread nD τ).loc main_arg1)) (m ((c : Thread nD τ).loc main_arg2)) := rfl

end Cert.SbKernelIdeal.Grad

end
-- ==== Proof.SbFound.lean ====
module

public import proofs.«01_k».proof.Proof.SbHost
public import Idealize.ShloMosaic.Lib.Pipeline.ValueKit

/-!
What each grid point finds: the blocks of a pair of heads, as real numbers.
-/

@[expose] public section

set_option maxRecDepth 16384

noncomputable section

open Idealize.ShloMosaic Idealize.ShloMosaic.TcCoe Idealize.SL.Sem
open Idealize.ShloMosaic.Pipeline (Dat)
open scoped BigOperators

namespace Cert.SbMath

open Cert.SbReferenceIdeal.Chain (headDot score)

/-- Over a pair's lanes, the lanes of one head. -/
theorem half_sum (f : ℕ → ℝ) (p h : ℕ) (hh : h < 2) :
    (∑ d : Fin 128, if d.val / 64 = h then f (128 * p + d.val) else 0) = ∑ x : Fin 64, f ((2 * p + h) * 64 + x.val) := by
  rw [Fin.sum_univ_eq_sum_range (fun d => if d / 64 = h then f (128 * p + d) else 0) 128,
    Fin.sum_univ_eq_sum_range (fun x => f ((2 * p + h) * 64 + x)) 64, ← Finset.sum_filter]
  symm
  refine Finset.sum_nbij (fun x => h * 64 + x) (fun x hx => ?_) (fun a _ b _ e => Nat.add_left_cancel e) (fun x hx => ?_) fun x _ => ?_
  · simp only [Finset.mem_filter, Finset.mem_range] at hx ⊢; omega
  · simp only [Finset.coe_filter, Finset.coe_range, Finset.mem_range, Set.mem_setOf_eq, Set.mem_image, Set.mem_Iio] at hx ⊢
    exact ⟨x - h * 64, by omega, by omega⟩
  · exact congrArg f (by ring)

variable (a b : ℕ → ℕ → ℝ) (p h t s : ℕ)

theorem zr_cut (hh : h < 2) : zr (Cert.SbKernelIdeal.Grad.cut a p) (Cert.SbKernelIdeal.Grad.cut b p) h t s = score a b (2 * p + h) t s := by
  rw [zr, score, headDot, ← half_sum (fun j => a t j * b s j) p h hh, Finset.sum_mul]
  refine Finset.sum_congr rfl fun d _ => ?_
  unfold Cert.SbKernelIdeal.Grad.cut
  split_ifs <;> ring

theorem along_cut (hh : h < 2) : along (Cert.SbKernelIdeal.Grad.cut a p) (Cert.SbKernelIdeal.Grad.cut b p) h t s = headDot a b (2 * p + h) t s := by
  rw [along, headDot, ← half_sum (fun j => a t j * b s j) p h hh]
  refine Finset.sum_congr rfl fun d _ => ?_
  unfold Cert.SbKernelIdeal.Grad.cut
  split_ifs <;> ring

end Cert.SbMath

namespace Cert.SbKernelIdeal.Grad

open Cert.SbKernelIdeal Cert.SbKernelIdeal.Gen Cert.SbMath
open Cert.SbReferenceIdeal.Chain (Rows RealRows attended attended_at headDot score)

/-- The rows as real numbers. -/
def real (A : Rows) (t j : ℕ) : ℝ := if h : t < 4096 ∧ j < 512 then (A (ix2 ⟨t, h.1⟩ ⟨j, h.2⟩)).toReal else 0

/-- Every entry is finite. -/
def Finite (A : Rows) : Prop := ∀ i, A i ≠ ⊥ ∧ A i ≠ ⊤

theorem real_rows {A : Rows} (h : Finite A) : RealRows A (real A) := fun t j => by
  rw [real, dif_pos ⟨t.isLt, j.isLt⟩]
  exact (EReal.coe_toReal (h _).2 (h _).1).symm

theorem joined_q (q k v : Rows) (r : Fin 4096) (j : Fin 2304) (h : j.val < 512) : joined q k v (ix2 r j) = q (ix2 r ⟨j.val, h⟩) := by
  pointwise [joined]
  rw [dif_pos h]

theorem joined_k (q k v : Rows) (r : Fin 4096) (j : ℕ) (h : j < 512) : joined q k v (ix2 r ⟨512 + j, by omega⟩) = k (ix2 r ⟨j, h⟩) := by
  pointwise [joined]
  rw [dif_pos h]

theorem joined_v (q k v : Rows) (r : Fin 4096) (j : ℕ) (h : j < 512) : joined q k v (ix2 r ⟨1024 + j, by omega⟩) = v (ix2 r ⟨j, h⟩) := by
  pointwise [joined]
  rw [dif_neg (by omega), dif_neg (by omega), dif_pos (by omega)]
  exact congrArg (fun e => v (ix2 r e)) (Fin.ext (show 1024 + j - 512 - 512 = j by omega))

theorem corner_word (a b : ℕ) (ha : a < 128) (hb : b < 128) :
    (FloatOps.uitofp .bf16 (IntOp.cmpi CmpIPredicate.sgt (BitVec.ofNat 32 a) (BitVec.ofNat 32 b)) : Ideal .bf16) = (((if b < a then 1 else 0 : ℝ)) : EReal) := by
  by_cases h : b < a
  · rw [if_pos h, (WordCmp.cmpi_sgt_ofNat_eq_one_iff (by omega) (by omega)).2 h]
    exact same (by simp)
  · rw [if_neg h, (BitVec.eq_zero_or_eq_one _).resolve_right fun e => h ((WordCmp.cmpi_sgt_ofNat_eq_one_iff (by omega) (by omega)).1 e)]
    exact same (by simp)

theorem corners_at (r : Fin 256) (s : Fin 128) : corners (ix2 r s) = ((tri r.val s.val : ℝ) : EReal) := by
  have hr := r.isLt
  pointwise [corners, corner]
  split_ifs with h
  · rw [corner_word _ _ h s.isLt, tri, Nat.mod_eq_of_lt h]
  · rw [corner_word _ _ (by omega) s.isLt, tri, show r.val % 128 = r.val - 128 by omega]

/-- Every window's block at every grid point. -/
theorem idx : ∀ t : Fin grid0.N, win0_0.index t = ![0, t.val] ∧ win0_1.index t = ![0, 4 + t.val] ∧ win0_2.index t = ![0, 8 + t.val]
    ∧ win0_3.index t = ![0, 0] ∧ win0_4.index t = ![0, t.val] ∧ win0_5.index t = ![0, t.val]
    ∧ win0_6.index t = ![0, t.val] ∧ win0_7.index t = ![0, t.val] ∧ win0_8.index t = ![0, t.val] :=
  (by decide +kernel : ∀ t : Fin grid0.N, _)

variable (m : (ℓ : Loc nD τ sig) → Buf (Elt Ideal) ℓ) (c : Dev nD) (p : Fin (cfg0 (F := Ideal)).N)

theorem lane (d : Fin 128) : 128 * p.val + d.val < 512 := by
  have h : p.val < 4 := lt_of_lt_of_eq p.isLt N_0
  omega

theorem block_q (r : Fin 4096) (d : Fin 128) : iblk m c 0 p (ix2 r d) = V m c main_v11 (ix2 r ⟨128 * p.val + d.val, by have := lane p d; omega⟩) := by
  blk_point [iblk, idx p]

theorem block_k (r : Fin 4096) (d : Fin 128) : iblk m c 1 p (ix2 r d) = V m c main_v11 (ix2 r ⟨512 + (128 * p.val + d.val), by have := lane p d; omega⟩) := by
  blk_point [iblk, idx p]

theorem block_v (r : Fin 4096) (d : Fin 128) : iblk m c 2 p (ix2 r d) = V m c main_v11 (ix2 r ⟨1024 + (128 * p.val + d.val), by have := lane p d; omega⟩) := by
  blk_point [iblk, idx p]

theorem block_t (r : Fin 256) (d : Fin 128) : iblk m c 3 p (ix2 r d) = V m c main_v8 (ix2 r d) := by
  blk_point [iblk, idx p]

theorem block_o (r : Fin 4096) (d : Fin 128) : iblk m c 4 p (ix2 r d) = V m c main_v36 (ix2 r ⟨128 * p.val + d.val, lane p d⟩) := by
  blk_point [iblk, idx p]

theorem block_g (r : Fin 4096) (d : Fin 128) : iblk m c 5 p (ix2 r d) = V m c main_v37 (ix2 r ⟨128 * p.val + d.val, lane p d⟩) := by
  blk_point [iblk, idx p]

/-- The arguments' rows, as real numbers. -/
def qs (c : Dev nD) : ℕ → ℕ → ℝ := real (m ((c : Thread nD τ).loc main_arg0))
@[inherit_doc qs]
def ks (c : Dev nD) : ℕ → ℕ → ℝ := real (m ((c : Thread nD τ).loc main_arg1))
@[inherit_doc qs]
def vs (c : Dev nD) : ℕ → ℕ → ℝ := real (m ((c : Thread nD τ).loc main_arg2))
@[inherit_doc qs]
def gs (c : Dev nD) : ℕ → ℕ → ℝ := real (m ((c : Thread nD τ).loc main_arg3))
/-- The attention's output. -/
def os (c : Dev nD) (t j : ℕ) : ℝ := ∑ s ∈ Finset.range 4096, ww 4096 t (score (qs m c) (ks m c) (j / 64) t) s * vs m c s j

/-- Every entry of the four arrays is finite. -/
def AllFinite (c : Dev nD) : Prop := Finite (m ((c : Thread nD τ).loc main_arg0)) ∧ Finite (m ((c : Thread nD τ).loc main_arg1))
  ∧ Finite (m ((c : Thread nD τ).loc main_arg2)) ∧ Finite (m ((c : Thread nD τ).loc main_arg3))

theorem wt_cut (a b : ℕ → ℕ → ℝ) (t : ℕ) (d : Fin 128) : wt (cut a p) (cut b p) (d.val / 64) t = ww 4096 t (score a b ((128 * p.val + d.val) / 64) t) := by
  have hd : d.val / 64 < 2 := by omega
  rw [wt, show zr (cut a p) (cut b p) (d.val / 64) t = score a b ((128 * p.val + d.val) / 64) t from
    funext fun s => by rw [zr_cut a b p _ t s hd, show 2 * p.val + d.val / 64 = (128 * p.val + d.val) / 64 by omega]]

theorem zt_cut (a b v g : ℕ → ℕ → ℝ) (t : ℕ) (d : Fin 128) : zt (cut a p) (cut b p) (cut v p) (cut g p) (d.val / 64) t
    = dz 4096 t (score a b ((128 * p.val + d.val) / 64) t) (headDot g v ((128 * p.val + d.val) / 64) t) := by
  have hd : d.val / 64 < 2 := by omega
  have hj : 2 * p.val + d.val / 64 = (128 * p.val + d.val) / 64 := by omega
  rw [zt, show zr (cut a p) (cut b p) (d.val / 64) t = score a b ((128 * p.val + d.val) / 64) t from
    funext fun s => by rw [zr_cut a b p _ t s hd, hj], show along (cut g p) (cut v p) (d.val / 64) t = headDot g v ((128 * p.val + d.val) / 64) t from
    funext fun s => by rw [along_cut g v p _ t s hd, hj]]

section Finds
variable (h : AllFinite m c)
include h

theorem finds_q (r : Fin 4096) (d : Fin 128) : iblk m c 0 p (ix2 r d) = up (cut (qs m c) p) r.val d :=
  (block_q m c p r d).trans ((congrFun (host_joined m c) _).trans ((joined_q _ _ _ _ _ (lane p d)).trans (real_rows h.1 _ _)))

theorem finds_k (r : Fin 4096) (d : Fin 128) : iblk m c 1 p (ix2 r d) = up (cut (ks m c) p) r.val d :=
  (block_k m c p r d).trans ((congrFun (host_joined m c) _).trans ((joined_k _ _ _ _ _ (lane p d)).trans (real_rows h.2.1 _ _)))

theorem finds_v (r : Fin 4096) (d : Fin 128) : iblk m c 2 p (ix2 r d) = up (cut (vs m c) p) r.val d :=
  (block_v m c p r d).trans ((congrFun (host_joined m c) _).trans ((joined_v _ _ _ _ _ (lane p d)).trans (real_rows h.2.2.1 _ _)))

theorem finds_o (r : Fin 4096) (d : Fin 128) : iblk m c 4 p (ix2 r d) = up (cut (os m c) p) r.val d :=
  (block_o m c p r d).trans ((congrFun (host_out m c) _).trans (attended_at (real_rows h.1) (real_rows h.2.1) (real_rows h.2.2.1) _ _))

theorem finds_g (r : Fin 4096) (d : Fin 128) : iblk m c 5 p (ix2 r d) = up (cut (gs m c) p) r.val d :=
  (block_g m c p r d).trans ((congrFun (host_do m c) _).trans (real_rows h.2.2.2 _ _))

/-- What a point finds. -/
theorem found : Found m (qs m) (ks m) (vs m) (gs m) (os m) c p where
  hq := finds_q m c p h
  hk := finds_k m c p h
  hv := finds_v m c p h
  ht r d := (block_t m c p r d).trans ((congrFun (host_corners m c) _).trans (corners_at r d))
  ho := finds_o m c p h
  hg := finds_g m c p h
  sum t ht d := by rw [wt_cut]; rfl

end Finds

end Cert.SbKernelIdeal.Grad

end
-- ==== Proof.SbValue.lean ====
module

public import proofs.«01_k».proof.Proof.SbFound
public import proofs.«01_k».proof.Pre_sb_finite
public import proofs.«01_k».proof.Proof.Ordinary
public import Idealize.ShloMosaic.Lib.Pipeline.ValueKit
public import Idealize.ShloMosaic.Lib.Claim

/-!
The gradients that the launch leaves are the reference's.
-/

@[expose] public section

set_option maxRecDepth 16384

noncomputable section

open Idealize.ShloMosaic Idealize.ShloMosaic.TcCoe Idealize.SL.Sem
open Idealize.ShloMosaic.Pipeline (Dat)
open scoped BigOperators

namespace Cert.SbKernelIdeal.Grad

open Cert.SbKernelIdeal Cert.SbKernelIdeal.Gen Cert.SbMath
open Cert.SbReferenceIdeal.Chain

variable (m : (ℓ : Loc nD τ sig) → Buf (Elt Ideal) ℓ) (c : Dev nD)

/-- An array that agrees with every pair's block of the queries' gradient is what the run leaves there. -/
theorem filled_6 (o : Dev nD → Fin (cfg0 (F := Ideal)).N → FVec Ideal S4096x128 .f32 × FVec Ideal S4096x128 .f32 × FVec Ideal S4096x128 .f32) (G : Rows)
    (h : ∀ (p : Fin (cfg0 (F := Ideal)).N) (r : Fin 4096) (d : Fin 128), (o c p).1 (ix2 r d) = G (ix2 r ⟨128 * p.val + d.val, lane p d⟩)) :
    (dats m o 0 c).arrAt 6 (cfg0 (F := Ideal)).N = G := by
  refine (dats m o 0 c).arrAt_eq_of_covers 6 _ (by decide +kernel) fun t hf y => ?_
  blk_simp; rw [after0_6]
  obtain ⟨r, d, rfl⟩ : ∃ (r : Fin 4096) (d : Fin 128), y = ix2 r d := ⟨y 0, y 1, (ix2_eta y).symm⟩
  rw [h]
  refine congrArg G ?_
  blk_point [idx t]

/-- An array that agrees with every pair's block of the keys' gradient is what the run leaves there. -/
theorem filled_7 (o : Dev nD → Fin (cfg0 (F := Ideal)).N → FVec Ideal S4096x128 .f32 × FVec Ideal S4096x128 .f32 × FVec Ideal S4096x128 .f32) (G : Rows)
    (h : ∀ (p : Fin (cfg0 (F := Ideal)).N) (r : Fin 4096) (d : Fin 128), (o c p).2.1 (ix2 r d) = G (ix2 r ⟨128 * p.val + d.val, lane p d⟩)) :
    (dats m o 0 c).arrAt 7 (cfg0 (F := Ideal)).N = G := by
  refine (dats m o 0 c).arrAt_eq_of_covers 7 _ (by decide +kernel) fun t hf y => ?_
  blk_simp; rw [after0_7]
  obtain ⟨r, d, rfl⟩ : ∃ (r : Fin 4096) (d : Fin 128), y = ix2 r d := ⟨y 0, y 1, (ix2_eta y).symm⟩
  rw [h]
  refine congrArg G ?_
  blk_point [idx t]

/-- An array that agrees with every pair's block of the values' gradient is what the run leaves there. -/
theorem filled_8 (o : Dev nD → Fin (cfg0 (F := Ideal)).N → FVec Ideal S4096x128 .f32 × FVec Ideal S4096x128 .f32 × FVec Ideal S4096x128 .f32) (G : Rows)
    (h : ∀ (p : Fin (cfg0 (F := Ideal)).N) (r : Fin 4096) (d : Fin 128), (o c p).2.2 (ix2 r d) = G (ix2 r ⟨128 * p.val + d.val, lane p d⟩)) :
    (dats m o 0 c).arrAt 8 (cfg0 (F := Ideal)).N = G := by
  refine (dats m o 0 c).arrAt_eq_of_covers 8 _ (by decide +kernel) fun t hf y => ?_
  blk_simp; rw [after0_8]
  obtain ⟨r, d, rfl⟩ : ∃ (r : Fin 4096) (d : Fin 128), y = ix2 r d := ⟨y 0, y 1, (ix2_eta y).symm⟩
  rw [h]
  refine congrArg G ?_
  blk_point [idx t]

section Finals
variable (h : AllFinite m c)
include h

/-- A pair's block of the queries' gradient. -/
theorem out_dq (p : Fin (cfg0 (F := Ideal)).N) (r : Fin 4096) (d : Fin 128) :
    (outs (qs m) (ks m) (vs m) (gs m) c p).1 (ix2 r d)
      = dqs (m ((c : Thread nD τ).loc main_arg0)) (m ((c : Thread nD τ).loc main_arg1)) (m ((c : Thread nD τ).loc main_arg2)) (m ((c : Thread nD τ).loc main_arg3))
          (ix2 r ⟨128 * p.val + d.val, lane p d⟩) := by
  refine Eq.trans ?_ (dqs_at (real_rows h.1) (real_rows h.2.1) (real_rows h.2.2.1) (real_rows h.2.2.2) r ⟨128 * p.val + d.val, lane p d⟩).symm
  refine same ((Finset.sum_mul _ _ _).trans (Finset.sum_congr rfl fun s _ => ?_))
  refine (congrArg (fun f : ℕ → ℝ => f s * cut (ks m c) p s d * (1 / 8)) (zt_cut p (qs m c) (ks m c) (vs m c) (gs m c) r.val d)).trans ?_
  exact mul_right_comm _ _ _

/-- A pair's block of the keys' gradient. -/
theorem out_dk (p : Fin (cfg0 (F := Ideal)).N) (r : Fin 4096) (d : Fin 128) :
    (outs (qs m) (ks m) (vs m) (gs m) c p).2.1 (ix2 r d)
      = dks (m ((c : Thread nD τ).loc main_arg0)) (m ((c : Thread nD τ).loc main_arg1)) (m ((c : Thread nD τ).loc main_arg2)) (m ((c : Thread nD τ).loc main_arg3))
          (ix2 r ⟨128 * p.val + d.val, lane p d⟩) := by
  refine Eq.trans ?_ (dks_at (real_rows h.1) (real_rows h.2.1) (real_rows h.2.2.1) (real_rows h.2.2.2) r ⟨128 * p.val + d.val, lane p d⟩).symm
  refine same (Finset.sum_congr rfl fun t _ => ?_)
  refine (congrArg (fun f : ℕ → ℝ => f r.val * (cut (qs m c) p t d * (1 / 8))) (zt_cut p (qs m c) (ks m c) (vs m c) (gs m c) t d)).trans ?_
  exact (mul_assoc _ _ _).symm.trans (mul_right_comm _ _ _)

/-- A pair's block of the values' gradient. -/
theorem out_dv (p : Fin (cfg0 (F := Ideal)).N) (r : Fin 4096) (d : Fin 128) :
    (outs (qs m) (ks m) (vs m) (gs m) c p).2.2 (ix2 r d)
      = dvs (m ((c : Thread nD τ).loc main_arg0)) (m ((c : Thread nD τ).loc main_arg1)) (m ((c : Thread nD τ).loc main_arg3))
          (ix2 r ⟨128 * p.val + d.val, lane p d⟩) := by
  refine Eq.trans ?_ (dvs_at (real_rows h.1) (real_rows h.2.1) (real_rows h.2.2.2) r ⟨128 * p.val + d.val, lane p d⟩).symm
  refine same (Finset.sum_congr rfl fun t _ => ?_)
  exact congrArg (fun f : ℕ → ℝ => f r.val * cut (gs m c) p t d) (wt_cut p (qs m c) (ks m c) t d)

/-- The queries' gradient after the run. -/
theorem final_6 : (dats m (outs (qs m) (ks m) (vs m) (gs m)) 0 c).arrAt 6 (cfg0 (F := Ideal)).N
    = dqs (m ((c : Thread nD τ).loc main_arg0)) (m ((c : Thread nD τ).loc main_arg1)) (m ((c : Thread nD τ).loc main_arg2)) (m ((c : Thread nD τ).loc main_arg3)) := filled_6 m c _ _ (out_dq m c h)

/-- The keys' gradient after the run. -/
theorem final_7 : (dats m (outs (qs m) (ks m) (vs m) (gs m)) 0 c).arrAt 7 (cfg0 (F := Ideal)).N
    = dks (m ((c : Thread nD τ).loc main_arg0)) (m ((c : Thread nD τ).loc main_arg1)) (m ((c : Thread nD τ).loc main_arg2)) (m ((c : Thread nD τ).loc main_arg3)) := filled_7 m c _ _ (out_dk m c h)

/-- The values' gradient after the run. -/
theorem final_8 : (dats m (outs (qs m) (ks m) (vs m) (gs m)) 0 c).arrAt 8 (cfg0 (F := Ideal)).N
    = dvs (m ((c : Thread nD τ).loc main_arg0)) (m ((c : Thread nD τ).loc main_arg1)) (m ((c : Thread nD τ).loc main_arg3)) := filled_8 m c _ _ (out_dv m c h)

end Finals

/-- Two bits whose conjunction is set are set. -/
theorem both {a b : BitVec 1} (h : a &&& b = 1#1) : a = 1#1 ∧ b = 1#1 := by revert a b; decide

/-- The precondition is that every entry is finite. -/
theorem all_finite [Cert.Pre_sb_finite.Facts] (hp : Cert.Pre_SbKernelIdeal_sb_finite m) : AllFinite m c := by
  have h := hp c
  unfold Cert.Pre_sb_finite.fn at h
  have key := fun i => (both (congrFun h i)).imp_left fun a => (both a).imp_left both
  exact ⟨fun i => Cert.Ordinary.ordinary Cert.Pre_sb_finite.Facts.bcast_S_S4096x512 (key i).1.1.1, fun i => Cert.Ordinary.ordinary Cert.Pre_sb_finite.Facts.bcast_S_S4096x512 (key i).1.1.2, fun i => Cert.Ordinary.ordinary Cert.Pre_sb_finite.Facts.bcast_S_S4096x512 (key i).1.2, fun i => Cert.Ordinary.ordinary Cert.Pre_sb_finite.Facts.bcast_S_S4096x512 (key i).2⟩

/-- The kernel's gradients are the reference's, on finite arrays. -/
theorem value [Cert.Pre_sb_finite.Facts] : Cert.algebraic_SbKernelIdeal_SbReferenceIdeal_pre_sb_finite := by
  intro m g m' g' hp hagree
  have hfin := fun c => all_finite m c hp
  refine ⟨fun c => dqs (m ((c : Thread nD τ).loc main_arg0)) (m ((c : Thread nD τ).loc main_arg1)) (m ((c : Thread nD τ).loc main_arg2)) (m ((c : Thread nD τ).loc main_arg3)),
    fun c => dks (m ((c : Thread nD τ).loc main_arg0)) (m ((c : Thread nD τ).loc main_arg1)) (m ((c : Thread nD τ).loc main_arg2)) (m ((c : Thread nD τ).loc main_arg3)),
    fun c => dvs (m ((c : Thread nD τ).loc main_arg0)) (m ((c : Thread nD τ).loc main_arg1)) (m ((c : Thread nD τ).loc main_arg3)), ?_, ?_⟩
  · refine θ_run_mono (run_value (m := m) g fun c p => found m c p (hfin c)) fun r h c => ?_
    have hc := h.1 c
    exact ⟨(hc.1 6).trans (final_6 m c (hfin c)), (hc.1 7).trans (final_7 m c (hfin c)), (hc.1 8).trans (final_8 m c (hfin c)),
      (hc.2 main_arg0 (Pipeline.mem_restRefs_of main_arg0 (by decide) (by decide : ∀ w : Fin 9, (spec0 w).arr.view.ref ≠ main_arg0))).trans (V_main_arg0 m c),
      (hc.2 main_arg1 (Pipeline.mem_restRefs_of main_arg1 (by decide) (by decide : ∀ w : Fin 9, (spec0 w).arr.view.ref ≠ main_arg1))).trans (V_main_arg1 m c),
      (hc.2 main_arg2 (Pipeline.mem_restRefs_of main_arg2 (by decide) (by decide : ∀ w : Fin 9, (spec0 w).arr.view.ref ≠ main_arg2))).trans (V_main_arg2 m c),
      (hc.2 main_arg3 (Pipeline.mem_restRefs_of main_arg3 (by decide) (by decide : ∀ w : Fin 9, (spec0 w).arr.view.ref ≠ main_arg3))).trans (V_main_arg3 m c)⟩
  · refine θ_run_mono (Cert.SbReferenceIdeal.Value.run m' g') fun r h c => ?_
    obtain ⟨e0, e1, e2, e3⟩ := hagree c
    obtain ⟨h0, h1, h2, h3⟩ := h c
    refine ⟨h0.trans ((result_dq m' c).trans ?_), h1.trans ((result_dk m' c).trans ?_), h2.trans ((result_dv m' c).trans ?_), h3⟩
    · rw [e0, e1, e2, e3]
    · rw [e0, e1, e2, e3]
    · rw [e0, e1, e3]

end Cert.SbKernelIdeal.Grad

end
-- ==== Proof.TurnMath.lean ====
module

public import proofs.«01_k».proof.Proof.PrepMath

/-!
One head's 64 entries through the norm and the rotation.
-/

@[expose] public section

set_option maxRecDepth 16384

noncomputable section

open Idealize.ShloMosaic Idealize.ShloMosaic.TcCoe Idealize.SL.Sem
open Idealize.ShloMosaic.Pipeline (Dat)
open scoped BigOperators

namespace Cert.TurnMath

open Cert.PrepMath (meanSq headCol)

/-- The rotation of a head's two halves, with the row's 32 cosines and sines. -/
def spin (co si : Fin 32 → EReal) (y : Fin 64 → EReal) (e : Fin 64) : EReal :=
  if h : e.val < 32 then y e * co ⟨e.val, h⟩ - y ⟨32 + e.val, by omega⟩ * si ⟨e.val, h⟩
  else y e * co ⟨e.val - 32, by omega⟩ + y ⟨e.val - 32, by omega⟩ * si ⟨e.val - 32, by omega⟩

/-- A head's entry over the root of the head's mean square, with its gain. -/
def normed (x g : Fin 64 → EReal) (e : Fin 64) : EReal := x e * Ideal.rsqrt (meanSq x) * g e

/-- The result at row `s` and column `j`. -/
def headTurn {W : ℕ} (hW : W % 64 = 0) (co si : Fin 4096 → Fin 32 → EReal) (x : Fin 4096 → Fin W → EReal) (g : Fin 64 → EReal) (s : Fin 4096) (j : Fin W) : EReal :=
  spin (co s) (si s) (normed (fun e => x s (headCol hW j e)) g) ⟨j.val % 64, Nat.mod_lt _ (by norm_num)⟩

end Cert.TurnMath

end
-- ==== Proof.TurnRef.lean ====
module

public import proofs.«01_k».proof.Proof.Gen.TurnReferenceIdeal.Run
public import Idealize.ShloMosaic.Lib.Pipeline.ValueKit
public import Idealize.ShloMosaic.Lib.Claim
public import proofs.«01_k».proof.Proof.PrepRef
public import proofs.«01_k».proof.Proof.TurnMath

/-!
What the reference of the windowed attention's queries and keys computes: every head through the norm and the rotation.
-/

@[expose] public section

set_option maxRecDepth 16384

noncomputable section

open Idealize.ShloMosaic Idealize.ShloMosaic.TcCoe Idealize.SL.Sem
open Idealize.ShloMosaic.Pipeline (Dat)
open scoped BigOperators

namespace Cert.TurnReferenceIdeal.Value

open Cert.TurnReferenceIdeal Cert.TurnReferenceIdeal.Gen Idealize.ShloMosaic.StableHlo

variable (m : (ℓ : Loc nD τ sig) → Buf (Elt Ideal) ℓ) (c : Dev nD)

open Cert.PrepMath (meanSq headCol)
open Cert.TurnMath (spin normed headTurn)
open Cert.PrepReferenceIdeal.Value (angles cosAt sinAt qcol kcol q_split q_head q_entry k_split k_head k_entry)

/-- The queries through the norm. -/
def qNormed (X : FVec Ideal S4096x512 .f32) (G : FVec Ideal S64 .f32) : FVec Ideal S1x4096x8x64 .f32 :=
  mulf (mulf (shapeCast S1x4096x8x64 X shapeCasts_S4096x512_S1x4096x8x64) (broadcastInDim S1x4096x8x64 ![0, 1, 2, 3] bcast_S1x4096x8x1_S1x4096x8x64_0_1_2_3 (Host.rsqrt (addf (Host.divf (broadcastInDim S1x4096x8x1 ![0, 1, 2] bcast_S1x4096x8_S1x4096x8x1_0_1_2 (Host.reduceAdd (mulf (shapeCast S1x4096x8x64 X shapeCasts_S4096x512_S1x4096x8x64) (shapeCast S1x4096x8x64 X shapeCasts_S4096x512_S1x4096x8x64)) (constant S_ .f32 0x00000000#32) reducesTo_S1x4096x8x64_S1x4096x8_d3 h_S_)) (broadcastInDim S1x4096x8x1 ![] bcast_S_S1x4096x8x1 (constant S_ .f32 0x42800000#32))) (broadcastInDim S1x4096x8x1 ![] bcast_S_S1x4096x8x1 (constant S_ .f32 0x358637BD#32)))))) (broadcastInDim S1x4096x8x64 ![0, 1, 2, 3] bcast_S1x1x1x64_S1x4096x8x64_0_1_2_3 (broadcastInDim S1x1x1x64 ![3] bcast_S64_S1x1x1x64_3 G))

theorem q_out : (res_main_v78 m c : FVec Ideal S4096x512 .bf16) = truncf .bf16 (shapeCast _ (concatenate S1x4096x8x64 3 [⟨S1x4096x8x32, (subf (mulf (extractStridedSlice S1x4096x8x32 ![0, 0, 0, 0] (qNormed (m ((c.tc : Thread nD τ).loc main_arg0)) (m ((c.tc : Thread nD τ).loc main_arg2))) slices_S1x4096x8x64_S1x4096x8x32_0_0_0_0) (broadcastInDim S1x4096x8x32 ![0, 1, 2, 3] bcast_S1x4096x1x32_S1x4096x8x32_0_1_2_3 (broadcastInDim S1x4096x1x32 ![1, 3] bcast_S4096x32_S1x4096x1x32_1_3 (Host.cos angles)))) (mulf (extractStridedSlice S1x4096x8x32 ![0, 0, 0, 32] (qNormed (m ((c.tc : Thread nD τ).loc main_arg0)) (m ((c.tc : Thread nD τ).loc main_arg2))) slices_S1x4096x8x64_S1x4096x8x32_0_0_0_32) (broadcastInDim S1x4096x8x32 ![0, 1, 2, 3] bcast_S1x4096x1x32_S1x4096x8x32_0_1_2_3 (broadcastInDim S1x4096x1x32 ![1, 3] bcast_S4096x32_S1x4096x1x32_1_3 (Host.sin angles)))))⟩, ⟨S1x4096x8x32, (addf (mulf (extractStridedSlice S1x4096x8x32 ![0, 0, 0, 32] (qNormed (m ((c.tc : Thread nD τ).loc main_arg0)) (m ((c.tc : Thread nD τ).loc main_arg2))) slices_S1x4096x8x64_S1x4096x8x32_0_0_0_32) (broadcastInDim S1x4096x8x32 ![0, 1, 2, 3] bcast_S1x4096x1x32_S1x4096x8x32_0_1_2_3 (broadcastInDim S1x4096x1x32 ![1, 3] bcast_S4096x32_S1x4096x1x32_1_3 (Host.cos angles)))) (mulf (extractStridedSlice S1x4096x8x32 ![0, 0, 0, 0] (qNormed (m ((c.tc : Thread nD τ).loc main_arg0)) (m ((c.tc : Thread nD τ).loc main_arg2))) slices_S1x4096x8x64_S1x4096x8x32_0_0_0_0) (broadcastInDim S1x4096x8x32 ![0, 1, 2, 3] bcast_S1x4096x1x32_S1x4096x8x32_0_1_2_3 (broadcastInDim S1x4096x1x32 ![1, 3] bcast_S4096x32_S1x4096x1x32_1_3 (Host.sin angles)))))⟩] concatenates_S1x4096x8x32_S1x4096x8x32_S1x4096x8x64_d3) shapeCasts_S1x4096x8x64_S4096x512) bitsLt_bf16_f32 := rfl

theorem qNormed_at (X : FVec Ideal S4096x512 .f32) (G : FVec Ideal S64 .f32) (s : Fin 4096) (h : Fin 8) (e : Fin 64) :
    qNormed X G (ix4 0 s h e) = normed (fun e => X (ix2 s (qcol h e))) (fun e => G (ix1 e)) e := by
  pointwise [qNormed, normed, meanSq, qcol]

theorem q_at (s : Fin 4096) (h : Fin 8) (e : Fin 64) : (res_main_v78 m c : FVec Ideal S4096x512 .bf16) (ix2 s (qcol h e))
    = spin (cosAt s) (sinAt s) (fun e => qNormed (m ((c.tc : Thread nD τ).loc main_arg0)) (m ((c.tc : Thread nD τ).loc main_arg2)) (ix4 0 s h e)) e := by
  rw [q_out]
  generalize qNormed (m ((c.tc : Thread nD τ).loc main_arg0)) (m ((c.tc : Thread nD τ).loc main_arg2)) = Y
  pointwise [spin, cosAt, sinAt, qcol]
  split
  · rfl
  · next k =>
    rw [show (⟨32 + (e.val - 32), by omega⟩ : Fin 64) = e from Fin.ext (by show 32 + (e.val - 32) = e.val; omega)]

/-- The result for the queries, at every row and column. -/
theorem q_turned : (res_main_v78 m c : FVec Ideal S4096x512 .bf16) = fun y => headTurn (W := 512) (by norm_num) cosAt sinAt (fun s j => (m ((c.tc : Thread nD τ).loc main_arg0) : FVec Ideal S4096x512 .f32) (ix2 s j))
    (fun e => (m ((c.tc : Thread nD τ).loc main_arg2) : FVec Ideal S64 .f32) (ix1 e)) (y 0) (y 1) := by
  funext y
  obtain ⟨s, j, rfl⟩ : ∃ (r : Fin 4096) (j : Fin 512), y = ix2 r j := ⟨y 0, y 1, (ix2_eta y).symm⟩
  obtain ⟨h, e, rfl⟩ := q_split j
  refine (q_at m c s h e).trans ?_
  show _ = headTurn _ _ _ _ _ s (qcol h e)
  unfold headTurn
  simp only [q_head, q_entry, qNormed_at]

/-- The keys through the norm. -/
def kNormed (X : FVec Ideal S4096x128 .f32) (G : FVec Ideal S64 .f32) : FVec Ideal S1x4096x2x64 .f32 :=
  mulf (mulf (shapeCast S1x4096x2x64 X shapeCasts_S4096x128_S1x4096x2x64) (broadcastInDim S1x4096x2x64 ![0, 1, 2, 3] bcast_S1x4096x2x1_S1x4096x2x64_0_1_2_3 (Host.rsqrt (addf (Host.divf (broadcastInDim S1x4096x2x1 ![0, 1, 2] bcast_S1x4096x2_S1x4096x2x1_0_1_2 (Host.reduceAdd (mulf (shapeCast S1x4096x2x64 X shapeCasts_S4096x128_S1x4096x2x64) (shapeCast S1x4096x2x64 X shapeCasts_S4096x128_S1x4096x2x64)) (constant S_ .f32 0x00000000#32) reducesTo_S1x4096x2x64_S1x4096x2_d3 h_S_)) (broadcastInDim S1x4096x2x1 ![] bcast_S_S1x4096x2x1 (constant S_ .f32 0x42800000#32))) (broadcastInDim S1x4096x2x1 ![] bcast_S_S1x4096x2x1 (constant S_ .f32 0x358637BD#32)))))) (broadcastInDim S1x4096x2x64 ![0, 1, 2, 3] bcast_S1x1x1x64_S1x4096x2x64_0_1_2_3 (broadcastInDim S1x1x1x64 ![3] bcast_S64_S1x1x1x64_3 G))

theorem k_out : (res_main_v80 m c : FVec Ideal S4096x128 .bf16) = truncf .bf16 (shapeCast _ (concatenate S1x4096x2x64 3 [⟨S1x4096x2x32, (subf (mulf (extractStridedSlice S1x4096x2x32 ![0, 0, 0, 0] (kNormed (m ((c.tc : Thread nD τ).loc main_arg1)) (m ((c.tc : Thread nD τ).loc main_arg3))) slices_S1x4096x2x64_S1x4096x2x32_0_0_0_0) (broadcastInDim S1x4096x2x32 ![0, 1, 2, 3] bcast_S1x4096x1x32_S1x4096x2x32_0_1_2_3 (broadcastInDim S1x4096x1x32 ![1, 3] bcast_S4096x32_S1x4096x1x32_1_3 (Host.cos angles)))) (mulf (extractStridedSlice S1x4096x2x32 ![0, 0, 0, 32] (kNormed (m ((c.tc : Thread nD τ).loc main_arg1)) (m ((c.tc : Thread nD τ).loc main_arg3))) slices_S1x4096x2x64_S1x4096x2x32_0_0_0_32) (broadcastInDim S1x4096x2x32 ![0, 1, 2, 3] bcast_S1x4096x1x32_S1x4096x2x32_0_1_2_3 (broadcastInDim S1x4096x1x32 ![1, 3] bcast_S4096x32_S1x4096x1x32_1_3 (Host.sin angles)))))⟩, ⟨S1x4096x2x32, (addf (mulf (extractStridedSlice S1x4096x2x32 ![0, 0, 0, 32] (kNormed (m ((c.tc : Thread nD τ).loc main_arg1)) (m ((c.tc : Thread nD τ).loc main_arg3))) slices_S1x4096x2x64_S1x4096x2x32_0_0_0_32) (broadcastInDim S1x4096x2x32 ![0, 1, 2, 3] bcast_S1x4096x1x32_S1x4096x2x32_0_1_2_3 (broadcastInDim S1x4096x1x32 ![1, 3] bcast_S4096x32_S1x4096x1x32_1_3 (Host.cos angles)))) (mulf (extractStridedSlice S1x4096x2x32 ![0, 0, 0, 0] (kNormed (m ((c.tc : Thread nD τ).loc main_arg1)) (m ((c.tc : Thread nD τ).loc main_arg3))) slices_S1x4096x2x64_S1x4096x2x32_0_0_0_0) (broadcastInDim S1x4096x2x32 ![0, 1, 2, 3] bcast_S1x4096x1x32_S1x4096x2x32_0_1_2_3 (broadcastInDim S1x4096x1x32 ![1, 3] bcast_S4096x32_S1x4096x1x32_1_3 (Host.sin angles)))))⟩] concatenates_S1x4096x2x32_S1x4096x2x32_S1x4096x2x64_d3) shapeCasts_S1x4096x2x64_S4096x128) bitsLt_bf16_f32 := rfl

theorem kNormed_at (X : FVec Ideal S4096x128 .f32) (G : FVec Ideal S64 .f32) (s : Fin 4096) (h : Fin 2) (e : Fin 64) :
    kNormed X G (ix4 0 s h e) = normed (fun e => X (ix2 s (kcol h e))) (fun e => G (ix1 e)) e := by
  pointwise [kNormed, normed, meanSq, kcol]

theorem k_at (s : Fin 4096) (h : Fin 2) (e : Fin 64) : (res_main_v80 m c : FVec Ideal S4096x128 .bf16) (ix2 s (kcol h e))
    = spin (cosAt s) (sinAt s) (fun e => kNormed (m ((c.tc : Thread nD τ).loc main_arg1)) (m ((c.tc : Thread nD τ).loc main_arg3)) (ix4 0 s h e)) e := by
  rw [k_out]
  generalize kNormed (m ((c.tc : Thread nD τ).loc main_arg1)) (m ((c.tc : Thread nD τ).loc main_arg3)) = Y
  pointwise [spin, cosAt, sinAt, kcol]
  split
  · rfl
  · next k =>
    rw [show (⟨32 + (e.val - 32), by omega⟩ : Fin 64) = e from Fin.ext (by show 32 + (e.val - 32) = e.val; omega)]

/-- The result for the keys, at every row and column. -/
theorem k_turned : (res_main_v80 m c : FVec Ideal S4096x128 .bf16) = fun y => headTurn (W := 128) (by norm_num) cosAt sinAt (fun s j => (m ((c.tc : Thread nD τ).loc main_arg1) : FVec Ideal S4096x128 .f32) (ix2 s j))
    (fun e => (m ((c.tc : Thread nD τ).loc main_arg3) : FVec Ideal S64 .f32) (ix1 e)) (y 0) (y 1) := by
  funext y
  obtain ⟨s, j, rfl⟩ : ∃ (r : Fin 4096) (j : Fin 128), y = ix2 r j := ⟨y 0, y 1, (ix2_eta y).symm⟩
  obtain ⟨h, e, rfl⟩ := k_split j
  refine (k_at m c s h e).trans ?_
  show _ = headTurn _ _ _ _ _ s (kcol h e)
  unfold headTurn
  simp only [k_head, k_entry, kNormed_at]

end Cert.TurnReferenceIdeal.Value

end
-- ==== Proof.TurnTile.lean ====
module

public import proofs.«01_k».proof.Proof.Gen.TurnKernelIdeal.Frame
public import Idealize.ShloMosaic.Lib.Pipeline.ValueKit
public import Idealize.ShloMosaic.Lib.Claim
public import proofs.«01_k».proof.Proof.PrepHead
public import proofs.«01_k».proof.Proof.TurnMath

/-!
One tile of two heads: what the kernel computes of its 512 rows of 128 lanes is, head by head, the norm and the rotation.
-/

@[expose] public section

set_option maxRecDepth 16384

noncomputable section

open Idealize.ShloMosaic Idealize.ShloMosaic.TcCoe Idealize.SL.Sem
open Idealize.ShloMosaic.Pipeline (Dat)
open scoped BigOperators

namespace Cert.TurnKernelIdeal.Fwd

open Cert.TurnKernelIdeal Cert.TurnKernelIdeal.Gen

open Cert.PrepMath (meanSq lane lane_split averaged headCol)
open Cert.TurnMath (spin normed headTurn)
open Cert.PrepKernelIdeal.Grad (Averages Tables col head_col head_entry rolled)

/-- The lanes of a head's first half. -/
def first : IVec S1x128 1 :=
  cmpi .slt (select (andi (xori k0_pay8 k0_pay9) k0_pay7) (addi k0_pay6 (broadcast S1x128 64#32)) k0_pay6) (broadcast S1x128 32#32)

theorem first_at : ∀ l : Fin 128, first (ix2 0 l) = if l.val % 64 < 32 then 1#1 else 0#1 := by decide +kernel

section Tile

variable (cs sn : Vec Ideal S512x128 .f32) (A : Vec Ideal S128x128 .bf16) (x : Vec Ideal S512x128 .bf16) (g : Vec Ideal S1x128 .f32)

/-- A tile through the norm and the rotation, of the blocks as they are read. -/
def tile : FVec Ideal S512x128 .bf16 := k0_pay10 (k0_pay2 sn) (k0_pay4 A x g) (k0_pay5 cs A x g) 64#32 k0_pay6 k0_pay7 k0_pay8 k0_pay9

theorem tile_eq : tile cs sn A x g = truncf .bf16 (addf (mulf (k0_pay4 A x g) (k0_pay1 cs))
    (mulf (select (broadcastTo S512x128 (shapeCast S1x128 first shapeCasts_S1x128_S1x128) broadcasts_S1x128_S512x128)
      (dynamicRotate 1 96#32 none (k0_pay4 A x g) rotates_S512x128_d1) (dynamicRotate 1 32#32 none (k0_pay4 A x g) rotates_S512x128_d1)) (k0_pay2 sn))) bitsLt_bf16_f32 := rfl

theorem tile_at (r : Fin 512) (l : Fin 128) : tile cs sn A x g (ix2 r l)
    = k0_pay4 A x g (ix2 r l) * cs (ix2 r l) + (if l.val % 64 < 32 then k0_pay4 A x g (ix2 r ⟨(l.val + 32) % 128, Nat.mod_lt _ (by norm_num)⟩)
        else k0_pay4 A x g (ix2 r ⟨(l.val + 96) % 128, Nat.mod_lt _ (by norm_num)⟩)) * sn (ix2 r l) := by
  have h := first_at l
  have h1 := rolled 96#32 (k0_pay4 A x g) r l ⟨(l.val + 32) % 128, Nat.mod_lt _ (by norm_num)⟩ (by show (l.val + 32) % 128 = (l.val + 128 - 96) % 128; omega)
  have h2 := rolled 32#32 (k0_pay4 A x g) r l ⟨(l.val + 96) % 128, Nat.mod_lt _ (by norm_num)⟩ (by show (l.val + 96) % 128 = (l.val + 128 - 32) % 128; omega)
  rw [tile_eq]
  generalize k0_pay4 A x g = Y at h1 h2 ⊢
  generalize dynamicRotate 1 96#32 none Y rotates_S512x128_d1 = R1 at h1 ⊢
  generalize dynamicRotate 1 32#32 none Y rotates_S512x128_d1 = R2 at h2 ⊢
  generalize first = M at h ⊢
  pointwise [k0_pay1, k0_pay2]
  congr 2
  rw [h, h1, h2]
  split
  · exact if_pos rfl
  · exact if_neg (by decide)

variable {cs sn A x g}

/-- A tile through the norm. -/
theorem normed_at (hA : Averages A) (r : Fin 512) (hX : ∀ l, ∃ a : ℝ, x (ix2 r l) = a) (b : Fin 2) (e : Fin 64) :
    k0_pay4 A x g (ix2 r (lane b e)) = normed (fun e => x (ix2 r (lane b e))) (fun e => g (ix2 0 (lane b e))) e := by
  have hq : ∀ l, ∃ a : ℝ, x (ix2 r l) * x (ix2 r l) = a := fun l => by
    obtain ⟨a, ha⟩ := hX l
    exact ⟨a * a, by rw [ha, EReal.coe_mul]⟩
  have h := averaged hq b (hA.column b e)
  pointwise [k0_pay4, k0_pay3]
  rw [h, normed, meanSq]

/-- The kernel's rotation is the rotation of every head. -/
theorem tile_spin {co si : Fin 512 → Fin 32 → EReal} (h : Tables co si cs sn) (r : Fin 512) (b : Fin 2) (e : Fin 64) :
    tile cs sn A x g (ix2 r (lane b e)) = spin (co r) (si r) (fun e => k0_pay4 A x g (ix2 r (lane b e))) e := by
  rw [tile_at, h.1, h.2]
  by_cases c : e.val < 32
  · have k : (⟨((lane b e).val + 32) % 128, Nat.mod_lt _ (by norm_num)⟩ : Fin 128) = lane b ⟨32 + e.val, by omega⟩ := Fin.ext (by simp only [lane]; omega)
    have e1 : (⟨e.val % 32, Nat.mod_lt _ (by norm_num)⟩ : Fin 32) = ⟨e.val, c⟩ := Fin.ext (Nat.mod_eq_of_lt c)
    rw [if_pos (by simp only [lane]; omega), k, if_pos c, spin, dif_pos c, e1, mul_neg, sub_eq_add_neg]
  · have k : (⟨((lane b e).val + 96) % 128, Nat.mod_lt _ (by norm_num)⟩ : Fin 128) = lane b ⟨e.val - 32, by omega⟩ := Fin.ext (by simp only [lane]; omega)
    have e1 : (⟨e.val % 32, Nat.mod_lt _ (by norm_num)⟩ : Fin 32) = ⟨e.val - 32, by omega⟩ := Fin.ext (by simp only []; omega)
    rw [if_neg (by simp only [lane]; omega), k, if_neg c, spin, dif_neg c, e1]

/-- A tile is the heads' result at the tile's columns. -/
theorem tile_turn {W : ℕ} (hW : W % 64 = 0) (o : ℕ) (ho : o % 64 = 0) (hoW : o + 128 ≤ W) {co si : Fin 4096 → Fin 32 → EReal} {xs : Fin 4096 → Fin W → EReal}
    {gs : Fin 64 → EReal} (rows : Fin 512 → Fin 4096) (hA : Averages A) (hT : Tables (fun r => co (rows r)) (fun r => si (rows r)) cs sn)
    (hx : ∀ r (l : Fin 128), x (ix2 r l) = xs (rows r) (col o hoW l)) (hg : ∀ b e, g (ix2 0 (lane b e)) = gs e) (rx : ∀ s j, ∃ a : ℝ, xs s j = a)
    (r : Fin 512) (l : Fin 128) : tile cs sn A x g (ix2 r l) = headTurn hW co si xs gs (rows r) (col o hoW l) := by
  obtain ⟨b, e, rfl⟩ := lane_split l
  rw [tile_spin hT, headTurn, head_entry o ho hoW]
  congr 1
  funext k
  rw [normed_at hA r (fun l => by rw [hx]; exact rx _ _)]
  congr 1
  · funext k; rw [hx, head_col hW o ho hoW]
  · funext k; rw [hg]

end Tile

end Cert.TurnKernelIdeal.Fwd

end
-- ==== Proof.TurnHost.lean ====
module

public import proofs.«01_k».proof.Proof.Gen.TurnKernelIdeal.Frame
public import Idealize.ShloMosaic.Lib.Pipeline.ValueKit
public import Idealize.ShloMosaic.Lib.Claim
public import Idealize.ShloMosaic.Lib.Pipeline.ReadBack
public import proofs.«01_k».proof.Proof.PrepHost
public import proofs.«01_k».proof.Proof.TurnTile

/-!
What the blocks hold that the kernel reads of its tables, its gains, its averaging matrix and the joined array.
-/

@[expose] public section

set_option maxRecDepth 16384

noncomputable section

open Idealize.ShloMosaic Idealize.ShloMosaic.TcCoe Idealize.SL.Sem
open Idealize.ShloMosaic.Pipeline (Dat)
open scoped BigOperators

namespace Cert.TurnKernelIdeal.Fwd

open Cert.TurnKernelIdeal Cert.TurnKernelIdeal.Gen

variable (m : (ℓ : Loc nD τ sig) → Buf (Elt Ideal) ℓ)

open Cert.PrepMath (lane lane_split)
open Cert.PrepReferenceIdeal.Value (angles cosAt sinAt)
open Cert.PrepKernelIdeal.Grad (Averages half_low half_high headOf headOf_at)

/-- Every window's block index at every grid point. -/
theorem idx : ∀ t : Fin cfg0.N, win0_0.index t = ![t.val, 3] ∧ win0_1.index t = ![t.val, 16] ∧ win0_2.index t = ![t.val, 0] ∧ win0_3.index t = ![t.val, 0]
    ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

theorem points (t : Fin cfg0.N) : t.val < 8 := lt_of_lt_of_eq t.isLt N_0

/-- The row of the arrays that row `r` of the blocks at point `t` is. -/
def row (t : Fin cfg0.N) (r : Fin 512) : Fin 4096 := ⟨512 * t.val + r.val, by have := points t; omega⟩

/-- The table of cosines. -/
theorem block_cos (c : Dev nD) (t : Fin cfg0.N) (r : Fin 512) (b : Fin 2) (e : Fin 64) :
    iblk m c 2 t (ix2 r (lane b e)) = cosAt (row t r) ⟨e.val % 32, Nat.mod_lt _ (by norm_num)⟩ := by
  have h : V m c main_v22 = (shapeCast S4096x128 (broadcastInDim S1x4096x2x64 ![0, 1, 2, 3] bcast_S1x4096x1x64_S1x4096x2x64_0_1_2_3
      (shapeCast S1x4096x1x64 (concatenate S4096x64 1 [⟨S4096x32, (Host.cos angles : FVec Ideal S4096x32 .f32)⟩, ⟨S4096x32, (Host.cos angles : FVec Ideal S4096x32 .f32)⟩] concatenates_S4096x32_S4096x32_S4096x64_d1)
        shapeCasts_S4096x64_S1x4096x1x64)) shapeCasts_S1x4096x2x64_S4096x128 : FVec Ideal S4096x128 .f32) := rfl
  refine Eq.trans (b := V m c main_v22 (ix2 (row t r) (lane b e))) ?_ ?_
  · blk_point [iblk, idx t, row]
  · rw [h]
    generalize row t r = s
    pointwise [lane, cosAt]
    by_cases k : e.val < 32
    · rw [dif_pos k, half_low k]
    · rw [dif_neg k, half_high k]

theorem block_sin (c : Dev nD) (t : Fin cfg0.N) (r : Fin 512) (b : Fin 2) (e : Fin 64) :
    iblk m c 3 t (ix2 r (lane b e)) = if e.val < 32 then -sinAt (row t r) ⟨e.val % 32, Nat.mod_lt _ (by norm_num)⟩ else sinAt (row t r) ⟨e.val % 32, Nat.mod_lt _ (by norm_num)⟩ := by
  have h : V m c main_v27 = (shapeCast S4096x128 (broadcastInDim S1x4096x2x64 ![0, 1, 2, 3] bcast_S1x4096x1x64_S1x4096x2x64_0_1_2_3
      (shapeCast S1x4096x1x64 (concatenate S4096x64 1 [⟨S4096x32, (Host.negf (Host.sin angles) : FVec Ideal S4096x32 .f32)⟩, ⟨S4096x32, (Host.sin angles : FVec Ideal S4096x32 .f32)⟩] concatenates_S4096x32_S4096x32_S4096x64_d1)
        shapeCasts_S4096x64_S1x4096x1x64)) shapeCasts_S1x4096x2x64_S4096x128 : FVec Ideal S4096x128 .f32) := rfl
  refine Eq.trans (b := V m c main_v27 (ix2 (row t r) (lane b e))) ?_ ?_
  · blk_point [iblk, idx t, row]
  · rw [h]
    generalize row t r = s
    pointwise [lane, sinAt]
    by_cases k : e.val < 32
    · rw [dif_pos k, if_pos k, half_low k]
    · rw [dif_neg k, if_neg k, half_high k]

/-- The gains, head by head. -/
theorem block_gq (c : Dev nD) (t : Fin cfg0.N) (b : Fin 2) (e : Fin 64) :
    iblk m c 4 t (ix2 0 (lane b e)) = m ((c : Thread nD τ).loc main_arg2) (ix1 e) := by
  have h : V m c main_v34 = (shapeCast S1x128 (broadcastInDim S1x1x2x64 ![0, 1, 2, 3] bcast_S1x1x1x64_S1x1x2x64_0_1_2_3
      (shapeCast S1x1x1x64 (shapeCast S1x64 (m ((c : Thread nD τ).loc main_arg2)) shapeCasts_S64_S1x64) shapeCasts_S1x64_S1x1x1x64)) shapeCasts_S1x1x2x64_S1x128 : FVec Ideal S1x128 .f32) := rfl
  refine Eq.trans (b := V m c main_v34 (ix2 0 (lane b e))) ?_ ?_
  · blk_point [iblk, idx t]
  · rw [h]
    pointwise [lane]

theorem block_gk (c : Dev nD) (t : Fin cfg0.N) (b : Fin 2) (e : Fin 64) :
    iblk m c 5 t (ix2 0 (lane b e)) = m ((c : Thread nD τ).loc main_arg3) (ix1 e) := by
  have h : V m c main_v38 = (shapeCast S1x128 (broadcastInDim S1x1x2x64 ![0, 1, 2, 3] bcast_S1x1x1x64_S1x1x2x64_0_1_2_3
      (shapeCast S1x1x1x64 (shapeCast S1x64 (m ((c : Thread nD τ).loc main_arg3)) shapeCasts_S64_S1x64) shapeCasts_S1x64_S1x1x1x64)) shapeCasts_S1x1x2x64_S1x128 : FVec Ideal S1x128 .f32) := rfl
  refine Eq.trans (b := V m c main_v38 (ix2 0 (lane b e))) ?_ ?_
  · blk_point [iblk, idx t]
  · rw [h]
    pointwise [lane]

/-- The averaging matrix. -/
theorem block_avg (c : Dev nD) (t : Fin cfg0.N) : Averages (iblk m c 6 t) := by
  intro k l
  have h : V m c main_v49 = (truncf .bf16 (mulf (uitofp .f32 (cmpi .eq (broadcastInDim S128x128 ![0, 1] bcast_S128x1_S128x128_0_1 (broadcastInDim S128x1 ![0] bcast_S128_S128x1_0 headOf))
    (broadcastInDim S128x128 ![0, 1] bcast_S1x128_S128x128_0_1 (broadcastInDim S1x128 ![1] bcast_S128_S1x128_1 headOf)))) (broadcastInDim S128x128 ![] bcast_S_S128x128 (constant S_ .f32 0x3C800000#32))) bitsLt_bf16_f32 : FVec Ideal S128x128 .bf16) := rfl
  refine Eq.trans (b := V m c main_v49 (ix2 k l)) ?_ ?_
  · blk_point [iblk, idx t]
  · rw [h]
    have h1 := headOf_at k
    have h2 := headOf_at l
    generalize headOf = H at h1 h2 ⊢
    pointwise []
    rw [h1, h2, Cert.PrepMath.share]
    by_cases e : k.val / 64 = l.val / 64
    · rw [if_pos e, e]
      have z : IntOp.cmpi CmpIPredicate.eq (BitVec.ofNat 32 (l.val / 64)) (BitVec.ofNat 32 (l.val / 64)) = 1#1 := by simp [IntOp.cmpi]
      rw [z]
      show (((1 : ℕ) : ℝ) : EReal) * _ = _
      rw [Nat.cast_one, EReal.coe_one, one_mul]
    · rw [if_neg e]
      have z : IntOp.cmpi CmpIPredicate.eq (BitVec.ofNat 32 (k.val / 64)) (BitVec.ofNat 32 (l.val / 64)) = 0#1 := by
        have n : BitVec.ofNat 32 (k.val / 64) ≠ BitVec.ofNat 32 (l.val / 64) := fun q => e (by
          have := congrArg BitVec.toNat q
          simp only [BitVec.toNat_ofNat] at this
          omega)
        show BitVec.ofBool (BitVec.ofNat 32 (k.val / 64) == BitVec.ofNat 32 (l.val / 64)) = 0#1
        rw [beq_eq_false_iff_ne.mpr n]; rfl
      rw [z]
      show (((0 : ℕ) : ℝ) : EReal) * _ = _
      rw [Nat.cast_zero, EReal.coe_zero, zero_mul]

/-- The columns that the kernel reads of the joined array. -/
theorem joined_eq (c : Dev nD) : V m c main_v30 = (truncf .bf16 (concatenate S4096x2176 1 [⟨S4096x1536, (broadcastInDim S4096x1536 ![] bcast_S_S4096x1536 (constant S_ .f32 0x00000000#32) : FVec Ideal S4096x1536 .f32)⟩, ⟨S4096x512, (m ((c : Thread nD τ).loc main_arg0) : FVec Ideal S4096x512 .f32)⟩, ⟨S4096x128, (m ((c : Thread nD τ).loc main_arg1) : FVec Ideal S4096x128 .f32)⟩] concatenates_S4096x1536_S4096x512_S4096x128_S4096x2176_d1) bitsLt_bf16_f32 : FVec Ideal S4096x2176 .bf16) := rfl

theorem block_q (c : Dev nD) (t : Fin cfg0.N) (r : Fin 512) (j : Fin 512) :
    X0_0 m c t (ix2 r j) = m ((c : Thread nD τ).loc main_arg0) (ix2 (row t r) j) := by
  refine Eq.trans (b := V m c main_v30 (ix2 (row t r) ⟨1536 + j.val, by omega⟩)) ?_ ?_
  · unfold X0_0 Pipeline.Window.fill
    rw [dif_pos (moved0_0 t _)]
    blk_point [iblk, idx t, row]
  · rw [joined_eq]
    pointwise []

theorem block_k (c : Dev nD) (t : Fin cfg0.N) (r : Fin 512) (j : Fin 128) :
    iblk m c 1 t (ix2 r j) = m ((c : Thread nD τ).loc main_arg1) (ix2 (row t r) j) := by
  refine Eq.trans (b := V m c main_v30 (ix2 (row t r) ⟨2048 + j.val, by omega⟩)) ?_ ?_
  · blk_point [iblk, idx t, row]
  · rw [joined_eq]
    pointwise []
    rw [dif_neg (by omega), dif_neg (by omega)]
    exact congrArg _ (congrArg (ix2 _) (Fin.ext (by show 2048 + j.val - 1536 - 512 = j.val; omega)))

end Cert.TurnKernelIdeal.Fwd

end
-- ==== Proof.Turn.lean ====
module

public import proofs.«01_k».proof.Proof.Gen.TurnKernelIdeal.Frame
public import Idealize.ShloMosaic.Lib.Pipeline.ValueKit
public import Idealize.ShloMosaic.Lib.Claim
public import Idealize.ShloMosaic.Lib.Pipeline.ReadBack
public import proofs.«01_k».proof.Defs
public import proofs.«01_k».proof.Proof.TurnRef
public import proofs.«01_k».proof.Proof.TurnHost
public import proofs.«01_k».proof.Proof.TurnTile
public import proofs.«01_k».proof.Proof.Ordinary

/-!
The windowed attention's queries and keys through the norm and the rotation: the kernel's results are the reference's where queries and keys are finite.
-/

@[expose] public section

set_option maxRecDepth 16384

noncomputable section

open Idealize.ShloMosaic Idealize.ShloMosaic.TcCoe Idealize.SL.Sem
open Idealize.ShloMosaic.Pipeline (Dat)
open scoped BigOperators

namespace Cert.TurnKernelIdeal.Fwd

open Cert.TurnKernelIdeal Cert.TurnKernelIdeal.Gen

variable (m : (ℓ : Loc nD τ sig) → Buf (Elt Ideal) ℓ) (c : Dev nD)

open Cert.PrepMath (lane lane_split headCol)
open Cert.TurnMath (headTurn)
open Cert.PrepReferenceIdeal.Value (angles cosAt sinAt)
open Cert.PrepKernelIdeal.Grad (Averages Tables col)

/-- The queries, the keys and the gains as functions of a row and a column. -/
def xq (s : Fin 4096) (j : Fin 512) : EReal := (m ((c : Thread nD τ).loc main_arg0) : FVec Ideal S4096x512 .f32) (ix2 s j)

def xk (s : Fin 4096) (j : Fin 128) : EReal := (m ((c : Thread nD τ).loc main_arg1) : FVec Ideal S4096x128 .f32) (ix2 s j)

def gq (e : Fin 64) : EReal := (m ((c : Thread nD τ).loc main_arg2) : FVec Ideal S64 .f32) (ix1 e)

def gk (e : Fin 64) : EReal := (m ((c : Thread nD τ).loc main_arg3) : FVec Ideal S64 .f32) (ix1 e)

/-- Queries and keys are numbers. -/
structure Finite : Prop where
  q : ∀ s j, ∃ a : ℝ, xq m c s j = a
  k : ∀ s j, ∃ a : ℝ, xk m c s j = a

theorem w512 : 512 % 64 = 0 := by norm_num

theorem w128 : 128 % 64 = 0 := by norm_num

/-- The results at a row and a column. -/
def outq : Fin 4096 → Fin 512 → EReal := headTurn w512 cosAt sinAt (xq m c) (gq m c)

def outk : Fin 4096 → Fin 128 → EReal := headTurn w128 cosAt sinAt (xk m c) (gk m c)

variable {m c}

/-- The tables' blocks. -/
theorem tables (t : Fin cfg0.N) : Tables (fun r => cosAt (row t r)) (fun r => sinAt (row t r)) (iblk m c 2 t) (iblk m c 3 t) :=
  ⟨fun r b e => block_cos m c t r b e, fun r b e => block_sin m c t r b e⟩

/-- The tile of the queries at column `o`. -/
theorem tile_q (o : ℕ) (hoW : o + 128 ≤ 512) (inb : ∀ a, (![0, o] : Fin 2 → ℕ) a + (![512, 128] : Fin 2 → ℕ) a ≤ S512x512.size a) (t : Fin cfg0.N) (r : Fin 512) (l : Fin 128) :
    View.ld (X0_0 m c t) (Rect.unit (s := S512x512) ![0, o] ![512, 128] inb) (ix2 r l) = xq m c (row t r) (col o hoW l) := by
  rw [xq, ← block_q m c t r]
  exact View.ld_unit_apply_of _ _ _ inb _ _ (by intro a; fin_cases a <;> simp [ix2, col])

/-- A tile of the queries' result, at an index of the block. -/
theorem tileAt_q (o : ℕ) (ho : o % 64 = 0) (hoW : o + 128 ≤ 512) (inb : ∀ a, (![0, o] : Fin 2 → ℕ) a + (![512, 128] : Fin 2 → ℕ) a ≤ S512x512.size a) (hf : Finite m c) (t : Fin cfg0.N) (r : Fin 512) (j : Fin 512) :
    View.TileAt (Val := Elt Ideal) (S := S512x512) (e := .bf16) (ix2 r j) ![0, o] ![512, 128]
      (tile (iblk m c 2 t) (iblk m c 3 t) (iblk m c 6 t) (View.ld (X0_0 m c t) (Rect.unit (s := S512x512) ![0, o] ![512, 128] inb)) (iblk m c 4 t)) (outq m c (row t r) j) := fun x hx => by
  have h0 : (r : ℕ) = 0 + (x 0 : ℕ) := hx 0
  have h1 : (j : ℕ) = o + (x 1 : ℕ) := hx 1
  obtain ⟨r', l, rfl⟩ : ∃ (r' : Fin 512) (l : Fin 128), x = ix2 r' l := ⟨x 0, x 1, (ix2_eta x).symm⟩
  have e0 : r' = r := Fin.ext (by simpa [ix2] using h0.symm)
  have e1 : j = col o hoW l := Fin.ext h1
  rw [e0, e1]
  exact tile_turn w512 o ho hoW (row t) (block_avg m c t) (tables t) (tile_q o hoW inb t) (block_gq m c t) hf.q r l

/-- The tile of the keys' result. -/
theorem tile_k (hf : Finite m c) (t : Fin cfg0.N) (r : Fin 512) (j : Fin 128) :
    tile (iblk m c 2 t) (iblk m c 3 t) (iblk m c 6 t) (iblk m c 1 t) (iblk m c 5 t) (ix2 r j) = outk m c (row t r) j := by
  refine (tile_turn (xs := xk m c) (gs := gk m c) w128 0 rfl le_rfl (row t) (block_avg m c t) (tables t) (fun r l => (block_k m c t r l).trans ?_) (block_gk m c t) hf.k r j).trans ?_
  · exact congrArg (xk m c _) (Fin.ext (by simp [col]))
  · exact congrArg (outk m c _) (Fin.ext (by simp [col]))

section Same

variable (cs sn : Vec Ideal S512x128 .f32) (A : Vec Ideal S128x128 .bf16) (x : Vec Ideal S512x128 .bf16) (g : Vec Ideal S1x128 .f32)

theorem tile_second : k0_pay14 (k0_pay2 sn) (k0_pay11 (k0_pay3 A) x g) (k0_pay12 (k0_pay1 cs) (k0_pay3 A) x g) 64#32 k0_pay13 0#32 = tile cs sn A x g := rfl

theorem tile_third : k0_pay17 (k0_pay2 sn) (k0_pay15 (k0_pay3 A) x g) (k0_pay16 (k0_pay1 cs) (k0_pay3 A) x g) = tile cs sn A x g := rfl

theorem tile_fourth : k0_pay24 (k0_pay1 cs) (k0_pay2 sn) (k0_pay18 x) (k0_pay19 g) (k0_pay22 (k0_pay3 A) x) (k0_pay23 (k0_pay3 A) x) = tile cs sn A x g := rfl

theorem tile_keys : k0_pay28 (k0_pay1 cs) (k0_pay2 sn) (k0_pay3 A) (k0_pay25 x) (k0_pay26 g) (k0_pay27 x) = tile cs sn A x g := rfl

end Same

set_option maxHeartbeats 2000000 in
/-- The queries' result after the run. -/
theorem final_7 (hf : Finite m c) : (dats m 0 c).arrAt 7 (cfgs 0).N = fun y => outq m c (y 0) (y 1) := by
  refine (dats m 0 c).arrAt_eq_of_covers 7 _ (by decide +kernel) fun t hfl y => ?_
  obtain ⟨r, j, rfl⟩ : ∃ (r : Fin 512) (j : Fin 512), y = ix2 r j := ⟨y 0, y 1, (ix2_eta y).symm⟩
  blk_simp
  rw [after0_7]
  have e : (((View.whole main_v50_0).slice (win0_7.rect t)).emb (ix2 r j)) = ix2 (row t r) j := by blk_ext [idx t, row]
  unfold outsAt0
  frame_out
  rw [e, tile_second, tile_third, tile_fourth]
  refine View.canon_eq_of_allAt _ _ _ (View.cover_of_tiled_head _ _ _ (by rfl) _) ?_
  exact View.allAt_cons_unit _ _ _ _ _ (tileAt_q 384 rfl (by norm_num) _ hf t r j) (View.allAt_cons_unit _ _ _ _ _ (tileAt_q 256 rfl (by norm_num) _ hf t r j)
    (View.allAt_cons_unit _ _ _ _ _ (tileAt_q 128 rfl (by norm_num) _ hf t r j) (View.allAt_cons_unit _ _ _ _ _ (tileAt_q 0 rfl (by norm_num) _ hf t r j) (View.allAt_nil _ _))))

set_option maxHeartbeats 2000000 in
/-- The keys' result after the run. -/
theorem final_8 (hf : Finite m c) : (dats m 0 c).arrAt 8 (cfgs 0).N = fun y => outk m c (y 0) (y 1) := by
  refine (dats m 0 c).arrAt_eq_of_covers 8 _ (by decide +kernel) fun t hfl y => ?_
  obtain ⟨r, j, rfl⟩ : ∃ (r : Fin 512) (j : Fin 128), y = ix2 r j := ⟨y 0, y 1, (ix2_eta y).symm⟩
  blk_simp
  rw [after0_8]
  have e : (((View.whole main_v50_1).slice (win0_8.rect t)).emb (ix2 r j)) = ix2 (row t r) j := by blk_ext [idx t, row]
  unfold outsAt0
  frame_out
  rw [e, tile_keys]
  exact tile_k hf t r j

section Pre

variable [Cert.Pre_turn_finite.Facts]

open Cert.Pre_turn_finite (S4096x640)
open Cert.Pre_turn_finite.Facts

variable (m c)

/-- The entries that the precondition is stated of, side by side. -/
def entries : FVec Ideal S4096x640 .f32 :=
  concatenate S4096x640 1 [⟨S4096x512, (m ((c : Thread nD τ).loc main_arg0) : FVec Ideal S4096x512 .f32)⟩, ⟨S4096x128, (m ((c : Thread nD τ).loc main_arg1) : FVec Ideal S4096x128 .f32)⟩]
    concatenates_S4096x512_S4096x128_S4096x640_d1

theorem entries_q (s : Fin 4096) (j : Fin 512) : entries m c (ix2 s ⟨j.val, by omega⟩) = xq m c s j := by
  pointwise [entries, xq]

theorem entries_k (s : Fin 4096) (j : Fin 128) : entries m c (ix2 s ⟨512 + j.val, by omega⟩) = xk m c s j := by
  pointwise [entries, xk]

/-- The precondition is that they are numbers. -/
theorem finite (hp : Cert.Pre_TurnKernelIdeal_turn_finite m) : Finite m c := by
  have key : ∀ i, ∃ a : ℝ, entries m c i = a := fun i => Cert.Ordinary.number bcast_S_S4096x640 (congrFun (hp c) i)
  exact ⟨fun s j => entries_q m c s j ▸ key _, fun s j => entries_k m c s j ▸ key _⟩

end Pre

set_option maxHeartbeats 1000000 in
/-- The kernel's results are the reference's. -/
theorem value [Cert.Pre_turn_finite.Facts] : Cert.algebraic_TurnKernelIdeal_TurnReferenceIdeal_pre_turn_finite := by
  intro m g m' g' hp hagree
  have hf := fun c => finite m c hp
  refine ⟨fun c => (dats m 0 c).arrAt 7 (cfgs 0).N, fun c => (dats m 0 c).arrAt 8 (cfgs 0).N, ?_, ?_⟩
  · refine θ_run_mono (Idealize.ShloMosaic.θ_run_and (Cert.TurnKernelIdeal.Gen.run_main m g) (Cert.TurnKernelIdeal.Gen.unchanged m g)) fun r h c => ?_
    exact ⟨(h.1 c).1 7, (h.1 c).1 8, h.2 c⟩
  · refine θ_run_mono (Cert.TurnReferenceIdeal.Value.run m' g') fun r h c => ?_
    obtain ⟨h0, h1, h2⟩ := h c
    obtain ⟨e0, e1, e2, e3⟩ := hagree c
    refine ⟨h0.trans ?_, h1.trans ?_, h2⟩
    · refine (Cert.TurnReferenceIdeal.Value.q_turned m' c).trans ?_
      rw [e0, e2]; exact (final_7 (hf c)).symm
    · refine (Cert.TurnReferenceIdeal.Value.k_turned m' c).trans ?_
      rw [e1, e3]; exact (final_8 (hf c)).symm

end Cert.TurnKernelIdeal.Fwd

end
-- ==== Proof.SbfIdealRun.lean ====
/-
  The stick-breaking forward call: the loop over older keys, and the body of one head run from its first load to its last
  store. The loop over older keys writes nothing; it carries the key, the running logarithm, the output so far and the largest
  running logarithm.
-/
module

public import proofs.«01_k».proof.Proof.Gen.SbfKernelIdeal.Loops
public import proofs.«01_k».proof.Proof.SbIdealWhile
public import Idealize.ShloMosaic.Lib.Pipeline.Kit
public import Idealize.ShloMosaic.Lib.Pipeline.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.SbfKernelIdeal.Fwd

open Cert.SbfKernelIdeal Cert.SbfKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.SbKernelIdeal.Grad (atTile key_down)

/-- The loop's function at the record it is called with. -/
abbrev turn (a : Cc0While1 F) : Prog (TpuEff nD τ sig (Elt F) (Λ₀ F) .tc) (BitVec 32 × FVec F S256x1 .f32 × FVec F S256x128 .f32 × F .f32) :=
  cc0_while1 a.i a.k0_t3 a.v76 a.arg2 a.harg2 a.v75 a.arg4 a.harg4 a.arg3 a.harg3 a.arg8 a.arg9 a.arg10 a.arg11

/-- The four values the loop carries. -/
abbrev Carried (F : FTy → Type) := BitVec 32 × FVec F S256x1 .f32 × FVec F S256x128 .f32 × F .f32

/-- The record with the carried values replaced. -/
abbrev moved (a : Cc0While1 F) (s : Carried F) : Cc0While1 F :=
  { a with arg8 := s.1, arg9 := s.2.1, arg10 := s.2.2.1, arg11 := s.2.2.2 }

/-- The loop's test: keys are left, and some row's running logarithm is above the threshold. -/
abbrev goes (a : Cc0While1 F) : BitVec 1 := Scalar.andi (Scalar.cmpi .sgt a.arg8 0#32) (Scalar.cmpf .ogt a.arg11 (Named.named κ "cutoff" 0xC2B00000#32))

abbrev In2 (a : Cc0While1 F) := BufTy.Contents (Elt F) a.arg2.view.ty
abbrev In3 (a : Cc0While1 F) := BufTy.Contents (Elt F) a.arg3.view.ty
abbrev In4 (a : Cc0While1 F) := BufTy.Contents (Elt F) a.arg4.view.ty

/-- What a turn holds: the keys, the values and the triangle. -/
abbrev held (c : Dev nD) (a : Cc0While1 F) (X2 : In2 a) (X3 : In3 a) (X4 : In4 a) : sProp 𝕄 :=
  iprop((a.arg2.view.loc (c : Thread nD τ) ↦[a.arg2.view.set]{fullShare} X2) ∗ (a.arg3.view.loc (c : Thread nD τ) ↦[a.arg3.view.set]{fullShare} X3)
    ∗ (a.arg4.view.loc (c : Thread nD τ) ↦[a.arg4.view.set]{fullShare} X4))

set_option maxHeartbeats 4000000 in
/-- One turn whose test holds, up to its own call: the carried values it calls with, found by the run. -/
@[irreducible] def trip (a : Cc0While1 F) (X2 : In2 a) (X3 : In3 a) (X4 : In4 a) (hg : goes a = 1#1) (hk : k0_chk1 a.arg8) :
    Σ' (k : BitVec 32) (u : FVec F S256x1 .f32) (w : FVec F S256x128 .f32),
      { x : F .f32 // ∀ (𝒱 : Variants) (c : Dev nD) (bd : Option 𝒱.V) (E : Set ℕ) (K),
          iprop(held c a X2 X3 X4
            ∗ (held c a X2 X3 X4
              -∗ wp frame (wpE (defs₀ (F := F)) 𝒱 (c : Thread nD τ) bd) E (.op (.call (1 : (Λ₀ F).Label) ⟨a.i, a.k0_t3, a.v76, a.arg2, a.harg2, a.v75, a.arg4, a.harg4, a.arg3, a.harg3, k, u, w, x⟩) .ret) K))
          ⊢ wp frame (wpE (defs₀ (F := F)) 𝒱 (c : Thread nD τ) bd) E (turn a) K } := by
  refine ⟨?_, ?_, ?_, ?_, fun 𝒱 c bd E K => ?run⟩
  case run =>
    unfold turn goes at *
    simp only [cc0_while1_eq_skeleton]; unfold cc0_while1_skel
    simp only [hg]
    iintro ⟨⟨H2, H3, H4⟩, Hk⟩
    sl_exec
    iapply Hk
    isplitl [H2]; · iexact H2
    isplitl [H3]; · iexact H3
    iexact H4

/-- The carried values after a turn. -/
abbrev next (a : Cc0While1 F) (X2 : In2 a) (X3 : In3 a) (X4 : In4 a) (hg : goes a = 1#1) (hk : k0_chk1 a.arg8) : Carried F :=
  ((trip a X2 X3 X4 hg hk).1, (trip a X2 X3 X4 hg hk).2.1, (trip a X2 X3 X4 hg hk).2.2.1, (trip a X2 X3 X4 hg hk).2.2.2.1)

theorem next_key (a : Cc0While1 F) (X2 : In2 a) (X3 : In3 a) (X4 : In4 a) (hg : goes a = 1#1) (hk : k0_chk1 a.arg8) :
    (next a X2 X3 X4 hg hk).1 = Scalar.maxsi (Scalar.subi a.arg8 256#32) 0#32 := by
  unfold next trip; rfl

/-- The rows a turn reads lie inside the buffers. -/
theorem key_chk : ∀ j, j ≤ 32 → k0_chk1 (BitVec.ofNat 32 (128 * j)) := Cert.SbKernelIdeal.Grad.key_chk

/-- At key 0 the loop ends. -/
theorem key_zero (a : Cc0While1 F) (h : a.arg8 = 0#32) : ¬goes a = 1#1 := by
  unfold goes; rw [h]
  intro hc
  have : Scalar.cmpi .sgt (0#32) 0#32 = (0#1 : BitVec 1) := by decide
  rw [this] at hc
  revert hc
  generalize Scalar.cmpf .ogt a.arg11 _ = z
  revert z; decide

/-- The variants: how many turns may still be taken. -/
abbrev turns : Variants := Variants.nat

/-- The loop's promise: it returns carried values of which `P` holds and at which the test fails. -/
def spec (c : Dev nD) (a : Cc0While1 F) (X2 : In2 a) (X3 : In3 a) (X4 : In4 a) (P : Carried F → Prop) : sWPT 𝕄 (Carried F) := do
  sWPT.consume (held c a X2 X3 X4)
  let r ← sWPT.arbitrary
  sWPT.produce iprop(held c a X2 X3 X4 ∗ ⌜P r ∧ ¬goes (moved a r) = 1#1⌝)
  pure r

theorem spec_apply (c : Dev nD) (a : Cc0While1 F) (X2 : In2 a) (X3 : In3 a) (X4 : In4 a) (P : Carried F → Prop)
    (K : Carried F → sProp 𝕄) :
    spec c a X2 X3 X4 P K = iprop(held c a X2 X3 X4 ∗ ∀ r : Carried F,
      ((held c a X2 X3 X4 ∗ ⌜P r ∧ ¬goes (moved a r) = 1#1⌝) -∗ K r)) := rfl

/-- A property every turn keeps. -/
def Kept (a : Cc0While1 F) (X2 : In2 a) (X3 : In3 a) (X4 : In4 a) (P : Carried F → Prop) : Prop :=
  ∀ (s : Carried F) (hg : goes (moved a s) = 1#1) (hk : k0_chk1 s.1), P s → P (next (moved a s) X2 X3 X4 hg hk)

/-- The loop's function meets its promise, with as many turns as there are pairs of tiles below the key. -/
theorem spec_le (E : Set ℕ) (c : Dev nD) (a : Cc0While1 F) (X2 : In2 a) (X3 : In3 a) (X4 : In4 a) (P : Carried F → Prop)
    (hP : Kept a X2 X3 X4 P) :
    ∀ n j (s : Carried F), atTile j s.1 → j ≤ 2 * n → P s → ∀ K, spec c a X2 X3 X4 P K
      ⊢ wp frame (wpE (defs₀ (F := F)) turns (c : Thread nD τ) (some n)) E (defs₀ (F := F) .tc 1 (moved a s)) K := by
  intro n
  have hstop : ∀ (n : ℕ) (s : Carried F), ¬goes (moved a s) = 1#1 → P s → ∀ K, spec c a X2 X3 X4 P K
      ⊢ wp frame (wpE (defs₀ (F := F)) turns (c : Thread nD τ) (some n)) E (turn (moved a s)) K := by
    intro n s hg hs K
    rw [spec_apply]
    have hg' := hg
    unfold turn goes at *
    simp only [cc0_while1_eq_skeleton]; unfold cc0_while1_skel
    simp only [hg', ↓reduceIte, Prog.pure_eq_ret]
    iintro ⟨H, Hk⟩
    rw [wp_ret]; imodintro
    iapply Hk
    isplitl [H]; · iexact H
    ipureintro; exact ⟨hs, hg⟩
  induction n with
  | zero =>
    intro j s hj hn hs K
    obtain rfl : j = 0 := by omega
    exact hstop 0 s (key_zero _ hj.2) hs K
  | succ n ih =>
    intro j s hj hn hs K
    have hcall : ∀ (s' : Carried F), atTile (j - 2) s'.1 → P s' → iprop(held c a X2 X3 X4 ∗ ∀ r : Carried F,
        ((held c a X2 X3 X4 ∗ ⌜P r ∧ ¬goes (moved a r) = 1#1⌝) -∗ K r))
        ⊢ wp frame (wpE (defs₀ (F := F)) turns (c : Thread nD τ) (some (n + 1))) E (.op (.call (1 : (Λ₀ F).Label) (moved a s')) .ret) K := by
      intro s' hs' hP'
      iintro ⟨H, Hk⟩
      iapply (wp_call_spec turns (c : Thread nD τ) (some (n + 1)) E (spec c a X2 X3 X4 P) n
        (fun u hu => by cases hu; exact Nat.lt_succ_self n) (ih (j - 2) s' hs' (by omega) hP'))
      rw [spec_apply]
      isplitl [H]; · iexact H
      iintro %r H
      rw [wp_ret]; imodintro
      iapply Hk
      iexact H
    by_cases hg : goes (moved a s) = 1#1
    · have hk : k0_chk1 s.1 := by rw [hj.2]; exact key_chk j hj.1
      rw [spec_apply]
      have hnext : atTile (j - 2) (next (moved a s) X2 X3 X4 hg hk).1 := by
        refine ⟨by have := hj.1; omega, ?_⟩
        rw [next_key]; show Scalar.maxsi (Scalar.subi s.1 256#32) 0#32 = _
        rw [hj.2]; exact key_down j hj.1
      have hc := hcall (next (moved a s) X2 X3 X4 hg hk) hnext (hP s hg hk hs)
      refine BIBase.Entails.trans ?_ ((trip (moved a s) X2 X3 X4 hg hk).2.2.2.2 turns c (some (n + 1)) E K)
      iintro ⟨H, Hk⟩
      isplitl [H]; · iexact H
      iintro H
      iapply hc
      isplitl [H]; · iexact H
      iexact Hk
    · exact hstop (n + 1) s hg hs K

/-- The loop called from outside it, at a record that is `a` with the carried values `s`. -/
theorem call_loop (E : Set ℕ) (c : Dev nD) (a : Cc0While1 F) (X2 : In2 a) (X3 : In3 a) (X4 : In4 a) (P : Carried F → Prop)
    (hP : Kept a X2 X3 X4 P) (j : ℕ) (s : Carried F) (hj : atTile j s.1) (h0 : P s)
    (b : Cc0While1 F) (hb : b = moved a s)
    {α : Type} (kont : Carried F → Prog (TpuEff nD τ sig (Elt F) (Λ₀ F) .tc) α) (Q : α → sProp 𝕄) :
    iprop(held c a X2 X3 X4 ∗ ∀ r : Carried F, ((held c a X2 X3 X4 ∗ ⌜P r ∧ ¬goes (moved a r) = 1#1⌝)
          -∗ wp frame (wpE (defs₀ (F := F)) turns (c : Thread nD τ) none) E (kont r) Q))
      ⊢ wp frame (wpE (defs₀ (F := F)) turns (c : Thread nD τ) none) E (.op (.call (1 : (Λ₀ F).Label) b) kont) Q := by
  subst hb
  iintro ⟨H, Hk⟩
  iapply (wp_call_spec turns (c : Thread nD τ) none E (spec c a X2 X3 X4 P) 16
    (fun u hu => by cases hu) (spec_le E c a X2 X3 X4 P hP 16 j s hj (by have := hj.1; omega) h0))
  rw [spec_apply]
  isplitl [H]; · iexact H
  iexact Hk

section Last

variable (i : grid0.Coords) (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S256x128 .bf16) (harg4 : arg4.IsWhole)
  (arg5 : Memref sig .tc .vmem S4096x128 .f32) (harg5 : arg5.IsWhole) (arg6 : Memref sig .tc .vmem S8192x128 .f32) (harg6 : arg6.IsWhole)
  (X1 : BufTy.Contents (Elt F) arg1.view.ty) (X2 : BufTy.Contents (Elt F) arg2.view.ty) (X3 : BufTy.Contents (Elt F) arg3.view.ty)
  (X4 : BufTy.Contents (Elt F) arg4.view.ty) (X6 : BufTy.Contents (Elt F) arg6.view.ty)

/-- The body of the last loop, trip `k`. -/
abbrev body3 (k : Fin k0_t3_loop.trips) : Prog (TpuEff nD τ sig (Elt F) (Λ₀ F) .tc) PUnit :=
  k0_t3_body (F := F) i arg1 harg1 arg2 harg2 arg3 harg3 arg4 harg4 arg5 harg5 arg6 harg6 k PUnit.unit

/-- What trip `k` calls the loop over older keys with. -/
abbrev rec3 (k : Fin k0_t3_loop.trips) (p : IVec S256x256 32) (q : FVec F S256x128 .bf16) (s : Carried F) : Cc0While1 F :=
  ⟨i, k, p, arg2, harg2, q, arg4, harg4, arg3, harg3, s.1, s.2.1, s.2.2.1, s.2.2.2⟩

/-- The call of the loop over older keys, from a trip of the last loop. -/
theorem call3 (c : Dev nD) (E : Set ℕ) (P : Carried F → Prop)
    {k : Fin k0_t3_loop.trips} {p : IVec S256x256 32} {q : FVec F S256x128 .bf16}
    {n : BitVec 32} {u : FVec F S256x1 .f32} {w : FVec F S256x128 .f32} {x : F .f32}
    (hP : Kept (rec3 i arg2 harg2 arg3 harg3 arg4 harg4 k p q (n, u, w, x)) X2 X3 X4 P)
    {j : ℕ} (hj : atTile j n) (h0 : P (n, u, w, x))
    {α : Type} {kont : Carried F → Prog (TpuEff nD τ sig (Elt F) (Λ₀ F) .tc) α} {Q : α → sProp 𝕄} :
    iprop(((arg2.view.loc (c : Thread nD τ) ↦[arg2.view.set]{fullShare} X2) ∗ (arg3.view.loc (c : Thread nD τ) ↦[arg3.view.set]{fullShare} X3)
        ∗ (arg4.view.loc (c : Thread nD τ) ↦[arg4.view.set]{fullShare} X4))
      ∗ ∀ r : Carried F, ((((arg2.view.loc (c : Thread nD τ) ↦[arg2.view.set]{fullShare} X2) ∗ (arg3.view.loc (c : Thread nD τ) ↦[arg3.view.set]{fullShare} X3)
        ∗ (arg4.view.loc (c : Thread nD τ) ↦[arg4.view.set]{fullShare} X4))
        ∗ ⌜P r ∧ ¬goes (rec3 i arg2 harg2 arg3 harg3 arg4 harg4 k p q r) = 1#1⌝)
          -∗ wp frame (wpE (defs₀ (F := F)) turns (c : Thread nD τ) none) E (kont r) Q))
      ⊢ wp frame (wpE (defs₀ (F := F)) turns (c : Thread nD τ) none) E
          (.op (.call (1 : (Λ₀ F).Label) ⟨i, k, p, arg2, harg2, q, arg4, harg4, arg3, harg3, n, u, w, x⟩) kont) Q :=
  call_loop E c (rec3 i arg2 harg2 arg3 harg3 arg4 harg4 k p q (n, u, w, x)) X2 X3 X4 P hP j (n, u, w, x) hj h0 _ rfl kont Q

set_option maxHeartbeats 4000000 in
/-- One trip of the last loop, for any property the loop over older keys keeps: what it calls that loop with and the piece it
    stores, found by the run. -/
@[irreducible] def trip3 (k : Fin k0_t3_loop.trips) :
    Σ' (p : IVec S256x256 32) (q : FVec F S256x128 .bf16) (n : BitVec 32) (u : FVec F S256x1 .f32) (w : FVec F S256x128 .f32) (x : F .f32),
      { L5 : FVec F S256x128 .f32 → BufTy.Contents (Elt F) arg5.view.ty → List (View.Piece (Elt F) S4096x128 .f32) //
        ∀ (c : Dev nD) (E : Set ℕ) (P : Carried F → Prop) (f5 : BufTy.Contents (Elt F) arg5.view.ty),
          Kept (rec3 i arg2 harg2 arg3 harg3 arg4 harg4 k p q (n, u, w, x)) X2 X3 X4 P →
          (∃ j, atTile j n) → P (n, u, w, x) →
          Trip_k0_t1 (F := F) c arg1 arg2 arg3 arg4 arg5 arg6 X1 X2 X3 X4 f5 X6
          ⊢ wp frame (wpE (defs₀ (F := F)) turns (c : Thread nD τ) none) E (body3 i arg1 harg1 arg2 harg2 arg3 harg3 arg4 harg4 arg5 harg5 arg6 harg6 k)
              (fun _ => iprop(∃ r1 r2 r3 r4, Trip_k0_t1 (F := F) c arg1 arg2 arg3 arg4 arg5 arg6 X1 X2 X3 X4 (arg5.view.writes (Elt F) f5 (L5 r3 f5)) X6
                ∗ ⌜P (r1, r2, r3, r4) ∧ ¬goes (rec3 i arg2 harg2 arg3 harg3 arg4 harg4 k p q (r1, r2, r3, r4)) = 1#1⌝)) } := by
  have hk : k.val < 32 := Nat.lt_of_lt_of_le k.isLt k0_t3_abs.2.1
  refine ⟨?_, ?_, ?_, ?_, ?_, ?_, ?_, fun c E P f5 hP hn h0 => ?run⟩
  case run =>
    unfold body3 k0_t3_body
    iintro ⟨H1, H2, H3, H4, H5, H6⟩
    sl_exec
    obtain ⟨j, hj⟩ := hn
    iapply (call3 i arg2 harg2 arg3 harg3 arg4 harg4 X2 X3 X4 c E P hP hj h0)
    isplitl [H2 H3 H4]
    · isplitl [H2]; · iexact H2
      isplitl [H3]; · iexact H3
      iexact H4
    iintro %r ⟨⟨H2, H3, H4⟩, %hr⟩
    obtain ⟨r1, r2, r3, r4⟩ := r
    sl_exec
    rw [wp_ret]; imodintro
    iexists r1, r2, r3, r4
    isplitl [H1 H2 H3 H4 H5 H6]
    · isplitl [H1]; · iexact H1
      isplitl [H2]; · iexact H2
      isplitl [H3]; · iexact H3
      isplitl [H4]; · iexact H4
      isplitl [H5]; · iexact H5
      iexact H6
    ipureintro; exact hr

/-- A property of the output and of the running logarithms that every trip of the first loop keeps. -/
def Kept1 (c : Dev nD) (J : ℕ → BufTy.Contents (Elt F) arg5.view.ty → BufTy.Contents (Elt F) arg6.view.ty → Prop) : Prop :=
  ∀ (k : Fin k0_t1_loop.trips) f5 f6, J k.val f5 f6 →
    let T := trip_k0_t1 (F := F) turns c none i arg1 harg1 arg2 harg2 arg3 harg3 arg4 harg4 arg5 harg5 arg6 harg6 X1 X2 X3 X4 k
    J (k.val + 1) (arg5.view.writes (Elt F) f5 T.1) (arg6.view.writes (Elt F) f6 T.2.1)

/-- The same of the second loop. -/
def Kept2 (c : Dev nD) (J : ℕ → BufTy.Contents (Elt F) arg5.view.ty → BufTy.Contents (Elt F) arg6.view.ty → Prop) : Prop :=
  ∀ (k : Fin k0_t2_loop.trips) f5 f6, J k.val f5 f6 →
    let T := trip_k0_t2 (F := F) turns c none i arg1 harg1 arg2 harg2 arg3 harg3 arg4 harg4 arg5 harg5 arg6 harg6 X1 X2 X3 X4 k
    J (k.val + 1) (arg5.view.writes (Elt F) f5 T.1) (arg6.view.writes (Elt F) f6 T.2.1)

set_option warn.classDefReducibility false in
/-- The first loop by such a property. -/
def loop1 (c : Dev nD) (E : Set ℕ) (J) (hJ : Kept1 i arg1 harg1 arg2 harg2 arg3 harg3 arg4 harg4 arg5 harg5 arg6 harg6 X1 X2 X3 X4 c J) :
    LoopInv (M := MT nD τ sig Unit (Elt F) ℕ (UR sig nD τ) ℕ) Idealize.ShloMosaic.frame (wpE (defs₀ (F := F)) turns (c : Thread nD τ) none) E
      k0_t1_loop.lb k0_t1_loop.ub k0_t1_loop.st k0_t1_ok () (k0_t1_body (F := F) i arg1 harg1 arg2 harg2 arg3 harg3 arg4 harg4 arg5 harg5 arg6 harg6) where
  inv n _ := iprop(∃ f5 f6, Trip_k0_t1 (F := F) c arg1 arg2 arg3 arg4 arg5 arg6 X1 X2 X3 X4 f5 f6 ∗ ⌜J n f5 f6⌝)
  step k acc := by
    iintro ⟨%f5, %f6, H, %h⟩
    iapply (wp_wand_r Idealize.ShloMosaic.frame (wpE (defs₀ (F := F)) turns (c : Thread nD τ) none) E)
    isplitl [H]
    · iapply ((trip_k0_t1 (F := F) turns c none i arg1 harg1 arg2 harg2 arg3 harg3 arg4 harg4 arg5 harg5 arg6 harg6 X1 X2 X3 X4 k).2.2 E f5 f6)
      iexact H
    · iintro %_ H
      iexists _, _
      isplitl [H]; · iexact H
      ipureintro; exact hJ k f5 f6 h

set_option warn.classDefReducibility false in
/-- The second loop by such a property. -/
def loop2 (c : Dev nD) (E : Set ℕ) (J) (hJ : Kept2 i arg1 harg1 arg2 harg2 arg3 harg3 arg4 harg4 arg5 harg5 arg6 harg6 X1 X2 X3 X4 c J) :
    LoopInv (M := MT nD τ sig Unit (Elt F) ℕ (UR sig nD τ) ℕ) Idealize.ShloMosaic.frame (wpE (defs₀ (F := F)) turns (c : Thread nD τ) none) E
      k0_t2_loop.lb k0_t2_loop.ub k0_t2_loop.st k0_t2_ok () (k0_t2_body (F := F) i arg1 harg1 arg2 harg2 arg3 harg3 arg4 harg4 arg5 harg5 arg6 harg6) where
  inv n _ := iprop(∃ f5 f6, Trip_k0_t1 (F := F) c arg1 arg2 arg3 arg4 arg5 arg6 X1 X2 X3 X4 f5 f6 ∗ ⌜J n f5 f6⌝)
  step k acc := by
    iintro ⟨%f5, %f6, H, %h⟩
    iapply (wp_wand_r Idealize.ShloMosaic.frame (wpE (defs₀ (F := F)) turns (c : Thread nD τ) none) E)
    isplitl [H]
    · iapply ((trip_k0_t2 (F := F) turns c none i arg1 harg1 arg2 harg2 arg3 harg3 arg4 harg4 arg5 harg5 arg6 harg6 X1 X2 X3 X4 k).2.2 E f5 f6)
      iexact H
    · iintro %_ H
      iexists _, _
      isplitl [H]; · iexact H
      ipureintro; exact hJ k f5 f6 h

/-- A property that every trip of the last loop keeps. -/
def Kept3 (J : ℕ → BufTy.Contents (Elt F) arg5.view.ty → BufTy.Contents (Elt F) arg6.view.ty → Prop) : Prop :=
  ∀ (k : Fin k0_t3_loop.trips) f5 (X6 : BufTy.Contents (Elt F) arg6.view.ty), J k.val f5 X6 →
    ∃ P : Carried F → Prop,
      let T := trip3 i arg1 harg1 arg2 harg2 arg3 harg3 arg4 harg4 arg5 harg5 arg6 harg6 X1 X2 X3 X4 X6 k
      Kept (rec3 i arg2 harg2 arg3 harg3 arg4 harg4 k T.1 T.2.1 (T.2.2.1, T.2.2.2.1, T.2.2.2.2.1, T.2.2.2.2.2.1)) X2 X3 X4 P
      ∧ P (T.2.2.1, T.2.2.2.1, T.2.2.2.2.1, T.2.2.2.2.2.1)
      ∧ ∀ r1 r2 r3 r4, P (r1, r2, r3, r4) →
        ¬goes (rec3 i arg2 harg2 arg3 harg3 arg4 harg4 k T.1 T.2.1 (r1, r2, r3, r4)) = 1#1 →
          J (k.val + 1) (arg5.view.writes (Elt F) f5 (T.2.2.2.2.2.2.1 r3 f5)) X6

theorem key3_all : ∀ k : Fin k0_t3_loop.trips, atTile (k.val - 2) (trip3.sl.v79 k) := by
  unfold trip3.sl.v79 atTile; decide

/-- The keys below which trip `k` starts to look: none before the fourth tile, then tile `k - 2`. -/
theorem key3 (k : Fin k0_t3_loop.trips) : atTile (k.val - 2) (trip3 i arg1 harg1 arg2 harg2 arg3 harg3 arg4 harg4 arg5 harg5 arg6 harg6 X1 X2 X3 X4 X6 k).2.2.1 := by
  unfold trip3
  exact key3_all k

set_option warn.classDefReducibility false in
/-- The last loop by such a property. -/
def loop3 (c : Dev nD) (E : Set ℕ) (J) (hJ : Kept3 i arg1 harg1 arg2 harg2 arg3 harg3 arg4 harg4 arg5 harg5 arg6 harg6 X1 X2 X3 X4 J) :
    LoopInvTy_k0_t3 (F := F) Unit ℕ (UR sig nD τ) ℕ turns c none E i arg1 harg1 arg2 harg2 arg3 harg3 arg4 harg4 arg5 harg5 arg6 harg6 where
  inv n _ := iprop(∃ f5 f6, Trip_k0_t1 (F := F) c arg1 arg2 arg3 arg4 arg5 arg6 X1 X2 X3 X4 f5 f6 ∗ ⌜J n f5 f6⌝)
  step k acc := by
    iintro ⟨%f5, %X6, H, %h⟩
    obtain ⟨P, hP, h0, hend⟩ := hJ k f5 X6 h
    iapply (wp_wand_r Idealize.ShloMosaic.frame (wpE (defs₀ (F := F)) turns (c : Thread nD τ) none) E)
    isplitl [H]
    · iapply ((trip3 i arg1 harg1 arg2 harg2 arg3 harg3 arg4 harg4 arg5 harg5 arg6 harg6 X1 X2 X3 X4 X6 k).2.2.2.2.2.2.2 c E P f5 hP ⟨_, key3 i arg1 harg1 arg2 harg2 arg3 harg3 arg4 harg4 arg5 harg5 arg6 harg6 X1 X2 X3 X4 X6 k⟩ h0)
      iexact H
    · iintro %_ ⟨%r1, %r2, %r3, %r4, H, %hr⟩
      iexists _, X6
      isplitl [H]; · iexact H
      ipureintro; exact hend r1 r2 r3 r4 hr.1 hr.2

/-- The whole body: the three loops in their order, for a property each of them keeps. -/
theorem body_run (c : Dev nD) (E : Set ℕ)
    (J : ℕ → BufTy.Contents (Elt F) arg5.view.ty → BufTy.Contents (Elt F) arg6.view.ty → Prop)
    (hJ1 : Kept1 i arg1 harg1 arg2 harg2 arg3 harg3 arg4 harg4 arg5 harg5 arg6 harg6 X1 X2 X3 X4 c J)
    (hJ2 : Kept2 i arg1 harg1 arg2 harg2 arg3 harg3 arg4 harg4 arg5 harg5 arg6 harg6 X1 X2 X3 X4 c (fun n => J (Scf.trips k0_t1_loop.lb k0_t1_loop.ub k0_t1_loop.st + n)))
    (hJ3 : Kept3 i arg1 harg1 arg2 harg2 arg3 harg3 arg4 harg4 arg5 harg5 arg6 harg6 X1 X2 X3 X4 (fun n => J (Scf.trips k0_t1_loop.lb k0_t1_loop.ub k0_t1_loop.st + Scf.trips k0_t2_loop.lb k0_t2_loop.ub k0_t2_loop.st + n)))
    (G5 : BufTy.Contents (Elt F) arg5.view.ty) (G6 : BufTy.Contents (Elt F) arg6.view.ty) (h0 : J 0 G5 G6) :
    Trip_k0_t1 (F := F) c arg1 arg2 arg3 arg4 arg5 arg6 X1 X2 X3 X4 G5 G6
    ⊢ wp frame (wpE (defs₀ (F := F)) turns (c : Thread nD τ) none) E (cc0_sb_fwd i arg1 harg1 arg2 harg2 arg3 harg3 arg4 harg4 arg5 harg5 arg6 harg6)
      (fun _ => iprop(∃ g5 g6, Trip_k0_t1 (F := F) c arg1 arg2 arg3 arg4 arg5 arg6 X1 X2 X3 X4 g5 g6
        ∗ ⌜J (Scf.trips k0_t1_loop.lb k0_t1_loop.ub k0_t1_loop.st + Scf.trips k0_t2_loop.lb k0_t2_loop.ub k0_t2_loop.st
            + Scf.trips k0_t3_loop.lb k0_t3_loop.ub k0_t3_loop.st) g5 g6⌝)) := by
  simp only [cc0_sb_fwd_eq_skeleton]; unfold cc0_sb_fwd_skel
  iintro ⟨H1, H2, H3, H4, H5, H6⟩
  let L1 := loop1 i arg1 harg1 arg2 harg2 arg3 harg3 arg4 harg4 arg5 harg5 arg6 harg6 X1 X2 X3 X4 c E _ hJ1
  let L2 := loop2 i arg1 harg1 arg2 harg2 arg3 harg3 arg4 harg4 arg5 harg5 arg6 harg6 X1 X2 X3 X4 c E _ hJ2
  let L3 := loop3 i arg1 harg1 arg2 harg2 arg3 harg3 arg4 harg4 arg5 harg5 arg6 harg6 X1 X2 X3 X4 c E _ hJ3
  sl_exec
  rw [wp_ret]; imodintro
  iexists _, _
  isplitl [H1 H2 H3 H4 H5 H6]
  · isplitl [H1]; · iexact H1
    isplitl [H2]; · iexact H2
    isplitl [H3]; · iexact H3
    isplitl [H4]; · iexact H4
    isplitl [H5]; · iexact H5
    iexact H6
  ipureintro; assumption

end Last

end Cert.SbfKernelIdeal.Fwd

end
-- ==== Proof.SbfIdealFrame.lean ====
/-
  The stick-breaking forward call: the run of the whole launch, and its frame.
-/
module

public import proofs.«01_k».proof.Proof.SbfIdealRun
public import proofs.«01_k».proof.Proof.Gen.SbfKernelIdeal.Launch
public import proofs.«01_k».proof.Proof.Gen.SbfKernelIdeal.Points
public import Idealize.ShloMosaic.Lib.Pipeline.Kit
public import Idealize.ShloMosaic.Lib.Pipeline.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.SbfKernelIdeal.Fwd

open Cert.SbfKernelIdeal Cert.SbfKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the host operations. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

set_option maxHeartbeats 800000 in
/-- The program up to the region. -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main [hostOps0] (by simp only [List.Forall]; exact hostOps0_sub)
    (by simp only [List.Forall]; exact hostOps0_fresh) main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.nary_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.nary_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.nary_writes, Finset.mem_singleton]
    repeat' apply And.intro
    all_goals exact StableHlo.devRef_ne_of_ne (by decide)))

/-- Window `w`'s block at point `t`, read off its array as the region finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The output's staging buffer, through which its contents are stated. -/
abbrev VO0_4 : View sig .tc .vmem S4096x128 .f32 := (Memref.whole cc0_stg4_0 : Memref sig .tc .vmem S4096x128 .f32).view
/-- Each window's current staging memref at point `t`, and its wholeness. -/
abbrev ms0_0 (t : Fin (cfg0 (F := F)).N) : Memref sig .tc .vmem S4096x128 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S4096x128 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S4096x128 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S256x128 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S4096x128 .f32 := win0_4.stage ((cfg0 (F := F)).slots t 4)
abbrev hs0_4 (t : Fin (cfg0 (F := F)).N) : (ms0_4 t).IsWhole := hstage0_4 (((cfg0 (F := F)).slots t 4).cast nbuf0_4)
/-- The running logarithms' buffer. -/
abbrev scM0_0 : Memref sig .tc .vmem S8192x128 .f32 := Memref.whole cc0_scratch0

/-- The scratch buffer owned at some contents. -/
theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- The output's window: what the frame says nothing of. -/
abbrev outWin (w : Fin (cfg0 (F := F)).W) : Bool := decide (4 ≤ w.val)

/-- The proof data of the pipeline: the arrays as the region finds them, each input left at its block, the output at `o`. -/
def dats (o : (c : Dev nD) → (t : Fin (cfg0 (F := F)).N) → Vec F S4096x128 .f32) (_ : Fin 1) (c : Dev nD) :
    Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => o c t
  Φ _ := Pipeline.ΦA spec0 c
  q w := Pipeline.shareOf spec0 w
  owed _ := 0

section Data

variable (o : (c : Dev nD) → (t : Fin (cfg0 (F := F)).N) → Vec F S4096x128 .f32)

theorem A_eq (c : Dev nD) (w : Fin (cfg0 (F := F)).W) : (dats m o 0 c).A w = V m c (Pipeline.arrRef spec0 w) := by
  dsimp only [dats]

theorem after0_0 (c : Dev nD) (t : Fin (cfg0 (F := F)).N) : (dats m o 0 c).after 0 t = iblk m c 0 t := rfl
theorem after0_1 (c : Dev nD) (t : Fin (cfg0 (F := F)).N) : (dats m o 0 c).after 1 t = iblk m c 1 t := rfl
theorem after0_2 (c : Dev nD) (t : Fin (cfg0 (F := F)).N) : (dats m o 0 c).after 2 t = iblk m c 2 t := rfl
theorem after0_3 (c : Dev nD) (t : Fin (cfg0 (F := F)).N) : (dats m o 0 c).after 3 t = iblk m c 3 t := rfl
theorem after0_4 (c : Dev nD) (t : Fin (cfg0 (F := F)).N) : (dats m o 0 c).after 4 t = o c t := rfl

/-- Each input's buffer holds its block at every point. -/
theorem before0_0 (c : Dev nD) (t : Fin (cfg0 (F := F)).N) (d) : (dats m o 0 c).before 0 t d = iblk m c 0 t :=
  ((dats m o 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m o 0 c).before 1 t d = iblk m c 1 t :=
  ((dats m o 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m o 0 c).before 2 t d = iblk m c 2 t :=
  ((dats m o 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m o 0 c).before 3 t d = iblk m c 3 t :=
  ((dats m o 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

end Data

/-- The four inputs' buffers at the contents `x0 … x3`. -/
abbrev inputs (c : Dev nD) (t : Fin (cfg0 (F := F)).N) (x0 x1 x2 : Vec F S4096x128 .bf16) (x3 : Vec F S256x128 .bf16) : sProp 𝕄 :=
  iprop(owns (c : Thread nD τ) (ms0_0 t) fullShare x0 ∗ owns (c : Thread nD τ) (ms0_1 t) fullShare x1 ∗ owns (c : Thread nD τ) (ms0_2 t) fullShare x2
      ∗ owns (c : Thread nD τ) (ms0_3 t) fullShare x3)

set_option maxHeartbeats 4000000 in
/-- The body of one head, at the blocks its inputs hold, for a property of the output and the running logarithms that the
    three loops keep. -/
theorem body_at (c : Dev nD) (t : Fin (cfg0 (F := F)).N)
    (J : ℕ → BufTy.Contents (Elt F) (ms0_4 t).view.ty → BufTy.Contents (Elt F) scM0_0.view.ty → Prop)
    (x0 x1 x2 : Vec F S4096x128 .bf16) (x3 : Vec F S256x128 .bf16)
    (hJ : ∀ X1 X2 X3 X4, (ms0_0 t).view.read (Elt F) X1 = x0 → (ms0_1 t).view.read (Elt F) X2 = x1 → (ms0_2 t).view.read (Elt F) X3 = x2
        → (ms0_3 t).view.read (Elt F) X4 = x3 →
      Kept1 (F := F) (grid0.coords t) (ms0_0 t) (hs0_0 t) (ms0_1 t) (hs0_1 t) (ms0_2 t) (hs0_2 t) (ms0_3 t) (hs0_3 t) (ms0_4 t) (hs0_4 t) scM0_0 (Memref.isWhole_whole _) X1 X2 X3 X4 c J
      ∧ Kept2 (F := F) (grid0.coords t) (ms0_0 t) (hs0_0 t) (ms0_1 t) (hs0_1 t) (ms0_2 t) (hs0_2 t) (ms0_3 t) (hs0_3 t) (ms0_4 t) (hs0_4 t) scM0_0 (Memref.isWhole_whole _) X1 X2 X3 X4 c (fun n => J (Scf.trips k0_t1_loop.lb k0_t1_loop.ub k0_t1_loop.st + n))
      ∧ Kept3 (F := F) (grid0.coords t) (ms0_0 t) (hs0_0 t) (ms0_1 t) (hs0_1 t) (ms0_2 t) (hs0_2 t) (ms0_3 t) (hs0_3 t) (ms0_4 t) (hs0_4 t) scM0_0 (Memref.isWhole_whole _) X1 X2 X3 X4 (fun n => J (Scf.trips k0_t1_loop.lb k0_t1_loop.ub k0_t1_loop.st + Scf.trips k0_t2_loop.lb k0_t2_loop.ub k0_t2_loop.st + n)))
    (h0 : ∀ f5 f6, J 0 f5 f6) :
    (iprop(iprop((∃ d, owns (c : Thread nD τ) scM0_0 fullShare d) ∗ (∃ r, prngReg c r)) ∗ inputs c t x0 x1 x2 x3
      ∗ (∃ d, owns (c : Thread nD τ) (ms0_4 t) fullShare d)) : sProp 𝕄)
    ⊢ wp frame (wpE (defs₀ (F := F)) turns (c : Thread nD τ) none) Set.univ (bodyAt0 t) (fun _ =>
      iprop(iprop((∃ d, owns (c : Thread nD τ) scM0_0 fullShare d) ∗ (∃ r, prngReg c r)) ∗ inputs c t x0 x1 x2 x3
      ∗ ∃ g5 g6, owns (c : Thread nD τ) (ms0_4 t) fullShare ((ms0_4 t).view.read (Elt F) g5)
        ∗ ⌜J (Scf.trips k0_t1_loop.lb k0_t1_loop.ub k0_t1_loop.st + Scf.trips k0_t2_loop.lb k0_t2_loop.ub k0_t2_loop.st
            + Scf.trips k0_t3_loop.lb k0_t3_loop.ub k0_t3_loop.st) g5 g6⌝)) := by
  unfold inputs owns
  iintro ⟨⟨⟨%d6, %f6, -, H6⟩, Hg⟩, ⟨⟨%X1, %h1, H1⟩, ⟨%X2, %h2, H2⟩, ⟨%X3, %h3, H3⟩, ⟨%X4, %h4, H4⟩⟩, ⟨%d5, %f5, -, H5⟩⟩
  obtain ⟨hJ1, hJ2, hJ3⟩ := hJ X1 X2 X3 X4 h1 h2 h3 h4
  iapply (wp_wand_r Idealize.ShloMosaic.frame (wpE (defs₀ (F := F)) turns (c : Thread nD τ) none) Set.univ)
  isplitl [H1 H2 H3 H4 H5 H6]
  · iapply (body_run (grid0.coords t) (ms0_0 t) (hs0_0 t) (ms0_1 t) (hs0_1 t) (ms0_2 t) (hs0_2 t) (ms0_3 t) (hs0_3 t) (ms0_4 t) (hs0_4 t) scM0_0 (Memref.isWhole_whole _) X1 X2 X3 X4 c Set.univ J hJ1 hJ2 hJ3 f5 f6 (h0 f5 f6))
    isplitl [H1]; · iexact H1
    isplitl [H2]; · iexact H2
    isplitl [H3]; · iexact H3
    isplitl [H4]; · iexact H4
    isplitl [H5]; · iexact H5
    iexact H6
  iintro %_ ⟨%g5, %g6, ⟨H1, H2, H3, H4, H5, H6⟩, %hend⟩
  isplitl [H6 Hg]
  · isplitl [H6]; · iexists _, _; isplitr; swap; · iexact H6
                    ipureintro; rfl
    iexact Hg
  isplitl [H1 H2 H3 H4]
  · isplitl [H1]; · iexists _; isplitr; · ipureintro; exact h1
                    iexact H1
    isplitl [H2]; · iexists _; isplitr; · ipureintro; exact h2
                    iexact H2
    isplitl [H3]; · iexists _; isplitr; · ipureintro; exact h3
                    iexact H3
    iexists _; isplitr; · ipureintro; exact h4
    iexact H4
  iexists g5, g6
  isplitl [H5]; · iexists _; isplitr; swap; · iexact H5
                  ipureintro; rfl
  ipureintro; exact hend

/-- The property that says nothing. -/
theorem says_nothing (c : Dev nD) (t : Fin (cfg0 (F := F)).N) (X1 X2 X3 X4) :
    Kept1 (F := F) (grid0.coords t) (ms0_0 t) (hs0_0 t) (ms0_1 t) (hs0_1 t) (ms0_2 t) (hs0_2 t) (ms0_3 t) (hs0_3 t) (ms0_4 t) (hs0_4 t) scM0_0 (Memref.isWhole_whole _) X1 X2 X3 X4 c (fun _ _ _ => True) ∧ Kept2 (F := F) (grid0.coords t) (ms0_0 t) (hs0_0 t) (ms0_1 t) (hs0_1 t) (ms0_2 t) (hs0_2 t) (ms0_3 t) (hs0_3 t) (ms0_4 t) (hs0_4 t) scM0_0 (Memref.isWhole_whole _) X1 X2 X3 X4 c (fun _ _ _ => True) ∧ Kept3 (F := F) (grid0.coords t) (ms0_0 t) (hs0_0 t) (ms0_1 t) (hs0_1 t) (ms0_2 t) (hs0_2 t) (ms0_3 t) (hs0_3 t) (ms0_4 t) (hs0_4 t) scM0_0 (Memref.isWhole_whole _) X1 X2 X3 X4 (fun _ _ _ => True) :=
  ⟨fun _ _ _ _ => trivial, fun _ _ _ _ => trivial, fun _ _ _ _ => ⟨fun _ => True, fun _ _ _ _ => trivial, trivial, fun _ _ _ _ _ _ => trivial⟩⟩

/-- The body table's row at a point's slots is the body. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- Contents for the output that nothing reads. -/
def anyOut (c : Dev nD) (t : Fin (cfg0 (F := F)).N) : Vec F S4096x128 .f32 := VO0_4.read (Elt F) VO0_4.junk

set_option maxHeartbeats 1200000 in
/-- One point of the pipeline, its output handed over and taken back at some contents. -/
theorem point_frame (c : Dev nD) (t : Fin (cfg0 (F := F)).N) :
    iprop((dats m anyOut 0 c).Φ t.castSucc ∗ (dats m anyOut 0 c).owesAt () t.castSucc
    ∗ (∃ d, owns (c : Thread nD τ) (ms0_0 t) fullShare ((dats m anyOut 0 c).before 0 t d))
    ∗ (∃ d, owns (c : Thread nD τ) (ms0_1 t) fullShare ((dats m anyOut 0 c).before 1 t d))
    ∗ (∃ d, owns (c : Thread nD τ) (ms0_2 t) fullShare ((dats m anyOut 0 c).before 2 t d))
    ∗ (∃ d, owns (c : Thread nD τ) (ms0_3 t) fullShare ((dats m anyOut 0 c).before 3 t d))
    ∗ (∃ d, owns (c : Thread nD τ) (ms0_4 t) fullShare d))
    ⊢ wp frame (wpE (defs₀ (F := F)) turns (c : Thread nD τ) none) Set.univ (bodyAt0 t) (fun _ =>
      iprop((dats m anyOut 0 c).Φ t.succ ∗ (dats m anyOut 0 c).owesAt () t.succ
    ∗ owns (c : Thread nD τ) (ms0_0 t) fullShare ((dats m anyOut 0 c).after 0 t)
    ∗ owns (c : Thread nD τ) (ms0_1 t) fullShare ((dats m anyOut 0 c).after 1 t)
    ∗ owns (c : Thread nD τ) (ms0_2 t) fullShare ((dats m anyOut 0 c).after 2 t)
    ∗ owns (c : Thread nD τ) (ms0_3 t) fullShare ((dats m anyOut 0 c).after 3 t)
    ∗ (∃ d, owns (c : Thread nD τ) (ms0_4 t) fullShare d))) := by
  simp only [before0_0, before0_1, before0_2, before0_3]
  rw [show (dats m anyOut 0 c).Φ t.succ = (dats m anyOut 0 c).Φ t.castSucc from rfl,
    show (dats m anyOut 0 c).owesAt () t.succ = (dats m anyOut 0 c).owesAt () t.castSucc from rfl,
    after0_0, after0_1, after0_2, after0_3]
  rw [show (dats m anyOut 0 c).Φ t.castSucc = Pipeline.ΦA spec0 c from rfl, PhiA0_eq]
  iintro ⟨HS, Ho, ⟨%d0, H0⟩, ⟨%d1, H1⟩, ⟨%d2, H2⟩, ⟨%d3, H3⟩, H4⟩
  iapply (wp_wand_r Idealize.ShloMosaic.frame (wpE (defs₀ (F := F)) turns (c : Thread nD τ) none) Set.univ)
  isplitl [HS H0 H1 H2 H3 H4]
  · iapply (body_at c t (fun _ _ _ => True) (iblk m c 0 t) (iblk m c 1 t) (iblk m c 2 t) (iblk m c 3 t)
      (fun X1 X2 X3 X4 _ _ _ _ => says_nothing c t X1 X2 X3 X4) (fun _ _ => trivial))
    isplitl [HS]; · iexact HS
    isplitl [H0 H1 H2 H3]
    · isplitl [H0]; · iexact H0
      isplitl [H1]; · iexact H1
      isplitl [H2]; · iexact H2
      iexact H3
    iexact H4
  iintro %_ ⟨HS, ⟨H0, H1, H2, H3⟩, %g5, %g6, H4, -⟩
  isplitl [HS]; · iexact HS
  isplitl [Ho]; · iexact Ho
  isplitl [H0]; · iexact H0
  isplitl [H1]; · iexact H1
  isplitl [H2]; · iexact H2
  isplitl [H3]; · iexact H3
  iexists _; iexact H4

/-- The pipeline's obligation, with the output left at some contents. -/
theorem body_frame (c : Dev nD) : Pipeline.BodyObligationLoose (dats (F := F) m anyOut 0 c) (defs₀ (F := F)) turns () Set.univ outWin := fun t => by
  rw [bigSep_W0, bigSep_W0, defs₀_row]
  exact triple_restated (point_frame m c t) rfl .rfl fun _ => .rfl

set_option backward.isDefEq.respectTransparency.types false in
/-- The launch: every run ends with the buffers outside the pipeline as the region found them and every counter at zero. -/
theorem run_frame : θ_run defs (onTc (τ := τ) (main (F := F))) (s₀ m ρ)
    (fun r => (∀ c : Dev nD, ∀ b ∈ Pipeline.restRefs sig spec0, r.2.mem ((c.tc : Thread nD τ).loc b) = V m c b) ∧ r.2.sem = fun _ => 0) :=
  Pipeline.θ_run_frame_forget_shared (cfgs (F := F)) (dats m anyOut) (0 : Fin 1) launch₀0 defs₀ turns outWin m ρ main
    (hbody := fun c => body_frame m c) (hq := fun _ _ _ => rfl)
    (howed := fun _ _ => rfl) (V := V m) (hmain := hmain m turns) (hA := A_eq m anyOut) (hΦ := fun _ _ => rfl)
    (Q' := _) (hQ' := fun _ h => ⟨fun c => (h.1 c).2, h.2⟩)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c main_arg0 (Pipeline.mem_restRefs_of main_arg0 (by decide) (by decide : ∀ w : Fin 5, (spec0 w).arr.view.ref ≠ main_arg0))).trans (V_main_arg0 m c),
      (h.1 c main_arg1 (Pipeline.mem_restRefs_of main_arg1 (by decide) (by decide : ∀ w : Fin 5, (spec0 w).arr.view.ref ≠ main_arg1))).trans (V_main_arg1 m c),
      (h.1 c main_arg2 (Pipeline.mem_restRefs_of main_arg2 (by decide) (by decide : ∀ w : Fin 5, (spec0 w).arr.view.ref ≠ main_arg2))).trans (V_main_arg2 m c)⟩, h.2⟩) (run_frame m ρ)

end Cert.SbfKernelIdeal.Fwd

end
-- ==== Proof.SbfPay.lean ====
/-
  The stick-breaking forward call: what each of a trip's payloads is, entry by entry, when what it loads is finite. The
  weights and the sums of logarithms are those of the backward call's bodies.
-/
module

public import proofs.«01_k».proof.Proof.Gen.SbfKernelIdeal.Skeleton
public import proofs.«01_k».proof.Proof.SbPay3

@[expose] public section

set_option maxRecDepth 16384

noncomputable section

open Idealize.ShloMosaic Idealize.ShloMosaic.TcCoe Idealize.SL.Sem
open scoped BigOperators

namespace Cert.SbfKernelIdeal.Fwd

open Cert.SbfKernelIdeal Cert.SbfKernelIdeal.Gen Cert.SbMath
open Cert.SbKernelIdeal.Grad (wBody1 wBody2 wBody3 keep1 keep2 keepw weight1 weight2 weight3 log_total1 log_total2 log_total3
  lane_head by_head0 select_true q_at1 cols carry_log3 turn_top start_top)

/-- A lane's number. -/
abbrev lane : IVec S1x128 32 := iota .tc S1x128 32 [1] iota_S1x128_d1_w32
/-- Zero. -/
abbrev nil : Ideal .f32 := Scalar.ofBits .f32 0x00000000#32

section Queries
variable {Q : Fin 128 → Fin 128 → ℝ}

/-- The stacked queries, both heads, scaled. -/
abbrev stacked (u : Vec Ideal S128x128 .bf16) : FVec Ideal S256x128 .bf16 :=
  k0_pay60 (k0_pay55 u) k0_pay56 (k0_pay57 u) lane 64#32 k0_pay58 k0_pay59

theorem stacked_at (u : Vec Ideal S128x128 .bf16) (hu : ∀ r d, u (ix2 r d) = (Q r d : EReal)) (R : Fin 256) (d : Fin 128) :
    stacked u (ix2 R d) = ((stk Q R d * (1 / 8) : ℝ) : EReal) := q_at1 u hu R d

end Queries

section Scores
variable (u : Vec Ideal S128x128 .bf16) (w wv : Vec Ideal S384x128 .bf16) (tt : Vec Ideal S256x128 .bf16)

/-- The first loop's scores. -/
abbrev z1 : FVec Ideal S256x384 .f32 := k0_pay15 (k0_pay9 u) k0_pay10 (k0_pay11 u) lane 64#32 k0_pay12 0#32 w

/-- The first loop's block of the output: both heads' rows. -/
abbrev out1 (row key : BitVec 32) : FVec Ideal S256x128 .f32 :=
  k0_pay27 (k0_pay13 row key) k0_pay14 (z1 u w) (k0_pay16 (z1 u w) nil) (k0_pay18 tt) (k0_pay20 (k0_pay13 row key) (z1 u w) nil tt)
    (k0_pay23 (k0_pay13 row key) (z1 u w) nil tt) (k0_pay24 (k0_pay13 row key) (z1 u w) nil) (k0_pay26 (k0_pay13 row key) (z1 u w) nil)
    (constant S256x128 .f32 0x00000000#32) wv

/-- The first loop's tile of the output. -/
abbrev tile1 (row key : BitVec 32) : FVec Ideal S128x128 .f32 :=
  k0_pay1 (out1 u w wv tt row key) k0_pay29
    (k0_pay30 (k0_pay13 row key) k0_pay14 (z1 u w) (k0_pay16 (z1 u w) nil) (k0_pay18 tt) (k0_pay20 (k0_pay13 row key) (z1 u w) nil tt)
      (k0_pay23 (k0_pay13 row key) (z1 u w) nil tt) (k0_pay24 (k0_pay13 row key) (z1 u w) nil) (k0_pay26 (k0_pay13 row key) (z1 u w) nil)
      (constant S256x128 .f32 0x00000000#32) wv)

/-- The first loop's totals. -/
abbrev tot1 (row key : BitVec 32) : FVec Ideal S256x1 .f32 :=
  k0_pay28 k0_pay14 (k0_pay24 (k0_pay13 row key) (z1 u w) nil) (k0_pay25 (k0_pay13 row key) (z1 u w) nil)

/-- A window's first key. -/
abbrev keyOf (row : BitVec 32) : BitVec 32 := Scalar.maxsi (Scalar.subi (Scalar.addi row 128#32) 384#32) 0#32

theorem out1_eq (row : BitVec 32) : out1 u w wv tt row (keyOf row)
    = matmul (φ₂ := .bf16) dot_S256x384_S384x128_S256x128_1_0_0_1_n_n none (wBody1 row (stacked u) w tt) (shapeCast S384x128 wv shapeCasts_S384x128_S384x128)
      (constant S256x128 .f32 0x00000000#32) := rfl

/-- The second loop's scores. -/
abbrev z2 : FVec Ideal S256x384 .f32 := k0_pay37 (k0_pay31 u) k0_pay32 (k0_pay33 u) lane 64#32 k0_pay34 0#32 w
abbrev zm2 : FVec Ideal S256x384 .f32 := k0_pay38 (k0_pay31 u) k0_pay32 (k0_pay33 u) lane 64#32 k0_pay34 0#32 w
abbrev za2 : FVec Ideal S256x384 .f32 := k0_pay39 (k0_pay31 u) k0_pay32 (k0_pay33 u) lane 64#32 k0_pay34 0#32 w

/-- The second loop's block of the output: both heads' rows. -/
abbrev out2 : FVec Ideal S256x128 .f32 :=
  k0_pay51 k0_pay35 k0_pay36 (z2 u w) (k0_pay40 (zm2 u w) (za2 u w) nil) (k0_pay44 k0_pay35 (zm2 u w) (za2 u w) nil tt)
    (k0_pay47 k0_pay35 (zm2 u w) (za2 u w) nil tt) (k0_pay48 k0_pay35 (zm2 u w) (za2 u w) nil) (k0_pay50 k0_pay35 (zm2 u w) (za2 u w) nil tt) wv

/-- The second loop's totals. -/
abbrev tot2 : FVec Ideal S256x1 .f32 :=
  k0_pay52 k0_pay36 (k0_pay48 k0_pay35 (zm2 u w) (za2 u w) nil) (k0_pay49 k0_pay35 (zm2 u w) (za2 u w) nil)

theorem out2_eq : out2 u w wv tt
    = matmul (φ₂ := .bf16) dot_S256x384_S384x128_S256x128_1_0_0_1_n_n none (wBody2 (stacked u) w tt) (shapeCast S384x128 wv shapeCasts_S384x128_S384x128)
      (constant S256x128 .f32 0x00000000#32) := rfl

end Scores

section Window
variable (q : FVec Ideal S256x128 .bf16) (k v : Vec Ideal S256x128 .bf16) (tt : Vec Ideal S256x128 .bf16)
  (c : FVec Ideal S256x1 .f32) (acc : FVec Ideal S256x128 .f32) (key : BitVec 32)

/-- The inner loop's next block of the output. -/
abbrev acc3 : FVec Ideal S256x128 .f32 :=
  k0_pay7 c acc (k0_pay65 cols key) (k0_pay66 q k) (k0_pay67 q k) (k0_pay69 tt) (k0_pay71 cols q key k tt) (k0_pay72 cols q key k) (k0_pay74 cols q key k) v
/-- The inner loop's next logarithms. -/
abbrev log3 : FVec Ideal S256x1 .f32 := k0_pay6 c (k0_pay72 cols q key k) (k0_pay73 cols q key k)
/-- The inner loop's next largest logarithm. -/
abbrev top3 : Ideal .f32 := k0_pay8 c (k0_pay72 cols q key k) (k0_pay73 cols q key k)

theorem acc3_eq : acc3 q k v tt c acc key
    = addf acc (matmul (φ₂ := .bf16) dot_S256x256_S256x128_S256x128_1_0_0_1_n_n none (wBody3 c key q k tt) (shapeCast S256x128 v shapeCasts_S256x128_S256x128)
      (constant S256x128 .f32 0x00000000#32)) := rfl

end Window

section Entries
variable {Q : Fin 128 → Fin 128 → ℝ} {Z : Fin 256 → Fin 384 → ℝ} {W : Fin 384 → Fin 128 → EReal}
  (u : Vec Ideal S128x128 .bf16) (w wv : Vec Ideal S384x128 .bf16) (tt : Vec Ideal S256x128 .bf16)

/-- A lane's row of a block that holds both heads' rows. -/
abbrev headRow (r d : Fin 128) : Fin 256 := ⟨128 * (d.val / 64) + r.val, by omega⟩

theorem out1_at (ht : ∀ k s, tt (ix2 k s) = ((tri k.val s.val : ℝ) : EReal)) (row : BitVec 32)
    (hz : ∀ R s, ∑ x, stacked u (ix2 R x) * w (ix2 s x) = (Z R s : EReal)) (hv : ∀ s d, wv (ix2 s d) = W s d) (R : Fin 256) (d : Fin 128) :
    out1 u w wv tt row (keyOf row) (ix2 R d) = ∑ s, ((wwW 384 (Z R) (keep1 row R) 0 s : ℝ) : EReal) * W s d := by
  rw [out1_eq]
  have hw := weight1 (v23 := row) ht hz
  generalize wBody1 row (stacked u) w tt = g at hw ⊢
  pointwise []
  simp only [hw, hv]

theorem out2_at (ht : ∀ k s, tt (ix2 k s) = ((tri k.val s.val : ℝ) : EReal))
    (hz : ∀ R s, ∑ x, stacked u (ix2 R x) * w (ix2 s x) = (Z R s : EReal)) (hv : ∀ s d, wv (ix2 s d) = W s d) (R : Fin 256) (d : Fin 128) :
    out2 u w wv tt (ix2 R d) = ∑ s, ((wwW 384 (Z R) (keep2 R) 0 s : ℝ) : EReal) * W s d := by
  rw [out2_eq]
  have hw := weight2 ht hz
  generalize wBody2 (stacked u) w tt = g at hw ⊢
  pointwise []
  simp only [hw, hv]

theorem tot1_at (row : BitVec 32) (hz : ∀ R s, ∑ x, stacked u (ix2 R x) * w (ix2 s x) = (Z R s : EReal)) (R : Fin 256) :
    tot1 u w row (keyOf row) (ix2 R 0) = ((∑ s, lkW 384 (Z R) (keep1 row R) s : ℝ) : EReal) := by
  have h : tot1 u w row (keyOf row) = addf k0_pay14 (Cert.SbKernelIdeal.Gen.k0_pay37 (Cert.SbKernelIdeal.Gen.k0_pay29 row (stacked u) w)
    (Cert.SbKernelIdeal.Gen.k0_pay31 row (stacked u) w)) := rfl
  rw [h]
  have hl := log_total1 (v23 := row) hz
  generalize Cert.SbKernelIdeal.Gen.k0_pay37 (Cert.SbKernelIdeal.Gen.k0_pay29 row (stacked u) w) _ = g at hl ⊢
  pointwise [k0_pay14]
  rw [hl]

theorem tot2_at (hz : ∀ R s, ∑ x, stacked u (ix2 R x) * w (ix2 s x) = (Z R s : EReal)) (R : Fin 256) :
    tot2 u w (ix2 R 0) = ((∑ s, lkW 384 (Z R) (keep2 R) s : ℝ) : EReal) := by
  have h : tot2 u w = addf k0_pay36 (Cert.SbKernelIdeal.Gen.k0_pay84 (Cert.SbKernelIdeal.Gen.k0_pay75 (stacked u) w)
    (Cert.SbKernelIdeal.Gen.k0_pay77 (stacked u) w)) := rfl
  rw [h]
  have hl := log_total2 hz
  generalize Cert.SbKernelIdeal.Gen.k0_pay84 (Cert.SbKernelIdeal.Gen.k0_pay75 (stacked u) w) _ = g at hl ⊢
  pointwise [k0_pay36]
  rw [hl]

/-- Each lane takes its own head's row. -/
theorem tile1_at {O : Fin 256 → Fin 128 → EReal} (row key : BitVec 32) (ho : ∀ R d, out1 u w wv tt row key (ix2 R d) = O R d) (r d : Fin 128) :
    tile1 u w wv tt row key (ix2 r d) = O (headRow r d) d := by
  have h : tile1 u w wv tt row key = k0_pay1 (out1 u w wv tt row key) k0_pay29
      (extractStridedSlice S128x128 ![0, 0] (out1 u w wv tt row key) slices_S256x128_o0_0_S128x128) := rfl
  rw [h]
  generalize out1 u w wv tt row key = g at ho ⊢
  pointwise [k0_pay1, k0_pay29]
  simp only [lane_head, ho]
  rw [by_head0]
  have : d.val / 64 = 0 ∨ d.val / 64 = 1 := by omega
  rcases this with h | h <;> simp [h, headRow]

theorem tile2_at {O : Fin 256 → Fin 128 → EReal} {o : FVec Ideal S256x128 .f32} (ho : ∀ R d, o (ix2 R d) = O R d) (r d : Fin 128) :
    k0_pay3 (F := Ideal) o k0_pay53 k0_pay54 (ix2 r d) = O (headRow r d) d := by
  pointwise [k0_pay3, k0_pay53, k0_pay54]
  simp only [lane_head, ho]
  rw [by_head0]
  have : d.val / 64 = 0 ∨ d.val / 64 = 1 := by omega
  rcases this with h | h <;> simp [h, headRow]

/-- The older keys' share is added, each lane taking its own head's row. -/
theorem tile3_at {O : Fin 256 → Fin 128 → EReal} {o : FVec Ideal S256x128 .f32} (ho : ∀ R d, o (ix2 R d) = O R d)
    {B : Fin 128 → Fin 128 → EReal} {old : Vec Ideal S128x128 .f32} (hb : ∀ r d, old (ix2 r d) = B r d) (r d : Fin 128) :
    k0_pay5 (F := Ideal) o (k0_pay63 old) lane 64#32 k0_pay64 (ix2 r d) = B r d + O (headRow r d) d := by
  pointwise [k0_pay5, k0_pay63, k0_pay64]
  simp only [lane_head, ho, hb]
  rw [by_head0]
  have : d.val / 64 = 0 ∨ d.val / 64 = 1 := by omega
  rcases this with h | h <;> simp [h, headRow]

theorem kept1_at {key : BitVec 32} (hw : Scalar.cmpi CmpIPredicate.sgt key 0#32 = 1#1) {v : FVec Ideal S256x1 .f32} {C : Fin 256 → ℝ}
    (hv : ∀ R, v (ix2 R 0) = (C R : EReal)) (R : Fin 256) (d : Fin 128) : k0_pay2 (F := Ideal) key v (ix2 R d) = (C R : EReal) := by
  pointwise [k0_pay2]
  rw [hw, select_true, if_pos rfl, hv]

theorem kept2_at {key : BitVec 32} (hw : Scalar.cmpi CmpIPredicate.sgt key 0#32 = 1#1) {v : FVec Ideal S256x1 .f32} {C : Fin 256 → ℝ}
    (hv : ∀ R, v (ix2 R 0) = (C R : EReal)) (R : Fin 256) (d : Fin 128) : k0_pay4 (F := Ideal) key v (ix2 R d) = (C R : EReal) := by
  pointwise [k0_pay4]
  rw [hw, select_true, if_pos rfl, hv]

theorem nothing_at (R : Fin 256) (d : Fin 128) : k0_pay61 (F := Ideal) (ix2 R d) = (0 : EReal) := by
  pointwise [k0_pay61]

theorem first_top {c : Vec Ideal S256x1 .f32} {C : Fin 256 → ℝ} (hc : ∀ R, c (ix2 R 0) = (C R : EReal)) : (⊥ : EReal) < k0_pay62 (F := Ideal) c :=
  start_top hc

end Entries

section Older
variable {q : FVec Ideal S256x128 .bf16} {k v : Vec Ideal S256x128 .bf16} {tt : Vec Ideal S256x128 .bf16}
  {c : FVec Ideal S256x1 .f32} {acc : FVec Ideal S256x128 .f32} {key : BitVec 32} {Z : Fin 256 → Fin 256 → ℝ} {C : Fin 256 → ℝ}
  {W A : Fin 256 → Fin 128 → EReal}

theorem acc3_at (ht : ∀ k s, tt (ix2 k s) = ((tri k.val s.val : ℝ) : EReal)) (hc : ∀ R, c (ix2 R 0) = (C R : EReal))
    (hz : ∀ R s, ∑ x, q (ix2 R x) * k (ix2 s x) = (Z R s : EReal)) (hv : ∀ s d, v (ix2 s d) = W s d)
    (ha : ∀ R d, acc (ix2 R d) = A R d) (R : Fin 256) (d : Fin 128) :
    acc3 q k v tt c acc key (ix2 R d) = A R d + ∑ s, ((wwW 256 (Z R) (keepw key R) (C R) s : ℝ) : EReal) * W s d := by
  rw [acc3_eq]
  have hw := weight3 (w := key) ht hc hz
  generalize wBody3 c key q k tt = g at hw ⊢
  pointwise []
  simp only [hw, hv, ha]

theorem log3_at (hc : ∀ R, c (ix2 R 0) = (C R : EReal)) (hz : ∀ R s, ∑ x, q (ix2 R x) * k (ix2 s x) = (Z R s : EReal)) (R : Fin 256) :
    log3 q k c key (ix2 R 0) = ((C R + ∑ s, lkW 256 (Z R) (keepw key R) s : ℝ) : EReal) :=
  carry_log3 hc (log_total3 (w := key) hz) R

theorem top3_at (hc : ∀ R, c (ix2 R 0) = (C R : EReal)) (hz : ∀ R s, ∑ x, q (ix2 R x) * k (ix2 s x) = (Z R s : EReal)) :
    (⊥ : EReal) < top3 q k c key := turn_top hc (log_total3 (w := key) hz)

end Older

end Cert.SbfKernelIdeal.Fwd

end
-- ==== Proof.SbfTrips.lean ====
/-
  The stick-breaking forward call: what one trip of each loop stores, in the payloads' names.
-/
module

public import proofs.«01_k».proof.Proof.SbfIdealRun
public import proofs.«01_k».proof.Proof.SbfPay

@[expose] public section

set_option maxRecDepth 16384

noncomputable section

open Idealize.ShloMosaic Idealize.ShloMosaic.TcCoe Idealize.SL.Sem
open Idealize.ShloMosaic.Rounds Idealize.ShloMosaic.Pipeline
open Cert.SbMath

namespace Cert.SbfKernelIdeal.Fwd

open Cert.SbfKernelIdeal Cert.SbfKernelIdeal.Gen
open Cert.SbKernelIdeal.Grad (cols)

section Trips

/-- The triangle. -/
abbrev tt (arg4 : Memref sig .tc .vmem S256x128 .bf16) (X4 : BufTy.Contents (Elt Ideal) arg4.view.ty) : Vec Ideal S256x128 .bf16 :=
  View.readAt (Elt Ideal) arg4.view (Rect.unit (s := S256x128) ![0, 0] S256x128.size inb_S256x128_S256x128_0_0).toLoadRect X4

variable (i : grid0.Coords) (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S256x128 .bf16) (harg4 : arg4.IsWhole)
  (arg5 : Memref sig .tc .vmem S4096x128 .f32) (harg5 : arg5.IsWhole) (arg6 : Memref sig .tc .vmem S8192x128 .f32) (harg6 : arg6.IsWhole)
  (X1 : BufTy.Contents (Elt Ideal) arg1.view.ty) (X2 : BufTy.Contents (Elt Ideal) arg2.view.ty) (X3 : BufTy.Contents (Elt Ideal) arg3.view.ty)
  (X4 : BufTy.Contents (Elt Ideal) arg4.view.ty) (X6 : BufTy.Contents (Elt Ideal) arg6.view.ty)

section Loop1
variable (k : Fin k0_t1_loop.trips)

/-- The tile's queries, the window's keys and values. -/
abbrev tq1 : Vec Ideal S128x128 .bf16 := View.readAt (Elt Ideal) arg1.view (Rect.unit (s := S4096x128) (k0_off1 k) S128x128.size (k0_off1_inb k)).toLoadRect X1
abbrev wk1 : Vec Ideal S384x128 .bf16 := View.readAt (Elt Ideal) arg2.view (Rect.unit (s := S4096x128) (k0_off2 k) S384x128.size (k0_off2_inb k)).toLoadRect X2
abbrev wv1 : Vec Ideal S384x128 .bf16 := View.readAt (Elt Ideal) arg3.view (Rect.unit (s := S4096x128) (k0_off2 k) S384x128.size (k0_off2_inb k)).toLoadRect X3
abbrev row1 : BitVec 32 := Scalar.muli (Scf.iv 0#32 1#32 k) 128#32

theorem stored1_5 (c : Dev nD) :
    (trip_k0_t1 (F := Ideal) turns c none i arg1 harg1 arg2 harg2 arg3 harg3 arg4 harg4 arg5 harg5 arg6 harg6 X1 X2 X3 X4 k).1
    = [⟨Rect.unit (s := S4096x128) (k0_off1 k) S128x128.size (k0_off1_inb k),
        tile1 (tq1 arg1 X1 k) (wk1 arg2 X2 k) (wv1 arg3 X3 k) (tt arg4 X4) (row1 k) (keyOf (row1 k))⟩] := by unfold trip_k0_t1; rfl

theorem stored1_6 (c : Dev nD) :
    (trip_k0_t1 (F := Ideal) turns c none i arg1 harg1 arg2 harg2 arg3 harg3 arg4 harg4 arg5 harg5 arg6 harg6 X1 X2 X3 X4 k).2.1
    = [⟨Rect.unit (s := S8192x128) (k0_off3 k) S256x128.size (k0_off3_inb k),
        k0_pay2 (keyOf (row1 k)) (tot1 (tq1 arg1 X1 k) (wk1 arg2 X2 k) (row1 k) (keyOf (row1 k)))⟩] := by unfold trip_k0_t1; rfl

end Loop1

section Loop2
variable (k : Fin k0_t2_loop.trips)

abbrev tq2 : Vec Ideal S128x128 .bf16 := View.readAt (Elt Ideal) arg1.view (Rect.unit (s := S4096x128) (k0_off4 k) S128x128.size (k0_off4_inb k)).toLoadRect X1
abbrev wk2 : Vec Ideal S384x128 .bf16 := View.readAt (Elt Ideal) arg2.view (Rect.unit (s := S4096x128) (k0_off5 k) S384x128.size (k0_off5_inb k)).toLoadRect X2
abbrev wv2 : Vec Ideal S384x128 .bf16 := View.readAt (Elt Ideal) arg3.view (Rect.unit (s := S4096x128) (k0_off5 k) S384x128.size (k0_off5_inb k)).toLoadRect X3
abbrev row2 : BitVec 32 := Scalar.muli (Scf.iv 8#32 1#32 k) 128#32

theorem stored2_5 (c : Dev nD) :
    (trip_k0_t2 (F := Ideal) turns c none i arg1 harg1 arg2 harg2 arg3 harg3 arg4 harg4 arg5 harg5 arg6 harg6 X1 X2 X3 X4 k).1
    = [⟨Rect.unit (s := S4096x128) (k0_off4 k) S128x128.size (k0_off4_inb k),
        k0_pay3 (out2 (tq2 arg1 X1 k) (wk2 arg2 X2 k) (wv2 arg3 X3 k) (tt arg4 X4)) k0_pay53 k0_pay54⟩] := by unfold trip_k0_t2; rfl

theorem stored2_6 (c : Dev nD) :
    (trip_k0_t2 (F := Ideal) turns c none i arg1 harg1 arg2 harg2 arg3 harg3 arg4 harg4 arg5 harg5 arg6 harg6 X1 X2 X3 X4 k).2.1
    = [⟨Rect.unit (s := S8192x128) (k0_off6 k) S256x128.size (k0_off6_inb k),
        k0_pay4 (keyOf (row2 k)) (tot2 (tq2 arg1 X1 k) (wk2 arg2 X2 k))⟩] := by unfold trip_k0_t2; rfl

end Loop2

section Loop3
variable (k : Fin k0_t3_loop.trips)

abbrev tq3 : Vec Ideal S128x128 .bf16 := View.readAt (Elt Ideal) arg1.view (Rect.unit (s := S4096x128) (k0_off8 k) S128x128.size (k0_off8_inb k)).toLoadRect X1
/-- The tile's running logarithms. -/
abbrev tc3 : Vec Ideal S256x1 .f32 := View.readAt (Elt Ideal) arg6.view (Rect.unit (s := S8192x128) (k0_off7 k) S256x1.size (k0_off7_inb k)).toLoadRect X6
abbrev from3 : BitVec 32 := keyOf (Scalar.muli (Scf.iv 0#32 1#32 k) 128#32)

theorem start3_cols : (trip3 (F := Ideal) i arg1 harg1 arg2 harg2 arg3 harg3 arg4 harg4 arg5 harg5 arg6 harg6 X1 X2 X3 X4 X6 k).1 = cols := by unfold trip3; rfl
theorem start3_query : (trip3 (F := Ideal) i arg1 harg1 arg2 harg2 arg3 harg3 arg4 harg4 arg5 harg5 arg6 harg6 X1 X2 X3 X4 X6 k).2.1 = stacked (tq3 arg1 X1 k) := by unfold trip3; rfl
theorem start3_key : (trip3 (F := Ideal) i arg1 harg1 arg2 harg2 arg3 harg3 arg4 harg4 arg5 harg5 arg6 harg6 X1 X2 X3 X4 X6 k).2.2.1 = from3 k := by unfold trip3; rfl
theorem start3_log : (trip3 (F := Ideal) i arg1 harg1 arg2 harg2 arg3 harg3 arg4 harg4 arg5 harg5 arg6 harg6 X1 X2 X3 X4 X6 k).2.2.2.1 = tc3 arg6 X6 k := by unfold trip3; rfl
theorem start3_acc : (trip3 (F := Ideal) i arg1 harg1 arg2 harg2 arg3 harg3 arg4 harg4 arg5 harg5 arg6 harg6 X1 X2 X3 X4 X6 k).2.2.2.2.1 = k0_pay61 := by unfold trip3; rfl
theorem start3_top : (trip3 (F := Ideal) i arg1 harg1 arg2 harg2 arg3 harg3 arg4 harg4 arg5 harg5 arg6 harg6 X1 X2 X3 X4 X6 k).2.2.2.2.2.1 = k0_pay62 (tc3 arg6 X6 k) := by unfold trip3; rfl
theorem stored3_5 (r : FVec Ideal S256x128 .f32) (f5 : BufTy.Contents (Elt Ideal) arg5.view.ty) :
    (trip3 (F := Ideal) i arg1 harg1 arg2 harg2 arg3 harg3 arg4 harg4 arg5 harg5 arg6 harg6 X1 X2 X3 X4 X6 k).2.2.2.2.2.2.1 r f5
    = [⟨Rect.unit (s := S4096x128) (k0_off8 k) S128x128.size (k0_off8_inb k), k0_pay5 r
        (k0_pay63 (View.readAt (Elt Ideal) arg5.view (Rect.unit (s := S4096x128) (k0_off8 k) S128x128.size (k0_off8_inb k)).toLoadRect f5))
        lane 64#32 k0_pay64⟩] := by unfold trip3; rfl

end Loop3

end Trips

section Turn
variable (a : Cc0While1 Ideal) (hp : a.v76 = cols) (X2 : In2 a) (X3 : In3 a) (X4 : In4 a) (hg : goes a = 1#1) (hk : k0_chk1 a.arg8)

/-- The window's keys and values, the triangle. -/
abbrev uk : Vec Ideal S256x128 .bf16 := View.readAt (Elt Ideal) a.arg2.view (Rect.unit (s := S4096x128) (k0_off9 a.arg8) S256x128.size (k0_off9_inb a.arg8 hk)).toLoadRect X2
abbrev uv : Vec Ideal S256x128 .bf16 := View.readAt (Elt Ideal) a.arg3.view (Rect.unit (s := S4096x128) (k0_off9 a.arg8) S256x128.size (k0_off9_inb a.arg8 hk)).toLoadRect X3
abbrev ut : Vec Ideal S256x128 .bf16 := View.readAt (Elt Ideal) a.arg4.view (Rect.unit (s := S256x128) ![0, 0] S256x128.size inb_S256x128_S256x128_0_0).toLoadRect X4

include hp in
theorem turn_log : (trip a X2 X3 X4 hg hk).2.1 = log3 a.v75 (uk a X2 hk) a.arg9 a.arg8 := by
  obtain ⟨_, _, _, _, _, _, _, _, _, _, _, _, _, _⟩ := a
  cases hp; unfold trip; rfl

include hp in
theorem turn_acc : (trip a X2 X3 X4 hg hk).2.2.1 = acc3 a.v75 (uk a X2 hk) (uv a X3 hk) (ut a X4) a.arg9 a.arg10 a.arg8 := by
  obtain ⟨_, _, _, _, _, _, _, _, _, _, _, _, _, _⟩ := a
  cases hp; unfold trip; rfl

include hp in
theorem turn_greatest : (trip a X2 X3 X4 hg hk).2.2.2.1 = top3 a.v75 (uk a X2 hk) a.arg9 a.arg8 := by
  obtain ⟨_, _, _, _, _, _, _, _, _, _, _, _, _, _⟩ := a
  cases hp; unfold trip; rfl

end Turn

end Cert.SbfKernelIdeal.Fwd

end
-- ==== Proof.SbfKeep.lean ====
/-
  The stick-breaking forward call: what the output and the running logarithms hold after each tile of the first two loops, over
  real numbers.
-/
module

public import proofs.«01_k».proof.Proof.SbfTrips
public import proofs.«01_k».proof.Proof.SbKeep

@[expose] public section

set_option maxRecDepth 65536

noncomputable section

open Idealize.ShloMosaic Idealize.ShloMosaic.TcCoe Idealize.SL.Sem
open Idealize.ShloMosaic.Rounds Idealize.ShloMosaic.Pipeline
open Cert.SbMath

namespace Cert.SbfKernelIdeal.Fwd

open Cert.SbfKernelIdeal Cert.SbfKernelIdeal.Gen
open Cert.SbKernelIdeal.Grad (up same logSum logSum_at score_sum mask1 mask3 keep1 keep2 keepw cols)

/-- The part of a sum over the keys from `L` up, below `U`. The terms may be infinite. -/
def seen (f : ℕ → EReal) (L U : ℕ) : EReal := ∑ s ∈ Finset.range 4096, if L ≤ s ∧ s < U then f s else 0

/-- Two neighbouring parts are one. -/
theorem seen_join {f : ℕ → EReal} {a b c : ℕ} (h1 : a ≤ b) (h2 : b ≤ c) : seen f a b + seen f b c = seen f a c := by
  rw [seen, seen, seen, ← Finset.sum_add_distrib]
  refine Finset.sum_congr rfl fun s _ => ?_
  by_cases ha : a ≤ s ∧ s < b
  · rw [if_pos ha, if_neg (by omega), if_pos (by omega), add_zero]
  · by_cases hb : b ≤ s ∧ s < c
    · rw [if_neg ha, if_pos hb, if_pos (by omega), zero_add]
    · rw [if_neg ha, if_neg hb, if_neg (by omega), add_zero]

/-- Nothing is a part of the sum. -/
theorem seen_none {f : ℕ → EReal} {a : ℕ} : seen f a a = 0 := Finset.sum_eq_zero fun s _ => if_neg (by omega)

/-- All keys are the whole sum. -/
theorem seen_all {f : ℕ → EReal} : seen f 0 4096 = ∑ s ∈ Finset.range 4096, f s :=
  Finset.sum_congr rfl fun s hs => if_pos ⟨Nat.zero_le s, Finset.mem_range.1 hs⟩

/-- A window's terms are a part of the sum, when what the part has past the window vanishes. -/
theorem seen_window {f : ℕ → EReal} {k0 U N : ℕ} (hN : k0 + N ≤ 4096) (hf : ∀ s, k0 + N ≤ s → s < U → f s = 0) :
    ∑ i : Fin N, (if k0 + (i : ℕ) < U then f (k0 + i) else 0) = seen f k0 U := by
  have h := Finset.sum_Ico_eq_sum_range (fun s => if s < U then f s else 0) k0 (k0 + N)
  rw [Nat.add_sub_cancel_left] at h
  rw [Fin.sum_univ_eq_sum_range (fun i => if k0 + i < U then f (k0 + i) else 0) N, ← h]
  refine Eq.trans (Finset.sum_congr rfl fun s hs => ?_) (Finset.sum_subset (s₁ := Finset.Ico k0 (k0 + N)) (fun s hs => ?_) fun s _ hn => ?_)
  · have := (Finset.mem_Ico.1 hs).1
    by_cases h2 : s < U
    · rw [if_pos h2, if_pos ⟨this, h2⟩]
    · rw [if_neg h2, if_neg fun e => h2 e.2]
  · have := (Finset.mem_Ico.1 hs).2
    exact Finset.mem_range.2 (by omega)
  · by_cases h2 : k0 ≤ s ∧ s < U
    · rw [if_pos h2]; exact hf s (by by_contra h3; exact hn (Finset.mem_Ico.2 ⟨h2.1, by omega⟩)) h2.2
    · rw [if_neg h2]

/-- A key's weight times its value, in lane `d`, for the query of head `h`. -/
def part (Q K : ℕ → Fin 128 → ℝ) (V : ℕ → Fin 128 → EReal) (h t : ℕ) (d : Fin 128) (s : ℕ) : EReal := ((wt Q K h t s : ℝ) : EReal) * V s d

/-- What a query of head `h` gathers, in lane `d`, of the values from the key `L` up. -/
def oA (Q K : ℕ → Fin 128 → ℝ) (V : ℕ → Fin 128 → EReal) (h t : ℕ) (d : Fin 128) (L : ℕ) : EReal := seen (part Q K V h t d) L 4096

/-- A window's share of the output. -/
theorem o_step {t k0 U N : ℕ} {z g : ℕ → ℝ} {zw gw : Fin N → ℝ} {keep : Fin N → Prop} [DecidablePred keep] {c : ℝ}
    (H : Fits 4096 t z g k0 U N zw gw keep) (hc : c = above 4096 (lk t z) U) (v : ℕ → EReal) :
    ∑ i : Fin N, ((wwW N zw keep c i : ℝ) : EReal) * v (k0 + i) = seen (fun s => ((ww 4096 t z s : ℝ) : EReal) * v s) k0 U := by
  rw [← seen_window H.inside fun s h1 h2 => by rw [ww_zero 4096 t z (H.reach s h1 h2), EReal.coe_zero, zero_mul]]
  refine Finset.sum_congr rfl fun i _ => ?_
  rw [wwW_eq H hc]
  by_cases h : k0 + (i : ℕ) < U
  · rw [if_pos h, if_pos h]
  · rw [if_neg h, if_neg h, EReal.coe_zero, zero_mul]

section Invariant
variable (arg5 : Memref sig .tc .vmem S4096x128 .f32) (arg6 : Memref sig .tc .vmem S8192x128 .f32) (Q K : ℕ → Fin 128 → ℝ) (V : ℕ → Fin 128 → EReal)

/-- What the buffers hold after `n` tiles: the output as far as each tile has looked, and, for the tiles with older keys to
    come, the logarithms' sums over the keys looked at. -/
def J (n : ℕ) (f5 : BufTy.Contents (Elt Ideal) arg5.view.ty) (f6 : BufTy.Contents (Elt Ideal) arg6.view.ty) : Prop :=
  Holds arg5.view f5 (fun t d => oA Q K V (d.val / 64) t d (bound n (t / 128))) (fun t => t / 128 < n)
  ∧ Holds arg6.view f6 (up fun x _ => logSum Q K x) (fun x => 3 ≤ x / 256 ∧ x / 256 < n)

variable {arg5 arg6 Q K V} {f5 : BufTy.Contents (Elt Ideal) arg5.view.ty} {f6 : BufTy.Contents (Elt Ideal) arg6.view.ty}

set_option maxHeartbeats 1600000 in
/-- A tile's first step, from its stored values: its own keys and the two tiles before. -/
theorem first_step {m : ℕ} (hm : m < 32) (h : J arg5 arg6 Q K V m f5 f6)
    {off1 off3 : Fin 2 → ℕ} (e1 : off1 = ![128 * m, 0]) (e3 : off3 = ![256 * m, 0])
    (i1 : ∀ a : Fin 2, off1 a + S128x128.size a ≤ S4096x128.size a) (i3 : ∀ a : Fin 2, off3 a + S256x128.size a ≤ S8192x128.size a)
    {keep : Fin 256 → Fin 384 → Prop} [∀ R, DecidablePred (keep R)] (hkeep : ∀ R s, keep R s ↔ 128 * (m - 2) + s.val < rowOf m R)
    {p5 : FVec Ideal S128x128 .f32} {p6 : FVec Ideal S256x128 .f32}
    (h5 : ∀ r d, p5 (ix2 r d) = ∑ s : Fin 384, ((wwW 384 (zW Q K m (128 * (m - 2)) 384 (headRow r d)) (keep (headRow r d)) 0 s : ℝ) : EReal)
      * V (128 * (m - 2) + s.val) d)
    (h6 : 3 ≤ m → ∀ R d, p6 (ix2 R d) = ((∑ s, lkW 384 (zW Q K m (128 * (m - 2)) 384 R) (keep R) s : ℝ) : EReal)) :
    J arg5 arg6 Q K V (m + 1)
      (arg5.view.writes (Elt Ideal) f5 [⟨Rect.unit (s := S4096x128) off1 S128x128.size i1, p5⟩])
      (arg6.view.writes (Elt Ideal) f6 [⟨Rect.unit (s := S8192x128) off3 S256x128.size i3, p6⟩]) := by
  obtain ⟨g5, g6⟩ := h
  have H : ∀ R, Fits 4096 (rowOf m R) (zr Q K (R.val / 128) (rowOf m R)) (along Q K (R.val / 128) (rowOf m R)) (128 * (m - 2)) 4096 384
      (zW Q K m (128 * (m - 2)) 384 R) (gW K Q m (128 * (m - 2)) 384 R) (keep R) := fun R =>
    fits (by omega) (by omega) R (fun s h1 h2 => by unfold rowOf; omega) (fun i => by
      have := rowOf_lt hm R; rw [hkeep]; exact ⟨fun h => ⟨h, by omega⟩, fun h => h.1⟩)
  have hc : ∀ R : Fin 256, (0 : ℝ) = above 4096 (lk (rowOf m R) (zr Q K (R.val / 128) (rowOf m R))) 4096 := fun R => (above_end _ _).symm
  rw [J, bound_first hm]
  refine ⟨?_, ?_⟩
  · refine g5.store e1 i1 p5 (fun r d _ => ?_) fun t d ht hn hP => ?_
    · have hR : (128 * (d.val / 64) + r.val) / 128 = d.val / 64 := by omega
      have hR2 : rowOf m (headRow r d) = 128 * m + r.val := by
        show 128 * m + (128 * (d.val / 64) + r.val) % 128 = _; omega
      have h2 := o_step (H (headRow r d)) (hc _) (fun s => V s d)
      have hm2 : (128 * m + r.val) / 128 = m := by omega
      rw [h5]
      refine h2.trans ?_
      show seen (part Q K V ((128 * (d.val / 64) + r.val) / 128) (rowOf m (headRow r d)) d) _ _
        = oA Q K V _ _ d (Function.update (bound m) m (128 * (m - 2)) ((128 * m + r.val) / 128))
      rw [hm2, Function.update_self, hR, hR2]; rfl
    · have hne : t / 128 ≠ m := by omega
      refine ⟨by have : t / 128 < m + 1 := hP; omega, ?_⟩
      show oA Q K V _ t d _ = oA Q K V _ t d _
      simp only [Function.update_of_ne hne]
  · refine g6.store e3 i3 p6 (fun R d hP => ?_) fun t d ht hn hP => ⟨by omega, rfl⟩
    rw [h6 (by have := hP.1; omega)]
    refine same (Eq.trans ?_ (logSum_at Q K m R).symm)
    have := c_step (H R) (hc R)
    rw [zero_add] at this; exact this

end Invariant

/-! ### Rows and keys, as numbers -/

theorem trips1 : k0_t1_loop.trips = 8 := by decide
theorem trips2 : k0_t2_loop.trips = 24 := by decide
theorem off1_at : ∀ k : Fin k0_t1_loop.trips, k0_off1 k = ![128 * k.val, 0] := by decide +kernel
theorem off2_at : ∀ k : Fin k0_t1_loop.trips, k0_off2 k = ![128 * (k.val - 2), 0] := by decide +kernel
theorem off3_at : ∀ k : Fin k0_t1_loop.trips, k0_off3 k = ![256 * k.val, 0] := by decide +kernel
theorem off4_at : ∀ k : Fin k0_t2_loop.trips, k0_off4 k = ![128 * (8 + k.val), 0] := by decide +kernel
theorem off5_at : ∀ k : Fin k0_t2_loop.trips, k0_off5 k = ![128 * (8 + k.val - 2), 0] := by decide +kernel
theorem off6_at : ∀ k : Fin k0_t2_loop.trips, k0_off6 k = ![256 * (8 + k.val), 0] := by decide +kernel
theorem row1_at : ∀ k : Fin k0_t1_loop.trips, row1 k = BitVec.ofNat 32 (128 * k.val) := by decide +kernel
theorem key1_pos : ∀ k : Fin k0_t1_loop.trips, 3 ≤ k.val → Scalar.cmpi .sgt (keyOf (row1 k)) 0#32 = 1#1 := by decide +kernel
theorem key2_pos : ∀ k : Fin k0_t2_loop.trips, Scalar.cmpi .sgt (keyOf (row2 k)) 0#32 = 1#1 := by decide +kernel

/-- The triangle. -/
theorem tri_at (arg4 : Memref sig .tc .vmem S256x128 .bf16) (X4 : BufTy.Contents (Elt Ideal) arg4.view.ty)
    (h4 : Holds arg4.view X4 (up fun k (s : Fin 128) => tri k s.val) (fun _ => True)) (k : Fin 256) (s : Fin 128) :
    tt arg4 X4 (ix2 k s) = ((tri k.val s.val : ℝ) : EReal) := by
  refine (h4.load rfl _ k s trivial).trans ?_
  rw [Nat.zero_add]

section Kept
variable (i : grid0.Coords) (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S256x128 .bf16) (harg4 : arg4.IsWhole)
  (arg5 : Memref sig .tc .vmem S4096x128 .f32) (harg5 : arg5.IsWhole) (arg6 : Memref sig .tc .vmem S8192x128 .f32) (harg6 : arg6.IsWhole)
  (X1 : BufTy.Contents (Elt Ideal) arg1.view.ty) (X2 : BufTy.Contents (Elt Ideal) arg2.view.ty) (X3 : BufTy.Contents (Elt Ideal) arg3.view.ty)
  (X4 : BufTy.Contents (Elt Ideal) arg4.view.ty)
variable {Q K : ℕ → Fin 128 → ℝ} {V : ℕ → Fin 128 → EReal} (h1 : Holds arg1.view X1 (up Q) (fun _ => True)) (h2 : Holds arg2.view X2 (up K) (fun _ => True))
  (h3 : Holds arg3.view X3 V (fun _ => True)) (h4 : Holds arg4.view X4 (up fun k (s : Fin 128) => tri k s.val) (fun _ => True))

include h1 h2 h3 h4

/-- A trip of the first loop, from the pieces it stores, is a tile's first step. -/
theorem step1 (k : Fin k0_t1_loop.trips) {L5 : List (View.Piece (Elt Ideal) S4096x128 .f32)} {L6 : List (View.Piece (Elt Ideal) S8192x128 .f32)}
    (e5 : L5 = [⟨Rect.unit (s := S4096x128) (k0_off1 k) S128x128.size (k0_off1_inb k), tile1 (tq1 arg1 X1 k) (wk1 arg2 X2 k) (wv1 arg3 X3 k) (tt arg4 X4) (row1 k) (keyOf (row1 k))⟩])
    (e6 : L6 = [⟨Rect.unit (s := S8192x128) (k0_off3 k) S256x128.size (k0_off3_inb k), k0_pay2 (keyOf (row1 k)) (tot1 (tq1 arg1 X1 k) (wk1 arg2 X2 k) (row1 k) (keyOf (row1 k)))⟩])
    {f5 : BufTy.Contents (Elt Ideal) arg5.view.ty} {f6 : BufTy.Contents (Elt Ideal) arg6.view.ty} (h : J arg5 arg6 Q K V k.val f5 f6) :
    J arg5 arg6 Q K V (k.val + 1) (arg5.view.writes (Elt Ideal) f5 L5) (arg6.view.writes (Elt Ideal) f6 L6) := by
  have hm : k.val < 32 := by have := Nat.lt_of_lt_of_le k.isLt trips1.le; omega
  subst e5 e6
  have hq := stacked_at (Q := fun r d => Q (128 * k.val + r.val) d) (tq1 arg1 X1 k) (fun r d => h1.load (off1_at k) _ r d trivial)
  have hk : ∀ s d, wk1 arg2 X2 k (ix2 s d) = ((K (128 * (k.val - 2) + s.val) d : ℝ) : EReal) := fun s d => h2.load (off2_at k) _ s d trivial
  have hv : ∀ s d, wv1 arg3 X3 k (ix2 s d) = V (128 * (k.val - 2) + s.val) d := fun s d => h3.load (off2_at k) _ s d trivial
  have ht := tri_at arg4 X4 h4
  have hz := score_sum (m := k.val) hq hk
  have ho := out1_at (tq1 arg1 X1 k) (wk1 arg2 X2 k) (wv1 arg3 X3 k) (tt arg4 X4) ht (row1 k) hz hv
  have hl := tot1_at (tq1 arg1 X1 k) (wk1 arg2 X2 k) (row1 k) hz
  exact first_step hm h (off1_at k) (off3_at k) _ _ (keep := keep1 (row1 k)) (fun R s => by rw [row1_at k]; exact mask1 hm R s)
    (tile1_at (tq1 arg1 X1 k) (wk1 arg2 X2 k) (wv1 arg3 X3 k) (tt arg4 X4) (row1 k) (keyOf (row1 k)) ho)
    (fun h3 => kept1_at (key1_pos k h3) hl)

/-- Every trip of the first loop is a tile's first step. -/
theorem kept1 (c : Dev nD) : Kept1 i arg1 harg1 arg2 harg2 arg3 harg3 arg4 harg4 arg5 harg5 arg6 harg6 X1 X2 X3 X4 c (J arg5 arg6 Q K V) :=
  fun k f5 f6 h => step1 arg1 arg2 arg3 arg4 arg5 arg6 X1 X2 X3 X4 h1 h2 h3 h4 k
    (stored1_5 i arg1 harg1 arg2 harg2 arg3 harg3 arg4 harg4 arg5 harg5 arg6 harg6 X1 X2 X3 X4 k c) (stored1_6 i arg1 harg1 arg2 harg2 arg3 harg3 arg4 harg4 arg5 harg5 arg6 harg6 X1 X2 X3 X4 k c) h

/-- A trip of the second loop, from the pieces it stores, is a tile's first step. -/
theorem step2 (k : Fin k0_t2_loop.trips) {L5 : List (View.Piece (Elt Ideal) S4096x128 .f32)} {L6 : List (View.Piece (Elt Ideal) S8192x128 .f32)}
    (e5 : L5 = [⟨Rect.unit (s := S4096x128) (k0_off4 k) S128x128.size (k0_off4_inb k), k0_pay3 (out2 (tq2 arg1 X1 k) (wk2 arg2 X2 k) (wv2 arg3 X3 k) (tt arg4 X4)) k0_pay53 k0_pay54⟩])
    (e6 : L6 = [⟨Rect.unit (s := S8192x128) (k0_off6 k) S256x128.size (k0_off6_inb k), k0_pay4 (keyOf (row2 k)) (tot2 (tq2 arg1 X1 k) (wk2 arg2 X2 k))⟩])
    {f5 : BufTy.Contents (Elt Ideal) arg5.view.ty} {f6 : BufTy.Contents (Elt Ideal) arg6.view.ty} (h : J arg5 arg6 Q K V (8 + k.val) f5 f6) :
    J arg5 arg6 Q K V (8 + (k.val + 1)) (arg5.view.writes (Elt Ideal) f5 L5) (arg6.view.writes (Elt Ideal) f6 L6) := by
  have hm : (8 + k.val) < 32 := by have := Nat.lt_of_lt_of_le k.isLt trips2.le; omega
  subst e5 e6
  have hq := stacked_at (Q := fun r d => Q (128 * (8 + k.val) + r.val) d) (tq2 arg1 X1 k) (fun r d => h1.load (off4_at k) _ r d trivial)
  have hk : ∀ s d, wk2 arg2 X2 k (ix2 s d) = ((K (128 * ((8 + k.val) - 2) + s.val) d : ℝ) : EReal) := fun s d => h2.load (off5_at k) _ s d trivial
  have hv : ∀ s d, wv2 arg3 X3 k (ix2 s d) = V (128 * ((8 + k.val) - 2) + s.val) d := fun s d => h3.load (off5_at k) _ s d trivial
  have ht := tri_at arg4 X4 h4
  have hz := score_sum (m := (8 + k.val)) hq hk
  have ho := out2_at (tq2 arg1 X1 k) (wk2 arg2 X2 k) (wv2 arg3 X3 k) (tt arg4 X4) ht hz hv
  have hl := tot2_at (tq2 arg1 X1 k) (wk2 arg2 X2 k) hz
  exact first_step hm h (off4_at k) (off6_at k) _ _ (keep := keep2)
    (fun R s => by show s.val < 256 + R.val % 128 ↔ 128 * (8 + k.val - 2) + s.val < 128 * (8 + k.val) + R.val % 128; omega)
    (tile2_at ho) (fun h3 => kept2_at (key2_pos k) hl)

/-- Every trip of the second loop is a tile's first step. -/
theorem kept2 (c : Dev nD) : Kept2 i arg1 harg1 arg2 harg2 arg3 harg3 arg4 harg4 arg5 harg5 arg6 harg6 X1 X2 X3 X4 c (fun n => J arg5 arg6 Q K V (8 + n)) :=
  fun k f5 f6 h => step2 arg1 arg2 arg3 arg4 arg5 arg6 X1 X2 X3 X4 h1 h2 h3 h4 k
    (stored2_5 i arg1 harg1 arg2 harg2 arg3 harg3 arg4 harg4 arg5 harg5 arg6 harg6 X1 X2 X3 X4 k c) (stored2_6 i arg1 harg1 arg2 harg2 arg3 harg3 arg4 harg4 arg5 harg5 arg6 harg6 X1 X2 X3 X4 k c) h

end Kept

end Cert.SbfKernelIdeal.Fwd

end
-- ==== Proof.SbfOlder.lean ====
/-
  The stick-breaking forward call: the loop over a tile's older keys brings its output down to key 0, and with it every tile's.
-/
module

public import proofs.«01_k».proof.Proof.SbfKeep
public import proofs.«01_k».proof.Proof.SbOlder

@[expose] public section

set_option maxRecDepth 65536

noncomputable section

open Idealize.ShloMosaic Idealize.ShloMosaic.TcCoe Idealize.SL.Sem
open Idealize.ShloMosaic.Rounds Idealize.ShloMosaic.Pipeline
open Cert.SbMath

namespace Cert.SbfKernelIdeal.Fwd

open Cert.SbfKernelIdeal Cert.SbfKernelIdeal.Gen
open Cert.SbKernelIdeal.Grad (up same logSum logSum_at score_sum mask1 mask3 keep1 keep2 keepw cols)

open Cert.SbKernelIdeal.Grad (key_down)

theorem off9_at {j : ℕ} (hj : j ≤ 32) : k0_off9 (BitVec.ofNat 32 (128 * j)) = ![128 * (j - 2), 0] := by
  show ![(Scalar.indexCast (Scalar.maxsi (Scalar.subi (BitVec.ofNat 32 (128 * j)) 256#32) 0#32)).toNat, 0] = _
  rw [key_down j hj]
  show ![(BitVec.ofNat 32 (128 * (j - 2))).toNat, 0] = _
  rw [BitVec.toNat_ofNat, Nat.mod_eq_of_lt (by omega)]

/-- The test fails only when no keys are left: its threshold is named −∞. -/
theorem goes_of {a : Cc0While1 Ideal} {j : ℕ} (hj : 0 < j) (hj2 : j ≤ 32) (hk : a.arg8 = BitVec.ofNat 32 (128 * j)) (ht : (⊥ : EReal) < a.arg11) :
    goes a = 1#1 := by
  have h1 : ∀ j, j ≤ 32 → 0 < j → Scalar.cmpi .sgt (BitVec.ofNat 32 (128 * j)) 0#32 = 1#1 := by decide
  have h2 : Scalar.cmpf .ogt a.arg11 (Named.named κ "cutoff" 0xC2B00000#32 : Ideal .f32) = 1#1 := by
    show BitVec.ofBool (decide ((⊥ : EReal) < a.arg11)) = 1#1
    rw [decide_eq_true ht]; rfl
  unfold goes
  rw [hk, h1 j hj2 hj, h2]; rfl

section Turns
variable (m : ℕ) (Q K : ℕ → Fin 128 → ℝ) (V : ℕ → Fin 128 → EReal)

/-- What the loop over tile `m`'s older keys carries when it has come down to tile `j`. -/
def Down (s : Carried Ideal) : Prop :=
  ∃ j, j ≤ m - 2 ∧ s.1 = BitVec.ofNat 32 (128 * j)
    ∧ (∀ (R : Fin 256) (d : Fin 128), s.2.2.1 (ix2 R d)
      = seen (part Q K V (R.val / 128) (rowOf m R) d) (128 * j) (128 * (m - 2)))
    ∧ (0 < j → (∀ R : Fin 256, s.2.1 (ix2 R 0) = ((above 4096 (lt Q K (R.val / 128) (rowOf m R)) (128 * j) : ℝ) : EReal)) ∧ (⊥ : EReal) < s.2.2.2)

variable {m Q K V} {a : Cc0While1 Ideal}

set_option maxHeartbeats 1600000 in
/-- Every turn comes two tiles further down. -/
theorem down_kept (hm : m < 32) {X2 : In2 a} {X3 : In3 a} {X4 : In4 a} (hp : a.v76 = cols)
    (hq : ∀ R d, a.v75 (ix2 R d) = ((stk (fun r => Q (128 * m + r)) R d * (1 / 8) : ℝ) : EReal))
    (h2 : Holds a.arg2.view X2 (up K) (fun _ => True)) (h3 : Holds a.arg3.view X3 V (fun _ => True))
    (h4 : Holds a.arg4.view X4 (up fun k (s : Fin 128) => tri k s.val) (fun _ => True)) :
    Kept a X2 X3 X4 (Down m Q K V) := by
  rintro ⟨w, c, acc, top⟩ hg hk ⟨j, hj, hw, hacc, hrest⟩
  have hj0 : 0 < j := by
    rcases Nat.eq_zero_or_pos j with h | h
    · subst h; exact absurd hg (key_zero _ hw)
    · exact h
  obtain ⟨hc, -⟩ := hrest hj0
  have hj32 : j ≤ 32 := by omega
  have hoff : k0_off9 w = ![128 * (j - 2), 0] := by
    have : w = BitVec.ofNat 32 (128 * j) := hw
    rw [this]; exact off9_at hj32
  have hmask : ∀ (R s : Fin 256), keepw w R s ↔ 128 * (j - 2) + s.val < rowOf m R ∧ 128 * (j - 2) + s.val < 128 * j := fun R s => by
    have h : w = BitVec.ofNat 32 (128 * j) := hw
    rw [keepw, h, mask3 hj32]; unfold rowOf; show 128 * (j - 2) + s.val < 128 * j ↔ _; omega
  have hu : ∀ s d, uk (moved a (w, c, acc, top)) X2 hk (ix2 s d) = ((K (128 * (j - 2) + s.val) d : ℝ) : EReal) := fun s d => h2.load hoff _ s d trivial
  have hv : ∀ s d, uv (moved a (w, c, acc, top)) X3 hk (ix2 s d) = V (128 * (j - 2) + s.val) d := fun s d => h3.load hoff _ s d trivial
  have ht : ∀ k s, ut (moved a (w, c, acc, top)) X4 (ix2 k s) = ((tri k.val s.val : ℝ) : EReal) := tri_at a.arg4 X4 h4
  have hz := score_sum (m := m) hq hu
  have H : ∀ R, Fits 4096 (rowOf m R) (zr Q K (R.val / 128) (rowOf m R)) (along Q K (R.val / 128) (rowOf m R)) (128 * (j - 2)) (128 * j) 256
      (zW Q K m (128 * (j - 2)) 256 R) (gW K Q m (128 * (j - 2)) 256 R) (keepw w R) := fun R =>
    fits (by omega) (by omega) R (fun s h1 h2 => by omega) (hmask R)
  refine ⟨j - 2, by omega, ?_, ?_, fun _ => ⟨?_, ?_⟩⟩
  · rw [next_key]
    have : w = BitVec.ofNat 32 (128 * j) := hw
    show Scalar.maxsi (Scalar.subi w 256#32) 0#32 = _
    rw [this]; exact key_down j hj32
  · intro R d
    show (trip (moved a (w, c, acc, top)) X2 X3 X4 hg hk).2.2.1 (ix2 R d) = _
    rw [turn_acc (moved a (w, c, acc, top)) hp]
    refine (acc3_at ht hc hz hv hacc R d).trans ?_
    rw [← seen_join (a := 128 * (j - 2)) (b := 128 * j) (by omega) (by omega), add_comm]
    exact congrArg (· + _) (o_step (H R) rfl (fun s => V s d))
  · intro R
    show (trip (moved a (w, c, acc, top)) X2 X3 X4 hg hk).2.1 (ix2 R 0) = _
    rw [turn_log (moved a (w, c, acc, top)) hp]
    exact (log3_at hc hz R).trans (same (c_step (H R) rfl))
  · show (⊥ : EReal) < (trip (moved a (w, c, acc, top)) X2 X3 X4 hg hk).2.2.2.1
    rw [turn_greatest (moved a (w, c, acc, top)) hp]
    exact top3_at hc hz

end Turns

theorem trips3 : k0_t3_loop.trips = 32 := by decide
theorem off7_at : ∀ k : Fin k0_t3_loop.trips, k0_off7 k = ![256 * k.val, 0] := by decide +kernel
theorem off8_at : ∀ k : Fin k0_t3_loop.trips, k0_off8 k = ![128 * k.val, 0] := by decide +kernel
theorem from3_at : ∀ k : Fin k0_t3_loop.trips, from3 k = BitVec.ofNat 32 (128 * (k.val - 2)) := by decide +kernel

section Kept
variable (i : grid0.Coords) (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S256x128 .bf16) (harg4 : arg4.IsWhole)
  (arg5 : Memref sig .tc .vmem S4096x128 .f32) (harg5 : arg5.IsWhole) (arg6 : Memref sig .tc .vmem S8192x128 .f32) (harg6 : arg6.IsWhole)
  (X1 : BufTy.Contents (Elt Ideal) arg1.view.ty) (X2 : BufTy.Contents (Elt Ideal) arg2.view.ty) (X3 : BufTy.Contents (Elt Ideal) arg3.view.ty)
  (X4 : BufTy.Contents (Elt Ideal) arg4.view.ty)
variable {Q K : ℕ → Fin 128 → ℝ} {V : ℕ → Fin 128 → EReal} (h1 : Holds arg1.view X1 (up Q) (fun _ => True)) (h2 : Holds arg2.view X2 (up K) (fun _ => True))
  (h3 : Holds arg3.view X3 V (fun _ => True)) (h4 : Holds arg4.view X4 (up fun k (s : Fin 128) => tri k s.val) (fun _ => True))

include h1 h2 h3 h4

/-- A trip of the last loop, from what it calls the loop over older keys with and the piece it stores. -/
theorem last_step (k : Fin k0_t3_loop.trips) {p : IVec S256x256 32} {q : FVec Ideal S256x128 .bf16} {n : BitVec 32}
    {u : FVec Ideal S256x1 .f32} {w : FVec Ideal S256x128 .f32} {x : Ideal .f32}
    {L : FVec Ideal S256x128 .f32 → BufTy.Contents (Elt Ideal) arg5.view.ty → List (View.Piece (Elt Ideal) S4096x128 .f32)}
    {f5 : BufTy.Contents (Elt Ideal) arg5.view.ty} {X6 : BufTy.Contents (Elt Ideal) arg6.view.ty}
    (ep : p = cols) (eq : q = stacked (tq3 arg1 X1 k)) (en : n = from3 k)
    (eu : u = tc3 arg6 X6 k) (ew : w = k0_pay61) (ex : x = k0_pay62 (tc3 arg6 X6 k))
    (eL : ∀ r, L r f5 = [⟨Rect.unit (s := S4096x128) (k0_off8 k) S128x128.size (k0_off8_inb k), k0_pay5 r
        (k0_pay63 (View.readAt (Elt Ideal) arg5.view (Rect.unit (s := S4096x128) (k0_off8 k) S128x128.size (k0_off8_inb k)).toLoadRect f5))
        lane 64#32 k0_pay64⟩])
    (h : J arg5 arg6 Q K V (32 + k.val) f5 X6) :
    ∃ P : Carried Ideal → Prop,
      Kept (rec3 i arg2 harg2 arg3 harg3 arg4 harg4 k p q (n, u, w, x)) X2 X3 X4 P
      ∧ P (n, u, w, x)
      ∧ ∀ r1 r2 r3 r4, P (r1, r2, r3, r4) → ¬goes (rec3 i arg2 harg2 arg3 harg3 arg4 harg4 k p q (r1, r2, r3, r4)) = 1#1 →
          J arg5 arg6 Q K V (32 + (k.val + 1)) (arg5.view.writes (Elt Ideal) f5 (L r3 f5)) X6 := by
  have hm : k.val < 32 := Nat.lt_of_lt_of_le k.isLt trips3.le
  obtain ⟨g5, g6⟩ := h
  have hq := stacked_at (Q := fun r d => Q (128 * k.val + r.val) d) (tq3 arg1 X1 k) (fun r d => h1.load (off8_at k) _ r d trivial)
  have hlog : 0 < k.val - 2 → ∀ R : Fin 256, tc3 arg6 X6 k (ix2 R 0)
      = ((above 4096 (lt Q K (R.val / 128) (rowOf k.val R)) (128 * (k.val - 2)) : ℝ) : EReal) := fun h R => by
    rw [← logSum_at]
    exact g6.loadFirst (off7_at k) _ (by norm_num) R ⟨by omega, by omega⟩
  subst ep eq en eu ew ex
  refine ⟨Down k.val Q K V, down_kept hm rfl hq h2 h3 h4, ?_, ?_⟩
  · refine ⟨k.val - 2, le_refl _, from3_at k, fun R d => ?_, fun h => ⟨hlog h, first_top (hlog h)⟩⟩
    rw [seen_none]; exact nothing_at R d
  · rintro r1 r2 r3 r4 ⟨j, hj, hkey, hacc, hrest⟩ hstop
    have hj0 : j = 0 := by
      rcases Nat.eq_zero_or_pos j with h | h
      · exact h
      · exact absurd (goes_of (j := j) h (by omega) hkey (hrest h).2) hstop
    subst hj0
    rw [J, ← Nat.add_assoc, bound_second hm]
    refine ⟨?_, g6.mono (fun t ht hP => ⟨hP.1, by omega⟩) fun _ _ _ _ => rfl⟩
    rw [eL]
    refine g5.store (off8_at k) _ _ (fun r d _ => ?_) fun t d ht hn hP => ?_
    · refine (tile3_at hacc (fun r d => g5.load (off8_at k) _ r d (by show (128 * k.val + r.val) / 128 < 32 + k.val; omega)) r d).trans ?_
      have hR : (128 * (d.val / 64) + r.val) / 128 = d.val / 64 := by omega
      have hR2 : rowOf k.val (headRow r d) = 128 * k.val + r.val := by
        show 128 * k.val + (128 * (d.val / 64) + r.val) % 128 = _; omega
      have hm2 : (128 * k.val + r.val) / 128 = k.val := by omega
      show oA Q K V _ _ d (bound (32 + k.val) ((128 * k.val + r.val) / 128)) + seen (part Q K V ((128 * (d.val / 64) + r.val) / 128) _ d) (128 * 0) _ = oA Q K V _ _ d (Function.update (bound (32 + k.val)) k.val 0 ((128 * k.val + r.val) / 128))
      rw [hm2, Function.update_self, bound_rest hm, hR, hR2, Nat.mul_zero, add_comm]
      exact seen_join (Nat.zero_le _) (by omega)
    · have hne : t / 128 ≠ k.val := by omega
      refine ⟨by show t / 128 < 32 + k.val; omega, ?_⟩
      show oA Q K V _ t d _ = oA Q K V _ t d _
      simp only [Function.update_of_ne hne]

/-- Every trip of the last loop takes its tile through all older keys. -/
theorem kept3 : Kept3 i arg1 harg1 arg2 harg2 arg3 harg3 arg4 harg4 arg5 harg5 arg6 harg6 X1 X2 X3 X4 (fun n => J arg5 arg6 Q K V (32 + n)) :=
  fun k f5 X6 h => last_step i arg1 arg2 harg2 arg3 harg3 arg4 harg4 arg5 arg6 X1 X2 X3 X4 h1 h2 h3 h4 k
    (start3_cols i arg1 harg1 arg2 harg2 arg3 harg3 arg4 harg4 arg5 harg5 arg6 harg6 X1 X2 X3 X4 X6 k) (start3_query i arg1 harg1 arg2 harg2 arg3 harg3 arg4 harg4 arg5 harg5 arg6 harg6 X1 X2 X3 X4 X6 k) (start3_key i arg1 harg1 arg2 harg2 arg3 harg3 arg4 harg4 arg5 harg5 arg6 harg6 X1 X2 X3 X4 X6 k) (start3_log i arg1 harg1 arg2 harg2 arg3 harg3 arg4 harg4 arg5 harg5 arg6 harg6 X1 X2 X3 X4 X6 k) (start3_acc i arg1 harg1 arg2 harg2 arg3 harg3 arg4 harg4 arg5 harg5 arg6 harg6 X1 X2 X3 X4 X6 k) (start3_top i arg1 harg1 arg2 harg2 arg3 harg3 arg4 harg4 arg5 harg5 arg6 harg6 X1 X2 X3 X4 X6 k)
    (fun r => stored3_5 i arg1 harg1 arg2 harg2 arg3 harg3 arg4 harg4 arg5 harg5 arg6 harg6 X1 X2 X3 X4 X6 k r f5) h

end Kept

end Cert.SbfKernelIdeal.Fwd

end
-- ==== Proof.SbfPoint.lean ====
/-
  The stick-breaking forward call: what one point of the grid, a pair of heads, writes to the output, when the pair's blocks of
  the queries and keys are real numbers. The values may be infinite.
-/
module

public import proofs.«01_k».proof.Proof.SbfIdealFrame
public import proofs.«01_k».proof.Proof.SbfOlder
public import proofs.«01_k».proof.Proof.SbPoint

@[expose] public section

set_option maxRecDepth 65536

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SbMath

namespace Cert.SbfKernelIdeal.Fwd

open Cert.SbfKernelIdeal Cert.SbfKernelIdeal.Gen
open Cert.SbKernelIdeal.Grad (up same cut)

local notation "𝕄" => MT nD τ sig Unit (Elt Ideal) ℕ (UR sig nD τ) ℕ

/-- The output of a pair of heads: over all keys, weight by value. -/
def oOut (Q K : ℕ → Fin 128 → ℝ) (V : ℕ → Fin 128 → EReal) (t : ℕ) (d : Fin 128) : EReal :=
  ∑ s ∈ Finset.range 4096, ((wt Q K (d.val / 64) t s : ℝ) : EReal) * V s d

/-- The values' columns of a pair of heads. -/
def vcut (A : ℕ → ℕ → EReal) (p : ℕ) : ℕ → Fin 128 → EReal := fun t d => A t (128 * p + d.val)

/-- What the point of pair `p` writes. -/
def outs (q k : Dev nD → ℕ → ℕ → ℝ) (v : Dev nD → ℕ → ℕ → EReal) (c : Dev nD) (p : Fin (cfg0 (F := Ideal)).N) : Vec Ideal S4096x128 .f32 :=
  fun x => oOut (cut (q c) p) (cut (k c) p) (vcut (v c) p) (x 0).val (x 1)

variable (m : (ℓ : Loc nD τ sig) → Buf (Elt Ideal) ℓ)

/-- The blocks that a pair of heads is called with are these numbers, the triangle of ones among them. -/
structure Found (q k : Dev nD → ℕ → ℕ → ℝ) (v : Dev nD → ℕ → ℕ → EReal) (c : Dev nD) (p : Fin (cfg0 (F := Ideal)).N) : Prop where
  hq : ∀ r d, iblk m c 0 p (ix2 r d) = up (cut (q c) p) r.val d
  hk : ∀ r d, iblk m c 1 p (ix2 r d) = up (cut (k c) p) r.val d
  hv : ∀ r d, iblk m c 2 p (ix2 r d) = vcut (v c) p r.val d
  ht : ∀ (r : Fin 256) (d : Fin 128), iblk m c 3 p (ix2 r d) = ((tri r.val d.val : ℝ) : EReal)

/-- A view whose entries are known holds them. -/
theorem holds_of {W H : ℕ} {e : EltTy} {κ : Kind} {sp : Space} {v : View sig κ sp (⟨2, ![H, W]⟩ : Shape) e} {X : v.ty.Contents (Elt Ideal)}
    {x : (⟨2, ![H, W]⟩ : Shape).Idx → Elt Ideal e} {A : ℕ → Fin W → Elt Ideal e} (h : v.read (Elt Ideal) X = x) (hx : ∀ r d, x (ix2 r d) = A r.val d) :
    Holds v X A (fun _ => True) := fun r d _ => (congrFun h _).trans (hx r d)

section Ends
variable {arg5 : Memref sig .tc .vmem S4096x128 .f32} {arg6 : Memref sig .tc .vmem S8192x128 .f32} {Q K : ℕ → Fin 128 → ℝ} {V : ℕ → Fin 128 → EReal}
  {f5 : BufTy.Contents (Elt Ideal) arg5.view.ty} {f6 : BufTy.Contents (Elt Ideal) arg6.view.ty}

/-- Before the first tile nothing is said. -/
theorem J_start : J arg5 arg6 Q K V 0 f5 f6 :=
  ⟨fun t d h => absurd h (Nat.not_lt_zero _), fun t d h => absurd h.2 (Nat.not_lt_zero _)⟩

/-- After the last tile the output is whole. -/
theorem J_end (h : J arg5 arg6 Q K V 64 f5 f6) (x : S4096x128.Idx) :
    arg5.view.read (Elt Ideal) f5 x = oOut Q K V (x 0).val (x 1) := by
  have hb : (x 0).val < 4096 := (x 0).isLt
  have hx := h.1 (x 0) (x 1) (by show (x 0).val / 128 < 64; omega)
  rw [← eq_ix2 x] at hx
  rw [hx]
  exact (congrArg (oA Q K V _ _ _) (bound_end (by omega))).trans seen_all

end Ends

variable {m} {q k : Dev nD → ℕ → ℕ → ℝ} {v : Dev nD → ℕ → ℕ → EReal} {c : Dev nD} {p : Fin (cfg0 (F := Ideal)).N}

/-- The three loops keep what the buffers hold, at a pair's blocks. -/
theorem kept_at (hin : Found m q k v c p) : ∀ X1 X2 X3 X4, (ms0_0 p).view.read (Elt Ideal) X1 = iblk m c 0 p → (ms0_1 p).view.read (Elt Ideal) X2 = iblk m c 1 p
        → (ms0_2 p).view.read (Elt Ideal) X3 = iblk m c 2 p → (ms0_3 p).view.read (Elt Ideal) X4 = iblk m c 3 p →
      Kept1 (F := Ideal) (grid0.coords p) (ms0_0 p) (hs0_0 p) (ms0_1 p) (hs0_1 p) (ms0_2 p) (hs0_2 p) (ms0_3 p) (hs0_3 p) (ms0_4 p) (hs0_4 p) scM0_0 (Memref.isWhole_whole _) X1 X2 X3 X4 c (J (ms0_4 p) scM0_0 (cut (q c) p) (cut (k c) p) (vcut (v c) p))
      ∧ Kept2 (F := Ideal) (grid0.coords p) (ms0_0 p) (hs0_0 p) (ms0_1 p) (hs0_1 p) (ms0_2 p) (hs0_2 p) (ms0_3 p) (hs0_3 p) (ms0_4 p) (hs0_4 p) scM0_0 (Memref.isWhole_whole _) X1 X2 X3 X4 c (fun n => J (ms0_4 p) scM0_0 (cut (q c) p) (cut (k c) p) (vcut (v c) p) (Scf.trips k0_t1_loop.lb k0_t1_loop.ub k0_t1_loop.st + n))
      ∧ Kept3 (F := Ideal) (grid0.coords p) (ms0_0 p) (hs0_0 p) (ms0_1 p) (hs0_1 p) (ms0_2 p) (hs0_2 p) (ms0_3 p) (hs0_3 p) (ms0_4 p) (hs0_4 p) scM0_0 (Memref.isWhole_whole _) X1 X2 X3 X4 (fun n => J (ms0_4 p) scM0_0 (cut (q c) p) (cut (k c) p) (vcut (v c) p) (Scf.trips k0_t1_loop.lb k0_t1_loop.ub k0_t1_loop.st + Scf.trips k0_t2_loop.lb k0_t2_loop.ub k0_t2_loop.st + n)) := by
  intro X1 X2 X3 X4 e1 e2 e3 e4
  have h1 := holds_of (A := up (cut (q c) p)) e1 hin.hq
  have h2 := holds_of (A := up (cut (k c) p)) e2 hin.hk
  have h3 := holds_of (A := vcut (v c) p) e3 hin.hv
  have h4 := holds_of (A := up fun r (s : Fin 128) => tri r s.val) e4 hin.ht
  exact ⟨kept1 (grid0.coords p) (ms0_0 p) (hs0_0 p) (ms0_1 p) (hs0_1 p) (ms0_2 p) (hs0_2 p) (ms0_3 p) (hs0_3 p) (ms0_4 p) (hs0_4 p) scM0_0 (Memref.isWhole_whole _) X1 X2 X3 X4 h1 h2 h3 h4 c,
    kept2 (grid0.coords p) (ms0_0 p) (hs0_0 p) (ms0_1 p) (hs0_1 p) (ms0_2 p) (hs0_2 p) (ms0_3 p) (hs0_3 p) (ms0_4 p) (hs0_4 p) scM0_0 (Memref.isWhole_whole _) X1 X2 X3 X4 h1 h2 h3 h4 c,
    kept3 (grid0.coords p) (ms0_0 p) (hs0_0 p) (ms0_1 p) (hs0_1 p) (ms0_2 p) (hs0_2 p) (ms0_3 p) (hs0_3 p) (ms0_4 p) (hs0_4 p) scM0_0 (Memref.isWhole_whole _) X1 X2 X3 X4 h1 h2 h3 h4⟩

set_option maxHeartbeats 1200000 in
/-- One point of the pipeline: from the pair's blocks to the pair's output. -/
theorem point_value (hin : Found m q k v c p) :
    iprop((dats m (outs q k v) 0 c).Φ p.castSucc ∗ (dats m (outs q k v) 0 c).owesAt () p.castSucc
    ∗ (∃ d, owns (c : Thread nD τ) (ms0_0 p) fullShare ((dats m (outs q k v) 0 c).before 0 p d))
    ∗ (∃ d, owns (c : Thread nD τ) (ms0_1 p) fullShare ((dats m (outs q k v) 0 c).before 1 p d))
    ∗ (∃ d, owns (c : Thread nD τ) (ms0_2 p) fullShare ((dats m (outs q k v) 0 c).before 2 p d))
    ∗ (∃ d, owns (c : Thread nD τ) (ms0_3 p) fullShare ((dats m (outs q k v) 0 c).before 3 p d))
    ∗ (∃ d, owns (c : Thread nD τ) (ms0_4 p) fullShare ((dats m (outs q k v) 0 c).before 4 p d)))
    ⊢ wp Idealize.ShloMosaic.frame (wpE (defs₀ (F := Ideal)) turns (c : Thread nD τ) none) Set.univ (bodyAt0 p) (fun _ =>
      iprop((dats m (outs q k v) 0 c).Φ p.succ ∗ (dats m (outs q k v) 0 c).owesAt () p.succ
    ∗ owns (c : Thread nD τ) (ms0_0 p) fullShare ((dats m (outs q k v) 0 c).after 0 p)
    ∗ owns (c : Thread nD τ) (ms0_1 p) fullShare ((dats m (outs q k v) 0 c).after 1 p)
    ∗ owns (c : Thread nD τ) (ms0_2 p) fullShare ((dats m (outs q k v) 0 c).after 2 p)
    ∗ owns (c : Thread nD τ) (ms0_3 p) fullShare ((dats m (outs q k v) 0 c).after 3 p)
    ∗ owns (c : Thread nD τ) (ms0_4 p) fullShare ((dats m (outs q k v) 0 c).after 4 p))) := by
  simp only [before0_0, before0_1, before0_2, before0_3]
  rw [show (dats m (outs q k v) 0 c).Φ p.succ = (dats m (outs q k v) 0 c).Φ p.castSucc from rfl,
    show (dats m (outs q k v) 0 c).owesAt () p.succ = (dats m (outs q k v) 0 c).owesAt () p.castSucc from rfl,
    after0_0, after0_1, after0_2, after0_3, after0_4]
  rw [show (dats m (outs q k v) 0 c).Φ p.castSucc = Pipeline.ΦA spec0 c from rfl, PhiA0_eq]
  iintro ⟨HS, Ho, ⟨%d0, H0⟩, ⟨%d1, H1⟩, ⟨%d2, H2⟩, ⟨%d3, H3⟩, ⟨%d4, H4⟩⟩
  iapply (wp_wand_r Idealize.ShloMosaic.frame (wpE (defs₀ (F := Ideal)) turns (c : Thread nD τ) none) Set.univ)
  isplitl [HS H0 H1 H2 H3 H4]
  · iapply (body_at c p (J (ms0_4 p) scM0_0 (cut (q c) p) (cut (k c) p) (vcut (v c) p))
      (iblk m c 0 p) (iblk m c 1 p) (iblk m c 2 p) (iblk m c 3 p) (kept_at hin) (fun _ _ => J_start))
    isplitl [HS]; · iexact HS
    isplitl [H0 H1 H2 H3]
    · isplitl [H0]; · iexact H0
      isplitl [H1]; · iexact H1
      isplitl [H2]; · iexact H2
      iexact H3
    iexists _; iexact H4
  iintro %_ ⟨HS, ⟨H0, H1, H2, H3⟩, %g5, %g6, H4, %hend⟩
  rw [show (ms0_4 p).view.read (Elt Ideal) g5 = outs q k v c p from funext (J_end hend)]
  isplitl [HS]; · iexact HS
  isplitl [Ho]; · iexact Ho
  isplitl [H0]; · iexact H0
  isplitl [H1]; · iexact H1
  isplitl [H2]; · iexact H2
  isplitl [H3]; · iexact H3
  iexact H4

/-- The pipeline's obligation. -/
theorem body_value (hin : ∀ p, Found m q k v c p) : Pipeline.BodyObligation (dats m (outs q k v) 0 c) (defs₀ (F := Ideal)) turns () Set.univ := fun t => by
  rw [bigSep_W0, bigSep_W0, defs₀_row]
  exact triple_restated (point_value (hin t)) rfl .rfl fun _ => .rfl

set_option backward.isDefEq.respectTransparency.types false in
/-- The launch: every run ends with the output's array as the points wrote it, the other buffers as the region found them. -/
theorem run_value (ρ : Dev nD → PrngReg) (hin : ∀ c p, Found m q k v c p) :
    θ_run defs (onTc (τ := τ) (main (F := Ideal))) (s₀ m ρ)
      (fun r => Pipeline.FramePost (cfgs (F := Ideal)) (dats m (outs q k v)) 0 (V m) r ∧ r.2.sem = fun _ => 0) :=
  Pipeline.θ_run_frame_shared (cfgs (F := Ideal)) (dats m (outs q k v)) (0 : Fin 1) launch₀0 defs₀ turns m ρ main
    (hbody := fun c => Pipeline.BodyObligation.loose _ (body_value (hin c))) (hq := fun _ _ _ => rfl)
    (howed := fun _ _ => rfl) (V := V m) (hmain := hmain m turns) (hA := A_eq m (outs q k v)) (hΦ := fun _ _ => rfl)
    (Q' := _) (hQ' := fun _ h => h)

end Cert.SbfKernelIdeal.Fwd

end
-- ==== Proof.SbfValue.lean ====
module

public import proofs.«01_k».proof.Proof.SbfPoint
public import proofs.«01_k».proof.Proof.SbFound
public import proofs.«01_k».proof.Proof.Gen.SbfReferenceIdeal.Run
public import proofs.«01_k».proof.Pre_sbf_finite
public import proofs.«01_k».proof.Proof.Ordinary
public import Idealize.ShloMosaic.Lib.Pipeline.ValueKit
public import Idealize.ShloMosaic.Lib.Claim

/-!
The attention's output that the forward launch leaves is the reference's.
-/

@[expose] public section

set_option maxRecDepth 16384

noncomputable section

open Idealize.ShloMosaic Idealize.ShloMosaic.TcCoe Idealize.SL.Sem
open Idealize.ShloMosaic.Pipeline (Dat)
open scoped BigOperators

namespace Cert.SbfKernelIdeal.Fwd

open Cert.SbfKernelIdeal Cert.SbfKernelIdeal.Gen Cert.SbMath
open Cert.SbReferenceIdeal.Chain (Rows RealRows attended heads weights_at scores_at score)
open Cert.SbKernelIdeal.Grad (up same cut real Finite real_rows joined joined_q joined_k joined_v corners corners_at)

/-- Every window's block at every grid point. -/
theorem idx : ∀ t : Fin grid0.N, win0_0.index t = ![0, t.val] ∧ win0_1.index t = ![0, 4 + t.val] ∧ win0_2.index t = ![0, 8 + t.val]
    ∧ win0_3.index t = ![0, 0] ∧ win0_4.index t = ![0, t.val] :=
  (by decide +kernel : ∀ t : Fin grid0.N, _)

variable (m : (ℓ : Loc nD τ sig) → Buf (Elt Ideal) ℓ) (c : Dev nD) (p : Fin (cfg0 (F := Ideal)).N)

theorem inside (d : Fin 128) : 128 * p.val + d.val < 512 := by
  have h : p.val < 4 := lt_of_lt_of_eq p.isLt N_0
  omega

/-- The launch is called with the projections side by side, and with the triangle twice. -/
theorem host_joined : V m c main_v11 = joined (m ((c : Thread nD τ).loc main_arg0)) (m ((c : Thread nD τ).loc main_arg1)) (m ((c : Thread nD τ).loc main_arg2)) := rfl
@[inherit_doc host_joined]
theorem host_corners : V m c main_v8 = corners := rfl

theorem block_q (r : Fin 4096) (d : Fin 128) : iblk m c 0 p (ix2 r d) = V m c main_v11 (ix2 r ⟨128 * p.val + d.val, by have := inside p d; omega⟩) := by
  blk_point [iblk, idx p]

theorem block_k (r : Fin 4096) (d : Fin 128) : iblk m c 1 p (ix2 r d) = V m c main_v11 (ix2 r ⟨512 + (128 * p.val + d.val), by have := inside p d; omega⟩) := by
  blk_point [iblk, idx p]

theorem block_v (r : Fin 4096) (d : Fin 128) : iblk m c 2 p (ix2 r d) = V m c main_v11 (ix2 r ⟨1024 + (128 * p.val + d.val), by have := inside p d; omega⟩) := by
  blk_point [iblk, idx p]

theorem block_t (r : Fin 256) (d : Fin 128) : iblk m c 3 p (ix2 r d) = V m c main_v8 (ix2 r d) := by
  blk_point [iblk, idx p]

/-- The queries' and the keys' rows, as real numbers. -/
def qs (c : Dev nD) : ℕ → ℕ → ℝ := real (m ((c : Thread nD τ).loc main_arg0))
@[inherit_doc qs]
def ks (c : Dev nD) : ℕ → ℕ → ℝ := real (m ((c : Thread nD τ).loc main_arg1))
/-- An array by rows and columns. -/
def entries (A : Rows) (t j : ℕ) : EReal := if h : t < 4096 ∧ j < 512 then A (ix2 ⟨t, h.1⟩ ⟨j, h.2⟩) else 0

theorem entries_at (A : Rows) (t : Fin 4096) (j : Fin 512) : entries A t j = A (ix2 t j) := dif_pos ⟨t.isLt, j.isLt⟩

/-- The values' rows. -/
def vs (c : Dev nD) : ℕ → ℕ → EReal := entries (m ((c : Thread nD τ).loc main_arg2))

/-- Every query and every key is finite. -/
def AllFinite (c : Dev nD) : Prop := Finite (m ((c : Thread nD τ).loc main_arg0)) ∧ Finite (m ((c : Thread nD τ).loc main_arg1))

/-- An array that agrees with every pair's block of the output is what the run leaves there. -/
theorem filled_4 (o : Dev nD → Fin (cfg0 (F := Ideal)).N → FVec Ideal S4096x128 .f32) (G : Rows)
    (h : ∀ (p : Fin (cfg0 (F := Ideal)).N) (r : Fin 4096) (d : Fin 128), o c p (ix2 r d) = G (ix2 r ⟨128 * p.val + d.val, inside p d⟩)) :
    (dats m o 0 c).arrAt 4 (cfg0 (F := Ideal)).N = G := by
  refine (dats m o 0 c).arrAt_eq_of_covers 4 _ (by decide +kernel) fun t hf y => ?_
  blk_simp; rw [after0_4]
  obtain ⟨r, d, rfl⟩ : ∃ (r : Fin 4096) (d : Fin 128), y = ix2 r d := ⟨y 0, y 1, (ix2_eta y).symm⟩
  rw [h]
  refine congrArg G ?_
  blk_point [idx t]

/-- The reference's output is the weighted sum of the values, finite or not. -/
theorem output_at {A B : Rows} {a b : ℕ → ℕ → ℝ} (hA : RealRows A a) (hB : RealRows B b) (C : Rows) (t : Fin 4096) (j : Fin 512) :
    attended A B C (ix2 t j) = ∑ s ∈ Finset.range 4096, ((ww 4096 t.val (score a b (j.val / 64) t.val) s : ℝ) : EReal) * entries C s j.val := by
  pointwise [attended, heads]
  refine Eq.trans ?_ (Finset.sum_range fun s => ((ww 4096 t.val (score a b (j.val / 64) t.val) s : ℝ) : EReal) * entries C s j.val).symm
  refine Finset.sum_congr rfl fun x _ => ?_
  rw [weights_at (scores_at hA hB), mul_comm, entries_at]

section Finite
variable (h : AllFinite m c)
include h

/-- What a point finds. -/
theorem found : Found m (qs m) (ks m) (vs m) c p where
  hq r d := (block_q m c p r d).trans ((congrFun (host_joined m c) _).trans ((joined_q _ _ _ _ _ (inside p d)).trans (real_rows h.1 _ _)))
  hk r d := (block_k m c p r d).trans ((congrFun (host_joined m c) _).trans ((joined_k _ _ _ _ _ (inside p d)).trans (real_rows h.2 _ _)))
  hv r d := (block_v m c p r d).trans ((congrFun (host_joined m c) _).trans ((joined_v _ _ _ _ _ (inside p d)).trans (entries_at _ _ _).symm))
  ht r d := (block_t m c p r d).trans ((congrFun (host_corners m c) _).trans (corners_at r d))

/-- A pair's block of the output. -/
theorem out_at (r : Fin 4096) (d : Fin 128) :
    outs (qs m) (ks m) (vs m) c p (ix2 r d)
      = attended (m ((c : Thread nD τ).loc main_arg0)) (m ((c : Thread nD τ).loc main_arg1)) (m ((c : Thread nD τ).loc main_arg2))
          (ix2 r ⟨128 * p.val + d.val, inside p d⟩) := by
  have hd : d.val / 64 < 2 := by omega
  refine Eq.trans ?_ (output_at (real_rows h.1) (real_rows h.2) _ r ⟨128 * p.val + d.val, inside p d⟩).symm
  show oOut (cut (qs m c) p) (cut (ks m c) p) (vcut (vs m c) p) r.val d = _
  rw [oOut]
  refine Finset.sum_congr rfl fun s _ => ?_
  refine congrArg (fun z : ℕ → ℝ => ((ww 4096 r.val z s : ℝ) : EReal) * vcut (vs m c) p s d) (funext fun s => ?_)
  exact (zr_cut (qs m c) (ks m c) p _ r.val s hd).trans
    (congrArg (fun j => score (qs m c) (ks m c) j r.val s) (show 2 * p.val + d.val / 64 = (128 * p.val + d.val) / 64 by omega))

/-- The output after the run. -/
theorem final_4 : (dats m (outs (qs m) (ks m) (vs m)) 0 c).arrAt 4 (cfg0 (F := Ideal)).N
    = attended (m ((c : Thread nD τ).loc main_arg0)) (m ((c : Thread nD τ).loc main_arg1)) (m ((c : Thread nD τ).loc main_arg2)) :=
  filled_4 m c _ _ fun p => out_at m c p h

end Finite

/-- Two bits whose conjunction is set are set. -/
theorem both {a b : BitVec 1} (h : a &&& b = 1#1) : a = 1#1 ∧ b = 1#1 := by revert a b; decide

/-- The precondition is that every query and every key is finite. -/
theorem all_finite [Cert.Pre_sbf_finite.Facts] (hp : Cert.Pre_SbfKernelIdeal_sbf_finite m) : AllFinite m c := by
  have h := hp c
  unfold Cert.Pre_sbf_finite.fn at h
  have key := fun i => both (congrFun h i)
  exact ⟨fun i => Cert.Ordinary.ordinary Cert.Pre_sbf_finite.Facts.bcast_S_S4096x512 (key i).1, fun i => Cert.Ordinary.ordinary Cert.Pre_sbf_finite.Facts.bcast_S_S4096x512 (key i).2⟩

/-- The reference's result is the attention's output. -/
theorem result (m : (ℓ : Loc Cert.SbfReferenceIdeal.nD Cert.SbfReferenceIdeal.τ Cert.SbfReferenceIdeal.sig) → Buf (Elt Ideal) ℓ) (c : Dev Cert.SbfReferenceIdeal.nD) :
    Cert.SbfReferenceIdeal.Value.res_main_v24 m c
      = attended (m ((c.tc : Thread Cert.SbfReferenceIdeal.nD Cert.SbfReferenceIdeal.τ).loc Cert.SbfReferenceIdeal.main_arg0))
          (m ((c.tc : Thread Cert.SbfReferenceIdeal.nD Cert.SbfReferenceIdeal.τ).loc Cert.SbfReferenceIdeal.main_arg1))
          (m ((c.tc : Thread Cert.SbfReferenceIdeal.nD Cert.SbfReferenceIdeal.τ).loc Cert.SbfReferenceIdeal.main_arg2)) := rfl

/-- The kernel's output is the reference's, on finite queries and keys. -/
theorem value [Cert.Pre_sbf_finite.Facts] : Cert.algebraic_SbfKernelIdeal_SbfReferenceIdeal_pre_sbf_finite := by
  intro m g m' g' hp hagree
  have hfin := fun c => all_finite m c hp
  refine ⟨fun c => attended (m ((c : Thread nD τ).loc main_arg0)) (m ((c : Thread nD τ).loc main_arg1)) (m ((c : Thread nD τ).loc main_arg2)), ?_, ?_⟩
  · refine θ_run_mono (run_value (m := m) g fun c p => found m c p (hfin c)) fun r h c => ?_
    have hc := h.1 c
    exact ⟨(hc.1 4).trans (final_4 m c (hfin c)),
      (hc.2 main_arg0 (Pipeline.mem_restRefs_of main_arg0 (by decide) (by decide : ∀ w : Fin 5, (spec0 w).arr.view.ref ≠ main_arg0))).trans (V_main_arg0 m c),
      (hc.2 main_arg1 (Pipeline.mem_restRefs_of main_arg1 (by decide) (by decide : ∀ w : Fin 5, (spec0 w).arr.view.ref ≠ main_arg1))).trans (V_main_arg1 m c),
      (hc.2 main_arg2 (Pipeline.mem_restRefs_of main_arg2 (by decide) (by decide : ∀ w : Fin 5, (spec0 w).arr.view.ref ≠ main_arg2))).trans (V_main_arg2 m c)⟩
  · refine θ_run_mono (Cert.SbfReferenceIdeal.Value.run m' g') fun r h c => ?_
    obtain ⟨e0, e1, e2⟩ := hagree c
    obtain ⟨h0, h1⟩ := h c
    refine ⟨h0.trans ((result m' c).trans ?_), h1⟩
    rw [e0, e1, e2]

end Cert.SbfKernelIdeal.Fwd

end
-- ==== Proof.lean ====
module

public import proofs.«01_k».proof.Defs
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateReferenceIdeal
public import proofs.«01_k».proof.Proof.Gen.ReluKernel
public import proofs.«01_k».proof.Proof.Gen.ReluKernel.Skeleton
public import proofs.«01_k».proof.Proof.Gen.ReluKernel.Launch
public import proofs.«01_k».proof.Proof.Gen.ReluKernel.Points
public import proofs.«01_k».proof.Proof.Gen.ReluKernel.Frame
public import proofs.«01_k».proof.Proof.Gen.ReluKernelIdeal
public import proofs.«01_k».proof.Proof.Gen.ReluKernelIdeal.Skeleton
public import proofs.«01_k».proof.Proof.Gen.ReluKernelIdeal.Launch
public import proofs.«01_k».proof.Proof.Gen.ReluKernelIdeal.Points
public import proofs.«01_k».proof.Proof.Gen.ReluKernelIdeal.Frame
public import proofs.«01_k».proof.Proof.Gen.ReluReferenceIdeal
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.GateKernelIdeal.Value
public import proofs.«01_k».proof.Proof.Gen.GateReferenceIdeal.Run
public import proofs.«01_k».proof.Proof.Gen.ReluKernelIdeal.Value
public import proofs.«01_k».proof.Proof.Gen.ReluReferenceIdeal.Run
public import proofs.«01_k».proof.Proof.Gen.LossKernelIdeal.Value
public import proofs.«01_k».proof.Proof.Gen.LossReferenceIdeal.Run
public import proofs.«01_k».proof.Proof.Gen.SbKernel.Skeleton
public import proofs.«01_k».proof.Proof.Gen.SbKernel.Loops
public import proofs.«01_k».proof.Proof.Gen.SbKernelIdeal.Skeleton
public import proofs.«01_k».proof.Proof.Gen.SbKernelIdeal.Loops
public import proofs.«01_k».proof.Proof.Gen.SbReferenceIdeal.Run
public import proofs.«01_k».proof.Proof.Gen.MlpKernel
public import proofs.«01_k».proof.Proof.Gen.MlpKernel.Skeleton
public import proofs.«01_k».proof.Proof.Gen.MlpKernel.Launch
public import proofs.«01_k».proof.Proof.Gen.MlpKernel.Points
public import proofs.«01_k».proof.Proof.Gen.MlpKernel.Frame
public import proofs.«01_k».proof.Proof.Gen.MlpKernelIdeal
public import proofs.«01_k».proof.Proof.Gen.MlpKernelIdeal.Skeleton
public import proofs.«01_k».proof.Proof.Gen.MlpKernelIdeal.Launch
public import proofs.«01_k».proof.Proof.Gen.MlpKernelIdeal.Points
public import proofs.«01_k».proof.Proof.Gen.MlpKernelIdeal.Frame
public import proofs.«01_k».proof.Proof.Gen.MlpKernelIdeal.Value
public import proofs.«01_k».proof.Proof.Gen.MlpReferenceIdeal
public import proofs.«01_k».proof.Proof.Gen.MlpReferenceIdeal.Run
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Value
public import proofs.«01_k».proof.Proof.Gen.InReferenceIdeal
public import proofs.«01_k».proof.Proof.Gen.InReferenceIdeal.Run
public import proofs.«01_k».proof.Proof.Gen.PrepKernel
public import proofs.«01_k».proof.Proof.Gen.PrepKernel.Skeleton
public import proofs.«01_k».proof.Proof.Gen.PrepKernel.Launch
public import proofs.«01_k».proof.Proof.Gen.PrepKernel.Points
public import proofs.«01_k».proof.Proof.Gen.PrepKernel.Frame
public import proofs.«01_k».proof.Proof.Gen.PrepKernelIdeal
public import proofs.«01_k».proof.Proof.Gen.PrepKernelIdeal.Skeleton
public import proofs.«01_k».proof.Proof.Gen.PrepKernelIdeal.Launch
public import proofs.«01_k».proof.Proof.Gen.PrepKernelIdeal.Points
public import proofs.«01_k».proof.Proof.Gen.PrepKernelIdeal.Frame
public import proofs.«01_k».proof.Proof.Gen.PrepKernelIdeal.Value
public import proofs.«01_k».proof.Proof.Gen.PrepReferenceIdeal
public import proofs.«01_k».proof.Proof.Gen.PrepReferenceIdeal.Run
public import proofs.«01_k».proof.Proof.Gen.DwdKernel
public import proofs.«01_k».proof.Proof.Gen.DwdKernel.Skeleton
public import proofs.«01_k».proof.Proof.Gen.DwdKernel.Launch
public import proofs.«01_k».proof.Proof.Gen.DwdKernel.Points
public import proofs.«01_k».proof.Proof.Gen.DwdKernel.Frame
public import proofs.«01_k».proof.Proof.Gen.DwdKernelIdeal
public import proofs.«01_k».proof.Proof.Gen.DwdKernelIdeal.Skeleton
public import proofs.«01_k».proof.Proof.Gen.DwdKernelIdeal.Launch
public import proofs.«01_k».proof.Proof.Gen.DwdKernelIdeal.Points
public import proofs.«01_k».proof.Proof.Gen.DwdKernelIdeal.Frame
public import proofs.«01_k».proof.Proof.Gen.DwdKernelIdeal.Value
public import proofs.«01_k».proof.Proof.Gen.DwdReferenceIdeal
public import proofs.«01_k».proof.Proof.Gen.DwdReferenceIdeal.Run
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Down
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeReferenceIdeal
public import proofs.«01_k».proof.Proof.Gen.MergeReferenceIdeal.Run
public import proofs.«01_k».proof.Proof.Merge
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpKernelIdeal.Value
public import proofs.«01_k».proof.Proof.Gen.UpReferenceIdeal
public import proofs.«01_k».proof.Proof.Gen.UpReferenceIdeal.Run
public import proofs.«01_k».proof.Proof.Up
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjKernelIdeal.Value
public import proofs.«01_k».proof.Proof.Gen.ProjReferenceIdeal
public import proofs.«01_k».proof.Proof.Gen.ProjReferenceIdeal.Run
public import proofs.«01_k».proof.Proof.Proj
public import proofs.«01_k».proof.Proof.Gen.TurnKernel
public import proofs.«01_k».proof.Proof.Gen.TurnKernel.Skeleton
public import proofs.«01_k».proof.Proof.Gen.TurnKernel.Launch
public import proofs.«01_k».proof.Proof.Gen.TurnKernel.Points
public import proofs.«01_k».proof.Proof.Gen.TurnKernel.Frame
public import proofs.«01_k».proof.Proof.Gen.TurnKernelIdeal
public import proofs.«01_k».proof.Proof.Gen.TurnKernelIdeal.Skeleton
public import proofs.«01_k».proof.Proof.Gen.TurnKernelIdeal.Launch
public import proofs.«01_k».proof.Proof.Gen.TurnKernelIdeal.Points
public import proofs.«01_k».proof.Proof.Gen.TurnKernelIdeal.Frame
public import proofs.«01_k».proof.Proof.Gen.TurnReferenceIdeal
public import proofs.«01_k».proof.Proof.Gen.TurnReferenceIdeal.Run
public import proofs.«01_k».proof.Proof.Gen.SbfKernel
public import proofs.«01_k».proof.Proof.Gen.SbfKernel.Skeleton
public import proofs.«01_k».proof.Proof.Gen.SbfKernel.Loops
public import proofs.«01_k».proof.Proof.Gen.SbfKernel.Launch
public import proofs.«01_k».proof.Proof.Gen.SbfKernel.Points
public import proofs.«01_k».proof.Proof.Gen.SbfKernelIdeal
public import proofs.«01_k».proof.Proof.Gen.SbfKernelIdeal.Skeleton
public import proofs.«01_k».proof.Proof.Gen.SbfKernelIdeal.Loops
public import proofs.«01_k».proof.Proof.Gen.SbfKernelIdeal.Launch
public import proofs.«01_k».proof.Proof.Gen.SbfKernelIdeal.Points
public import proofs.«01_k».proof.Proof.Gen.SbfReferenceIdeal
public import proofs.«01_k».proof.Proof.Gen.SbfReferenceIdeal.Run
public import proofs.«01_k».proof.Proof.Mlp
public import proofs.«01_k».proof.Proof.In
public import proofs.«01_k».proof.Proof.PrepValue
public import proofs.«01_k».proof.Proof.Dwd
public import proofs.«01_k».proof.Proof.GateValue
public import proofs.«01_k».proof.Proof.Relu
public import proofs.«01_k».proof.Proof.Loss
public import proofs.«01_k».proof.Proof.SbBitsFrame
public import proofs.«01_k».proof.Proof.SbIdealFrame
public import proofs.«01_k».proof.Proof.SbValue
public import proofs.«01_k».proof.Proof.SbfBitsFrame
public import proofs.«01_k».proof.Proof.Turn
public import proofs.«01_k».proof.Proof.SbfValue
public import Idealize.ShloMosaic.Adequacy
public import Idealize.ShloMosaic.Init

@[expose] public section

noncomputable section

namespace Cert.Proof

open Idealize.ShloMosaic Idealize.SL.Sem Cert.GateKernel

/-- The shapes that the preconditions state. -/
instance finite_facts : Cert.Pre_sb_finite.Facts := ⟨by decide⟩

instance prep_facts : Cert.Pre_prep_finite.Facts := ⟨by decide, by decide, by decide⟩

instance turn_facts : Cert.Pre_turn_finite.Facts := ⟨by decide, by decide⟩

instance sbf_facts : Cert.Pre_sbf_finite.Facts := ⟨by decide⟩

theorem claim : Cert.Claim := ⟨Cert.GateKernel.Gen.facts, Cert.GateKernelIdeal.Gen.facts, Cert.GateReferenceIdeal.Gen.facts, Cert.ReluKernel.Gen.facts, Cert.ReluKernelIdeal.Gen.facts, Cert.ReluReferenceIdeal.Gen.facts, Cert.LossKernel.Gen.facts, Cert.LossKernelIdeal.Gen.facts, Cert.LossReferenceIdeal.Gen.facts,
    Cert.SbKernel.Gen.facts, Cert.SbKernelIdeal.Gen.facts, Cert.SbReferenceIdeal.Gen.facts,
    Cert.MlpKernel.Gen.facts, Cert.MlpKernelIdeal.Gen.facts, Cert.MlpReferenceIdeal.Gen.facts, Cert.InKernel.Gen.facts, Cert.InKernelIdeal.Gen.facts, Cert.InReferenceIdeal.Gen.facts,
    Cert.PrepKernel.Gen.facts, Cert.PrepKernelIdeal.Gen.facts, Cert.PrepReferenceIdeal.Gen.facts, Cert.DwdKernel.Gen.facts, Cert.DwdKernelIdeal.Gen.facts, Cert.DwdReferenceIdeal.Gen.facts,
    Cert.DownKernel.Gen.facts, Cert.DownKernelIdeal.Gen.facts, Cert.DownReferenceIdeal.Gen.facts, Cert.MergeKernel.Gen.facts, Cert.MergeKernelIdeal.Gen.facts, Cert.MergeReferenceIdeal.Gen.facts, Cert.UpKernel.Gen.facts, Cert.UpKernelIdeal.Gen.facts, Cert.UpReferenceIdeal.Gen.facts,
    Cert.ProjKernel.Gen.facts, Cert.ProjKernelIdeal.Gen.facts, Cert.ProjReferenceIdeal.Gen.facts, Cert.TurnKernel.Gen.facts, Cert.TurnKernelIdeal.Gen.facts, Cert.TurnReferenceIdeal.Gen.facts,
    Cert.SbfKernel.Gen.facts, Cert.SbfKernelIdeal.Gen.facts, Cert.SbfReferenceIdeal.Gen.facts, finite_facts, prep_facts, turn_facts, sbf_facts,
    fun m ρ _ => Cert.GateKernel.Gen.frame m ρ,
    fun m ρ _ => Cert.GateKernelIdeal.Gen.frame m ρ,
    fun m g _ => θ_run_mono (Cert.GateReferenceIdeal.Value.run m g) fun _ h =>
      ⟨fun c => (h c).2.2.2.2.2, sem_eq_zero_of_no_sems (by decide) _⟩,
    fun m ρ _ => Cert.ReluKernel.Gen.frame m ρ,
    fun m ρ _ => Cert.ReluKernelIdeal.Gen.frame m ρ,
    fun m g _ => θ_run_mono (Cert.ReluReferenceIdeal.Value.run m g) fun _ h =>
      ⟨fun c => (h c).2, sem_eq_zero_of_no_sems (by decide) _⟩,
    fun m ρ _ => Cert.LossKernel.Gen.frame m ρ,
    fun m ρ _ => Cert.LossKernelIdeal.Gen.frame m ρ,
    fun m g _ => θ_run_mono (Cert.LossReferenceIdeal.Value.run m g) fun _ h =>
      ⟨fun c => (h c).2.2.2, sem_eq_zero_of_no_sems (by decide) _⟩,
    fun m ρ _ => Cert.SbKernel.Grad.frame m ρ,
    fun m ρ _ => Cert.SbKernelIdeal.Grad.frame m ρ,
    fun m ρ _ => Cert.SbKernelIdeal.Grad.frame m ρ,
    fun m g _ => θ_run_mono (Cert.SbReferenceIdeal.Value.run m g) fun _ h =>
      ⟨fun c => (h c).2.2.2, sem_eq_zero_of_no_sems (by decide) _⟩,
    fun m g _ => θ_run_mono (Cert.SbReferenceIdeal.Value.run m g) fun _ h =>
      ⟨fun c => (h c).2.2.2, sem_eq_zero_of_no_sems (by decide) _⟩,
    fun m ρ _ => Cert.MlpKernel.Gen.frame m ρ,
    fun m ρ _ => Cert.MlpKernelIdeal.Gen.frame m ρ,
    fun m g _ => θ_run_mono (Cert.MlpReferenceIdeal.Value.run m g) fun _ h =>
      ⟨fun c => (h c).2.2.2, sem_eq_zero_of_no_sems (by decide) _⟩,
    fun m ρ _ => Cert.InKernel.Gen.frame m ρ,
    fun m ρ _ => Cert.InKernelIdeal.Gen.frame m ρ,
    fun m g _ => θ_run_mono (Cert.InReferenceIdeal.Value.run m g) fun _ h =>
      ⟨fun c => (h c).2.2.2, sem_eq_zero_of_no_sems (by decide) _⟩,
    fun m ρ _ => Cert.PrepKernel.Gen.frame m ρ,
    fun m ρ _ => Cert.PrepKernelIdeal.Gen.frame m ρ,
    fun m ρ _ => Cert.PrepKernelIdeal.Gen.frame m ρ,
    fun m g _ => θ_run_mono (Cert.PrepReferenceIdeal.Value.run m g) fun _ h =>
      ⟨fun c => (h c).2.2.2.2.2, sem_eq_zero_of_no_sems (by decide) _⟩,
    fun m g _ => θ_run_mono (Cert.PrepReferenceIdeal.Value.run m g) fun _ h =>
      ⟨fun c => (h c).2.2.2.2.2, sem_eq_zero_of_no_sems (by decide) _⟩,
    fun m ρ _ => Cert.DwdKernel.Gen.frame m ρ,
    fun m ρ _ => Cert.DwdKernelIdeal.Gen.frame m ρ,
    fun m g _ => θ_run_mono (Cert.DwdReferenceIdeal.Value.run m g) fun _ h =>
      ⟨fun c => (h c).2, sem_eq_zero_of_no_sems (by decide) _⟩,
    fun m ρ _ => Cert.DownKernel.Gen.frame m ρ,
    fun m ρ _ => Cert.DownKernelIdeal.Gen.frame m ρ,
    fun m g _ => θ_run_mono (Cert.DownReferenceIdeal.Value.run m g) fun _ h =>
      ⟨fun c => (h c).2, sem_eq_zero_of_no_sems (by decide) _⟩,
    fun m ρ _ => Cert.MergeKernel.Gen.frame m ρ,
    fun m ρ _ => Cert.MergeKernelIdeal.Gen.frame m ρ,
    fun m g _ => θ_run_mono (Cert.MergeReferenceIdeal.Value.run m g) fun _ h =>
      ⟨fun c => (h c).2.2.2.2, sem_eq_zero_of_no_sems (by decide) _⟩,
    fun m ρ _ => Cert.UpKernel.Gen.frame m ρ,
    fun m ρ _ => Cert.UpKernelIdeal.Gen.frame m ρ,
    fun m g _ => θ_run_mono (Cert.UpReferenceIdeal.Value.run m g) fun _ h =>
      ⟨fun c => (h c).2.2, sem_eq_zero_of_no_sems (by decide) _⟩,
    fun m ρ _ => Cert.ProjKernel.Gen.frame m ρ,
    fun m ρ _ => Cert.ProjKernelIdeal.Gen.frame m ρ,
    fun m g _ => θ_run_mono (Cert.ProjReferenceIdeal.Value.run m g) fun _ h =>
      ⟨fun c => (h c).2.2.2, sem_eq_zero_of_no_sems (by decide) _⟩,
    fun m ρ _ => Cert.TurnKernel.Gen.frame m ρ,
    fun m ρ _ => Cert.TurnKernelIdeal.Gen.frame m ρ,
    fun m ρ _ => Cert.TurnKernelIdeal.Gen.frame m ρ,
    fun m g _ => θ_run_mono (Cert.TurnReferenceIdeal.Value.run m g) fun _ h =>
      ⟨fun c => (h c).2.2, sem_eq_zero_of_no_sems (by decide) _⟩,
    fun m g _ => θ_run_mono (Cert.TurnReferenceIdeal.Value.run m g) fun _ h =>
      ⟨fun c => (h c).2.2, sem_eq_zero_of_no_sems (by decide) _⟩,
    fun m ρ _ => Cert.SbfKernel.Fwd.frame m ρ,
    fun m ρ _ => Cert.SbfKernelIdeal.Fwd.frame m ρ,
    fun m ρ _ => Cert.SbfKernelIdeal.Fwd.frame m ρ,
    fun m g _ => θ_run_mono (Cert.SbfReferenceIdeal.Value.run m g) fun _ h =>
      ⟨fun c => (h c).2, sem_eq_zero_of_no_sems (by decide) _⟩,
    fun m g _ => θ_run_mono (Cert.SbfReferenceIdeal.Value.run m g) fun _ h =>
      ⟨fun c => (h c).2, sem_eq_zero_of_no_sems (by decide) _⟩,
    trivial, Cert.GateKernelIdeal.Grad.value,
    trivial, Cert.ReluKernelIdeal.Grad.value,
    trivial, Cert.LossKernelIdeal.Grad.value,
    ⟨IdealRules.bf16_pack.statement _, IdealRules.named_const.statement Cert.SbKernelIdeal.κ "mask" .f32 0xF149F2CA#32 ⊥ rfl,
      IdealRules.named_const.statement Cert.SbKernelIdeal.κ "cutoff" .f32 0xC2B00000#32 ⊥ rfl⟩,
    Cert.SbKernelIdeal.Grad.value,
    trivial, Cert.MlpKernelIdeal.Grad.value,
    trivial, Cert.InKernelIdeal.Grad.value,
    IdealRules.bf16_pack.statement _, Cert.PrepKernelIdeal.Grad.value,
    trivial, Cert.DwdKernelIdeal.Grad.value,
    trivial, Cert.DownKernelIdeal.Fwd.value,
    trivial, Cert.MergeKernelIdeal.Fwd.value,
    trivial, Cert.UpKernelIdeal.Fwd.value,
    trivial, Cert.ProjKernelIdeal.Fwd.value,
    IdealRules.bf16_pack.statement _, Cert.TurnKernelIdeal.Fwd.value,
    ⟨IdealRules.bf16_pack.statement _, IdealRules.named_const.statement Cert.SbfKernelIdeal.κ "mask" .f32 0xF149F2CA#32 ⊥ rfl,
      IdealRules.named_const.statement Cert.SbfKernelIdeal.κ "cutoff" .f32 0xC2B00000#32 ⊥ rfl⟩,
    Cert.SbfKernelIdeal.Fwd.value⟩

end Cert.Proof

end
